-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn00 (m : (ℓ : Loc Cert.Ffn00.nD Cert.Ffn00.τ Cert.Ffn00.sig) → Buf (Elt Bits) ℓ) : Prop :=
  True

def Pre_Ffn00Ideal (m : (ℓ : Loc Cert.Ffn00Ideal.nD Cert.Ffn00Ideal.τ Cert.Ffn00Ideal.sig) → Buf (Elt Ideal) ℓ) : Prop :=
  True

def Pre_Ffn00ReferenceIdeal (m : (ℓ : Loc Cert.Ffn00ReferenceIdeal.nD Cert.Ffn00ReferenceIdeal.τ Cert.Ffn00ReferenceIdeal.sig) → Buf (Elt Ideal) ℓ) : Prop :=
  True

def Pre_Ffn01 (m : (ℓ : Loc Cert.Ffn01.nD Cert.Ffn01.τ Cert.Ffn01.sig) → Buf (Elt Bits) ℓ) : Prop :=
  True

def Pre_Ffn01Ideal (m : (ℓ : Loc Cert.Ffn01Ideal.nD Cert.Ffn01Ideal.τ Cert.Ffn01Ideal.sig) → Buf (Elt Ideal) ℓ) : Prop :=
  True

def Pre_Ffn01ReferenceIdeal (m : (ℓ : Loc Cert.Ffn01ReferenceIdeal.nD Cert.Ffn01ReferenceIdeal.τ Cert.Ffn01ReferenceIdeal.sig) → Buf (Elt Ideal) ℓ) : Prop :=
  True

def Pre_Ffn10 (m : (ℓ : Loc Cert.Ffn10.nD Cert.Ffn10.τ Cert.Ffn10.sig) → Buf (Elt Bits) ℓ) : Prop :=
  True

def Pre_Ffn10Ideal (m : (ℓ : Loc Cert.Ffn10Ideal.nD Cert.Ffn10Ideal.τ Cert.Ffn10Ideal.sig) → Buf (Elt Ideal) ℓ) : Prop :=
  True

def Pre_Ffn10ReferenceIdeal (m : (ℓ : Loc Cert.Ffn10ReferenceIdeal.nD Cert.Ffn10ReferenceIdeal.τ Cert.Ffn10ReferenceIdeal.sig) → Buf (Elt Ideal) ℓ) : Prop :=
  True

def Pre_Ffn11 (m : (ℓ : Loc Cert.Ffn11.nD Cert.Ffn11.τ Cert.Ffn11.sig) → Buf (Elt Bits) ℓ) : Prop :=
  True

def Pre_Ffn11Ideal (m : (ℓ : Loc Cert.Ffn11Ideal.nD Cert.Ffn11Ideal.τ Cert.Ffn11Ideal.sig) → Buf (Elt Ideal) ℓ) : Prop :=
  True

def Pre_Ffn11ReferenceIdeal (m : (ℓ : Loc Cert.Ffn11ReferenceIdeal.nD Cert.Ffn11ReferenceIdeal.τ Cert.Ffn11ReferenceIdeal.sig) → Buf (Elt Ideal) ℓ) : Prop :=
  True

def Pre_Merge0 (m : (ℓ : Loc Cert.Merge0.nD Cert.Merge0.τ Cert.Merge0.sig) → Buf (Elt Bits) ℓ) : Prop :=
  True

def Pre_Merge0Ideal (m : (ℓ : Loc Cert.Merge0Ideal.nD Cert.Merge0Ideal.τ Cert.Merge0Ideal.sig) → Buf (Elt Ideal) ℓ) : Prop :=
  True

def Pre_Merge0ReferenceIdeal (m : (ℓ : Loc Cert.Merge0ReferenceIdeal.nD Cert.Merge0ReferenceIdeal.τ Cert.Merge0ReferenceIdeal.sig) → Buf (Elt Ideal) ℓ) : Prop :=
  True

def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Merge1ReferenceIdeal (m : (ℓ : Loc Cert.Merge1ReferenceIdeal.nD Cert.Merge1ReferenceIdeal.τ Cert.Merge1ReferenceIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickReferenceIdeal (m : (ℓ : Loc Cert.StickReferenceIdeal.nD Cert.StickReferenceIdeal.τ Cert.StickReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn00 [hFfn00 : Cert.Ffn00.Facts] : Prop :=
  ∀ (m : (ℓ : Loc Cert.Ffn00.nD Cert.Ffn00.τ Cert.Ffn00.sig) → Buf (Elt Bits) ℓ) (g : Dev Cert.Ffn00.nD → PrngReg), Pre_Ffn00 m →
    θ_run (Cert.Ffn00.defs (F := Bits)) (onTc (τ := Cert.Ffn00.τ) (Cert.Ffn00.main (F := Bits))) ⟨m, fun _ => 0, g⟩ (fun r => (∀ c : Dev Cert.Ffn00.nD,
      r.2.mem ((c.tc : Thread Cert.Ffn00.nD Cert.Ffn00.τ).loc Cert.Ffn00.main_arg0) = m ((c.tc : Thread Cert.Ffn00.nD Cert.Ffn00.τ).loc Cert.Ffn00.main_arg0)
      ∧ r.2.mem ((c.tc : Thread Cert.Ffn00.nD Cert.Ffn00.τ).loc Cert.Ffn00.main_arg1) = m ((c.tc : Thread Cert.Ffn00.nD Cert.Ffn00.τ).loc Cert.Ffn00.main_arg1)
      ∧ r.2.mem ((c.tc : Thread Cert.Ffn00.nD Cert.Ffn00.τ).loc Cert.Ffn00.main_arg2) = m ((c.tc : Thread Cert.Ffn00.nD Cert.Ffn00.τ).loc Cert.Ffn00.main_arg2)
      ∧ r.2.mem ((c.tc : Thread Cert.Ffn00.nD Cert.Ffn00.τ).loc Cert.Ffn00.main_arg3) = m ((c.tc : Thread Cert.Ffn00.nD Cert.Ffn00.τ).loc Cert.Ffn00.main_arg3)
      ∧ r.2.mem ((c.tc : Thread Cert.Ffn00.nD Cert.Ffn00.τ).loc Cert.Ffn00.main_arg4) = m ((c.tc : Thread Cert.Ffn00.nD Cert.Ffn00.τ).loc Cert.Ffn00.main_arg4)
      ∧ r.2.mem ((c.tc : Thread Cert.Ffn00.nD Cert.Ffn00.τ).loc Cert.Ffn00.main_arg5) = m ((c.tc : Thread Cert.Ffn00.nD Cert.Ffn00.τ).loc Cert.Ffn00.main_arg5)
      ∧ r.2.mem ((c.tc : Thread Cert.Ffn00.nD Cert.Ffn00.τ).loc Cert.Ffn00.main_arg6) = m ((c.tc : Thread Cert.Ffn00.nD Cert.Ffn00.τ).loc Cert.Ffn00.main_arg6))
      ∧ r.2.sem = fun _ => 0)

def quiescent_Ffn00Ideal [hFfn00Ideal : Cert.Ffn00Ideal.Facts] : Prop :=
  ∀ (m : (ℓ : Loc Cert.Ffn00Ideal.nD Cert.Ffn00Ideal.τ Cert.Ffn00Ideal.sig) → Buf (Elt Ideal) ℓ) (g : Dev Cert.Ffn00Ideal.nD → PrngReg), Pre_Ffn00Ideal m →
    θ_run (Cert.Ffn00Ideal.defs (F := Ideal)) (onTc (τ := Cert.Ffn00Ideal.τ) (Cert.Ffn00Ideal.main (F := Ideal))) ⟨m, fun _ => 0, g⟩ (fun r => (∀ c : Dev Cert.Ffn00Ideal.nD,
      r.2.mem ((c.tc : Thread Cert.Ffn00Ideal.nD Cert.Ffn00Ideal.τ).loc Cert.Ffn00Ideal.main_arg0) = m ((c.tc : Thread Cert.Ffn00Ideal.nD Cert.Ffn00Ideal.τ).loc Cert.Ffn00Ideal.main_arg0)
      ∧ r.2.mem ((c.tc : Thread Cert.Ffn00Ideal.nD Cert.Ffn00Ideal.τ).loc Cert.Ffn00Ideal.main_arg1) = m ((c.tc : Thread Cert.Ffn00Ideal.nD Cert.Ffn00Ideal.τ).loc Cert.Ffn00Ideal.main_arg1)
      ∧ r.2.mem ((c.tc : Thread Cert.Ffn00Ideal.nD Cert.Ffn00Ideal.τ).loc Cert.Ffn00Ideal.main_arg2) = m ((c.tc : Thread Cert.Ffn00Ideal.nD Cert.Ffn00Ideal.τ).loc Cert.Ffn00Ideal.main_arg2)
      ∧ r.2.mem ((c.tc : Thread Cert.Ffn00Ideal.nD Cert.Ffn00Ideal.τ).loc Cert.Ffn00Ideal.main_arg3) = m ((c.tc : Thread Cert.Ffn00Ideal.nD Cert.Ffn00Ideal.τ).loc Cert.Ffn00Ideal.main_arg3)
      ∧ r.2.mem ((c.tc : Thread Cert.Ffn00Ideal.nD Cert.Ffn00Ideal.τ).loc Cert.Ffn00Ideal.main_arg4) = m ((c.tc : Thread Cert.Ffn00Ideal.nD Cert.Ffn00Ideal.τ).loc Cert.Ffn00Ideal.main_arg4)
      ∧ r.2.mem ((c.tc : Thread Cert.Ffn00Ideal.nD Cert.Ffn00Ideal.τ).loc Cert.Ffn00Ideal.main_arg5) = m ((c.tc : Thread Cert.Ffn00Ideal.nD Cert.Ffn00Ideal.τ).loc Cert.Ffn00Ideal.main_arg5)
      ∧ r.2.mem ((c.tc : Thread Cert.Ffn00Ideal.nD Cert.Ffn00Ideal.τ).loc Cert.Ffn00Ideal.main_arg6) = m ((c.tc : Thread Cert.Ffn00Ideal.nD Cert.Ffn00Ideal.τ).loc Cert.Ffn00Ideal.main_arg6))
      ∧ r.2.sem = fun _ => 0)

def quiescent_Ffn00ReferenceIdeal [hFfn00ReferenceIdeal : Cert.Ffn00ReferenceIdeal.Facts] : Prop :=
  ∀ (m : (ℓ : Loc Cert.Ffn00ReferenceIdeal.nD Cert.Ffn00ReferenceIdeal.τ Cert.Ffn00ReferenceIdeal.sig) → Buf (Elt Ideal) ℓ) (g : Dev Cert.Ffn00ReferenceIdeal.nD → PrngReg), Pre_Ffn00ReferenceIdeal m →
    θ_run (Cert.Ffn00ReferenceIdeal.defs (F := Ideal)) (onTc (τ := Cert.Ffn00ReferenceIdeal.τ) (Cert.Ffn00ReferenceIdeal.main (F := Ideal))) ⟨m, fun _ => 0, g⟩ (fun r => (∀ c : Dev Cert.Ffn00ReferenceIdeal.nD,
      r.2.mem ((c.tc : Thread Cert.Ffn00ReferenceIdeal.nD Cert.Ffn00ReferenceIdeal.τ).loc Cert.Ffn00ReferenceIdeal.main_arg0) = m ((c.tc : Thread Cert.Ffn00ReferenceIdeal.nD Cert.Ffn00ReferenceIdeal.τ).loc Cert.Ffn00ReferenceIdeal.main_arg0)
      ∧ r.2.mem ((c.tc : Thread Cert.Ffn00ReferenceIdeal.nD Cert.Ffn00ReferenceIdeal.τ).loc Cert.Ffn00ReferenceIdeal.main_arg1) = m ((c.tc : Thread Cert.Ffn00ReferenceIdeal.nD Cert.Ffn00ReferenceIdeal.τ).loc Cert.Ffn00ReferenceIdeal.main_arg1)
      ∧ r.2.mem ((c.tc : Thread Cert.Ffn00ReferenceIdeal.nD Cert.Ffn00ReferenceIdeal.τ).loc Cert.Ffn00ReferenceIdeal.main_arg2) = m ((c.tc : Thread Cert.Ffn00ReferenceIdeal.nD Cert.Ffn00ReferenceIdeal.τ).loc Cert.Ffn00ReferenceIdeal.main_arg2)
      ∧ r.2.mem ((c.tc : Thread Cert.Ffn00ReferenceIdeal.nD Cert.Ffn00ReferenceIdeal.τ).loc Cert.Ffn00ReferenceIdeal.main_arg3) = m ((c.tc : Thread Cert.Ffn00ReferenceIdeal.nD Cert.Ffn00ReferenceIdeal.τ).loc Cert.Ffn00ReferenceIdeal.main_arg3)
      ∧ r.2.mem ((c.tc : Thread Cert.Ffn00ReferenceIdeal.nD Cert.Ffn00ReferenceIdeal.τ).loc Cert.Ffn00ReferenceIdeal.main_arg4) = m ((c.tc : Thread Cert.Ffn00ReferenceIdeal.nD Cert.Ffn00ReferenceIdeal.τ).loc Cert.Ffn00ReferenceIdeal.main_arg4)
      ∧ r.2.mem ((c.tc : Thread Cert.Ffn00ReferenceIdeal.nD Cert.Ffn00ReferenceIdeal.τ).loc Cert.Ffn00ReferenceIdeal.main_arg5) = m ((c.tc : Thread Cert.Ffn00ReferenceIdeal.nD Cert.Ffn00ReferenceIdeal.τ).loc Cert.Ffn00ReferenceIdeal.main_arg5)
      ∧ r.2.mem ((c.tc : Thread Cert.Ffn00ReferenceIdeal.nD Cert.Ffn00ReferenceIdeal.τ).loc Cert.Ffn00ReferenceIdeal.main_arg6) = m ((c.tc : Thread Cert.Ffn00ReferenceIdeal.nD Cert.Ffn00ReferenceIdeal.τ).loc Cert.Ffn00ReferenceIdeal.main_arg6))
      ∧ r.2.sem = fun _ => 0)

def quiescent_Ffn01 [hFfn01 : Cert.Ffn01.Facts] : Prop :=
  ∀ (m : (ℓ : Loc Cert.Ffn01.nD Cert.Ffn01.τ Cert.Ffn01.sig) → Buf (Elt Bits) ℓ) (g : Dev Cert.Ffn01.nD → PrngReg), Pre_Ffn01 m →
    θ_run (Cert.Ffn01.defs (F := Bits)) (onTc (τ := Cert.Ffn01.τ) (Cert.Ffn01.main (F := Bits))) ⟨m, fun _ => 0, g⟩ (fun r => (∀ c : Dev Cert.Ffn01.nD,
      r.2.mem ((c.tc : Thread Cert.Ffn01.nD Cert.Ffn01.τ).loc Cert.Ffn01.main_arg0) = m ((c.tc : Thread Cert.Ffn01.nD Cert.Ffn01.τ).loc Cert.Ffn01.main_arg0)
      ∧ r.2.mem ((c.tc : Thread Cert.Ffn01.nD Cert.Ffn01.τ).loc Cert.Ffn01.main_arg1) = m ((c.tc : Thread Cert.Ffn01.nD Cert.Ffn01.τ).loc Cert.Ffn01.main_arg1)
      ∧ r.2.mem ((c.tc : Thread Cert.Ffn01.nD Cert.Ffn01.τ).loc Cert.Ffn01.main_arg2) = m ((c.tc : Thread Cert.Ffn01.nD Cert.Ffn01.τ).loc Cert.Ffn01.main_arg2)
      ∧ r.2.mem ((c.tc : Thread Cert.Ffn01.nD Cert.Ffn01.τ).loc Cert.Ffn01.main_arg3) = m ((c.tc : Thread Cert.Ffn01.nD Cert.Ffn01.τ).loc Cert.Ffn01.main_arg3)
      ∧ r.2.mem ((c.tc : Thread Cert.Ffn01.nD Cert.Ffn01.τ).loc Cert.Ffn01.main_arg4) = m ((c.tc : Thread Cert.Ffn01.nD Cert.Ffn01.τ).loc Cert.Ffn01.main_arg4)
      ∧ r.2.mem ((c.tc : Thread Cert.Ffn01.nD Cert.Ffn01.τ).loc Cert.Ffn01.main_arg5) = m ((c.tc : Thread Cert.Ffn01.nD Cert.Ffn01.τ).loc Cert.Ffn01.main_arg5)
      ∧ r.2.mem ((c.tc : Thread Cert.Ffn01.nD Cert.Ffn01.τ).loc Cert.Ffn01.main_arg6) = m ((c.tc : Thread Cert.Ffn01.nD Cert.Ffn01.τ).loc Cert.Ffn01.main_arg6))
      ∧ r.2.sem = fun _ => 0)

def quiescent_Ffn01Ideal [hFfn01Ideal : Cert.Ffn01Ideal.Facts] : Prop :=
  ∀ (m : (ℓ : Loc Cert.Ffn01Ideal.nD Cert.Ffn01Ideal.τ Cert.Ffn01Ideal.sig) → Buf (Elt Ideal) ℓ) (g : Dev Cert.Ffn01Ideal.nD → PrngReg), Pre_Ffn01Ideal m →
    θ_run (Cert.Ffn01Ideal.defs (F := Ideal)) (onTc (τ := Cert.Ffn01Ideal.τ) (Cert.Ffn01Ideal.main (F := Ideal))) ⟨m, fun _ => 0, g⟩ (fun r => (∀ c : Dev Cert.Ffn01Ideal.nD,
      r.2.mem ((c.tc : Thread Cert.Ffn01Ideal.nD Cert.Ffn01Ideal.τ).loc Cert.Ffn01Ideal.main_arg0) = m ((c.tc : Thread Cert.Ffn01Ideal.nD Cert.Ffn01Ideal.τ).loc Cert.Ffn01Ideal.main_arg0)
      ∧ r.2.mem ((c.tc : Thread Cert.Ffn01Ideal.nD Cert.Ffn01Ideal.τ).loc Cert.Ffn01Ideal.main_arg1) = m ((c.tc : Thread Cert.Ffn01Ideal.nD Cert.Ffn01Ideal.τ).loc Cert.Ffn01Ideal.main_arg1)
      ∧ r.2.mem ((c.tc : Thread Cert.Ffn01Ideal.nD Cert.Ffn01Ideal.τ).loc Cert.Ffn01Ideal.main_arg2) = m ((c.tc : Thread Cert.Ffn01Ideal.nD Cert.Ffn01Ideal.τ).loc Cert.Ffn01Ideal.main_arg2)
      ∧ r.2.mem ((c.tc : Thread Cert.Ffn01Ideal.nD Cert.Ffn01Ideal.τ).loc Cert.Ffn01Ideal.main_arg3) = m ((c.tc : Thread Cert.Ffn01Ideal.nD Cert.Ffn01Ideal.τ).loc Cert.Ffn01Ideal.main_arg3)
      ∧ r.2.mem ((c.tc : Thread Cert.Ffn01Ideal.nD Cert.Ffn01Ideal.τ).loc Cert.Ffn01Ideal.main_arg4) = m ((c.tc : Thread Cert.Ffn01Ideal.nD Cert.Ffn01Ideal.τ).loc Cert.Ffn01Ideal.main_arg4)
      ∧ r.2.mem ((c.tc : Thread Cert.Ffn01Ideal.nD Cert.Ffn01Ideal.τ).loc Cert.Ffn01Ideal.main_arg5) = m ((c.tc : Thread Cert.Ffn01Ideal.nD Cert.Ffn01Ideal.τ).loc Cert.Ffn01Ideal.main_arg5)
      ∧ r.2.mem ((c.tc : Thread Cert.Ffn01Ideal.nD Cert.Ffn01Ideal.τ).loc Cert.Ffn01Ideal.main_arg6) = m ((c.tc : Thread Cert.Ffn01Ideal.nD Cert.Ffn01Ideal.τ).loc Cert.Ffn01Ideal.main_arg6))
      ∧ r.2.sem = fun _ => 0)

def quiescent_Ffn01ReferenceIdeal [hFfn01ReferenceIdeal : Cert.Ffn01ReferenceIdeal.Facts] : Prop :=
  ∀ (m : (ℓ : Loc Cert.Ffn01ReferenceIdeal.nD Cert.Ffn01ReferenceIdeal.τ Cert.Ffn01ReferenceIdeal.sig) → Buf (Elt Ideal) ℓ) (g : Dev Cert.Ffn01ReferenceIdeal.nD → PrngReg), Pre_Ffn01ReferenceIdeal m →
    θ_run (Cert.Ffn01ReferenceIdeal.defs (F := Ideal)) (onTc (τ := Cert.Ffn01ReferenceIdeal.τ) (Cert.Ffn01ReferenceIdeal.main (F := Ideal))) ⟨m, fun _ => 0, g⟩ (fun r => (∀ c : Dev Cert.Ffn01ReferenceIdeal.nD,
      r.2.mem ((c.tc : Thread Cert.Ffn01ReferenceIdeal.nD Cert.Ffn01ReferenceIdeal.τ).loc Cert.Ffn01ReferenceIdeal.main_arg0) = m ((c.tc : Thread Cert.Ffn01ReferenceIdeal.nD Cert.Ffn01ReferenceIdeal.τ).loc Cert.Ffn01ReferenceIdeal.main_arg0)
      ∧ r.2.mem ((c.tc : Thread Cert.Ffn01ReferenceIdeal.nD Cert.Ffn01ReferenceIdeal.τ).loc Cert.Ffn01ReferenceIdeal.main_arg1) = m ((c.tc : Thread Cert.Ffn01ReferenceIdeal.nD Cert.Ffn01ReferenceIdeal.τ).loc Cert.Ffn01ReferenceIdeal.main_arg1)
      ∧ r.2.mem ((c.tc : Thread Cert.Ffn01ReferenceIdeal.nD Cert.Ffn01ReferenceIdeal.τ).loc Cert.Ffn01ReferenceIdeal.main_arg2) = m ((c.tc : Thread Cert.Ffn01ReferenceIdeal.nD Cert.Ffn01ReferenceIdeal.τ).loc Cert.Ffn01ReferenceIdeal.main_arg2)
      ∧ r.2.mem ((c.tc : Thread Cert.Ffn01ReferenceIdeal.nD Cert.Ffn01ReferenceIdeal.τ).loc Cert.Ffn01ReferenceIdeal.main_arg3) = m ((c.tc : Thread Cert.Ffn01ReferenceIdeal.nD Cert.Ffn01ReferenceIdeal.τ).loc Cert.Ffn01ReferenceIdeal.main_arg3)
      ∧ r.2.mem ((c.tc : Thread Cert.Ffn01ReferenceIdeal.nD Cert.Ffn01ReferenceIdeal.τ).loc Cert.Ffn01ReferenceIdeal.main_arg4) = m ((c.tc : Thread Cert.Ffn01ReferenceIdeal.nD Cert.Ffn01ReferenceIdeal.τ).loc Cert.Ffn01ReferenceIdeal.main_arg4)
      ∧ r.2.mem ((c.tc : Thread Cert.Ffn01ReferenceIdeal.nD Cert.Ffn01ReferenceIdeal.τ).loc Cert.Ffn01ReferenceIdeal.main_arg5) = m ((c.tc : Thread Cert.Ffn01ReferenceIdeal.nD Cert.Ffn01ReferenceIdeal.τ).loc Cert.Ffn01ReferenceIdeal.main_arg5)
      ∧ r.2.mem ((c.tc : Thread Cert.Ffn01ReferenceIdeal.nD Cert.Ffn01ReferenceIdeal.τ).loc Cert.Ffn01ReferenceIdeal.main_arg6) = m ((c.tc : Thread Cert.Ffn01ReferenceIdeal.nD Cert.Ffn01ReferenceIdeal.τ).loc Cert.Ffn01ReferenceIdeal.main_arg6))
      ∧ r.2.sem = fun _ => 0)

def quiescent_Ffn10 [hFfn10 : Cert.Ffn10.Facts] : Prop :=
  ∀ (m : (ℓ : Loc Cert.Ffn10.nD Cert.Ffn10.τ Cert.Ffn10.sig) → Buf (Elt Bits) ℓ) (g : Dev Cert.Ffn10.nD → PrngReg), Pre_Ffn10 m →
    θ_run (Cert.Ffn10.defs (F := Bits)) (onTc (τ := Cert.Ffn10.τ) (Cert.Ffn10.main (F := Bits))) ⟨m, fun _ => 0, g⟩ (fun r => (∀ c : Dev Cert.Ffn10.nD,
      r.2.mem ((c.tc : Thread Cert.Ffn10.nD Cert.Ffn10.τ).loc Cert.Ffn10.main_arg0) = m ((c.tc : Thread Cert.Ffn10.nD Cert.Ffn10.τ).loc Cert.Ffn10.main_arg0)
      ∧ r.2.mem ((c.tc : Thread Cert.Ffn10.nD Cert.Ffn10.τ).loc Cert.Ffn10.main_arg1) = m ((c.tc : Thread Cert.Ffn10.nD Cert.Ffn10.τ).loc Cert.Ffn10.main_arg1)
      ∧ r.2.mem ((c.tc : Thread Cert.Ffn10.nD Cert.Ffn10.τ).loc Cert.Ffn10.main_arg2) = m ((c.tc : Thread Cert.Ffn10.nD Cert.Ffn10.τ).loc Cert.Ffn10.main_arg2)
      ∧ r.2.mem ((c.tc : Thread Cert.Ffn10.nD Cert.Ffn10.τ).loc Cert.Ffn10.main_arg3) = m ((c.tc : Thread Cert.Ffn10.nD Cert.Ffn10.τ).loc Cert.Ffn10.main_arg3)
      ∧ r.2.mem ((c.tc : Thread Cert.Ffn10.nD Cert.Ffn10.τ).loc Cert.Ffn10.main_arg4) = m ((c.tc : Thread Cert.Ffn10.nD Cert.Ffn10.τ).loc Cert.Ffn10.main_arg4)
      ∧ r.2.mem ((c.tc : Thread Cert.Ffn10.nD Cert.Ffn10.τ).loc Cert.Ffn10.main_arg5) = m ((c.tc : Thread Cert.Ffn10.nD Cert.Ffn10.τ).loc Cert.Ffn10.main_arg5)
      ∧ r.2.mem ((c.tc : Thread Cert.Ffn10.nD Cert.Ffn10.τ).loc Cert.Ffn10.main_arg6) = m ((c.tc : Thread Cert.Ffn10.nD Cert.Ffn10.τ).loc Cert.Ffn10.main_arg6))
      ∧ r.2.sem = fun _ => 0)

def quiescent_Ffn10Ideal [hFfn10Ideal : Cert.Ffn10Ideal.Facts] : Prop :=
  ∀ (m : (ℓ : Loc Cert.Ffn10Ideal.nD Cert.Ffn10Ideal.τ Cert.Ffn10Ideal.sig) → Buf (Elt Ideal) ℓ) (g : Dev Cert.Ffn10Ideal.nD → PrngReg), Pre_Ffn10Ideal m →
    θ_run (Cert.Ffn10Ideal.defs (F := Ideal)) (onTc (τ := Cert.Ffn10Ideal.τ) (Cert.Ffn10Ideal.main (F := Ideal))) ⟨m, fun _ => 0, g⟩ (fun r => (∀ c : Dev Cert.Ffn10Ideal.nD,
      r.2.mem ((c.tc : Thread Cert.Ffn10Ideal.nD Cert.Ffn10Ideal.τ).loc Cert.Ffn10Ideal.main_arg0) = m ((c.tc : Thread Cert.Ffn10Ideal.nD Cert.Ffn10Ideal.τ).loc Cert.Ffn10Ideal.main_arg0)
      ∧ r.2.mem ((c.tc : Thread Cert.Ffn10Ideal.nD Cert.Ffn10Ideal.τ).loc Cert.Ffn10Ideal.main_arg1) = m ((c.tc : Thread Cert.Ffn10Ideal.nD Cert.Ffn10Ideal.τ).loc Cert.Ffn10Ideal.main_arg1)
      ∧ r.2.mem ((c.tc : Thread Cert.Ffn10Ideal.nD Cert.Ffn10Ideal.τ).loc Cert.Ffn10Ideal.main_arg2) = m ((c.tc : Thread Cert.Ffn10Ideal.nD Cert.Ffn10Ideal.τ).loc Cert.Ffn10Ideal.main_arg2)
      ∧ r.2.mem ((c.tc : Thread Cert.Ffn10Ideal.nD Cert.Ffn10Ideal.τ).loc Cert.Ffn10Ideal.main_arg3) = m ((c.tc : Thread Cert.Ffn10Ideal.nD Cert.Ffn10Ideal.τ).loc Cert.Ffn10Ideal.main_arg3)
      ∧ r.2.mem ((c.tc : Thread Cert.Ffn10Ideal.nD Cert.Ffn10Ideal.τ).loc Cert.Ffn10Ideal.main_arg4) = m ((c.tc : Thread Cert.Ffn10Ideal.nD Cert.Ffn10Ideal.τ).loc Cert.Ffn10Ideal.main_arg4)
      ∧ r.2.mem ((c.tc : Thread Cert.Ffn10Ideal.nD Cert.Ffn10Ideal.τ).loc Cert.Ffn10Ideal.main_arg5) = m ((c.tc : Thread Cert.Ffn10Ideal.nD Cert.Ffn10Ideal.τ).loc Cert.Ffn10Ideal.main_arg5)
      ∧ r.2.mem ((c.tc : Thread Cert.Ffn10Ideal.nD Cert.Ffn10Ideal.τ).loc Cert.Ffn10Ideal.main_arg6) = m ((c.tc : Thread Cert.Ffn10Ideal.nD Cert.Ffn10Ideal.τ).loc Cert.Ffn10Ideal.main_arg6))
      ∧ r.2.sem = fun _ => 0)

def quiescent_Ffn10ReferenceIdeal [hFfn10ReferenceIdeal : Cert.Ffn10ReferenceIdeal.Facts] : Prop :=
  ∀ (m : (ℓ : Loc Cert.Ffn10ReferenceIdeal.nD Cert.Ffn10ReferenceIdeal.τ Cert.Ffn10ReferenceIdeal.sig) → Buf (Elt Ideal) ℓ) (g : Dev Cert.Ffn10ReferenceIdeal.nD → PrngReg), Pre_Ffn10ReferenceIdeal m →
    θ_run (Cert.Ffn10ReferenceIdeal.defs (F := Ideal)) (onTc (τ := Cert.Ffn10ReferenceIdeal.τ) (Cert.Ffn10ReferenceIdeal.main (F := Ideal))) ⟨m, fun _ => 0, g⟩ (fun r => (∀ c : Dev Cert.Ffn10ReferenceIdeal.nD,
      r.2.mem ((c.tc : Thread Cert.Ffn10ReferenceIdeal.nD Cert.Ffn10ReferenceIdeal.τ).loc Cert.Ffn10ReferenceIdeal.main_arg0) = m ((c.tc : Thread Cert.Ffn10ReferenceIdeal.nD Cert.Ffn10ReferenceIdeal.τ).loc Cert.Ffn10ReferenceIdeal.main_arg0)
      ∧ r.2.mem ((c.tc : Thread Cert.Ffn10ReferenceIdeal.nD Cert.Ffn10ReferenceIdeal.τ).loc Cert.Ffn10ReferenceIdeal.main_arg1) = m ((c.tc : Thread Cert.Ffn10ReferenceIdeal.nD Cert.Ffn10ReferenceIdeal.τ).loc Cert.Ffn10ReferenceIdeal.main_arg1)
      ∧ r.2.mem ((c.tc : Thread Cert.Ffn10ReferenceIdeal.nD Cert.Ffn10ReferenceIdeal.τ).loc Cert.Ffn10ReferenceIdeal.main_arg2) = m ((c.tc : Thread Cert.Ffn10ReferenceIdeal.nD Cert.Ffn10ReferenceIdeal.τ).loc Cert.Ffn10ReferenceIdeal.main_arg2)
      ∧ r.2.mem ((c.tc : Thread Cert.Ffn10ReferenceIdeal.nD Cert.Ffn10ReferenceIdeal.τ).loc Cert.Ffn10ReferenceIdeal.main_arg3) = m ((c.tc : Thread Cert.Ffn10ReferenceIdeal.nD Cert.Ffn10ReferenceIdeal.τ).loc Cert.Ffn10ReferenceIdeal.main_arg3)
      ∧ r.2.mem ((c.tc : Thread Cert.Ffn10ReferenceIdeal.nD Cert.Ffn10ReferenceIdeal.τ).loc Cert.Ffn10ReferenceIdeal.main_arg4) = m ((c.tc : Thread Cert.Ffn10ReferenceIdeal.nD Cert.Ffn10ReferenceIdeal.τ).loc Cert.Ffn10ReferenceIdeal.main_arg4)
      ∧ r.2.mem ((c.tc : Thread Cert.Ffn10ReferenceIdeal.nD Cert.Ffn10ReferenceIdeal.τ).loc Cert.Ffn10ReferenceIdeal.main_arg5) = m ((c.tc : Thread Cert.Ffn10ReferenceIdeal.nD Cert.Ffn10ReferenceIdeal.τ).loc Cert.Ffn10ReferenceIdeal.main_arg5)
      ∧ r.2.mem ((c.tc : Thread Cert.Ffn10ReferenceIdeal.nD Cert.Ffn10ReferenceIdeal.τ).loc Cert.Ffn10ReferenceIdeal.main_arg6) = m ((c.tc : Thread Cert.Ffn10ReferenceIdeal.nD Cert.Ffn10ReferenceIdeal.τ).loc Cert.Ffn10ReferenceIdeal.main_arg6))
      ∧ r.2.sem = fun _ => 0)

def quiescent_Ffn11 [hFfn11 : Cert.Ffn11.Facts] : Prop :=
  ∀ (m : (ℓ : Loc Cert.Ffn11.nD Cert.Ffn11.τ Cert.Ffn11.sig) → Buf (Elt Bits) ℓ) (g : Dev Cert.Ffn11.nD → PrngReg), Pre_Ffn11 m →
    θ_run (Cert.Ffn11.defs (F := Bits)) (onTc (τ := Cert.Ffn11.τ) (Cert.Ffn11.main (F := Bits))) ⟨m, fun _ => 0, g⟩ (fun r => (∀ c : Dev Cert.Ffn11.nD,
      r.2.mem ((c.tc : Thread Cert.Ffn11.nD Cert.Ffn11.τ).loc Cert.Ffn11.main_arg0) = m ((c.tc : Thread Cert.Ffn11.nD Cert.Ffn11.τ).loc Cert.Ffn11.main_arg0)
      ∧ r.2.mem ((c.tc : Thread Cert.Ffn11.nD Cert.Ffn11.τ).loc Cert.Ffn11.main_arg1) = m ((c.tc : Thread Cert.Ffn11.nD Cert.Ffn11.τ).loc Cert.Ffn11.main_arg1)
      ∧ r.2.mem ((c.tc : Thread Cert.Ffn11.nD Cert.Ffn11.τ).loc Cert.Ffn11.main_arg2) = m ((c.tc : Thread Cert.Ffn11.nD Cert.Ffn11.τ).loc Cert.Ffn11.main_arg2)
      ∧ r.2.mem ((c.tc : Thread Cert.Ffn11.nD Cert.Ffn11.τ).loc Cert.Ffn11.main_arg3) = m ((c.tc : Thread Cert.Ffn11.nD Cert.Ffn11.τ).loc Cert.Ffn11.main_arg3)
      ∧ r.2.mem ((c.tc : Thread Cert.Ffn11.nD Cert.Ffn11.τ).loc Cert.Ffn11.main_arg4) = m ((c.tc : Thread Cert.Ffn11.nD Cert.Ffn11.τ).loc Cert.Ffn11.main_arg4)
      ∧ r.2.mem ((c.tc : Thread Cert.Ffn11.nD Cert.Ffn11.τ).loc Cert.Ffn11.main_arg5) = m ((c.tc : Thread Cert.Ffn11.nD Cert.Ffn11.τ).loc Cert.Ffn11.main_arg5)
      ∧ r.2.mem ((c.tc : Thread Cert.Ffn11.nD Cert.Ffn11.τ).loc Cert.Ffn11.main_arg6) = m ((c.tc : Thread Cert.Ffn11.nD Cert.Ffn11.τ).loc Cert.Ffn11.main_arg6))
      ∧ r.2.sem = fun _ => 0)

def quiescent_Ffn11Ideal [hFfn11Ideal : Cert.Ffn11Ideal.Facts] : Prop :=
  ∀ (m : (ℓ : Loc Cert.Ffn11Ideal.nD Cert.Ffn11Ideal.τ Cert.Ffn11Ideal.sig) → Buf (Elt Ideal) ℓ) (g : Dev Cert.Ffn11Ideal.nD → PrngReg), Pre_Ffn11Ideal m →
    θ_run (Cert.Ffn11Ideal.defs (F := Ideal)) (onTc (τ := Cert.Ffn11Ideal.τ) (Cert.Ffn11Ideal.main (F := Ideal))) ⟨m, fun _ => 0, g⟩ (fun r => (∀ c : Dev Cert.Ffn11Ideal.nD,
      r.2.mem ((c.tc : Thread Cert.Ffn11Ideal.nD Cert.Ffn11Ideal.τ).loc Cert.Ffn11Ideal.main_arg0) = m ((c.tc : Thread Cert.Ffn11Ideal.nD Cert.Ffn11Ideal.τ).loc Cert.Ffn11Ideal.main_arg0)
      ∧ r.2.mem ((c.tc : Thread Cert.Ffn11Ideal.nD Cert.Ffn11Ideal.τ).loc Cert.Ffn11Ideal.main_arg1) = m ((c.tc : Thread Cert.Ffn11Ideal.nD Cert.Ffn11Ideal.τ).loc Cert.Ffn11Ideal.main_arg1)
      ∧ r.2.mem ((c.tc : Thread Cert.Ffn11Ideal.nD Cert.Ffn11Ideal.τ).loc Cert.Ffn11Ideal.main_arg2) = m ((c.tc : Thread Cert.Ffn11Ideal.nD Cert.Ffn11Ideal.τ).loc Cert.Ffn11Ideal.main_arg2)
      ∧ r.2.mem ((c.tc : Thread Cert.Ffn11Ideal.nD Cert.Ffn11Ideal.τ).loc Cert.Ffn11Ideal.main_arg3) = m ((c.tc : Thread Cert.Ffn11Ideal.nD Cert.Ffn11Ideal.τ).loc Cert.Ffn11Ideal.main_arg3)
      ∧ r.2.mem ((c.tc : Thread Cert.Ffn11Ideal.nD Cert.Ffn11Ideal.τ).loc Cert.Ffn11Ideal.main_arg4) = m ((c.tc : Thread Cert.Ffn11Ideal.nD Cert.Ffn11Ideal.τ).loc Cert.Ffn11Ideal.main_arg4)
      ∧ r.2.mem ((c.tc : Thread Cert.Ffn11Ideal.nD Cert.Ffn11Ideal.τ).loc Cert.Ffn11Ideal.main_arg5) = m ((c.tc : Thread Cert.Ffn11Ideal.nD Cert.Ffn11Ideal.τ).loc Cert.Ffn11Ideal.main_arg5)
      ∧ r.2.mem ((c.tc : Thread Cert.Ffn11Ideal.nD Cert.Ffn11Ideal.τ).loc Cert.Ffn11Ideal.main_arg6) = m ((c.tc : Thread Cert.Ffn11Ideal.nD Cert.Ffn11Ideal.τ).loc Cert.Ffn11Ideal.main_arg6))
      ∧ r.2.sem = fun _ => 0)

def quiescent_Ffn11ReferenceIdeal [hFfn11ReferenceIdeal : Cert.Ffn11ReferenceIdeal.Facts] : Prop :=
  ∀ (m : (ℓ : Loc Cert.Ffn11ReferenceIdeal.nD Cert.Ffn11ReferenceIdeal.τ Cert.Ffn11ReferenceIdeal.sig) → Buf (Elt Ideal) ℓ) (g : Dev Cert.Ffn11ReferenceIdeal.nD → PrngReg), Pre_Ffn11ReferenceIdeal m →
    θ_run (Cert.Ffn11ReferenceIdeal.defs (F := Ideal)) (onTc (τ := Cert.Ffn11ReferenceIdeal.τ) (Cert.Ffn11ReferenceIdeal.main (F := Ideal))) ⟨m, fun _ => 0, g⟩ (fun r => (∀ c : Dev Cert.Ffn11ReferenceIdeal.nD,
      r.2.mem ((c.tc : Thread Cert.Ffn11ReferenceIdeal.nD Cert.Ffn11ReferenceIdeal.τ).loc Cert.Ffn11ReferenceIdeal.main_arg0) = m ((c.tc : Thread Cert.Ffn11ReferenceIdeal.nD Cert.Ffn11ReferenceIdeal.τ).loc Cert.Ffn11ReferenceIdeal.main_arg0)
      ∧ r.2.mem ((c.tc : Thread Cert.Ffn11ReferenceIdeal.nD Cert.Ffn11ReferenceIdeal.τ).loc Cert.Ffn11ReferenceIdeal.main_arg1) = m ((c.tc : Thread Cert.Ffn11ReferenceIdeal.nD Cert.Ffn11ReferenceIdeal.τ).loc Cert.Ffn11ReferenceIdeal.main_arg1)
      ∧ r.2.mem ((c.tc : Thread Cert.Ffn11ReferenceIdeal.nD Cert.Ffn11ReferenceIdeal.τ).loc Cert.Ffn11ReferenceIdeal.main_arg2) = m ((c.tc : Thread Cert.Ffn11ReferenceIdeal.nD Cert.Ffn11ReferenceIdeal.τ).loc Cert.Ffn11ReferenceIdeal.main_arg2)
      ∧ r.2.mem ((c.tc : Thread Cert.Ffn11ReferenceIdeal.nD Cert.Ffn11ReferenceIdeal.τ).loc Cert.Ffn11ReferenceIdeal.main_arg3) = m ((c.tc : Thread Cert.Ffn11ReferenceIdeal.nD Cert.Ffn11ReferenceIdeal.τ).loc Cert.Ffn11ReferenceIdeal.main_arg3)
      ∧ r.2.mem ((c.tc : Thread Cert.Ffn11ReferenceIdeal.nD Cert.Ffn11ReferenceIdeal.τ).loc Cert.Ffn11ReferenceIdeal.main_arg4) = m ((c.tc : Thread Cert.Ffn11ReferenceIdeal.nD Cert.Ffn11ReferenceIdeal.τ).loc Cert.Ffn11ReferenceIdeal.main_arg4)
      ∧ r.2.mem ((c.tc : Thread Cert.Ffn11ReferenceIdeal.nD Cert.Ffn11ReferenceIdeal.τ).loc Cert.Ffn11ReferenceIdeal.main_arg5) = m ((c.tc : Thread Cert.Ffn11ReferenceIdeal.nD Cert.Ffn11ReferenceIdeal.τ).loc Cert.Ffn11ReferenceIdeal.main_arg5)
      ∧ r.2.mem ((c.tc : Thread Cert.Ffn11ReferenceIdeal.nD Cert.Ffn11ReferenceIdeal.τ).loc Cert.Ffn11ReferenceIdeal.main_arg6) = m ((c.tc : Thread Cert.Ffn11ReferenceIdeal.nD Cert.Ffn11ReferenceIdeal.τ).loc Cert.Ffn11ReferenceIdeal.main_arg6))
      ∧ r.2.sem = fun _ => 0)

def quiescent_Merge0 [hMerge0 : Cert.Merge0.Facts] : Prop :=
  ∀ (m : (ℓ : Loc Cert.Merge0.nD Cert.Merge0.τ Cert.Merge0.sig) → Buf (Elt Bits) ℓ) (g : Dev Cert.Merge0.nD → PrngReg), Pre_Merge0 m →
    θ_run (Cert.Merge0.defs (F := Bits)) (onTc (τ := Cert.Merge0.τ) (Cert.Merge0.main (F := Bits))) ⟨m, fun _ => 0, g⟩ (fun r => (∀ c : Dev Cert.Merge0.nD,
      r.2.mem ((c.tc : Thread Cert.Merge0.nD Cert.Merge0.τ).loc Cert.Merge0.main_arg0) = m ((c.tc : Thread Cert.Merge0.nD Cert.Merge0.τ).loc Cert.Merge0.main_arg0)
      ∧ r.2.mem ((c.tc : Thread Cert.Merge0.nD Cert.Merge0.τ).loc Cert.Merge0.main_arg1) = m ((c.tc : Thread Cert.Merge0.nD Cert.Merge0.τ).loc Cert.Merge0.main_arg1)
      ∧ r.2.mem ((c.tc : Thread Cert.Merge0.nD Cert.Merge0.τ).loc Cert.Merge0.main_arg2) = m ((c.tc : Thread Cert.Merge0.nD Cert.Merge0.τ).loc Cert.Merge0.main_arg2)
      ∧ r.2.mem ((c.tc : Thread Cert.Merge0.nD Cert.Merge0.τ).loc Cert.Merge0.main_arg3) = m ((c.tc : Thread Cert.Merge0.nD Cert.Merge0.τ).loc Cert.Merge0.main_arg3)
      ∧ r.2.mem ((c.tc : Thread Cert.Merge0.nD Cert.Merge0.τ).loc Cert.Merge0.main_arg4) = m ((c.tc : Thread Cert.Merge0.nD Cert.Merge0.τ).loc Cert.Merge0.main_arg4)
      ∧ r.2.mem ((c.tc : Thread Cert.Merge0.nD Cert.Merge0.τ).loc Cert.Merge0.main_arg5) = m ((c.tc : Thread Cert.Merge0.nD Cert.Merge0.τ).loc Cert.Merge0.main_arg5)
      ∧ r.2.mem ((c.tc : Thread Cert.Merge0.nD Cert.Merge0.τ).loc Cert.Merge0.main_arg6) = m ((c.tc : Thread Cert.Merge0.nD Cert.Merge0.τ).loc Cert.Merge0.main_arg6)
      ∧ r.2.mem ((c.tc : Thread Cert.Merge0.nD Cert.Merge0.τ).loc Cert.Merge0.main_arg7) = m ((c.tc : Thread Cert.Merge0.nD Cert.Merge0.τ).loc Cert.Merge0.main_arg7)
      ∧ r.2.mem ((c.tc : Thread Cert.Merge0.nD Cert.Merge0.τ).loc Cert.Merge0.main_arg8) = m ((c.tc : Thread Cert.Merge0.nD Cert.Merge0.τ).loc Cert.Merge0.main_arg8)
      ∧ r.2.mem ((c.tc : Thread Cert.Merge0.nD Cert.Merge0.τ).loc Cert.Merge0.main_arg9) = m ((c.tc : Thread Cert.Merge0.nD Cert.Merge0.τ).loc Cert.Merge0.main_arg9)
      ∧ r.2.mem ((c.tc : Thread Cert.Merge0.nD Cert.Merge0.τ).loc Cert.Merge0.main_arg10) = m ((c.tc : Thread Cert.Merge0.nD Cert.Merge0.τ).loc Cert.Merge0.main_arg10))
      ∧ r.2.sem = fun _ => 0)

def quiescent_Merge0Ideal [hMerge0Ideal : Cert.Merge0Ideal.Facts] : Prop :=
  ∀ (m : (ℓ : Loc Cert.Merge0Ideal.nD Cert.Merge0Ideal.τ Cert.Merge0Ideal.sig) → Buf (Elt Ideal) ℓ) (g : Dev Cert.Merge0Ideal.nD → PrngReg), Pre_Merge0Ideal m →
    θ_run (Cert.Merge0Ideal.defs (F := Ideal)) (onTc (τ := Cert.Merge0Ideal.τ) (Cert.Merge0Ideal.main (F := Ideal))) ⟨m, fun _ => 0, g⟩ (fun r => (∀ c : Dev Cert.Merge0Ideal.nD,
      r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
      ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
      ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
      ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
      ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
      ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
      ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6)
      ∧ r.2.mem ((c.tc : Thread Cert.Merge0Ideal.nD Cert.Merge0Ideal.τ).loc Cert.Merge0Ideal.main_arg7) = m ((c.tc : Thread Cert.Merge0Ideal.nD Cert.Merge0Ideal.τ).loc Cert.Merge0Ideal.main_arg7)
      ∧ r.2.mem ((c.tc : Thread Cert.Merge0Ideal.nD Cert.Merge0Ideal.τ).loc Cert.Merge0Ideal.main_arg8) = m ((c.tc : Thread Cert.Merge0Ideal.nD Cert.Merge0Ideal.τ).loc Cert.Merge0Ideal.main_arg8)
      ∧ r.2.mem ((c.tc : Thread Cert.Merge0Ideal.nD Cert.Merge0Ideal.τ).loc Cert.Merge0Ideal.main_arg9) = m ((c.tc : Thread Cert.Merge0Ideal.nD Cert.Merge0Ideal.τ).loc Cert.Merge0Ideal.main_arg9)
      ∧ r.2.mem ((c.tc : Thread Cert.Merge0Ideal.nD Cert.Merge0Ideal.τ).loc Cert.Merge0Ideal.main_arg10) = m ((c.tc : Thread Cert.Merge0Ideal.nD Cert.Merge0Ideal.τ).loc Cert.Merge0Ideal.main_arg10))
      ∧ r.2.sem = fun _ => 0)

def quiescent_Merge0ReferenceIdeal [hMerge0ReferenceIdeal : Cert.Merge0ReferenceIdeal.Facts] : Prop :=
  ∀ (m : (ℓ : Loc Cert.Merge0ReferenceIdeal.nD Cert.Merge0ReferenceIdeal.τ Cert.Merge0ReferenceIdeal.sig) → Buf (Elt Ideal) ℓ) (g : Dev Cert.Merge0ReferenceIdeal.nD → PrngReg), Pre_Merge0ReferenceIdeal m →
    θ_run (Cert.Merge0ReferenceIdeal.defs (F := Ideal)) (onTc (τ := Cert.Merge0ReferenceIdeal.τ) (Cert.Merge0ReferenceIdeal.main (F := Ideal))) ⟨m, fun _ => 0, g⟩ (fun r => (∀ c : Dev Cert.Merge0ReferenceIdeal.nD,
      r.2.mem ((c.tc : Thread Cert.Merge0ReferenceIdeal.nD Cert.Merge0ReferenceIdeal.τ).loc Cert.Merge0ReferenceIdeal.main_arg0) = m ((c.tc : Thread Cert.Merge0ReferenceIdeal.nD Cert.Merge0ReferenceIdeal.τ).loc Cert.Merge0ReferenceIdeal.main_arg0)
      ∧ r.2.mem ((c.tc : Thread Cert.Merge0ReferenceIdeal.nD Cert.Merge0ReferenceIdeal.τ).loc Cert.Merge0ReferenceIdeal.main_arg1) = m ((c.tc : Thread Cert.Merge0ReferenceIdeal.nD Cert.Merge0ReferenceIdeal.τ).loc Cert.Merge0ReferenceIdeal.main_arg1)
      ∧ r.2.mem ((c.tc : Thread Cert.Merge0ReferenceIdeal.nD Cert.Merge0ReferenceIdeal.τ).loc Cert.Merge0ReferenceIdeal.main_arg2) = m ((c.tc : Thread Cert.Merge0ReferenceIdeal.nD Cert.Merge0ReferenceIdeal.τ).loc Cert.Merge0ReferenceIdeal.main_arg2)
      ∧ r.2.mem ((c.tc : Thread Cert.Merge0ReferenceIdeal.nD Cert.Merge0ReferenceIdeal.τ).loc Cert.Merge0ReferenceIdeal.main_arg3) = m ((c.tc : Thread Cert.Merge0ReferenceIdeal.nD Cert.Merge0ReferenceIdeal.τ).loc Cert.Merge0ReferenceIdeal.main_arg3)
      ∧ r.2.mem ((c.tc : Thread Cert.Merge0ReferenceIdeal.nD Cert.Merge0ReferenceIdeal.τ).loc Cert.Merge0ReferenceIdeal.main_arg4) = m ((c.tc : Thread Cert.Merge0ReferenceIdeal.nD Cert.Merge0ReferenceIdeal.τ).loc Cert.Merge0ReferenceIdeal.main_arg4)
      ∧ r.2.mem ((c.tc : Thread Cert.Merge0ReferenceIdeal.nD Cert.Merge0ReferenceIdeal.τ).loc Cert.Merge0ReferenceIdeal.main_arg5) = m ((c.tc : Thread Cert.Merge0ReferenceIdeal.nD Cert.Merge0ReferenceIdeal.τ).loc Cert.Merge0ReferenceIdeal.main_arg5)
      ∧ r.2.mem ((c.tc : Thread Cert.Merge0ReferenceIdeal.nD Cert.Merge0ReferenceIdeal.τ).loc Cert.Merge0ReferenceIdeal.main_arg6) = m ((c.tc : Thread Cert.Merge0ReferenceIdeal.nD Cert.Merge0ReferenceIdeal.τ).loc Cert.Merge0ReferenceIdeal.main_arg6)
      ∧ r.2.mem ((c.tc : Thread Cert.Merge0ReferenceIdeal.nD Cert.Merge0ReferenceIdeal.τ).loc Cert.Merge0ReferenceIdeal.main_arg7) = m ((c.tc : Thread Cert.Merge0ReferenceIdeal.nD Cert.Merge0ReferenceIdeal.τ).loc Cert.Merge0ReferenceIdeal.main_arg7)
      ∧ r.2.mem ((c.tc : Thread Cert.Merge0ReferenceIdeal.nD Cert.Merge0ReferenceIdeal.τ).loc Cert.Merge0ReferenceIdeal.main_arg8) = m ((c.tc : Thread Cert.Merge0ReferenceIdeal.nD Cert.Merge0ReferenceIdeal.τ).loc Cert.Merge0ReferenceIdeal.main_arg8)
      ∧ r.2.mem ((c.tc : Thread Cert.Merge0ReferenceIdeal.nD Cert.Merge0ReferenceIdeal.τ).loc Cert.Merge0ReferenceIdeal.main_arg9) = m ((c.tc : Thread Cert.Merge0ReferenceIdeal.nD Cert.Merge0ReferenceIdeal.τ).loc Cert.Merge0ReferenceIdeal.main_arg9)
      ∧ r.2.mem ((c.tc : Thread Cert.Merge0ReferenceIdeal.nD Cert.Merge0ReferenceIdeal.τ).loc Cert.Merge0ReferenceIdeal.main_arg10) = m ((c.tc : Thread Cert.Merge0ReferenceIdeal.nD Cert.Merge0ReferenceIdeal.τ).loc Cert.Merge0ReferenceIdeal.main_arg10))
      ∧ r.2.sem = fun _ => 0)

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4)
      ∧ r.2.mem ((c.tc : Thread Cert.Merge1.nD Cert.Merge1.τ).loc Cert.Merge1.main_arg5) = m ((c.tc : Thread Cert.Merge1.nD Cert.Merge1.τ).loc Cert.Merge1.main_arg5)
      ∧ r.2.mem ((c.tc : Thread Cert.Merge1.nD Cert.Merge1.τ).loc Cert.Merge1.main_arg6) = m ((c.tc : Thread Cert.Merge1.nD Cert.Merge1.τ).loc Cert.Merge1.main_arg6)
      ∧ r.2.mem ((c.tc : Thread Cert.Merge1.nD Cert.Merge1.τ).loc Cert.Merge1.main_arg7) = m ((c.tc : Thread Cert.Merge1.nD Cert.Merge1.τ).loc Cert.Merge1.main_arg7)
      ∧ r.2.mem ((c.tc : Thread Cert.Merge1.nD Cert.Merge1.τ).loc Cert.Merge1.main_arg8) = m ((c.tc : Thread Cert.Merge1.nD Cert.Merge1.τ).loc Cert.Merge1.main_arg8)
      ∧ r.2.mem ((c.tc : Thread Cert.Merge1.nD Cert.Merge1.τ).loc Cert.Merge1.main_arg9) = m ((c.tc : Thread Cert.Merge1.nD Cert.Merge1.τ).loc Cert.Merge1.main_arg9)
      ∧ r.2.mem ((c.tc : Thread Cert.Merge1.nD Cert.Merge1.τ).loc Cert.Merge1.main_arg10) = m ((c.tc : Thread Cert.Merge1.nD Cert.Merge1.τ).loc Cert.Merge1.main_arg10))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
      ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
      ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
      ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7)
      ∧ r.2.mem ((c.tc : Thread Cert.Merge1Ideal.nD Cert.Merge1Ideal.τ).loc Cert.Merge1Ideal.main_arg8) = m ((c.tc : Thread Cert.Merge1Ideal.nD Cert.Merge1Ideal.τ).loc Cert.Merge1Ideal.main_arg8)
      ∧ r.2.mem ((c.tc : Thread Cert.Merge1Ideal.nD Cert.Merge1Ideal.τ).loc Cert.Merge1Ideal.main_arg9) = m ((c.tc : Thread Cert.Merge1Ideal.nD Cert.Merge1Ideal.τ).loc Cert.Merge1Ideal.main_arg9)
      ∧ r.2.mem ((c.tc : Thread Cert.Merge1Ideal.nD Cert.Merge1Ideal.τ).loc Cert.Merge1Ideal.main_arg10) = m ((c.tc : Thread Cert.Merge1Ideal.nD Cert.Merge1Ideal.τ).loc Cert.Merge1Ideal.main_arg10))
      ∧ r.2.sem = fun _ => 0)

def quiescent_Merge1ReferenceIdeal [hMerge1ReferenceIdeal : Cert.Merge1ReferenceIdeal.Facts] : Prop :=
  ∀ (m : (ℓ : Loc Cert.Merge1ReferenceIdeal.nD Cert.Merge1ReferenceIdeal.τ Cert.Merge1ReferenceIdeal.sig) → Buf (Elt Ideal) ℓ) (g : Dev Cert.Merge1ReferenceIdeal.nD → PrngReg), Pre_Merge1ReferenceIdeal m →
    θ_run (Cert.Merge1ReferenceIdeal.defs (F := Ideal)) (onTc (τ := Cert.Merge1ReferenceIdeal.τ) (Cert.Merge1ReferenceIdeal.main (F := Ideal))) ⟨m, fun _ => 0, g⟩ (fun r => (∀ c : Dev Cert.Merge1ReferenceIdeal.nD,
      r.2.mem ((c.tc : Thread Cert.Merge1ReferenceIdeal.nD Cert.Merge1ReferenceIdeal.τ).loc Cert.Merge1ReferenceIdeal.main_arg0) = m ((c.tc : Thread Cert.Merge1ReferenceIdeal.nD Cert.Merge1ReferenceIdeal.τ).loc Cert.Merge1ReferenceIdeal.main_arg0)
      ∧ r.2.mem ((c.tc : Thread Cert.Merge1ReferenceIdeal.nD Cert.Merge1ReferenceIdeal.τ).loc Cert.Merge1ReferenceIdeal.main_arg1) = m ((c.tc : Thread Cert.Merge1ReferenceIdeal.nD Cert.Merge1ReferenceIdeal.τ).loc Cert.Merge1ReferenceIdeal.main_arg1)
      ∧ r.2.mem ((c.tc : Thread Cert.Merge1ReferenceIdeal.nD Cert.Merge1ReferenceIdeal.τ).loc Cert.Merge1ReferenceIdeal.main_arg2) = m ((c.tc : Thread Cert.Merge1ReferenceIdeal.nD Cert.Merge1ReferenceIdeal.τ).loc Cert.Merge1ReferenceIdeal.main_arg2)
      ∧ r.2.mem ((c.tc : Thread Cert.Merge1ReferenceIdeal.nD Cert.Merge1ReferenceIdeal.τ).loc Cert.Merge1ReferenceIdeal.main_arg3) = m ((c.tc : Thread Cert.Merge1ReferenceIdeal.nD Cert.Merge1ReferenceIdeal.τ).loc Cert.Merge1ReferenceIdeal.main_arg3)
      ∧ r.2.mem ((c.tc : Thread Cert.Merge1ReferenceIdeal.nD Cert.Merge1ReferenceIdeal.τ).loc Cert.Merge1ReferenceIdeal.main_arg4) = m ((c.tc : Thread Cert.Merge1ReferenceIdeal.nD Cert.Merge1ReferenceIdeal.τ).loc Cert.Merge1ReferenceIdeal.main_arg4)
      ∧ r.2.mem ((c.tc : Thread Cert.Merge1ReferenceIdeal.nD Cert.Merge1ReferenceIdeal.τ).loc Cert.Merge1ReferenceIdeal.main_arg5) = m ((c.tc : Thread Cert.Merge1ReferenceIdeal.nD Cert.Merge1ReferenceIdeal.τ).loc Cert.Merge1ReferenceIdeal.main_arg5)
      ∧ r.2.mem ((c.tc : Thread Cert.Merge1ReferenceIdeal.nD Cert.Merge1ReferenceIdeal.τ).loc Cert.Merge1ReferenceIdeal.main_arg6) = m ((c.tc : Thread Cert.Merge1ReferenceIdeal.nD Cert.Merge1ReferenceIdeal.τ).loc Cert.Merge1ReferenceIdeal.main_arg6)
      ∧ r.2.mem ((c.tc : Thread Cert.Merge1ReferenceIdeal.nD Cert.Merge1ReferenceIdeal.τ).loc Cert.Merge1ReferenceIdeal.main_arg7) = m ((c.tc : Thread Cert.Merge1ReferenceIdeal.nD Cert.Merge1ReferenceIdeal.τ).loc Cert.Merge1ReferenceIdeal.main_arg7)
      ∧ r.2.mem ((c.tc : Thread Cert.Merge1ReferenceIdeal.nD Cert.Merge1ReferenceIdeal.τ).loc Cert.Merge1ReferenceIdeal.main_arg8) = m ((c.tc : Thread Cert.Merge1ReferenceIdeal.nD Cert.Merge1ReferenceIdeal.τ).loc Cert.Merge1ReferenceIdeal.main_arg8)
      ∧ r.2.mem ((c.tc : Thread Cert.Merge1ReferenceIdeal.nD Cert.Merge1ReferenceIdeal.τ).loc Cert.Merge1ReferenceIdeal.main_arg9) = m ((c.tc : Thread Cert.Merge1ReferenceIdeal.nD Cert.Merge1ReferenceIdeal.τ).loc Cert.Merge1ReferenceIdeal.main_arg9)
      ∧ r.2.mem ((c.tc : Thread Cert.Merge1ReferenceIdeal.nD Cert.Merge1ReferenceIdeal.τ).loc Cert.Merge1ReferenceIdeal.main_arg10) = m ((c.tc : Thread Cert.Merge1ReferenceIdeal.nD Cert.Merge1ReferenceIdeal.τ).loc Cert.Merge1ReferenceIdeal.main_arg10))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickReferenceIdeal [hStickReferenceIdeal : Cert.StickReferenceIdeal.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn00_Ffn00Ideal : Prop :=
  True

def algebraic_Ffn00Ideal_Ffn00ReferenceIdeal [hFfn00Ideal : Cert.Ffn00Ideal.Facts] [hFfn00ReferenceIdeal : Cert.Ffn00ReferenceIdeal.Facts] : Prop :=
  ∀ (m : (ℓ : Loc Cert.Ffn00Ideal.nD Cert.Ffn00Ideal.τ Cert.Ffn00Ideal.sig) → Buf (Elt Ideal) ℓ) (g : Dev Cert.Ffn00Ideal.nD → PrngReg)
    (m' : (ℓ : Loc Cert.Ffn00ReferenceIdeal.nD Cert.Ffn00ReferenceIdeal.τ Cert.Ffn00ReferenceIdeal.sig) → Buf (Elt Ideal) ℓ) (g' : Dev Cert.Ffn00ReferenceIdeal.nD → PrngReg), Pre_Ffn00Ideal m →
    (∀ c : Dev Cert.Ffn00Ideal.nD,
      m' ((c.tc : Thread Cert.Ffn00ReferenceIdeal.nD Cert.Ffn00ReferenceIdeal.τ).loc Cert.Ffn00ReferenceIdeal.main_arg0) = m ((c.tc : Thread Cert.Ffn00Ideal.nD Cert.Ffn00Ideal.τ).loc Cert.Ffn00Ideal.main_arg0)
      ∧ m' ((c.tc : Thread Cert.Ffn00ReferenceIdeal.nD Cert.Ffn00ReferenceIdeal.τ).loc Cert.Ffn00ReferenceIdeal.main_arg1) = m ((c.tc : Thread Cert.Ffn00Ideal.nD Cert.Ffn00Ideal.τ).loc Cert.Ffn00Ideal.main_arg1)
      ∧ m' ((c.tc : Thread Cert.Ffn00ReferenceIdeal.nD Cert.Ffn00ReferenceIdeal.τ).loc Cert.Ffn00ReferenceIdeal.main_arg2) = m ((c.tc : Thread Cert.Ffn00Ideal.nD Cert.Ffn00Ideal.τ).loc Cert.Ffn00Ideal.main_arg2)
      ∧ m' ((c.tc : Thread Cert.Ffn00ReferenceIdeal.nD Cert.Ffn00ReferenceIdeal.τ).loc Cert.Ffn00ReferenceIdeal.main_arg3) = m ((c.tc : Thread Cert.Ffn00Ideal.nD Cert.Ffn00Ideal.τ).loc Cert.Ffn00Ideal.main_arg3)
      ∧ m' ((c.tc : Thread Cert.Ffn00ReferenceIdeal.nD Cert.Ffn00ReferenceIdeal.τ).loc Cert.Ffn00ReferenceIdeal.main_arg4) = m ((c.tc : Thread Cert.Ffn00Ideal.nD Cert.Ffn00Ideal.τ).loc Cert.Ffn00Ideal.main_arg4)
      ∧ m' ((c.tc : Thread Cert.Ffn00ReferenceIdeal.nD Cert.Ffn00ReferenceIdeal.τ).loc Cert.Ffn00ReferenceIdeal.main_arg5) = m ((c.tc : Thread Cert.Ffn00Ideal.nD Cert.Ffn00Ideal.τ).loc Cert.Ffn00Ideal.main_arg5)
      ∧ m' ((c.tc : Thread Cert.Ffn00ReferenceIdeal.nD Cert.Ffn00ReferenceIdeal.τ).loc Cert.Ffn00ReferenceIdeal.main_arg6) = m ((c.tc : Thread Cert.Ffn00Ideal.nD Cert.Ffn00Ideal.τ).loc Cert.Ffn00Ideal.main_arg6)) →
    ∃ (v0 : (c : Dev Cert.Ffn00Ideal.nD) → Buf (Elt Ideal) ((c.tc : Thread Cert.Ffn00Ideal.nD Cert.Ffn00Ideal.τ).loc Cert.Ffn00Ideal.main_v12)),
      θ_run (Cert.Ffn00Ideal.defs (F := Ideal)) (onTc (τ := Cert.Ffn00Ideal.τ) (Cert.Ffn00Ideal.main (F := Ideal))) ⟨m, fun _ => 0, g⟩ (fun r => ∀ c : Dev Cert.Ffn00Ideal.nD,
          r.2.mem ((c.tc : Thread Cert.Ffn00Ideal.nD Cert.Ffn00Ideal.τ).loc Cert.Ffn00Ideal.main_v12) = v0 c
          ∧ r.2.mem ((c.tc : Thread Cert.Ffn00Ideal.nD Cert.Ffn00Ideal.τ).loc Cert.Ffn00Ideal.main_arg0) = m ((c.tc : Thread Cert.Ffn00Ideal.nD Cert.Ffn00Ideal.τ).loc Cert.Ffn00Ideal.main_arg0)
          ∧ r.2.mem ((c.tc : Thread Cert.Ffn00Ideal.nD Cert.Ffn00Ideal.τ).loc Cert.Ffn00Ideal.main_arg1) = m ((c.tc : Thread Cert.Ffn00Ideal.nD Cert.Ffn00Ideal.τ).loc Cert.Ffn00Ideal.main_arg1)
          ∧ r.2.mem ((c.tc : Thread Cert.Ffn00Ideal.nD Cert.Ffn00Ideal.τ).loc Cert.Ffn00Ideal.main_arg2) = m ((c.tc : Thread Cert.Ffn00Ideal.nD Cert.Ffn00Ideal.τ).loc Cert.Ffn00Ideal.main_arg2)
          ∧ r.2.mem ((c.tc : Thread Cert.Ffn00Ideal.nD Cert.Ffn00Ideal.τ).loc Cert.Ffn00Ideal.main_arg3) = m ((c.tc : Thread Cert.Ffn00Ideal.nD Cert.Ffn00Ideal.τ).loc Cert.Ffn00Ideal.main_arg3)
          ∧ r.2.mem ((c.tc : Thread Cert.Ffn00Ideal.nD Cert.Ffn00Ideal.τ).loc Cert.Ffn00Ideal.main_arg4) = m ((c.tc : Thread Cert.Ffn00Ideal.nD Cert.Ffn00Ideal.τ).loc Cert.Ffn00Ideal.main_arg4)
          ∧ r.2.mem ((c.tc : Thread Cert.Ffn00Ideal.nD Cert.Ffn00Ideal.τ).loc Cert.Ffn00Ideal.main_arg5) = m ((c.tc : Thread Cert.Ffn00Ideal.nD Cert.Ffn00Ideal.τ).loc Cert.Ffn00Ideal.main_arg5)
          ∧ r.2.mem ((c.tc : Thread Cert.Ffn00Ideal.nD Cert.Ffn00Ideal.τ).loc Cert.Ffn00Ideal.main_arg6) = m ((c.tc : Thread Cert.Ffn00Ideal.nD Cert.Ffn00Ideal.τ).loc Cert.Ffn00Ideal.main_arg6))
      ∧ θ_run (Cert.Ffn00ReferenceIdeal.defs (F := Ideal)) (onTc (τ := Cert.Ffn00ReferenceIdeal.τ) (Cert.Ffn00ReferenceIdeal.main (F := Ideal))) ⟨m', fun _ => 0, g'⟩ (fun r => ∀ c : Dev Cert.Ffn00ReferenceIdeal.nD,
          r.2.mem ((c.tc : Thread Cert.Ffn00ReferenceIdeal.nD Cert.Ffn00ReferenceIdeal.τ).loc Cert.Ffn00ReferenceIdeal.main_v66) = v0 c
          ∧ r.2.mem ((c.tc : Thread Cert.Ffn00ReferenceIdeal.nD Cert.Ffn00ReferenceIdeal.τ).loc Cert.Ffn00ReferenceIdeal.main_arg0) = m' ((c.tc : Thread Cert.Ffn00ReferenceIdeal.nD Cert.Ffn00ReferenceIdeal.τ).loc Cert.Ffn00ReferenceIdeal.main_arg0)
          ∧ r.2.mem ((c.tc : Thread Cert.Ffn00ReferenceIdeal.nD Cert.Ffn00ReferenceIdeal.τ).loc Cert.Ffn00ReferenceIdeal.main_arg1) = m' ((c.tc : Thread Cert.Ffn00ReferenceIdeal.nD Cert.Ffn00ReferenceIdeal.τ).loc Cert.Ffn00ReferenceIdeal.main_arg1)
          ∧ r.2.mem ((c.tc : Thread Cert.Ffn00ReferenceIdeal.nD Cert.Ffn00ReferenceIdeal.τ).loc Cert.Ffn00ReferenceIdeal.main_arg2) = m' ((c.tc : Thread Cert.Ffn00ReferenceIdeal.nD Cert.Ffn00ReferenceIdeal.τ).loc Cert.Ffn00ReferenceIdeal.main_arg2)
          ∧ r.2.mem ((c.tc : Thread Cert.Ffn00ReferenceIdeal.nD Cert.Ffn00ReferenceIdeal.τ).loc Cert.Ffn00ReferenceIdeal.main_arg3) = m' ((c.tc : Thread Cert.Ffn00ReferenceIdeal.nD Cert.Ffn00ReferenceIdeal.τ).loc Cert.Ffn00ReferenceIdeal.main_arg3)
          ∧ r.2.mem ((c.tc : Thread Cert.Ffn00ReferenceIdeal.nD Cert.Ffn00ReferenceIdeal.τ).loc Cert.Ffn00ReferenceIdeal.main_arg4) = m' ((c.tc : Thread Cert.Ffn00ReferenceIdeal.nD Cert.Ffn00ReferenceIdeal.τ).loc Cert.Ffn00ReferenceIdeal.main_arg4)
          ∧ r.2.mem ((c.tc : Thread Cert.Ffn00ReferenceIdeal.nD Cert.Ffn00ReferenceIdeal.τ).loc Cert.Ffn00ReferenceIdeal.main_arg5) = m' ((c.tc : Thread Cert.Ffn00ReferenceIdeal.nD Cert.Ffn00ReferenceIdeal.τ).loc Cert.Ffn00ReferenceIdeal.main_arg5)
          ∧ r.2.mem ((c.tc : Thread Cert.Ffn00ReferenceIdeal.nD Cert.Ffn00ReferenceIdeal.τ).loc Cert.Ffn00ReferenceIdeal.main_arg6) = m' ((c.tc : Thread Cert.Ffn00ReferenceIdeal.nD Cert.Ffn00ReferenceIdeal.τ).loc Cert.Ffn00ReferenceIdeal.main_arg6))

def preserves_Ffn01_Ffn01Ideal : Prop :=
  True

def algebraic_Ffn01Ideal_Ffn01ReferenceIdeal [hFfn01Ideal : Cert.Ffn01Ideal.Facts] [hFfn01ReferenceIdeal : Cert.Ffn01ReferenceIdeal.Facts] : Prop :=
  ∀ (m : (ℓ : Loc Cert.Ffn01Ideal.nD Cert.Ffn01Ideal.τ Cert.Ffn01Ideal.sig) → Buf (Elt Ideal) ℓ) (g : Dev Cert.Ffn01Ideal.nD → PrngReg)
    (m' : (ℓ : Loc Cert.Ffn01ReferenceIdeal.nD Cert.Ffn01ReferenceIdeal.τ Cert.Ffn01ReferenceIdeal.sig) → Buf (Elt Ideal) ℓ) (g' : Dev Cert.Ffn01ReferenceIdeal.nD → PrngReg), Pre_Ffn01Ideal m →
    (∀ c : Dev Cert.Ffn01Ideal.nD,
      m' ((c.tc : Thread Cert.Ffn01ReferenceIdeal.nD Cert.Ffn01ReferenceIdeal.τ).loc Cert.Ffn01ReferenceIdeal.main_arg0) = m ((c.tc : Thread Cert.Ffn01Ideal.nD Cert.Ffn01Ideal.τ).loc Cert.Ffn01Ideal.main_arg0)
      ∧ m' ((c.tc : Thread Cert.Ffn01ReferenceIdeal.nD Cert.Ffn01ReferenceIdeal.τ).loc Cert.Ffn01ReferenceIdeal.main_arg1) = m ((c.tc : Thread Cert.Ffn01Ideal.nD Cert.Ffn01Ideal.τ).loc Cert.Ffn01Ideal.main_arg1)
      ∧ m' ((c.tc : Thread Cert.Ffn01ReferenceIdeal.nD Cert.Ffn01ReferenceIdeal.τ).loc Cert.Ffn01ReferenceIdeal.main_arg2) = m ((c.tc : Thread Cert.Ffn01Ideal.nD Cert.Ffn01Ideal.τ).loc Cert.Ffn01Ideal.main_arg2)
      ∧ m' ((c.tc : Thread Cert.Ffn01ReferenceIdeal.nD Cert.Ffn01ReferenceIdeal.τ).loc Cert.Ffn01ReferenceIdeal.main_arg3) = m ((c.tc : Thread Cert.Ffn01Ideal.nD Cert.Ffn01Ideal.τ).loc Cert.Ffn01Ideal.main_arg3)
      ∧ m' ((c.tc : Thread Cert.Ffn01ReferenceIdeal.nD Cert.Ffn01ReferenceIdeal.τ).loc Cert.Ffn01ReferenceIdeal.main_arg4) = m ((c.tc : Thread Cert.Ffn01Ideal.nD Cert.Ffn01Ideal.τ).loc Cert.Ffn01Ideal.main_arg4)
      ∧ m' ((c.tc : Thread Cert.Ffn01ReferenceIdeal.nD Cert.Ffn01ReferenceIdeal.τ).loc Cert.Ffn01ReferenceIdeal.main_arg5) = m ((c.tc : Thread Cert.Ffn01Ideal.nD Cert.Ffn01Ideal.τ).loc Cert.Ffn01Ideal.main_arg5)
      ∧ m' ((c.tc : Thread Cert.Ffn01ReferenceIdeal.nD Cert.Ffn01ReferenceIdeal.τ).loc Cert.Ffn01ReferenceIdeal.main_arg6) = m ((c.tc : Thread Cert.Ffn01Ideal.nD Cert.Ffn01Ideal.τ).loc Cert.Ffn01Ideal.main_arg6)) →
    ∃ (v0 : (c : Dev Cert.Ffn01Ideal.nD) → Buf (Elt Ideal) ((c.tc : Thread Cert.Ffn01Ideal.nD Cert.Ffn01Ideal.τ).loc Cert.Ffn01Ideal.main_v12)),
      θ_run (Cert.Ffn01Ideal.defs (F := Ideal)) (onTc (τ := Cert.Ffn01Ideal.τ) (Cert.Ffn01Ideal.main (F := Ideal))) ⟨m, fun _ => 0, g⟩ (fun r => ∀ c : Dev Cert.Ffn01Ideal.nD,
          r.2.mem ((c.tc : Thread Cert.Ffn01Ideal.nD Cert.Ffn01Ideal.τ).loc Cert.Ffn01Ideal.main_v12) = v0 c
          ∧ r.2.mem ((c.tc : Thread Cert.Ffn01Ideal.nD Cert.Ffn01Ideal.τ).loc Cert.Ffn01Ideal.main_arg0) = m ((c.tc : Thread Cert.Ffn01Ideal.nD Cert.Ffn01Ideal.τ).loc Cert.Ffn01Ideal.main_arg0)
          ∧ r.2.mem ((c.tc : Thread Cert.Ffn01Ideal.nD Cert.Ffn01Ideal.τ).loc Cert.Ffn01Ideal.main_arg1) = m ((c.tc : Thread Cert.Ffn01Ideal.nD Cert.Ffn01Ideal.τ).loc Cert.Ffn01Ideal.main_arg1)
          ∧ r.2.mem ((c.tc : Thread Cert.Ffn01Ideal.nD Cert.Ffn01Ideal.τ).loc Cert.Ffn01Ideal.main_arg2) = m ((c.tc : Thread Cert.Ffn01Ideal.nD Cert.Ffn01Ideal.τ).loc Cert.Ffn01Ideal.main_arg2)
          ∧ r.2.mem ((c.tc : Thread Cert.Ffn01Ideal.nD Cert.Ffn01Ideal.τ).loc Cert.Ffn01Ideal.main_arg3) = m ((c.tc : Thread Cert.Ffn01Ideal.nD Cert.Ffn01Ideal.τ).loc Cert.Ffn01Ideal.main_arg3)
          ∧ r.2.mem ((c.tc : Thread Cert.Ffn01Ideal.nD Cert.Ffn01Ideal.τ).loc Cert.Ffn01Ideal.main_arg4) = m ((c.tc : Thread Cert.Ffn01Ideal.nD Cert.Ffn01Ideal.τ).loc Cert.Ffn01Ideal.main_arg4)
          ∧ r.2.mem ((c.tc : Thread Cert.Ffn01Ideal.nD Cert.Ffn01Ideal.τ).loc Cert.Ffn01Ideal.main_arg5) = m ((c.tc : Thread Cert.Ffn01Ideal.nD Cert.Ffn01Ideal.τ).loc Cert.Ffn01Ideal.main_arg5)
          ∧ r.2.mem ((c.tc : Thread Cert.Ffn01Ideal.nD Cert.Ffn01Ideal.τ).loc Cert.Ffn01Ideal.main_arg6) = m ((c.tc : Thread Cert.Ffn01Ideal.nD Cert.Ffn01Ideal.τ).loc Cert.Ffn01Ideal.main_arg6))
      ∧ θ_run (Cert.Ffn01ReferenceIdeal.defs (F := Ideal)) (onTc (τ := Cert.Ffn01ReferenceIdeal.τ) (Cert.Ffn01ReferenceIdeal.main (F := Ideal))) ⟨m', fun _ => 0, g'⟩ (fun r => ∀ c : Dev Cert.Ffn01ReferenceIdeal.nD,
          r.2.mem ((c.tc : Thread Cert.Ffn01ReferenceIdeal.nD Cert.Ffn01ReferenceIdeal.τ).loc Cert.Ffn01ReferenceIdeal.main_v66) = v0 c
          ∧ r.2.mem ((c.tc : Thread Cert.Ffn01ReferenceIdeal.nD Cert.Ffn01ReferenceIdeal.τ).loc Cert.Ffn01ReferenceIdeal.main_arg0) = m' ((c.tc : Thread Cert.Ffn01ReferenceIdeal.nD Cert.Ffn01ReferenceIdeal.τ).loc Cert.Ffn01ReferenceIdeal.main_arg0)
          ∧ r.2.mem ((c.tc : Thread Cert.Ffn01ReferenceIdeal.nD Cert.Ffn01ReferenceIdeal.τ).loc Cert.Ffn01ReferenceIdeal.main_arg1) = m' ((c.tc : Thread Cert.Ffn01ReferenceIdeal.nD Cert.Ffn01ReferenceIdeal.τ).loc Cert.Ffn01ReferenceIdeal.main_arg1)
          ∧ r.2.mem ((c.tc : Thread Cert.Ffn01ReferenceIdeal.nD Cert.Ffn01ReferenceIdeal.τ).loc Cert.Ffn01ReferenceIdeal.main_arg2) = m' ((c.tc : Thread Cert.Ffn01ReferenceIdeal.nD Cert.Ffn01ReferenceIdeal.τ).loc Cert.Ffn01ReferenceIdeal.main_arg2)
          ∧ r.2.mem ((c.tc : Thread Cert.Ffn01ReferenceIdeal.nD Cert.Ffn01ReferenceIdeal.τ).loc Cert.Ffn01ReferenceIdeal.main_arg3) = m' ((c.tc : Thread Cert.Ffn01ReferenceIdeal.nD Cert.Ffn01ReferenceIdeal.τ).loc Cert.Ffn01ReferenceIdeal.main_arg3)
          ∧ r.2.mem ((c.tc : Thread Cert.Ffn01ReferenceIdeal.nD Cert.Ffn01ReferenceIdeal.τ).loc Cert.Ffn01ReferenceIdeal.main_arg4) = m' ((c.tc : Thread Cert.Ffn01ReferenceIdeal.nD Cert.Ffn01ReferenceIdeal.τ).loc Cert.Ffn01ReferenceIdeal.main_arg4)
          ∧ r.2.mem ((c.tc : Thread Cert.Ffn01ReferenceIdeal.nD Cert.Ffn01ReferenceIdeal.τ).loc Cert.Ffn01ReferenceIdeal.main_arg5) = m' ((c.tc : Thread Cert.Ffn01ReferenceIdeal.nD Cert.Ffn01ReferenceIdeal.τ).loc Cert.Ffn01ReferenceIdeal.main_arg5)
          ∧ r.2.mem ((c.tc : Thread Cert.Ffn01ReferenceIdeal.nD Cert.Ffn01ReferenceIdeal.τ).loc Cert.Ffn01ReferenceIdeal.main_arg6) = m' ((c.tc : Thread Cert.Ffn01ReferenceIdeal.nD Cert.Ffn01ReferenceIdeal.τ).loc Cert.Ffn01ReferenceIdeal.main_arg6))

def preserves_Ffn10_Ffn10Ideal : Prop :=
  True

def algebraic_Ffn10Ideal_Ffn10ReferenceIdeal [hFfn10Ideal : Cert.Ffn10Ideal.Facts] [hFfn10ReferenceIdeal : Cert.Ffn10ReferenceIdeal.Facts] : Prop :=
  ∀ (m : (ℓ : Loc Cert.Ffn10Ideal.nD Cert.Ffn10Ideal.τ Cert.Ffn10Ideal.sig) → Buf (Elt Ideal) ℓ) (g : Dev Cert.Ffn10Ideal.nD → PrngReg)
    (m' : (ℓ : Loc Cert.Ffn10ReferenceIdeal.nD Cert.Ffn10ReferenceIdeal.τ Cert.Ffn10ReferenceIdeal.sig) → Buf (Elt Ideal) ℓ) (g' : Dev Cert.Ffn10ReferenceIdeal.nD → PrngReg), Pre_Ffn10Ideal m →
    (∀ c : Dev Cert.Ffn10Ideal.nD,
      m' ((c.tc : Thread Cert.Ffn10ReferenceIdeal.nD Cert.Ffn10ReferenceIdeal.τ).loc Cert.Ffn10ReferenceIdeal.main_arg0) = m ((c.tc : Thread Cert.Ffn10Ideal.nD Cert.Ffn10Ideal.τ).loc Cert.Ffn10Ideal.main_arg0)
      ∧ m' ((c.tc : Thread Cert.Ffn10ReferenceIdeal.nD Cert.Ffn10ReferenceIdeal.τ).loc Cert.Ffn10ReferenceIdeal.main_arg1) = m ((c.tc : Thread Cert.Ffn10Ideal.nD Cert.Ffn10Ideal.τ).loc Cert.Ffn10Ideal.main_arg1)
      ∧ m' ((c.tc : Thread Cert.Ffn10ReferenceIdeal.nD Cert.Ffn10ReferenceIdeal.τ).loc Cert.Ffn10ReferenceIdeal.main_arg2) = m ((c.tc : Thread Cert.Ffn10Ideal.nD Cert.Ffn10Ideal.τ).loc Cert.Ffn10Ideal.main_arg2)
      ∧ m' ((c.tc : Thread Cert.Ffn10ReferenceIdeal.nD Cert.Ffn10ReferenceIdeal.τ).loc Cert.Ffn10ReferenceIdeal.main_arg3) = m ((c.tc : Thread Cert.Ffn10Ideal.nD Cert.Ffn10Ideal.τ).loc Cert.Ffn10Ideal.main_arg3)
      ∧ m' ((c.tc : Thread Cert.Ffn10ReferenceIdeal.nD Cert.Ffn10ReferenceIdeal.τ).loc Cert.Ffn10ReferenceIdeal.main_arg4) = m ((c.tc : Thread Cert.Ffn10Ideal.nD Cert.Ffn10Ideal.τ).loc Cert.Ffn10Ideal.main_arg4)
      ∧ m' ((c.tc : Thread Cert.Ffn10ReferenceIdeal.nD Cert.Ffn10ReferenceIdeal.τ).loc Cert.Ffn10ReferenceIdeal.main_arg5) = m ((c.tc : Thread Cert.Ffn10Ideal.nD Cert.Ffn10Ideal.τ).loc Cert.Ffn10Ideal.main_arg5)
      ∧ m' ((c.tc : Thread Cert.Ffn10ReferenceIdeal.nD Cert.Ffn10ReferenceIdeal.τ).loc Cert.Ffn10ReferenceIdeal.main_arg6) = m ((c.tc : Thread Cert.Ffn10Ideal.nD Cert.Ffn10Ideal.τ).loc Cert.Ffn10Ideal.main_arg6)) →
    ∃ (v0 : (c : Dev Cert.Ffn10Ideal.nD) → Buf (Elt Ideal) ((c.tc : Thread Cert.Ffn10Ideal.nD Cert.Ffn10Ideal.τ).loc Cert.Ffn10Ideal.main_v12)),
      θ_run (Cert.Ffn10Ideal.defs (F := Ideal)) (onTc (τ := Cert.Ffn10Ideal.τ) (Cert.Ffn10Ideal.main (F := Ideal))) ⟨m, fun _ => 0, g⟩ (fun r => ∀ c : Dev Cert.Ffn10Ideal.nD,
          r.2.mem ((c.tc : Thread Cert.Ffn10Ideal.nD Cert.Ffn10Ideal.τ).loc Cert.Ffn10Ideal.main_v12) = v0 c
          ∧ r.2.mem ((c.tc : Thread Cert.Ffn10Ideal.nD Cert.Ffn10Ideal.τ).loc Cert.Ffn10Ideal.main_arg0) = m ((c.tc : Thread Cert.Ffn10Ideal.nD Cert.Ffn10Ideal.τ).loc Cert.Ffn10Ideal.main_arg0)
          ∧ r.2.mem ((c.tc : Thread Cert.Ffn10Ideal.nD Cert.Ffn10Ideal.τ).loc Cert.Ffn10Ideal.main_arg1) = m ((c.tc : Thread Cert.Ffn10Ideal.nD Cert.Ffn10Ideal.τ).loc Cert.Ffn10Ideal.main_arg1)
          ∧ r.2.mem ((c.tc : Thread Cert.Ffn10Ideal.nD Cert.Ffn10Ideal.τ).loc Cert.Ffn10Ideal.main_arg2) = m ((c.tc : Thread Cert.Ffn10Ideal.nD Cert.Ffn10Ideal.τ).loc Cert.Ffn10Ideal.main_arg2)
          ∧ r.2.mem ((c.tc : Thread Cert.Ffn10Ideal.nD Cert.Ffn10Ideal.τ).loc Cert.Ffn10Ideal.main_arg3) = m ((c.tc : Thread Cert.Ffn10Ideal.nD Cert.Ffn10Ideal.τ).loc Cert.Ffn10Ideal.main_arg3)
          ∧ r.2.mem ((c.tc : Thread Cert.Ffn10Ideal.nD Cert.Ffn10Ideal.τ).loc Cert.Ffn10Ideal.main_arg4) = m ((c.tc : Thread Cert.Ffn10Ideal.nD Cert.Ffn10Ideal.τ).loc Cert.Ffn10Ideal.main_arg4)
          ∧ r.2.mem ((c.tc : Thread Cert.Ffn10Ideal.nD Cert.Ffn10Ideal.τ).loc Cert.Ffn10Ideal.main_arg5) = m ((c.tc : Thread Cert.Ffn10Ideal.nD Cert.Ffn10Ideal.τ).loc Cert.Ffn10Ideal.main_arg5)
          ∧ r.2.mem ((c.tc : Thread Cert.Ffn10Ideal.nD Cert.Ffn10Ideal.τ).loc Cert.Ffn10Ideal.main_arg6) = m ((c.tc : Thread Cert.Ffn10Ideal.nD Cert.Ffn10Ideal.τ).loc Cert.Ffn10Ideal.main_arg6))
      ∧ θ_run (Cert.Ffn10ReferenceIdeal.defs (F := Ideal)) (onTc (τ := Cert.Ffn10ReferenceIdeal.τ) (Cert.Ffn10ReferenceIdeal.main (F := Ideal))) ⟨m', fun _ => 0, g'⟩ (fun r => ∀ c : Dev Cert.Ffn10ReferenceIdeal.nD,
          r.2.mem ((c.tc : Thread Cert.Ffn10ReferenceIdeal.nD Cert.Ffn10ReferenceIdeal.τ).loc Cert.Ffn10ReferenceIdeal.main_v66) = v0 c
          ∧ r.2.mem ((c.tc : Thread Cert.Ffn10ReferenceIdeal.nD Cert.Ffn10ReferenceIdeal.τ).loc Cert.Ffn10ReferenceIdeal.main_arg0) = m' ((c.tc : Thread Cert.Ffn10ReferenceIdeal.nD Cert.Ffn10ReferenceIdeal.τ).loc Cert.Ffn10ReferenceIdeal.main_arg0)
          ∧ r.2.mem ((c.tc : Thread Cert.Ffn10ReferenceIdeal.nD Cert.Ffn10ReferenceIdeal.τ).loc Cert.Ffn10ReferenceIdeal.main_arg1) = m' ((c.tc : Thread Cert.Ffn10ReferenceIdeal.nD Cert.Ffn10ReferenceIdeal.τ).loc Cert.Ffn10ReferenceIdeal.main_arg1)
          ∧ r.2.mem ((c.tc : Thread Cert.Ffn10ReferenceIdeal.nD Cert.Ffn10ReferenceIdeal.τ).loc Cert.Ffn10ReferenceIdeal.main_arg2) = m' ((c.tc : Thread Cert.Ffn10ReferenceIdeal.nD Cert.Ffn10ReferenceIdeal.τ).loc Cert.Ffn10ReferenceIdeal.main_arg2)
          ∧ r.2.mem ((c.tc : Thread Cert.Ffn10ReferenceIdeal.nD Cert.Ffn10ReferenceIdeal.τ).loc Cert.Ffn10ReferenceIdeal.main_arg3) = m' ((c.tc : Thread Cert.Ffn10ReferenceIdeal.nD Cert.Ffn10ReferenceIdeal.τ).loc Cert.Ffn10ReferenceIdeal.main_arg3)
          ∧ r.2.mem ((c.tc : Thread Cert.Ffn10ReferenceIdeal.nD Cert.Ffn10ReferenceIdeal.τ).loc Cert.Ffn10ReferenceIdeal.main_arg4) = m' ((c.tc : Thread Cert.Ffn10ReferenceIdeal.nD Cert.Ffn10ReferenceIdeal.τ).loc Cert.Ffn10ReferenceIdeal.main_arg4)
          ∧ r.2.mem ((c.tc : Thread Cert.Ffn10ReferenceIdeal.nD Cert.Ffn10ReferenceIdeal.τ).loc Cert.Ffn10ReferenceIdeal.main_arg5) = m' ((c.tc : Thread Cert.Ffn10ReferenceIdeal.nD Cert.Ffn10ReferenceIdeal.τ).loc Cert.Ffn10ReferenceIdeal.main_arg5)
          ∧ r.2.mem ((c.tc : Thread Cert.Ffn10ReferenceIdeal.nD Cert.Ffn10ReferenceIdeal.τ).loc Cert.Ffn10ReferenceIdeal.main_arg6) = m' ((c.tc : Thread Cert.Ffn10ReferenceIdeal.nD Cert.Ffn10ReferenceIdeal.τ).loc Cert.Ffn10ReferenceIdeal.main_arg6))

def preserves_Ffn11_Ffn11Ideal : Prop :=
  True

def algebraic_Ffn11Ideal_Ffn11ReferenceIdeal [hFfn11Ideal : Cert.Ffn11Ideal.Facts] [hFfn11ReferenceIdeal : Cert.Ffn11ReferenceIdeal.Facts] : Prop :=
  ∀ (m : (ℓ : Loc Cert.Ffn11Ideal.nD Cert.Ffn11Ideal.τ Cert.Ffn11Ideal.sig) → Buf (Elt Ideal) ℓ) (g : Dev Cert.Ffn11Ideal.nD → PrngReg)
    (m' : (ℓ : Loc Cert.Ffn11ReferenceIdeal.nD Cert.Ffn11ReferenceIdeal.τ Cert.Ffn11ReferenceIdeal.sig) → Buf (Elt Ideal) ℓ) (g' : Dev Cert.Ffn11ReferenceIdeal.nD → PrngReg), Pre_Ffn11Ideal m →
    (∀ c : Dev Cert.Ffn11Ideal.nD,
      m' ((c.tc : Thread Cert.Ffn11ReferenceIdeal.nD Cert.Ffn11ReferenceIdeal.τ).loc Cert.Ffn11ReferenceIdeal.main_arg0) = m ((c.tc : Thread Cert.Ffn11Ideal.nD Cert.Ffn11Ideal.τ).loc Cert.Ffn11Ideal.main_arg0)
      ∧ m' ((c.tc : Thread Cert.Ffn11ReferenceIdeal.nD Cert.Ffn11ReferenceIdeal.τ).loc Cert.Ffn11ReferenceIdeal.main_arg1) = m ((c.tc : Thread Cert.Ffn11Ideal.nD Cert.Ffn11Ideal.τ).loc Cert.Ffn11Ideal.main_arg1)
      ∧ m' ((c.tc : Thread Cert.Ffn11ReferenceIdeal.nD Cert.Ffn11ReferenceIdeal.τ).loc Cert.Ffn11ReferenceIdeal.main_arg2) = m ((c.tc : Thread Cert.Ffn11Ideal.nD Cert.Ffn11Ideal.τ).loc Cert.Ffn11Ideal.main_arg2)
      ∧ m' ((c.tc : Thread Cert.Ffn11ReferenceIdeal.nD Cert.Ffn11ReferenceIdeal.τ).loc Cert.Ffn11ReferenceIdeal.main_arg3) = m ((c.tc : Thread Cert.Ffn11Ideal.nD Cert.Ffn11Ideal.τ).loc Cert.Ffn11Ideal.main_arg3)
      ∧ m' ((c.tc : Thread Cert.Ffn11ReferenceIdeal.nD Cert.Ffn11ReferenceIdeal.τ).loc Cert.Ffn11ReferenceIdeal.main_arg4) = m ((c.tc : Thread Cert.Ffn11Ideal.nD Cert.Ffn11Ideal.τ).loc Cert.Ffn11Ideal.main_arg4)
      ∧ m' ((c.tc : Thread Cert.Ffn11ReferenceIdeal.nD Cert.Ffn11ReferenceIdeal.τ).loc Cert.Ffn11ReferenceIdeal.main_arg5) = m ((c.tc : Thread Cert.Ffn11Ideal.nD Cert.Ffn11Ideal.τ).loc Cert.Ffn11Ideal.main_arg5)
      ∧ m' ((c.tc : Thread Cert.Ffn11ReferenceIdeal.nD Cert.Ffn11ReferenceIdeal.τ).loc Cert.Ffn11ReferenceIdeal.main_arg6) = m ((c.tc : Thread Cert.Ffn11Ideal.nD Cert.Ffn11Ideal.τ).loc Cert.Ffn11Ideal.main_arg6)) →
    ∃ (v0 : (c : Dev Cert.Ffn11Ideal.nD) → Buf (Elt Ideal) ((c.tc : Thread Cert.Ffn11Ideal.nD Cert.Ffn11Ideal.τ).loc Cert.Ffn11Ideal.main_v12)),
      θ_run (Cert.Ffn11Ideal.defs (F := Ideal)) (onTc (τ := Cert.Ffn11Ideal.τ) (Cert.Ffn11Ideal.main (F := Ideal))) ⟨m, fun _ => 0, g⟩ (fun r => ∀ c : Dev Cert.Ffn11Ideal.nD,
          r.2.mem ((c.tc : Thread Cert.Ffn11Ideal.nD Cert.Ffn11Ideal.τ).loc Cert.Ffn11Ideal.main_v12) = v0 c
          ∧ r.2.mem ((c.tc : Thread Cert.Ffn11Ideal.nD Cert.Ffn11Ideal.τ).loc Cert.Ffn11Ideal.main_arg0) = m ((c.tc : Thread Cert.Ffn11Ideal.nD Cert.Ffn11Ideal.τ).loc Cert.Ffn11Ideal.main_arg0)
          ∧ r.2.mem ((c.tc : Thread Cert.Ffn11Ideal.nD Cert.Ffn11Ideal.τ).loc Cert.Ffn11Ideal.main_arg1) = m ((c.tc : Thread Cert.Ffn11Ideal.nD Cert.Ffn11Ideal.τ).loc Cert.Ffn11Ideal.main_arg1)
          ∧ r.2.mem ((c.tc : Thread Cert.Ffn11Ideal.nD Cert.Ffn11Ideal.τ).loc Cert.Ffn11Ideal.main_arg2) = m ((c.tc : Thread Cert.Ffn11Ideal.nD Cert.Ffn11Ideal.τ).loc Cert.Ffn11Ideal.main_arg2)
          ∧ r.2.mem ((c.tc : Thread Cert.Ffn11Ideal.nD Cert.Ffn11Ideal.τ).loc Cert.Ffn11Ideal.main_arg3) = m ((c.tc : Thread Cert.Ffn11Ideal.nD Cert.Ffn11Ideal.τ).loc Cert.Ffn11Ideal.main_arg3)
          ∧ r.2.mem ((c.tc : Thread Cert.Ffn11Ideal.nD Cert.Ffn11Ideal.τ).loc Cert.Ffn11Ideal.main_arg4) = m ((c.tc : Thread Cert.Ffn11Ideal.nD Cert.Ffn11Ideal.τ).loc Cert.Ffn11Ideal.main_arg4)
          ∧ r.2.mem ((c.tc : Thread Cert.Ffn11Ideal.nD Cert.Ffn11Ideal.τ).loc Cert.Ffn11Ideal.main_arg5) = m ((c.tc : Thread Cert.Ffn11Ideal.nD Cert.Ffn11Ideal.τ).loc Cert.Ffn11Ideal.main_arg5)
          ∧ r.2.mem ((c.tc : Thread Cert.Ffn11Ideal.nD Cert.Ffn11Ideal.τ).loc Cert.Ffn11Ideal.main_arg6) = m ((c.tc : Thread Cert.Ffn11Ideal.nD Cert.Ffn11Ideal.τ).loc Cert.Ffn11Ideal.main_arg6))
      ∧ θ_run (Cert.Ffn11ReferenceIdeal.defs (F := Ideal)) (onTc (τ := Cert.Ffn11ReferenceIdeal.τ) (Cert.Ffn11ReferenceIdeal.main (F := Ideal))) ⟨m', fun _ => 0, g'⟩ (fun r => ∀ c : Dev Cert.Ffn11ReferenceIdeal.nD,
          r.2.mem ((c.tc : Thread Cert.Ffn11ReferenceIdeal.nD Cert.Ffn11ReferenceIdeal.τ).loc Cert.Ffn11ReferenceIdeal.main_v66) = v0 c
          ∧ r.2.mem ((c.tc : Thread Cert.Ffn11ReferenceIdeal.nD Cert.Ffn11ReferenceIdeal.τ).loc Cert.Ffn11ReferenceIdeal.main_arg0) = m' ((c.tc : Thread Cert.Ffn11ReferenceIdeal.nD Cert.Ffn11ReferenceIdeal.τ).loc Cert.Ffn11ReferenceIdeal.main_arg0)
          ∧ r.2.mem ((c.tc : Thread Cert.Ffn11ReferenceIdeal.nD Cert.Ffn11ReferenceIdeal.τ).loc Cert.Ffn11ReferenceIdeal.main_arg1) = m' ((c.tc : Thread Cert.Ffn11ReferenceIdeal.nD Cert.Ffn11ReferenceIdeal.τ).loc Cert.Ffn11ReferenceIdeal.main_arg1)
          ∧ r.2.mem ((c.tc : Thread Cert.Ffn11ReferenceIdeal.nD Cert.Ffn11ReferenceIdeal.τ).loc Cert.Ffn11ReferenceIdeal.main_arg2) = m' ((c.tc : Thread Cert.Ffn11ReferenceIdeal.nD Cert.Ffn11ReferenceIdeal.τ).loc Cert.Ffn11ReferenceIdeal.main_arg2)
          ∧ r.2.mem ((c.tc : Thread Cert.Ffn11ReferenceIdeal.nD Cert.Ffn11ReferenceIdeal.τ).loc Cert.Ffn11ReferenceIdeal.main_arg3) = m' ((c.tc : Thread Cert.Ffn11ReferenceIdeal.nD Cert.Ffn11ReferenceIdeal.τ).loc Cert.Ffn11ReferenceIdeal.main_arg3)
          ∧ r.2.mem ((c.tc : Thread Cert.Ffn11ReferenceIdeal.nD Cert.Ffn11ReferenceIdeal.τ).loc Cert.Ffn11ReferenceIdeal.main_arg4) = m' ((c.tc : Thread Cert.Ffn11ReferenceIdeal.nD Cert.Ffn11ReferenceIdeal.τ).loc Cert.Ffn11ReferenceIdeal.main_arg4)
          ∧ r.2.mem ((c.tc : Thread Cert.Ffn11ReferenceIdeal.nD Cert.Ffn11ReferenceIdeal.τ).loc Cert.Ffn11ReferenceIdeal.main_arg5) = m' ((c.tc : Thread Cert.Ffn11ReferenceIdeal.nD Cert.Ffn11ReferenceIdeal.τ).loc Cert.Ffn11ReferenceIdeal.main_arg5)
          ∧ r.2.mem ((c.tc : Thread Cert.Ffn11ReferenceIdeal.nD Cert.Ffn11ReferenceIdeal.τ).loc Cert.Ffn11ReferenceIdeal.main_arg6) = m' ((c.tc : Thread Cert.Ffn11ReferenceIdeal.nD Cert.Ffn11ReferenceIdeal.τ).loc Cert.Ffn11ReferenceIdeal.main_arg6))

def preserves_Merge0_Merge0Ideal : Prop :=
  True

def algebraic_Merge0Ideal_Merge0ReferenceIdeal [hMerge0Ideal : Cert.Merge0Ideal.Facts] [hMerge0ReferenceIdeal : Cert.Merge0ReferenceIdeal.Facts] : Prop :=
  ∀ (m : (ℓ : Loc Cert.Merge0Ideal.nD Cert.Merge0Ideal.τ Cert.Merge0Ideal.sig) → Buf (Elt Ideal) ℓ) (g : Dev Cert.Merge0Ideal.nD → PrngReg)
    (m' : (ℓ : Loc Cert.Merge0ReferenceIdeal.nD Cert.Merge0ReferenceIdeal.τ Cert.Merge0ReferenceIdeal.sig) → Buf (Elt Ideal) ℓ) (g' : Dev Cert.Merge0ReferenceIdeal.nD → PrngReg), Pre_Merge0Ideal m →
    (∀ c : Dev Cert.Merge0Ideal.nD,
      m' ((c.tc : Thread Cert.Merge0ReferenceIdeal.nD Cert.Merge0ReferenceIdeal.τ).loc Cert.Merge0ReferenceIdeal.main_arg0) = m ((c.tc : Thread Cert.Merge0Ideal.nD Cert.Merge0Ideal.τ).loc Cert.Merge0Ideal.main_arg0)
      ∧ m' ((c.tc : Thread Cert.Merge0ReferenceIdeal.nD Cert.Merge0ReferenceIdeal.τ).loc Cert.Merge0ReferenceIdeal.main_arg1) = m ((c.tc : Thread Cert.Merge0Ideal.nD Cert.Merge0Ideal.τ).loc Cert.Merge0Ideal.main_arg1)
      ∧ m' ((c.tc : Thread Cert.Merge0ReferenceIdeal.nD Cert.Merge0ReferenceIdeal.τ).loc Cert.Merge0ReferenceIdeal.main_arg2) = m ((c.tc : Thread Cert.Merge0Ideal.nD Cert.Merge0Ideal.τ).loc Cert.Merge0Ideal.main_arg2)
      ∧ m' ((c.tc : Thread Cert.Merge0ReferenceIdeal.nD Cert.Merge0ReferenceIdeal.τ).loc Cert.Merge0ReferenceIdeal.main_arg3) = m ((c.tc : Thread Cert.Merge0Ideal.nD Cert.Merge0Ideal.τ).loc Cert.Merge0Ideal.main_arg3)
      ∧ m' ((c.tc : Thread Cert.Merge0ReferenceIdeal.nD Cert.Merge0ReferenceIdeal.τ).loc Cert.Merge0ReferenceIdeal.main_arg4) = m ((c.tc : Thread Cert.Merge0Ideal.nD Cert.Merge0Ideal.τ).loc Cert.Merge0Ideal.main_arg4)
      ∧ m' ((c.tc : Thread Cert.Merge0ReferenceIdeal.nD Cert.Merge0ReferenceIdeal.τ).loc Cert.Merge0ReferenceIdeal.main_arg5) = m ((c.tc : Thread Cert.Merge0Ideal.nD Cert.Merge0Ideal.τ).loc Cert.Merge0Ideal.main_arg5)
      ∧ m' ((c.tc : Thread Cert.Merge0ReferenceIdeal.nD Cert.Merge0ReferenceIdeal.τ).loc Cert.Merge0ReferenceIdeal.main_arg6) = m ((c.tc : Thread Cert.Merge0Ideal.nD Cert.Merge0Ideal.τ).loc Cert.Merge0Ideal.main_arg6)
      ∧ m' ((c.tc : Thread Cert.Merge0ReferenceIdeal.nD Cert.Merge0ReferenceIdeal.τ).loc Cert.Merge0ReferenceIdeal.main_arg7) = m ((c.tc : Thread Cert.Merge0Ideal.nD Cert.Merge0Ideal.τ).loc Cert.Merge0Ideal.main_arg7)
      ∧ m' ((c.tc : Thread Cert.Merge0ReferenceIdeal.nD Cert.Merge0ReferenceIdeal.τ).loc Cert.Merge0ReferenceIdeal.main_arg8) = m ((c.tc : Thread Cert.Merge0Ideal.nD Cert.Merge0Ideal.τ).loc Cert.Merge0Ideal.main_arg8)
      ∧ m' ((c.tc : Thread Cert.Merge0ReferenceIdeal.nD Cert.Merge0ReferenceIdeal.τ).loc Cert.Merge0ReferenceIdeal.main_arg9) = m ((c.tc : Thread Cert.Merge0Ideal.nD Cert.Merge0Ideal.τ).loc Cert.Merge0Ideal.main_arg9)
      ∧ m' ((c.tc : Thread Cert.Merge0ReferenceIdeal.nD Cert.Merge0ReferenceIdeal.τ).loc Cert.Merge0ReferenceIdeal.main_arg10) = m ((c.tc : Thread Cert.Merge0Ideal.nD Cert.Merge0Ideal.τ).loc Cert.Merge0Ideal.main_arg10)) →
    ∃ (v0 : (c : Dev Cert.Merge0Ideal.nD) → Buf (Elt Ideal) ((c.tc : Thread Cert.Merge0Ideal.nD Cert.Merge0Ideal.τ).loc Cert.Merge0Ideal.main_v28)),
      θ_run (Cert.Merge0Ideal.defs (F := Ideal)) (onTc (τ := Cert.Merge0Ideal.τ) (Cert.Merge0Ideal.main (F := Ideal))) ⟨m, fun _ => 0, g⟩ (fun r => ∀ c : Dev Cert.Merge0Ideal.nD,
          r.2.mem ((c.tc : Thread Cert.Merge0Ideal.nD Cert.Merge0Ideal.τ).loc Cert.Merge0Ideal.main_v28) = v0 c
          ∧ r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
          ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
          ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
          ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
          ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
          ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
          ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6)
          ∧ r.2.mem ((c.tc : Thread Cert.Merge0Ideal.nD Cert.Merge0Ideal.τ).loc Cert.Merge0Ideal.main_arg7) = m ((c.tc : Thread Cert.Merge0Ideal.nD Cert.Merge0Ideal.τ).loc Cert.Merge0Ideal.main_arg7)
          ∧ r.2.mem ((c.tc : Thread Cert.Merge0Ideal.nD Cert.Merge0Ideal.τ).loc Cert.Merge0Ideal.main_arg8) = m ((c.tc : Thread Cert.Merge0Ideal.nD Cert.Merge0Ideal.τ).loc Cert.Merge0Ideal.main_arg8)
          ∧ r.2.mem ((c.tc : Thread Cert.Merge0Ideal.nD Cert.Merge0Ideal.τ).loc Cert.Merge0Ideal.main_arg9) = m ((c.tc : Thread Cert.Merge0Ideal.nD Cert.Merge0Ideal.τ).loc Cert.Merge0Ideal.main_arg9)
          ∧ r.2.mem ((c.tc : Thread Cert.Merge0Ideal.nD Cert.Merge0Ideal.τ).loc Cert.Merge0Ideal.main_arg10) = m ((c.tc : Thread Cert.Merge0Ideal.nD Cert.Merge0Ideal.τ).loc Cert.Merge0Ideal.main_arg10))
      ∧ θ_run (Cert.Merge0ReferenceIdeal.defs (F := Ideal)) (onTc (τ := Cert.Merge0ReferenceIdeal.τ) (Cert.Merge0ReferenceIdeal.main (F := Ideal))) ⟨m', fun _ => 0, g'⟩ (fun r => ∀ c : Dev Cert.Merge0ReferenceIdeal.nD,
          r.2.mem ((c.tc : Thread Cert.Merge0ReferenceIdeal.nD Cert.Merge0ReferenceIdeal.τ).loc Cert.Merge0ReferenceIdeal.main_v85) = v0 c
          ∧ r.2.mem ((c.tc : Thread Cert.Merge0ReferenceIdeal.nD Cert.Merge0ReferenceIdeal.τ).loc Cert.Merge0ReferenceIdeal.main_arg0) = m' ((c.tc : Thread Cert.Merge0ReferenceIdeal.nD Cert.Merge0ReferenceIdeal.τ).loc Cert.Merge0ReferenceIdeal.main_arg0)
          ∧ r.2.mem ((c.tc : Thread Cert.Merge0ReferenceIdeal.nD Cert.Merge0ReferenceIdeal.τ).loc Cert.Merge0ReferenceIdeal.main_arg1) = m' ((c.tc : Thread Cert.Merge0ReferenceIdeal.nD Cert.Merge0ReferenceIdeal.τ).loc Cert.Merge0ReferenceIdeal.main_arg1)
          ∧ r.2.mem ((c.tc : Thread Cert.Merge0ReferenceIdeal.nD Cert.Merge0ReferenceIdeal.τ).loc Cert.Merge0ReferenceIdeal.main_arg2) = m' ((c.tc : Thread Cert.Merge0ReferenceIdeal.nD Cert.Merge0ReferenceIdeal.τ).loc Cert.Merge0ReferenceIdeal.main_arg2)
          ∧ r.2.mem ((c.tc : Thread Cert.Merge0ReferenceIdeal.nD Cert.Merge0ReferenceIdeal.τ).loc Cert.Merge0ReferenceIdeal.main_arg3) = m' ((c.tc : Thread Cert.Merge0ReferenceIdeal.nD Cert.Merge0ReferenceIdeal.τ).loc Cert.Merge0ReferenceIdeal.main_arg3)
          ∧ r.2.mem ((c.tc : Thread Cert.Merge0ReferenceIdeal.nD Cert.Merge0ReferenceIdeal.τ).loc Cert.Merge0ReferenceIdeal.main_arg4) = m' ((c.tc : Thread Cert.Merge0ReferenceIdeal.nD Cert.Merge0ReferenceIdeal.τ).loc Cert.Merge0ReferenceIdeal.main_arg4)
          ∧ r.2.mem ((c.tc : Thread Cert.Merge0ReferenceIdeal.nD Cert.Merge0ReferenceIdeal.τ).loc Cert.Merge0ReferenceIdeal.main_arg5) = m' ((c.tc : Thread Cert.Merge0ReferenceIdeal.nD Cert.Merge0ReferenceIdeal.τ).loc Cert.Merge0ReferenceIdeal.main_arg5)
          ∧ r.2.mem ((c.tc : Thread Cert.Merge0ReferenceIdeal.nD Cert.Merge0ReferenceIdeal.τ).loc Cert.Merge0ReferenceIdeal.main_arg6) = m' ((c.tc : Thread Cert.Merge0ReferenceIdeal.nD Cert.Merge0ReferenceIdeal.τ).loc Cert.Merge0ReferenceIdeal.main_arg6)
          ∧ r.2.mem ((c.tc : Thread Cert.Merge0ReferenceIdeal.nD Cert.Merge0ReferenceIdeal.τ).loc Cert.Merge0ReferenceIdeal.main_arg7) = m' ((c.tc : Thread Cert.Merge0ReferenceIdeal.nD Cert.Merge0ReferenceIdeal.τ).loc Cert.Merge0ReferenceIdeal.main_arg7)
          ∧ r.2.mem ((c.tc : Thread Cert.Merge0ReferenceIdeal.nD Cert.Merge0ReferenceIdeal.τ).loc Cert.Merge0ReferenceIdeal.main_arg8) = m' ((c.tc : Thread Cert.Merge0ReferenceIdeal.nD Cert.Merge0ReferenceIdeal.τ).loc Cert.Merge0ReferenceIdeal.main_arg8)
          ∧ r.2.mem ((c.tc : Thread Cert.Merge0ReferenceIdeal.nD Cert.Merge0ReferenceIdeal.τ).loc Cert.Merge0ReferenceIdeal.main_arg9) = m' ((c.tc : Thread Cert.Merge0ReferenceIdeal.nD Cert.Merge0ReferenceIdeal.τ).loc Cert.Merge0ReferenceIdeal.main_arg9)
          ∧ r.2.mem ((c.tc : Thread Cert.Merge0ReferenceIdeal.nD Cert.Merge0ReferenceIdeal.τ).loc Cert.Merge0ReferenceIdeal.main_arg10) = m' ((c.tc : Thread Cert.Merge0ReferenceIdeal.nD Cert.Merge0ReferenceIdeal.τ).loc Cert.Merge0ReferenceIdeal.main_arg10))

def preserves_Merge1_Merge1Ideal : Prop :=
  True

def algebraic_Merge1Ideal_Merge1ReferenceIdeal [hMerge1Ideal : Cert.Merge1Ideal.Facts] [hMerge1ReferenceIdeal : Cert.Merge1ReferenceIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Merge1ReferenceIdeal.nD Cert.Merge1ReferenceIdeal.τ Cert.Merge1ReferenceIdeal.sig) → Buf (Elt Ideal) ℓ) (g' : Dev Cert.Merge1ReferenceIdeal.nD → PrngReg), Pre_Merge1Ideal m →
    (∀ c : Dev Cert.Merge1Ideal.nD,
      m' ((c.tc : Thread Cert.Merge1ReferenceIdeal.nD Cert.Merge1ReferenceIdeal.τ).loc Cert.Merge1ReferenceIdeal.main_arg0) = m ((c.tc : Thread Cert.Merge1Ideal.nD Cert.Merge1Ideal.τ).loc Cert.Merge1Ideal.main_arg0)
      ∧ m' ((c.tc : Thread Cert.Merge1ReferenceIdeal.nD Cert.Merge1ReferenceIdeal.τ).loc Cert.Merge1ReferenceIdeal.main_arg1) = m ((c.tc : Thread Cert.Merge1Ideal.nD Cert.Merge1Ideal.τ).loc Cert.Merge1Ideal.main_arg1)
      ∧ m' ((c.tc : Thread Cert.Merge1ReferenceIdeal.nD Cert.Merge1ReferenceIdeal.τ).loc Cert.Merge1ReferenceIdeal.main_arg2) = m ((c.tc : Thread Cert.Merge1Ideal.nD Cert.Merge1Ideal.τ).loc Cert.Merge1Ideal.main_arg2)
      ∧ m' ((c.tc : Thread Cert.Merge1ReferenceIdeal.nD Cert.Merge1ReferenceIdeal.τ).loc Cert.Merge1ReferenceIdeal.main_arg3) = m ((c.tc : Thread Cert.Merge1Ideal.nD Cert.Merge1Ideal.τ).loc Cert.Merge1Ideal.main_arg3)
      ∧ m' ((c.tc : Thread Cert.Merge1ReferenceIdeal.nD Cert.Merge1ReferenceIdeal.τ).loc Cert.Merge1ReferenceIdeal.main_arg4) = m ((c.tc : Thread Cert.Merge1Ideal.nD Cert.Merge1Ideal.τ).loc Cert.Merge1Ideal.main_arg4)
      ∧ m' ((c.tc : Thread Cert.Merge1ReferenceIdeal.nD Cert.Merge1ReferenceIdeal.τ).loc Cert.Merge1ReferenceIdeal.main_arg5) = m ((c.tc : Thread Cert.Merge1Ideal.nD Cert.Merge1Ideal.τ).loc Cert.Merge1Ideal.main_arg5)
      ∧ m' ((c.tc : Thread Cert.Merge1ReferenceIdeal.nD Cert.Merge1ReferenceIdeal.τ).loc Cert.Merge1ReferenceIdeal.main_arg6) = m ((c.tc : Thread Cert.Merge1Ideal.nD Cert.Merge1Ideal.τ).loc Cert.Merge1Ideal.main_arg6)
      ∧ m' ((c.tc : Thread Cert.Merge1ReferenceIdeal.nD Cert.Merge1ReferenceIdeal.τ).loc Cert.Merge1ReferenceIdeal.main_arg7) = m ((c.tc : Thread Cert.Merge1Ideal.nD Cert.Merge1Ideal.τ).loc Cert.Merge1Ideal.main_arg7)
      ∧ m' ((c.tc : Thread Cert.Merge1ReferenceIdeal.nD Cert.Merge1ReferenceIdeal.τ).loc Cert.Merge1ReferenceIdeal.main_arg8) = m ((c.tc : Thread Cert.Merge1Ideal.nD Cert.Merge1Ideal.τ).loc Cert.Merge1Ideal.main_arg8)
      ∧ m' ((c.tc : Thread Cert.Merge1ReferenceIdeal.nD Cert.Merge1ReferenceIdeal.τ).loc Cert.Merge1ReferenceIdeal.main_arg9) = m ((c.tc : Thread Cert.Merge1Ideal.nD Cert.Merge1Ideal.τ).loc Cert.Merge1Ideal.main_arg9)
      ∧ m' ((c.tc : Thread Cert.Merge1ReferenceIdeal.nD Cert.Merge1ReferenceIdeal.τ).loc Cert.Merge1ReferenceIdeal.main_arg10) = m ((c.tc : Thread Cert.Merge1Ideal.nD Cert.Merge1Ideal.τ).loc Cert.Merge1Ideal.main_arg10)) →
    ∃ (v0 : (c : Dev Cert.Merge1Ideal.nD) → Buf (Elt Ideal) ((c.tc : Thread Cert.Merge1Ideal.nD Cert.Merge1Ideal.τ).loc Cert.Merge1Ideal.main_v28)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v28) = v0 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
          ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
          ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
          ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7)
          ∧ r.2.mem ((c.tc : Thread Cert.Merge1Ideal.nD Cert.Merge1Ideal.τ).loc Cert.Merge1Ideal.main_arg8) = m ((c.tc : Thread Cert.Merge1Ideal.nD Cert.Merge1Ideal.τ).loc Cert.Merge1Ideal.main_arg8)
          ∧ r.2.mem ((c.tc : Thread Cert.Merge1Ideal.nD Cert.Merge1Ideal.τ).loc Cert.Merge1Ideal.main_arg9) = m ((c.tc : Thread Cert.Merge1Ideal.nD Cert.Merge1Ideal.τ).loc Cert.Merge1Ideal.main_arg9)
          ∧ r.2.mem ((c.tc : Thread Cert.Merge1Ideal.nD Cert.Merge1Ideal.τ).loc Cert.Merge1Ideal.main_arg10) = m ((c.tc : Thread Cert.Merge1Ideal.nD Cert.Merge1Ideal.τ).loc Cert.Merge1Ideal.main_arg10))
      ∧ θ_run (Cert.Merge1ReferenceIdeal.defs (F := Ideal)) (onTc (τ := Cert.Merge1ReferenceIdeal.τ) (Cert.Merge1ReferenceIdeal.main (F := Ideal))) ⟨m', fun _ => 0, g'⟩ (fun r => ∀ c : Dev Cert.Merge1ReferenceIdeal.nD,
          r.2.mem ((c.tc : Thread Cert.Merge1ReferenceIdeal.nD Cert.Merge1ReferenceIdeal.τ).loc Cert.Merge1ReferenceIdeal.main_v85) = v0 c
          ∧ r.2.mem ((c.tc : Thread Cert.Merge1ReferenceIdeal.nD Cert.Merge1ReferenceIdeal.τ).loc Cert.Merge1ReferenceIdeal.main_arg0) = m' ((c.tc : Thread Cert.Merge1ReferenceIdeal.nD Cert.Merge1ReferenceIdeal.τ).loc Cert.Merge1ReferenceIdeal.main_arg0)
          ∧ r.2.mem ((c.tc : Thread Cert.Merge1ReferenceIdeal.nD Cert.Merge1ReferenceIdeal.τ).loc Cert.Merge1ReferenceIdeal.main_arg1) = m' ((c.tc : Thread Cert.Merge1ReferenceIdeal.nD Cert.Merge1ReferenceIdeal.τ).loc Cert.Merge1ReferenceIdeal.main_arg1)
          ∧ r.2.mem ((c.tc : Thread Cert.Merge1ReferenceIdeal.nD Cert.Merge1ReferenceIdeal.τ).loc Cert.Merge1ReferenceIdeal.main_arg2) = m' ((c.tc : Thread Cert.Merge1ReferenceIdeal.nD Cert.Merge1ReferenceIdeal.τ).loc Cert.Merge1ReferenceIdeal.main_arg2)
          ∧ r.2.mem ((c.tc : Thread Cert.Merge1ReferenceIdeal.nD Cert.Merge1ReferenceIdeal.τ).loc Cert.Merge1ReferenceIdeal.main_arg3) = m' ((c.tc : Thread Cert.Merge1ReferenceIdeal.nD Cert.Merge1ReferenceIdeal.τ).loc Cert.Merge1ReferenceIdeal.main_arg3)
          ∧ r.2.mem ((c.tc : Thread Cert.Merge1ReferenceIdeal.nD Cert.Merge1ReferenceIdeal.τ).loc Cert.Merge1ReferenceIdeal.main_arg4) = m' ((c.tc : Thread Cert.Merge1ReferenceIdeal.nD Cert.Merge1ReferenceIdeal.τ).loc Cert.Merge1ReferenceIdeal.main_arg4)
          ∧ r.2.mem ((c.tc : Thread Cert.Merge1ReferenceIdeal.nD Cert.Merge1ReferenceIdeal.τ).loc Cert.Merge1ReferenceIdeal.main_arg5) = m' ((c.tc : Thread Cert.Merge1ReferenceIdeal.nD Cert.Merge1ReferenceIdeal.τ).loc Cert.Merge1ReferenceIdeal.main_arg5)
          ∧ r.2.mem ((c.tc : Thread Cert.Merge1ReferenceIdeal.nD Cert.Merge1ReferenceIdeal.τ).loc Cert.Merge1ReferenceIdeal.main_arg6) = m' ((c.tc : Thread Cert.Merge1ReferenceIdeal.nD Cert.Merge1ReferenceIdeal.τ).loc Cert.Merge1ReferenceIdeal.main_arg6)
          ∧ r.2.mem ((c.tc : Thread Cert.Merge1ReferenceIdeal.nD Cert.Merge1ReferenceIdeal.τ).loc Cert.Merge1ReferenceIdeal.main_arg7) = m' ((c.tc : Thread Cert.Merge1ReferenceIdeal.nD Cert.Merge1ReferenceIdeal.τ).loc Cert.Merge1ReferenceIdeal.main_arg7)
          ∧ r.2.mem ((c.tc : Thread Cert.Merge1ReferenceIdeal.nD Cert.Merge1ReferenceIdeal.τ).loc Cert.Merge1ReferenceIdeal.main_arg8) = m' ((c.tc : Thread Cert.Merge1ReferenceIdeal.nD Cert.Merge1ReferenceIdeal.τ).loc Cert.Merge1ReferenceIdeal.main_arg8)
          ∧ r.2.mem ((c.tc : Thread Cert.Merge1ReferenceIdeal.nD Cert.Merge1ReferenceIdeal.τ).loc Cert.Merge1ReferenceIdeal.main_arg9) = m' ((c.tc : Thread Cert.Merge1ReferenceIdeal.nD Cert.Merge1ReferenceIdeal.τ).loc Cert.Merge1ReferenceIdeal.main_arg9)
          ∧ r.2.mem ((c.tc : Thread Cert.Merge1ReferenceIdeal.nD Cert.Merge1ReferenceIdeal.τ).loc Cert.Merge1ReferenceIdeal.main_arg10) = m' ((c.tc : Thread Cert.Merge1ReferenceIdeal.nD Cert.Merge1ReferenceIdeal.τ).loc Cert.Merge1ReferenceIdeal.main_arg10))

def preserves_Stick_StickIdeal : Prop :=
  IdealRules.named_const.Statement Cert.StickIdeal.κ "log2e" .f32 0x3FB8AA3B#32 (((Real.log 2)⁻¹ : ℝ) : EReal)
  ∧ IdealRules.named_const.Statement Cert.StickIdeal.κ "zero_at" .f32 0xC3160000#32 ⊥

def algebraic_StickIdeal_StickReferenceIdeal [hStickIdeal : Cert.StickIdeal.Facts] [hStickReferenceIdeal : Cert.StickReferenceIdeal.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickReferenceIdeal.nD Cert.StickReferenceIdeal.τ Cert.StickReferenceIdeal.sig) → Buf (Elt Ideal) ℓ) (g' : Dev Cert.StickReferenceIdeal.nD → PrngReg), Pre_StickIdeal m →
    (∀ c : Dev Cert.StickIdeal.nD,
      m' ((c.tc : Thread Cert.StickReferenceIdeal.nD Cert.StickReferenceIdeal.τ).loc Cert.StickReferenceIdeal.main_arg0) = m ((c.tc : Thread Cert.StickIdeal.nD Cert.StickIdeal.τ).loc Cert.StickIdeal.main_arg0)
      ∧ m' ((c.tc : Thread Cert.StickReferenceIdeal.nD Cert.StickReferenceIdeal.τ).loc Cert.StickReferenceIdeal.main_arg1) = m ((c.tc : Thread Cert.StickIdeal.nD Cert.StickIdeal.τ).loc Cert.StickIdeal.main_arg1)
      ∧ m' ((c.tc : Thread Cert.StickReferenceIdeal.nD Cert.StickReferenceIdeal.τ).loc Cert.StickReferenceIdeal.main_arg2) = m ((c.tc : Thread Cert.StickIdeal.nD Cert.StickIdeal.τ).loc Cert.StickIdeal.main_arg2)) →
    ∃ (v0 : (c : Dev Cert.StickIdeal.nD) → Buf (Elt Ideal) ((c.tc : Thread Cert.StickIdeal.nD Cert.StickIdeal.τ).loc Cert.StickIdeal.main_v26)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v26) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ θ_run (Cert.StickReferenceIdeal.defs (F := Ideal)) (onTc (τ := Cert.StickReferenceIdeal.τ) (Cert.StickReferenceIdeal.main (F := Ideal))) ⟨m', fun _ => 0, g'⟩ (fun r => ∀ c : Dev Cert.StickReferenceIdeal.nD,
          r.2.mem ((c.tc : Thread Cert.StickReferenceIdeal.nD Cert.StickReferenceIdeal.τ).loc Cert.StickReferenceIdeal.main_v21) = v0 c
          ∧ r.2.mem ((c.tc : Thread Cert.StickReferenceIdeal.nD Cert.StickReferenceIdeal.τ).loc Cert.StickReferenceIdeal.main_arg0) = m' ((c.tc : Thread Cert.StickReferenceIdeal.nD Cert.StickReferenceIdeal.τ).loc Cert.StickReferenceIdeal.main_arg0)
          ∧ r.2.mem ((c.tc : Thread Cert.StickReferenceIdeal.nD Cert.StickReferenceIdeal.τ).loc Cert.StickReferenceIdeal.main_arg1) = m' ((c.tc : Thread Cert.StickReferenceIdeal.nD Cert.StickReferenceIdeal.τ).loc Cert.StickReferenceIdeal.main_arg1)
          ∧ r.2.mem ((c.tc : Thread Cert.StickReferenceIdeal.nD Cert.StickReferenceIdeal.τ).loc Cert.StickReferenceIdeal.main_arg2) = m' ((c.tc : Thread Cert.StickReferenceIdeal.nD Cert.StickReferenceIdeal.τ).loc Cert.StickReferenceIdeal.main_arg2))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v17) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_Proj_ProjIdeal : Prop :=
  IdealRules.named_const.Statement Cert.ProjIdeal.κ "scale" .f32 0x3E38AA3B#32 (((8 * (Real.log 2))⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v121_2)) (v1 : (c : Dev Cert.ProjIdeal.nD) → Buf (Elt Ideal) ((c.tc : Thread Cert.ProjIdeal.nD Cert.ProjIdeal.τ).loc Cert.ProjIdeal.main_v121_4)) (v2 : (c : Dev Cert.ProjIdeal.nD) → Buf (Elt Ideal) ((c.tc : Thread Cert.ProjIdeal.nD Cert.ProjIdeal.τ).loc Cert.ProjIdeal.main_v121_5)) (v3 : (c : Dev Cert.ProjIdeal.nD) → Buf (Elt Ideal) ((c.tc : Thread Cert.ProjIdeal.nD Cert.ProjIdeal.τ).loc Cert.ProjIdeal.main_v121_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v121_2) = v0 c
          ∧ r.2.mem ((c.tc : Thread Cert.ProjIdeal.nD Cert.ProjIdeal.τ).loc Cert.ProjIdeal.main_v121_4) = v1 c
          ∧ r.2.mem ((c.tc : Thread Cert.ProjIdeal.nD Cert.ProjIdeal.τ).loc Cert.ProjIdeal.main_v121_5) = v2 c
          ∧ r.2.mem ((c.tc : Thread Cert.ProjIdeal.nD Cert.ProjIdeal.τ).loc Cert.ProjIdeal.main_v121_6) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v40) = v0 c
          ∧ r.2.mem ((c.tc : Thread Cert.ProjReferenceIdeal.nD Cert.ProjReferenceIdeal.τ).loc Cert.ProjReferenceIdeal.main_v46) = v1 c
          ∧ r.2.mem ((c.tc : Thread Cert.ProjReferenceIdeal.nD Cert.ProjReferenceIdeal.τ).loc Cert.ProjReferenceIdeal.main_v47) = v2 c
          ∧ r.2.mem ((c.tc : Thread Cert.ProjReferenceIdeal.nD Cert.ProjReferenceIdeal.τ).loc Cert.ProjReferenceIdeal.main_v50) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hFfn00 : Cert.Ffn00.Facts) (hFfn00Ideal : Cert.Ffn00Ideal.Facts) (hFfn00ReferenceIdeal : Cert.Ffn00ReferenceIdeal.Facts) (hFfn01 : Cert.Ffn01.Facts) (hFfn01Ideal : Cert.Ffn01Ideal.Facts) (hFfn01ReferenceIdeal : Cert.Ffn01ReferenceIdeal.Facts) (hFfn10 : Cert.Ffn10.Facts) (hFfn10Ideal : Cert.Ffn10Ideal.Facts) (hFfn10ReferenceIdeal : Cert.Ffn10ReferenceIdeal.Facts) (hFfn11 : Cert.Ffn11.Facts) (hFfn11Ideal : Cert.Ffn11Ideal.Facts) (hFfn11ReferenceIdeal : Cert.Ffn11ReferenceIdeal.Facts) (hMerge0 : Cert.Merge0.Facts) (hMerge0Ideal : Cert.Merge0Ideal.Facts) (hMerge0ReferenceIdeal : Cert.Merge0ReferenceIdeal.Facts) (hMerge1 : Cert.Merge1.Facts) (hMerge1Ideal : Cert.Merge1Ideal.Facts) (hMerge1ReferenceIdeal : Cert.Merge1ReferenceIdeal.Facts) (hStick : Cert.Stick.Facts) (hStickIdeal : Cert.StickIdeal.Facts) (hStickReferenceIdeal : Cert.StickReferenceIdeal.Facts) (hMod : Cert.Mod.Facts) (hModIdeal : Cert.ModIdeal.Facts) (hModReferenceIdeal : Cert.ModReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn00 (hFfn00 := hFfn00)
    ∧ quiescent_Ffn00Ideal (hFfn00Ideal := hFfn00Ideal)
    ∧ quiescent_Ffn00ReferenceIdeal (hFfn00ReferenceIdeal := hFfn00ReferenceIdeal)
    ∧ quiescent_Ffn01 (hFfn01 := hFfn01)
    ∧ quiescent_Ffn01Ideal (hFfn01Ideal := hFfn01Ideal)
    ∧ quiescent_Ffn01ReferenceIdeal (hFfn01ReferenceIdeal := hFfn01ReferenceIdeal)
    ∧ quiescent_Ffn10 (hFfn10 := hFfn10)
    ∧ quiescent_Ffn10Ideal (hFfn10Ideal := hFfn10Ideal)
    ∧ quiescent_Ffn10ReferenceIdeal (hFfn10ReferenceIdeal := hFfn10ReferenceIdeal)
    ∧ quiescent_Ffn11 (hFfn11 := hFfn11)
    ∧ quiescent_Ffn11Ideal (hFfn11Ideal := hFfn11Ideal)
    ∧ quiescent_Ffn11ReferenceIdeal (hFfn11ReferenceIdeal := hFfn11ReferenceIdeal)
    ∧ quiescent_Merge0 (hMerge0 := hMerge0)
    ∧ quiescent_Merge0Ideal (hMerge0Ideal := hMerge0Ideal)
    ∧ quiescent_Merge0ReferenceIdeal (hMerge0ReferenceIdeal := hMerge0ReferenceIdeal)
    ∧ quiescent_Merge1 (hMerge1 := hMerge1)
    ∧ quiescent_Merge1Ideal (hMerge1Ideal := hMerge1Ideal)
    ∧ quiescent_Merge1ReferenceIdeal (hMerge1ReferenceIdeal := hMerge1ReferenceIdeal)
    ∧ quiescent_Stick (hStick := hStick)
    ∧ quiescent_StickIdeal (hStickIdeal := hStickIdeal)
    ∧ quiescent_StickReferenceIdeal (hStickReferenceIdeal := hStickReferenceIdeal)
    ∧ quiescent_Mod (hMod := hMod)
    ∧ quiescent_ModIdeal (hModIdeal := hModIdeal)
    ∧ quiescent_ModReferenceIdeal (hModReferenceIdeal := hModReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn00_Ffn00Ideal
    ∧ algebraic_Ffn00Ideal_Ffn00ReferenceIdeal (hFfn00Ideal := hFfn00Ideal) (hFfn00ReferenceIdeal := hFfn00ReferenceIdeal)
    ∧ preserves_Ffn01_Ffn01Ideal
    ∧ algebraic_Ffn01Ideal_Ffn01ReferenceIdeal (hFfn01Ideal := hFfn01Ideal) (hFfn01ReferenceIdeal := hFfn01ReferenceIdeal)
    ∧ preserves_Ffn10_Ffn10Ideal
    ∧ algebraic_Ffn10Ideal_Ffn10ReferenceIdeal (hFfn10Ideal := hFfn10Ideal) (hFfn10ReferenceIdeal := hFfn10ReferenceIdeal)
    ∧ preserves_Ffn11_Ffn11Ideal
    ∧ algebraic_Ffn11Ideal_Ffn11ReferenceIdeal (hFfn11Ideal := hFfn11Ideal) (hFfn11ReferenceIdeal := hFfn11ReferenceIdeal)
    ∧ preserves_Merge0_Merge0Ideal
    ∧ algebraic_Merge0Ideal_Merge0ReferenceIdeal (hMerge0Ideal := hMerge0Ideal) (hMerge0ReferenceIdeal := hMerge0ReferenceIdeal)
    ∧ preserves_Merge1_Merge1Ideal
    ∧ algebraic_Merge1Ideal_Merge1ReferenceIdeal (hMerge1Ideal := hMerge1Ideal) (hMerge1ReferenceIdeal := hMerge1ReferenceIdeal)
    ∧ preserves_Stick_StickIdeal
    ∧ algebraic_StickIdeal_StickReferenceIdeal (hStickIdeal := hStickIdeal) (hStickReferenceIdeal := hStickReferenceIdeal)
    ∧ preserves_Mod_ModIdeal
    ∧ algebraic_ModIdeal_ModReferenceIdeal (hModIdeal := hModIdeal) (hModReferenceIdeal := hModReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S1x8x16384x96 : Shape := ⟨4, ![1, 8, 16384, 96]⟩
abbrev S1x8x16384x64 : Shape := ⟨4, ![1, 8, 16384, 64]⟩
abbrev S_ : Shape := ⟨0, ![]⟩

class Facts : Prop where
  bcast_S_S1x8x16384x96 : S_.BroadcastsInDim S1x8x16384x96 (![] : Fin 0 → Fin S1x8x16384x96.rank)

variable [Facts]

def fn {F : FTy → Type} [FloatOps F] (main_arg0 : FVec F S1x8x16384x96 .f32) (main_arg1 : FVec F S1x8x16384x96 .f32) (main_arg2 : FVec F S1x8x16384x64 .f32) : IVec S1x8x16384x96 1 × IVec S1x8x16384x96 1 :=
  let main_v0 : FVec F S1x8x16384x96 .f32 := Host.absf main_arg0
  let main_cst : FVec F S_ .f32 := constant S_ .f32 0x7F800000#32
  let main_v1 : FVec F S1x8x16384x96 .f32 := broadcastInDim S1x8x16384x96 ![] bcast_S_S1x8x16384x96 main_cst
  let main_v2 : IVec S1x8x16384x96 1 := cmpf .olt main_v0 main_v1
  let main_v3 : FVec F S1x8x16384x96 .f32 := Host.absf main_arg1
  let main_cst_0 : FVec F S_ .f32 := constant S_ .f32 0x7F800000#32
  let main_v4 : FVec F S1x8x16384x96 .f32 := broadcastInDim S1x8x16384x96 ![] bcast_S_S1x8x16384x96 main_cst_0
  let main_v5 : IVec S1x8x16384x96 1 := cmpf .olt main_v3 main_v4
  (main_v2, main_v5)
-- ==== Kernel.lean ====
abbrev S1x8x16384x96 : Shape := ⟨4, ![1, 8, 16384, 96]⟩
abbrev S1x8x16384x64 : Shape := ⟨4, ![1, 8, 16384, 64]⟩
abbrev S_ : Shape := ⟨0, ![]⟩
abbrev S8x16384x96 : Shape := ⟨3, ![8, 16384, 96]⟩
abbrev S16384x8x96 : Shape := ⟨3, ![16384, 8, 96]⟩
abbrev S16384x8x128 : Shape := ⟨3, ![16384, 8, 128]⟩
abbrev S16384x1024 : Shape := ⟨2, ![16384, 1024]⟩
abbrev S8x16384x64 : Shape := ⟨3, ![8, 16384, 64]⟩
abbrev S8x64x256x64 : Shape := ⟨4, ![8, 64, 256, 64]⟩
abbrev S64x8x64x256 : Shape := ⟨4, ![64, 8, 64, 256]⟩
abbrev S64x512x256 : Shape := ⟨3, ![64, 512, 256]⟩
abbrev S16384x512 : Shape := ⟨2, ![16384, 512]⟩
abbrev S512x512 : Shape := ⟨2, ![512, 512]⟩
abbrev S64x256x256 : Shape := ⟨3, ![64, 256, 256]⟩
abbrev S512x256 : Shape := ⟨2, ![512, 256]⟩
abbrev S512x128 : Shape := ⟨2, ![512, 128]⟩
abbrev S16x256 : Shape := ⟨2, ![16, 256]⟩
abbrev S1x512 : Shape := ⟨2, ![1, 512]⟩
abbrev S80x512 : Shape := ⟨2, ![80, 512]⟩
abbrev S256x512 : Shape := ⟨2, ![256, 512]⟩
abbrev S512 : Shape := ⟨1, ![512]⟩
abbrev S1x64x256 : Shape := ⟨3, ![1, 64, 256]⟩
abbrev S64x256 : Shape := ⟨2, ![64, 256]⟩
abbrev S80x256 : Shape := ⟨2, ![80, 256]⟩
abbrev S64x512 : Shape := ⟨2, ![64, 512]⟩

abbrev nBuf : Space → Nat
  | .hbm => 30
  | .vmem => 10
  | .smem => 0
  | _ => 0

abbrev bufTy : (tb : Table) → Fin (tcTables nBuf tb) → BufTy
  | .hbm, ⟨0, _⟩ => ⟨S1x8x16384x96, .f32⟩
  | .hbm, ⟨1, _⟩ => ⟨S1x8x16384x96, .f32⟩
  | .hbm, ⟨2, _⟩ => ⟨S1x8x16384x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x16384x96, .f32⟩
  | .hbm, ⟨9, _⟩ => ⟨S16384x8x96, .f32⟩
  | .hbm, ⟨10, _⟩ => ⟨S16384x8x96, .f32⟩
  | .hbm, ⟨11, _⟩ => ⟨S16384x8x96, .f32⟩
  | .hbm, ⟨12, _⟩ => ⟨S16384x8x96, .bf16⟩
  | .hbm, ⟨13, _⟩ => ⟨S_, .i32⟩
  | .hbm, ⟨14, _⟩ => ⟨S_, .bf16⟩
  | .hbm, ⟨15, _⟩ => ⟨S16384x8x128, .bf16⟩
  | .hbm, ⟨16, _⟩ => ⟨S16384x1024, .bf16⟩
  | .hbm, ⟨17, _⟩ => ⟨S8x16384x96, .f32⟩
  | .hbm, ⟨18, _⟩ => ⟨S16384x8x96, .f32⟩
  | .hbm, ⟨19, _⟩ => ⟨S16384x8x96, .bf16⟩
  | .hbm, ⟨20, _⟩ => ⟨S_, .i32⟩
  | .hbm, ⟨21, _⟩ => ⟨S_, .bf16⟩
  | .hbm, ⟨22, _⟩ => ⟨S16384x8x128, .bf16⟩
  | .hbm, ⟨23, _⟩ => ⟨S16384x1024, .bf16⟩
  | .hbm, ⟨24, _⟩ => ⟨S8x16384x64, .f32⟩
  | .hbm, ⟨25, _⟩ => ⟨S8x64x256x64, .f32⟩
  | .hbm, ⟨26, _⟩ => ⟨S64x8x64x256, .f32⟩
  | .hbm, ⟨27, _⟩ => ⟨S64x512x256, .f32⟩
  | .hbm, ⟨28, _⟩ => ⟨S64x512x256, .bf16⟩
  | .hbm, ⟨29, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S16384x512, .bf16⟩
  | .local _ .vmem, ⟨3, _⟩ => ⟨S64x256x256, .bf16⟩
  | .local _ .vmem, ⟨4, _⟩ => ⟨S512x256, .bf16⟩
  | .local _ .vmem, ⟨5, _⟩ => ⟨S512x256, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S1x8x16384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c512_i32 : BitVec 32 := 512#32
  let v13 : BitVec 32 := Scalar.muli arg1 c512_i32
  v13
def k0_off1 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v15 : Index := Scalar.indexCast v14
  let c0_6 : Index := 0#32
  ![v15.toNat, 0]
def k0_mult2 (i : grid0.Coords) : BitVec 32 :=
  let arg1 : BitVec 32 := BitVec.ofNat 32 (i 1).val
  let c512_i32_17 : BitVec 32 := 512#32
  let v46 : BitVec 32 := Scalar.muli arg1 c512_i32_17
  v46
def k0_off2 (i : grid0.Coords) : Fin 2 → Nat :=
  let arg1 : BitVec 32 := BitVec.ofNat 32 (i 1).val
  let c512_i32_17 : BitVec 32 := 512#32
  let v46 : BitVec 32 := Scalar.muli arg1 c512_i32_17
  let v47 : BitVec 32 := v46
  let v48 : Index := Scalar.indexCast v47
  let c128_18 : Index := 128#32
  ![v48.toNat, 128]
def k0_mult3 (i : grid0.Coords) : BitVec 32 :=
  let arg1 : BitVec 32 := BitVec.ofNat 32 (i 1).val
  let c512_i32_30 : BitVec 32 := 512#32
  let v79 : BitVec 32 := Scalar.muli arg1 c512_i32_30
  v79
def k0_off3 (i : grid0.Coords) : Fin 2 → Nat :=
  let arg1 : BitVec 32 := BitVec.ofNat 32 (i 1).val
  let c512_i32_30 : BitVec 32 := 512#32
  let v79 : BitVec 32 := Scalar.muli arg1 c512_i32_30
  let v80 : BitVec 32 := v79
  let v81 : Index := Scalar.indexCast v80
  let c256_31 : Index := 256#32
  ![v81.toNat, 256]
def k0_off4 (i : grid0.Coords) (c0_i32_45 : BitVec 32) : Fin 3 → Nat :=
  let arg1 : BitVec 32 := BitVec.ofNat 32 (i 1).val
  let c2_i32 : BitVec 32 := 2#32
  let v121 : BitVec 32 := Scalar.muli arg1 c2_i32
  let v122 : BitVec 32 := Scalar.addi v121 c0_i32_45
  let v123 : Index := Scalar.indexCast v122
  let c0_46 : Index := 0#32
  let c0_47 : Index := 0#32
  ![v123.toNat, 0, 0]
def k0_mult4 (i : grid0.Coords) : BitVec 32 :=
  let arg1 : BitVec 32 := BitVec.ofNat 32 (i 1).val
  let c512_i32_56 : BitVec 32 := 512#32
  let v143 : BitVec 32 := Scalar.muli arg1 c512_i32_56
  v143
def k0_off5 (i : grid0.Coords) : Fin 2 → Nat :=
  let arg1 : BitVec 32 := BitVec.ofNat 32 (i 1).val
  let c512_i32_56 : BitVec 32 := 512#32
  let v143 : BitVec 32 := Scalar.muli arg1 c512_i32_56
  let v144 : BitVec 32 := v143
  let v145 : Index := Scalar.indexCast v144
  let c384_57 : Index := 384#32
  ![v145.toNat, 384]
def k0_off6 (i : grid0.Coords) (c0_i32_72 : BitVec 32) : Fin 3 → Nat :=
  let arg1 : BitVec 32 := BitVec.ofNat 32 (i 1).val
  let c2_i32_71 : BitVec 32 := 2#32
  let v185 : BitVec 32 := Scalar.muli arg1 c2_i32_71
  let v186 : BitVec 32 := Scalar.addi v185 c0_i32_72
  let v187 : Index := Scalar.indexCast v186
  let c64 : Index := 64#32
  let c0_73 : Index := 0#32
  ![v187.toNat, 64, 0]
def k0_mult5 : BitVec 32 :=
  let c0_i32_82 : BitVec 32 := 0#32
  c0_i32_82
def k0_off7 (i : grid0.Coords) (c0_i32_94 : BitVec 32) : Fin 3 → Nat :=
  let arg1 : BitVec 32 := BitVec.ofNat 32 (i 1).val
  let c2_i32_93 : BitVec 32 := 2#32
  let v234 : BitVec 32 := Scalar.muli arg1 c2_i32_93
  let v235 : BitVec 32 := Scalar.addi v234 c0_i32_94
  let v236 : Index := Scalar.indexCast v235
  let c128_95 : Index := 128#32
  let c0_96 : Index := 0#32
  ![v236.toNat, 128, 0]
def k0_mult6 : BitVec 32 :=
  let c0_i32_105 : BitVec 32 := 0#32
  c0_i32_105
def k0_off8 (i : grid0.Coords) (c0_i32_117 : BitVec 32) : Fin 3 → Nat :=
  let arg1 : BitVec 32 := BitVec.ofNat 32 (i 1).val
  let c2_i32_116 : BitVec 32 := 2#32
  let v283 : BitVec 32 := Scalar.muli arg1 c2_i32_116
  let v284 : BitVec 32 := Scalar.addi v283 c0_i32_117
  let v285 : Index := Scalar.indexCast v284
  let c192 : Index := 192#32
  let c0_118 : Index := 0#32
  ![v285.toNat, 192, 0]
@[reducible] def k0_t1_loop (i : grid0.Coords) : Scf.Loop 32 :=
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_130 : BitVec 32 := 1#32
  ⟨c0_i32_128, v310, c1_i32_130⟩
def k0_mult7 (i : grid0.Coords) (k0_t1 : Fin (k0_t1_loop i).trips) : BitVec 32 :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let c0_i32_138 : BitVec 32 := 0#32
  let v342 : BitVec 32 := Scalar.addi v341 c0_i32_138
  let c512_i32_140 : BitVec 32 := 512#32
  let v345 : BitVec 32 := Scalar.muli v342 c512_i32_140
  v345
def k0_off9 (i : grid0.Coords) (k0_t1 : Fin (k0_t1_loop i).trips) (c0_i32_138 : BitVec 32) : Fin 2 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c512_i32_140 : BitVec 32 := 512#32
  let v345 : BitVec 32 := Scalar.muli v342 c512_i32_140
  let v346 : BitVec 32 := v345
  let v347 : Index := Scalar.indexCast v346
  let c256_141 : Index := 256#32
  ![v347.toNat, 256]
def k0_off10 (i : grid0.Coords) (k0_t1 : Fin (k0_t1_loop i).trips) (c0_i32_138 : BitVec 32) (c0_i32_156 : BitVec 32) : Fin 3 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c2_i32_155 : BitVec 32 := 2#32
  let v377 : BitVec 32 := Scalar.muli v342 c2_i32_155
  let v378 : BitVec 32 := Scalar.addi v377 c0_i32_156
  let v379 : Index := Scalar.indexCast v378
  let c0_157 : Index := 0#32
  let c0_158 : Index := 0#32
  ![v379.toNat, 0, 0]
def k0_mult8 (i : grid0.Coords) (k0_t1 : Fin (k0_t1_loop i).trips) : BitVec 32 :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let c0_i32_138 : BitVec 32 := 0#32
  let v342 : BitVec 32 := Scalar.addi v341 c0_i32_138
  let c512_i32_167 : BitVec 32 := 512#32
  let v399 : BitVec 32 := Scalar.muli v342 c512_i32_167
  v399
def k0_off11 (i : grid0.Coords) (k0_t1 : Fin (k0_t1_loop i).trips) (c0_i32_138 : BitVec 32) : Fin 2 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c512_i32_167 : BitVec 32 := 512#32
  let v399 : BitVec 32 := Scalar.muli v342 c512_i32_167
  let v400 : BitVec 32 := v399
  let v401 : Index := Scalar.indexCast v400
  let c384_168 : Index := 384#32
  ![v401.toNat, 384]
def k0_off12 (i : grid0.Coords) (k0_t1 : Fin (k0_t1_loop i).trips) (c0_i32_138 : BitVec 32) (c0_i32_183 : BitVec 32) : Fin 3 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c2_i32_182 : BitVec 32 := 2#32
  let v431 : BitVec 32 := Scalar.muli v342 c2_i32_182
  let v432 : BitVec 32 := Scalar.addi v431 c0_i32_183
  let v433 : Index := Scalar.indexCast v432
  let c64_184 : Index := 64#32
  let c0_185 : Index := 0#32
  ![v433.toNat, 64, 0]
def k0_mult9 (i : grid0.Coords) (k0_t1 : Fin (k0_t1_loop i).trips) : BitVec 32 :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let c0_i32_138 : BitVec 32 := 0#32
  let v342 : BitVec 32 := Scalar.addi v341 c0_i32_138
  let c1_i32_139 : BitVec 32 := 1#32
  let v343 : BitVec 32 := Scalar.addi v342 c1_i32_139
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_194 : BitVec 32 := 512#32
  let v453 : BitVec 32 := Scalar.muli v344 c512_i32_194
  v453
def k0_off13 (i : grid0.Coords) (k0_t1 : Fin (k0_t1_loop i).trips) (c0_i32_138 : BitVec 32) : Fin 2 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c1_i32_139 : BitVec 32 := 1#32
  let v343 : BitVec 32 := Scalar.addi v342 c1_i32_139
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_194 : BitVec 32 := 512#32
  let v453 : BitVec 32 := Scalar.muli v344 c512_i32_194
  let v454 : BitVec 32 := v453
  let v455 : Index := Scalar.indexCast v454
  let c0_195 : Index := 0#32
  ![v455.toNat, 0]
def k0_off14 (i : grid0.Coords) (k0_t1 : Fin (k0_t1_loop i).trips) (c0_i32_138 : BitVec 32) (c0_i32_210 : BitVec 32) : Fin 3 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c2_i32_209 : BitVec 32 := 2#32
  let v485 : BitVec 32 := Scalar.muli v342 c2_i32_209
  let v486 : BitVec 32 := Scalar.addi v485 c0_i32_210
  let v487 : Index := Scalar.indexCast v486
  let c128_211 : Index := 128#32
  let c0_212 : Index := 0#32
  ![v487.toNat, 128, 0]
def k0_mult10 (i : grid0.Coords) (k0_t1 : Fin (k0_t1_loop i).trips) : BitVec 32 :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let c0_i32_138 : BitVec 32 := 0#32
  let v342 : BitVec 32 := Scalar.addi v341 c0_i32_138
  let c1_i32_139 : BitVec 32 := 1#32
  let v343 : BitVec 32 := Scalar.addi v342 c1_i32_139
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_221 : BitVec 32 := 512#32
  let v507 : BitVec 32 := Scalar.muli v344 c512_i32_221
  v507
def k0_off15 (i : grid0.Coords) (k0_t1 : Fin (k0_t1_loop i).trips) (c0_i32_138 : BitVec 32) : Fin 2 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c1_i32_139 : BitVec 32 := 1#32
  let v343 : BitVec 32 := Scalar.addi v342 c1_i32_139
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_221 : BitVec 32 := 512#32
  let v507 : BitVec 32 := Scalar.muli v344 c512_i32_221
  let v508 : BitVec 32 := v507
  let v509 : Index := Scalar.indexCast v508
  let c128_222 : Index := 128#32
  ![v509.toNat, 128]
def k0_off16 (i : grid0.Coords) (k0_t1 : Fin (k0_t1_loop i).trips) (c0_i32_138 : BitVec 32) (c0_i32_237 : BitVec 32) : Fin 3 → Nat :=
  let c4_i32_137 : BitVec 32 := 4#32
  let c0_i32_128 : BitVec 32 := 0#32
  let c1_i32_130 : BitVec 32 := 1#32
  let arg10 : BitVec 32 := Scf.iv c0_i32_128 c1_i32_130 k0_t1
  let v341 : BitVec 32 := Scalar.muli c4_i32_137 arg10
  let v342 : BitVec 32 := Scalar.addi v341 c0_i32_138
  let c2_i32_236 : BitVec 32 := 2#32
  let v539 : BitVec 32 := Scalar.muli v342 c2_i32_236
  let v540 : BitVec 32 := Scalar.addi v539 c0_i32_237
  let v541 : Index := Scalar.indexCast v540
  let c192_238 : Index := 192#32
  let c0_239 : Index := 0#32
  ![v541.toNat, 192, 0]
def k0_mult11 (i : grid0.Coords) (k0_t1 : Fin (k0_t1_loop i).trips) : BitVec 32 :=
  let c4_i32_248 : BitVec 32 := 4#32
  let c0_i32_128 : BitVec 32 := 0#32
  let c1_i32_130 : BitVec 32 := 1#32
  let arg10 : BitVec 32 := Scf.iv c0_i32_128 c1_i32_130 k0_t1
  let v561 : BitVec 32 := Scalar.muli c4_i32_248 arg10
  let c1_i32_249 : BitVec 32 := 1#32
  let v562 : BitVec 32 := Scalar.addi v561 c1_i32_249
  let c512_i32_251 : BitVec 32 := 512#32
  let v565 : BitVec 32 := Scalar.muli v562 c512_i32_251
  v565
def k0_mult12 (i : grid0.Coords) (k0_t1 : Fin (k0_t1_loop i).trips) : BitVec 32 :=
  let c4_i32_248 : BitVec 32 := 4#32
  let c0_i32_128 : BitVec 32 := 0#32
  let c1_i32_130 : BitVec 32 := 1#32
  let arg10 : BitVec 32 := Scf.iv c0_i32_128 c1_i32_130 k0_t1
  let v561 : BitVec 32 := Scalar.muli c4_i32_248 arg10
  let c1_i32_249 : BitVec 32 := 1#32
  let v562 : BitVec 32 := Scalar.addi v561 c1_i32_249
  let c512_i32_278 : BitVec 32 := 512#32
  let v619 : BitVec 32 := Scalar.muli v562 c512_i32_278
  v619
def k0_mult13 (i : grid0.Coords) (k0_t1 : Fin (k0_t1_loop i).trips) : BitVec 32 :=
  let c4_i32_248 : BitVec 32 := 4#32
  let c0_i32_128 : BitVec 32 := 0#32
  let c1_i32_130 : BitVec 32 := 1#32
  let arg10 : BitVec 32 := Scf.iv c0_i32_128 c1_i32_130 k0_t1
  let v561 : BitVec 32 := Scalar.muli c4_i32_248 arg10
  let c1_i32_249 : BitVec 32 := 1#32
  let v562 : BitVec 32 := Scalar.addi v561 c1_i32_249
  let c1_i32_250 : BitVec 32 := 1#32
  let v563 : BitVec 32 := Scalar.addi v562 c1_i32_250
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v564 : BitVec 32 := Scalar.minsi v563 v12
  let c512_i32_305 : BitVec 32 := 512#32
  let v673 : BitVec 32 := Scalar.muli v564 c512_i32_305
  v673
def k0_mult14 (i : grid0.Coords) (k0_t1 : Fin (k0_t1_loop i).trips) : BitVec 32 :=
  let c4_i32_248 : BitVec 32 := 4#32
  let c0_i32_128 : BitVec 32 := 0#32
  let c1_i32_130 : BitVec 32 := 1#32
  let arg10 : BitVec 32 := Scf.iv c0_i32_128 c1_i32_130 k0_t1
  let v561 : BitVec 32 := Scalar.muli c4_i32_248 arg10
  let c1_i32_249 : BitVec 32 := 1#32
  let v562 : BitVec 32 := Scalar.addi v561 c1_i32_249
  let c1_i32_250 : BitVec 32 := 1#32
  let v563 : BitVec 32 := Scalar.addi v562 c1_i32_250
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v564 : BitVec 32 := Scalar.minsi v563 v12
  let c512_i32_332 : BitVec 32 := 512#32
  let v727 : BitVec 32 := Scalar.muli v564 c512_i32_332
  v727
def k0_mult15 (i : grid0.Coords) (k0_t1 : Fin (k0_t1_loop i).trips) : BitVec 32 :=
  let c4_i32_359 : BitVec 32 := 4#32
  let c0_i32_128 : BitVec 32 := 0#32
  let c1_i32_130 : BitVec 32 := 1#32
  let arg10 : BitVec 32 := Scf.iv c0_i32_128 c1_i32_130 k0_t1
  let v781 : BitVec 32 := Scalar.muli c4_i32_359 arg10
  let c2_i32_360 : BitVec 32 := 2#32
  let v782 : BitVec 32 := Scalar.addi v781 c2_i32_360
  let c512_i32_362 : BitVec 32 := 512#32
  let v785 : BitVec 32 := Scalar.muli v782 c512_i32_362
  v785
def k0_mult16 (i : grid0.Coords) (k0_t1 : Fin (k0_t1_loop i).trips) : BitVec 32 :=
  let c4_i32_359 : BitVec 32 := 4#32
  let c0_i32_128 : BitVec 32 := 0#32
  let c1_i32_130 : BitVec 32 := 1#32
  let arg10 : BitVec 32 := Scf.iv c0_i32_128 c1_i32_130 k0_t1
  let v781 : BitVec 32 := Scalar.muli c4_i32_359 arg10
  let c2_i32_360 : BitVec 32 := 2#32
  let v782 : BitVec 32 := Scalar.addi v781 c2_i32_360
  let c512_i32_389 : BitVec 32 := 512#32
  let v839 : BitVec 32 := Scalar.muli v782 c512_i32_389
  v839
def k0_mult17 (i : grid0.Coords) (k0_t1 : Fin (k0_t1_loop i).trips) : BitVec 32 :=
  let c4_i32_359 : BitVec 32 := 4#32
  let c0_i32_128 : BitVec 32 := 0#32
  let c1_i32_130 : BitVec 32 := 1#32
  let arg10 : BitVec 32 := Scf.iv c0_i32_128 c1_i32_130 k0_t1
  let v781 : BitVec 32 := Scalar.muli c4_i32_359 arg10
  let c2_i32_360 : BitVec 32 := 2#32
  let v782 : BitVec 32 := Scalar.addi v781 c2_i32_360
  let c1_i32_361 : BitVec 32 := 1#32
  let v783 : BitVec 32 := Scalar.addi v782 c1_i32_361
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v784 : BitVec 32 := Scalar.minsi v783 v12
  let c512_i32_416 : BitVec 32 := 512#32
  let v893 : BitVec 32 := Scalar.muli v784 c512_i32_416
  v893
def k0_mult18 (i : grid0.Coords) (k0_t1 : Fin (k0_t1_loop i).trips) : BitVec 32 :=
  let c4_i32_359 : BitVec 32 := 4#32
  let c0_i32_128 : BitVec 32 := 0#32
  let c1_i32_130 : BitVec 32 := 1#32
  let arg10 : BitVec 32 := Scf.iv c0_i32_128 c1_i32_130 k0_t1
  let v781 : BitVec 32 := Scalar.muli c4_i32_359 arg10
  let c2_i32_360 : BitVec 32 := 2#32
  let v782 : BitVec 32 := Scalar.addi v781 c2_i32_360
  let c1_i32_361 : BitVec 32 := 1#32
  let v783 : BitVec 32 := Scalar.addi v782 c1_i32_361
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v784 : BitVec 32 := Scalar.minsi v783 v12
  let c512_i32_443 : BitVec 32 := 512#32
  let v947 : BitVec 32 := Scalar.muli v784 c512_i32_443
  v947
def k0_mult19 (i : grid0.Coords) (k0_t1 : Fin (k0_t1_loop i).trips) : BitVec 32 :=
  let c4_i32_470 : BitVec 32 := 4#32
  let c0_i32_128 : BitVec 32 := 0#32
  let c1_i32_130 : BitVec 32 := 1#32
  let arg10 : BitVec 32 := Scf.iv c0_i32_128 c1_i32_130 k0_t1
  let v1001 : BitVec 32 := Scalar.muli c4_i32_470 arg10
  let c3_i32 : BitVec 32 := 3#32
  let v1002 : BitVec 32 := Scalar.addi v1001 c3_i32
  let c512_i32_472 : BitVec 32 := 512#32
  let v1005 : BitVec 32 := Scalar.muli v1002 c512_i32_472
  v1005
def k0_mult20 (i : grid0.Coords) (k0_t1 : Fin (k0_t1_loop i).trips) : BitVec 32 :=
  let c4_i32_470 : BitVec 32 := 4#32
  let c0_i32_128 : BitVec 32 := 0#32
  let c1_i32_130 : BitVec 32 := 1#32
  let arg10 : BitVec 32 := Scf.iv c0_i32_128 c1_i32_130 k0_t1
  let v1001 : BitVec 32 := Scalar.muli c4_i32_470 arg10
  let c3_i32 : BitVec 32 := 3#32
  let v1002 : BitVec 32 := Scalar.addi v1001 c3_i32
  let c512_i32_499 : BitVec 32 := 512#32
  let v1059 : BitVec 32 := Scalar.muli v1002 c512_i32_499
  v1059
def k0_mult21 (i : grid0.Coords) (k0_t1 : Fin (k0_t1_loop i).trips) : BitVec 32 :=
  let c4_i32_470 : BitVec 32 := 4#32
  let c0_i32_128 : BitVec 32 := 0#32
  let c1_i32_130 : BitVec 32 := 1#32
  let arg10 : BitVec 32 := Scf.iv c0_i32_128 c1_i32_130 k0_t1
  let v1001 : BitVec 32 := Scalar.muli c4_i32_470 arg10
  let c3_i32 : BitVec 32 := 3#32
  let v1002 : BitVec 32 := Scalar.addi v1001 c3_i32
  let c1_i32_471 : BitVec 32 := 1#32
  let v1003 : BitVec 32 := Scalar.addi v1002 c1_i32_471
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v1004 : BitVec 32 := Scalar.minsi v1003 v12
  let c512_i32_526 : BitVec 32 := 512#32
  let v1113 : BitVec 32 := Scalar.muli v1004 c512_i32_526
  v1113
def k0_mult22 (i : grid0.Coords) (k0_t1 : Fin (k0_t1_loop i).trips) : BitVec 32 :=
  let c4_i32_470 : BitVec 32 := 4#32
  let c0_i32_128 : BitVec 32 := 0#32
  let c1_i32_130 : BitVec 32 := 1#32
  let arg10 : BitVec 32 := Scf.iv c0_i32_128 c1_i32_130 k0_t1
  let v1001 : BitVec 32 := Scalar.muli c4_i32_470 arg10
  let c3_i32 : BitVec 32 := 3#32
  let v1002 : BitVec 32 := Scalar.addi v1001 c3_i32
  let c1_i32_471 : BitVec 32 := 1#32
  let v1003 : BitVec 32 := Scalar.addi v1002 c1_i32_471
  let arg1 : BitVec 32 := BitVec.ofNat 32 (i 1).val
  let c1_i32 : BitVec 32 := 1#32
  let v11 : BitVec 32 := Scalar.subi arg1 c1_i32
  let c0_i32 : BitVec 32 := 0#32
  let v12 : BitVec 32 := Scalar.maxsi v11 c0_i32
  let v1004 : BitVec 32 := Scalar.minsi v1003 v12
  let c512_i32_553 : BitVec 32 := 512#32
  let v1167 : BitVec 32 := Scalar.muli v1004 c512_i32_553
  v1167
@[reducible] def k0_t2_loop (i : grid0.Coords) : Scf.Loop 32 :=
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let v307 : BitVec 32 := Scalar.addi c0_i32_128 v306
  let c1_i32_131 : BitVec 32 := 1#32
  ⟨v310, v307, c1_i32_131⟩
def k0_mult23 (i : grid0.Coords) (k0_t2 : Fin (k0_t2_loop i).trips) : BitVec 32 :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let c0_i32_138 : BitVec 32 := 0#32
  let v342 : BitVec 32 := Scalar.addi v341 c0_i32_138
  let c512_i32_140 : BitVec 32 := 512#32
  let v345 : BitVec 32 := Scalar.muli v342 c512_i32_140
  v345
def k0_off17 (i : grid0.Coords) (k0_t2 : Fin (k0_t2_loop i).trips) (c0_i32_138 : BitVec 32) : Fin 2 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c512_i32_140 : BitVec 32 := 512#32
  let v345 : BitVec 32 := Scalar.muli v342 c512_i32_140
  let v346 : BitVec 32 := v345
  let v347 : Index := Scalar.indexCast v346
  let c256_141 : Index := 256#32
  ![v347.toNat, 256]
def k0_off18 (i : grid0.Coords) (k0_t2 : Fin (k0_t2_loop i).trips) (c0_i32_138 : BitVec 32) (c0_i32_156 : BitVec 32) : Fin 3 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c2_i32_155 : BitVec 32 := 2#32
  let v377 : BitVec 32 := Scalar.muli v342 c2_i32_155
  let v378 : BitVec 32 := Scalar.addi v377 c0_i32_156
  let v379 : Index := Scalar.indexCast v378
  let c0_157 : Index := 0#32
  let c0_158 : Index := 0#32
  ![v379.toNat, 0, 0]
def k0_mult24 (i : grid0.Coords) (k0_t2 : Fin (k0_t2_loop i).trips) : BitVec 32 :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let c0_i32_138 : BitVec 32 := 0#32
  let v342 : BitVec 32 := Scalar.addi v341 c0_i32_138
  let c512_i32_167 : BitVec 32 := 512#32
  let v399 : BitVec 32 := Scalar.muli v342 c512_i32_167
  v399
def k0_off19 (i : grid0.Coords) (k0_t2 : Fin (k0_t2_loop i).trips) (c0_i32_138 : BitVec 32) : Fin 2 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c512_i32_167 : BitVec 32 := 512#32
  let v399 : BitVec 32 := Scalar.muli v342 c512_i32_167
  let v400 : BitVec 32 := v399
  let v401 : Index := Scalar.indexCast v400
  let c384_168 : Index := 384#32
  ![v401.toNat, 384]
def k0_off20 (i : grid0.Coords) (k0_t2 : Fin (k0_t2_loop i).trips) (c0_i32_138 : BitVec 32) (c0_i32_183 : BitVec 32) : Fin 3 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c2_i32_182 : BitVec 32 := 2#32
  let v431 : BitVec 32 := Scalar.muli v342 c2_i32_182
  let v432 : BitVec 32 := Scalar.addi v431 c0_i32_183
  let v433 : Index := Scalar.indexCast v432
  let c64_184 : Index := 64#32
  let c0_185 : Index := 0#32
  ![v433.toNat, 64, 0]
def k0_mult25 (i : grid0.Coords) (k0_t2 : Fin (k0_t2_loop i).trips) : BitVec 32 :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let c0_i32_138 : BitVec 32 := 0#32
  let v342 : BitVec 32 := Scalar.addi v341 c0_i32_138
  let c1_i32_139 : BitVec 32 := 1#32
  let v343 : BitVec 32 := Scalar.addi v342 c1_i32_139
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_194 : BitVec 32 := 512#32
  let v453 : BitVec 32 := Scalar.muli v344 c512_i32_194
  v453
def k0_off21 (i : grid0.Coords) (k0_t2 : Fin (k0_t2_loop i).trips) (c0_i32_138 : BitVec 32) : Fin 2 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c1_i32_139 : BitVec 32 := 1#32
  let v343 : BitVec 32 := Scalar.addi v342 c1_i32_139
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_194 : BitVec 32 := 512#32
  let v453 : BitVec 32 := Scalar.muli v344 c512_i32_194
  let v454 : BitVec 32 := v453
  let v455 : Index := Scalar.indexCast v454
  let c0_195 : Index := 0#32
  ![v455.toNat, 0]
def k0_off22 (i : grid0.Coords) (k0_t2 : Fin (k0_t2_loop i).trips) (c0_i32_138 : BitVec 32) (c0_i32_210 : BitVec 32) : Fin 3 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c2_i32_209 : BitVec 32 := 2#32
  let v485 : BitVec 32 := Scalar.muli v342 c2_i32_209
  let v486 : BitVec 32 := Scalar.addi v485 c0_i32_210
  let v487 : Index := Scalar.indexCast v486
  let c128_211 : Index := 128#32
  let c0_212 : Index := 0#32
  ![v487.toNat, 128, 0]
def k0_mult26 (i : grid0.Coords) (k0_t2 : Fin (k0_t2_loop i).trips) : BitVec 32 :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let c0_i32_138 : BitVec 32 := 0#32
  let v342 : BitVec 32 := Scalar.addi v341 c0_i32_138
  let c1_i32_139 : BitVec 32 := 1#32
  let v343 : BitVec 32 := Scalar.addi v342 c1_i32_139
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_221 : BitVec 32 := 512#32
  let v507 : BitVec 32 := Scalar.muli v344 c512_i32_221
  v507
def k0_off23 (i : grid0.Coords) (k0_t2 : Fin (k0_t2_loop i).trips) (c0_i32_138 : BitVec 32) : Fin 2 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c1_i32_139 : BitVec 32 := 1#32
  let v343 : BitVec 32 := Scalar.addi v342 c1_i32_139
  let c1_i32 : BitVec 32 := 1#32
  let v11 : BitVec 32 := Scalar.subi arg1 c1_i32
  let c0_i32 : BitVec 32 := 0#32
  let v12 : BitVec 32 := Scalar.maxsi v11 c0_i32
  let v344 : BitVec 32 := Scalar.minsi v343 v12
  let c512_i32_221 : BitVec 32 := 512#32
  let v507 : BitVec 32 := Scalar.muli v344 c512_i32_221
  let v508 : BitVec 32 := v507
  let v509 : Index := Scalar.indexCast v508
  let c128_222 : Index := 128#32
  ![v509.toNat, 128]
def k0_off24 (i : grid0.Coords) (k0_t2 : Fin (k0_t2_loop i).trips) (c0_i32_138 : BitVec 32) (c0_i32_237 : BitVec 32) : Fin 3 → Nat :=
  let c4_i32_137 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v341 : BitVec 32 := Scalar.muli c4_i32_137 arg10
  let v342 : BitVec 32 := Scalar.addi v341 c0_i32_138
  let c2_i32_236 : BitVec 32 := 2#32
  let v539 : BitVec 32 := Scalar.muli v342 c2_i32_236
  let v540 : BitVec 32 := Scalar.addi v539 c0_i32_237
  let v541 : Index := Scalar.indexCast v540
  let c192_238 : Index := 192#32
  let c0_239 : Index := 0#32
  ![v541.toNat, 192, 0]
def k0_mult27 (i : grid0.Coords) (k0_t2 : Fin (k0_t2_loop i).trips) : BitVec 32 :=
  let c4_i32_248 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v561 : BitVec 32 := Scalar.muli c4_i32_248 arg10
  let c1_i32_249 : BitVec 32 := 1#32
  let v562 : BitVec 32 := Scalar.addi v561 c1_i32_249
  let c512_i32_251 : BitVec 32 := 512#32
  let v565 : BitVec 32 := Scalar.muli v562 c512_i32_251
  v565
def k0_mult28 (i : grid0.Coords) (k0_t2 : Fin (k0_t2_loop i).trips) : BitVec 32 :=
  let c4_i32_248 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v561 : BitVec 32 := Scalar.muli c4_i32_248 arg10
  let c1_i32_249 : BitVec 32 := 1#32
  let v562 : BitVec 32 := Scalar.addi v561 c1_i32_249
  let c512_i32_278 : BitVec 32 := 512#32
  let v619 : BitVec 32 := Scalar.muli v562 c512_i32_278
  v619
def k0_mult29 (i : grid0.Coords) (k0_t2 : Fin (k0_t2_loop i).trips) : BitVec 32 :=
  let c4_i32_248 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v561 : BitVec 32 := Scalar.muli c4_i32_248 arg10
  let c1_i32_249 : BitVec 32 := 1#32
  let v562 : BitVec 32 := Scalar.addi v561 c1_i32_249
  let c1_i32_250 : BitVec 32 := 1#32
  let v563 : BitVec 32 := Scalar.addi v562 c1_i32_250
  let c1_i32 : BitVec 32 := 1#32
  let v11 : BitVec 32 := Scalar.subi arg1 c1_i32
  let c0_i32 : BitVec 32 := 0#32
  let v12 : BitVec 32 := Scalar.maxsi v11 c0_i32
  let v564 : BitVec 32 := Scalar.minsi v563 v12
  let c512_i32_305 : BitVec 32 := 512#32
  let v673 : BitVec 32 := Scalar.muli v564 c512_i32_305
  v673
def k0_mult30 (i : grid0.Coords) (k0_t2 : Fin (k0_t2_loop i).trips) : BitVec 32 :=
  let c4_i32_248 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v561 : BitVec 32 := Scalar.muli c4_i32_248 arg10
  let c1_i32_249 : BitVec 32 := 1#32
  let v562 : BitVec 32 := Scalar.addi v561 c1_i32_249
  let c1_i32_250 : BitVec 32 := 1#32
  let v563 : BitVec 32 := Scalar.addi v562 c1_i32_250
  let c1_i32 : BitVec 32 := 1#32
  let v11 : BitVec 32 := Scalar.subi arg1 c1_i32
  let c0_i32 : BitVec 32 := 0#32
  let v12 : BitVec 32 := Scalar.maxsi v11 c0_i32
  let v564 : BitVec 32 := Scalar.minsi v563 v12
  let c512_i32_332 : BitVec 32 := 512#32
  let v727 : BitVec 32 := Scalar.muli v564 c512_i32_332
  v727
def k0_mult31 (i : grid0.Coords) (k0_t2 : Fin (k0_t2_loop i).trips) : BitVec 32 :=
  let c4_i32_359 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v781 : BitVec 32 := Scalar.muli c4_i32_359 arg10
  let c2_i32_360 : BitVec 32 := 2#32
  let v782 : BitVec 32 := Scalar.addi v781 c2_i32_360
  let c512_i32_362 : BitVec 32 := 512#32
  let v785 : BitVec 32 := Scalar.muli v782 c512_i32_362
  v785
def k0_mult32 (i : grid0.Coords) (k0_t2 : Fin (k0_t2_loop i).trips) : BitVec 32 :=
  let c4_i32_359 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v781 : BitVec 32 := Scalar.muli c4_i32_359 arg10
  let c2_i32_360 : BitVec 32 := 2#32
  let v782 : BitVec 32 := Scalar.addi v781 c2_i32_360
  let c512_i32_389 : BitVec 32 := 512#32
  let v839 : BitVec 32 := Scalar.muli v782 c512_i32_389
  v839
def k0_mult33 (i : grid0.Coords) (k0_t2 : Fin (k0_t2_loop i).trips) : BitVec 32 :=
  let c4_i32_359 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v781 : BitVec 32 := Scalar.muli c4_i32_359 arg10
  let c2_i32_360 : BitVec 32 := 2#32
  let v782 : BitVec 32 := Scalar.addi v781 c2_i32_360
  let c1_i32_361 : BitVec 32 := 1#32
  let v783 : BitVec 32 := Scalar.addi v782 c1_i32_361
  let c1_i32 : BitVec 32 := 1#32
  let v11 : BitVec 32 := Scalar.subi arg1 c1_i32
  let c0_i32 : BitVec 32 := 0#32
  let v12 : BitVec 32 := Scalar.maxsi v11 c0_i32
  let v784 : BitVec 32 := Scalar.minsi v783 v12
  let c512_i32_416 : BitVec 32 := 512#32
  let v893 : BitVec 32 := Scalar.muli v784 c512_i32_416
  v893
def k0_mult34 (i : grid0.Coords) (k0_t2 : Fin (k0_t2_loop i).trips) : BitVec 32 :=
  let c4_i32_359 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v781 : BitVec 32 := Scalar.muli c4_i32_359 arg10
  let c2_i32_360 : BitVec 32 := 2#32
  let v782 : BitVec 32 := Scalar.addi v781 c2_i32_360
  let c1_i32_361 : BitVec 32 := 1#32
  let v783 : BitVec 32 := Scalar.addi v782 c1_i32_361
  let c1_i32 : BitVec 32 := 1#32
  let v11 : BitVec 32 := Scalar.subi arg1 c1_i32
  let c0_i32 : BitVec 32 := 0#32
  let v12 : BitVec 32 := Scalar.maxsi v11 c0_i32
  let v784 : BitVec 32 := Scalar.minsi v783 v12
  let c512_i32_443 : BitVec 32 := 512#32
  let v947 : BitVec 32 := Scalar.muli v784 c512_i32_443
  v947
def k0_mult35 (i : grid0.Coords) (k0_t2 : Fin (k0_t2_loop i).trips) : BitVec 32 :=
  let c4_i32_470 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v1001 : BitVec 32 := Scalar.muli c4_i32_470 arg10
  let c3_i32 : BitVec 32 := 3#32
  let v1002 : BitVec 32 := Scalar.addi v1001 c3_i32
  let c512_i32_472 : BitVec 32 := 512#32
  let v1005 : BitVec 32 := Scalar.muli v1002 c512_i32_472
  v1005
def k0_mult36 (i : grid0.Coords) (k0_t2 : Fin (k0_t2_loop i).trips) : BitVec 32 :=
  let c4_i32_470 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v1001 : BitVec 32 := Scalar.muli c4_i32_470 arg10
  let c3_i32 : BitVec 32 := 3#32
  let v1002 : BitVec 32 := Scalar.addi v1001 c3_i32
  let c512_i32_499 : BitVec 32 := 512#32
  let v1059 : BitVec 32 := Scalar.muli v1002 c512_i32_499
  v1059
def k0_mult37 (i : grid0.Coords) (k0_t2 : Fin (k0_t2_loop i).trips) : BitVec 32 :=
  let c4_i32_470 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v1001 : BitVec 32 := Scalar.muli c4_i32_470 arg10
  let c3_i32 : BitVec 32 := 3#32
  let v1002 : BitVec 32 := Scalar.addi v1001 c3_i32
  let c1_i32_471 : BitVec 32 := 1#32
  let v1003 : BitVec 32 := Scalar.addi v1002 c1_i32_471
  let c1_i32 : BitVec 32 := 1#32
  let v11 : BitVec 32 := Scalar.subi arg1 c1_i32
  let c0_i32 : BitVec 32 := 0#32
  let v12 : BitVec 32 := Scalar.maxsi v11 c0_i32
  let v1004 : BitVec 32 := Scalar.minsi v1003 v12
  let c512_i32_526 : BitVec 32 := 512#32
  let v1113 : BitVec 32 := Scalar.muli v1004 c512_i32_526
  v1113
def k0_mult38 (i : grid0.Coords) (k0_t2 : Fin (k0_t2_loop i).trips) : BitVec 32 :=
  let c4_i32_470 : BitVec 32 := 4#32
  let c0_i32_128 : BitVec 32 := 0#32
  let arg1 : BitVec 32 := BitVec.ofNat 32 (i 1).val
  let c2_i32_127 : BitVec 32 := 2#32
  let v305 : BitVec 32 := Scalar.shrui arg1 c2_i32_127
  let v306 : BitVec 32 := Scalar.subi v305 c0_i32_128
  let c1_i32_129 : BitVec 32 := 1#32
  let v308 : BitVec 32 := Scalar.divsi v306 c1_i32_129
  let v309 : BitVec 32 := Scalar.muli v308 c1_i32_129
  let v310 : BitVec 32 := Scalar.addi c0_i32_128 v309
  let c1_i32_131 : BitVec 32 := 1#32
  let arg10 : BitVec 32 := Scf.iv v310 c1_i32_131 k0_t2
  let v1001 : BitVec 32 := Scalar.muli c4_i32_470 arg10
  let c3_i32 : BitVec 32 := 3#32
  let v1002 : BitVec 32 := Scalar.addi v1001 c3_i32
  let c1_i32_471 : BitVec 32 := 1#32
  let v1003 : BitVec 32 := Scalar.addi v1002 c1_i32_471
  let c1_i32 : BitVec 32 := 1#32
  let v11 : BitVec 32 := Scalar.subi arg1 c1_i32
  let c0_i32 : BitVec 32 := 0#32
  let v12 : BitVec 32 := Scalar.maxsi v11 c0_i32
  let v1004 : BitVec 32 := Scalar.minsi v1003 v12
  let c512_i32_553 : BitVec 32 := 512#32
  let v1167 : BitVec 32 := Scalar.muli v1004 c512_i32_553
  v1167
@[reducible] def k0_t3_loop (i : grid0.Coords) : Scf.Loop 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_133 : BitVec 32 := 1#32
  ⟨v313, v318, c1_i32_133⟩
def k0_mult39 (i : grid0.Coords) (k0_t3 : Fin (k0_t3_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c512_i32_138 : BitVec 32 := 512#32
  let v343 : BitVec 32 := Scalar.muli arg10 c512_i32_138
  v343
def k0_off25 (i : grid0.Coords) (k0_t3 : Fin (k0_t3_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c512_i32_138 : BitVec 32 := 512#32
  let v343 : BitVec 32 := Scalar.muli arg10 c512_i32_138
  let v344 : BitVec 32 := v343
  let v345 : Index := Scalar.indexCast v344
  let c256_139 : Index := 256#32
  ![v345.toNat, 256]
def k0_off26 (i : grid0.Coords) (k0_t3 : Fin (k0_t3_loop i).trips) (c0_i32_154 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c2_i32_153 : BitVec 32 := 2#32
  let v375 : BitVec 32 := Scalar.muli arg10 c2_i32_153
  let v376 : BitVec 32 := Scalar.addi v375 c0_i32_154
  let v377 : Index := Scalar.indexCast v376
  let c0_155 : Index := 0#32
  let c0_156 : Index := 0#32
  ![v377.toNat, 0, 0]
def k0_mult40 (i : grid0.Coords) (k0_t3 : Fin (k0_t3_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c512_i32_165 : BitVec 32 := 512#32
  let v397 : BitVec 32 := Scalar.muli arg10 c512_i32_165
  v397
def k0_off27 (i : grid0.Coords) (k0_t3 : Fin (k0_t3_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c512_i32_165 : BitVec 32 := 512#32
  let v397 : BitVec 32 := Scalar.muli arg10 c512_i32_165
  let v398 : BitVec 32 := v397
  let v399 : Index := Scalar.indexCast v398
  let c384_166 : Index := 384#32
  ![v399.toNat, 384]
def k0_off28 (i : grid0.Coords) (k0_t3 : Fin (k0_t3_loop i).trips) (c0_i32_181 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c2_i32_180 : BitVec 32 := 2#32
  let v429 : BitVec 32 := Scalar.muli arg10 c2_i32_180
  let v430 : BitVec 32 := Scalar.addi v429 c0_i32_181
  let v431 : Index := Scalar.indexCast v430
  let c64_182 : Index := 64#32
  let c0_183 : Index := 0#32
  ![v431.toNat, 64, 0]
def k0_mult41 (i : grid0.Coords) (k0_t3 : Fin (k0_t3_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_192 : BitVec 32 := 512#32
  let v451 : BitVec 32 := Scalar.muli v342 c512_i32_192
  v451
def k0_off29 (i : grid0.Coords) (k0_t3 : Fin (k0_t3_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_192 : BitVec 32 := 512#32
  let v451 : BitVec 32 := Scalar.muli v342 c512_i32_192
  let v452 : BitVec 32 := v451
  let v453 : Index := Scalar.indexCast v452
  let c0_193 : Index := 0#32
  ![v453.toNat, 0]
def k0_off30 (i : grid0.Coords) (k0_t3 : Fin (k0_t3_loop i).trips) (c0_i32_208 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c2_i32_207 : BitVec 32 := 2#32
  let v483 : BitVec 32 := Scalar.muli arg10 c2_i32_207
  let v484 : BitVec 32 := Scalar.addi v483 c0_i32_208
  let v485 : Index := Scalar.indexCast v484
  let c128_209 : Index := 128#32
  let c0_210 : Index := 0#32
  ![v485.toNat, 128, 0]
def k0_mult42 (i : grid0.Coords) (k0_t3 : Fin (k0_t3_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_219 : BitVec 32 := 512#32
  let v505 : BitVec 32 := Scalar.muli v342 c512_i32_219
  v505
def k0_off31 (i : grid0.Coords) (k0_t3 : Fin (k0_t3_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_219 : BitVec 32 := 512#32
  let v505 : BitVec 32 := Scalar.muli v342 c512_i32_219
  let v506 : BitVec 32 := v505
  let v507 : Index := Scalar.indexCast v506
  let c128_220 : Index := 128#32
  ![v507.toNat, 128]
def k0_off32 (i : grid0.Coords) (k0_t3 : Fin (k0_t3_loop i).trips) (c0_i32_235 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let c1_i32_133 : BitVec 32 := 1#32
  let arg10 : BitVec 32 := Scf.iv v313 c1_i32_133 k0_t3
  let c2_i32_234 : BitVec 32 := 2#32
  let v537 : BitVec 32 := Scalar.muli arg10 c2_i32_234
  let v538 : BitVec 32 := Scalar.addi v537 c0_i32_235
  let v539 : Index := Scalar.indexCast v538
  let c192_236 : Index := 192#32
  let c0_237 : Index := 0#32
  ![v539.toNat, 192, 0]
@[reducible] def k0_t4_loop (i : grid0.Coords) : Scf.Loop 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let v315 : BitVec 32 := Scalar.addi v313 v314
  let c1_i32_134 : BitVec 32 := 1#32
  ⟨v318, v315, c1_i32_134⟩
def k0_mult43 (i : grid0.Coords) (k0_t4 : Fin (k0_t4_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c512_i32_138 : BitVec 32 := 512#32
  let v343 : BitVec 32 := Scalar.muli arg10 c512_i32_138
  v343
def k0_off33 (i : grid0.Coords) (k0_t4 : Fin (k0_t4_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c512_i32_138 : BitVec 32 := 512#32
  let v343 : BitVec 32 := Scalar.muli arg10 c512_i32_138
  let v344 : BitVec 32 := v343
  let v345 : Index := Scalar.indexCast v344
  let c256_139 : Index := 256#32
  ![v345.toNat, 256]
def k0_off34 (i : grid0.Coords) (k0_t4 : Fin (k0_t4_loop i).trips) (c0_i32_154 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c2_i32_153 : BitVec 32 := 2#32
  let v375 : BitVec 32 := Scalar.muli arg10 c2_i32_153
  let v376 : BitVec 32 := Scalar.addi v375 c0_i32_154
  let v377 : Index := Scalar.indexCast v376
  let c0_155 : Index := 0#32
  let c0_156 : Index := 0#32
  ![v377.toNat, 0, 0]
def k0_mult44 (i : grid0.Coords) (k0_t4 : Fin (k0_t4_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c512_i32_165 : BitVec 32 := 512#32
  let v397 : BitVec 32 := Scalar.muli arg10 c512_i32_165
  v397
def k0_off35 (i : grid0.Coords) (k0_t4 : Fin (k0_t4_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c512_i32_165 : BitVec 32 := 512#32
  let v397 : BitVec 32 := Scalar.muli arg10 c512_i32_165
  let v398 : BitVec 32 := v397
  let v399 : Index := Scalar.indexCast v398
  let c384_166 : Index := 384#32
  ![v399.toNat, 384]
def k0_off36 (i : grid0.Coords) (k0_t4 : Fin (k0_t4_loop i).trips) (c0_i32_181 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c2_i32_180 : BitVec 32 := 2#32
  let v429 : BitVec 32 := Scalar.muli arg10 c2_i32_180
  let v430 : BitVec 32 := Scalar.addi v429 c0_i32_181
  let v431 : Index := Scalar.indexCast v430
  let c64_182 : Index := 64#32
  let c0_183 : Index := 0#32
  ![v431.toNat, 64, 0]
def k0_mult45 (i : grid0.Coords) (k0_t4 : Fin (k0_t4_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_192 : BitVec 32 := 512#32
  let v451 : BitVec 32 := Scalar.muli v342 c512_i32_192
  v451
def k0_off37 (i : grid0.Coords) (k0_t4 : Fin (k0_t4_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_192 : BitVec 32 := 512#32
  let v451 : BitVec 32 := Scalar.muli v342 c512_i32_192
  let v452 : BitVec 32 := v451
  let v453 : Index := Scalar.indexCast v452
  let c0_193 : Index := 0#32
  ![v453.toNat, 0]
def k0_off38 (i : grid0.Coords) (k0_t4 : Fin (k0_t4_loop i).trips) (c0_i32_208 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c2_i32_207 : BitVec 32 := 2#32
  let v483 : BitVec 32 := Scalar.muli arg10 c2_i32_207
  let v484 : BitVec 32 := Scalar.addi v483 c0_i32_208
  let v485 : Index := Scalar.indexCast v484
  let c128_209 : Index := 128#32
  let c0_210 : Index := 0#32
  ![v485.toNat, 128, 0]
def k0_mult46 (i : grid0.Coords) (k0_t4 : Fin (k0_t4_loop i).trips) : BitVec 32 :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_219 : BitVec 32 := 512#32
  let v505 : BitVec 32 := Scalar.muli v342 c512_i32_219
  v505
def k0_off39 (i : grid0.Coords) (k0_t4 : Fin (k0_t4_loop i).trips) : Fin 2 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c1_i32_137 : BitVec 32 := 1#32
  let v341 : BitVec 32 := Scalar.addi arg10 c1_i32_137
  let c1_i32 : BitVec 32 := 1#32
  let v11 : BitVec 32 := Scalar.subi arg1 c1_i32
  let c0_i32 : BitVec 32 := 0#32
  let v12 : BitVec 32 := Scalar.maxsi v11 c0_i32
  let v342 : BitVec 32 := Scalar.minsi v341 v12
  let c512_i32_219 : BitVec 32 := 512#32
  let v505 : BitVec 32 := Scalar.muli v342 c512_i32_219
  let v506 : BitVec 32 := v505
  let v507 : Index := Scalar.indexCast v506
  let c128_220 : Index := 128#32
  ![v507.toNat, 128]
def k0_off40 (i : grid0.Coords) (k0_t4 : Fin (k0_t4_loop i).trips) (c0_i32_235 : BitVec 32) : Fin 3 → Nat :=
  let c4_i32 : BitVec 32 := 4#32
  let arg1 : BitVec 32 := BitVec.ofNat 32 (i 1).val
  let c2_i32_127 : BitVec 32 := 2#32
  let v305 : BitVec 32 := Scalar.shrui arg1 c2_i32_127
  let v313 : BitVec 32 := Scalar.muli c4_i32 v305
  let v314 : BitVec 32 := Scalar.subi arg1 v313
  let c1_i32_132 : BitVec 32 := 1#32
  let v316 : BitVec 32 := Scalar.divsi v314 c1_i32_132
  let v317 : BitVec 32 := Scalar.muli v316 c1_i32_132
  let v318 : BitVec 32 := Scalar.addi v313 v317
  let c1_i32_134 : BitVec 32 := 1#32
  let arg10 : BitVec 32 := Scf.iv v318 c1_i32_134 k0_t4
  let c2_i32_234 : BitVec 32 := 2#32
  let v537 : BitVec 32 := Scalar.muli arg10 c2_i32_234
  let v538 : BitVec 32 := Scalar.addi v537 c0_i32_235
  let v539 : Index := Scalar.indexCast v538
  let c192_236 : Index := 192#32
  let c0_237 : Index := 0#32
  ![v539.toNat, 192, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8x16384x96 : Shape := ⟨4, ![1, 8, 16384, 96]⟩
abbrev S1x8x16384x64 : Shape := ⟨4, ![1, 8, 16384, 64]⟩
abbrev S1x8x16384x16384 : Shape := ⟨4, ![1, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x8x16384 : Shape := ⟨3, ![1, 8, 16384]⟩
abbrev S1x8x16384x1 : Shape := ⟨4, ![1, 8, 16384, 1]⟩
abbrev S1x16384x8x64 : Shape := ⟨4, ![1, 16384, 8, 64]⟩
abbrev S16384x512 : Shape := ⟨2, ![16384, 512]⟩

abbrev nBuf : Space → Nat
  | .hbm => 37
  | .vmem => 0
  | .smem => 0
  | _ => 0

abbrev bufTy : (tb : Table) → Fin (tcTables nBuf tb) → BufTy
  | .hbm, ⟨0, _⟩ => ⟨S1x8x16384x96, .f32⟩
  | .hbm, ⟨1, _⟩ => ⟨S1x8x16384x96, .f32⟩
  | .hbm, ⟨2, _⟩ => ⟨S1x8x16384x64, .f32⟩
  | .hbm, ⟨3, _⟩ => ⟨S1x8x16384x16384, .f32⟩
  | .hbm, ⟨4, _⟩ => ⟨S_, .f32⟩
  | .hbm, ⟨5, _⟩ => ⟨S_, .f32⟩
  | .hbm, ⟨6, _⟩ => ⟨S1x8x16384x16384, .f32⟩
  | .hbm, ⟨7, _⟩ => ⟨S1x8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S1x8x16384x16384, .i1⟩
  | .hbm, ⟨17, _⟩ => ⟨S1x8x16384x16384, .f32⟩
  | .hbm, ⟨18, _⟩ => ⟨S1x8x16384x16384, .f32⟩
  | .hbm, ⟨19, _⟩ => ⟨S_, .f32⟩
  | .hbm, ⟨20, _⟩ => ⟨S1x8x16384, .f32⟩
  | .hbm, ⟨21, _⟩ => ⟨S_, .f32⟩
  | .hbm, ⟨22, _⟩ => ⟨S1x8x16384, .f32⟩
  | .hbm, ⟨23, _⟩ => ⟨S1x8x16384, .f32⟩
  | .hbm, ⟨24, _⟩ => ⟨S1x8x16384x1, .f32⟩
  | .hbm, ⟨25, _⟩ => ⟨S1x8x16384x16384, .f32⟩
  | .hbm, ⟨26, _⟩ => ⟨S1x8x16384x16384, .f32⟩
  | .hbm, ⟨27, _⟩ => ⟨S1x8x16384x16384, .f32⟩
  | .hbm, ⟨28, _⟩ => ⟨S_, .f32⟩
  | .hbm, ⟨29, _⟩ => ⟨S1x8x16384, .f32⟩
  | .hbm, ⟨30, _⟩ => ⟨S1x8x16384x1, .f32⟩
  | .hbm, ⟨31, _⟩ => ⟨S1x8x16384x16384, .f32⟩
  | .hbm, ⟨32, _⟩ => ⟨S1x8x16384x16384, .f32⟩
  | .hbm, ⟨33, _⟩ => ⟨S1x8x16384x64, .f32⟩
  | .hbm, ⟨34, _⟩ => ⟨S1x16384x8x64, .f32⟩
  | .hbm, ⟨35, _⟩ => ⟨S16384x512, .f32⟩
  | .hbm, ⟨36, _⟩ => ⟨S16384x512, .bf16⟩
  | _, _ => ⟨S1x8x16384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Ffn00.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S1x1x3x1024 : Shape := ⟨4, ![1, 1, 3, 1024]⟩
abbrev S3x1024 : Shape := ⟨2, ![3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16384x1024, .f32⟩
  | .hbm, ⟨11, _⟩ => ⟨S1x1x3x1024, .f32⟩
  | .hbm, ⟨12, _⟩ => ⟨S3x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn00Ideal.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S1x1x3x1024 : Shape := ⟨4, ![1, 1, 3, 1024]⟩
abbrev S3x1024 : Shape := ⟨2, ![3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16384x1024, .f32⟩
  | .hbm, ⟨11, _⟩ => ⟨S1x1x3x1024, .f32⟩
  | .hbm, ⟨12, _⟩ => ⟨S3x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn00ReferenceIdeal.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1x3x1024 : Shape := ⟨4, ![1, 1, 3, 1024]⟩
abbrev S3x1024 : Shape := ⟨2, ![3, 1024]⟩
abbrev S1x1024 : Shape := ⟨2, ![1, 1024]⟩
abbrev S1024 : Shape := ⟨1, ![1024]⟩
abbrev S16384x1024 : Shape := ⟨2, ![16384, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩

abbrev nBuf : Space → Nat
  | .hbm => 91
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x1x3x1024, .f32⟩
  | .hbm, ⟨8, _⟩ => ⟨S3x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S1x1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1x1024x2816, .f32⟩
  | .hbm, ⟨44, _⟩ => ⟨S1024x2816, .f32⟩
  | .hbm, ⟨45, _⟩ => ⟨S1x1x1024x2816, .f32⟩
  | .hbm, ⟨46, _⟩ => ⟨S1024x2816, .f32⟩
  | .hbm, ⟨47, _⟩ => ⟨S1x1x2816x1024, .f32⟩
  | .hbm, ⟨48, _⟩ => ⟨S2816x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x1024, .f32⟩
  | .hbm, ⟨62, _⟩ => ⟨S16384x1024, .f32⟩
  | .hbm, ⟨63, _⟩ => ⟨S1x1x1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Ffn01.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S1x1x3x1024 : Shape := ⟨4, ![1, 1, 3, 1024]⟩
abbrev S3x1024 : Shape := ⟨2, ![3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16384x1024, .f32⟩
  | .hbm, ⟨11, _⟩ => ⟨S1x1x3x1024, .f32⟩
  | .hbm, ⟨12, _⟩ => ⟨S3x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn01Ideal.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S1x1x3x1024 : Shape := ⟨4, ![1, 1, 3, 1024]⟩
abbrev S3x1024 : Shape := ⟨2, ![3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16384x1024, .f32⟩
  | .hbm, ⟨11, _⟩ => ⟨S1x1x3x1024, .f32⟩
  | .hbm, ⟨12, _⟩ => ⟨S3x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn01ReferenceIdeal.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1x3x1024 : Shape := ⟨4, ![1, 1, 3, 1024]⟩
abbrev S3x1024 : Shape := ⟨2, ![3, 1024]⟩
abbrev S1x1024 : Shape := ⟨2, ![1, 1024]⟩
abbrev S1024 : Shape := ⟨1, ![1024]⟩
abbrev S16384x1024 : Shape := ⟨2, ![16384, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩

abbrev nBuf : Space → Nat
  | .hbm => 91
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x1x3x1024, .f32⟩
  | .hbm, ⟨8, _⟩ => ⟨S3x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S1x1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1x1024x2816, .f32⟩
  | .hbm, ⟨44, _⟩ => ⟨S1024x2816, .f32⟩
  | .hbm, ⟨45, _⟩ => ⟨S1x1x1024x2816, .f32⟩
  | .hbm, ⟨46, _⟩ => ⟨S1024x2816, .f32⟩
  | .hbm, ⟨47, _⟩ => ⟨S1x1x2816x1024, .f32⟩
  | .hbm, ⟨48, _⟩ => ⟨S2816x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x1024, .f32⟩
  | .hbm, ⟨62, _⟩ => ⟨S16384x1024, .f32⟩
  | .hbm, ⟨63, _⟩ => ⟨S1x1x1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Ffn10.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S1x1x3x1024 : Shape := ⟨4, ![1, 1, 3, 1024]⟩
abbrev S3x1024 : Shape := ⟨2, ![3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16384x1024, .f32⟩
  | .hbm, ⟨11, _⟩ => ⟨S1x1x3x1024, .f32⟩
  | .hbm, ⟨12, _⟩ => ⟨S3x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn10Ideal.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S1x1x3x1024 : Shape := ⟨4, ![1, 1, 3, 1024]⟩
abbrev S3x1024 : Shape := ⟨2, ![3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16384x1024, .f32⟩
  | .hbm, ⟨11, _⟩ => ⟨S1x1x3x1024, .f32⟩
  | .hbm, ⟨12, _⟩ => ⟨S3x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn10ReferenceIdeal.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1x3x1024 : Shape := ⟨4, ![1, 1, 3, 1024]⟩
abbrev S3x1024 : Shape := ⟨2, ![3, 1024]⟩
abbrev S1x1024 : Shape := ⟨2, ![1, 1024]⟩
abbrev S1024 : Shape := ⟨1, ![1024]⟩
abbrev S16384x1024 : Shape := ⟨2, ![16384, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩

abbrev nBuf : Space → Nat
  | .hbm => 91
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x1x3x1024, .f32⟩
  | .hbm, ⟨8, _⟩ => ⟨S3x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S1x1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1x1024x2816, .f32⟩
  | .hbm, ⟨44, _⟩ => ⟨S1024x2816, .f32⟩
  | .hbm, ⟨45, _⟩ => ⟨S1x1x1024x2816, .f32⟩
  | .hbm, ⟨46, _⟩ => ⟨S1024x2816, .f32⟩
  | .hbm, ⟨47, _⟩ => ⟨S1x1x2816x1024, .f32⟩
  | .hbm, ⟨48, _⟩ => ⟨S2816x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x1024, .f32⟩
  | .hbm, ⟨62, _⟩ => ⟨S16384x1024, .f32⟩
  | .hbm, ⟨63, _⟩ => ⟨S1x1x1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Ffn11.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S1x1x3x1024 : Shape := ⟨4, ![1, 1, 3, 1024]⟩
abbrev S3x1024 : Shape := ⟨2, ![3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 20
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S16384x1024, .f32⟩
  | .hbm, ⟨11, _⟩ => ⟨S1x1x3x1024, .f32⟩
  | .hbm, ⟨12, _⟩ => ⟨S3x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ffn11ReferenceIdeal.lean ====
abbrev S1x16384x1024 : Shape := ⟨3, ![1, 16384, 1024]⟩
abbrev S2x3x3x1024 : Shape := ⟨4, ![2, 3, 3, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1x3x1024 : Shape := ⟨4, ![1, 1, 3, 1024]⟩
abbrev S3x1024 : Shape := ⟨2, ![3, 1024]⟩
abbrev S1x1024 : Shape := ⟨2, ![1, 1024]⟩
abbrev S1024 : Shape := ⟨1, ![1024]⟩
abbrev S16384x1024 : Shape := ⟨2, ![16384, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩

abbrev nBuf : Space → Nat
  | .hbm => 91
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x3x3x1024, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x1x3x1024, .f32⟩
  | .hbm, ⟨8, _⟩ => ⟨S3x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S1x1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1x1024x2816, .f32⟩
  | .hbm, ⟨44, _⟩ => ⟨S1024x2816, .f32⟩
  | .hbm, ⟨45, _⟩ => ⟨S1x1x1024x2816, .f32⟩
  | .hbm, ⟨46, _⟩ => ⟨S1024x2816, .f32⟩
  | .hbm, ⟨47, _⟩ => ⟨S1x1x2816x1024, .f32⟩
  | .hbm, ⟨48, _⟩ => ⟨S2816x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x1024, .f32⟩
  | .hbm, ⟨62, _⟩ => ⟨S16384x1024, .f32⟩
  | .hbm, ⟨63, _⟩ => ⟨S1x1x1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Merge0.lean ====
abbrev S1x16384x1024 : Shape := ⟨3, ![1, 16384, 1024]⟩
abbrev S1x16384x512 : Shape := ⟨3, ![1, 16384, 512]⟩
abbrev S2x3x3x1024 : Shape := ⟨4, ![2, 3, 3, 1024]⟩
abbrev S2x3x1024 : Shape := ⟨3, ![2, 3, 1024]⟩
abbrev S2x1024x6560 : Shape := ⟨3, ![2, 1024, 6560]⟩
abbrev S2x3x512x1024 : Shape := ⟨4, ![2, 3, 512, 1024]⟩
abbrev S2x1024x1024 : Shape := ⟨3, ![2, 1024, 1024]⟩
abbrev S1x1024x6560 : Shape := ⟨3, ![1, 1024, 6560]⟩
abbrev S1024x6560 : Shape := ⟨2, ![1024, 6560]⟩
abbrev S1024x3072 : Shape := ⟨2, ![1024, 3072]⟩
abbrev S1x3x1024 : Shape := ⟨3, ![1, 3, 1024]⟩
abbrev S3x1024 : Shape := ⟨2, ![3, 1024]⟩
abbrev S1x3072 : Shape := ⟨2, ![1, 3072]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S16384x512 : Shape := ⟨2, ![16384, 512]⟩
abbrev S16384x1024 : Shape := ⟨2, ![16384, 1024]⟩
abbrev S1x1x3x1024 : Shape := ⟨4, ![1, 1, 3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x3072 : Shape := ⟨2, ![512, 3072]⟩
abbrev S1x512x1024 : Shape := ⟨3, ![1, 512, 1024]⟩

abbrev nBuf : Space → Nat
  | .hbm => 40
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S2x3x3x1024, .f32⟩
  | .hbm, ⟨5, _⟩ => ⟨S2x3x1024, .f32⟩
  | .hbm, ⟨6, _⟩ => ⟨S2x3x1024, .f32⟩
  | .hbm, ⟨7, _⟩ => ⟨S2x1024x6560, .f32⟩
  | .hbm, ⟨8, _⟩ => ⟨S2x3x1024, .f32⟩
  | .hbm, ⟨9, _⟩ => ⟨S2x3x512x1024, .f32⟩
  | .hbm, ⟨10, _⟩ => ⟨S2x1024x1024, .f32⟩
  | .hbm, ⟨11, _⟩ => ⟨S2x1024x6560, .bf16⟩
  | .hbm, ⟨12, _⟩ => ⟨S2x3x512x1024, .bf16⟩
  | .hbm, ⟨13, _⟩ => ⟨S2x1024x1024, .bf16⟩
  | .hbm, ⟨14, _⟩ => ⟨S1x1024x6560, .bf16⟩
  | .hbm, ⟨15, _⟩ => ⟨S1024x6560, .bf16⟩
  | .hbm, ⟨16, _⟩ => ⟨S1024x3072, .bf16⟩
  | .hbm, ⟨17, _⟩ => ⟨S1x3x1024, .f32⟩
  | .hbm, ⟨18, _⟩ => ⟨S3x1024, .f32⟩
  | .hbm, ⟨19, _⟩ => ⟨S1x3072, .f32⟩
  | .hbm, ⟨20, _⟩ => ⟨S1x3x512x1024, .bf16⟩
  | .hbm, ⟨21, _⟩ => ⟨S3x512x1024, .bf16⟩
  | .hbm, ⟨22, _⟩ => ⟨S1x1024x1024, .bf16⟩
  | .hbm, ⟨23, _⟩ => ⟨S1024x1024, .bf16⟩
  | .hbm, ⟨24, _⟩ => ⟨S16384x512, .f32⟩
  | .hbm, ⟨25, _⟩ => ⟨S16384x512, .bf16⟩
  | .hbm, ⟨26, _⟩ => ⟨S16384x512, .f32⟩
  | .hbm, ⟨27, _⟩ => ⟨S16384x512, .bf16⟩
  | .hbm, ⟨28, _⟩ => ⟨S16384x512, .f32⟩
  | .hbm, ⟨29, _⟩ => ⟨S16384x512, .bf16⟩
  | .hbm, ⟨30, _⟩ => ⟨S16384x1024, .f32⟩
  | .hbm, ⟨31, _⟩ => ⟨S1x1x3x1024, .f32⟩
  | .hbm, ⟨32, _⟩ => ⟨S3x1024, .f32⟩
  | .hbm, ⟨33, _⟩ => ⟨S1x1x1024, .f32⟩
  | .hbm, ⟨34, _⟩ => ⟨S1024, .f32⟩
  | .hbm, ⟨35, _⟩ => ⟨S1x1x1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S1x3072, .f32⟩
  | .local _ .vmem, ⟨10, _⟩ => ⟨S3x512x1024, .bf16⟩
  | .local _ .vmem, ⟨11, _⟩ => ⟨S1024x1024, .bf16⟩
  | .local _ .vmem, ⟨12, _⟩ => ⟨S3x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Merge0ReferenceIdeal.lean ====
abbrev S1x16384x1024 : Shape := ⟨3, ![1, 16384, 1024]⟩
abbrev S1x16384x512 : Shape := ⟨3, ![1, 16384, 512]⟩
abbrev S2x3x3x1024 : Shape := ⟨4, ![2, 3, 3, 1024]⟩
abbrev S2x3x1024 : Shape := ⟨3, ![2, 3, 1024]⟩
abbrev S2x1024x6560 : Shape := ⟨3, ![2, 1024, 6560]⟩
abbrev S2x3x512x1024 : Shape := ⟨4, ![2, 3, 512, 1024]⟩
abbrev S2x1024x1024 : Shape := ⟨3, ![2, 1024, 1024]⟩
abbrev S1x1x3x1024 : Shape := ⟨4, ![1, 1, 3, 1024]⟩
abbrev S3x1024 : Shape := ⟨2, ![3, 1024]⟩
abbrev S1x1024 : Shape := ⟨2, ![1, 1024]⟩
abbrev S1024 : Shape := ⟨1, ![1024]⟩
abbrev S16384x1024 : Shape := ⟨2, ![16384, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1024x6560 : Shape := ⟨3, ![1, 1024, 6560]⟩
abbrev S1024x6560 : Shape := ⟨2, ![1024, 6560]⟩
abbrev S16384x6560 : Shape := ⟨2, ![16384, 6560]⟩
abbrev S16384x3072 : Shape := ⟨2, ![16384, 3072]⟩
abbrev S16384x3x1024 : Shape := ⟨3, ![16384, 3, 1024]⟩
abbrev S1x3x1024 : Shape := ⟨3, ![1, 3, 1024]⟩
abbrev S16384x512 : Shape := ⟨2, ![16384, 512]⟩
abbrev S16384x1x512 : Shape := ⟨3, ![16384, 1, 512]⟩
abbrev S16384x3x512 : Shape := ⟨3, ![16384, 3, 512]⟩
abbrev S1x3x512x1024 : Shape := ⟨4, ![1, 3, 512, 1024]⟩
abbrev S3x512x1024 : Shape := ⟨3, ![3, 512, 1024]⟩
abbrev S3x1024x16384 : Shape := ⟨3, ![3, 1024, 16384]⟩
abbrev S1x1024x1024 : Shape := ⟨3, ![1, 1024, 1024]⟩
abbrev S1024x1024 : Shape := ⟨2, ![1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S2x3x3x1024, .f32⟩
  | .hbm, ⟨5, _⟩ => ⟨S2x3x1024, .f32⟩
  | .hbm, ⟨6, _⟩ => ⟨S2x3x1024, .f32⟩
  | .hbm, ⟨7, _⟩ => ⟨S2x1024x6560, .f32⟩
  | .hbm, ⟨8, _⟩ => ⟨S2x3x1024, .f32⟩
  | .hbm, ⟨9, _⟩ => ⟨S2x3x512x1024, .f32⟩
  | .hbm, ⟨10, _⟩ => ⟨S2x1024x1024, .f32⟩
  | .hbm, ⟨11, _⟩ => ⟨S1x1x3x1024, .f32⟩
  | .hbm, ⟨12, _⟩ => ⟨S3x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S16384x1024, .f32⟩
  | .hbm, ⟨20, _⟩ => ⟨S1x1x1024, .f32⟩
  | .hbm, ⟨21, _⟩ => ⟨S1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024x6560, .f32⟩
  | .hbm, ⟨48, _⟩ => ⟨S1024x6560, .f32⟩
  | .hbm, ⟨49, _⟩ => ⟨S16384x6560, .f32⟩
  | .hbm, ⟨50, _⟩ => ⟨S16384x3072, .f32⟩
  | .hbm, ⟨51, _⟩ => ⟨S16384x3x1024, .f32⟩
  | .hbm, ⟨52, _⟩ => ⟨S1x3x1024, .f32⟩
  | .hbm, ⟨53, _⟩ => ⟨S3x1024, .f32⟩
  | .hbm, ⟨54, _⟩ => ⟨S1x3x1024, .f32⟩
  | .hbm, ⟨55, _⟩ => ⟨S16384x3x1024, .f32⟩
  | .hbm, ⟨56, _⟩ => ⟨S16384x3x1024, .f32⟩
  | .hbm, ⟨57, _⟩ => ⟨S16384x3x1024, .f32⟩
  | .hbm, ⟨58, _⟩ => ⟨S16384x3x1024, .f32⟩
  | .hbm, ⟨59, _⟩ => ⟨S_, .f32⟩
  | .hbm, ⟨60, _⟩ => ⟨S16384x3x1024, .f32⟩
  | .hbm, ⟨61, _⟩ => ⟨S16384x3x1024, .f32⟩
  | .hbm, ⟨62, _⟩ => ⟨S_, .f32⟩
  | .hbm, ⟨63, _⟩ => ⟨S16384x3x1024, .f32⟩
  | .hbm, ⟨64, _⟩ => ⟨S16384x3x1024, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x1x512, .f32⟩
  | .hbm, ⟨69, _⟩ => ⟨S16384x1x512, .f32⟩
  | .hbm, ⟨70, _⟩ => ⟨S16384x1x512, .f32⟩
  | .hbm, ⟨71, _⟩ => ⟨S16384x3x512, .f32⟩
  | .hbm, ⟨72, _⟩ => ⟨S1x3x512x1024, .f32⟩
  | .hbm, ⟨73, _⟩ => ⟨S3x512x1024, .f32⟩
  | .hbm, ⟨74, _⟩ => ⟨S3x1024x16384, .f32⟩
  | .hbm, ⟨75, _⟩ => ⟨S16384x1024, .f32⟩
  | .hbm, ⟨76, _⟩ => ⟨S16384x1024, .f32⟩
  | .hbm, ⟨77, _⟩ => ⟨S1x1024x1024, .f32⟩
  | .hbm, ⟨78, _⟩ => ⟨S1024x1024, .f32⟩
  | .hbm, ⟨79, _⟩ => ⟨S16384x1024, .f32⟩
  | .hbm, ⟨80, _⟩ => ⟨S1x1x1024, .f32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x1024, .f32⟩
  | .hbm, ⟨100, _⟩ => ⟨S16384x1024, .f32⟩
  | .hbm, ⟨101, _⟩ => ⟨S1x1024, .f32⟩
  | .hbm, ⟨102, _⟩ => ⟨S16384x1024, .f32⟩
  | .hbm, ⟨103, _⟩ => ⟨S16384x1024, .f32⟩
  | .hbm, ⟨104, _⟩ => ⟨S1x1024, .f32⟩
  | .hbm, ⟨105, _⟩ => ⟨S16384x1024, .f32⟩
  | .hbm, ⟨106, _⟩ => ⟨S16384x1024, .f32⟩
  | .hbm, ⟨107, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_5 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_cst_8 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Merge1.lean ====
abbrev S1x16384x1024 : Shape := ⟨3, ![1, 16384, 1024]⟩
abbrev S1x16384x512 : Shape := ⟨3, ![1, 16384, 512]⟩
abbrev S2x3x3x1024 : Shape := ⟨4, ![2, 3, 3, 1024]⟩
abbrev S2x3x1024 : Shape := ⟨3, ![2, 3, 1024]⟩
abbrev S2x1024x6560 : Shape := ⟨3, ![2, 1024, 6560]⟩
abbrev S2x3x512x1024 : Shape := ⟨4, ![2, 3, 512, 1024]⟩
abbrev S2x1024x1024 : Shape := ⟨3, ![2, 1024, 1024]⟩
abbrev S1x1024x6560 : Shape := ⟨3, ![1, 1024, 6560]⟩
abbrev S1024x6560 : Shape := ⟨2, ![1024, 6560]⟩
abbrev S1024x3072 : Shape := ⟨2, ![1024, 3072]⟩
abbrev S1x3x1024 : Shape := ⟨3, ![1, 3, 1024]⟩
abbrev S3x1024 : Shape := ⟨2, ![3, 1024]⟩
abbrev S1x3072 : Shape := ⟨2, ![1, 3072]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S16384x512 : Shape := ⟨2, ![16384, 512]⟩
abbrev S16384x1024 : Shape := ⟨2, ![16384, 1024]⟩
abbrev S1x1x3x1024 : Shape := ⟨4, ![1, 1, 3, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x3072 : Shape := ⟨2, ![512, 3072]⟩
abbrev S1x512x1024 : Shape := ⟨3, ![1, 512, 1024]⟩

abbrev nBuf : Space → Nat
  | .hbm => 40
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S2x3x3x1024, .f32⟩
  | .hbm, ⟨5, _⟩ => ⟨S2x3x1024, .f32⟩
  | .hbm, ⟨6, _⟩ => ⟨S2x3x1024, .f32⟩
  | .hbm, ⟨7, _⟩ => ⟨S2x1024x6560, .f32⟩
  | .hbm, ⟨8, _⟩ => ⟨S2x3x1024, .f32⟩
  | .hbm, ⟨9, _⟩ => ⟨S2x3x512x1024, .f32⟩
  | .hbm, ⟨10, _⟩ => ⟨S2x1024x1024, .f32⟩
  | .hbm, ⟨11, _⟩ => ⟨S2x1024x6560, .bf16⟩
  | .hbm, ⟨12, _⟩ => ⟨S2x3x512x1024, .bf16⟩
  | .hbm, ⟨13, _⟩ => ⟨S2x1024x1024, .bf16⟩
  | .hbm, ⟨14, _⟩ => ⟨S1x1024x6560, .bf16⟩
  | .hbm, ⟨15, _⟩ => ⟨S1024x6560, .bf16⟩
  | .hbm, ⟨16, _⟩ => ⟨S1024x3072, .bf16⟩
  | .hbm, ⟨17, _⟩ => ⟨S1x3x1024, .f32⟩
  | .hbm, ⟨18, _⟩ => ⟨S3x1024, .f32⟩
  | .hbm, ⟨19, _⟩ => ⟨S1x3072, .f32⟩
  | .hbm, ⟨20, _⟩ => ⟨S1x3x512x1024, .bf16⟩
  | .hbm, ⟨21, _⟩ => ⟨S3x512x1024, .bf16⟩
  | .hbm, ⟨22, _⟩ => ⟨S1x1024x1024, .bf16⟩
  | .hbm, ⟨23, _⟩ => ⟨S1024x1024, .bf16⟩
  | .hbm, ⟨24, _⟩ => ⟨S16384x512, .f32⟩
  | .hbm, ⟨25, _⟩ => ⟨S16384x512, .bf16⟩
  | .hbm, ⟨26, _⟩ => ⟨S16384x512, .f32⟩
  | .hbm, ⟨27, _⟩ => ⟨S16384x512, .bf16⟩
  | .hbm, ⟨28, _⟩ => ⟨S16384x512, .f32⟩
  | .hbm, ⟨29, _⟩ => ⟨S16384x512, .bf16⟩
  | .hbm, ⟨30, _⟩ => ⟨S16384x1024, .f32⟩
  | .hbm, ⟨31, _⟩ => ⟨S1x1x3x1024, .f32⟩
  | .hbm, ⟨32, _⟩ => ⟨S3x1024, .f32⟩
  | .hbm, ⟨33, _⟩ => ⟨S1x1x1024, .f32⟩
  | .hbm, ⟨34, _⟩ => ⟨S1024, .f32⟩
  | .hbm, ⟨35, _⟩ => ⟨S1x1x1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S1x3072, .f32⟩
  | .local _ .vmem, ⟨10, _⟩ => ⟨S3x512x1024, .bf16⟩
  | .local _ .vmem, ⟨11, _⟩ => ⟨S1024x1024, .bf16⟩
  | .local _ .vmem, ⟨12, _⟩ => ⟨S3x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Merge1ReferenceIdeal.lean ====
abbrev S1x16384x1024 : Shape := ⟨3, ![1, 16384, 1024]⟩
abbrev S1x16384x512 : Shape := ⟨3, ![1, 16384, 512]⟩
abbrev S2x3x3x1024 : Shape := ⟨4, ![2, 3, 3, 1024]⟩
abbrev S2x3x1024 : Shape := ⟨3, ![2, 3, 1024]⟩
abbrev S2x1024x6560 : Shape := ⟨3, ![2, 1024, 6560]⟩
abbrev S2x3x512x1024 : Shape := ⟨4, ![2, 3, 512, 1024]⟩
abbrev S2x1024x1024 : Shape := ⟨3, ![2, 1024, 1024]⟩
abbrev S1x1x3x1024 : Shape := ⟨4, ![1, 1, 3, 1024]⟩
abbrev S3x1024 : Shape := ⟨2, ![3, 1024]⟩
abbrev S1x1024 : Shape := ⟨2, ![1, 1024]⟩
abbrev S1024 : Shape := ⟨1, ![1024]⟩
abbrev S16384x1024 : Shape := ⟨2, ![16384, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1024x6560 : Shape := ⟨3, ![1, 1024, 6560]⟩
abbrev S1024x6560 : Shape := ⟨2, ![1024, 6560]⟩
abbrev S16384x6560 : Shape := ⟨2, ![16384, 6560]⟩
abbrev S16384x3072 : Shape := ⟨2, ![16384, 3072]⟩
abbrev S16384x3x1024 : Shape := ⟨3, ![16384, 3, 1024]⟩
abbrev S1x3x1024 : Shape := ⟨3, ![1, 3, 1024]⟩
abbrev S16384x512 : Shape := ⟨2, ![16384, 512]⟩
abbrev S16384x1x512 : Shape := ⟨3, ![16384, 1, 512]⟩
abbrev S16384x3x512 : Shape := ⟨3, ![16384, 3, 512]⟩
abbrev S1x3x512x1024 : Shape := ⟨4, ![1, 3, 512, 1024]⟩
abbrev S3x512x1024 : Shape := ⟨3, ![3, 512, 1024]⟩
abbrev S3x1024x16384 : Shape := ⟨3, ![3, 1024, 16384]⟩
abbrev S1x1024x1024 : Shape := ⟨3, ![1, 1024, 1024]⟩
abbrev S1024x1024 : Shape := ⟨2, ![1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S2x3x3x1024, .f32⟩
  | .hbm, ⟨5, _⟩ => ⟨S2x3x1024, .f32⟩
  | .hbm, ⟨6, _⟩ => ⟨S2x3x1024, .f32⟩
  | .hbm, ⟨7, _⟩ => ⟨S2x1024x6560, .f32⟩
  | .hbm, ⟨8, _⟩ => ⟨S2x3x1024, .f32⟩
  | .hbm, ⟨9, _⟩ => ⟨S2x3x512x1024, .f32⟩
  | .hbm, ⟨10, _⟩ => ⟨S2x1024x1024, .f32⟩
  | .hbm, ⟨11, _⟩ => ⟨S1x1x3x1024, .f32⟩
  | .hbm, ⟨12, _⟩ => ⟨S3x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S16384x1024, .f32⟩
  | .hbm, ⟨20, _⟩ => ⟨S1x1x1024, .f32⟩
  | .hbm, ⟨21, _⟩ => ⟨S1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024x6560, .f32⟩
  | .hbm, ⟨48, _⟩ => ⟨S1024x6560, .f32⟩
  | .hbm, ⟨49, _⟩ => ⟨S16384x6560, .f32⟩
  | .hbm, ⟨50, _⟩ => ⟨S16384x3072, .f32⟩
  | .hbm, ⟨51, _⟩ => ⟨S16384x3x1024, .f32⟩
  | .hbm, ⟨52, _⟩ => ⟨S1x3x1024, .f32⟩
  | .hbm, ⟨53, _⟩ => ⟨S3x1024, .f32⟩
  | .hbm, ⟨54, _⟩ => ⟨S1x3x1024, .f32⟩
  | .hbm, ⟨55, _⟩ => ⟨S16384x3x1024, .f32⟩
  | .hbm, ⟨56, _⟩ => ⟨S16384x3x1024, .f32⟩
  | .hbm, ⟨57, _⟩ => ⟨S16384x3x1024, .f32⟩
  | .hbm, ⟨58, _⟩ => ⟨S16384x3x1024, .f32⟩
  | .hbm, ⟨59, _⟩ => ⟨S_, .f32⟩
  | .hbm, ⟨60, _⟩ => ⟨S16384x3x1024, .f32⟩
  | .hbm, ⟨61, _⟩ => ⟨S16384x3x1024, .f32⟩
  | .hbm, ⟨62, _⟩ => ⟨S_, .f32⟩
  | .hbm, ⟨63, _⟩ => ⟨S16384x3x1024, .f32⟩
  | .hbm, ⟨64, _⟩ => ⟨S16384x3x1024, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x1x512, .f32⟩
  | .hbm, ⟨69, _⟩ => ⟨S16384x1x512, .f32⟩
  | .hbm, ⟨70, _⟩ => ⟨S16384x1x512, .f32⟩
  | .hbm, ⟨71, _⟩ => ⟨S16384x3x512, .f32⟩
  | .hbm, ⟨72, _⟩ => ⟨S1x3x512x1024, .f32⟩
  | .hbm, ⟨73, _⟩ => ⟨S3x512x1024, .f32⟩
  | .hbm, ⟨74, _⟩ => ⟨S3x1024x16384, .f32⟩
  | .hbm, ⟨75, _⟩ => ⟨S16384x1024, .f32⟩
  | .hbm, ⟨76, _⟩ => ⟨S16384x1024, .f32⟩
  | .hbm, ⟨77, _⟩ => ⟨S1x1024x1024, .f32⟩
  | .hbm, ⟨78, _⟩ => ⟨S1024x1024, .f32⟩
  | .hbm, ⟨79, _⟩ => ⟨S16384x1024, .f32⟩
  | .hbm, ⟨80, _⟩ => ⟨S1x1x1024, .f32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x1024, .f32⟩
  | .hbm, ⟨100, _⟩ => ⟨S16384x1024, .f32⟩
  | .hbm, ⟨101, _⟩ => ⟨S1x1024, .f32⟩
  | .hbm, ⟨102, _⟩ => ⟨S16384x1024, .f32⟩
  | .hbm, ⟨103, _⟩ => ⟨S16384x1024, .f32⟩
  | .hbm, ⟨104, _⟩ => ⟨S1x1024, .f32⟩
  | .hbm, ⟨105, _⟩ => ⟨S16384x1024, .f32⟩
  | .hbm, ⟨106, _⟩ => ⟨S16384x1024, .f32⟩
  | .hbm, ⟨107, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_5 : Ref sig .tc := ⟨.hbm, 82, rfl⟩
abbrev main_v65 : Ref sig .tc := ⟨.hbm, 83, rfl⟩
abbrev main_v66 : Ref sig .tc := ⟨.hbm, 84, rfl⟩
abbrev main_cst_6 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_cst_8 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Stick.lean ====
abbrev S1x8x16384x64 : Shape := ⟨4, ![1, 8, 16384, 64]⟩
abbrev S8x16384x64 : Shape := ⟨3, ![8, 16384, 64]⟩
abbrev S16384x8x64 : Shape := ⟨3, ![16384, 8, 64]⟩
abbrev S16384x512 : Shape := ⟨2, ![16384, 512]⟩
abbrev S_ : Shape := ⟨0, ![]⟩
abbrev S8x64x256x64 : Shape := ⟨4, ![8, 64, 256, 64]⟩
abbrev S64x8x64x256 : Shape := ⟨4, ![64, 8, 64, 256]⟩
abbrev S64x512x256 : Shape := ⟨3, ![64, 512, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S256x512 : Shape := ⟨2, ![256, 512]⟩
abbrev S8x256x256 : Shape := ⟨3, ![8, 256, 256]⟩
abbrev S1x128 : Shape := ⟨2, ![1, 128]⟩
abbrev S256x128 : Shape := ⟨2, ![256, 128]⟩
abbrev S64x256 : Shape := ⟨2, ![64, 256]⟩
abbrev S1x256x256 : Shape := ⟨3, ![1, 256, 256]⟩
abbrev S1x64x256 : Shape := ⟨3, ![1, 64, 256]⟩
abbrev S1x1x256 : Shape := ⟨3, ![1, 1, 256]⟩
abbrev S1 : Shape := ⟨1, ![1]⟩
abbrev S1x1x1 : Shape := ⟨3, ![1, 1, 1]⟩
abbrev S512x256 : Shape := ⟨2, ![512, 256]⟩

abbrev nBuf : Space → Nat
  | .hbm => 32
  | .vmem => 10
  | .smem => 0
  | _ => 0

abbrev bufTy : (tb : Table) → Fin (tcTables nBuf tb) → BufTy
  | .hbm, ⟨0, _⟩ => ⟨S1x8x16384x64, .f32⟩
  | .hbm, ⟨1, _⟩ => ⟨S1x8x16384x64, .f32⟩
  | .hbm, ⟨2, _⟩ => ⟨S1x8x16384x64, .f32⟩
  | .hbm, ⟨3, _⟩ => ⟨S8x16384x64, .f32⟩
  | .hbm, ⟨4, _⟩ => ⟨S16384x8x64, .f32⟩
  | .hbm, ⟨5, _⟩ => ⟨S16384x512, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S8x16384x64, .f32⟩
  | .hbm, ⟨15, _⟩ => ⟨S16384x8x64, .f32⟩
  | .hbm, ⟨16, _⟩ => ⟨S16384x512, .f32⟩
  | .hbm, ⟨17, _⟩ => ⟨S16384x512, .bf16⟩
  | .hbm, ⟨18, _⟩ => ⟨S8x16384x64, .f32⟩
  | .hbm, ⟨19, _⟩ => ⟨S8x64x256x64, .f32⟩
  | .hbm, ⟨20, _⟩ => ⟨S64x8x64x256, .f32⟩
  | .hbm, ⟨21, _⟩ => ⟨S64x512x256, .f32⟩
  | .hbm, ⟨22, _⟩ => ⟨S64x512x256, .bf16⟩
  | .hbm, ⟨23, _⟩ => ⟨S256, .i32⟩
  | .hbm, ⟨24, _⟩ => ⟨S1x256, .i32⟩
  | .hbm, ⟨25, _⟩ => ⟨S256, .i32⟩
  | .hbm, ⟨26, _⟩ => ⟨S256x1, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S16384x512, .bf16⟩
  | .local _ .vmem, ⟨3, _⟩ => ⟨S64x512x256, .bf16⟩
  | .local _ .vmem, ⟨4, _⟩ => ⟨S256x256, .bf16⟩
  | .local _ .vmem, ⟨5, _⟩ => ⟨S256x512, .bf16⟩
  | .local _ .vmem, ⟨6, _⟩ => ⟨S256x512, .bf16⟩
  | .local _ .vmem, ⟨7, _⟩ => ⟨S8x256x256, .f32⟩
  | .local _ .vmem, ⟨8, _⟩ => ⟨S8x256x256, .bf16⟩
  | .local _ .vmem, ⟨9, _⟩ => ⟨S8x256x256, .bf16⟩
  | _, _ => ⟨S1x8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c256_i32 : BitVec 32 := 256#32
  let v72 : BitVec 32 := Scalar.muli arg0 c256_i32
  v72
def k0_off1 (i : grid0.Coords) : Fin 2 → Nat :=
  let arg0 : BitVec 32 := BitVec.ofNat 32 (i 0).val
  let c256_i32 : BitVec 32 := 256#32
  let v72 : BitVec 32 := Scalar.muli arg0 c256_i32
  let v73 : BitVec 32 := v72
  let v74 : Index := Scalar.indexCast v73
  let c0_30 : Index := 0#32
  ![v74.toNat, 0]
def k0_mult2 (i : grid0.Coords) : BitVec 32 :=
  let arg0 : BitVec 32 := BitVec.ofNat 32 (i 0).val
  let c256_i32_48 : BitVec 32 := 256#32
  let v110 : BitVec 32 := Scalar.muli arg0 c256_i32_48
  v110
def k0_off2 (i : grid0.Coords) : Fin 3 → Nat :=
  let arg0 : BitVec 32 := BitVec.ofNat 32 (i 0).val
  let v164 : Index := Scalar.indexCast arg0
  let c0_78 : Index := 0#32
  let c0_79 : Index := 0#32
  ![v164.toNat, 0, 0]
def k0_mult3 (i : grid0.Coords) : BitVec 32 :=
  let arg0 : BitVec 32 := BitVec.ofNat 32 (i 0).val
  let c256_i32_81 : BitVec 32 := 256#32
  let v170 : BitVec 32 := Scalar.muli arg0 c256_i32_81
  v170
def k0_off3 (i : grid0.Coords) : Fin 2 → Nat :=
  let arg0 : BitVec 32 := BitVec.ofNat 32 (i 0).val
  let c256_i32_81 : BitVec 32 := 256#32
  let v170 : BitVec 32 := Scalar.muli arg0 c256_i32_81
  let v171 : BitVec 32 := v170
  let v172 : Index := Scalar.indexCast v171
  let c128_82 : Index := 128#32
  ![v172.toNat, 128]
def k0_off4 (i : grid0.Coords) : Fin 3 → Nat :=
  let arg0 : BitVec 32 := BitVec.ofNat 32 (i 0).val
  let v224 : Index := Scalar.indexCast arg0
  let c64 : Index := 64#32
  let c0_111 : Index := 0#32
  ![v224.toNat, 64, 0]
def k0_mult4 (i : grid0.Coords) : BitVec 32 :=
  let arg0 : BitVec 32 := BitVec.ofNat 32 (i 0).val
  let c256_i32_113 : BitVec 32 := 256#32
  let v230 : BitVec 32 := Scalar.muli arg0 c256_i32_113
  v230
def k0_off5 (i : grid0.Coords) : Fin 3 → Nat :=
  let arg0 : BitVec 32 := BitVec.ofNat 32 (i 0).val
  let v284 : Index := Scalar.indexCast arg0
  let c128_143 : Index := 128#32
  let c0_144 : Index := 0#32
  ![v284.toNat, 128, 0]
def k0_mult5 (i : grid0.Coords) : BitVec 32 :=
  let arg0 : BitVec 32 := BitVec.ofNat 32 (i 0).val
  let c256_i32_146 : BitVec 32 := 256#32
  let v290 : BitVec 32 := Scalar.muli arg0 c256_i32_146
  v290
def k0_off6 (i : grid0.Coords) : Fin 2 → Nat :=
  let arg0 : BitVec 32 := BitVec.ofNat 32 (i 0).val
  let c256_i32_146 : BitVec 32 := 256#32
  let v290 : BitVec 32 := Scalar.muli arg0 c256_i32_146
  let v291 : BitVec 32 := v290
  let v292 : Index := Scalar.indexCast v291
  let c256_147 : Index := 256#32
  ![v292.toNat, 256]
def k0_off7 (i : grid0.Coords) : Fin 3 → Nat :=
  let arg0 : BitVec 32 := BitVec.ofNat 32 (i 0).val
  let v344 : Index := Scalar.indexCast arg0
  let c192 : Index := 192#32
  let c0_176 : Index := 0#32
  ![v344.toNat, 192, 0]
def k0_mult6 (i : grid0.Coords) : BitVec 32 :=
  let arg0 : BitVec 32 := BitVec.ofNat 32 (i 0).val
  let c256_i32_178 : BitVec 32 := 256#32
  let v350 : BitVec 32 := Scalar.muli arg0 c256_i32_178
  v350
def k0_off8 (i : grid0.Coords) : Fin 3 → Nat :=
  let arg0 : BitVec 32 := BitVec.ofNat 32 (i 0).val
  let v404 : Index := Scalar.indexCast arg0
  let c256_208 : Index := 256#32
  let c0_209 : Index := 0#32
  ![v404.toNat, 256, 0]
def k0_mult7 (i : grid0.Coords) : BitVec 32 :=
  let arg0 : BitVec 32 := BitVec.ofNat 32 (i 0).val
  let c256_i32_211 : BitVec 32 := 256#32
  let v410 : BitVec 32 := Scalar.muli arg0 c256_i32_211
  v410
def k0_off9 (i : grid0.Coords) : Fin 2 → Nat :=
  let arg0 : BitVec 32 := BitVec.ofNat 32 (i 0).val
  let c256_i32_211 : BitVec 32 := 256#32
  let v410 : BitVec 32 := Scalar.muli arg0 c256_i32_211
  let v411 : BitVec 32 := v410
  let v412 : Index := Scalar.indexCast v411
  let c384_212 : Index := 384#32
  ![v412.toNat, 384]
def k0_off10 (i : grid0.Coords) : Fin 3 → Nat :=
  let arg0 : BitVec 32 := BitVec.ofNat 32 (i 0).val
  let v464 : Index := Scalar.indexCast arg0
  let c320 : Index := 320#32
  let c0_241 : Index := 0#32
  ![v464.toNat, 320, 0]
def k0_mult8 (i : grid0.Coords) : BitVec 32 :=
  let arg0 : BitVec 32 := BitVec.ofNat 32 (i 0).val
  let c256_i32_243 : BitVec 32 := 256#32
  let v470 : BitVec 32 := Scalar.muli arg0 c256_i32_243
  v470
def k0_off11 (i : grid0.Coords) : Fin 3 → Nat :=
  let arg0 : BitVec 32 := BitVec.ofNat 32 (i 0).val
  let v524 : Index := Scalar.indexCast arg0
  let c384_273 : Index := 384#32
  let c0_274 : Index := 0#32
  ![v524.toNat, 384, 0]
def k0_off12 (i : grid0.Coords) : Fin 3 → Nat :=
  let arg0 : BitVec 32 := BitVec.ofNat 32 (i 0).val
  let v546 : Index := Scalar.indexCast arg0
  let c448 : Index := 448#32
  let c0_288 : Index := 0#32
  ![v546.toNat, 448, 0]
def k0_mult9 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_293 : BitVec 32 := 256#32
  let v560 : BitVec 32 := Scalar.muli v559 c256_i32_293
  v560

def k0_off13 (i : grid0.Coords) (arg9 : BitVec 32) : Fin 2 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_293 : BitVec 32 := 256#32
  let v560 : BitVec 32 := Scalar.muli v559 c256_i32_293
  let v561 : BitVec 32 := v560
  let v562 : Index := Scalar.indexCast v561
  let c0_294 : Index := 0#32
  ![v562.toNat, 0]
def k0_mult10 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_311 : BitVec 32 := 256#32
  let v596 : BitVec 32 := Scalar.muli v559 c256_i32_311
  v596
def k0_off14 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v646 : Index := Scalar.indexCast v559
  let c0_340 : Index := 0#32
  let c0_341 : Index := 0#32
  ![v646.toNat, 0, 0]
def k0_mult11 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_343 : BitVec 32 := 256#32
  let v652 : BitVec 32 := Scalar.muli v559 c256_i32_343
  v652
def k0_off15 (i : grid0.Coords) (arg9 : BitVec 32) : Fin 2 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_343 : BitVec 32 := 256#32
  let v652 : BitVec 32 := Scalar.muli v559 c256_i32_343
  let v653 : BitVec 32 := v652
  let v654 : Index := Scalar.indexCast v653
  let c128_344 : Index := 128#32
  ![v654.toNat, 128]
def k0_off16 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v702 : Index := Scalar.indexCast v559
  let c64_372 : Index := 64#32
  let c0_373 : Index := 0#32
  ![v702.toNat, 64, 0]
def k0_mult12 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_375 : BitVec 32 := 256#32
  let v708 : BitVec 32 := Scalar.muli v559 c256_i32_375
  v708
def k0_off17 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v758 : Index := Scalar.indexCast v559
  let c128_404 : Index := 128#32
  let c0_405 : Index := 0#32
  ![v758.toNat, 128, 0]
def k0_mult13 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_407 : BitVec 32 := 256#32
  let v764 : BitVec 32 := Scalar.muli v559 c256_i32_407
  v764
def k0_off18 (i : grid0.Coords) (arg9 : BitVec 32) : Fin 2 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_407 : BitVec 32 := 256#32
  let v764 : BitVec 32 := Scalar.muli v559 c256_i32_407
  let v765 : BitVec 32 := v764
  let v766 : Index := Scalar.indexCast v765
  let c256_408 : Index := 256#32
  ![v766.toNat, 256]
def k0_off19 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v814 : Index := Scalar.indexCast v559
  let c192_436 : Index := 192#32
  let c0_437 : Index := 0#32
  ![v814.toNat, 192, 0]
def k0_mult14 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_439 : BitVec 32 := 256#32
  let v820 : BitVec 32 := Scalar.muli v559 c256_i32_439
  v820
def k0_off20 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v870 : Index := Scalar.indexCast v559
  let c256_468 : Index := 256#32
  let c0_469 : Index := 0#32
  ![v870.toNat, 256, 0]
def k0_mult15 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_471 : BitVec 32 := 256#32
  let v876 : BitVec 32 := Scalar.muli v559 c256_i32_471
  v876
def k0_off21 (i : grid0.Coords) (arg9 : BitVec 32) : Fin 2 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_471 : BitVec 32 := 256#32
  let v876 : BitVec 32 := Scalar.muli v559 c256_i32_471
  let v877 : BitVec 32 := v876
  let v878 : Index := Scalar.indexCast v877
  let c384_472 : Index := 384#32
  ![v878.toNat, 384]
def k0_off22 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v926 : Index := Scalar.indexCast v559
  let c320_500 : Index := 320#32
  let c0_501 : Index := 0#32
  ![v926.toNat, 320, 0]
def k0_mult16 (i : grid0.Coords) (arg9 : BitVec 32) : BitVec 32 :=
  let arg0 : BitVec 32 := BitVec.ofNat 32 (i 0).val
  let c1_i32_292 : BitVec 32 := 1#32
  let v558 : BitVec 32 := Scalar.subi arg0 c1_i32_292
  let v559 : BitVec 32 := Scalar.subi v558 arg9
  let c256_i32_503 : BitVec 32 := 256#32
  let v932 : BitVec 32 := Scalar.muli v559 c256_i32_503
  v932
def k0_off23 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v982 : Index := Scalar.indexCast v559
  let c384_532 : Index := 384#32
  let c0_533 : Index := 0#32
  ![v982.toNat, 384, 0]
def k0_off24 (i : grid0.Coords) (arg9 : BitVec 32) : Fin 3 → Nat :=
  let arg0 : BitVec 32 := BitVec.ofNat 32 (i 0).val
  let c1_i32_292 : BitVec 32 := 1#32
  let v558 : BitVec 32 := Scalar.subi arg0 c1_i32_292
  let v559 : BitVec 32 := Scalar.subi v558 arg9
  let v1002 : Index := Scalar.indexCast v559
  let c448_546 : Index := 448#32
  let c0_547 : Index := 0#32
  ![v1002.toNat, 448, 0]

def k0_chk1 (i : grid0.Coords) (arg9 : BitVec 32) : Prop :=
  (256 ∣ (k0_mult9 i arg9).toNat) ∧
  (∀ a, (k0_off13 i arg9) a + S256x128.size a ≤ S16384x512.size a) ∧
  (256 ∣ (k0_mult10 i arg9).toNat) ∧
  (∀ a, (k0_off14 i arg9) a + S1x64x256.size a ≤ S64x512x256.size a) ∧
  (256 ∣ (k0_mult11 i arg9).toNat) ∧
  (∀ a, (k0_off15 i arg9) a + S256x128.size a ≤ S16384x512.size a) ∧
  (∀ a, (k0_off16 i arg9) a + S1x64x256.size a ≤ S64x512x256.size a) ∧
  (256 ∣ (k0_mult12 i arg9).toNat) ∧
  (∀ a, (k0_off17 i arg9) a + S1x64x256.size a ≤ S64x512x256.size a) ∧
  (256 ∣ (k0_mult13 i arg9).toNat) ∧
  (∀ a, (k0_off18 i arg9) a + S256x128.size a ≤ S16384x512.size a) ∧
  (∀ a, (k0_off19 i arg9) a + S1x64x256.size a ≤ S64x512x256.size a) ∧
  (256 ∣ (k0_mult14 i arg9).toNat) ∧
  (∀ a, (k0_off20 i arg9) a + S1x64x256.size a ≤ S64x512x256.size a) ∧
  (256 ∣ (k0_mult15 i arg9).toNat) ∧
  (∀ a, (k0_off21 i arg9) a + S256x128.size a ≤ S16384x512.size a) ∧
  (∀ a, (k0_off22 i arg9) a + S1x64x256.size a ≤ S64x512x256.size a) ∧
  (256 ∣ (k0_mult16 i arg9).toNat) ∧
  (∀ a, (k0_off23 i arg9) a + S1x64x256.size a ≤ S64x512x256.size a) ∧
  (∀ a, (k0_off24 i arg9) a + S1x64x256.size a ≤ S64x512x256.size a)
theorem k0_mult9_dvd : ∀ (i : grid0.Coords) (arg9 : BitVec 32) (k0_hw1 : k0_chk1 i arg9), 256 ∣ (k0_mult9 i arg9).toNat := fun i arg9 k0_hw1 => k0_hw1.1
theorem k0_off13_inb : ∀ (i : grid0.Coords) (arg9 : BitVec 32) (k0_hw1 : k0_chk1 i arg9), ∀ a, (k0_off13 i arg9) a + S256x128.size a ≤ S16384x512.size a := fun i arg9 k0_hw1 => k0_hw1.2.1
theorem k0_mult10_dvd : ∀ (i : grid0.Coords) (arg9 : BitVec 32) (k0_hw1 : k0_chk1 i arg9), 256 ∣ (k0_mult10 i arg9).toNat := fun i arg9 k0_hw1 => k0_hw1.2.2.1
theorem k0_off14_inb : ∀ (i : grid0.Coords) (arg9 : BitVec 32) (k0_hw1 : k0_chk1 i arg9), ∀ a, (k0_off14 i arg9) a + S1x64x256.size a ≤ S64x512x256.size a := fun i arg9 k0_hw1 => k0_hw1.2.2.2.1
theorem k0_mult11_dvd : ∀ (i : grid0.Coords) (arg9 : BitVec 32) (k0_hw1 : k0_chk1 i arg9), 256 ∣ (k0_mult11 i arg9).toNat := fun i arg9 k0_hw1 => k0_hw1.2.2.2.2.1
theorem k0_off15_inb : ∀ (i : grid0.Coords) (arg9 : BitVec 32) (k0_hw1 : k0_chk1 i arg9), ∀ a, (k0_off15 i arg9) a + S256x128.size a ≤ S16384x512.size a := fun i arg9 k0_hw1 => k0_hw1.2.2.2.2.2.1
theorem k0_off16_inb : ∀ (i : grid0.Coords) (arg9 : BitVec 32) (k0_hw1 : k0_chk1 i arg9), ∀ a, (k0_off16 i arg9) a + S1x64x256.size a ≤ S64x512x256.size a := fun i arg9 k0_hw1 => k0_hw1.2.2.2.2.2.2.1
theorem k0_mult12_dvd : ∀ (i : grid0.Coords) (arg9 : BitVec 32) (k0_hw1 : k0_chk1 i arg9), 256 ∣ (k0_mult12 i arg9).toNat := fun i arg9 k0_hw1 => k0_hw1.2.2.2.2.2.2.2.1
theorem k0_off17_inb : ∀ (i : grid0.Coords) (arg9 : BitVec 32) (k0_hw1 : k0_chk1 i arg9), ∀ a, (k0_off17 i arg9) a + S1x64x256.size a ≤ S64x512x256.size a := fun i arg9 k0_hw1 => k0_hw1.2.2.2.2.2.2.2.2.1
theorem k0_mult13_dvd : ∀ (i : grid0.Coords) (arg9 : BitVec 32) (k0_hw1 : k0_chk1 i arg9), 256 ∣ (k0_mult13 i arg9).toNat := fun i arg9 k0_hw1 => k0_hw1.2.2.2.2.2.2.2.2.2.1
theorem k0_off18_inb : ∀ (i : grid0.Coords) (arg9 : BitVec 32) (k0_hw1 : k0_chk1 i arg9), ∀ a, (k0_off18 i arg9) a + S256x128.size a ≤ S16384x512.size a := fun i arg9 k0_hw1 => k0_hw1.2.2.2.2.2.2.2.2.2.2.1
theorem k0_off19_inb : ∀ (i : grid0.Coords) (arg9 : BitVec 32) (k0_hw1 : k0_chk1 i arg9), ∀ a, (k0_off19 i arg9) a + S1x64x256.size a ≤ S64x512x256.size a := fun i arg9 k0_hw1 => k0_hw1.2.2.2.2.2.2.2.2.2.2.2.1
theorem k0_mult14_dvd : ∀ (i : grid0.Coords) (arg9 : BitVec 32) (k0_hw1 : k0_chk1 i arg9), 256 ∣ (k0_mult14 i arg9).toNat := fun i arg9 k0_hw1 => k0_hw1.2.2.2.2.2.2.2.2.2.2.2.2.1
theorem k0_off20_inb : ∀ (i : grid0.Coords) (arg9 : BitVec 32) (k0_hw1 : k0_chk1 i arg9), ∀ a, (k0_off20 i arg9) a + S1x64x256.size a ≤ S64x512x256.size a := fun i arg9 k0_hw1 => k0_hw1.2.2.2.2.2.2.2.2.2.2.2.2.2.1
theorem k0_mult15_dvd : ∀ (i : grid0.Coords) (arg9 : BitVec 32) (k0_hw1 : k0_chk1 i arg9), 256 ∣ (k0_mult15 i arg9).toNat := fun i arg9 k0_hw1 => k0_hw1.2.2.2.2.2.2.2.2.2.2.2.2.2.2.1
theorem k0_off21_inb : ∀ (i : grid0.Coords) (arg9 : BitVec 32) (k0_hw1 : k0_chk1 i arg9), ∀ a, (k0_off21 i arg9) a + S256x128.size a ≤ S16384x512.size a := fun i arg9 k0_hw1 => k0_hw1.2.2.2.2.2.2.2.2.2.2.2.2.2.2.2.1
theorem k0_off22_inb : ∀ (i : grid0.Coords) (arg9 : BitVec 32) (k0_hw1 : k0_chk1 i arg9), ∀ a, (k0_off22 i arg9) a + S1x64x256.size a ≤ S64x512x256.size a := fun i arg9 k0_hw1 => k0_hw1.2.2.2.2.2.2.2.2.2.2.2.2.2.2.2.2.1
theorem k0_mult16_dvd : ∀ (i : grid0.Coords) (arg9 : BitVec 32) (k0_hw1 : k0_chk1 i arg9), 256 ∣ (k0_mult16 i arg9).toNat := fun i arg9 k0_hw1 => k0_hw1.2.2.2.2.2.2.2.2.2.2.2.2.2.2.2.2.2.1
theorem k0_off23_inb : ∀ (i : grid0.Coords) (arg9 : BitVec 32) (k0_hw1 : k0_chk1 i arg9), ∀ a, (k0_off23 i arg9) a + S1x64x256.size a ≤ S64x512x256.size a := fun i arg9 k0_hw1 => k0_hw1.2.2.2.2.2.2.2.2.2.2.2.2.2.2.2.2.2.2.1
theorem k0_off24_inb : ∀ (i : grid0.Coords) (arg9 : BitVec 32) (k0_hw1 : k0_chk1 i arg9), ∀ a, (k0_off24 i arg9) a + S1x64x256.size a ≤ S64x512x256.size a := fun i arg9 k0_hw1 => k0_hw1.2.2.2.2.2.2.2.2.2.2.2.2.2.2.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StickIdeal.lean ====
variable {F : FTy → Type} [FloatOps F] [Named F]
def κ : String → Option EReal := fun
  | "log2e" => some (((Real.log 2)⁻¹ : ℝ) : EReal)
  | "zero_at" => some ⊥
  | _ => none
-- ==== StickReferenceIdeal.lean ====
abbrev S1x8x16384x64 : Shape := ⟨4, ![1, 8, 16384, 64]⟩
abbrev S1x8x16384x16384 : Shape := ⟨4, ![1, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x8x64 : Shape := ⟨4, ![1, 16384, 8, 64]⟩
abbrev S16384x512 : Shape := ⟨2, ![16384, 512]⟩

abbrev nBuf : Space → Nat
  | .hbm => 66
  | .vmem => 0
  | .smem => 0
  | _ => 0

abbrev bufTy : (tb : Table) → Fin (tcTables nBuf tb) → BufTy
  | .hbm, ⟨0, _⟩ => ⟨S1x8x16384x64, .f32⟩
  | .hbm, ⟨1, _⟩ => ⟨S1x8x16384x64, .f32⟩
  | .hbm, ⟨2, _⟩ => ⟨S1x8x16384x64, .f32⟩
  | .hbm, ⟨3, _⟩ => ⟨S1x8x16384x16384, .f32⟩
  | .hbm, ⟨4, _⟩ => ⟨S_, .f32⟩
  | .hbm, ⟨5, _⟩ => ⟨S1x8x16384x16384, .f32⟩
  | .hbm, ⟨6, _⟩ => ⟨S1x8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S1x8x16384x16384, .f32⟩
  | .hbm, ⟨14, _⟩ => ⟨S1x8x16384x16384, .f32⟩
  | .hbm, ⟨15, _⟩ => ⟨S_, .f32⟩
  | .hbm, ⟨16, _⟩ => ⟨S1x8x16384x16384, .f32⟩
  | .hbm, ⟨17, _⟩ => ⟨S1x8x16384x16384, .f32⟩
  | .hbm, ⟨18, _⟩ => ⟨S1x8x16384x16384, .f32⟩
  | .hbm, ⟨19, _⟩ => ⟨S1x8x16384x16384, .f32⟩
  | .hbm, ⟨20, _⟩ => ⟨S1x8x16384x16384, .i1⟩
  | .hbm, ⟨21, _⟩ => ⟨S1x8x16384x16384, .f32⟩
  | .hbm, ⟨22, _⟩ => ⟨S1x8x16384x16384, .f32⟩
  | .hbm, ⟨23, _⟩ => ⟨S1x8x16384x16384, .f32⟩
  | .hbm, ⟨24, _⟩ => ⟨S1x8x16384x16384, .f32⟩
  | .hbm, ⟨25, _⟩ => ⟨S1x8x16384x16384, .f32⟩
  | .hbm, ⟨26, _⟩ => ⟨S1x8x16384x16384, .f32⟩
  | .hbm, ⟨27, _⟩ => ⟨S1x8x16384x16384, .f32⟩
  | .hbm, ⟨28, _⟩ => ⟨S1x8x16384x16384, .f32⟩
  | .hbm, ⟨29, _⟩ => ⟨S1x8x16384x16384, .f32⟩
  | .hbm, ⟨30, _⟩ => ⟨S_, .f32⟩
  | .hbm, ⟨31, _⟩ => ⟨S_, .f32⟩
  | .hbm, ⟨32, _⟩ => ⟨S1x8x16384x16384, .i1⟩
  | .hbm, ⟨33, _⟩ => ⟨S1x8x16384x16384, .f32⟩
  | .hbm, ⟨34, _⟩ => ⟨S1x8x16384x16384, .f32⟩
  | .hbm, ⟨35, _⟩ => ⟨S_, .f32⟩
  | .hbm, ⟨36, _⟩ => ⟨S_, .f32⟩
  | .hbm, ⟨37, _⟩ => ⟨S1x8x16384x16384, .f32⟩
  | .hbm, ⟨38, _⟩ => ⟨S1x8x16384x16384, .f32⟩
  | .hbm, ⟨39, _⟩ => ⟨S1x8x16384x16384, .f32⟩
  | .hbm, ⟨40, _⟩ => ⟨S_, .f32⟩
  | .hbm, ⟨41, _⟩ => ⟨S1x8x16384x16384, .f32⟩
  | .hbm, ⟨42, _⟩ => ⟨S1x8x16384x16384, .f32⟩
  | .hbm, ⟨43, _⟩ => ⟨S1x8x16384x16384, .f32⟩
  | .hbm, ⟨44, _⟩ => ⟨S1x8x16384x16384, .f32⟩
  | .hbm, ⟨45, _⟩ => ⟨S1x8x16384x16384, .i1⟩
  | .hbm, ⟨46, _⟩ => ⟨S1x8x16384x16384, .f32⟩
  | .hbm, ⟨47, _⟩ => ⟨S1x8x16384x16384, .f32⟩
  | .hbm, ⟨48, _⟩ => ⟨S1x8x16384x16384, .f32⟩
  | .hbm, ⟨49, _⟩ => ⟨S1x8x16384x16384, .f32⟩
  | .hbm, ⟨50, _⟩ => ⟨S1x8x16384x16384, .f32⟩
  | .hbm, ⟨51, _⟩ => ⟨S1x8x16384x16384, .f32⟩
  | .hbm, ⟨52, _⟩ => ⟨S1x8x16384x16384, .f32⟩
  | .hbm, ⟨53, _⟩ => ⟨S1x8x16384x16384, .f32⟩
  | .hbm, ⟨54, _⟩ => ⟨S1x8x16384x16384, .f32⟩
  | .hbm, ⟨55, _⟩ => ⟨S1x8x16384x16384, .f32⟩
  | .hbm, ⟨56, _⟩ => ⟨S1x8x16384x16384, .f32⟩
  | .hbm, ⟨57, _⟩ => ⟨S_, .f32⟩
  | .hbm, ⟨58, _⟩ => ⟨S_, .f32⟩
  | .hbm, ⟨59, _⟩ => ⟨S1x8x16384x16384, .i1⟩
  | .hbm, ⟨60, _⟩ => ⟨S1x8x16384x16384, .f32⟩
  | .hbm, ⟨61, _⟩ => ⟨S1x8x16384x16384, .f32⟩
  | .hbm, ⟨62, _⟩ => ⟨S1x8x16384x64, .f32⟩
  | .hbm, ⟨63, _⟩ => ⟨S1x16384x8x64, .f32⟩
  | .hbm, ⟨64, _⟩ => ⟨S16384x512, .f32⟩
  | .hbm, ⟨65, _⟩ => ⟨S16384x512, .bf16⟩
  | _, _ => ⟨S1x8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== Mod.lean ====
abbrev S1x1024 : Shape := ⟨2, ![1, 1024]⟩
abbrev S2x1024x9216 : Shape := ⟨3, ![2, 1024, 9216]⟩
abbrev S2x9216 : Shape := ⟨2, ![2, 9216]⟩
abbrev S1024x1 : Shape := ⟨2, ![1024, 1]⟩
abbrev S2x1x9216 : Shape := ⟨3, ![2, 1, 9216]⟩
abbrev S1x1024x1152 : Shape := ⟨3, ![1, 1024, 1152]⟩
abbrev S1x1x1152 : Shape := ⟨3, ![1, 1, 1152]⟩
abbrev S1024x1152 : Shape := ⟨2, ![1024, 1152]⟩
abbrev S1152 : Shape := ⟨1, ![1152]⟩
abbrev S1x1152 : Shape := ⟨2, ![1, 1152]⟩

abbrev nBuf : Space → Nat
  | .hbm => 6
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S2x1024x9216, .f32⟩
  | .hbm, ⟨2, _⟩ => ⟨S2x9216, .f32⟩
  | .hbm, ⟨3, _⟩ => ⟨S1024x1, .f32⟩
  | .hbm, ⟨4, _⟩ => ⟨S2x1x9216, .f32⟩
  | .hbm, ⟨5, _⟩ => ⟨S2x1x9216, .f32⟩
  | .local _ .vmem, ⟨0, _⟩ => ⟨S1024x1, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x1x1152, .f32⟩
  | .local _ .vmem, ⟨6, _⟩ => ⟨S1x1x1152, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S1x1024 : Shape := ⟨2, ![1, 1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S1x9216 : Shape := ⟨2, ![1, 9216]⟩
abbrev S9216 : Shape := ⟨1, ![9216]⟩
abbrev S1x1x9216 : Shape := ⟨3, ![1, 1, 9216]⟩
abbrev S2x1x9216 : Shape := ⟨3, ![2, 1, 9216]⟩

abbrev nBuf : Space → Nat
  | .hbm => 29
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S2x1024x9216, .f32⟩
  | .hbm, ⟨2, _⟩ => ⟨S2x9216, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024x9216, .f32⟩
  | .hbm, ⟨13, _⟩ => ⟨S1024x9216, .f32⟩
  | .hbm, ⟨14, _⟩ => ⟨S1x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S1x9216, .f32⟩
  | .hbm, ⟨19, _⟩ => ⟨S1x1024x9216, .f32⟩
  | .hbm, ⟨20, _⟩ => ⟨S1024x9216, .f32⟩
  | .hbm, ⟨21, _⟩ => ⟨S1x9216, .f32⟩
  | .hbm, ⟨22, _⟩ => ⟨S1x9216, .f32⟩
  | .hbm, ⟨23, _⟩ => ⟨S9216, .f32⟩
  | .hbm, ⟨24, _⟩ => ⟨S1x9216, .f32⟩
  | .hbm, ⟨25, _⟩ => ⟨S1x9216, .f32⟩
  | .hbm, ⟨26, _⟩ => ⟨S1x1x9216, .f32⟩
  | .hbm, ⟨27, _⟩ => ⟨S1x1x9216, .f32⟩
  | .hbm, ⟨28, _⟩ => ⟨S2x1x9216, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proj.lean ====
abbrev S1x16384x1024 : Shape := ⟨3, ![1, 16384, 1024]⟩
abbrev S3x1024 : Shape := ⟨2, ![3, 1024]⟩
abbrev S1024 : Shape := ⟨1, ![1024]⟩
abbrev S1024x6560 : Shape := ⟨2, ![1024, 6560]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8 : Shape := ⟨1, ![8]⟩
abbrev S_ : Shape := ⟨0, ![]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S1x16384x16x8 : Shape := ⟨4, ![1, 16384, 16, 8]⟩
abbrev S16384x128 : Shape := ⟨2, ![16384, 128]⟩
abbrev S1x128 : Shape := ⟨2, ![1, 128]⟩
abbrev S16 : Shape := ⟨1, ![16]⟩
abbrev S1x16 : Shape := ⟨2, ![1, 16]⟩
abbrev S16384x16 : Shape := ⟨2, ![16384, 16]⟩
abbrev S1x16384x1x16 : Shape := ⟨4, ![1, 16384, 1, 16]⟩
abbrev S1x16384x8x16 : Shape := ⟨4, ![1, 16384, 8, 16]⟩
abbrev S1024x512 : Shape := ⟨2, ![1024, 512]⟩
abbrev S1024x256 : Shape := ⟨2, ![1024, 256]⟩
abbrev S1024x128 : Shape := ⟨2, ![1024, 128]⟩
abbrev S1024x32 : Shape := ⟨2, ![1024, 32]⟩
abbrev S128x8x128 : Shape := ⟨3, ![128, 8, 128]⟩
abbrev S1024x3584 : Shape := ⟨2, ![1024, 3584]⟩
abbrev S256x8x96 : Shape := ⟨3, ![256, 8, 96]⟩
abbrev S256x8x128 : Shape := ⟨3, ![256, 8, 128]⟩
abbrev S256x1024 : Shape := ⟨2, ![256, 1024]⟩
abbrev S128x8x64 : Shape := ⟨3, ![128, 8, 64]⟩
abbrev S128x512 : Shape := ⟨2, ![128, 512]⟩
abbrev S512x128 : Shape := ⟨2, ![512, 128]⟩
abbrev S1x256 : Shape := ⟨2, ![1, 256]⟩
abbrev S16384x1024 : Shape := ⟨2, ![16384, 1024]⟩
abbrev S1x1024 : Shape := ⟨2, ![1, 1024]⟩
abbrev S16384x512 : Shape := ⟨2, ![16384, 512]⟩
abbrev S64x512x256 : Shape := ⟨3, ![64, 512, 256]⟩
abbrev S8x64x16384 : Shape := ⟨3, ![8, 64, 16384]⟩
abbrev S256x128 : Shape := ⟨2, ![256, 128]⟩
abbrev S256x512 : Shape := ⟨2, ![256, 512]⟩
abbrev S1x512x256 : Shape := ⟨3, ![1, 512, 256]⟩
abbrev S8x64x256 : Shape := ⟨3, ![8, 64, 256]⟩
abbrev S64x512 : Shape := ⟨2, ![64, 512]⟩
abbrev S256x1 : Shape := ⟨2, ![256, 1]⟩
abbrev S256x3584 : Shape := ⟨2, ![256, 3584]⟩
abbrev S512x256 : Shape := ⟨2, ![512, 256]⟩
abbrev S512 : Shape := ⟨1, ![512]⟩
abbrev S1x512 : Shape := ⟨2, ![1, 512]⟩
abbrev S64x256 : Shape := ⟨2, ![64, 256]⟩
abbrev S64x128 : Shape := ⟨2, ![64, 128]⟩
abbrev S1x64x256 : Shape := ⟨3, ![1, 64, 256]⟩
abbrev S256x256 : Shape := ⟨2, ![256, 256]⟩

abbrev nBuf : Space → Nat
  | .hbm => 229
  | .vmem => 43
  | .smem => 0
  | _ => 0

abbrev hbmTy0_0 (i : Nat) : BufTy := match i % 128 with
  | 0 => ⟨S1x16384x1024, .f32⟩
  | 1 => ⟨S3x1024, .f32⟩
  | 2 => ⟨S1024, .f32⟩
  | 3 => ⟨S1024x6560, .f32⟩
  | 4 => ⟨S256, .f32⟩
  | 5 => ⟨S256x768, .f32⟩
  | 6 => ⟨S128, .f32⟩
  | 7 => ⟨S128x1024, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S16384, .f32⟩
  | 23 => ⟨S16384x1, .f32⟩
  | 24 => ⟨S1x8, .f32⟩
  | 25 => ⟨S16384x8, .f32⟩
  | 26 => ⟨S16384x8, .f32⟩
  | 27 => ⟨S16384x8, .f32⟩
  | 28 => ⟨S16384x8, .f32⟩
  | 29 => ⟨S1x16384x1x8, .f32⟩
  | 30 => ⟨S1x16384x16x8, .f32⟩
  | 31 => ⟨S16384x128, .f32⟩
  | 32 => ⟨S16384x8, .f32⟩
  | 33 => ⟨S1x16384x1x8, .f32⟩
  | 34 => ⟨S1x16384x16x8, .f32⟩
  | 35 => ⟨S16384x128, .f32⟩
  | 36 => ⟨S128, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S128, .i32⟩
  | 50 => ⟨S128, .i1⟩
  | 51 => ⟨S_, .i32⟩
  | 52 => ⟨S_, .i1⟩
  | 53 => ⟨S128, .i1⟩
  | 54 => ⟨S128, .i1⟩
  | 55 => ⟨S128, .i1⟩
  | 56 => ⟨S128, .i32⟩
  | 57 => ⟨S128, .i32⟩
  | 58 => ⟨S128, .i32⟩
  | 59 => ⟨S_, .i32⟩
  | 60 => ⟨S128, .i32⟩
  | 61 => ⟨S128, .i32⟩
  | 62 => ⟨S_, .i32⟩
  | 63 => ⟨S128, .i32⟩
  | 64 => ⟨S128, .i1⟩
  | 65 => ⟨S_, .i32⟩
  | 66 => ⟨S128, .i32⟩
  | 67 => ⟨S128, .i1⟩
  | 68 => ⟨S128, .i1⟩
  | 69 => ⟨S1x128, .i1⟩
  | 70 => ⟨S_, .i32⟩
  | 71 => ⟨S128, .i32⟩
  | 72 => ⟨S128, .i1⟩
  | 73 => ⟨S_, .i32⟩
  | 74 => ⟨S128, .i32⟩
  | 75 => ⟨S128, .i1⟩
  | 76 => ⟨S128, .i1⟩
  | 77 => ⟨S1x128, .i1⟩
  | 78 => ⟨S1x128, .i1⟩
  | 79 => ⟨S_, .f32⟩
  | 80 => ⟨S_, .f32⟩
  | 81 => ⟨S16384x128, .i1⟩
  | 82 => ⟨S16384x128, .f32⟩
  | 83 => ⟨S16384x128, .f32⟩
  | 84 => ⟨S16384x128, .f32⟩
  | 85 => ⟨S_, .f32⟩
  | 86 => ⟨S_, .f32⟩
  | 87 => ⟨S16384x128, .i1⟩
  | 88 => ⟨S16384x128, .f32⟩
  | 89 => ⟨S16384x128, .f32⟩
  | 90 => ⟨S_, .f32⟩
  | 91 => ⟨S_, .f32⟩
  | 92 => ⟨S16384x128, .i1⟩
  | 93 => ⟨S16384x128, .f32⟩
  | 94 => ⟨S16384x128, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S16384, .f32⟩
  | 110 => ⟨S16384x1, .f32⟩
  | 111 => ⟨S1x16, .f32⟩
  | 112 => ⟨S16384x16, .f32⟩
  | 113 => ⟨S16384x16, .f32⟩
  | 114 => ⟨S16384x16, .f32⟩
  | 115 => ⟨S16384x16, .f32⟩
  | 116 => ⟨S1x16384x1x16, .f32⟩
  | 117 => ⟨S1x16384x8x16, .f32⟩
  | 118 => ⟨S16384x128, .f32⟩
  | 119 => ⟨S16384x16, .f32⟩
  | 120 => ⟨S1x16384x1x16, .f32⟩
  | 121 => ⟨S1x16384x8x16, .f32⟩
  | 122 => ⟨S16384x128, .f32⟩
  | 123 => ⟨S128, .i32⟩
  | 124 => ⟨S_, .i32⟩
  | 125 => ⟨S_, .i32⟩
  | 126 => ⟨S_, .i32⟩
  | 127 => ⟨S_, .i1⟩
  | _ => ⟨S1x16384x1024, .f32⟩

abbrev hbmTy0_1 (i : Nat) : BufTy := match i % 128 with
  | 0 => ⟨S_, .i32⟩
  | 1 => ⟨S_, .i32⟩
  | 2 => ⟨S128, .i32⟩
  | 3 => ⟨S128, .i32⟩
  | 4 => ⟨S_, .i32⟩
  | 5 => ⟨S128, .i32⟩
  | 6 => ⟨S128, .i1⟩
  | 7 => ⟨S_, .i32⟩
  | 8 => ⟨S128, .i32⟩
  | 9 => ⟨S128, .i1⟩
  | 10 => ⟨S_, .i32⟩
  | 11 => ⟨S_, .i1⟩
  | 12 => ⟨S128, .i1⟩
  | 13 => ⟨S128, .i1⟩
  | 14 => ⟨S128, .i1⟩
  | 15 => ⟨S128, .i32⟩
  | 16 => ⟨S128, .i32⟩
  | 17 => ⟨S128, .i32⟩
  | 18 => ⟨S_, .i32⟩
  | 19 => ⟨S128, .i32⟩
  | 20 => ⟨S128, .i32⟩
  | 21 => ⟨S_, .i32⟩
  | 22 => ⟨S128, .i32⟩
  | 23 => ⟨S128, .i1⟩
  | 24 => ⟨S_, .i32⟩
  | 25 => ⟨S128, .i32⟩
  | 26 => ⟨S128, .i1⟩
  | 27 => ⟨S128, .i1⟩
  | 28 => ⟨S1x128, .i1⟩
  | 29 => ⟨S_, .i32⟩
  | 30 => ⟨S128, .i32⟩
  | 31 => ⟨S128, .i1⟩
  | 32 => ⟨S_, .i32⟩
  | 33 => ⟨S128, .i32⟩
  | 34 => ⟨S128, .i1⟩
  | 35 => ⟨S128, .i1⟩
  | 36 => ⟨S1x128, .i1⟩
  | 37 => ⟨S1x128, .i1⟩
  | 38 => ⟨S_, .f32⟩
  | 39 => ⟨S_, .f32⟩
  | 40 => ⟨S16384x128, .i1⟩
  | 41 => ⟨S16384x128, .f32⟩
  | 42 => ⟨S16384x128, .f32⟩
  | 43 => ⟨S16384x128, .f32⟩
  | 44 => ⟨S_, .f32⟩
  | 45 => ⟨S_, .f32⟩
  | 46 => ⟨S16384x128, .i1⟩
  | 47 => ⟨S16384x128, .f32⟩
  | 48 => ⟨S16384x128, .f32⟩
  | 49 => ⟨S_, .f32⟩
  | 50 => ⟨S_, .f32⟩
  | 51 => ⟨S16384x128, .i1⟩
  | 52 => ⟨S16384x128, .f32⟩
  | 53 => ⟨S16384x128, .f32⟩
  | 54 => ⟨S1024x6560, .bf16⟩
  | 55 => ⟨S1024x512, .bf16⟩
  | 56 => ⟨S1024x512, .bf16⟩
  | 57 => ⟨S1024x512, .bf16⟩
  | 58 => ⟨S1024x512, .bf16⟩
  | 59 => ⟨S1024x512, .bf16⟩
  | 60 => ⟨S1024x512, .bf16⟩
  | 61 => ⟨S1024x256, .bf16⟩
  | 62 => ⟨S1024x128, .bf16⟩
  | 63 => ⟨S1024x32, .bf16⟩
  | 64 => ⟨S_, .i32⟩
  | 65 => ⟨S_, .bf16⟩
  | 66 => ⟨S1024x128, .bf16⟩
  | 67 => ⟨S128x8x128, .f32⟩
  | 68 => ⟨S1024x3584, .bf16⟩
  | 69 => ⟨S256x8x96, .f32⟩
  | 70 => ⟨S_, .i32⟩
  | 71 => ⟨S_, .f32⟩
  | 72 => ⟨S256x8x128, .f32⟩
  | 73 => ⟨S256x1024, .f32⟩
  | 74 => ⟨S256x1024, .bf16⟩
  | 75 => ⟨S128x8x64, .f32⟩
  | 76 => ⟨S128x512, .f32⟩
  | 77 => ⟨S128x8x64, .f32⟩
  | 78 => ⟨S_, .i32⟩
  | 79 => ⟨S_, .f32⟩
  | 80 => ⟨S128x8x128, .f32⟩
  | 81 => ⟨S128x1024, .f32⟩
  | 82 => ⟨S128x1024, .bf16⟩
  | 83 => ⟨S128x8x64, .f32⟩
  | 84 => ⟨S128x512, .f32⟩
  | 85 => ⟨S512x128, .f32⟩
  | 86 => ⟨S512x128, .bf16⟩
  | 87 => ⟨S1x256, .f32⟩
  | 88 => ⟨S1x128, .f32⟩
  | 89 => ⟨S16384x1024, .f32⟩
  | 90 => ⟨S1x1024, .f32⟩
  | 91 => ⟨S16384x512, .bf16⟩
  | 92 => ⟨S16384x512, .bf16⟩
  | 93 => ⟨S64x512x256, .bf16⟩
  | 94 => ⟨S8x64x16384, .f32⟩
  | 95 => ⟨S16384x512, .bf16⟩
  | 96 => ⟨S16384x512, .bf16⟩
  | 97 => ⟨S64x512x256, .bf16⟩
  | 98 => ⟨S16384x1024, .bf16⟩
  | 99 => ⟨S16384x1024, .bf16⟩
  | 100 => ⟨S64x512x256, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S3x1024, .f32⟩
  | .local _ .vmem, ⟨3, _⟩ => ⟨S1x1024, .f32⟩
  | .local _ .vmem, ⟨4, _⟩ => ⟨S1024x3584, .bf16⟩
  | .local _ .vmem, ⟨5, _⟩ => ⟨S256x1024, .bf16⟩
  | .local _ .vmem, ⟨6, _⟩ => ⟨S128x1024, .bf16⟩
  | .local _ .vmem, ⟨7, _⟩ => ⟨S512x128, .bf16⟩
  | .local _ .vmem, ⟨8, _⟩ => ⟨S1x256, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S1x512x256, .bf16⟩
  | .local _ .vmem, ⟨27, _⟩ => ⟨S1x512x256, .bf16⟩
  | .local _ .vmem, ⟨28, _⟩ => ⟨S8x64x256, .f32⟩
  | .local _ .vmem, ⟨29, _⟩ => ⟨S8x64x256, .f32⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S1x512x256, .bf16⟩
  | .local _ .vmem, ⟨35, _⟩ => ⟨S1x512x256, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S1x512x256, .bf16⟩
  | .local _ .vmem, ⟨41, _⟩ => ⟨S1x512x256, .bf16⟩
  | .local _ .vmem, ⟨42, _⟩ => ⟨S64x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v25 : Ref sig .tc := ⟨.hbm, 58, rfl⟩
abbrev main_c_3 : Ref sig .tc := ⟨.hbm, 59, rfl⟩
abbrev main_v26 : Ref sig .tc := ⟨.hbm, 60, rfl⟩
abbrev main_v27 : Ref sig .tc := ⟨.hbm, 61, rfl⟩
abbrev main_c_4 : Ref sig .tc := ⟨.hbm, 62, rfl⟩
abbrev main_v28 : Ref sig .tc := ⟨.hbm, 63, rfl⟩
abbrev main_v29 : Ref sig .tc := ⟨.hbm, 64, rfl⟩
abbrev main_c_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_6 : Ref sig .tc := ⟨.hbm, 70, rfl⟩
abbrev main_v34 : Ref sig .tc := ⟨.hbm, 71, rfl⟩
abbrev main_v35 : Ref sig .tc := ⟨.hbm, 72, rfl⟩
abbrev main_c_7 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_8 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v41 : Ref sig .tc := ⟨.hbm, 83, rfl⟩
abbrev main_v42 : Ref sig .tc := ⟨.hbm, 84, rfl⟩
abbrev main_cst_9 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v43 : Ref sig .tc := ⟨.hbm, 89, rfl⟩
abbrev main_cst_10 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v44 : Ref sig .tc := ⟨.hbm, 94, rfl⟩
abbrev main_v45 : Ref sig .tc := ⟨.hbm, 95, rfl⟩
abbrev main_cst_11 : Ref sig .tc := ⟨.hbm, 96, rfl⟩
abbrev main_v46 : Ref sig .tc := ⟨.hbm, 97, rfl⟩
abbrev main_v47 : Ref sig .tc := ⟨.hbm, 98, rfl⟩
abbrev main_cst_12 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_13 : Ref sig .tc := ⟨.hbm, 103, rfl⟩
abbrev main_v51 : Ref sig .tc := ⟨.hbm, 104, rfl⟩
abbrev main_v52 : Ref sig .tc := ⟨.hbm, 105, rfl⟩
abbrev main_cst_14 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_15 : Ref sig .tc := ⟨.hbm, 124, rfl⟩
abbrev main_call4_v0 : Ref sig .tc := ⟨.hbm, 125, rfl⟩
abbrev main_call4_c : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_c_1 : Ref sig .tc := ⟨.hbm, 132, rfl⟩
abbrev main_call4_v5 : Ref sig .tc := ⟨.hbm, 133, rfl⟩
abbrev main_call4_v6 : Ref sig .tc := ⟨.hbm, 134, rfl⟩
abbrev main_call4_c_2 : Ref sig .tc := ⟨.hbm, 135, rfl⟩
abbrev main_call4_v7 : Ref sig .tc := ⟨.hbm, 136, rfl⟩
abbrev main_call4_v8 : Ref sig .tc := ⟨.hbm, 137, rfl⟩
abbrev main_call4_c_3 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_v70 : Ref sig .tc := ⟨.hbm, 145, rfl⟩
abbrev main_c_16 : Ref sig .tc := ⟨.hbm, 146, rfl⟩
abbrev main_v71 : Ref sig .tc := ⟨.hbm, 147, rfl⟩
abbrev main_v72 : Ref sig .tc := ⟨.hbm, 148, rfl⟩
abbrev main_c_17 : Ref sig .tc := ⟨.hbm, 149, rfl⟩
abbrev main_v73 : Ref sig .tc := ⟨.hbm, 150, rfl⟩
abbrev main_v74 : Ref sig .tc := ⟨.hbm, 151, rfl⟩
abbrev main_c_18 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_c_19 : Ref sig .tc := ⟨.hbm, 157, rfl⟩
abbrev main_v79 : Ref sig .tc := ⟨.hbm, 158, rfl⟩
abbrev main_v80 : Ref sig .tc := ⟨.hbm, 159, rfl⟩
abbrev main_c_20 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_cst_21 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_v86 : Ref sig .tc := ⟨.hbm, 170, rfl⟩
abbrev main_v87 : Ref sig .tc := ⟨.hbm, 171, rfl⟩
abbrev main_cst_22 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_v88 : Ref sig .tc := ⟨.hbm, 176, rfl⟩
abbrev main_cst_23 : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_c_24 : Ref sig .tc := ⟨.hbm, 192, rfl⟩
abbrev main_call8_v0 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_c_25 : Ref sig .tc := ⟨.hbm, 198, rfl⟩
abbrev main_call9_v0 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_c_26 : Ref sig .tc := ⟨.hbm, 206, rfl⟩
abbrev main_call10_v0 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121_0 : Ref sig .tc := ⟨.hbm, 219, rfl⟩
abbrev main_v121_1 : Ref sig .tc := ⟨.hbm, 220, rfl⟩
abbrev main_v121_2 : Ref sig .tc := ⟨.hbm, 221, rfl⟩
abbrev main_v121_3 : Ref sig .tc := ⟨.hbm, 222, rfl⟩
abbrev main_v121_4 : Ref sig .tc := ⟨.hbm, 223, rfl⟩
abbrev main_v121_5 : Ref sig .tc := ⟨.hbm, 224, rfl⟩
abbrev main_v121_6 : Ref sig .tc := ⟨.hbm, 225, rfl⟩
abbrev main_v121_7 : Ref sig .tc := ⟨.hbm, 226, rfl⟩
abbrev main_v121_8 : Ref sig .tc := ⟨.hbm, 227, rfl⟩
abbrev main_v121_9 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_scratch0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let v122 : Index := Scalar.indexCast arg0
  let c0_43 : Index := 0#32
  ![v122.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ProjIdeal.lean ====
variable {F : FTy → Type} [FloatOps F] [Named F]
def κ : String → Option EReal := fun
  | "scale" => some (((8 * (Real.log 2))⁻¹ : ℝ) : EReal)
  | _ => none
-- ==== ProjReferenceIdeal.lean ====
abbrev S1x16384x1024 : Shape := ⟨3, ![1, 16384, 1024]⟩
abbrev S3x1024 : Shape := ⟨2, ![3, 1024]⟩
abbrev S1024 : Shape := ⟨1, ![1024]⟩
abbrev S1024x6560 : Shape := ⟨2, ![1024, 6560]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1x1024 : Shape := ⟨2, ![1, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S16384x6560 : Shape := ⟨2, ![16384, 6560]⟩
abbrev S16384x3072 : Shape := ⟨2, ![16384, 3072]⟩
abbrev S16384x1536 : Shape := ⟨2, ![16384, 1536]⟩
abbrev S16384x512 : Shape := ⟨2, ![16384, 512]⟩
abbrev S64x256x512 : Shape := ⟨3, ![64, 256, 512]⟩
abbrev S64x512x256 : Shape := ⟨3, ![64, 512, 256]⟩

abbrev nBuf : Space → Nat
  | .hbm => 65
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S3x1024, .f32⟩
  | .hbm, ⟨2, _⟩ => ⟨S1024, .f32⟩
  | .hbm, ⟨3, _⟩ => ⟨S1024x6560, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x6560, .f32⟩
  | .hbm, ⟨41, _⟩ => ⟨S16384x3072, .f32⟩
  | .hbm, ⟨42, _⟩ => ⟨S16384x1536, .f32⟩
  | .hbm, ⟨43, _⟩ => ⟨S16384x1536, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S64x256x512, .f32⟩
  | .hbm, ⟨51, _⟩ => ⟨S64x512x256, .f32⟩
  | .hbm, ⟨52, _⟩ => ⟨S64x512x256, .bf16⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S16384x512, .bf16⟩
  | .hbm, ⟨61, _⟩ => ⟨S16384x512, .bf16⟩
  | .hbm, ⟨62, _⟩ => ⟨S64x256x512, .f32⟩
  | .hbm, ⟨63, _⟩ => ⟨S64x512x256, .f32⟩
  | .hbm, ⟨64, _⟩ => ⟨S64x512x256, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Online.lean ====
/- The mathematics of a softmax taken block of keys by block of keys, over the extended reals.

   A column of scores `σ` over the keys and one row of values `w` are visited in blocks. What is kept is the
   largest score seen so far and the sum of the values, each weighted by two to the power of its score less that
   largest score. `Seen` says that this is what is kept, `Seen.step` that one more pair of blocks keeps it so. -/
module

public import Idealize.ShloMosaic.PureOps.Ideal
public import Idealize.ShloMosaic.PureOps.Ideal.Laws

@[expose] public section

noncomputable section

namespace Cert.Mla

open Idealize.ShloMosaic

/-- A nonnegative real factor distributes over a sum of extended reals. -/
theorem mul_sum_of_real {ι : Type} (c : ℝ) (hc : 0 ≤ c) (T : Finset ι) (f : ι → EReal) :
    (c : EReal) * ∑ t ∈ T, f t = ∑ t ∈ T, (c : EReal) * f t := by
  classical
  induction T using Finset.induction_on with
  | empty => simp
  | insert a T ha ih =>
    rw [Finset.sum_insert ha, Finset.sum_insert ha,
      EReal.left_distrib_of_nonneg_of_ne_top (by exact_mod_cast hc) (EReal.coe_ne_top c), ih]

/-- Two to the power of the difference of two reals. -/
theorem exp2_sub_coe (x y : ℝ) : Ideal.exp2 ((x : EReal) - (y : EReal)) = ((2 : ℝ) ^ (x - y) : ℝ) := by
  rw [← EReal.coe_sub]; rfl

theorem exp2_bot_sub (m : EReal) : Ideal.exp2 (⊥ - m) = 0 := by
  rw [sub_eq_add_neg, EReal.bot_add]; rfl

/-- Raising the reference score from `m` to `m'` rescales a weight by two to the power `m - m'`. -/
theorem rescale {s m m' w : EReal} (hs : s ≤ m) (hm : m ≤ m') (hm' : m' ≠ ⊤) :
    Ideal.exp2 (m - m') * (Ideal.exp2 (s - m) * w) = Ideal.exp2 (s - m') * w := by
  have hmt : m ≠ ⊤ := ne_top_of_le_ne_top hm' hm
  have hst : s ≠ ⊤ := ne_top_of_le_ne_top hmt hs
  induction s with
  | top => exact absurd rfl hst
  | bot => simp [exp2_bot_sub]
  | coe s =>
    induction m with
    | top => exact absurd rfl hmt
    | bot => exact absurd hs (by simp)
    | coe m =>
      induction m' with
      | top => exact absurd rfl hm'
      | bot => exact absurd hm (by simp)
      | coe m' =>
        rw [exp2_sub_coe, exp2_sub_coe, exp2_sub_coe, ← mul_assoc, ← EReal.coe_mul,
          ← Real.rpow_add (by norm_num)]
        congr 3; ring

/-- What has been kept of the keys `T`: the largest score and the weighted sum of the values. -/
structure Seen (σ w : ℕ → EReal) (T : Finset ℕ) (m a : EReal) : Prop where
  top : m = T.sup σ
  sum : a = ∑ t ∈ T, Ideal.exp2 (σ t - m) * w t

theorem Seen.start (σ w : ℕ → EReal) : Seen σ w ∅ ⊥ 0 := ⟨by simp, by simp⟩

/-- Two more blocks of keys. -/
theorem Seen.step {σ w : ℕ → EReal} (hσ : ∀ t, σ t ≠ ⊤) {T U₁ U₂ : Finset ℕ} {m a m' a' : EReal}
    (h : Seen σ w T m a) (h₁ : Disjoint T U₁) (h₂ : Disjoint (T ∪ U₁) U₂)
    (hm : m' = max m (max (U₁.sup σ) (U₂.sup σ)))
    (ha : a' = Ideal.exp2 (m - m') * a + ∑ t ∈ U₁, Ideal.exp2 (σ t - m') * w t
      + ∑ t ∈ U₂, Ideal.exp2 (σ t - m') * w t) :
    Seen σ w (T ∪ U₁ ∪ U₂) m' a' := by
  have hsup : m' = (T ∪ U₁ ∪ U₂).sup σ := by
    rw [Finset.sup_union, Finset.sup_union, hm, h.top, sup_assoc]
  refine ⟨hsup, ?_⟩
  have hm' : m' ≠ ⊤ := by
    rw [hsup]
    refine ne_of_lt ((Finset.sup_lt_iff (by simp)).2 fun t _ => lt_top_iff_ne_top.2 (hσ t))
  have hle : m ≤ m' := hm ▸ le_max_left _ _
  have hmt : m ≠ ⊤ := ne_top_of_le_ne_top hm' hle
  rw [Finset.sum_union h₂, Finset.sum_union h₁, ha, h.sum]
  congr 2
  have hcast : ∃ c : ℝ, 0 ≤ c ∧ Ideal.exp2 (m - m') = (c : EReal) := by
    induction m with
    | top => exact absurd rfl hmt
    | bot => exact ⟨0, le_refl _, by rw [exp2_bot_sub]; rfl⟩
    | coe m =>
      induction m' with
      | top => exact absurd rfl hm'
      | bot => exact absurd hle (by simp)
      | coe m' => exact ⟨_, Real.rpow_nonneg (by norm_num) _, exp2_sub_coe m m'⟩
  obtain ⟨c, hc, hcE⟩ := hcast
  rw [hcE, mul_sum_of_real c hc, ← hcE]
  refine Finset.sum_congr rfl fun t ht => rescale ?_ hle hm'
  rw [h.top]; exact Finset.le_sup ht

/-- The sum over a stretch of keys as a sum over its positions. -/
theorem sum_stretch (a n : ℕ) (f : ℕ → EReal) : ∑ t ∈ Finset.Ico a (a + n), f t = ∑ x : Fin n, f (a + x) := by
  rw [Finset.sum_Ico_eq_sum_range, Nat.add_sub_cancel_left, ← Fin.sum_univ_eq_sum_range (fun x => f (a + x))]

/-- The largest score of a stretch of keys. -/
theorem sup_stretch (a n : ℕ) (f : ℕ → EReal) :
    (Finset.Ico a (a + n)).sup f = Finset.univ.sup fun x : Fin n => f (a + x) := by
  apply le_antisymm
  · refine Finset.sup_le fun t ht => ?_
    rw [Finset.mem_Ico] at ht
    have := Finset.le_sup (f := fun x : Fin n => f (a + x)) (Finset.mem_univ (⟨t - a, by omega⟩ : Fin n))
    simpa [Nat.add_sub_cancel' ht.1] using this
  · refine Finset.sup_le fun x _ => Finset.le_sup (f := f) ?_
    rw [Finset.mem_Ico]; omega

/-- The f32 patterns of −∞, +∞ and of the reals two and ninety-six. -/
theorem ofBits_lowest : Ideal.ofBits .f32 0xFF800000#32 = (⊥ : EReal) := by simp [Ideal.ofBits, Ideal.ieee]
theorem ofBits_highest : Ideal.ofBits .f32 0x7F800000#32 = (⊤ : EReal) := by simp [Ideal.ofBits, Ideal.ieee]
theorem ofBits_two : Ideal.ofBits .f32 0x40000000#32 = ((2 : ℝ) : EReal) := by
  simp [Ideal.ofBits, Ideal.ieee, -EReal.coe_mul]; norm_num
theorem ofBits_ninety_six : Ideal.ofBits .f32 0x42C00000#32 = ((96 : ℝ) : EReal) := by
  simp [Ideal.ofBits, Ideal.ieee, -EReal.coe_mul]; norm_num

end Cert.Mla

end
-- ==== Proof.Soft.lean ====
/- The end of the block-by-block softmax: the kept sums, divided, are the softmax average of the values, whose
   scores are taken to the base `e` where the kept ones are to the base two. -/
module

public import proofs.«01_k».proof.Proof.Online

@[expose] public section

noncomputable section

namespace Cert.Mla

open Idealize.ShloMosaic

/-- Two to the power of a real over the logarithm of two. -/
theorem two_rpow_div_log (x : ℝ) : (2 : ℝ) ^ (x / Real.log 2) = Real.exp x := by
  have h2 : Real.log 2 ≠ 0 := (Real.log_pos (by norm_num)).ne'
  rw [Real.rpow_def_of_pos (by norm_num), mul_div_cancel₀ _ h2]

/-- Scores `ρ` of the keys up to `q`, to the base `e`; later keys are masked. -/
def causal (ρ : ℕ → ℝ) (q : ℕ) (t : ℕ) : EReal := if t ≤ q then (ρ t : EReal) else ⊥

theorem causal_ne_top (ρ : ℕ → ℝ) (q t : ℕ) : causal ρ q t ≠ ⊤ := by
  unfold causal; split <;> simp

/-- The largest of the masked scores is the score of some key up to `q`. -/
theorem exists_sup (ρ : ℕ → ℝ) (q n : ℕ) (hq : q < n) :
    ∃ k ≤ q, (Finset.range n).sup (causal ρ q) = (ρ k : EReal) ∧ ∀ t ≤ q, ρ t ≤ ρ k := by
  obtain ⟨k, hk, hmax⟩ := Finset.exists_max_image (Finset.range (q + 1)) ρ ⟨0, by simp⟩
  rw [Finset.mem_range] at hk
  refine ⟨k, by omega, le_antisymm (Finset.sup_le fun t ht => ?_) ?_, fun t ht => hmax t (by simp; omega)⟩
  · unfold causal
    split
    · exact_mod_cast hmax t (by simp; omega)
    · exact bot_le
  · have := Finset.le_sup (f := causal ρ q) (show k ∈ Finset.range n by simp; omega)
    simpa [causal, show k ≤ q by omega] using this

/-- The softmax average over the first `n` keys: the largest score subtracted, exponentials, each divided by their
    sum, and the values so weighted. -/
def average (s : ℕ → EReal) (w : ℕ → EReal) (n : ℕ) : EReal :=
  ∑ t ∈ Finset.range n, Ideal.div (Ideal.exp (s t - (Finset.range n).sup s))
    (∑ u ∈ Finset.range n, Ideal.exp (s u - (Finset.range n).sup s)) * w t

/-- What is kept of the keys up to the end of the query's own block, divided, is the softmax average over all keys. -/
theorem Seen.quotient {ρ : ℕ → ℝ} {w one : ℕ → EReal} {q e n : ℕ} (hone : ∀ t, one t = 1) (hq : q < e) (he : e ≤ n)
    {m a l : EReal} (ha : Seen (causal (fun t => ρ t / Real.log 2) q) w (Finset.range e) m a)
    (hl : Seen (causal (fun t => ρ t / Real.log 2) q) one (Finset.range e) m l) :
    Ideal.div a l = average (causal ρ q) w n := by
  have h2 : 0 < Real.log 2 := Real.log_pos (by norm_num)
  obtain ⟨k, hk, hks, hkm⟩ := exists_sup (fun t => ρ t / Real.log 2) q e hq
  obtain ⟨k', hk', hks', hkm'⟩ := exists_sup ρ q n (by omega)
  have hkk : ρ k = ρ k' := le_antisymm (hkm' k hk) ((div_le_div_iff_of_pos_right h2).1 (hkm k' hk'))
  have hm : m = ((ρ k' / Real.log 2 : ℝ) : EReal) := by rw [ha.top, hks, hkk]
  -- one key's weight, both ways
  let p : ℕ → ℝ := fun t => if t ≤ q then Real.exp (ρ t - ρ k') else 0
  have hp : ∀ t, Ideal.exp2 (causal (fun t => ρ t / Real.log 2) q t - m) = (p t : EReal) := by
    intro t
    rw [hm]; unfold causal; simp only [p]
    split
    · rw [exp2_sub_coe, ← sub_div, two_rpow_div_log]
    · rw [exp2_bot_sub]; rfl
  have hp' : ∀ t, Ideal.exp (causal ρ q t - ((ρ k' : ℝ) : EReal)) = (p t : EReal) := by
    intro t
    unfold causal; simp only [p]
    split
    · rw [← EReal.coe_sub]; rfl
    · rw [sub_eq_add_neg, EReal.bot_add]; rfl
  have hp0 : ∀ t, 0 ≤ p t := by
    intro t; simp only [p]; split
    · exact (Real.exp_pos _).le
    · exact le_refl _
  -- the keys past the block weigh nothing
  have hext : ∀ f : ℕ → EReal, ∑ t ∈ Finset.range e, (p t : EReal) * f t = ∑ t ∈ Finset.range n, (p t : EReal) * f t := by
    intro f
    refine Finset.sum_subset (Finset.range_subset_range.2 he) fun t _ ht => ?_
    have : ¬ t ≤ q := by simp at ht; omega
    simp [p, this]
  have hcoe : ∀ T : Finset ℕ, ((∑ t ∈ T, p t : ℝ) : EReal) = ∑ t ∈ T, (p t : EReal) := by
    intro T
    induction T using Finset.induction_on with
    | empty => simp
    | insert a T ha ih => rw [Finset.sum_insert ha, Finset.sum_insert ha, EReal.coe_add, ih]
  have hpos : 0 < ∑ t ∈ Finset.range n, p t :=
    Finset.sum_pos' (fun t _ => hp0 t) ⟨k', by simp; omega, by simp [p, hk']⟩
  have hlv : l = ((∑ t ∈ Finset.range n, p t : ℝ) : EReal) := by
    rw [hl.sum, hcoe]
    simp only [hp]
    rw [hext]
    exact Finset.sum_congr rfl fun t _ => by rw [hone, mul_one]
  have hav : a = ∑ t ∈ Finset.range n, (p t : EReal) * w t := by
    rw [ha.sum]; simp only [hp]; rw [hext]
  have hdiv : ∀ x : EReal, Ideal.div x l = ((∑ t ∈ Finset.range n, p t)⁻¹ : ℝ) * x := by
    intro x
    unfold Ideal.div
    rw [if_neg (by rw [hlv]; exact_mod_cast hpos.ne'), hlv, ← EReal.coe_inv, mul_comm]
  unfold average
  rw [hks']
  simp only [hp']
  rw [← hcoe, ← hlv, hdiv, hav, mul_sum_of_real _ (inv_nonneg.2 hpos.le)]
  exact Finset.sum_congr rfl fun t _ => by rw [hdiv, mul_assoc]

end Cert.Mla

end
-- ==== Proof.Host.lean ====
/- The arrays the host hands the launch, element by element over the extended reals: the queries divided by the scale,
   the keys, both with zeros behind, and the values, transposed block by block. -/
module

public import proofs.«01_k».proof.Proof.Gen.KernelIdeal.Frame
public import proofs.«01_k».proof.Proof.Soft
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.Mla.Host

open Cert.KernelIdeal Cert.KernelIdeal.Gen
open Idealize.ShloMosaic Idealize.ShloMosaic.TcCoe

variable (m : (ℓ : Loc nD τ sig) → Buf (Elt Ideal) ℓ) (c : Dev nD)

/-- The zero behind a head's queries and keys, converted from an integer. -/
theorem pad_zero : FloatOps.sitofp (F := Ideal) FTy.bf16 (0#32) = (0 : EReal) := by
  show (((0#32 : BitVec 32).toInt : ℝ) : EReal) = 0
  simp

/-- The first argument on a device, the queries. -/
abbrev qArg : FVec Ideal S1x8x16384x96 .f32 := m ((c.tc : Thread nD τ).loc main_arg0)
/-- The second argument, the keys. -/
abbrev kArg : FVec Ideal S1x8x16384x96 .f32 := m ((c.tc : Thread nD τ).loc main_arg1)
/-- The third argument, the values. -/
abbrev vArg : FVec Ideal S1x8x16384x64 .f32 := m ((c.tc : Thread nD τ).loc main_arg2)

/-- The keys as the launch reads them: head after head, 96 features and 32 zeros each. -/
theorem keys_at (r : Fin 16384) (h : Fin 8) (e : Fin 128) :
    (V m c main_v14 : FVec Ideal S16384x1024 .bf16) (ix2 r ⟨128 * h.val + e.val, by omega⟩)
      = (if he : e.val < 96 then kArg m c (ix4 0 h r ⟨e.val, he⟩) else (0 : EReal)) := by
  rw [← pad_zero]
  unfold V
  after_reads_at

/-- The queries as the launch reads them: divided by the scale, head after head, 96 features and 32 zeros each. -/
theorem queries_at (r : Fin 16384) (h : Fin 8) (e : Fin 128) :
    (V m c main_v9 : FVec Ideal S16384x1024 .bf16) (ix2 r ⟨128 * h.val + e.val, by omega⟩)
      = (if he : e.val < 96 then
          Ideal.div (qArg m c (ix4 0 h r ⟨e.val, he⟩))
            (Ideal.sqrt (Ideal.ofBits .f32 0x42C00000#32) * Ideal.log (Ideal.ofBits .f32 0x40000000#32))
        else (0 : EReal)) := by
  rw [← pad_zero]
  unfold V
  after_reads_at

/-- The values as the launch reads them: 64 blocks of 256 keys, a row for each head's feature. -/
theorem values_at (b : Fin 64) (h : Fin 8) (y : Fin 64) (x : Fin 256) :
    (V m c main_v19 : FVec Ideal S64x512x256 .bf16) (ix3 b ⟨64 * h.val + y.val, by omega⟩ x)
      = vArg m c (ix4 0 h ⟨256 * b.val + x.val, by omega⟩ y) := by
  unfold V
  after_reads_at
  refine congrArg (vArg m c) ?_
  funext a
  fin_cases a
  · rfl
  · exact Fin.ext (show (64 * h.val + y.val) / 64 = h.val by omega)
  · exact Fin.ext (show b.val * 256 + x.val = 256 * b.val + x.val by omega)
  · exact Fin.ext (show (64 * h.val + y.val) % 64 = y.val by omega)

/-- Which block each window brings at a grid point. -/
theorem index_query : ∀ t : Fin cfg0.N, win0_0.index t = ![(grid0.coords t 1).val, (grid0.coords t 0).val] :=
  (by decide +kernel : ∀ t : Fin grid0.N, win0_0.index t = ![(grid0.coords t 1).val, (grid0.coords t 0).val])
theorem index_key : ∀ t : Fin cfg0.N, win0_1.index t = ![0, (grid0.coords t 0).val] :=
  (by decide +kernel : ∀ t : Fin grid0.N, win0_1.index t = ![0, (grid0.coords t 0).val])
theorem index_value : ∀ t : Fin cfg0.N, win0_2.index t = ![0, (grid0.coords t 0).val, 0] :=
  (by decide +kernel : ∀ t : Fin grid0.N, win0_2.index t = ![0, (grid0.coords t 0).val, 0])
theorem index_out : ∀ t : Fin cfg0.N, win0_3.index t = ![(grid0.coords t 1).val, (grid0.coords t 0).val] :=
  (by decide +kernel : ∀ t : Fin grid0.N, win0_3.index t = ![(grid0.coords t 1).val, (grid0.coords t 0).val])

theorem group_lt (t : Fin cfg0.N) : (grid0.coords t 0).val < 2 := (grid0.coords t 0).isLt
theorem block_lt (t : Fin cfg0.N) : (grid0.coords t 1).val < 32 := (grid0.coords t 1).isLt

/-- The block of the queries a grid point reads. -/
theorem query_block (t : Fin cfg0.N) (x e : Fin 512) :
    (iblk m c 0 t : FVec Ideal S512x512 .bf16) (ix2 x e)
      = (V m c main_v9 : FVec Ideal S16384x1024 .bf16)
          (ix2 ⟨512 * (grid0.coords t 1).val + x.val, by have := block_lt t; omega⟩
            ⟨512 * (grid0.coords t 0).val + e.val, by have := group_lt t; omega⟩) := by
  blk_ext [iblk, index_query t]

/-- The block of the keys. -/
theorem key_block (t : Fin cfg0.N) (x : Fin 16384) (e : Fin 512) :
    (iblk m c 1 t : FVec Ideal S16384x512 .bf16) (ix2 x e)
      = (V m c main_v14 : FVec Ideal S16384x1024 .bf16)
          (ix2 x ⟨512 * (grid0.coords t 0).val + e.val, by have := group_lt t; omega⟩) := by
  blk_ext [iblk, index_key t]

/-- The block of the values. -/
theorem value_block (t : Fin cfg0.N) (b : Fin 64) (y x : Fin 256) :
    (iblk m c 2 t : FVec Ideal S64x256x256 .bf16) (ix3 b y x)
      = (V m c main_v19 : FVec Ideal S64x512x256 .bf16)
          (ix3 b ⟨256 * (grid0.coords t 0).val + y.val, by have := group_lt t; omega⟩ x) := by
  blk_ext [iblk, index_value t]

end Cert.Mla.Host

end
-- ==== Proof.Ring.lean ====
/-
  The kernel's loop bodies as programs of a few words. One slab of 512 keys is scored for a head (`scoreM`: the key block times the
  head's queries, kept in the head's scratch buffer in two halves) and later folded into the head's running maximum and
  accumulator (`updM`). `ringM` is one slab's pass over the four heads, the scores running two heads ahead of the updates. The
  printed bodies of the four loops ARE these programs at their offsets (by unfolding).
-/
module

public import proofs.«01_k».proof.Proof.Gen.KernelIdeal.Skeleton
public import Idealize.ShloMosaic.Lib.VecWindow

@[expose] public section

set_option maxRecDepth 65536

noncomputable section

namespace Cert.Mla

open Cert.KernelIdeal Cert.KernelIdeal.Gen
open Idealize.ShloMosaic Idealize.ShloMosaic.TcCoe
open Idealize.SL Idealize.SL.Sem

variable {F : FTy → Type} [FloatOps F] [Named F]

/-! ## The vector operations -/

/-- The scores of a block of 512 keys against the head's 512 queries: keys down, queries across. -/
def slabV (q : FVec F S512x128 .bf16) (kb : Vec F S512x128 .bf16) : FVec F S512x512 .f32 :=
  matmul dot_S512x128_S512x128_S512x512_1_1_0_0_n_n none (shapeCast S512x128 kb shapeCasts_S512x128_S512x128) q
    (constant S512x512 .f32 0x00000000#32)

/-- The first and the last 256 keys of a slab. -/
def topV (s : FVec F S512x512 .f32) : FVec F S256x512 .f32 := extractStridedSlice S256x512 ![0, 0] s slices_S512x512_o0_0_S256x512
def botV (s : FVec F S512x512 .f32) : FVec F S256x512 .f32 := extractStridedSlice S256x512 ![256, 0] s slices_S512x512_o256_0_S256x512

/-- The causal mask of half `o / 256` of the slab on the diagonal. -/
def maskV (o : BitVec 32) (s : FVec F S256x512 .f32) : FVec F S256x512 .f32 :=
  select (cmpi .sle (addi (iota .tc S256x512 32 [0] iota_S256x512_d0_w32) (broadcast S256x512 o))
    (iota .tc S256x512 32 [1] iota_S256x512_d1_w32)) s (broadcast S256x512 (Named.named κ "mask" 0xF149F2CA#32 : F .f32))

/-- The largest score of each query over a half slab, -/
def maxV (s : FVec F S256x512 .f32) : FVec F S1x512 .f32 :=
  shapeCast S1x512 (multiReduction .maximumf [0] S512 s 0xFF800000#32 reduces_S256x512_S512 (.inl rfl) rfl) shapeCasts_S512_S1x512

/-- and over both halves. -/
def colMaxV (a b : FVec F S256x512 .f32) : FVec F S1x512 .f32 := maximumf (maxV a) (maxV b)

/-- What a half slab's weights leave in the accumulator: the values with rows of ones under them, times the weights. -/
def pvV (v8 : FVec F S16x256 .bf16) (mn : FVec F S1x512 .f32) (s : Vec F S256x512 .f32) (v : Vec F S1x64x256 .bf16) : FVec F S80x512 .f32 :=
  matmul dot_S80x256_S256x512_S80x512_1_0_0_1_n_n none
    (concatenate S80x256 0 [⟨S64x256, shapeCast S64x256 v shapeCasts_S1x64x256_S64x256⟩, ⟨S16x256, v8⟩] concatenates_S64x256_S16x256_S80x256_d0)
    (truncf .bf16 (exp2 (subf s (broadcastTo S256x512 mn broadcasts_S1x512_S256x512))) bitsLt_bf16_f32)
    (constant S80x512 .f32 0x00000000#32)

/-- The accumulator after a slab, `mn` the new running maximum. -/
def accV (v8 : FVec F S16x256 .bf16) (m mn : FVec F S1x512 .f32) (a : FVec F S80x512 .f32) (st sb : Vec F S256x512 .f32)
    (vt vb : Vec F S1x64x256 .bf16) : FVec F S80x512 .f32 :=
  addf (addf (mulf (broadcastTo S80x512 (exp2 (subf m mn)) broadcasts_S1x512_S80x512) a) (pvV v8 mn st vt)) (pvV v8 mn sb vb)

/-! ## The programs -/

abbrev Pr (F : FTy → Type) [FloatOps F] [Named F] (α : Type) := Prog (TpuEff nD τ sig (Elt F) Λ₀ .tc) α
abbrev Scr := Memref sig .tc .vmem S512x512 .f32
abbrev KRef := Memref sig .tc .vmem S16384x512 .bf16
abbrev VRef := Memref sig .tc .vmem S64x256x256 .bf16

/-- A row block of the keys that lies inside them; a tile of the values. -/
abbrev KOff := { o : Fin 2 → ℕ // ∀ a, o a + S512x128.size a ≤ S16384x512.size a }
abbrev VOff := { o : Fin 3 → ℕ // ∀ a, o a + S1x64x256.size a ≤ S64x256x256.size a }

abbrev topR : Rect S512x512 := Rect.unit (s := S512x512) ![0, 0] S256x512.size inb_S512x512_S256x512_0_0
abbrev botR : Rect S512x512 := Rect.unit (s := S512x512) ![256, 0] S256x512.size inb_S512x512_S256x512_256_0

/-- Write the two halves into the scratch buffer (each store reads the place first). -/
def storeM (s : Scr) (a b : FVec F S256x512 .f32) : Pr F PUnit := do
  let _ ← Prog.lift (.load s topR.toLoadRect (View.loadsAt_vmem h_S256x512))
  Prog.lift (.store s topR (shapeCast S256x512 a shapeCasts_S256x512_S256x512) Finset.univ (View.stores_vmem_bits_univ h_S256x512 rfl) (.inl rfl))
  let _ ← Prog.lift (.load s botR.toLoadRect (View.loadsAt_vmem h_S256x512))
  Prog.lift (.store s botR (shapeCast S256x512 b shapeCasts_S256x512_S256x512) Finset.univ (View.stores_vmem_bits_univ h_S256x512 rfl) (.inl rfl))

def loadK (kr : KRef) (o : KOff) : Pr F (Vec F S512x128 .bf16) :=
  Prog.lift (.load kr (Rect.unit (s := S16384x512) o.1 S512x128.size o.2).toLoadRect (View.loadsAt_vmem h_S512x128))

/-- Score a slab, with no mask. -/
def scoreM (kr : KRef) (s : Scr) (o : KOff) (q : FVec F S512x128 .bf16) : Pr F (FVec F S1x512 .f32) := do
  let kb ← loadK kr o
  storeM s (topV (slabV q kb)) (botV (slabV q kb))
  pure (colMaxV (topV (slabV q kb)) (botV (slabV q kb)))

/-- Score the slab on the diagonal, masked. -/
def scoreD (kr : KRef) (s : Scr) (o : KOff) (q : FVec F S512x128 .bf16) : Pr F (FVec F S1x512 .f32) := do
  let kb ← loadK kr o
  storeM s (maskV 0#32 (topV (slabV q kb))) (maskV 256#32 (botV (slabV q kb)))
  pure (colMaxV (maskV 0#32 (topV (slabV q kb))) (maskV 256#32 (botV (slabV q kb))))

/-- Fold a scored slab into the running maximum and the accumulator. -/
def updM (vr : VRef) (s : Scr) (oa ob : VOff) (v8 : FVec F S16x256 .bf16) (m : FVec F S1x512 .f32) (a : FVec F S80x512 .f32)
    (cm : FVec F S1x512 .f32) : Pr F (FVec F S80x512 .f32) := do
  let st ← Prog.lift (.load s topR.toLoadRect (View.loadsAt_vmem h_S256x512))
  let vt ← Prog.lift (.load vr (Rect.unit (s := S64x256x256) oa.1 S1x64x256.size oa.2).toLoadRect (View.loadsAt_vmem h_S1x64x256))
  let sb ← Prog.lift (.load s botR.toLoadRect (View.loadsAt_vmem h_S256x512))
  let vb ← Prog.lift (.load vr (Rect.unit (s := S64x256x256) ob.1 S1x64x256.size ob.2).toLoadRect (View.loadsAt_vmem h_S1x64x256))
  pure (accV v8 m (maximumf m cm) a st sb vt vb)

/-- What a loop carries: the four heads' maxima and accumulators, and the two scored slabs' maxima. -/
abbrev Carry (F : FTy → Type) := FVec F S1x512 .f32 × FVec F S80x512 .f32 × FVec F S1x512 .f32 × FVec F S80x512 .f32 × FVec F S1x512 .f32 × FVec F S80x512 .f32 × FVec F S1x512 .f32 × FVec F S80x512 .f32 × FVec F S1x512 .f32 × FVec F S1x512 .f32

/-- One slab's pass: heads 2 and 3 of this slab (`k2`, `k3`) and heads 0 and 1 of the next (`k0`, `k1`) are scored, each score
    two steps ahead of its update; a head's two tiles of values are at `va h` and `vb h`. -/
def ringM (kr : KRef) (vr : VRef) (s0 s1 s2 s3 : Scr) (q0 q1 q2 q3 : FVec F S512x128 .bf16) (v8 : FVec F S16x256 .bf16)
    (k2 k3 k0 k1 : KOff) (va vb : Fin 4 → VOff) : Carry F → Pr F (Carry F)
  | (m0, a0, m1, a1, m2, a2, m3, a3, c0, c1) => do
    let c2 ← scoreM kr s2 k2 q2
    let a0' ← updM vr s0 (va 0) (vb 0) v8 m0 a0 c0
    let c3 ← scoreM kr s3 k3 q3
    let a1' ← updM vr s1 (va 1) (vb 1) v8 m1 a1 c1
    let d0 ← scoreM kr s0 k0 q0
    let a2' ← updM vr s2 (va 2) (vb 2) v8 m2 a2 c2
    let d1 ← scoreM kr s1 k1 q1
    let a3' ← updM vr s3 (va 3) (vb 3) v8 m3 a3 c3
    pure (maximumf m0 c0, a0', maximumf m1 c1, a1', maximumf m2 c2, a2', maximumf m3 c3, a3', d0, d1)

/-- The pass over the slab on the diagonal, whose heads 0 and 1 are scored here too: it reads heads 2 and 3 masked. -/
def ringD (kr : KRef) (vr : VRef) (s0 s1 s2 s3 : Scr) (q0 q1 q2 q3 : FVec F S512x128 .bf16) (v8 : FVec F S16x256 .bf16)
    (k2 k3 k0 k1 : KOff) (va vb : Fin 4 → VOff) : Carry F → Pr F (Carry F)
  | (m0, a0, m1, a1, m2, a2, m3, a3, c0, c1) => do
    let c2 ← scoreD kr s2 k2 q2
    let a0' ← updM vr s0 (va 0) (vb 0) v8 m0 a0 c0
    let c3 ← scoreD kr s3 k3 q3
    let a1' ← updM vr s1 (va 1) (vb 1) v8 m1 a1 c1
    let d0 ← scoreM kr s0 k0 q0
    let a2' ← updM vr s2 (va 2) (vb 2) v8 m2 a2 c2
    let d1 ← scoreM kr s1 k1 q1
    let a3' ← updM vr s3 (va 3) (vb 3) v8 m3 a3 c3
    pure (maximumf m0 c0, a0', maximumf m1 c1, a1', maximumf m2 c2, a2', maximumf m3 c3, a3', d0, d1)

/-- A head's queries, read from the block of queries. -/
def loadQ (qr : Memref sig .tc .vmem S512x512 .bf16) (o : Fin 2 → ℕ) (h : ∀ a, o a + S512x128.size a ≤ S512x512.size a) : Pr F (Vec F S512x128 .bf16) :=
  Prog.lift (.load qr (Rect.unit (s := S512x512) o S512x128.size h).toLoadRect (View.loadsAt_vmem h_S512x128))

/-- The queries as they enter the products, the ones under the values, and the carry before the first slab. -/
def qV (q : Vec F S512x128 .bf16) : FVec F S512x128 .bf16 := shapeCast S512x128 q shapeCasts_S512x128_S512x128
def onesV : FVec F S16x256 .bf16 := broadcast S16x256 (Scalar.ofBits .bf16 0x3F80#16 : F .bf16)
def negV : FVec F S1x512 .f32 := broadcast S1x512 (Named.named κ "mask" 0xF149F2CA#32 : F .f32)
def zeroV : FVec F S80x512 .f32 := broadcast S80x512 (Scalar.ofBits .f32 0x00000000#32 : F .f32)

end Cert.Mla

end
-- ==== Proof.Triple.lean ====
/-
  What the passes of `Ring` do to memory. A head's scratch buffer `Held` at two half slabs is any buffer whose first and last 256
  rows are those halves. Scoring fills the head's buffer and answers the slab's largest scores; an update reads it. Each statement
  is a step: from the buffers as they are, the program runs to whatever its continuation needs.
-/
module

public import proofs.«01_k».proof.Proof.Ring
public import Idealize.ShloMosaic.Lib.Exec
public import Idealize.ShloMosaic.Lib.Pipeline.Value
public import Idealize.ShloMosaic.Lib.Tactic
public import Idealize.ShloMosaic.Lib.Pipeline.FrameBody

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block of keys, and the tile of values, at an offset. -/
def kAt (x : Vec F S16384x512 .bf16) (o : KOff) : Vec F S512x128 .bf16 := VecWindow.window x o.1 S512x128.size o.2
def vAt (x : Vec F S64x256x256 .bf16) (o : VOff) : Vec F S1x64x256 .bf16 := VecWindow.window x o.1 S1x64x256.size o.2

def Any (c : Dev nD) (s : Scr) : sProp 𝕄 := iprop(∃ d, owns (c : Thread nD τ) s fullShare d)

def Held (c : Dev nD) (s : Scr) (a b : Vec F S256x512 .f32) : sProp 𝕄 :=
  iprop(∃ d : S512x512.Idx → Elt F .f32, ⌜VecWindow.window (s := S512x512) d ![0, 0] S256x512.size inb_S512x512_S256x512_0_0 = a ∧ VecWindow.window (s := S512x512) d ![256, 0] S256x512.size inb_S512x512_S256x512_256_0 = b⌝
    ∗ owns (c : Thread nD τ) s fullShare d)

theorem Held.any (c : Dev nD) (s : Scr) (a b : Vec F S256x512 .f32) : Held c s a b ⊢ (Any c s : sProp 𝕄) := by
  unfold Held Any
  iintro ⟨%d, -, H⟩
  iexists d; iexact H

/-- A buffer holds the two halves last written to it. -/
theorem held_writes (s : Scr) (f : s.view.ty.Contents (Elt F)) (a b : Vec F S256x512 .f32) :
    VecWindow.window (s := S512x512) (s.view.read (Elt F) (s.view.writes (Elt F) f
        [⟨botR, shapeCast S256x512 b shapeCasts_S256x512_S256x512⟩, ⟨topR, shapeCast S256x512 a shapeCasts_S256x512_S256x512⟩]))
        ![0, 0] S256x512.size inb_S512x512_S256x512_0_0 = a
      ∧ VecWindow.window (s := S512x512) (s.view.read (Elt F) (s.view.writes (Elt F) f
        [⟨botR, shapeCast S256x512 b shapeCasts_S256x512_S256x512⟩, ⟨topR, shapeCast S256x512 a shapeCasts_S256x512_S256x512⟩]))
        ![256, 0] S256x512.size inb_S512x512_S256x512_256_0 = b := by
  rw [View.read_writes_cons_put _ _ _ _ _ rfl, View.read_writes_cons_put _ _ _ _ _ rfl]
  simp only [shapeCast_self]
  refine ⟨?_, VecWindow.window_put_same _ _ _ _ _⟩
  refine (VecWindow.window_put_of_disjoint (s := S512x512) _ ![256, 0] S256x512.size ![0, 0] S256x512.size _ _ 0 (Or.inl (by decide))).trans ?_
  exact VecWindow.window_put_same _ _ _ _ _

/-- The four heads' running maxima and accumulators. -/
abbrev Heads (F : FTy → Type) := Fin 4 → FVec F S1x512 .f32 × FVec F S80x512 .f32

/-- What a loop carries, of the heads' states and the two scored slabs' maxima. -/
def pack (p : Heads F) (c0 c1 : FVec F S1x512 .f32) : Carry F :=
  ((p 0).1, (p 0).2, (p 1).1, (p 1).2, (p 2).1, (p 2).2, (p 3).1, (p 3).2, c0, c1)

/-- A head's state after a slab whose halves are `t` and `b`, with the tiles `vt` and `vb` of values. -/
abbrev updV (v8 : FVec F S16x256 .bf16) (p : FVec F S1x512 .f32 × FVec F S80x512 .f32) (t b : Vec F S256x512 .f32) (vt vb : Vec F S1x64x256 .bf16) :
    FVec F S1x512 .f32 × FVec F S80x512 .f32 :=
  (maximumf p.1 (colMaxV t b), accV v8 p.1 (maximumf p.1 (colMaxV t b)) p.2 t b vt vb)

variable (c : Dev nD) (E : Set ℕ)

local notation "WP" => wp frame (wpE (defs₀ (F := F)) Variants.none c none) E

theorem scoreM_wp (kr : KRef) (hk : kr.IsWhole) (s : Scr) (hs : s.IsWhole) (o : KOff) (q : FVec F S512x128 .bf16) (x : Vec F S16384x512 .bf16)
    (K : FVec F S1x512 .f32 → sProp 𝕄) :
    iprop(owns (c : Thread nD τ) kr fullShare x ∗ Any c s ∗ (iprop(owns (c : Thread nD τ) kr fullShare x ∗ Held c s (topV (slabV q (kAt x o))) (botV (slabV q (kAt x o)))) -∗ K (colMaxV (topV (slabV q (kAt x o))) (botV (slabV q (kAt x o))))))
      ⊢ WP (scoreM kr s o q) K := by
  simp only [scoreM, loadK, storeM]
  unfold Any Held owns
  iintro ⟨⟨%f0, %hf0, H0⟩, ⟨%d1, %f1, -, H1⟩, Hk⟩
  obtain rfl := hk.eq_unread hf0
  sl_exec
  have hkb : scoreM_wp.sl.kb c kr hk o x = kAt x o := by
    unfold scoreM_wp.sl.kb
    rw [View.readAt_unit kr.view _ _ rfl o.2, hf0]; rfl
  rw [hkb]
  sl_step
  iapply Hk
  isplitl [H0]
  · iexists _; isplitr; · ipureintro; exact hf0
    iexact H0
  iexists _; isplitr
  · ipureintro; exact held_writes s f1 _ _
  iexists _; isplitr; · ipureintro; rfl
  iexact H1

theorem scoreD_wp (kr : KRef) (hk : kr.IsWhole) (s : Scr) (hs : s.IsWhole) (o : KOff) (q : FVec F S512x128 .bf16) (x : Vec F S16384x512 .bf16)
    (K : FVec F S1x512 .f32 → sProp 𝕄) :
    iprop(owns (c : Thread nD τ) kr fullShare x ∗ Any c s ∗ (iprop(owns (c : Thread nD τ) kr fullShare x ∗ Held c s (maskV 0#32 (topV (slabV q (kAt x o)))) (maskV 256#32 (botV (slabV q (kAt x o))))) -∗ K (colMaxV (maskV 0#32 (topV (slabV q (kAt x o)))) (maskV 256#32 (botV (slabV q (kAt x o)))))))
      ⊢ WP (scoreD kr s o q) K := by
  simp only [scoreD, loadK, storeM]
  unfold Any Held owns
  iintro ⟨⟨%f0, %hf0, H0⟩, ⟨%d1, %f1, -, H1⟩, Hk⟩
  obtain rfl := hk.eq_unread hf0
  sl_exec
  have hkb : scoreD_wp.sl.kb c kr hk o x = kAt x o := by
    unfold scoreD_wp.sl.kb
    rw [View.readAt_unit kr.view _ _ rfl o.2, hf0]; rfl
  rw [hkb]
  sl_step
  iapply Hk
  isplitl [H0]
  · iexists _; isplitr; · ipureintro; exact hf0
    iexact H0
  iexists _; isplitr
  · ipureintro; exact held_writes s f1 _ _
  iexists _; isplitr; · ipureintro; rfl
  iexact H1

theorem updM_wp (vr : VRef) (hv : vr.IsWhole) (s : Scr) (oa ob : VOff) (v8 : FVec F S16x256 .bf16) (m : FVec F S1x512 .f32) (a : FVec F S80x512 .f32)
    (cm : FVec F S1x512 .f32) (x : Vec F S64x256x256 .bf16) (st sb : Vec F S256x512 .f32) (K : FVec F S80x512 .f32 → sProp 𝕄) :
    iprop(owns (c : Thread nD τ) vr fullShare x ∗ Held c s st sb ∗ (iprop(owns (c : Thread nD τ) vr fullShare x ∗ Held c s st sb) -∗ K (accV v8 m (maximumf m cm) a st sb (vAt x oa) (vAt x ob))))
      ⊢ WP (updM vr s oa ob v8 m a cm) K := by
  simp only [updM]
  unfold Held owns
  iintro ⟨⟨%f0, %hf0, H0⟩, ⟨%d1, %hd, %f1, %hf1, H1⟩, Hk⟩
  sl_exec
  have ht : View.readAt (Elt F) s.view topR.toLoadRect f1 = st := by
    rw [View.readAt_unit s.view _ _ rfl inb_S512x512_S256x512_0_0, hf1]; exact hd.1
  have hb : View.readAt (Elt F) s.view botR.toLoadRect f1 = sb := by
    rw [View.readAt_unit s.view _ _ rfl inb_S512x512_S256x512_256_0, hf1]; exact hd.2
  have hva : updM_wp.sl.vt c vr oa f0 = vAt x oa := by
    unfold updM_wp.sl.vt
    rw [View.readAt_unit vr.view _ _ rfl oa.2, hf0]; rfl
  have hvb : updM_wp.sl.vb c vr ob f0 = vAt x ob := by
    unfold updM_wp.sl.vb
    rw [View.readAt_unit vr.view _ _ rfl ob.2, hf0]; rfl
  rw [ht, hb, hva, hvb]
  sl_step
  iapply Hk
  isplitl [H0]
  · iexists _; isplitr; · ipureintro; exact hf0
    iexact H0
  iexists _; isplitr
  · ipureintro; exact hd
  iexists _; isplitr; · ipureintro; exact hf1
  iexact H1

theorem ringM_pack (kr : KRef) (vr : VRef) (s0 s1 s2 s3 : Scr) (q0 q1 q2 q3 : FVec F S512x128 .bf16) (v8 : FVec F S16x256 .bf16) (k2 k3 k0 k1 : KOff) (va vb : Fin 4 → VOff)
    (p : Heads F) (c0 c1 : FVec F S1x512 .f32) :
    ringM kr vr s0 s1 s2 s3 q0 q1 q2 q3 v8 k2 k3 k0 k1 va vb (pack p c0 c1) = (do
      let c2 ← scoreM kr s2 k2 q2
      let a0' ← updM vr s0 (va 0) (vb 0) v8 (p 0).1 (p 0).2 c0
      let c3 ← scoreM kr s3 k3 q3
      let a1' ← updM vr s1 (va 1) (vb 1) v8 (p 1).1 (p 1).2 c1
      let d0 ← scoreM kr s0 k0 q0
      let a2' ← updM vr s2 (va 2) (vb 2) v8 (p 2).1 (p 2).2 c2
      let d1 ← scoreM kr s1 k1 q1
      let a3' ← updM vr s3 (va 3) (vb 3) v8 (p 3).1 (p 3).2 c3
      pure (pack ![(maximumf (p 0).1 c0, a0'), (maximumf (p 1).1 c1, a1'), (maximumf (p 2).1 c2, a2'), (maximumf (p 3).1 c3, a3')] d0 d1)) := rfl

theorem ringM_wp (kr : KRef) (hk : kr.IsWhole) (vr : VRef) (hv : vr.IsWhole) (s0 : Scr) (h0 : s0.IsWhole) (s1 : Scr) (h1 : s1.IsWhole)
    (s2 : Scr) (h2 : s2.IsWhole) (s3 : Scr) (h3 : s3.IsWhole) (q : Fin 4 → FVec F S512x128 .bf16) (v8 : FVec F S16x256 .bf16) (k2 k3 k0 k1 : KOff) (va vb : Fin 4 → VOff)
    (p : Heads F) (t0 b0 t1 b1 : Vec F S256x512 .f32) (x1 : Vec F S16384x512 .bf16) (x2 : Vec F S64x256x256 .bf16) (K : Carry F → sProp 𝕄) :
    iprop(owns (c : Thread nD τ) kr fullShare x1 ∗ owns (c : Thread nD τ) vr fullShare x2 ∗ Held c s0 t0 b0 ∗ Held c s1 t1 b1 ∗ Any c s2 ∗ Any c s3 ∗
        (iprop(owns (c : Thread nD τ) kr fullShare x1 ∗ owns (c : Thread nD τ) vr fullShare x2 ∗ Held c s0 (topV (slabV (q 0) (kAt x1 k0))) (botV (slabV (q 0) (kAt x1 k0))) ∗ Held c s1 (topV (slabV (q 1) (kAt x1 k1))) (botV (slabV (q 1) (kAt x1 k1))) ∗ Any c s2 ∗ Any c s3) -∗
          K (pack ![updV v8 (p 0) t0 b0 (vAt x2 (va 0)) (vAt x2 (vb 0)), updV v8 (p 1) t1 b1 (vAt x2 (va 1)) (vAt x2 (vb 1)),
              updV v8 (p 2) (topV (slabV (q 2) (kAt x1 k2))) (botV (slabV (q 2) (kAt x1 k2))) (vAt x2 (va 2)) (vAt x2 (vb 2)),
              updV v8 (p 3) (topV (slabV (q 3) (kAt x1 k3))) (botV (slabV (q 3) (kAt x1 k3))) (vAt x2 (va 3)) (vAt x2 (vb 3))]
            (colMaxV (topV (slabV (q 0) (kAt x1 k0))) (botV (slabV (q 0) (kAt x1 k0)))) (colMaxV (topV (slabV (q 1) (kAt x1 k1))) (botV (slabV (q 1) (kAt x1 k1)))))))
      ⊢ WP (ringM kr vr s0 s1 s2 s3 (q 0) (q 1) (q 2) (q 3) v8 k2 k3 k0 k1 va vb (pack p (colMaxV t0 b0) (colMaxV t1 b1))) K := by
  rw [ringM_pack]
  iintro ⟨H1, H2, B0, B1, B2, B3, Hk⟩
  rw [wp_bind]
  iapply (scoreM_wp c E kr hk s2 h2 k2 (q 2) x1 _)
  isplitl [H1]; · iexact H1
  isplitl [B2]; · iexact B2
  iintro ⟨H1, B2⟩
  rw [wp_bind]
  iapply (updM_wp c E vr hv s0 (va 0) (vb 0) v8 _ _ _ x2 _ _ _)
  isplitl [H2]; · iexact H2
  isplitl [B0]; · iexact B0
  iintro ⟨H2, B0⟩
  rw [wp_bind]
  iapply (scoreM_wp c E kr hk s3 h3 k3 (q 3) x1 _)
  isplitl [H1]; · iexact H1
  isplitl [B3]; · iexact B3
  iintro ⟨H1, B3⟩
  rw [wp_bind]
  iapply (updM_wp c E vr hv s1 (va 1) (vb 1) v8 _ _ _ x2 _ _ _)
  isplitl [H2]; · iexact H2
  isplitl [B1]; · iexact B1
  iintro ⟨H2, B1⟩
  ihave B0 := (Held.any c s0 _ _) $$ B0
  rw [wp_bind]
  iapply (scoreM_wp c E kr hk s0 h0 k0 (q 0) x1 _)
  isplitl [H1]; · iexact H1
  isplitl [B0]; · iexact B0
  iintro ⟨H1, B0⟩
  rw [wp_bind]
  iapply (updM_wp c E vr hv s2 (va 2) (vb 2) v8 _ _ _ x2 _ _ _)
  isplitl [H2]; · iexact H2
  isplitl [B2]; · iexact B2
  iintro ⟨H2, B2⟩
  ihave B1 := (Held.any c s1 _ _) $$ B1
  rw [wp_bind]
  iapply (scoreM_wp c E kr hk s1 h1 k1 (q 1) x1 _)
  isplitl [H1]; · iexact H1
  isplitl [B1]; · iexact B1
  iintro ⟨H1, B1⟩
  rw [wp_bind]
  iapply (updM_wp c E vr hv s3 (va 3) (vb 3) v8 _ _ _ x2 _ _ _)
  isplitl [H2]; · iexact H2
  isplitl [B3]; · iexact B3
  iintro ⟨H2, B3⟩
  ihave B2 := (Held.any c s2 _ _) $$ B2
  ihave B3 := (Held.any c s3 _ _) $$ B3
  iapply (le_wp_ret (M := 𝕄) _ _)
  iapply Hk
  isplitl [H1]; · iexact H1
  isplitl [H2]; · iexact H2
  isplitl [B0]; · iexact B0
  isplitl [B1]; · iexact B1
  isplitl [B2]; · iexact B2
  iexact B3

theorem ringD_pack (kr : KRef) (vr : VRef) (s0 s1 s2 s3 : Scr) (q0 q1 q2 q3 : FVec F S512x128 .bf16) (v8 : FVec F S16x256 .bf16) (k2 k3 k0 k1 : KOff) (va vb : Fin 4 → VOff)
    (p : Heads F) (c0 c1 : FVec F S1x512 .f32) :
    ringD kr vr s0 s1 s2 s3 q0 q1 q2 q3 v8 k2 k3 k0 k1 va vb (pack p c0 c1) = (do
      let c2 ← scoreD kr s2 k2 q2
      let a0' ← updM vr s0 (va 0) (vb 0) v8 (p 0).1 (p 0).2 c0
      let c3 ← scoreD kr s3 k3 q3
      let a1' ← updM vr s1 (va 1) (vb 1) v8 (p 1).1 (p 1).2 c1
      let d0 ← scoreM kr s0 k0 q0
      let a2' ← updM vr s2 (va 2) (vb 2) v8 (p 2).1 (p 2).2 c2
      let d1 ← scoreM kr s1 k1 q1
      let a3' ← updM vr s3 (va 3) (vb 3) v8 (p 3).1 (p 3).2 c3
      pure (pack ![(maximumf (p 0).1 c0, a0'), (maximumf (p 1).1 c1, a1'), (maximumf (p 2).1 c2, a2'), (maximumf (p 3).1 c3, a3')] d0 d1)) := rfl

theorem ringD_wp (kr : KRef) (hk : kr.IsWhole) (vr : VRef) (hv : vr.IsWhole) (s0 : Scr) (h0 : s0.IsWhole) (s1 : Scr) (h1 : s1.IsWhole)
    (s2 : Scr) (h2 : s2.IsWhole) (s3 : Scr) (h3 : s3.IsWhole) (q : Fin 4 → FVec F S512x128 .bf16) (v8 : FVec F S16x256 .bf16) (k2 k3 k0 k1 : KOff) (va vb : Fin 4 → VOff)
    (p : Heads F) (t0 b0 t1 b1 : Vec F S256x512 .f32) (x1 : Vec F S16384x512 .bf16) (x2 : Vec F S64x256x256 .bf16) (K : Carry F → sProp 𝕄) :
    iprop(owns (c : Thread nD τ) kr fullShare x1 ∗ owns (c : Thread nD τ) vr fullShare x2 ∗ Held c s0 t0 b0 ∗ Held c s1 t1 b1 ∗ Any c s2 ∗ Any c s3 ∗
        (iprop(owns (c : Thread nD τ) kr fullShare x1 ∗ owns (c : Thread nD τ) vr fullShare x2 ∗ Held c s0 (topV (slabV (q 0) (kAt x1 k0))) (botV (slabV (q 0) (kAt x1 k0))) ∗ Held c s1 (topV (slabV (q 1) (kAt x1 k1))) (botV (slabV (q 1) (kAt x1 k1))) ∗ Any c s2 ∗ Any c s3) -∗
          K (pack ![updV v8 (p 0) t0 b0 (vAt x2 (va 0)) (vAt x2 (vb 0)), updV v8 (p 1) t1 b1 (vAt x2 (va 1)) (vAt x2 (vb 1)),
              updV v8 (p 2) (maskV 0#32 (topV (slabV (q 2) (kAt x1 k2)))) (maskV 256#32 (botV (slabV (q 2) (kAt x1 k2)))) (vAt x2 (va 2)) (vAt x2 (vb 2)),
              updV v8 (p 3) (maskV 0#32 (topV (slabV (q 3) (kAt x1 k3)))) (maskV 256#32 (botV (slabV (q 3) (kAt x1 k3)))) (vAt x2 (va 3)) (vAt x2 (vb 3))]
            (colMaxV (topV (slabV (q 0) (kAt x1 k0))) (botV (slabV (q 0) (kAt x1 k0)))) (colMaxV (topV (slabV (q 1) (kAt x1 k1))) (botV (slabV (q 1) (kAt x1 k1)))))))
      ⊢ WP (ringD kr vr s0 s1 s2 s3 (q 0) (q 1) (q 2) (q 3) v8 k2 k3 k0 k1 va vb (pack p (colMaxV t0 b0) (colMaxV t1 b1))) K := by
  rw [ringD_pack]
  iintro ⟨H1, H2, B0, B1, B2, B3, Hk⟩
  rw [wp_bind]
  iapply (scoreD_wp c E kr hk s2 h2 k2 (q 2) x1 _)
  isplitl [H1]; · iexact H1
  isplitl [B2]; · iexact B2
  iintro ⟨H1, B2⟩
  rw [wp_bind]
  iapply (updM_wp c E vr hv s0 (va 0) (vb 0) v8 _ _ _ x2 _ _ _)
  isplitl [H2]; · iexact H2
  isplitl [B0]; · iexact B0
  iintro ⟨H2, B0⟩
  rw [wp_bind]
  iapply (scoreD_wp c E kr hk s3 h3 k3 (q 3) x1 _)
  isplitl [H1]; · iexact H1
  isplitl [B3]; · iexact B3
  iintro ⟨H1, B3⟩
  rw [wp_bind]
  iapply (updM_wp c E vr hv s1 (va 1) (vb 1) v8 _ _ _ x2 _ _ _)
  isplitl [H2]; · iexact H2
  isplitl [B1]; · iexact B1
  iintro ⟨H2, B1⟩
  ihave B0 := (Held.any c s0 _ _) $$ B0
  rw [wp_bind]
  iapply (scoreM_wp c E kr hk s0 h0 k0 (q 0) x1 _)
  isplitl [H1]; · iexact H1
  isplitl [B0]; · iexact B0
  iintro ⟨H1, B0⟩
  rw [wp_bind]
  iapply (updM_wp c E vr hv s2 (va 2) (vb 2) v8 _ _ _ x2 _ _ _)
  isplitl [H2]; · iexact H2
  isplitl [B2]; · iexact B2
  iintro ⟨H2, B2⟩
  ihave B1 := (Held.any c s1 _ _) $$ B1
  rw [wp_bind]
  iapply (scoreM_wp c E kr hk s1 h1 k1 (q 1) x1 _)
  isplitl [H1]; · iexact H1
  isplitl [B1]; · iexact B1
  iintro ⟨H1, B1⟩
  rw [wp_bind]
  iapply (updM_wp c E vr hv s3 (va 3) (vb 3) v8 _ _ _ x2 _ _ _)
  isplitl [H2]; · iexact H2
  isplitl [B3]; · iexact B3
  iintro ⟨H2, B3⟩
  ihave B2 := (Held.any c s2 _ _) $$ B2
  ihave B3 := (Held.any c s3 _ _) $$ B3
  iapply (le_wp_ret (M := 𝕄) _ _)
  iapply Hk
  isplitl [H1]; · iexact H1
  isplitl [H2]; · iexact H2
  isplitl [B0]; · iexact B0
  isplitl [B1]; · iexact B1
  isplitl [B2]; · iexact B2
  iexact B3

end Cert.Mla

end
-- ==== Proof.Body.lean ====
/- The printed bodies of the loops are the passes of `Ring`. -/
module

public import proofs.«01_k».proof.Proof.Ring
public import Idealize.ShloMosaic.Lib.LoopRemainder

@[expose] public section

set_option maxRecDepth 65536

noncomputable section

namespace Cert.Mla

open Cert.KernelIdeal Cert.KernelIdeal.Gen
open Idealize.ShloMosaic Idealize.ShloMosaic.TcCoe
open Idealize.SL Idealize.SL.Sem

variable {F : FTy → Type} [FloatOps F] [Named F]

theorem t3_eq (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (v1 v3 v5 v7 : FVec F S512x128 .bf16) (v8 : FVec F S16x256 .bf16) (v12 v313 c1 : BitVec 32) (k : Fin (k0_t3_loop i).trips) (e : Carry F) :
    k0_t3_body i arg2 harg2 arg3 harg3 arg4 harg4 arg5 harg5 arg6 harg6 arg7 harg7 arg8 harg8 arg9 harg9 v1 v3 v5 v7 v8 v12 v313 c1 k e
      = ringM arg3 arg4 arg6 arg7 arg8 arg9 v1 v3 v5 v7 v8 ⟨_, k0_off25_inb i k⟩ ⟨_, k0_off27_inb i k⟩ ⟨_, k0_off29_inb i k⟩ ⟨_, k0_off31_inb i k⟩
          ![⟨_, k0_off26_inb i k 0⟩, ⟨_, k0_off28_inb i k 0⟩, ⟨_, k0_off30_inb i k 0⟩, ⟨_, k0_off32_inb i k 0⟩]
          ![⟨_, k0_off26_inb i k 1⟩, ⟨_, k0_off28_inb i k 1⟩, ⟨_, k0_off30_inb i k 1⟩, ⟨_, k0_off32_inb i k 1⟩] e := by
  obtain ⟨m0, a0, m1, a1, m2, a2, m3, a3, d0, d1⟩ := e
  simp only [k0_t3_body, k0_part45_eq_skeleton, k0_part46_eq_skeleton, k0_part47_eq_skeleton, k0_part48_eq_skeleton, k0_part49_eq_skeleton,
    k0_part45_skel, k0_part46_skel, k0_part47_skel, k0_part48_skel, k0_part49_skel, ringM, scoreM, updM, loadK, storeM, Prog.lift,
    Prog.pure_eq_ret, Prog.bind_ret, Prog.bind_op]
  rfl

theorem t1_eq (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (arg1 : BitVec 32) (v1 : FVec F S512x128 .bf16) (v3 : FVec F S512x128 .bf16) (v5 : FVec F S512x128 .bf16) (v7 : FVec F S512x128 .bf16) (v8 : FVec F S16x256 .bf16) (v12 : BitVec 32) (v112 : FVec F S1x512 .f32) (v142 : FVec F S80x512 .f32) (v176 : FVec F S1x512 .f32) (v206 : FVec F S80x512 .f32) (v224 : FVec F S1x512 .f32) (v225 : FVec F S1x512 .f32) (v255 : FVec F S80x512 .f32) (v273 : FVec F S1x512 .f32) (v274 : FVec F S1x512 .f32) (v278 : FVec F S80x512 .f32) (k : Fin (k0_t1_loop i).trips) (e : Carry F) :
    k0_t1_body i arg2 harg2 arg3 harg3 arg4 harg4 arg5 harg5 arg6 harg6 arg7 harg7 arg8 harg8 arg9 harg9 arg1 v1 v3 v5 v7 v8 v12 v112 v142 v176 v206 v224 v225 v255 v273 v274 v278 k e
      = (do
        let e ← ringM arg3 arg4 arg6 arg7 arg8 arg9 v1 v3 v5 v7 v8 ⟨_, k0_off9_inb i k 0⟩ ⟨_, k0_off11_inb i k 0⟩ ⟨_, k0_off13_inb i k 0⟩ ⟨_, k0_off15_inb i k 0⟩
          ![⟨_, k0_off10_inb i k 0 0⟩, ⟨_, k0_off12_inb i k 0 0⟩, ⟨_, k0_off14_inb i k 0 0⟩, ⟨_, k0_off16_inb i k 0 0⟩] ![⟨_, k0_off10_inb i k 0 1⟩, ⟨_, k0_off12_inb i k 0 1⟩, ⟨_, k0_off14_inb i k 0 1⟩, ⟨_, k0_off16_inb i k 0 1⟩] e
        let e ← ringM arg3 arg4 arg6 arg7 arg8 arg9 v1 v3 v5 v7 v8 ⟨_, k0_off9_inb i k 1⟩ ⟨_, k0_off11_inb i k 1⟩ ⟨_, k0_off13_inb i k 1⟩ ⟨_, k0_off15_inb i k 1⟩
          ![⟨_, k0_off10_inb i k 1 0⟩, ⟨_, k0_off12_inb i k 1 0⟩, ⟨_, k0_off14_inb i k 1 0⟩, ⟨_, k0_off16_inb i k 1 0⟩] ![⟨_, k0_off10_inb i k 1 1⟩, ⟨_, k0_off12_inb i k 1 1⟩, ⟨_, k0_off14_inb i k 1 1⟩, ⟨_, k0_off16_inb i k 1 1⟩] e
        let e ← ringM arg3 arg4 arg6 arg7 arg8 arg9 v1 v3 v5 v7 v8 ⟨_, k0_off9_inb i k 2⟩ ⟨_, k0_off11_inb i k 2⟩ ⟨_, k0_off13_inb i k 2⟩ ⟨_, k0_off15_inb i k 2⟩
          ![⟨_, k0_off10_inb i k 2 0⟩, ⟨_, k0_off12_inb i k 2 0⟩, ⟨_, k0_off14_inb i k 2 0⟩, ⟨_, k0_off16_inb i k 2 0⟩] ![⟨_, k0_off10_inb i k 2 1⟩, ⟨_, k0_off12_inb i k 2 1⟩, ⟨_, k0_off14_inb i k 2 1⟩, ⟨_, k0_off16_inb i k 2 1⟩] e
        ringM arg3 arg4 arg6 arg7 arg8 arg9 v1 v3 v5 v7 v8 ⟨_, k0_off9_inb i k 3⟩ ⟨_, k0_off11_inb i k 3⟩ ⟨_, k0_off13_inb i k 3⟩ ⟨_, k0_off15_inb i k 3⟩
          ![⟨_, k0_off10_inb i k 3 0⟩, ⟨_, k0_off12_inb i k 3 0⟩, ⟨_, k0_off14_inb i k 3 0⟩, ⟨_, k0_off16_inb i k 3 0⟩] ![⟨_, k0_off10_inb i k 3 1⟩, ⟨_, k0_off12_inb i k 3 1⟩, ⟨_, k0_off14_inb i k 3 1⟩, ⟨_, k0_off16_inb i k 3 1⟩] e) := by
  obtain ⟨m0, a0, m1, a1, m2, a2, m3, a3, d0, d1⟩ := e
  simp (maxSteps := 10000000) only [k0_t1_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, ringM, scoreM, updM, loadK, storeM, Prog.lift,
    Prog.pure_eq_ret, Prog.bind_ret, Prog.bind_op]
  rfl

theorem t2_trips : ∀ i : grid0.Coords, (k0_t2_loop i).trips = 0 := by decide +kernel
theorem t4_trips : ∀ i : grid0.Coords, (k0_t4_loop i).trips = 0 := by decide +kernel

/-- The whole body: the queries, the slab on the diagonal, then the slabs before it, four to a trip and the rest one by one. -/
def mlaM (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) : Pr F PUnit := do
  let qb0 ← loadQ arg2 ![0, 0] inb_S512x512_S512x128_0_0
  let qb1 ← loadQ arg2 ![0, 128] inb_S512x512_S512x128_0_128
  let qb2 ← loadQ arg2 ![0, 256] inb_S512x512_S512x128_0_256
  let qb3 ← loadQ arg2 ![0, 384] inb_S512x512_S512x128_0_384
  let c0 ← scoreD arg3 arg6 ⟨_, k0_off1_inb i⟩ (qV qb0)
  let c1 ← scoreD arg3 arg7 ⟨_, k0_off2_inb i⟩ (qV qb1)
  let e ← ringD arg3 arg4 arg6 arg7 arg8 arg9 (qV qb0) (qV qb1) (qV qb2) (qV qb3) onesV ⟨_, k0_off3_inb i⟩ ⟨_, k0_off5_inb i⟩
    ⟨_, inb_S16384x512_S512x128_0_0⟩ ⟨_, inb_S16384x512_S512x128_0_128⟩
    ![⟨_, k0_off4_inb i 0⟩, ⟨_, k0_off6_inb i 0⟩, ⟨_, k0_off7_inb i 0⟩, ⟨_, k0_off8_inb i 0⟩]
    ![⟨_, k0_off4_inb i 1⟩, ⟨_, k0_off6_inb i 1⟩, ⟨_, k0_off7_inb i 1⟩, ⟨_, k0_off8_inb i 1⟩]
    (negV, zeroV, negV, zeroV, negV, zeroV, negV, zeroV, c0, c1)
  let e ← Scf.Loop.for (k0_t1_loop i) (k0_t1_ok i) e (fun k e => (do
        let e ← ringM arg3 arg4 arg6 arg7 arg8 arg9 (qV qb0) (qV qb1) (qV qb2) (qV qb3) onesV ⟨_, k0_off9_inb i k 0⟩ ⟨_, k0_off11_inb i k 0⟩ ⟨_, k0_off13_inb i k 0⟩ ⟨_, k0_off15_inb i k 0⟩
          ![⟨_, k0_off10_inb i k 0 0⟩, ⟨_, k0_off12_inb i k 0 0⟩, ⟨_, k0_off14_inb i k 0 0⟩, ⟨_, k0_off16_inb i k 0 0⟩] ![⟨_, k0_off10_inb i k 0 1⟩, ⟨_, k0_off12_inb i k 0 1⟩, ⟨_, k0_off14_inb i k 0 1⟩, ⟨_, k0_off16_inb i k 0 1⟩] e
        let e ← ringM arg3 arg4 arg6 arg7 arg8 arg9 (qV qb0) (qV qb1) (qV qb2) (qV qb3) onesV ⟨_, k0_off9_inb i k 1⟩ ⟨_, k0_off11_inb i k 1⟩ ⟨_, k0_off13_inb i k 1⟩ ⟨_, k0_off15_inb i k 1⟩
          ![⟨_, k0_off10_inb i k 1 0⟩, ⟨_, k0_off12_inb i k 1 0⟩, ⟨_, k0_off14_inb i k 1 0⟩, ⟨_, k0_off16_inb i k 1 0⟩] ![⟨_, k0_off10_inb i k 1 1⟩, ⟨_, k0_off12_inb i k 1 1⟩, ⟨_, k0_off14_inb i k 1 1⟩, ⟨_, k0_off16_inb i k 1 1⟩] e
        let e ← ringM arg3 arg4 arg6 arg7 arg8 arg9 (qV qb0) (qV qb1) (qV qb2) (qV qb3) onesV ⟨_, k0_off9_inb i k 2⟩ ⟨_, k0_off11_inb i k 2⟩ ⟨_, k0_off13_inb i k 2⟩ ⟨_, k0_off15_inb i k 2⟩
          ![⟨_, k0_off10_inb i k 2 0⟩, ⟨_, k0_off12_inb i k 2 0⟩, ⟨_, k0_off14_inb i k 2 0⟩, ⟨_, k0_off16_inb i k 2 0⟩] ![⟨_, k0_off10_inb i k 2 1⟩, ⟨_, k0_off12_inb i k 2 1⟩, ⟨_, k0_off14_inb i k 2 1⟩, ⟨_, k0_off16_inb i k 2 1⟩] e
        ringM arg3 arg4 arg6 arg7 arg8 arg9 (qV qb0) (qV qb1) (qV qb2) (qV qb3) onesV ⟨_, k0_off9_inb i k 3⟩ ⟨_, k0_off11_inb i k 3⟩ ⟨_, k0_off13_inb i k 3⟩ ⟨_, k0_off15_inb i k 3⟩
          ![⟨_, k0_off10_inb i k 3 0⟩, ⟨_, k0_off12_inb i k 3 0⟩, ⟨_, k0_off14_inb i k 3 0⟩, ⟨_, k0_off16_inb i k 3 0⟩] ![⟨_, k0_off10_inb i k 3 1⟩, ⟨_, k0_off12_inb i k 3 1⟩, ⟨_, k0_off14_inb i k 3 1⟩, ⟨_, k0_off16_inb i k 3 1⟩] e : Pr F (Carry F)))
  let e ← Scf.Loop.for (k0_t3_loop i) (k0_t3_ok i) e (fun k e => ringM arg3 arg4 arg6 arg7 arg8 arg9 (qV qb0) (qV qb1) (qV qb2) (qV qb3) onesV
          ⟨_, k0_off25_inb i k⟩ ⟨_, k0_off27_inb i k⟩ ⟨_, k0_off29_inb i k⟩ ⟨_, k0_off31_inb i k⟩
          ![⟨_, k0_off26_inb i k 0⟩, ⟨_, k0_off28_inb i k 0⟩, ⟨_, k0_off30_inb i k 0⟩, ⟨_, k0_off32_inb i k 0⟩]
          ![⟨_, k0_off26_inb i k 1⟩, ⟨_, k0_off28_inb i k 1⟩, ⟨_, k0_off30_inb i k 1⟩, ⟨_, k0_off32_inb i k 1⟩] e)
  let _ ← Prog.lift (.load arg5 (Rect.unit (s := S512x256) ![0, 0] S512x256.size inb_S512x256_S512x256_0_0).toLoadRect (View.loadsAt_vmem h_S512x256))
  Prog.lift (.store arg5 (Rect.unit (s := S512x256) ![0, 0] S512x256.size inb_S512x256_S512x256_0_0) (k0_pay3 e.2.1 e.2.2.2.1 e.2.2.2.2.2.1 e.2.2.2.2.2.2.2.1) Finset.univ (View.stores_vmem h_S512x256 (harg5.storeExact_slice rfl _ packedbf16_S512x256_S512x256_0_0) (fun _ => rfl)) (.inl rfl))

theorem mla_eq (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) :
    cc0_mla_attention (F := F) i arg2 harg2 arg3 harg3 arg4 harg4 arg5 harg5 arg6 harg6 arg7 harg7 arg8 harg8 arg9 harg9 = mlaM i arg2 harg2 arg3 harg3 arg4 harg4 arg5 harg5 arg6 harg6 arg7 harg7 arg8 harg8 arg9 harg9 := by
  rw [cc0_mla_attention_eq_skeleton]
  have e2 : ∀ hok init body, Scf.Loop.for (E := TpuEff nD τ sig (Elt F) Λ₀ .tc) (k0_t2_loop i) hok (init : Carry F) body = .ret init :=
    fun hok init body => Scf.for_eq_ret _ _ _ hok init body (t2_trips i)
  have e4 : ∀ hok init body, Scf.Loop.for (E := TpuEff nD τ sig (Elt F) Λ₀ .tc) (k0_t4_loop i) hok (init : Carry F) body = .ret init :=
    fun hok init body => Scf.for_eq_ret _ _ _ hok init body (t4_trips i)
  have e1 := @t1_eq F _ _ i arg2 harg2 arg3 harg3 arg4 harg4 arg5 harg5 arg6 harg6 arg7 harg7 arg8 harg8 arg9 harg9
  have e3 := @t3_eq F _ _ i arg2 harg2 arg3 harg3 arg4 harg4 arg5 harg5 arg6 harg6 arg7 harg7 arg8 harg8 arg9 harg9
  have f1 : ∀ arg1 v1 v3 v5 v7 v8 v12 v112 v142 v176 v206 v224 v225 v255 v273 v274 v278, k0_t1_body (F := F) i arg2 harg2 arg3 harg3 arg4 harg4 arg5 harg5 arg6 harg6 arg7 harg7 arg8 harg8 arg9 harg9 arg1 v1 v3 v5 v7 v8 v12 v112 v142 v176 v206 v224 v225 v255 v273 v274 v278 = _ := fun _ _ _ _ _ _ _ _ _ _ _ _ _ _ _ _ _ => funext fun k => funext fun e => e1 _ _ _ _ _ _ _ _ _ _ _ _ _ _ _ _ _ k e
  have f3 : ∀ v1 v3 v5 v7 v8 v12 v313 c1, k0_t3_body (F := F) i arg2 harg2 arg3 harg3 arg4 harg4 arg5 harg5 arg6 harg6 arg7 harg7 arg8 harg8 arg9 harg9 v1 v3 v5 v7 v8 v12 v313 c1 = _ := fun _ _ _ _ _ _ _ _ => funext fun k => funext fun e => e3 _ _ _ _ _ _ _ _ k e
  simp (maxSteps := 10000000) only [cc0_mla_attention_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, e2, e4, f1, f3, mlaM, loadQ, ringD, scoreD, scoreM, updM, loadK, storeM, Prog.lift,
    Prog.pure_eq_ret, Prog.bind_ret, Prog.bind_op, Prog.bind_assoc]
  rfl

end Cert.Mla

end
-- ==== Proof.Flow.lean ====
/-
  The kernel's body at a grid point, run from beginning to end: the four heads' states after the slab on the diagonal and after each
  slab before it (`heads`), and the output block they leave (`outV`). The offsets the body computes in 32-bit words are decided over
  the whole grid.
-/
module

public import proofs.«01_k».proof.Proof.Triple
public import proofs.«01_k».proof.Proof.Body

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The states -/

/-- Block `j` of the keys for a head: rows `512 j …`, columns `128 h …`; tile `2 j + r` of the values for a head. -/
def kO (j : Fin 32) (h : Fin 4) : KOff := ⟨![512 * j.val, 128 * h.val], by revert j h; decide +kernel⟩
def vO (j : Fin 32) (r : Fin 2) (h : Fin 4) : VOff := ⟨![2 * j.val + r.val, 64 * h.val, 0], by revert j r h; decide +kernel⟩
theorem qO (h : Fin 4) : ∀ a, (![0, 128 * h.val] : Fin 2 → ℕ) a + S512x128.size a ≤ S512x512.size a := by revert h; decide +kernel

/-- A head's queries, its scores of slab `j`, and its state after the slab on the diagonal. -/
def qAt (x0 : Vec F S512x512 .bf16) (h : Fin 4) : FVec F S512x128 .bf16 := qV (VecWindow.window x0 ![0, 128 * h.val] S512x128.size (qO h))
def slab (q : Fin 4 → FVec F S512x128 .bf16) (x1 : Vec F S16384x512 .bf16) (h : Fin 4) (j : ℕ) : FVec F S512x512 .f32 := slabV (q h) (kAt x1 (kO (Fin.ofNat 32 j) h))
def diagH (q : Fin 4 → FVec F S512x128 .bf16) (x1 : Vec F S16384x512 .bf16) (x2 : Vec F S64x256x256 .bf16) (d : ℕ) : Heads F := fun h =>
  updV onesV (negV, zeroV) (maskV 0#32 (topV (slab q x1 h d))) (maskV 256#32 (botV (slab q x1 h d))) (vAt x2 (vO (Fin.ofNat 32 d) 0 h)) (vAt x2 (vO (Fin.ofNat 32 d) 1 h))

/-- The heads' states after the slab `d` on the diagonal and the first `n` slabs. -/
def heads (q : Fin 4 → FVec F S512x128 .bf16) (x1 : Vec F S16384x512 .bf16) (x2 : Vec F S64x256x256 .bf16) (d : ℕ) : ℕ → Heads F
  | 0 => diagH q x1 x2 d
  | n + 1 => fun h => updV onesV (heads q x1 x2 d n h) (topV (slab q x1 h n)) (botV (slab q x1 h n)) (vAt x2 (vO (Fin.ofNat 32 n) 0 h)) (vAt x2 (vO (Fin.ofNat 32 n) 1 h))

/-- The block of the result at the grid point of diagonal `d`. -/
def outV (x0 : Vec F S512x512 .bf16) (x1 : Vec F S16384x512 .bf16) (x2 : Vec F S64x256x256 .bf16) (d : ℕ) : Vec F S512x256 .bf16 :=
  k0_pay3 (heads (qAt x0) x1 x2 d d 0).2 (heads (qAt x0) x1 x2 d d 1).2 (heads (qAt x0) x1 x2 d d 2).2 (heads (qAt x0) x1 x2 d d 3).2

/-! ## The offsets, decided over the grid -/

theorem off1_eq : ∀ i : grid0.Coords, k0_off1 i = (kO (Fin.ofNat 32 (i 1).val) 0).1 := by decide +kernel
theorem off2_eq : ∀ i : grid0.Coords, k0_off2 i = (kO (Fin.ofNat 32 (i 1).val) 1).1 := by decide +kernel
theorem off3_eq : ∀ i : grid0.Coords, k0_off3 i = (kO (Fin.ofNat 32 (i 1).val) 2).1 := by decide +kernel
theorem off5_eq : ∀ i : grid0.Coords, k0_off5 i = (kO (Fin.ofNat 32 (i 1).val) 3).1 := by decide +kernel
theorem off4_eq : ∀ (i : grid0.Coords) (r : Fin 2), k0_off4 i (BitVec.ofNat 32 r.val) = (vO (Fin.ofNat 32 (i 1).val) r 0).1 := by decide +kernel
theorem off6_eq : ∀ (i : grid0.Coords) (r : Fin 2), k0_off6 i (BitVec.ofNat 32 r.val) = (vO (Fin.ofNat 32 (i 1).val) r 1).1 := by decide +kernel
theorem off7_eq : ∀ (i : grid0.Coords) (r : Fin 2), k0_off7 i (BitVec.ofNat 32 r.val) = (vO (Fin.ofNat 32 (i 1).val) r 2).1 := by decide +kernel
theorem off8_eq : ∀ (i : grid0.Coords) (r : Fin 2), k0_off8 i (BitVec.ofNat 32 r.val) = (vO (Fin.ofNat 32 (i 1).val) r 3).1 := by decide +kernel
theorem off9_eq : ∀ (i : grid0.Coords) (k : Fin (k0_t1_loop i).trips) (u : Fin 4), k0_off9 i k (BitVec.ofNat 32 u.val) = (kO (Fin.ofNat 32 (4 * k.val + u.val)) 2).1 := by decide +kernel
theorem off11_eq : ∀ (i : grid0.Coords) (k : Fin (k0_t1_loop i).trips) (u : Fin 4), k0_off11 i k (BitVec.ofNat 32 u.val) = (kO (Fin.ofNat 32 (4 * k.val + u.val)) 3).1 := by decide +kernel
theorem off13_eq : ∀ (i : grid0.Coords) (k : Fin (k0_t1_loop i).trips) (u : Fin 4), k0_off13 i k (BitVec.ofNat 32 u.val) = (kO (Fin.ofNat 32 (min (4 * k.val + u.val + 1) ((i 1).val - 1))) 0).1 := by decide +kernel
theorem off15_eq : ∀ (i : grid0.Coords) (k : Fin (k0_t1_loop i).trips) (u : Fin 4), k0_off15 i k (BitVec.ofNat 32 u.val) = (kO (Fin.ofNat 32 (min (4 * k.val + u.val + 1) ((i 1).val - 1))) 1).1 := by decide +kernel
theorem off10_eq : ∀ (i : grid0.Coords) (k : Fin (k0_t1_loop i).trips) (u : Fin 4) (r : Fin 2), k0_off10 i k (BitVec.ofNat 32 u.val) (BitVec.ofNat 32 r.val) = (vO (Fin.ofNat 32 (4 * k.val + u.val)) r 0).1 := by decide +kernel
theorem off12_eq : ∀ (i : grid0.Coords) (k : Fin (k0_t1_loop i).trips) (u : Fin 4) (r : Fin 2), k0_off12 i k (BitVec.ofNat 32 u.val) (BitVec.ofNat 32 r.val) = (vO (Fin.ofNat 32 (4 * k.val + u.val)) r 1).1 := by decide +kernel
theorem off14_eq : ∀ (i : grid0.Coords) (k : Fin (k0_t1_loop i).trips) (u : Fin 4) (r : Fin 2), k0_off14 i k (BitVec.ofNat 32 u.val) (BitVec.ofNat 32 r.val) = (vO (Fin.ofNat 32 (4 * k.val + u.val)) r 2).1 := by decide +kernel
theorem off16_eq : ∀ (i : grid0.Coords) (k : Fin (k0_t1_loop i).trips) (u : Fin 4) (r : Fin 2), k0_off16 i k (BitVec.ofNat 32 u.val) (BitVec.ofNat 32 r.val) = (vO (Fin.ofNat 32 (4 * k.val + u.val)) r 3).1 := by decide +kernel
theorem off25_eq : ∀ (i : grid0.Coords) (k : Fin (k0_t3_loop i).trips), k0_off25 i k = (kO (Fin.ofNat 32 (4 * ((i 1).val / 4) + k.val)) 2).1 := by decide +kernel
theorem off27_eq : ∀ (i : grid0.Coords) (k : Fin (k0_t3_loop i).trips), k0_off27 i k = (kO (Fin.ofNat 32 (4 * ((i 1).val / 4) + k.val)) 3).1 := by decide +kernel
theorem off29_eq : ∀ (i : grid0.Coords) (k : Fin (k0_t3_loop i).trips), k0_off29 i k = (kO (Fin.ofNat 32 (min (4 * ((i 1).val / 4) + k.val + 1) ((i 1).val - 1))) 0).1 := by decide +kernel
theorem off31_eq : ∀ (i : grid0.Coords) (k : Fin (k0_t3_loop i).trips), k0_off31 i k = (kO (Fin.ofNat 32 (min (4 * ((i 1).val / 4) + k.val + 1) ((i 1).val - 1))) 1).1 := by decide +kernel
theorem off26_eq : ∀ (i : grid0.Coords) (k : Fin (k0_t3_loop i).trips) (r : Fin 2), k0_off26 i k (BitVec.ofNat 32 r.val) = (vO (Fin.ofNat 32 (4 * ((i 1).val / 4) + k.val)) r 0).1 := by decide +kernel
theorem off28_eq : ∀ (i : grid0.Coords) (k : Fin (k0_t3_loop i).trips) (r : Fin 2), k0_off28 i k (BitVec.ofNat 32 r.val) = (vO (Fin.ofNat 32 (4 * ((i 1).val / 4) + k.val)) r 1).1 := by decide +kernel
theorem off30_eq : ∀ (i : grid0.Coords) (k : Fin (k0_t3_loop i).trips) (r : Fin 2), k0_off30 i k (BitVec.ofNat 32 r.val) = (vO (Fin.ofNat 32 (4 * ((i 1).val / 4) + k.val)) r 2).1 := by decide +kernel
theorem off32_eq : ∀ (i : grid0.Coords) (k : Fin (k0_t3_loop i).trips) (r : Fin 2), k0_off32 i k (BitVec.ofNat 32 r.val) = (vO (Fin.ofNat 32 (4 * ((i 1).val / 4) + k.val)) r 3).1 := by decide +kernel
theorem t1_trips : ∀ i : grid0.Coords, (k0_t1_loop i).trips = (i 1).val / 4 := by decide +kernel
theorem t3_trips : ∀ i : grid0.Coords, (k0_t3_loop i).trips = (i 1).val % 4 := by decide +kernel

end Cert.Mla

end
-- ==== Proof.Read.lean ====
/- What one slab of keys does to a head's running maximum and accumulator, element by element over the extended
   reals. -/
module

public import proofs.«01_k».proof.Proof.Flow
public import proofs.«01_k».proof.Proof.Online
public import Idealize.ShloMosaic.Lib.Pointwise

@[expose] public section

set_option maxRecDepth 16384

noncomputable section

namespace Cert.Mla

open Cert.KernelIdeal Cert.KernelIdeal.Gen
open Idealize.ShloMosaic

theorem slab_at (q kb : FVec Ideal S512x128 .bf16) (x c : Fin 512) :
    slabV q kb (ix2 x c) = ∑ e : Fin 128, (kb (ix2 x e) : EReal) * q (ix2 c e) := by
  unfold slabV
  pointwise

theorem top_at (s : FVec Ideal S512x512 .f32) (x : Fin 256) (c : Fin 512) :
    topV s (ix2 x c) = s (ix2 ⟨x.val, by omega⟩ c) := by
  unfold topV
  pointwise

theorem bot_at (s : FVec Ideal S512x512 .f32) (x : Fin 256) (c : Fin 512) :
    botV s (ix2 x c) = s (ix2 ⟨256 + x.val, by omega⟩ c) := by
  unfold botV
  pointwise

theorem max_at (s : FVec Ideal S256x512 .f32) (c : Fin 512) :
    maxV s (ix2 0 c) = Finset.univ.sup fun x : Fin 256 => (s (ix2 x c) : EReal) := by
  unfold maxV
  pointwise
  rw [show (4286578688#32 : BitVec 32) = 0xFF800000#32 from rfl, ofBits_lowest]
  rfl

theorem named_mask : (Named.named κ "mask" 0xF149F2CA#32 : Ideal .f32) = (⊥ : EReal) := rfl

theorem mask_at (o : BitVec 32) (s : FVec Ideal S256x512 .f32) (x : Fin 256) (c : Fin 512) (ho : o.toNat ≤ 256) :
    (maskV o s (ix2 x c) : EReal) = if o.toNat + x.val ≤ c.val then s (ix2 x c) else (⊥ : EReal) := by
  unfold maskV
  pointwise
  rw [named_mask]
  have hx := x.isLt
  have hc := c.isLt
  have hs : IntOp.cmpi .sle (IntOp.addi (BitVec.ofNat 32 x.val) o) (BitVec.ofNat 32 c.val)
      = BitVec.ofBool (decide (o.toNat + x.val ≤ c.val)) := by
    unfold IntOp.cmpi IntOp.addi
    congr 1
    rw [Bool.eq_iff_iff]
    simp only [BitVec.sle, decide_eq_true_eq]
    have h1 : (BitVec.ofNat 32 x.val + o).toInt = (o.toNat + x.val : ℕ) := by
      rw [BitVec.toInt_eq_toNat_of_lt] <;> simp [BitVec.toNat_add, BitVec.toNat_ofNat] <;> omega
    have h2 : (BitVec.ofNat 32 c.val).toInt = (c.val : ℕ) := by
      rw [BitVec.toInt_eq_toNat_of_lt] <;> simp [BitVec.toNat_ofNat] <;> omega
    rw [h1, h2]; omega
  rw [hs]
  by_cases h : o.toNat + x.val ≤ c.val <;> simp [h, Scalar.select]

/-- Row `r` of the values under rows of ones. -/
def rowV (v : FVec Ideal S1x64x256 .bf16) (r : Fin 80) (x : Fin 256) : EReal :=
  if h : r.val < 64 then v (ix3 0 ⟨r.val, h⟩ x) else 1

theorem pv_at (mn : FVec Ideal S1x512 .f32) (s : FVec Ideal S256x512 .f32)
    (v : FVec Ideal S1x64x256 .bf16) (r : Fin 80) (c : Fin 512) :
    (pvV onesV mn s v (ix2 r c) : EReal) = ∑ x : Fin 256,
      Ideal.exp2 ((s (ix2 x c) : EReal) - mn (ix2 0 c)) * rowV v r x := by
  unfold pvV onesV
  pointwise
  refine Finset.sum_congr rfl fun x _ => ?_
  rw [mul_comm]
  unfold rowV
  rfl

theorem neg_at (c : Fin 512) : (negV (F := Ideal) (ix2 0 c) : EReal) = ⊥ := rfl
theorem zero_at (r : Fin 80) (c : Fin 512) : (zeroV (F := Ideal) (ix2 r c) : EReal) = 0 := by
  unfold zeroV
  pointwise

/-- A slab's two halves folded in: what is kept of the keys `T` becomes what is kept of those and of the slab's. -/
theorem upd_seen {σ w : ℕ → EReal} (hσ : ∀ t, σ t ≠ ⊤) {T : Finset ℕ} (k : ℕ) (hT : Disjoint T (Finset.Ico k (k + 512)))
    (p : FVec Ideal S1x512 .f32 × FVec Ideal S80x512 .f32) (t b : FVec Ideal S256x512 .f32)
    (vt vb : FVec Ideal S1x64x256 .bf16) (r : Fin 80) (c : Fin 512)
    (h : Seen σ w T (p.1 (ix2 0 c)) (p.2 (ix2 r c)))
    (ht : ∀ x : Fin 256, t (ix2 x c) = σ (k + x.val)) (hb : ∀ x : Fin 256, b (ix2 x c) = σ (k + 256 + x.val))
    (hvt : ∀ x : Fin 256, rowV vt r x = w (k + x.val)) (hvb : ∀ x : Fin 256, rowV vb r x = w (k + 256 + x.val)) :
    Seen σ w (T ∪ Finset.Ico k (k + 512)) ((updV onesV p t b vt vb).1 (ix2 0 c)) ((updV onesV p t b vt vb).2 (ix2 r c)) := by
  have hu : Finset.Ico k (k + 512) = Finset.Ico k (k + 256) ∪ Finset.Ico (k + 256) (k + 256 + 256) :=
    (Finset.Ico_union_Ico_eq_Ico (by omega) (by omega)).symm
  rw [hu, ← Finset.union_assoc]
  rw [hu, Finset.disjoint_union_right] at hT
  refine h.step hσ hT.1 ?_ ?_ ?_
  · rw [Finset.disjoint_union_left]
    exact ⟨hT.2, Finset.Ico_disjoint_Ico_consecutive _ _ _⟩
  · rw [sup_stretch, sup_stretch]
    simp only [← ht, ← hb]
    rw [← max_at, ← max_at]
    rfl
  · rw [sum_stretch, sum_stretch]
    simp only [← ht, ← hb, ← hvt, ← hvb]
    rw [← pv_at, ← pv_at]
    show accV onesV p.1 (maximumf p.1 (colMaxV t b)) p.2 t b vt vb (ix2 r c) = _
    unfold accV
    pointwise
    rfl

end Cert.Mla

end
-- ==== Proof.State.lean ====
/- A head's state after the slab on the diagonal and the first `n` slabs is what is kept of those keys, and the block
   of the result holds the softmax averages. -/
module

public import proofs.«01_k».proof.Proof.Read
public import proofs.«01_k».proof.Proof.Soft

@[expose] public section

set_option maxRecDepth 16384

noncomputable section

namespace Cert.Mla

open Cert.KernelIdeal Cert.KernelIdeal.Gen
open Idealize.ShloMosaic

theorem kAt_at (x1 : FVec Ideal S16384x512 .bf16) (j : Fin 32) (h : Fin 4) (x : Fin 512) (e : Fin 128) :
    kAt (F := Ideal) x1 (kO j h) (ix2 x e) = x1 (ix2 ⟨512 * j.val + x.val, by omega⟩ ⟨128 * h.val + e.val, by omega⟩) := by
  unfold kAt VecWindow.window
  congr 1
  funext a
  fin_cases a
  · exact Fin.ext (show 512 * j.val + 1 * x.val = 512 * j.val + x.val by omega)
  · exact Fin.ext (show 128 * h.val + 1 * e.val = 128 * h.val + e.val by omega)

theorem vAt_at (x2 : FVec Ideal S64x256x256 .bf16) (j : Fin 32) (r : Fin 2) (h : Fin 4) (y : Fin 64) (x : Fin 256) :
    vAt (F := Ideal) x2 (vO j r h) (ix3 0 y x) = x2 (ix3 ⟨2 * j.val + r.val, by omega⟩ ⟨64 * h.val + y.val, by omega⟩ x) := by
  unfold vAt VecWindow.window
  congr 1
  funext a
  fin_cases a
  · exact Fin.ext (show 2 * j.val + r.val + 1 * 0 = 2 * j.val + r.val by omega)
  · exact Fin.ext (show 64 * h.val + 1 * y.val = 64 * h.val + y.val by omega)
  · exact Fin.ext (show 0 + 1 * x.val = x.val by omega)

theorem qAt_at (x0 : FVec Ideal S512x512 .bf16) (h : Fin 4) (c : Fin 512) (e : Fin 128) :
    qAt (F := Ideal) x0 h (ix2 c e) = x0 (ix2 c ⟨128 * h.val + e.val, by omega⟩) := by
  unfold qAt qV VecWindow.window
  pointwise
  congr 1
  funext a
  fin_cases a
  · exact Fin.ext (show 0 + 1 * c.val = c.val by omega)
  · exact Fin.ext (show 128 * h.val + 1 * e.val = 128 * h.val + e.val by omega)

/-- Key `t` scored against query `c` of a head's block, and its value in row `y`. -/
def dotK (x0 : FVec Ideal S512x512 .bf16) (x1 : FVec Ideal S16384x512 .bf16) (h : Fin 4) (c : Fin 512) (t : Fin 16384) : EReal :=
  ∑ e : Fin 128, (x1 (ix2 t ⟨128 * h.val + e.val, by omega⟩) : EReal) * x0 (ix2 c ⟨128 * h.val + e.val, by omega⟩)

def valK (x2 : FVec Ideal S64x256x256 .bf16) (h : Fin 4) (y : Fin 64) (t : Fin 16384) : EReal :=
  x2 (ix3 ⟨t.val / 256, by omega⟩ ⟨64 * h.val + y.val, by omega⟩ ⟨t.val % 256, by omega⟩)

theorem slab_dot (x0 : FVec Ideal S512x512 .bf16) (x1 : FVec Ideal S16384x512 .bf16) (h : Fin 4) (j : ℕ) (hj : j < 32) (x c : Fin 512) :
    slab (F := Ideal) (qAt x0) x1 h j (ix2 x c) = dotK x0 x1 h c ⟨512 * j + x.val, by omega⟩ := by
  unfold slab dotK
  rw [slab_at]
  refine Finset.sum_congr rfl fun e _ => ?_
  rw [kAt_at, qAt_at]
  have : (Fin.ofNat 32 j).val = j := Nat.mod_eq_of_lt hj
  simp only [this]

/-- The values of row `r` of the accumulator over the keys: a value, and ones below. -/
def rowK (x2 : FVec Ideal S64x256x256 .bf16) (h : Fin 4) (r : Fin 80) (t : ℕ) : EReal :=
  if hr : r.val < 64 then (if ht : t < 16384 then valK x2 h ⟨r.val, hr⟩ ⟨t, ht⟩ else 0) else 1

theorem row_key (x2 : FVec Ideal S64x256x256 .bf16) (h : Fin 4) (r : Fin 80) (j : ℕ) (hj : j < 32) (u : Fin 2) (x : Fin 256) :
    rowV (vAt (F := Ideal) x2 (vO (Fin.ofNat 32 j) u h)) r x = rowK x2 h r (512 * j + 256 * u.val + x.val) := by
  have hjv : (Fin.ofNat 32 j).val = j := Nat.mod_eq_of_lt hj
  unfold rowV rowK
  split
  · rw [dif_pos (by omega), vAt_at]
    unfold valK
    congr 2
    · apply Fin.ext; simp only [hjv]; omega
    · apply Fin.ext; simp only; omega
  · rfl

theorem heads_seen (x0 : FVec Ideal S512x512 .bf16) (x1 : FVec Ideal S16384x512 .bf16) (x2 : FVec Ideal S64x256x256 .bf16)
    (d : ℕ) (hd : d < 32) (h : Fin 4) (c : Fin 512) (ρ : ℕ → ℝ)
    (hρ : ∀ t : Fin 16384, dotK x0 x1 h c t = (ρ t.val : EReal)) (r : Fin 80) (n : ℕ) (hn : n ≤ d) :
    Seen (causal ρ (512 * d + c.val)) (rowK x2 h r) (Finset.Ico (512 * d) (512 * d + 512) ∪ Finset.range (512 * n))
      ((heads (F := Ideal) (qAt x0) x1 x2 d n h).1 (ix2 0 c)) ((heads (F := Ideal) (qAt x0) x1 x2 d n h).2 (ix2 r c)) := by
  induction n with
  | zero =>
    have := upd_seen (σ := causal ρ (512 * d + c.val)) (w := rowK x2 h r) (causal_ne_top _ _) (T := ∅) (512 * d) (by simp)
      (negV, zeroV) (maskV 0#32 (topV (slab (F := Ideal) (qAt x0) x1 h d))) (maskV 256#32 (botV (slab (F := Ideal) (qAt x0) x1 h d)))
      (vAt (F := Ideal) x2 (vO (Fin.ofNat 32 d) 0 h)) (vAt (F := Ideal) x2 (vO (Fin.ofNat 32 d) 1 h)) r c
      (by rw [show ((negV (F := Ideal), zeroV (F := Ideal)).2 (ix2 r c) : EReal) = 0 from zero_at r c]; exact Seen.start _ _)
      (fun x => by
        rw [mask_at _ _ _ _ (by decide), top_at, slab_dot _ _ _ _ hd, hρ]
        unfold causal
        simp only [BitVec.toNat_ofNat]
        by_cases hx : x.val ≤ c.val
        · rw [if_pos (by omega), if_pos (by omega)]
        · rw [if_neg (by omega), if_neg (by omega)])
      (fun x => by
        rw [mask_at _ _ _ _ (by decide), bot_at, slab_dot _ _ _ _ hd, hρ]
        unfold causal
        simp only [BitVec.toNat_ofNat, Nat.add_assoc]
        by_cases hx : 256 + x.val ≤ c.val
        · rw [if_pos (by omega), if_pos (by omega)]
        · rw [if_neg (by omega), if_neg (by omega)])
      (fun x => by rw [row_key _ _ _ _ hd]; rfl) (fun x => by rw [row_key _ _ _ _ hd]; rfl)
    rw [Finset.empty_union] at this
    rw [Nat.mul_zero, Finset.range_zero, Finset.union_empty]
    exact this
  | succ n ih =>
    have := upd_seen (causal_ne_top ρ (512 * d + c.val)) (512 * n) (by
        rw [Finset.disjoint_left]
        intro t ht
        simp only [Finset.mem_union, Finset.mem_Ico, Finset.mem_range] at ht ⊢
        omega) (heads (F := Ideal) (qAt x0) x1 x2 d n h) (topV (slab (F := Ideal) (qAt x0) x1 h n)) (botV (slab (F := Ideal) (qAt x0) x1 h n))
      (vAt (F := Ideal) x2 (vO (Fin.ofNat 32 n) 0 h)) (vAt (F := Ideal) x2 (vO (Fin.ofNat 32 n) 1 h)) r c (ih (by omega))
      (fun x => by
        rw [top_at, slab_dot _ _ _ _ (by omega), hρ]
        unfold causal
        rw [if_pos (by omega)])
      (fun x => by
        rw [bot_at, slab_dot _ _ _ _ (by omega), hρ]
        unfold causal
        simp only [Nat.add_assoc]
        rw [if_pos (by omega)])
      (fun x => by rw [row_key _ _ _ _ (by omega)]; rfl) (fun x => by rw [row_key _ _ _ _ (by omega)]; rfl)
    have hT : Finset.Ico (512 * d) (512 * d + 512) ∪ Finset.range (512 * n) ∪ Finset.Ico (512 * n) (512 * n + 512)
        = Finset.Ico (512 * d) (512 * d + 512) ∪ Finset.range (512 * (n + 1)) := by
      ext t; simp only [Finset.mem_union, Finset.mem_Ico, Finset.mem_range]; omega
    rw [hT] at this
    exact this

/-- A head's result at a query and a row of values: the softmax average over all the keys. -/
theorem heads_average (x0 : FVec Ideal S512x512 .bf16) (x1 : FVec Ideal S16384x512 .bf16) (x2 : FVec Ideal S64x256x256 .bf16)
    (d : ℕ) (hd : d < 32) (h : Fin 4) (c : Fin 512) (ρ : ℕ → ℝ)
    (hρ : ∀ t : Fin 16384, dotK x0 x1 h c t = ((ρ t.val / Real.log 2 : ℝ) : EReal)) (y : Fin 64) :
    Ideal.div ((heads (F := Ideal) (qAt x0) x1 x2 d d h).2 (ix2 ⟨y.val, by omega⟩ c)) ((heads (F := Ideal) (qAt x0) x1 x2 d d h).2 (ix2 64 c))
      = average (causal ρ (512 * d + c.val)) (rowK x2 h ⟨y.val, by omega⟩) 16384 := by
  have hT : Finset.Ico (512 * d) (512 * d + 512) ∪ Finset.range (512 * d) = Finset.range (512 * d + 512) := by
    ext t; simp only [Finset.mem_union, Finset.mem_Ico, Finset.mem_range]; omega
  have ha := heads_seen x0 x1 x2 d hd h c (fun t => ρ t / Real.log 2) hρ ⟨y.val, by omega⟩ d le_rfl
  have hl := heads_seen x0 x1 x2 d hd h c (fun t => ρ t / Real.log 2) hρ 64 d le_rfl
  rw [hT] at ha hl
  exact Seen.quotient (fun t => rfl) (by omega) (by omega) ha hl

/-- The block of the result, element by element: head `h`'s columns. -/
theorem out_at (x0 : FVec Ideal S512x512 .bf16) (x1 : FVec Ideal S16384x512 .bf16) (x2 : FVec Ideal S64x256x256 .bf16)
    (d : ℕ) (c : Fin 512) (h : Fin 4) (y : Fin 64) :
    outV (F := Ideal) x0 x1 x2 d (ix2 c ⟨64 * h.val + y.val, by omega⟩)
      = Ideal.div ((heads (F := Ideal) (qAt x0) x1 x2 d d h).2 (ix2 ⟨y.val, by omega⟩ c)) ((heads (F := Ideal) (qAt x0) x1 x2 d d h).2 (ix2 64 c)) := by
  unfold outV
  generalize heads (F := Ideal) (qAt x0) x1 x2 d d = H
  have hy := y.isLt
  pointwise [k0_pay3]
  fin_cases h
  · simp
  · simp
  · have e : 128 + y.val - 64 - 64 = y.val := by omega
    simp
    rw [dif_neg (by omega), dif_neg (by omega), dif_pos (by omega)]
    simp only [e]
  · have e : 192 + y.val - 64 - 64 - 64 = y.val := by omega
    simp
    rw [dif_neg (by omega), dif_neg (by omega), dif_neg (by omega)]
    simp only [e]

end Cert.Mla

end
-- ==== Proof.RunBody.lean ====
/-
  The kernel's body, run: each loop keeps `Inv`, the heads' states after the slabs so far with the next slab of heads 0 and 1 already
  scored. At the end the output buffer holds `outV`.
-/
module

public import proofs.«01_k».proof.Proof.Flow
public import Idealize.ShloMosaic.Lib.Scf

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (E : Set ℕ)

local notation "WP" => wp frame (wpE (defs₀ (F := F)) Variants.none c none) E

/-- After `j` slabs before the diagonal `d`. -/
def Inv (kr : KRef) (vr : VRef) (s0 s1 s2 s3 : Scr) (q : Fin 4 → FVec F S512x128 .bf16) (x1 : Vec F S16384x512 .bf16) (x2 : Vec F S64x256x256 .bf16) (d j : ℕ) (e : Carry F) : sProp 𝕄 :=
  iprop(⌜e = pack (heads q x1 x2 d j) (colMaxV (topV (slab q x1 0 (min j (d - 1)))) (botV (slab q x1 0 (min j (d - 1))))) (colMaxV (topV (slab q x1 1 (min j (d - 1)))) (botV (slab q x1 1 (min j (d - 1)))))⌝
    ∗ owns (c : Thread nD τ) kr fullShare x1 ∗ owns (c : Thread nD τ) vr fullShare x2 ∗ Held c s0 (topV (slab q x1 0 (min j (d - 1)))) (botV (slab q x1 0 (min j (d - 1)))) ∗ Held c s1 (topV (slab q x1 1 (min j (d - 1)))) (botV (slab q x1 1 (min j (d - 1)))) ∗ Any c s2 ∗ Any c s3)

/-- One slab more. -/
theorem ring_step (kr : KRef) (hk : kr.IsWhole) (vr : VRef) (hv : vr.IsWhole) (s0 : Scr) (h0 : s0.IsWhole) (s1 : Scr) (h1 : s1.IsWhole) (s2 : Scr) (h2 : s2.IsWhole) (s3 : Scr) (h3 : s3.IsWhole) (q : Fin 4 → FVec F S512x128 .bf16) (x1 : Vec F S16384x512 .bf16) (x2 : Vec F S64x256x256 .bf16)
    (d j : ℕ) (hj : j < d) (k2 k3 k0 k1 : KOff) (va vb : Fin 4 → VOff) (e2 : k2 = kO (Fin.ofNat 32 j) 2) (e3 : k3 = kO (Fin.ofNat 32 j) 3)
    (e0 : k0 = kO (Fin.ofNat 32 (min (j + 1) (d - 1))) 0) (e1 : k1 = kO (Fin.ofNat 32 (min (j + 1) (d - 1))) 1)
    (ea : va = fun h => vO (Fin.ofNat 32 j) 0 h) (eb : vb = fun h => vO (Fin.ofNat 32 j) 1 h) (e : Carry F) :
    Inv c kr vr s0 s1 s2 s3 q x1 x2 d j e
      ⊢ WP (ringM kr vr s0 s1 s2 s3 (q 0) (q 1) (q 2) (q 3) onesV k2 k3 k0 k1 va vb e) (Inv c kr vr s0 s1 s2 s3 q x1 x2 d (j + 1)) := by
  subst e2 e3 e0 e1 ea eb
  unfold Inv
  rw [show min j (d - 1) = j by omega]
  iintro ⟨%he, H1, H2, B0, B1, B2, B3⟩
  subst he
  iapply (ringM_wp c E kr hk vr hv s0 h0 s1 h1 s2 h2 s3 h3 q onesV _ _ _ _ _ _ (heads q x1 x2 d j) _ _ _ _ x1 x2 _)
  isplitl [H1]; · iexact H1
  isplitl [H2]; · iexact H2
  isplitl [B0]; · iexact B0
  isplitl [B1]; · iexact B1
  isplitl [B2]; · iexact B2
  isplitl [B3]; · iexact B3
  iintro ⟨H1, H2, B0, B1, B2, B3⟩
  isplitr
  · ipureintro
    have hp : ∀ p p' : Heads F, p = p' → ∀ c0 c1, pack p c0 c1 = pack p' c0 c1 := fun _ _ h _ _ => h ▸ rfl
    refine hp _ _ (funext fun h => ?_) _ _
    fin_cases h <;> rfl
  isplitl [H1]; · iexact H1
  isplitl [H2]; · iexact H2
  isplitl [B0]; · iexact B0
  isplitl [B1]; · iexact B1
  isplitl [B2]; · iexact B2
  iexact B3

theorem loadQ_wp (qr : Memref sig .tc .vmem S512x512 .bf16) (o : Fin 2 → ℕ) (h : ∀ a, o a + S512x128.size a ≤ S512x512.size a) (x0 : Vec F S512x512 .bf16)
    (K : Vec F S512x128 .bf16 → sProp 𝕄) :
    iprop(owns (c : Thread nD τ) qr fullShare x0 ∗ (owns (c : Thread nD τ) qr fullShare x0 -∗ K (VecWindow.window x0 o S512x128.size h))) ⊢ WP (loadQ qr o h) K := by
  unfold loadQ owns
  iintro ⟨⟨%f0, %hf0, H0⟩, Hk⟩
  sl_exec
  sl_step
  rw [View.readAt_unit qr.view _ _ rfl h, hf0]
  iapply Hk
  iexists _; isplitr; · ipureintro; exact hf0
  iexact H0

/-- The output block, stored whole. -/
theorem storeO_wp (arg5 : Memref sig .tc .vmem S512x256 .bf16) (harg5 : arg5.IsWhole) (w : FVec F S512x256 .bf16) (K : PUnit → sProp 𝕄) :
    iprop((∃ d, owns (c : Thread nD τ) arg5 fullShare d) ∗ (owns (c : Thread nD τ) arg5 fullShare w -∗ K ⟨⟩)) ⊢ WP (do
      let _ ← Prog.lift (.load arg5 (Rect.unit (s := S512x256) ![0, 0] S512x256.size inb_S512x256_S512x256_0_0).toLoadRect (View.loadsAt_vmem h_S512x256))
      Prog.lift (.store arg5 (Rect.unit (s := S512x256) ![0, 0] S512x256.size inb_S512x256_S512x256_0_0) w Finset.univ (View.stores_vmem h_S512x256 (harg5.storeExact_slice rfl _ packedbf16_S512x256_S512x256_0_0) (fun _ => rfl)) (.inl rfl))) K := by
  unfold owns
  iintro ⟨⟨%d, %f0, -, H0⟩, Hk⟩
  sl_exec
  sl_step
  iapply Hk
  iexists _; isplitr
  swap; · iexact H0
  ipureintro
  exact View.read_writes_full arg5.view f0 (off := ![0, 0]) inb_S512x256_S512x256_0_0 w []

/-- A slab of the first loop. -/
theorem ring1_step (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (x0 : Vec F S512x512 .bf16) (x1 : Vec F S16384x512 .bf16) (x2 : Vec F S64x256x256 .bf16) (q : Fin 4 → FVec F S512x128 .bf16) (k : Fin (k0_t1_loop i).trips) (u : Fin 4) (e : Carry F) :
    Inv c arg3 arg4 arg6 arg7 arg8 arg9 q x1 x2 (i 1).val (4 * k.val + u.val) e
      ⊢ WP (ringM arg3 arg4 arg6 arg7 arg8 arg9 (q 0) (q 1) (q 2) (q 3) onesV ⟨_, k0_off9_inb i k u⟩ ⟨_, k0_off11_inb i k u⟩ ⟨_, k0_off13_inb i k u⟩ ⟨_, k0_off15_inb i k u⟩
        ![⟨_, k0_off10_inb i k u 0⟩, ⟨_, k0_off12_inb i k u 0⟩, ⟨_, k0_off14_inb i k u 0⟩, ⟨_, k0_off16_inb i k u 0⟩] ![⟨_, k0_off10_inb i k u 1⟩, ⟨_, k0_off12_inb i k u 1⟩, ⟨_, k0_off14_inb i k u 1⟩, ⟨_, k0_off16_inb i k u 1⟩] e) (Inv c arg3 arg4 arg6 arg7 arg8 arg9 q x1 x2 (i 1).val (4 * k.val + u.val + 1)) := by
  have hk : k.val < (i 1).val / 4 := by rw [← t1_trips i]; exact k.isLt
  have hu := u.isLt
  exact ring_step c E arg3 harg3 arg4 harg4 arg6 harg6 arg7 harg7 arg8 harg8 arg9 harg9 q x1 x2 (i 1).val (4 * k.val + u.val) (by omega) _ _ _ _ _ _
      (Subtype.ext (off9_eq i k u)) (Subtype.ext (off11_eq i k u)) (Subtype.ext (off13_eq i k u)) (Subtype.ext (off15_eq i k u))
      (funext fun h => by fin_cases h; exacts [Subtype.ext (off10_eq i k u 0), Subtype.ext (off12_eq i k u 0), Subtype.ext (off14_eq i k u 0), Subtype.ext (off16_eq i k u 0)])
      (funext fun h => by fin_cases h; exacts [Subtype.ext (off10_eq i k u 1), Subtype.ext (off12_eq i k u 1), Subtype.ext (off14_eq i k u 1), Subtype.ext (off16_eq i k u 1)]) e

/-- The first loop, four slabs to a trip. -/
theorem loop1_wp (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (x0 : Vec F S512x512 .bf16) (x1 : Vec F S16384x512 .bf16) (x2 : Vec F S64x256x256 .bf16) (q : Fin 4 → FVec F S512x128 .bf16) (e : Carry F) (K : Carry F → sProp 𝕄) :
    iprop(Inv c arg3 arg4 arg6 arg7 arg8 arg9 q x1 x2 (i 1).val (0) e ∗ (∀ e', Inv c arg3 arg4 arg6 arg7 arg8 arg9 q x1 x2 (i 1).val (4 * ((i 1).val / 4)) e' -∗ K e')) ⊢ WP (Scf.Loop.for (k0_t1_loop i) (k0_t1_ok i) e (fun k e => (do
        let e ← ringM arg3 arg4 arg6 arg7 arg8 arg9 (q 0) (q 1) (q 2) (q 3) onesV ⟨_, k0_off9_inb i k 0⟩ ⟨_, k0_off11_inb i k 0⟩ ⟨_, k0_off13_inb i k 0⟩ ⟨_, k0_off15_inb i k 0⟩
          ![⟨_, k0_off10_inb i k 0 0⟩, ⟨_, k0_off12_inb i k 0 0⟩, ⟨_, k0_off14_inb i k 0 0⟩, ⟨_, k0_off16_inb i k 0 0⟩] ![⟨_, k0_off10_inb i k 0 1⟩, ⟨_, k0_off12_inb i k 0 1⟩, ⟨_, k0_off14_inb i k 0 1⟩, ⟨_, k0_off16_inb i k 0 1⟩] e
        let e ← ringM arg3 arg4 arg6 arg7 arg8 arg9 (q 0) (q 1) (q 2) (q 3) onesV ⟨_, k0_off9_inb i k 1⟩ ⟨_, k0_off11_inb i k 1⟩ ⟨_, k0_off13_inb i k 1⟩ ⟨_, k0_off15_inb i k 1⟩
          ![⟨_, k0_off10_inb i k 1 0⟩, ⟨_, k0_off12_inb i k 1 0⟩, ⟨_, k0_off14_inb i k 1 0⟩, ⟨_, k0_off16_inb i k 1 0⟩] ![⟨_, k0_off10_inb i k 1 1⟩, ⟨_, k0_off12_inb i k 1 1⟩, ⟨_, k0_off14_inb i k 1 1⟩, ⟨_, k0_off16_inb i k 1 1⟩] e
        let e ← ringM arg3 arg4 arg6 arg7 arg8 arg9 (q 0) (q 1) (q 2) (q 3) onesV ⟨_, k0_off9_inb i k 2⟩ ⟨_, k0_off11_inb i k 2⟩ ⟨_, k0_off13_inb i k 2⟩ ⟨_, k0_off15_inb i k 2⟩
          ![⟨_, k0_off10_inb i k 2 0⟩, ⟨_, k0_off12_inb i k 2 0⟩, ⟨_, k0_off14_inb i k 2 0⟩, ⟨_, k0_off16_inb i k 2 0⟩] ![⟨_, k0_off10_inb i k 2 1⟩, ⟨_, k0_off12_inb i k 2 1⟩, ⟨_, k0_off14_inb i k 2 1⟩, ⟨_, k0_off16_inb i k 2 1⟩] e
        ringM arg3 arg4 arg6 arg7 arg8 arg9 (q 0) (q 1) (q 2) (q 3) onesV ⟨_, k0_off9_inb i k 3⟩ ⟨_, k0_off11_inb i k 3⟩ ⟨_, k0_off13_inb i k 3⟩ ⟨_, k0_off15_inb i k 3⟩
          ![⟨_, k0_off10_inb i k 3 0⟩, ⟨_, k0_off12_inb i k 3 0⟩, ⟨_, k0_off14_inb i k 3 0⟩, ⟨_, k0_off16_inb i k 3 0⟩] ![⟨_, k0_off10_inb i k 3 1⟩, ⟨_, k0_off12_inb i k 3 1⟩, ⟨_, k0_off14_inb i k 3 1⟩, ⟨_, k0_off16_inb i k 3 1⟩] e : Pr F (Carry F)))) K := by
  rw [← t1_trips i]
  refine Scf.wp_for _ _ _ _ _ _ _ _ _ (fun n e => Inv c arg3 arg4 arg6 arg7 arg8 arg9 q x1 x2 (i 1).val (4 * n) e) (fun k e => ?_)
  have hk : k.val < (i 1).val / 4 := by rw [← t1_trips i]; exact k.isLt
  have hd : 4 * k.val + 3 < (i 1).val := by omega
  rw [wp_bind]
  refine (ring1_step c E i arg2 harg2 arg3 harg3 arg4 harg4 arg5 harg5 arg6 harg6 arg7 harg7 arg8 harg8 arg9 harg9 x0 x1 x2 q k 0 _).trans (wp_mono _ _ _ fun e => ?_)
  rw [wp_bind]
  refine (ring1_step c E i arg2 harg2 arg3 harg3 arg4 harg4 arg5 harg5 arg6 harg6 arg7 harg7 arg8 harg8 arg9 harg9 x0 x1 x2 q k 1 _).trans (wp_mono _ _ _ fun e => ?_)
  rw [wp_bind]
  refine (ring1_step c E i arg2 harg2 arg3 harg3 arg4 harg4 arg5 harg5 arg6 harg6 arg7 harg7 arg8 harg8 arg9 harg9 x0 x1 x2 q k 2 _).trans (wp_mono _ _ _ fun e => ?_)
  exact (ring1_step c E i arg2 harg2 arg3 harg3 arg4 harg4 arg5 harg5 arg6 harg6 arg7 harg7 arg8 harg8 arg9 harg9 x0 x1 x2 q k 3 _)

/-- The second loop, the rest of the slabs one by one. -/
theorem loop3_wp (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (x0 : Vec F S512x512 .bf16) (x1 : Vec F S16384x512 .bf16) (x2 : Vec F S64x256x256 .bf16) (q : Fin 4 → FVec F S512x128 .bf16) (e : Carry F) (K : Carry F → sProp 𝕄) :
    iprop(Inv c arg3 arg4 arg6 arg7 arg8 arg9 q x1 x2 (i 1).val (4 * ((i 1).val / 4)) e ∗ (∀ e', Inv c arg3 arg4 arg6 arg7 arg8 arg9 q x1 x2 (i 1).val ((i 1).val) e' -∗ K e')) ⊢ WP (Scf.Loop.for (k0_t3_loop i) (k0_t3_ok i) e (fun k e => ringM arg3 arg4 arg6 arg7 arg8 arg9 (q 0) (q 1) (q 2) (q 3) onesV
          ⟨_, k0_off25_inb i k⟩ ⟨_, k0_off27_inb i k⟩ ⟨_, k0_off29_inb i k⟩ ⟨_, k0_off31_inb i k⟩
          ![⟨_, k0_off26_inb i k 0⟩, ⟨_, k0_off28_inb i k 0⟩, ⟨_, k0_off30_inb i k 0⟩, ⟨_, k0_off32_inb i k 0⟩]
          ![⟨_, k0_off26_inb i k 1⟩, ⟨_, k0_off28_inb i k 1⟩, ⟨_, k0_off30_inb i k 1⟩, ⟨_, k0_off32_inb i k 1⟩] e)) K := by
  have hN : 4 * ((i 1).val / 4) + (k0_t3_loop i).trips = (i 1).val := by rw [t3_trips i]; omega
  have h := Scf.wp_for frame (wpE (defs₀ (F := F)) Variants.none c none) E _ _ _ (k0_t3_ok i) e (fun k e => ringM arg3 arg4 arg6 arg7 arg8 arg9 (q 0) (q 1) (q 2) (q 3) onesV
          ⟨_, k0_off25_inb i k⟩ ⟨_, k0_off27_inb i k⟩ ⟨_, k0_off29_inb i k⟩ ⟨_, k0_off31_inb i k⟩
          ![⟨_, k0_off26_inb i k 0⟩, ⟨_, k0_off28_inb i k 0⟩, ⟨_, k0_off30_inb i k 0⟩, ⟨_, k0_off32_inb i k 0⟩]
          ![⟨_, k0_off26_inb i k 1⟩, ⟨_, k0_off28_inb i k 1⟩, ⟨_, k0_off30_inb i k 1⟩, ⟨_, k0_off32_inb i k 1⟩] e)
    (fun n e => Inv c arg3 arg4 arg6 arg7 arg8 arg9 q x1 x2 (i 1).val (4 * ((i 1).val / 4) + n) e) (fun k e => ?_) (Q := K)
  · rw [Nat.add_zero] at h
    conv at h => enter [1, 2, 1, e', 1]; rw [hN]
    exact h
  have hk : k.val < (i 1).val % 4 := by rw [← t3_trips i]; exact k.isLt
  exact (ring_step c E arg3 harg3 arg4 harg4 arg6 harg6 arg7 harg7 arg8 harg8 arg9 harg9 q x1 x2 (i 1).val (4 * ((i 1).val / 4) + k.val) (by omega) _ _ _ _ _ _
      (Subtype.ext (off25_eq i k)) (Subtype.ext (off27_eq i k)) (Subtype.ext (off29_eq i k)) (Subtype.ext (off31_eq i k))
      (funext fun h => by fin_cases h; exacts [Subtype.ext (off26_eq i k 0), Subtype.ext (off28_eq i k 0), Subtype.ext (off30_eq i k 0), Subtype.ext (off32_eq i k 0)])
      (funext fun h => by fin_cases h; exacts [Subtype.ext (off26_eq i k 1), Subtype.ext (off28_eq i k 1), Subtype.ext (off30_eq i k 1), Subtype.ext (off32_eq i k 1)]) _)

/-- The body, from whole buffers with the inputs in them to the output block in its buffer. -/
theorem body_wp (i : grid0.Coords) (arg2 : Memref sig .tc .vmem S512x512 .bf16) (harg2 : arg2.IsWhole) (arg3 : Memref sig .tc .vmem S16384x512 .bf16) (harg3 : arg3.IsWhole) (arg4 : Memref sig .tc .vmem S64x256x256 .bf16) (harg4 : arg4.IsWhole) (arg5 : Memref sig .tc .vmem S512x256 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole)
    (x0 : Vec F S512x512 .bf16) (x1 : Vec F S16384x512 .bf16) (x2 : Vec F S64x256x256 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ Any c arg6 ∗ Any c arg7 ∗ Any c arg8 ∗ Any c arg9 ∗
        (iprop(owns (c : Thread nD τ) arg2 fullShare x0 ∗ owns (c : Thread nD τ) arg3 fullShare x1 ∗ owns (c : Thread nD τ) arg4 fullShare x2 ∗ owns (c : Thread nD τ) arg5 fullShare (outV x0 x1 x2 (i 1).val) ∗ Any c arg6 ∗ Any c arg7 ∗ Any c arg8 ∗ Any c arg9) -∗ K ⟨⟩))
      ⊢ WP (cc0_mla_attention i arg2 harg2 arg3 harg3 arg4 harg4 arg5 harg5 arg6 harg6 arg7 harg7 arg8 harg8 arg9 harg9) K := by
  rw [mla_eq]; unfold mlaM
  iintro ⟨H0, H1, H2, H5, B0, B1, B2, B3, Hk⟩
  rw [wp_bind]
  iapply (loadQ_wp c E arg2 _ _ x0 _)
  isplitl [H0]; · iexact H0
  iintro H0
  rw [wp_bind]
  iapply (loadQ_wp c E arg2 _ _ x0 _)
  isplitl [H0]; · iexact H0
  iintro H0
  rw [wp_bind]
  iapply (loadQ_wp c E arg2 _ _ x0 _)
  isplitl [H0]; · iexact H0
  iintro H0
  rw [wp_bind]
  iapply (loadQ_wp c E arg2 _ _ x0 _)
  isplitl [H0]; · iexact H0
  iintro H0
  rw [wp_bind, show (⟨_, k0_off1_inb i⟩ : KOff) = kO (Fin.ofNat 32 (i 1).val) 0 from Subtype.ext (off1_eq i)]
  iapply (scoreD_wp c E arg3 harg3 arg6 harg6 _ (qAt x0 0) x1 _)
  isplitl [H1]; · iexact H1
  isplitl [B0]; · iexact B0
  iintro ⟨H1, B0⟩
  rw [wp_bind, show (⟨_, k0_off2_inb i⟩ : KOff) = kO (Fin.ofNat 32 (i 1).val) 1 from Subtype.ext (off2_eq i)]
  iapply (scoreD_wp c E arg3 harg3 arg7 harg7 _ (qAt x0 1) x1 _)
  isplitl [H1]; · iexact H1
  isplitl [B1]; · iexact B1
  iintro ⟨H1, B1⟩
  rw [wp_bind, show (⟨_, k0_off3_inb i⟩ : KOff) = kO (Fin.ofNat 32 (i 1).val) 2 from Subtype.ext (off3_eq i),
    show (⟨_, k0_off5_inb i⟩ : KOff) = kO (Fin.ofNat 32 (i 1).val) 3 from Subtype.ext (off5_eq i),
    show (⟨_, inb_S16384x512_S512x128_0_0⟩ : KOff) = kO (Fin.ofNat 32 (min 0 ((i 1).val - 1))) 0 by rw [Nat.zero_min]; rfl,
    show (⟨_, inb_S16384x512_S512x128_0_128⟩ : KOff) = kO (Fin.ofNat 32 (min 0 ((i 1).val - 1))) 1 by rw [Nat.zero_min]; rfl,
    show (![⟨_, k0_off4_inb i 0⟩, ⟨_, k0_off6_inb i 0⟩, ⟨_, k0_off7_inb i 0⟩, ⟨_, k0_off8_inb i 0⟩] : Fin 4 → VOff)
      = fun h => vO (Fin.ofNat 32 (i 1).val) 0 h from (funext fun h => by fin_cases h; exacts [Subtype.ext (off4_eq i 0), Subtype.ext (off6_eq i 0), Subtype.ext (off7_eq i 0), Subtype.ext (off8_eq i 0)]),
    show (![⟨_, k0_off4_inb i 1⟩, ⟨_, k0_off6_inb i 1⟩, ⟨_, k0_off7_inb i 1⟩, ⟨_, k0_off8_inb i 1⟩] : Fin 4 → VOff)
      = fun h => vO (Fin.ofNat 32 (i 1).val) 1 h from (funext fun h => by fin_cases h; exacts [Subtype.ext (off4_eq i 1), Subtype.ext (off6_eq i 1), Subtype.ext (off7_eq i 1), Subtype.ext (off8_eq i 1)])]
  iapply (ringD_wp c E arg3 harg3 arg4 harg4 arg6 harg6 arg7 harg7 arg8 harg8 arg9 harg9 (qAt x0) onesV _ _ _ _ _ _ (fun _ => (negV, zeroV)) _ _ _ _ x1 x2 _)
  isplitl [H1]; · iexact H1
  isplitl [H2]; · iexact H2
  isplitl [B0]; · iexact B0
  isplitl [B1]; · iexact B1
  isplitl [B2]; · iexact B2
  isplitl [B3]; · iexact B3
  iintro ⟨H1, H2, B0, B1, B2, B3⟩
  rw [wp_bind]
  iapply (loop1_wp c E i arg2 harg2 arg3 harg3 arg4 harg4 arg5 harg5 arg6 harg6 arg7 harg7 arg8 harg8 arg9 harg9 x0 x1 x2 (qAt x0) _ _)
  isplitl [H1 H2 B0 B1 B2 B3]
  · unfold Inv
    isplitr
    · ipureintro
      have hp : ∀ p p' : Heads F, p = p' → ∀ c0 c1, pack p c0 c1 = pack p' c0 c1 := fun _ _ h _ _ => h ▸ rfl
      refine hp _ _ (funext fun h => ?_) _ _
      fin_cases h <;> rfl
    isplitl [H1]; · iexact H1
    isplitl [H2]; · iexact H2
    isplitl [B0]; · iexact B0
    isplitl [B1]; · iexact B1
    isplitl [B2]; · iexact B2
    iexact B3
  iintro %e HI
  rw [wp_bind]
  iapply (loop3_wp c E i arg2 harg2 arg3 harg3 arg4 harg4 arg5 harg5 arg6 harg6 arg7 harg7 arg8 harg8 arg9 harg9 x0 x1 x2 (qAt x0) _ _)
  isplitl [HI]; · iexact HI
  iintro %e' HI
  unfold Inv
  icases HI with ⟨%he, H1, H2, B0, B1, B2, B3⟩
  subst he
  iapply (storeO_wp c E arg5 harg5 _ _)
  isplitl [H5]; · iexact H5
  iintro H5
  iapply Hk
  isplitl [H0]; · iexact H0
  isplitl [H1]; · iexact H1
  isplitl [H2]; · iexact H2
  isplitl [H5]; · iexact H5
  isplitl [B0]; · iapply (Held.any c arg6 _ _); iexact B0
  isplitl [B1]; · iapply (Held.any c arg7 _ _); iexact B1
  isplitl [B2]; · iexact B2
  iexact B3

end Cert.Mla

end
-- ==== Proof.MlaRun.lean ====
/-
  The launch: at every grid point the body finds the point's blocks in its buffers and leaves the block `outV` of the result. So the
  array of results, block by block, is `outV` of the blocks the host prepared.
-/
module

public import proofs.«01_k».proof.Proof.RunBody
public import proofs.«01_k».proof.Proof.Gen.KernelIdeal.Frame.Runs
public import Idealize.ShloMosaic.Lib.Pipeline.Value

@[expose] public section

set_option maxRecDepth 16384

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves at a grid point. -/
def blockV (c : Dev nD) (t : Fin cfg0.N) : Vec F S512x256 .bf16 := outV (iblk m c 0 t) (iblk m c 1 t) (iblk m c 2 t) (grid0.coords t 1).val

/-- The pipeline's data: each input's buffer keeps its block, the output's ends with `blockV`. -/
def mlaDat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockV m c t
  Φ _ := Pipeline.ΦA spec0 c
  q _ := fullShare
  owed _ := 0

theorem mlaDat_A (c : Dev nD) (w : Fin cfg0.W) : (mlaDat m 0 c).A w = V m c (Pipeline.arrRef spec0 w) := by dsimp only [mlaDat]
theorem mlaDat_after0 (c : Dev nD) (t : Fin cfg0.N) : (mlaDat m 0 c).after 0 t = iblk m c 0 t := by dsimp only [mlaDat]
theorem mlaDat_after1 (c : Dev nD) (t : Fin cfg0.N) : (mlaDat m 0 c).after 1 t = iblk m c 1 t := by dsimp only [mlaDat]
theorem mlaDat_after2 (c : Dev nD) (t : Fin cfg0.N) : (mlaDat m 0 c).after 2 t = iblk m c 2 t := by dsimp only [mlaDat]
theorem mlaDat_after3 (c : Dev nD) (t : Fin cfg0.N) : (mlaDat m 0 c).after 3 t = blockV m c t := by dsimp only [mlaDat]
theorem mlaDat_before0 (c : Dev nD) (t : Fin cfg0.N) (d) : (mlaDat m 0 c).before 0 t d = iblk m c 0 t := before0_0_of m (mlaDat m 0 c) (mlaDat_A m c 0) (mlaDat_after0 m c) t d
theorem mlaDat_before1 (c : Dev nD) (t : Fin cfg0.N) (d) : (mlaDat m 0 c).before 1 t d = iblk m c 1 t := before0_1_of m (mlaDat m 0 c) (mlaDat_A m c 1) (mlaDat_after1 m c) t d
theorem mlaDat_before2 (c : Dev nD) (t : Fin cfg0.N) (d) : (mlaDat m 0 c).before 2 t d = iblk m c 2 t := before0_2_of m (mlaDat m 0 c) (mlaDat_A m c 2) (mlaDat_after2 m c) t d

def pre (c : Dev nD) (t : Fin cfg0.N) : sProp 𝕄 :=
  iprop((mlaDat m 0 c).Φ t.castSucc ∗ (mlaDat m 0 c).owesAt () t.castSucc
    ∗ (∃ d, owns (c : Thread nD τ) (ms0_0 t) fullShare ((mlaDat m 0 c).before 0 t d))
    ∗ (∃ d, owns (c : Thread nD τ) (ms0_1 t) fullShare ((mlaDat m 0 c).before 1 t d))
    ∗ (∃ d, owns (c : Thread nD τ) (ms0_2 t) fullShare ((mlaDat m 0 c).before 2 t d))
    ∗ (∃ d, owns (c : Thread nD τ) (ms0_3 t) fullShare ((mlaDat m 0 c).before 3 t d)))

def post (c : Dev nD) (t : Fin cfg0.N) : sProp 𝕄 :=
  iprop((mlaDat m 0 c).Φ t.succ ∗ (mlaDat m 0 c).owesAt () t.succ
    ∗ owns (c : Thread nD τ) (ms0_0 t) fullShare ((mlaDat m 0 c).after 0 t)
    ∗ owns (c : Thread nD τ) (ms0_1 t) fullShare ((mlaDat m 0 c).after 1 t)
    ∗ owns (c : Thread nD τ) (ms0_2 t) fullShare ((mlaDat m 0 c).after 2 t)
    ∗ owns (c : Thread nD τ) (ms0_3 t) fullShare ((mlaDat m 0 c).after 3 t))

/-- The body at a grid point. -/
theorem point_wp (c : Dev nD) (t : Fin cfg0.N) :
    pre m c t ⊢ wp frame (wpE (defs₀ (F := F)) Variants.none c none) Set.univ (bodyAt0 t) (fun _ => post m c t) := by
  unfold pre post bodyAt0
  simp only [mlaDat_before0, mlaDat_before1, mlaDat_before2]
  rw [show (mlaDat m 0 c).Φ t.succ = Pipeline.ΦA spec0 c from rfl, show (mlaDat m 0 c).Φ t.castSucc = Pipeline.ΦA spec0 c from rfl,
    show (mlaDat m 0 c).owesAt () t.succ = (mlaDat m 0 c).owesAt () t.castSucc from rfl,
    mlaDat_after0, mlaDat_after1, mlaDat_after2, mlaDat_after3, PhiA0_eq]
  iintro ⟨⟨⟨S0, S1, S2, S3⟩, Hg⟩, Ho, ⟨%d0, H0⟩, ⟨%d1, H1⟩, ⟨%d2, H2⟩, ⟨%d3, H3⟩⟩
  iapply (body_wp c Set.univ (grid0.coords t) _ (hs0_0 t) _ (hs0_1 t) _ (hs0_2 t) _ (hs0_3 t) _ (Memref.isWhole_whole _) _ (Memref.isWhole_whole _) _ (Memref.isWhole_whole _) _ (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  unfold Any
  isplitl [S0]; · iexact S0
  isplitl [S1]; · iexact S1
  isplitl [S2]; · iexact S2
  isplitl [S3]; · iexact S3
  iintro ⟨H0, H1, H2, H3, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  iexact H3

theorem mla_row (t : Fin cfg0.N) : defs₀ (F := F) .tc cfg0.body (cfg0.bodyArgs t (cfg0.slots t)) = bodyAt0 t := by
  unfold defs₀; rw [Defs.onTc_tc]

theorem mla_body (c : Dev nD) : BodyObligation (mlaDat (F := F) m 0 c) (defs₀ (F := F)) Variants.none () Set.univ := fun t => by
  rw [bigSep_W0, bigSep_W0, mla_row]
  exact triple_restated (point_wp m c t) rfl .rfl fun _ => .rfl

set_option backward.isDefEq.respectTransparency.types false in
theorem mla_run : θ_run defs (onTc (τ := τ) (main (F := F))) (s₀ m ρ) (fun r => (Pipeline.FramePost cfgs (mlaDat m) 0 (V m)) r ∧ r.2.sem = fun _ => 0) :=
  Pipeline.θ_run_frame (Q' := _) cfgs (mlaDat m) (0 : Fin 1) launch0 defs₀ Variants.none m ρ main
    (hbody := fun c => (mla_body m c).loose) (hshare := fun c => (mlaDat m 0 c).share_full fun _ => rfl)
    (howed := fun _ _ => rfl) (V := V m) (hmain := hmain m Variants.none) (hA := mlaDat_A m) (hΦ := fun _ _ => rfl)

/-- The whole run: the array of results and the unchanged arguments. -/
theorem mla_array : θ_run defs (onTc (τ := τ) (main (F := F))) ⟨m, fun _ => 0, ρ⟩ fun r => ∀ c : Dev nD,
    r.2.mem ((c : Thread nD τ).loc main_v20) = (mlaDat m 0 c).arrAt 3 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h.1 c).1 3,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c)⟩) (mla_run m ρ)

/-! ## Block by block -/

theorem out_inj : ∀ t t' : Fin cfg0.N, win0_3.index t = win0_3.index t' → t = t' :=
  (by decide +kernel : ∀ t t' : Fin grid0.N, win0_3.index t = win0_3.index t' → t = t')

theorem out_disjoint : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (out_inj t t' h)

theorem out_flush : ∀ t : Fin cfg0.N, (cfg0.win 3).flush t = true := (by decide +kernel : ∀ t : Fin grid0.N, win0_3.flush t = true)

/-- Block `t` of the results is what point `t` left. -/
theorem out_block (c : Dev nD) (t : Fin cfg0.N) :
    ((cfg0.win 3).blk t).view.read (Elt F) ((mlaDat m 0 c).arrAt 3 cfg0.N) = (cfg0.win 3).cut (grid0.coords t) (blockV m c t) := by
  rw [(mlaDat m 0 c).read_blk_arrAt_eq_flushed 3 out_disjoint cfg0.N t t.isLt (out_flush t)]
  show (cfg0.win 3).cut (grid0.coords t) ((mlaDat m 0 c).after 3 t) = _
  rw [mlaDat_after3]

end Cert.Mla

end
-- ==== Proof.RefValue.lean ====
/- The reference, element by element over the extended reals: the softmax average. -/
module

public import proofs.«01_k».proof.Proof.Gen.ReferenceIdeal.Run
public import proofs.«01_k».proof.Proof.Soft
public import Idealize.ShloMosaic.Lib.Pointwise

@[expose] public section

set_option maxRecDepth 16384

noncomputable section

namespace Cert.Mla.Ref

open Cert.ReferenceIdeal Cert.ReferenceIdeal.Gen
open Idealize.ShloMosaic Idealize.ShloMosaic.TcCoe

/-- The scores, the masked scores, the largest of each query, the exponentials and their quotients. -/
def scoreR (q k : FVec Ideal S1x8x16384x96 .f32) : FVec Ideal S1x8x16384x16384 .f32 :=
  Host.divf (Host.dotGeneral dot_S1x8x16384x96_S1x8x16384x96_S1x8x16384x16384_3_3_2_2_01_01 none q k)
    (broadcastInDim S1x8x16384x16384 ![] bcast_S_S1x8x16384x16384 (Host.sqrt (constant S_ .f32 0x42C00000#32)))

def maskedR (s : FVec Ideal S1x8x16384x16384 .f32) : FVec Ideal S1x8x16384x16384 .f32 :=
  select (broadcastInDim S1x8x16384x16384 ![2, 3] bcast_S16384x16384_S1x8x16384x16384_2_3
      (cmpi .sle
        (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    s (broadcastInDim S1x8x16384x16384 ![] bcast_S_S1x8x16384x16384 (constant S_ .f32 0xFF800000#32))

def wide (x : FVec Ideal S1x8x16384 .f32) : FVec Ideal S1x8x16384x16384 .f32 :=
  broadcastInDim S1x8x16384x16384 ![0, 1, 2, 3] bcast_S1x8x16384x1_S1x8x16384x16384_0_1_2_3
    (broadcastInDim S1x8x16384x1 ![0, 1, 2] bcast_S1x8x16384_S1x8x16384x1_0_1_2 x)

def topR (s : FVec Ideal S1x8x16384x16384 .f32) : FVec Ideal S1x8x16384 .f32 :=
  maximumf (broadcastInDim S1x8x16384 ![] bcast_S_S1x8x16384 (constant S_ .f32 0xFF800000#32))
    (Host.reduce FloatOps.maximumf s (constant S_ .f32 0xFF800000#32) reducesTo_S1x8x16384x16384_S1x8x16384_d3 h_S_)

def expR (s : FVec Ideal S1x8x16384x16384 .f32) : FVec Ideal S1x8x16384x16384 .f32 := Host.exp (subf s (wide (topR s)))

def softR (e : FVec Ideal S1x8x16384x16384 .f32) : FVec Ideal S1x8x16384x16384 .f32 :=
  Host.divf e (wide (Host.reduceAdd e (constant S_ .f32 0x00000000#32) reducesTo_S1x8x16384x16384_S1x8x16384_d3 h_S_))

def outR (p : FVec Ideal S1x8x16384x16384 .f32) (v : FVec Ideal S1x8x16384x64 .f32) : FVec Ideal S16384x512 .bf16 :=
  truncf .bf16 (shapeCast S16384x512 (transpose S1x16384x8x64 [0, 2, 1, 3]
    (Host.dotGeneral dot_S1x8x16384x16384_S1x8x16384x64_S1x8x16384x64_3_2_2_3_01_01 none p v)
    transposes_S1x8x16384x64_S1x16384x8x64_0_2_1_3) shapeCasts_S1x16384x8x64_S16384x512) bitsLt_bf16_f32

theorem res_eq (m : (ℓ : Loc nD τ sig) → Buf (Elt Ideal) ℓ) (c : Dev nD) :
    Cert.ReferenceIdeal.Value.res_main_v25 m c
      = outR (softR (expR (maskedR (scoreR (m ((c.tc : Thread nD τ).loc main_arg0)) (m ((c.tc : Thread nD τ).loc main_arg1))))))
          (m ((c.tc : Thread nD τ).loc main_arg2)) := rfl

theorem score_at (q k : FVec Ideal S1x8x16384x96 .f32) (h : Fin 8) (r t : Fin 16384) :
    (scoreR q k (ix4 0 h r t) : EReal) = Ideal.div (∑ e : Fin 96, (q (ix4 0 h r e) : EReal) * k (ix4 0 h t e)) ((Real.sqrt 96 : ℝ) : EReal) := by
  unfold scoreR
  pointwise
  rw [show (1119879168#32 : BitVec 32) = 0x42C00000#32 from rfl, ofBits_ninety_six]
  congr 1
  exact if_neg (by norm_num)

theorem masked_at (s : FVec Ideal S1x8x16384x16384 .f32) (h : Fin 8) (r t : Fin 16384) :
    (maskedR s (ix4 0 h r t) : EReal) = if t.val ≤ r.val then (s (ix4 0 h r t) : EReal) else ⊥ := by
  unfold maskedR
  pointwise
  rw [show (4286578688#32 : BitVec 32) = 0xFF800000#32 from rfl, ofBits_lowest]
  have ht := t.isLt
  have hr := r.isLt
  have hs : IntOp.cmpi .sle (BitVec.ofNat 32 t.val) (BitVec.ofNat 32 r.val) = BitVec.ofBool (decide (t.val ≤ r.val)) := by
    unfold IntOp.cmpi
    congr 1
    rw [Bool.eq_iff_iff]
    simp only [BitVec.sle, decide_eq_true_eq]
    have h1 : (BitVec.ofNat 32 t.val).toInt = (t.val : ℕ) := by
      rw [BitVec.toInt_eq_toNat_of_lt] <;> simp [BitVec.toNat_ofNat] <;> omega
    have h2 : (BitVec.ofNat 32 r.val).toInt = (r.val : ℕ) := by
      rw [BitVec.toInt_eq_toNat_of_lt] <;> simp [BitVec.toNat_ofNat] <;> omega
    rw [h1, h2]; omega
  rw [hs]
  by_cases h : t.val ≤ r.val <;> simp [h, Scalar.select]

/-- The largest element along the last of four axes, of any extents. -/
theorem reduce_last {n0 n1 n2 n3 : ℕ} (x : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (c : Fin n2) :
    (Host.reduce (FloatOps.maximumf (F := Ideal) (φ := .f32)) x init h hu (ix3 a b c) : EReal)
      = (Finset.univ : Finset (Fin n3)).fold max (init (Shape.Idx.first hu) : EReal) fun u => (x (ix4 a b c u) : EReal) := by
  rw [Host.reduce_eq_fold, Shape.ReducesTo.fold_fiber_r4_a3]
  rfl

theorem top_at (s : FVec Ideal S1x8x16384x16384 .f32) (h : Fin 8) (r : Fin 16384) :
    (topR s (ix3 0 h r) : EReal) = Finset.univ.sup fun u : Fin 16384 => (s (ix4 0 h r u) : EReal) := by
  have e : ∀ X : FVec Ideal S1x8x16384 .f32, (maximumf (broadcastInDim S1x8x16384 ![] bcast_S_S1x8x16384 (constant S_ .f32 0xFF800000#32)) X (ix3 0 h r) : EReal)
      = max (Ideal.ofBits .f32 0xFF800000#32) (X (ix3 0 h r)) := fun X => by pointwise
  have e' := reduce_last s (constant S_ .f32 0xFF800000#32) reducesTo_S1x8x16384x16384_S1x8x16384_d3 h_S_ 0 h r
  unfold topR
  rw [e, e', ofBits_lowest, max_eq_right bot_le]
  show (Finset.univ : Finset (Fin 16384)).fold max (Ideal.ofBits .f32 0xFF800000#32 : EReal) _ = _
  rw [ofBits_lowest]
  rfl

theorem exp_at (s : FVec Ideal S1x8x16384x16384 .f32) (h : Fin 8) (r t : Fin 16384) :
    (expR s (ix4 0 h r t) : EReal) = Ideal.exp ((s (ix4 0 h r t) : EReal) - Finset.univ.sup fun u : Fin 16384 => (s (ix4 0 h r u) : EReal)) := by
  rw [← top_at]
  unfold expR wide
  generalize topR s = T
  pointwise

theorem soft_at (e : FVec Ideal S1x8x16384x16384 .f32) (h : Fin 8) (r t : Fin 16384) :
    (softR e (ix4 0 h r t) : EReal) = Ideal.div (e (ix4 0 h r t)) (∑ u : Fin 16384, (e (ix4 0 h r u) : EReal)) := by
  unfold softR wide
  pointwise

theorem out_at (p : FVec Ideal S1x8x16384x16384 .f32) (v : FVec Ideal S1x8x16384x64 .f32) (h : Fin 8) (r : Fin 16384) (y : Fin 64) :
    (outR p v (ix2 r ⟨64 * h.val + y.val, by omega⟩) : EReal) = ∑ t : Fin 16384, (p (ix4 0 h r t) : EReal) * v (ix4 0 h t y) := by
  unfold outR
  pointwise

/-- The reference at a query, a head and a value's element, where the scores are the reals `ρ`. -/
theorem ref_average (q k : FVec Ideal S1x8x16384x96 .f32) (v : FVec Ideal S1x8x16384x64 .f32) (h : Fin 8) (r : Fin 16384) (y : Fin 64)
    (ρ w : ℕ → EReal)
    (hρ : ∀ t : Fin 16384, (if t.val ≤ r.val then Ideal.div (∑ e : Fin 96, (q (ix4 0 h r e) : EReal) * k (ix4 0 h t e)) ((Real.sqrt 96 : ℝ) : EReal) else ⊥) = ρ t.val)
    (hw : ∀ t : Fin 16384, (v (ix4 0 h t y) : EReal) = w t.val) :
    (outR (softR (expR (maskedR (scoreR q k)))) v (ix2 r ⟨64 * h.val + y.val, by omega⟩) : EReal) = average ρ w 16384 := by
  have hs : ∀ t : Fin 16384, (maskedR (scoreR q k) (ix4 0 h r t) : EReal) = ρ t.val := fun t => by
    rw [masked_at, score_at]; exact hρ t
  have hsup : (Finset.range 16384).sup ρ = Finset.univ.sup fun u : Fin 16384 => ρ u.val := by
    have := sup_stretch 0 16384 ρ
    simp only [Nat.zero_add] at this
    rw [← this, ← Finset.range_eq_Ico]
  unfold average
  rw [out_at, hsup, ← Fin.sum_univ_eq_sum_range, ← Fin.sum_univ_eq_sum_range]
  refine Finset.sum_congr rfl fun t _ => ?_
  rw [soft_at, hw]
  simp only [exp_at, hs]

end Cert.Mla.Ref

end
-- ==== Proof.Final.lean ====
/- The two programs' results are the same array: each block of the launch's result, element by element, is the reference's
   average of the values, the queries and keys being real numbers. -/
module

public import proofs.«01_k».proof.Defs
public import proofs.«01_k».proof.Proof.Host
public import proofs.«01_k».proof.Proof.State
public import proofs.«01_k».proof.Proof.MlaRun
public import proofs.«01_k».proof.Proof.RefValue

@[expose] public section

set_option maxRecDepth 16384

noncomputable section

namespace Cert.Mla

open Cert.KernelIdeal Cert.KernelIdeal.Gen
open Idealize.ShloMosaic Idealize.ShloMosaic.TcCoe

/-! ## The arithmetic of one score -/

theorem div_real (x s : ℝ) (hs : s ≠ 0) : Ideal.div (x : EReal) (s : EReal) = ((x / s : ℝ) : EReal) := by
  unfold Ideal.div
  rw [if_neg (by exact_mod_cast hs), ← EReal.coe_inv, ← EReal.coe_mul, div_eq_mul_inv]

/-- The scale the kernel's queries are divided by. -/
theorem scale_real : Ideal.sqrt (Ideal.ofBits .f32 0x42C00000#32) * Ideal.log (Ideal.ofBits .f32 0x40000000#32)
    = ((Real.sqrt 96 * Real.log 2 : ℝ) : EReal) := by
  rw [ofBits_ninety_six, ofBits_two,
    show Ideal.sqrt ((96 : ℝ) : EReal) = ((Real.sqrt 96 : ℝ) : EReal) from if_neg (by norm_num),
    show Ideal.log ((2 : ℝ) : EReal) = ((Real.log 2 : ℝ) : EReal) from if_neg (by norm_num), ← EReal.coe_mul]

theorem sum_real {n : ℕ} (f : Fin n → ℝ) : (∑ e, ((f e : ℝ) : EReal)) = ((∑ e, f e : ℝ) : EReal) := by
  induction n with
  | zero => simp
  | succ n ih => rw [Fin.sum_univ_castSucc, Fin.sum_univ_castSucc, ih, EReal.coe_add]

/-- A dot product of 96 features and 32 zeros, the queries divided first: the dot product divided. -/
theorem padded_dot (k q : Fin 96 → EReal) (kr qr : Fin 96 → ℝ) (hk : ∀ e, k e = kr e) (hq : ∀ e, q e = qr e) (s : ℝ) (hs : s ≠ 0) :
    (∑ e : Fin 128, (if he : e.val < 96 then k ⟨e.val, he⟩ else (0 : EReal))
        * (if he : e.val < 96 then Ideal.div (q ⟨e.val, he⟩) (s : EReal) else (0 : EReal)))
      = (((∑ e, qr e * kr e) / s : ℝ) : EReal) := by
  show (∑ e : Fin (96 + 32), (if he : e.val < 96 then k ⟨e.val, he⟩ else (0 : EReal))
        * (if he : e.val < 96 then Ideal.div (q ⟨e.val, he⟩) (s : EReal) else (0 : EReal))) = _
  rw [Fin.sum_univ_add]
  have hz : ∀ e : Fin 32, ¬ (Fin.natAdd 96 e).val < 96 := fun e => by simp
  simp only [hz, dite_false, mul_zero, Finset.sum_const_zero, add_zero]
  rw [Finset.sum_div, ← sum_real]
  refine Finset.sum_congr rfl fun e _ => ?_
  have he : (Fin.castAdd 32 e).val < 96 := e.isLt
  rw [dif_pos he, dif_pos he]
  show k e * Ideal.div (q e) s = _
  rw [hk, hq, div_real _ _ hs, ← EReal.coe_mul]
  congr 1
  ring

/-- A comparison with infinity says a number is real. -/
theorem real_of_abs {x : EReal} (h : max x (-x) < ⊤) : x = ((x.toReal : ℝ) : EReal) := by
  refine (EReal.coe_toReal ?_ ?_).symm
  · rintro rfl; simp at h
  · rintro rfl; simp at h

theorem real_of_finite (x : FVec Ideal S1x8x16384x96 .f32) [Cert.Pre_finite.Facts]
    (h : cmpf .olt (Host.absf x) (broadcastInDim S1x8x16384x96 ![] Cert.Pre_finite.Facts.bcast_S_S1x8x16384x96
      (constant (F := Ideal) S_ .f32 0x7F800000#32)) = fun _ => 1#1) (i : S1x8x16384x96.Idx) :
    (x i : EReal) = (((x i : EReal).toReal : ℝ) : EReal) := by
  have hi : Ideal.cmp .olt (max (x i : EReal) (-(x i : EReal))) (Ideal.ofBits .f32 0x7F800000#32) = 1#1 := congrFun h i
  rw [ofBits_highest] at hi
  refine real_of_abs ?_
  by_contra hn
  simp [Ideal.cmp, hn] at hi

/-! ## One block -/

variable (m : (ℓ : Loc nD τ sig) → Buf (Elt Ideal) ℓ) (c : Dev nD)

/-- The score of key `t` for query `r` of head `h`, a real number. -/
def scoreVal (h : Fin 8) (r : Fin 16384) (t : ℕ) : ℝ :=
  if ht : t < 16384 then
    (∑ e : Fin 96, (Host.qArg m c (ix4 0 h r e) : EReal).toReal * (Host.kArg m c (ix4 0 h ⟨t, ht⟩ e) : EReal).toReal) / Real.sqrt 96
  else 0

theorem sqrt_ne : Real.sqrt 96 ≠ 0 := (Real.sqrt_pos.mpr (by norm_num)).ne'
theorem log_ne : Real.log 2 ≠ 0 := (Real.log_pos (by norm_num)).ne'

theorem block_score (hq : ∀ i, (Host.qArg m c i : EReal) = (((Host.qArg m c i : EReal).toReal : ℝ) : EReal))
    (hk : ∀ i, (Host.kArg m c i : EReal) = (((Host.kArg m c i : EReal).toReal : ℝ) : EReal))
    (t : Fin cfg0.N) (h : Fin 4) (x : Fin 512) (u : Fin 16384) (h8 : Fin 8) (hh : h8.val = 4 * (grid0.coords t 0).val + h.val)
    (r : Fin 16384) (hr : r.val = 512 * (grid0.coords t 1).val + x.val) :
    dotK (iblk m c 0 t) (iblk m c 1 t) h x u = ((scoreVal m c h8 r u.val / Real.log 2 : ℝ) : EReal) := by
  have hg := Host.group_lt t
  have hb := Host.block_lt t
  unfold scoreVal
  rw [dif_pos u.isLt, div_div, ← padded_dot (fun e => Host.kArg m c (ix4 0 h8 u e)) (fun e => Host.qArg m c (ix4 0 h8 r e))
    _ _ (fun e => hk _) (fun e => hq _) _ (mul_ne_zero sqrt_ne log_ne), ← scale_real]
  unfold dotK
  refine Finset.sum_congr rfl fun e _ => ?_
  have he := e.isLt
  rw [← Host.keys_at, ← Host.queries_at, Host.key_block, Host.query_block]
  congr 2
  · exact congrArg (ix2 u) (Fin.ext (show 512 * (grid0.coords t 0).val + (128 * h.val + e.val) = 128 * h8.val + e.val by omega))
  · rw [show (⟨512 * (grid0.coords t 1).val + x.val, by omega⟩ : Fin 16384) = r from Fin.ext hr.symm]
    exact congrArg (ix2 r) (Fin.ext (show 512 * (grid0.coords t 0).val + (128 * h.val + e.val) = 128 * h8.val + e.val by omega))

theorem block_value (t : Fin cfg0.N) (h : Fin 4) (y : Fin 64) (h8 : Fin 8) (hh : h8.val = 4 * (grid0.coords t 0).val + h.val)
    (u : Fin 16384) :
    (Host.vArg m c (ix4 0 h8 u y) : EReal) = rowK (iblk m c 2 t) h ⟨y.val, by omega⟩ u.val := by
  have hg := Host.group_lt t
  have hu := u.isLt
  unfold rowK
  rw [dif_pos y.isLt, dif_pos u.isLt]
  unfold valK
  rw [Host.value_block]
  have := Host.values_at m c ⟨u.val / 256, by omega⟩ h8 y ⟨u.val % 256, by omega⟩
  rw [show (⟨256 * (u.val / 256) + u.val % 256, by omega⟩ : Fin 16384) = u from Fin.ext (show 256 * (u.val / 256) + u.val % 256 = u.val by omega)] at this
  rw [← this]
  refine congrArg _ ?_
  exact congrArg (fun z => ix3 (⟨u.val / 256, by omega⟩ : Fin 64) z (⟨u.val % 256, by omega⟩ : Fin 256))
    (Fin.ext (show 64 * h8.val + y.val = 256 * (grid0.coords t 0).val + (64 * h.val + y.val) by omega))

/-- The reference's result on the kernel's arguments. -/
abbrev resultV : FVec Ideal S16384x512 .bf16 :=
  Ref.outR (Ref.softR (Ref.expR (Ref.maskedR (Ref.scoreR (Host.qArg m c) (Host.kArg m c))))) (Host.vArg m c)

/-- What a grid point leaves, at an element, is the reference's result there. -/
theorem block_result (hq : ∀ i, (Host.qArg m c i : EReal) = (((Host.qArg m c i : EReal).toReal : ℝ) : EReal))
    (hk : ∀ i, (Host.kArg m c i : EReal) = (((Host.kArg m c i : EReal).toReal : ℝ) : EReal))
    (t : Fin cfg0.N) (x : Fin 512) (z : Fin 256) (r : Fin 16384) (hr : r.val = 512 * (grid0.coords t 1).val + x.val)
    (s : Fin 512) (hs : s.val = 256 * (grid0.coords t 0).val + z.val) :
    (blockV (F := Ideal) m c t (ix2 x z) : EReal) = resultV m c (ix2 r s) := by
  have hg := Host.group_lt t
  have hz := z.isLt
  have hx := x.isLt
  let h : Fin 4 := ⟨z.val / 64, by omega⟩
  let y : Fin 64 := ⟨z.val % 64, by omega⟩
  let h8 : Fin 8 := ⟨4 * (grid0.coords t 0).val + z.val / 64, by omega⟩
  have e1 : z = ⟨64 * h.val + y.val, by show 64 * (z.val / 64) + z.val % 64 < 256; omega⟩ :=
    Fin.ext (show z.val = 64 * (z.val / 64) + z.val % 64 by omega)
  have e2 : s = ⟨64 * h8.val + y.val, by show 64 * (4 * (grid0.coords t 0).val + z.val / 64) + z.val % 64 < 512; omega⟩ :=
    Fin.ext (show s.val = 64 * (4 * (grid0.coords t 0).val + z.val / 64) + z.val % 64 by omega)
  rw [e2]
  unfold resultV
  rw [Ref.ref_average (Host.qArg m c) (Host.kArg m c) (Host.vArg m c) h8 r y (causal (scoreVal m c h8 r) r.val)
    (rowK (iblk m c 2 t) h ⟨y.val, by omega⟩) ?_ (fun u => block_value m c t h y h8 rfl u)]
  · refine (congrArg (fun z => (blockV (F := Ideal) m c t (ix2 x z) : EReal)) e1).trans ?_
    show (blockV (F := Ideal) m c t (ix2 x _) : EReal) = _
    unfold blockV
    rw [out_at, heads_average _ _ _ _ (Host.block_lt t) h x (scoreVal m c h8 r)
      (fun u => block_score m c hq hk t h x u h8 rfl r hr), ← hr]
  · intro u
    unfold causal scoreVal
    rw [dif_pos u.isLt]
    by_cases hu : u.val ≤ r.val
    · rw [if_pos hu, if_pos hu, ← div_real _ _ sqrt_ne, ← sum_real]
      congr 1
      refine Finset.sum_congr rfl fun e _ => ?_
      rw [EReal.coe_mul, ← hq, ← hk]
    · rw [if_neg hu, if_neg hu]

/-- The whole array the launch leaves. -/
theorem array_result (hq : ∀ i, (Host.qArg m c i : EReal) = (((Host.qArg m c i : EReal).toReal : ℝ) : EReal))
    (hk : ∀ i, (Host.kArg m c i : EReal) = (((Host.kArg m c i : EReal).toReal : ℝ) : EReal)) :
    (mlaDat (F := Ideal) m 0 c).arrAt 3 cfg0.N = resultV m c := by
  refine (mlaDat (F := Ideal) m 0 c).arrAt_eq_of_covers 3 _ (by decide +kernel) fun t hf y => ?_
  blk_simp
  rw [mlaDat_after3]
  have hb := Host.block_lt t
  have hg := Host.group_lt t
  have key : ∀ y : S512x256.Idx, (blockV (F := Ideal) m c t y : EReal) = resultV m c ((win0_3.blk t).view.emb y) := fun y => by
    have h0 : (y 0).val < 512 := (y 0).isLt
    have h1 : (y 1).val < 256 := (y 1).isLt
    have hy : y = ix2 (y 0) (y 1) := by
      funext a
      fin_cases a <;> rfl
    have he : (win0_3.blk t).view.emb y = ix2 (⟨512 * (grid0.coords t 1).val + (y 0).val, by omega⟩ : Fin 16384)
        (⟨256 * (grid0.coords t 0).val + (y 1).val, by omega⟩ : Fin 512) := by
      blk_ext [Host.index_out t]
    rw [he]
    exact (congrArg (blockV (F := Ideal) m c t) hy).trans (block_result m c hq hk t (y 0) (y 1) _ rfl _ rfl)
  exact key y

end Cert.Mla

end
-- ==== Proof.FfnMath.lean ====
/- A gated feed-forward half of a layer, one row of the activations over the extended reals: the row is normalized and
   modulated, goes through the gated hidden layer, is normalized again and added to itself. -/
module

public import Idealize.ShloMosaic.Lib.Pointwise

@[expose] public section

noncomputable section

namespace Cert.FfnMath

open Idealize.ShloMosaic

/-- The number a row is multiplied by to normalize it: one over the root of its mean square, a small number added. -/
def rowNorm {d : ℕ} (f : Fin d → EReal) : EReal :=
  Ideal.rsqrt (Ideal.div (∑ k, f k * f k) (Ideal.ofBits .f32 0x44800000#32) + Ideal.ofBits .f32 0x358637BD#32)

/-- The sigmoid. -/
def sigm (x : EReal) : EReal :=
  Ideal.div (1) (1 + Ideal.exp (-x))

/-- The row normalized and modulated. -/
def modul {d : ℕ} (x g shift scale : Fin d → EReal) (k : Fin d) : EReal :=
  x k * rowNorm x * g k * (1 + scale k) + shift k

/-- The gated hidden layer: a product's sigmoid weight, times the product, times a second product. -/
def gated {d n : ℕ} (h : Fin d → EReal) (wg wu : Fin d → Fin n → EReal) (j : Fin n) : EReal :=
  (∑ k, h k * wg k j) * sigm (∑ k, h k * wg k j) * ∑ k, h k * wu k j

/-- The row plus a gated multiple of a normalized row. -/
def resid {d : ℕ} (w : EReal) (x gate g y : Fin d → EReal) (j : Fin d) : EReal :=
  x j + w * (1 + gate j) * (y j * rowNorm y * g j)

/-- The whole half. -/
def half {d n : ℕ} (x shift scale gate gpre gpost : Fin d → EReal) (wg wu : Fin d → Fin n → EReal) (wd : Fin n → Fin d → EReal) :
    Fin d → EReal :=
  resid (Ideal.ofBits .f32 0x3F000000#32) x gate gpost fun j => ∑ u, gated (modul x gpre shift scale) wg wu u * wd u j

/-- Equal rows and weights, equal halves. -/
theorem half_congr {d n : ℕ} {x x' sh sh' sc sc' ga ga' g g' p p' : Fin d → EReal} {wg wg' wu wu' : Fin d → Fin n → EReal}
    {wd wd' : Fin n → Fin d → EReal} (ex : ∀ k, x k = x' k) (e1 : ∀ k, sh k = sh' k) (e2 : ∀ k, sc k = sc' k)
    (e3 : ∀ k, ga k = ga' k) (eg : ∀ k, g k = g' k) (ep : ∀ k, p k = p' k) (e4 : ∀ k u, wg k u = wg' k u)
    (e5 : ∀ k u, wu k u = wu' k u) (e6 : ∀ u k, wd u k = wd' u k) (j : Fin d) :
    half x sh sc ga g p wg wu wd j = half x' sh' sc' ga' g' p' wg' wu' wd' j := by
  rw [funext ex, funext e1, funext e2, funext e3, funext eg, funext ep, funext fun k => funext (e4 k), funext fun k => funext (e5 k),
    funext fun u => funext (e6 u)]

/-- The half of layer `l` that is its `h`-th feed-forward and its `s`-th step, on the whole arrays. -/
def halfArr (l h : Fin 2) (s : Fin 3) (x : FVec Ideal ⟨3, ![1, 16384, 1024]⟩ .f32) (mod : FVec Ideal ⟨4, ![2, 3, 3, 1024]⟩ .f32)
    (gpre gpost : FVec Ideal ⟨3, ![2, 3, 1024]⟩ .f32) (wg wu : FVec Ideal ⟨4, ![2, 2, 1024, 2816]⟩ .f32)
    (wd : FVec Ideal ⟨4, ![2, 2, 2816, 1024]⟩ .f32) : FVec Ideal ⟨2, ![16384, 1024]⟩ .f32 := fun y =>
  half (fun k => x (ix3 0 (y 0) k)) (fun k => mod (ix4 l s 0 k)) (fun k => mod (ix4 l s 1 k)) (fun k => mod (ix4 l s 2 k))
    (fun k => gpre (ix3 l s k)) (fun k => gpost (ix3 l s k)) (fun k n => wg (ix4 l h k n)) (fun k n => wu (ix4 l h k n))
    (fun n k => wd (ix4 l h n k)) (y 1)

end Cert.FfnMath

end
-- ==== Proof.FfnBlock.lean ====
/- The feed-forward launch's body, element by element over the extended reals. -/
module

public import proofs.«01_k».proof.Proof.FfnMath
public import proofs.«01_k».proof.Proof.Gen.Ffn11Ideal.Frame
public import Idealize.ShloMosaic.Lib.Pointwise
public import Idealize.ShloMosaic.Lib.Pipeline.ValueKit

@[expose] public section

set_option maxRecDepth 16384

noncomputable section

namespace Cert.FfnBlock

open Cert.Ffn11Ideal Cert.Ffn11Ideal.Gen Cert.FfnMath
open Idealize.ShloMosaic Idealize.ShloMosaic.TcCoe

/-- The normalized and modulated rows of a block. -/
theorem modul_at (x : FVec Ideal S512x1024 .f32) (sh sc g : FVec Ideal S1x1024 .f32) (r : Fin 512) (k : Fin 1024) :
    (k0_pay4 (F := Ideal) x sh sc g (ix2 r k) : EReal)
      = modul (fun k => x (ix2 r k)) (fun k => g (ix2 0 k)) (fun k => sh (ix2 0 k)) (fun k => sc (ix2 0 k)) k := by
  unfold modul rowNorm
  pointwise [k0_pay4, k0_pay2]

/-- The two products with the rows. -/
theorem gate_at (x : FVec Ideal S512x1024 .f32) (sh sc g : FVec Ideal S1x1024 .f32) (w : FVec Ideal S1x1x1024x2816 .bf16)
    (r : Fin 512) (j : Fin 2816) :
    (k0_pay5 (F := Ideal) x sh sc g w (ix2 r j) : EReal) = ∑ k : Fin 1024, (k0_pay4 (F := Ideal) x sh sc g (ix2 r k) : EReal) * w (ix4 0 0 k j) := by
  unfold k0_pay5
  generalize k0_pay4 (F := Ideal) x sh sc g = h
  pointwise

theorem up_at (x : FVec Ideal S512x1024 .f32) (sh sc g : FVec Ideal S1x1024 .f32) (w : FVec Ideal S1x1x1024x2816 .bf16)
    (r : Fin 512) (j : Fin 2816) :
    (k0_pay6 (F := Ideal) x sh sc g w (ix2 r j) : EReal) = ∑ k : Fin 1024, (k0_pay4 (F := Ideal) x sh sc g (ix2 r k) : EReal) * w (ix4 0 0 k j) := by
  unfold k0_pay6
  generalize k0_pay4 (F := Ideal) x sh sc g = h
  pointwise

/-- The block's rows out. -/
theorem resid_at (x : FVec Ideal S512x1024 .f32) (ga gp : FVec Ideal S1x1024 .f32) (g u : FVec Ideal S512x2816 .f32)
    (w : FVec Ideal S1x1x2816x1024 .bf16) (r : Fin 512) (j : Fin 1024) :
    (k0_pay1 (F := Ideal) x ga g u w gp (ix2 r j) : EReal)
      = resid (Ideal.ofBits .f32 0x3F000000#32) (fun k => x (ix2 r k)) (fun k => ga (ix2 0 k)) (fun k => gp (ix2 0 k))
          (fun k => ∑ n : Fin 2816, ((g (ix2 r n) : EReal) * sigm (g (ix2 r n)) * u (ix2 r n)) * w (ix4 0 0 n k)) j := by
  unfold resid rowNorm sigm
  pointwise [k0_pay1]
  rfl

theorem rows_at (x : FVec Ideal S512x1024 .f32) (r : Fin 512) (k : Fin 1024) : (k0_pay2 (F := Ideal) x (ix2 r k) : EReal) = x (ix2 r k) := by
  pointwise [k0_pay2]
theorem row_at (x : FVec Ideal S1x1024 .f32) (k : Fin 1024) : (k0_pay3 (F := Ideal) x (ix2 0 k) : EReal) = x (ix2 0 k) := by
  pointwise [k0_pay3]

/-- The three rows of the modulation. -/
theorem shift_at (x : FVec Ideal S3x1024 .f32) (k : Fin 1024) : View.ld (Val := Elt Ideal) (e' := .f32) x r0_1 (ix2 0 k) = x (ix2 0 k) :=
  congrArg x (by funext a; fin_cases a <;> exact Fin.ext (by simp [ix2]))
theorem scale_at (x : FVec Ideal S3x1024 .f32) (k : Fin 1024) : View.ld (Val := Elt Ideal) (e' := .f32) x r0_2 (ix2 0 k) = x (ix2 1 k) :=
  congrArg x (by funext a; fin_cases a <;> exact Fin.ext (by simp [ix2]))
theorem gate_row_at (x : FVec Ideal S3x1024 .f32) (k : Fin 1024) : View.ld (Val := Elt Ideal) (e' := .f32) x r0_3 (ix2 0 k) = x (ix2 2 k) :=
  congrArg x (by funext a; fin_cases a <;> exact Fin.ext (by simp [ix2]))

/-- The whole body: the half of a layer on each row of a block, the modulation's rows given one by one. -/
theorem body_at (x : FVec Ideal S512x1024 .f32) (sh sc ga gpre gpost : FVec Ideal S1x1024 .f32)
    (wg wu : FVec Ideal S1x1x1024x2816 .bf16) (wd : FVec Ideal S1x1x2816x1024 .bf16) (r : Fin 512) (j : Fin 1024) :
    (k0_pay1 (F := Ideal) (k0_pay2 x) (k0_pay3 ga) (k0_pay5 x sh sc gpre wg) (k0_pay6 x sh sc gpre wu) wd gpost (ix2 r j) : EReal)
      = half (fun k => x (ix2 r k)) (fun k => sh (ix2 0 k)) (fun k => sc (ix2 0 k)) (fun k => ga (ix2 0 k))
          (fun k => gpre (ix2 0 k)) (fun k => gpost (ix2 0 k)) (fun k n => wg (ix4 0 0 k n)) (fun k n => wu (ix4 0 0 k n))
          (fun n k => wd (ix4 0 0 n k)) j := by
  rw [resid_at]
  simp only [gate_at, up_at, modul_at, rows_at, row_at]
  rfl

/-- The whole body, of the blocks it reads. -/
theorem out_at (x : FVec Ideal S512x1024 .f32) (mod : FVec Ideal S3x1024 .f32) (gpre gpost : FVec Ideal S1x1024 .f32)
    (wg wu : FVec Ideal S1x1x1024x2816 .bf16) (wd : FVec Ideal S1x1x2816x1024 .bf16) (r : Fin 512) (j : Fin 1024) :
    (out0_7 (F := Ideal) x mod gpre gpost wg wu wd (ix2 r j) : EReal)
      = half (fun k => x (ix2 r k)) (fun k => mod (ix2 0 k)) (fun k => mod (ix2 1 k)) (fun k => mod (ix2 2 k))
          (fun k => gpre (ix2 0 k)) (fun k => gpost (ix2 0 k)) (fun k n => wg (ix4 0 0 k n)) (fun k n => wu (ix4 0 0 k n))
          (fun n k => wd (ix4 0 0 n k)) j := by
  frame_out
  exact (body_at x (View.ld (Val := Elt Ideal) (e' := .f32) mod r0_1) (View.ld (Val := Elt Ideal) (e' := .f32) mod r0_2)
    (View.ld (Val := Elt Ideal) (e' := .f32) mod r0_3) gpre gpost wg wu wd r j).trans
    (half_congr (fun _ => rfl) (shift_at mod) (scale_at mod) (gate_row_at mod) (fun _ => rfl) (fun _ => rfl) (fun _ _ => rfl)
      (fun _ _ => rfl) (fun _ _ => rfl) j)

end Cert.FfnBlock

end
-- ==== Proof.FfnRef.lean ====
/- The feed-forward half's reference, element by element over the extended reals. -/
module

public import proofs.«01_k».proof.Proof.FfnMath
public import proofs.«01_k».proof.Proof.Gen.Ffn11ReferenceIdeal.Run
public import Idealize.ShloMosaic.Lib.Pointwise

@[expose] public section

set_option maxRecDepth 16384

noncomputable section

namespace Cert.FfnRef

open Cert.Ffn11ReferenceIdeal Cert.Ffn11ReferenceIdeal.Gen Cert.FfnMath
open Idealize.ShloMosaic Idealize.ShloMosaic.TcCoe

/-- A row vector on every row. -/
def rows (v : FVec Ideal S1024 .f32) : FVec Ideal S16384x1024 .f32 :=
  broadcastInDim S16384x1024 ![0, 1] bcast_S1x1024_S16384x1024_0_1 (broadcastInDim S1x1024 ![1] bcast_S1024_S1x1024_1 v)

/-- One added to a row vector. -/
def onePlus (v : FVec Ideal S1024 .f32) : FVec Ideal S1024 .f32 :=
  addf (broadcastInDim S1024 ![] bcast_S_S1024 (constant S_ .f32 0x3F800000#32)) v

/-- The rows normalized, times a row vector. -/
def rms (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf
      (broadcastInDim S16384x1 ![0] bcast_S16384_S16384x1_0
        (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32)))))) (rows g)

def modulR (x : FVec Ideal S16384x1024 .f32) (g sh sc : FVec Ideal S1024 .f32) : FVec Ideal S16384x1024 .f32 :=
  addf (mulf (rms x g) (rows (onePlus sc))) (rows sh)

def silu (g : FVec Ideal S16384x2816 .f32) : FVec Ideal S16384x2816 .f32 :=
  mulf g (Host.divf (broadcastInDim S16384x2816 ![] bcast_S_S16384x2816 (constant S_ .f32 0x3F800000#32))
    (addf (broadcastInDim S16384x2816 ![] bcast_S_S16384x2816 (constant S_ .f32 0x3F800000#32)) (Host.exp (Host.negf g))))

def hiddenR (h : FVec Ideal S16384x1024 .f32) (wg wu : FVec Ideal S1024x2816 .f32) : FVec Ideal S16384x2816 .f32 :=
  mulf (silu (Host.dotGeneral dot_S16384x1024_S1024x2816_S16384x2816_1_0_0_1_n_n none h wg))
    (Host.dotGeneral dot_S16384x1024_S1024x2816_S16384x2816_1_0_0_1_n_n none h wu)

def downR (a : FVec Ideal S16384x2816 .f32) (wd : FVec Ideal S2816x1024 .f32) : FVec Ideal S16384x1024 .f32 :=
  Host.dotGeneral dot_S16384x2816_S2816x1024_S16384x1024_1_0_0_1_n_n none a wd

def residR (x y : FVec Ideal S16384x1024 .f32) (ga g : FVec Ideal S1024 .f32) : FVec Ideal S16384x1024 .f32 :=
  addf x (mulf (rows (mulf (broadcastInDim S1024 ![] bcast_S_S1024 (constant S_ .f32 0x3F000000#32)) (onePlus ga))) (rms y g))

/-- The half of one layer, from its own rows and weights. -/
def halfR (x : FVec Ideal S16384x1024 .f32) (sh sc ga gpre gpost : FVec Ideal S1024 .f32) (wg wu : FVec Ideal S1024x2816 .f32)
    (wd : FVec Ideal S2816x1024 .f32) : FVec Ideal S16384x1024 .f32 :=
  residR x (downR (hiddenR (modulR x gpre sh sc) wg wu) wd) ga gpost

theorem rms_at (x : FVec Ideal S16384x1024 .f32) (g : FVec Ideal S1024 .f32) (r : Fin 16384) (j : Fin 1024) :
    (rms x g (ix2 r j) : EReal) = x (ix2 r j) * rowNorm (fun k => (x (ix2 r k) : EReal)) * g (ix1 j) := by
  unfold rms rows rowNorm
  pointwise

theorem modul_at (x : FVec Ideal S16384x1024 .f32) (g sh sc : FVec Ideal S1024 .f32) (r : Fin 16384) (j : Fin 1024) :
    (modulR x g sh sc (ix2 r j) : EReal)
      = modul (fun k => x (ix2 r k)) (fun k => g (ix1 k)) (fun k => sh (ix1 k)) (fun k => sc (ix1 k)) j := by
  unfold modul
  rw [← rms_at]
  unfold modulR rows onePlus
  generalize rms x g = X
  pointwise

theorem hidden_at (h : FVec Ideal S16384x1024 .f32) (wg wu : FVec Ideal S1024x2816 .f32) (r : Fin 16384) (n : Fin 2816) :
    (hiddenR h wg wu (ix2 r n) : EReal)
      = gated (fun k => h (ix2 r k)) (fun k n => wg (ix2 k n)) (fun k n => wu (ix2 k n)) n := by
  unfold gated hiddenR silu sigm
  pointwise

theorem down_at (a : FVec Ideal S16384x2816 .f32) (wd : FVec Ideal S2816x1024 .f32) (r : Fin 16384) (j : Fin 1024) :
    (downR a wd (ix2 r j) : EReal) = ∑ n : Fin 2816, (a (ix2 r n) : EReal) * wd (ix2 n j) := by
  unfold downR
  pointwise

theorem resid_at (x y : FVec Ideal S16384x1024 .f32) (ga g : FVec Ideal S1024 .f32) (r : Fin 16384) (j : Fin 1024) :
    (residR x y ga g (ix2 r j) : EReal)
      = resid (Ideal.ofBits .f32 0x3F000000#32) (fun k => x (ix2 r k)) (fun k => ga (ix1 k)) (fun k => g (ix1 k))
          (fun k => y (ix2 r k)) j := by
  unfold resid
  rw [← rms_at]
  unfold residR rows onePlus
  generalize rms y g = X
  pointwise

theorem half_at (x : FVec Ideal S16384x1024 .f32) (sh sc ga gpre gpost : FVec Ideal S1024 .f32) (wg wu : FVec Ideal S1024x2816 .f32)
    (wd : FVec Ideal S2816x1024 .f32) (r : Fin 16384) (j : Fin 1024) :
    (halfR x sh sc ga gpre gpost wg wu wd (ix2 r j) : EReal)
      = half (fun k => x (ix2 r k)) (fun k => sh (ix1 k)) (fun k => sc (ix1 k)) (fun k => ga (ix1 k)) (fun k => gpre (ix1 k))
          (fun k => gpost (ix1 k)) (fun k n => wg (ix2 k n)) (fun k n => wu (ix2 k n)) (fun n k => wd (ix2 n k)) j := by
  unfold halfR half
  rw [resid_at]
  simp only [down_at, hidden_at, modul_at]

/-- A layer's three modulation rows: the shift, the scale and the gate. -/
def modRow0 (x : FVec Ideal S3x1024 .f32) : FVec Ideal S1024 .f32 :=
  shapeCast _ (extractStridedSlice S1x1024 ![0, 0] x slices_S3x1024_S1x1024_0_0) shapeCasts_S1x1024_S1024
def modRow1 (x : FVec Ideal S3x1024 .f32) : FVec Ideal S1024 .f32 :=
  shapeCast _ (extractStridedSlice S1x1024 ![1, 0] x slices_S3x1024_S1x1024_1_0) shapeCasts_S1x1024_S1024
def modRow2 (x : FVec Ideal S3x1024 .f32) : FVec Ideal S1024 .f32 :=
  shapeCast _ (extractStridedSlice S1x1024 ![2, 0] x slices_S3x1024_S1x1024_2_0) shapeCasts_S1x1024_S1024

theorem modRow0_at (x : FVec Ideal S3x1024 .f32) (k : Fin 1024) : (modRow0 x (ix1 k) : EReal) = x (ix2 0 k) := by
  unfold modRow0
  pointwise
theorem modRow1_at (x : FVec Ideal S3x1024 .f32) (k : Fin 1024) : (modRow1 x (ix1 k) : EReal) = x (ix2 1 k) := by
  unfold modRow1
  pointwise
theorem modRow2_at (x : FVec Ideal S3x1024 .f32) (k : Fin 1024) : (modRow2 x (ix1 k) : EReal) = x (ix2 2 k) := by
  unfold modRow2
  pointwise

end Cert.FfnRef

end
-- ==== Proof.Ffn00Eq.lean ====
/- The feed-forward half 0 of layer 0: its launch's result and its reference's are the same array. -/
module

public import proofs.«01_k».proof.Defs
public import proofs.«01_k».proof.Proof.FfnBlock
public import proofs.«01_k».proof.Proof.FfnRef
public import proofs.«01_k».proof.Proof.Gen.Ffn00.Frame
public import proofs.«01_k».proof.Proof.Gen.Ffn00Ideal.Value
public import proofs.«01_k».proof.Proof.Gen.Ffn00ReferenceIdeal.Run
public import Idealize.ShloMosaic.Lib.Claim
public import Idealize.ShloMosaic.Lib.Pipeline.ValueKit
public import Idealize.ShloMosaic.Lib.StableHlo.ReadAt

@[expose] public section

set_option maxRecDepth 16384

noncomputable section

namespace Cert.Ffn00Eq

open Idealize.ShloMosaic Idealize.ShloMosaic.TcCoe Idealize.SL.Sem

section Launch

open Cert.Ffn00Ideal Cert.Ffn00Ideal.Gen

variable (m : (ℓ : Loc nD τ sig) → Buf (Elt Ideal) ℓ) (c : Dev nD)

/-- The arguments on a device. -/
abbrev xArg : FVec Ideal S1x16384x1024 .f32 := m ((c.tc : Thread nD τ).loc main_arg0)
abbrev modArg : FVec Ideal S2x3x3x1024 .f32 := m ((c.tc : Thread nD τ).loc main_arg1)
abbrev preArg : FVec Ideal S2x3x1024 .f32 := m ((c.tc : Thread nD τ).loc main_arg2)
abbrev postArg : FVec Ideal S2x3x1024 .f32 := m ((c.tc : Thread nD τ).loc main_arg3)
abbrev gateArg : FVec Ideal S2x2x1024x2816 .f32 := m ((c.tc : Thread nD τ).loc main_arg4)
abbrev upArg : FVec Ideal S2x2x1024x2816 .f32 := m ((c.tc : Thread nD τ).loc main_arg5)
abbrev downArg : FVec Ideal S2x2x2816x1024 .f32 := m ((c.tc : Thread nD τ).loc main_arg6)

/-- The half of the layer, of the launch's arguments. -/
def resultV : FVec Ideal S16384x1024 .f32 :=
  FfnMath.halfArr 0 0 0 (xArg m c) (modArg m c) (preArg m c) (postArg m c) (gateArg m c) (upArg m c) (downArg m c)

/-! ## What the host hands the launch -/

theorem x_at (r : Fin 16384) (k : Fin 1024) : (V m c main_v3 : FVec Ideal S16384x1024 .f32) (ix2 r k) = xArg m c (ix3 0 r k) := by
  unfold V
  after_reads_at
theorem mod_at (a : Fin 3) (k : Fin 1024) : (V m c main_v5 : FVec Ideal S3x1024 .f32) (ix2 a k) = modArg m c (ix4 0 0 a k) := by
  unfold V
  after_reads_at
theorem pre_at (k : Fin 1024) : (V m c main_v10 : FVec Ideal S1x1024 .f32) (ix2 0 k) = preArg m c (ix3 0 0 k) := by
  unfold V
  after_reads_at
theorem post_at (k : Fin 1024) : (V m c main_v11 : FVec Ideal S1x1024 .f32) (ix2 0 k) = postArg m c (ix3 0 0 k) := by
  unfold V
  after_reads_at
theorem gate_at (a b : Fin 2) (k : Fin 1024) (n : Fin 2816) :
    (V m c main_v0 : FVec Ideal S2x2x1024x2816 .bf16) (ix4 a b k n) = gateArg m c (ix4 a b k n) := by
  unfold V
  after_reads_at
theorem up_at (a b : Fin 2) (k : Fin 1024) (n : Fin 2816) :
    (V m c main_v1 : FVec Ideal S2x2x1024x2816 .bf16) (ix4 a b k n) = upArg m c (ix4 a b k n) := by
  unfold V
  after_reads_at
theorem down_at (a b : Fin 2) (n : Fin 2816) (k : Fin 1024) :
    (V m c main_v2 : FVec Ideal S2x2x2816x1024 .bf16) (ix4 a b n k) = downArg m c (ix4 a b n k) := by
  unfold V
  after_reads_at

/-! ## The blocks a grid point reads -/

theorem point_lt (t : Fin cfg0.N) : (grid0.coords t 0).val < 32 := (grid0.coords t 0).isLt

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0, 0, 0] :=
  (by decide +kernel : ∀ t : Fin grid0.N, win0_4.index t = ![0, 0, 0, 0])
theorem index5 : ∀ t : Fin cfg0.N, win0_5.index t = ![0, 0, 0, 0] :=
  (by decide +kernel : ∀ t : Fin grid0.N, win0_5.index t = ![0, 0, 0, 0])
theorem index6 : ∀ t : Fin cfg0.N, win0_6.index t = ![0, 0, 0, 0] :=
  (by decide +kernel : ∀ t : Fin grid0.N, win0_6.index t = ![0, 0, 0, 0])
theorem index7 : ∀ t : Fin cfg0.N, win0_7.index t = ![(grid0.coords t 0).val, 0] :=
  (by decide +kernel : ∀ t : Fin grid0.N, win0_7.index t = ![(grid0.coords t 0).val, 0])

theorem block0 (t : Fin cfg0.N) (r : Fin 512) (k : Fin 1024) :
    (iblk m c 0 t : FVec Ideal S512x1024 .f32) (ix2 r k)
      = (V m c main_v3 : FVec Ideal S16384x1024 .f32) (ix2 ⟨512 * (grid0.coords t 0).val + r.val, by have := point_lt t; omega⟩ k) := by
  blk_ext [iblk, index0 t]
theorem block1 (t : Fin cfg0.N) (a : Fin 3) (k : Fin 1024) :
    (iblk m c 1 t : FVec Ideal S3x1024 .f32) (ix2 a k) = (V m c main_v5 : FVec Ideal S3x1024 .f32) (ix2 a k) := by
  blk_ext [iblk, index1 t]
theorem block2 (t : Fin cfg0.N) (k : Fin 1024) :
    (iblk m c 2 t : FVec Ideal S1x1024 .f32) (ix2 0 k) = (V m c main_v10 : FVec Ideal S1x1024 .f32) (ix2 0 k) := by
  blk_ext [iblk, index2 t]
theorem block3 (t : Fin cfg0.N) (k : Fin 1024) :
    (iblk m c 3 t : FVec Ideal S1x1024 .f32) (ix2 0 k) = (V m c main_v11 : FVec Ideal S1x1024 .f32) (ix2 0 k) := by
  blk_ext [iblk, index3 t]
theorem block4 (t : Fin cfg0.N) (k : Fin 1024) (n : Fin 2816) :
    (iblk m c 4 t : FVec Ideal S1x1x1024x2816 .bf16) (ix4 0 0 k n)
      = (V m c main_v0 : FVec Ideal S2x2x1024x2816 .bf16) (ix4 0 0 k n) := by
  blk_ext [iblk, index4 t]
theorem block5 (t : Fin cfg0.N) (k : Fin 1024) (n : Fin 2816) :
    (iblk m c 5 t : FVec Ideal S1x1x1024x2816 .bf16) (ix4 0 0 k n)
      = (V m c main_v1 : FVec Ideal S2x2x1024x2816 .bf16) (ix4 0 0 k n) := by
  blk_ext [iblk, index5 t]
theorem block6 (t : Fin cfg0.N) (n : Fin 2816) (k : Fin 1024) :
    (iblk m c 6 t : FVec Ideal S1x1x2816x1024 .bf16) (ix4 0 0 n k)
      = (V m c main_v2 : FVec Ideal S2x2x2816x1024 .bf16) (ix4 0 0 n k) := by
  blk_ext [iblk, index6 t]

/-- A block's element is the array's. -/
theorem block_eq (t : Fin cfg0.N) (r : Fin 512) (j : Fin 1024) :
    (out0_7 (F := Ideal) (iblk m c 0 t) (iblk m c 1 t) (iblk m c 2 t) (iblk m c 3 t) (iblk m c 4 t) (iblk m c 5 t) (iblk m c 6 t)
        (ix2 r j) : EReal)
      = resultV m c (ix2 ⟨512 * (grid0.coords t 0).val + r.val, by have := point_lt t; omega⟩ j) := by
  refine (FfnBlock.out_at (iblk m c 0 t) (iblk m c 1 t) (iblk m c 2 t) (iblk m c 3 t) (iblk m c 4 t) (iblk m c 5 t) (iblk m c 6 t)
    r j).trans ?_
  exact FfnMath.half_congr (fun k => (block0 m c t r k).trans (x_at m c _ k)) (fun k => (block1 m c t 0 k).trans (mod_at m c 0 k))
    (fun k => (block1 m c t 1 k).trans (mod_at m c 1 k)) (fun k => (block1 m c t 2 k).trans (mod_at m c 2 k))
    (fun k => (block2 m c t k).trans (pre_at m c k)) (fun k => (block3 m c t k).trans (post_at m c k))
    (fun k n => (block4 m c t k n).trans (gate_at m c _ _ k n)) (fun k n => (block5 m c t k n).trans (up_at m c _ _ k n))
    (fun n k => (block6 m c t n k).trans (down_at m c _ _ n k)) j

/-- The launch leaves the half of the layer. -/
theorem array_eq : (dats m 0 c).arrAt 7 cfg0.N = resultV m c := by
  refine (dats m 0 c).arrAt_eq_of_covers 7 _ (by decide +kernel) fun t hf y => ?_
  blk_simp
  rw [after0_7]
  have hy : y = ix2 (y 0) (y 1) := by funext a; fin_cases a <;> rfl
  have hz : (win0_7.blk t).view.emb y
      = (ix2 ⟨512 * (grid0.coords t 0).val + (y 0).val, by have := point_lt t; have : (y 0).val < 512 := (y 0).isLt; omega⟩ (y 1) : S16384x1024.Idx) := by
    blk_ext [index7 t]
  refine (congrArg _ hy).trans ((block_eq m c t (y 0) (y 1)).trans (congrArg (resultV m c) hz.symm))

end Launch

/-! ## The reference -/

section Reference

open Cert.Ffn00ReferenceIdeal Cert.Ffn00ReferenceIdeal.Gen

variable (m : (ℓ : Loc nD τ sig) → Buf (Elt Ideal) ℓ) (c : Dev nD)

def modR (a : FVec Ideal S2x3x3x1024 .f32) : FVec Ideal S3x1024 .f32 :=
  shapeCast _ (extractStridedSlice S1x1x3x1024 ![0, 0, 0, 0] a slices_S2x3x3x1024_S1x1x3x1024_0_0_0_0) shapeCasts_S1x1x3x1024_S3x1024
def normR (a : FVec Ideal S2x3x1024 .f32) : FVec Ideal S1024 .f32 :=
  shapeCast _ (extractStridedSlice S1x1x1024 ![0, 0, 0] a slices_S2x3x1024_S1x1x1024_0_0_0) shapeCasts_S1x1x1024_S1024
def inR (a : FVec Ideal S2x2x1024x2816 .f32) : FVec Ideal S1024x2816 .f32 :=
  shapeCast _ (extractStridedSlice S1x1x1024x2816 ![0, 0, 0, 0] a slices_S2x2x1024x2816_S1x1x1024x2816_0_0_0_0) shapeCasts_S1x1x1024x2816_S1024x2816
def outR (a : FVec Ideal S2x2x2816x1024 .f32) : FVec Ideal S2816x1024 .f32 :=
  shapeCast _ (extractStridedSlice S1x1x2816x1024 ![0, 0, 0, 0] a slices_S2x2x2816x1024_S1x1x2816x1024_0_0_0_0) shapeCasts_S1x1x2816x1024_S2816x1024
def rowsR (x : FVec Ideal S1x16384x1024 .f32) : FVec Ideal S16384x1024 .f32 := shapeCast _ x shapeCasts_S1x16384x1024_S16384x1024

theorem modR_at (x : FVec Ideal S2x3x3x1024 .f32) (a : Fin 3) (k : Fin 1024) : (modR x (ix2 a k) : EReal) = x (ix4 0 0 a k) := by
  unfold modR
  pointwise
theorem normR_at (x : FVec Ideal S2x3x1024 .f32) (k : Fin 1024) : (normR x (ix1 k) : EReal) = x (ix3 0 0 k) := by
  unfold normR
  pointwise
theorem inR_at (x : FVec Ideal S2x2x1024x2816 .f32) (k : Fin 1024) (n : Fin 2816) : (inR x (ix2 k n) : EReal) = x (ix4 0 0 k n) := by
  unfold inR
  pointwise
theorem outR_at (x : FVec Ideal S2x2x2816x1024 .f32) (n : Fin 2816) (k : Fin 1024) : (outR x (ix2 n k) : EReal) = x (ix4 0 0 n k) := by
  unfold outR
  pointwise
theorem rowsR_at (x : FVec Ideal S1x16384x1024 .f32) (r : Fin 16384) (k : Fin 1024) : (rowsR x (ix2 r k) : EReal) = x (ix3 0 r k) := by
  unfold rowsR
  pointwise

theorem res_eq : Cert.Ffn00ReferenceIdeal.Value.res_out0 m c
    = FfnRef.halfR (rowsR (m ((c.tc : Thread nD τ).loc main_arg0)))
        (FfnRef.modRow0 (modR (m ((c.tc : Thread nD τ).loc main_arg1)))) (FfnRef.modRow1 (modR (m ((c.tc : Thread nD τ).loc main_arg1))))
        (FfnRef.modRow2 (modR (m ((c.tc : Thread nD τ).loc main_arg1)))) (normR (m ((c.tc : Thread nD τ).loc main_arg2)))
        (normR (m ((c.tc : Thread nD τ).loc main_arg3))) (inR (m ((c.tc : Thread nD τ).loc main_arg4)))
        (inR (m ((c.tc : Thread nD τ).loc main_arg5))) (outR (m ((c.tc : Thread nD τ).loc main_arg6))) := rfl

/-- The reference's result is the half of the layer, of its arguments. -/
theorem reference_eq : Cert.Ffn00ReferenceIdeal.Value.res_out0 m c
    = FfnMath.halfArr 0 0 0 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [res_eq]
  funext y
  rw [show y = ix2 (y 0) (y 1) by funext a; fin_cases a <;> rfl]
  refine (FfnRef.half_at _ _ _ _ _ _ _ _ _ _ _).trans ?_
  exact FfnMath.half_congr (fun k => rowsR_at _ _ k) (fun k => (FfnRef.modRow0_at _ k).trans (modR_at _ 0 k))
    (fun k => (FfnRef.modRow1_at _ k).trans (modR_at _ 1 k)) (fun k => (FfnRef.modRow2_at _ k).trans (modR_at _ 2 k))
    (fun k => normR_at _ k) (fun k => normR_at _ k) (fun k n => inR_at _ k n) (fun k n => inR_at _ k n) (fun n k => outR_at _ n k) _

end Reference

/-! ## The claims -/

theorem frame_launch : Cert.quiescent_Ffn00 (hFfn00 := Cert.Ffn00.Gen.facts) := fun m ρ _ => Cert.Ffn00.Gen.frame m ρ

theorem frame_ideal : Cert.quiescent_Ffn00Ideal (hFfn00Ideal := Cert.Ffn00Ideal.Gen.facts) :=
  fun m ρ _ => Cert.Ffn00Ideal.Gen.frame m ρ

theorem frame_reference : Cert.quiescent_Ffn00ReferenceIdeal (hFfn00ReferenceIdeal := Cert.Ffn00ReferenceIdeal.Gen.facts) :=
  fun m g _ =>
    -- its run, read at its arguments; it declares no counter
    (θ_run (Cert.Ffn00ReferenceIdeal.defs (F := Ideal)) _ _).mono (fun r h => ⟨fun c => (h c).2, sem_eq_zero_of_no_sems (by decide) r.2⟩)
      (Cert.Ffn00ReferenceIdeal.Value.run (F := Ideal) m g)

theorem algebraic : Cert.algebraic_Ffn00Ideal_Ffn00ReferenceIdeal (hFfn00Ideal := Cert.Ffn00Ideal.Gen.facts)
    (hFfn00ReferenceIdeal := Cert.Ffn00ReferenceIdeal.Gen.facts) := by
  intro m g m' g' _ hagree
  refine ⟨fun c => resultV m c, ?_, ?_⟩
  · refine (θ_run _ _ _).mono (fun r h c => ?_) (Cert.Ffn00Ideal.Value.run_blocks (F := Ideal) m g)
    obtain ⟨h0, h1⟩ := h c
    exact ⟨h0.trans (array_eq m c), h1⟩
  · refine (θ_run _ _ _).mono (fun r h c => ?_) (Cert.Ffn00ReferenceIdeal.Value.run (F := Ideal) m' g')
    obtain ⟨h0, h1⟩ := h c
    refine ⟨h0.trans ((reference_eq m' c).trans ?_), h1⟩
    obtain ⟨e0, e1, e2, e3, e4, e5, e6⟩ := hagree c
    rw [e0, e1, e2, e3, e4, e5, e6]
    rfl

end Cert.Ffn00Eq

end
-- ==== Proof.Ffn01Eq.lean ====
/- The feed-forward half 1 of layer 0: its launch's result and its reference's are the same array. -/
module

public import proofs.«01_k».proof.Defs
public import proofs.«01_k».proof.Proof.FfnBlock
public import proofs.«01_k».proof.Proof.FfnRef
public import proofs.«01_k».proof.Proof.Gen.Ffn01.Frame
public import proofs.«01_k».proof.Proof.Gen.Ffn01Ideal.Value
public import proofs.«01_k».proof.Proof.Gen.Ffn01ReferenceIdeal.Run
public import Idealize.ShloMosaic.Lib.Claim
public import Idealize.ShloMosaic.Lib.Pipeline.ValueKit
public import Idealize.ShloMosaic.Lib.StableHlo.ReadAt

@[expose] public section

set_option maxRecDepth 16384

noncomputable section

namespace Cert.Ffn01Eq

open Idealize.ShloMosaic Idealize.ShloMosaic.TcCoe Idealize.SL.Sem

section Launch

open Cert.Ffn01Ideal Cert.Ffn01Ideal.Gen

variable (m : (ℓ : Loc nD τ sig) → Buf (Elt Ideal) ℓ) (c : Dev nD)

/-- The arguments on a device. -/
abbrev xArg : FVec Ideal S1x16384x1024 .f32 := m ((c.tc : Thread nD τ).loc main_arg0)
abbrev modArg : FVec Ideal S2x3x3x1024 .f32 := m ((c.tc : Thread nD τ).loc main_arg1)
abbrev preArg : FVec Ideal S2x3x1024 .f32 := m ((c.tc : Thread nD τ).loc main_arg2)
abbrev postArg : FVec Ideal S2x3x1024 .f32 := m ((c.tc : Thread nD τ).loc main_arg3)
abbrev gateArg : FVec Ideal S2x2x1024x2816 .f32 := m ((c.tc : Thread nD τ).loc main_arg4)
abbrev upArg : FVec Ideal S2x2x1024x2816 .f32 := m ((c.tc : Thread nD τ).loc main_arg5)
abbrev downArg : FVec Ideal S2x2x2816x1024 .f32 := m ((c.tc : Thread nD τ).loc main_arg6)

/-- The half of the layer, of the launch's arguments. -/
def resultV : FVec Ideal S16384x1024 .f32 :=
  FfnMath.halfArr 0 1 2 (xArg m c) (modArg m c) (preArg m c) (postArg m c) (gateArg m c) (upArg m c) (downArg m c)

/-! ## What the host hands the launch -/

theorem x_at (r : Fin 16384) (k : Fin 1024) : (V m c main_v3 : FVec Ideal S16384x1024 .f32) (ix2 r k) = xArg m c (ix3 0 r k) := by
  unfold V
  after_reads_at
theorem mod_at (a : Fin 3) (k : Fin 1024) : (V m c main_v5 : FVec Ideal S3x1024 .f32) (ix2 a k) = modArg m c (ix4 0 2 a k) := by
  unfold V
  after_reads_at
theorem pre_at (k : Fin 1024) : (V m c main_v10 : FVec Ideal S1x1024 .f32) (ix2 0 k) = preArg m c (ix3 0 2 k) := by
  unfold V
  after_reads_at
theorem post_at (k : Fin 1024) : (V m c main_v11 : FVec Ideal S1x1024 .f32) (ix2 0 k) = postArg m c (ix3 0 2 k) := by
  unfold V
  after_reads_at
theorem gate_at (a b : Fin 2) (k : Fin 1024) (n : Fin 2816) :
    (V m c main_v0 : FVec Ideal S2x2x1024x2816 .bf16) (ix4 a b k n) = gateArg m c (ix4 a b k n) := by
  unfold V
  after_reads_at
theorem up_at (a b : Fin 2) (k : Fin 1024) (n : Fin 2816) :
    (V m c main_v1 : FVec Ideal S2x2x1024x2816 .bf16) (ix4 a b k n) = upArg m c (ix4 a b k n) := by
  unfold V
  after_reads_at
theorem down_at (a b : Fin 2) (n : Fin 2816) (k : Fin 1024) :
    (V m c main_v2 : FVec Ideal S2x2x2816x1024 .bf16) (ix4 a b n k) = downArg m c (ix4 a b n k) := by
  unfold V
  after_reads_at

/-! ## The blocks a grid point reads -/

theorem point_lt (t : Fin cfg0.N) : (grid0.coords t 0).val < 32 := (grid0.coords t 0).isLt

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 1, 0, 0] :=
  (by decide +kernel : ∀ t : Fin grid0.N, win0_4.index t = ![0, 1, 0, 0])
theorem index5 : ∀ t : Fin cfg0.N, win0_5.index t = ![0, 1, 0, 0] :=
  (by decide +kernel : ∀ t : Fin grid0.N, win0_5.index t = ![0, 1, 0, 0])
theorem index6 : ∀ t : Fin cfg0.N, win0_6.index t = ![0, 1, 0, 0] :=
  (by decide +kernel : ∀ t : Fin grid0.N, win0_6.index t = ![0, 1, 0, 0])
theorem index7 : ∀ t : Fin cfg0.N, win0_7.index t = ![(grid0.coords t 0).val, 0] :=
  (by decide +kernel : ∀ t : Fin grid0.N, win0_7.index t = ![(grid0.coords t 0).val, 0])

theorem block0 (t : Fin cfg0.N) (r : Fin 512) (k : Fin 1024) :
    (iblk m c 0 t : FVec Ideal S512x1024 .f32) (ix2 r k)
      = (V m c main_v3 : FVec Ideal S16384x1024 .f32) (ix2 ⟨512 * (grid0.coords t 0).val + r.val, by have := point_lt t; omega⟩ k) := by
  blk_ext [iblk, index0 t]
theorem block1 (t : Fin cfg0.N) (a : Fin 3) (k : Fin 1024) :
    (iblk m c 1 t : FVec Ideal S3x1024 .f32) (ix2 a k) = (V m c main_v5 : FVec Ideal S3x1024 .f32) (ix2 a k) := by
  blk_ext [iblk, index1 t]
theorem block2 (t : Fin cfg0.N) (k : Fin 1024) :
    (iblk m c 2 t : FVec Ideal S1x1024 .f32) (ix2 0 k) = (V m c main_v10 : FVec Ideal S1x1024 .f32) (ix2 0 k) := by
  blk_ext [iblk, index2 t]
theorem block3 (t : Fin cfg0.N) (k : Fin 1024) :
    (iblk m c 3 t : FVec Ideal S1x1024 .f32) (ix2 0 k) = (V m c main_v11 : FVec Ideal S1x1024 .f32) (ix2 0 k) := by
  blk_ext [iblk, index3 t]
theorem block4 (t : Fin cfg0.N) (k : Fin 1024) (n : Fin 2816) :
    (iblk m c 4 t : FVec Ideal S1x1x1024x2816 .bf16) (ix4 0 0 k n)
      = (V m c main_v0 : FVec Ideal S2x2x1024x2816 .bf16) (ix4 0 1 k n) := by
  blk_ext [iblk, index4 t]
theorem block5 (t : Fin cfg0.N) (k : Fin 1024) (n : Fin 2816) :
    (iblk m c 5 t : FVec Ideal S1x1x1024x2816 .bf16) (ix4 0 0 k n)
      = (V m c main_v1 : FVec Ideal S2x2x1024x2816 .bf16) (ix4 0 1 k n) := by
  blk_ext [iblk, index5 t]
theorem block6 (t : Fin cfg0.N) (n : Fin 2816) (k : Fin 1024) :
    (iblk m c 6 t : FVec Ideal S1x1x2816x1024 .bf16) (ix4 0 0 n k)
      = (V m c main_v2 : FVec Ideal S2x2x2816x1024 .bf16) (ix4 0 1 n k) := by
  blk_ext [iblk, index6 t]

/-- A block's element is the array's. -/
theorem block_eq (t : Fin cfg0.N) (r : Fin 512) (j : Fin 1024) :
    (out0_7 (F := Ideal) (iblk m c 0 t) (iblk m c 1 t) (iblk m c 2 t) (iblk m c 3 t) (iblk m c 4 t) (iblk m c 5 t) (iblk m c 6 t)
        (ix2 r j) : EReal)
      = resultV m c (ix2 ⟨512 * (grid0.coords t 0).val + r.val, by have := point_lt t; omega⟩ j) := by
  refine (FfnBlock.out_at (iblk m c 0 t) (iblk m c 1 t) (iblk m c 2 t) (iblk m c 3 t) (iblk m c 4 t) (iblk m c 5 t) (iblk m c 6 t)
    r j).trans ?_
  exact FfnMath.half_congr (fun k => (block0 m c t r k).trans (x_at m c _ k)) (fun k => (block1 m c t 0 k).trans (mod_at m c 0 k))
    (fun k => (block1 m c t 1 k).trans (mod_at m c 1 k)) (fun k => (block1 m c t 2 k).trans (mod_at m c 2 k))
    (fun k => (block2 m c t k).trans (pre_at m c k)) (fun k => (block3 m c t k).trans (post_at m c k))
    (fun k n => (block4 m c t k n).trans (gate_at m c _ _ k n)) (fun k n => (block5 m c t k n).trans (up_at m c _ _ k n))
    (fun n k => (block6 m c t n k).trans (down_at m c _ _ n k)) j

/-- The launch leaves the half of the layer. -/
theorem array_eq : (dats m 0 c).arrAt 7 cfg0.N = resultV m c := by
  refine (dats m 0 c).arrAt_eq_of_covers 7 _ (by decide +kernel) fun t hf y => ?_
  blk_simp
  rw [after0_7]
  have hy : y = ix2 (y 0) (y 1) := by funext a; fin_cases a <;> rfl
  have hz : (win0_7.blk t).view.emb y
      = (ix2 ⟨512 * (grid0.coords t 0).val + (y 0).val, by have := point_lt t; have : (y 0).val < 512 := (y 0).isLt; omega⟩ (y 1) : S16384x1024.Idx) := by
    blk_ext [index7 t]
  refine (congrArg _ hy).trans ((block_eq m c t (y 0) (y 1)).trans (congrArg (resultV m c) hz.symm))

end Launch

/-! ## The reference -/

section Reference

open Cert.Ffn01ReferenceIdeal Cert.Ffn01ReferenceIdeal.Gen

variable (m : (ℓ : Loc nD τ sig) → Buf (Elt Ideal) ℓ) (c : Dev nD)

def modR (a : FVec Ideal S2x3x3x1024 .f32) : FVec Ideal S3x1024 .f32 :=
  shapeCast _ (extractStridedSlice S1x1x3x1024 ![0, 2, 0, 0] a slices_S2x3x3x1024_S1x1x3x1024_0_2_0_0) shapeCasts_S1x1x3x1024_S3x1024
def normR (a : FVec Ideal S2x3x1024 .f32) : FVec Ideal S1024 .f32 :=
  shapeCast _ (extractStridedSlice S1x1x1024 ![0, 2, 0] a slices_S2x3x1024_S1x1x1024_0_2_0) shapeCasts_S1x1x1024_S1024
def inR (a : FVec Ideal S2x2x1024x2816 .f32) : FVec Ideal S1024x2816 .f32 :=
  shapeCast _ (extractStridedSlice S1x1x1024x2816 ![0, 1, 0, 0] a slices_S2x2x1024x2816_S1x1x1024x2816_0_1_0_0) shapeCasts_S1x1x1024x2816_S1024x2816
def outR (a : FVec Ideal S2x2x2816x1024 .f32) : FVec Ideal S2816x1024 .f32 :=
  shapeCast _ (extractStridedSlice S1x1x2816x1024 ![0, 1, 0, 0] a slices_S2x2x2816x1024_S1x1x2816x1024_0_1_0_0) shapeCasts_S1x1x2816x1024_S2816x1024
def rowsR (x : FVec Ideal S1x16384x1024 .f32) : FVec Ideal S16384x1024 .f32 := shapeCast _ x shapeCasts_S1x16384x1024_S16384x1024

theorem modR_at (x : FVec Ideal S2x3x3x1024 .f32) (a : Fin 3) (k : Fin 1024) : (modR x (ix2 a k) : EReal) = x (ix4 0 2 a k) := by
  unfold modR
  pointwise
theorem normR_at (x : FVec Ideal S2x3x1024 .f32) (k : Fin 1024) : (normR x (ix1 k) : EReal) = x (ix3 0 2 k) := by
  unfold normR
  pointwise
theorem inR_at (x : FVec Ideal S2x2x1024x2816 .f32) (k : Fin 1024) (n : Fin 2816) : (inR x (ix2 k n) : EReal) = x (ix4 0 1 k n) := by
  unfold inR
  pointwise
theorem outR_at (x : FVec Ideal S2x2x2816x1024 .f32) (n : Fin 2816) (k : Fin 1024) : (outR x (ix2 n k) : EReal) = x (ix4 0 1 n k) := by
  unfold outR
  pointwise
theorem rowsR_at (x : FVec Ideal S1x16384x1024 .f32) (r : Fin 16384) (k : Fin 1024) : (rowsR x (ix2 r k) : EReal) = x (ix3 0 r k) := by
  unfold rowsR
  pointwise

theorem res_eq : Cert.Ffn01ReferenceIdeal.Value.res_out0 m c
    = FfnRef.halfR (rowsR (m ((c.tc : Thread nD τ).loc main_arg0)))
        (FfnRef.modRow0 (modR (m ((c.tc : Thread nD τ).loc main_arg1)))) (FfnRef.modRow1 (modR (m ((c.tc : Thread nD τ).loc main_arg1))))
        (FfnRef.modRow2 (modR (m ((c.tc : Thread nD τ).loc main_arg1)))) (normR (m ((c.tc : Thread nD τ).loc main_arg2)))
        (normR (m ((c.tc : Thread nD τ).loc main_arg3))) (inR (m ((c.tc : Thread nD τ).loc main_arg4)))
        (inR (m ((c.tc : Thread nD τ).loc main_arg5))) (outR (m ((c.tc : Thread nD τ).loc main_arg6))) := rfl

/-- The reference's result is the half of the layer, of its arguments. -/
theorem reference_eq : Cert.Ffn01ReferenceIdeal.Value.res_out0 m c
    = FfnMath.halfArr 0 1 2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [res_eq]
  funext y
  rw [show y = ix2 (y 0) (y 1) by funext a; fin_cases a <;> rfl]
  refine (FfnRef.half_at _ _ _ _ _ _ _ _ _ _ _).trans ?_
  exact FfnMath.half_congr (fun k => rowsR_at _ _ k) (fun k => (FfnRef.modRow0_at _ k).trans (modR_at _ 0 k))
    (fun k => (FfnRef.modRow1_at _ k).trans (modR_at _ 1 k)) (fun k => (FfnRef.modRow2_at _ k).trans (modR_at _ 2 k))
    (fun k => normR_at _ k) (fun k => normR_at _ k) (fun k n => inR_at _ k n) (fun k n => inR_at _ k n) (fun n k => outR_at _ n k) _

end Reference

/-! ## The claims -/

theorem frame_launch : Cert.quiescent_Ffn01 (hFfn01 := Cert.Ffn01.Gen.facts) := fun m ρ _ => Cert.Ffn01.Gen.frame m ρ

theorem frame_ideal : Cert.quiescent_Ffn01Ideal (hFfn01Ideal := Cert.Ffn01Ideal.Gen.facts) :=
  fun m ρ _ => Cert.Ffn01Ideal.Gen.frame m ρ

theorem frame_reference : Cert.quiescent_Ffn01ReferenceIdeal (hFfn01ReferenceIdeal := Cert.Ffn01ReferenceIdeal.Gen.facts) :=
  fun m g _ =>
    -- its run, read at its arguments; it declares no counter
    (θ_run (Cert.Ffn01ReferenceIdeal.defs (F := Ideal)) _ _).mono (fun r h => ⟨fun c => (h c).2, sem_eq_zero_of_no_sems (by decide) r.2⟩)
      (Cert.Ffn01ReferenceIdeal.Value.run (F := Ideal) m g)

theorem algebraic : Cert.algebraic_Ffn01Ideal_Ffn01ReferenceIdeal (hFfn01Ideal := Cert.Ffn01Ideal.Gen.facts)
    (hFfn01ReferenceIdeal := Cert.Ffn01ReferenceIdeal.Gen.facts) := by
  intro m g m' g' _ hagree
  refine ⟨fun c => resultV m c, ?_, ?_⟩
  · refine (θ_run _ _ _).mono (fun r h c => ?_) (Cert.Ffn01Ideal.Value.run_blocks (F := Ideal) m g)
    obtain ⟨h0, h1⟩ := h c
    exact ⟨h0.trans (array_eq m c), h1⟩
  · refine (θ_run _ _ _).mono (fun r h c => ?_) (Cert.Ffn01ReferenceIdeal.Value.run (F := Ideal) m' g')
    obtain ⟨h0, h1⟩ := h c
    refine ⟨h0.trans ((reference_eq m' c).trans ?_), h1⟩
    obtain ⟨e0, e1, e2, e3, e4, e5, e6⟩ := hagree c
    rw [e0, e1, e2, e3, e4, e5, e6]
    rfl

end Cert.Ffn01Eq

end
-- ==== Proof.Ffn10Eq.lean ====
/- The feed-forward half 0 of layer 1: its launch's result and its reference's are the same array. -/
module

public import proofs.«01_k».proof.Defs
public import proofs.«01_k».proof.Proof.FfnBlock
public import proofs.«01_k».proof.Proof.FfnRef
public import proofs.«01_k».proof.Proof.Gen.Ffn10.Frame
public import proofs.«01_k».proof.Proof.Gen.Ffn10Ideal.Value
public import proofs.«01_k».proof.Proof.Gen.Ffn10ReferenceIdeal.Run
public import Idealize.ShloMosaic.Lib.Claim
public import Idealize.ShloMosaic.Lib.Pipeline.ValueKit
public import Idealize.ShloMosaic.Lib.StableHlo.ReadAt

@[expose] public section

set_option maxRecDepth 16384

noncomputable section

namespace Cert.Ffn10Eq

open Idealize.ShloMosaic Idealize.ShloMosaic.TcCoe Idealize.SL.Sem

section Launch

open Cert.Ffn10Ideal Cert.Ffn10Ideal.Gen

variable (m : (ℓ : Loc nD τ sig) → Buf (Elt Ideal) ℓ) (c : Dev nD)

/-- The arguments on a device. -/
abbrev xArg : FVec Ideal S1x16384x1024 .f32 := m ((c.tc : Thread nD τ).loc main_arg0)
abbrev modArg : FVec Ideal S2x3x3x1024 .f32 := m ((c.tc : Thread nD τ).loc main_arg1)
abbrev preArg : FVec Ideal S2x3x1024 .f32 := m ((c.tc : Thread nD τ).loc main_arg2)
abbrev postArg : FVec Ideal S2x3x1024 .f32 := m ((c.tc : Thread nD τ).loc main_arg3)
abbrev gateArg : FVec Ideal S2x2x1024x2816 .f32 := m ((c.tc : Thread nD τ).loc main_arg4)
abbrev upArg : FVec Ideal S2x2x1024x2816 .f32 := m ((c.tc : Thread nD τ).loc main_arg5)
abbrev downArg : FVec Ideal S2x2x2816x1024 .f32 := m ((c.tc : Thread nD τ).loc main_arg6)

/-- The half of the layer, of the launch's arguments. -/
def resultV : FVec Ideal S16384x1024 .f32 :=
  FfnMath.halfArr 1 0 0 (xArg m c) (modArg m c) (preArg m c) (postArg m c) (gateArg m c) (upArg m c) (downArg m c)

/-! ## What the host hands the launch -/

theorem x_at (r : Fin 16384) (k : Fin 1024) : (V m c main_v3 : FVec Ideal S16384x1024 .f32) (ix2 r k) = xArg m c (ix3 0 r k) := by
  unfold V
  after_reads_at
theorem mod_at (a : Fin 3) (k : Fin 1024) : (V m c main_v5 : FVec Ideal S3x1024 .f32) (ix2 a k) = modArg m c (ix4 1 0 a k) := by
  unfold V
  after_reads_at
theorem pre_at (k : Fin 1024) : (V m c main_v10 : FVec Ideal S1x1024 .f32) (ix2 0 k) = preArg m c (ix3 1 0 k) := by
  unfold V
  after_reads_at
theorem post_at (k : Fin 1024) : (V m c main_v11 : FVec Ideal S1x1024 .f32) (ix2 0 k) = postArg m c (ix3 1 0 k) := by
  unfold V
  after_reads_at
theorem gate_at (a b : Fin 2) (k : Fin 1024) (n : Fin 2816) :
    (V m c main_v0 : FVec Ideal S2x2x1024x2816 .bf16) (ix4 a b k n) = gateArg m c (ix4 a b k n) := by
  unfold V
  after_reads_at
theorem up_at (a b : Fin 2) (k : Fin 1024) (n : Fin 2816) :
    (V m c main_v1 : FVec Ideal S2x2x1024x2816 .bf16) (ix4 a b k n) = upArg m c (ix4 a b k n) := by
  unfold V
  after_reads_at
theorem down_at (a b : Fin 2) (n : Fin 2816) (k : Fin 1024) :
    (V m c main_v2 : FVec Ideal S2x2x2816x1024 .bf16) (ix4 a b n k) = downArg m c (ix4 a b n k) := by
  unfold V
  after_reads_at

/-! ## The blocks a grid point reads -/

theorem point_lt (t : Fin cfg0.N) : (grid0.coords t 0).val < 32 := (grid0.coords t 0).isLt

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![1, 0, 0, 0] :=
  (by decide +kernel : ∀ t : Fin grid0.N, win0_4.index t = ![1, 0, 0, 0])
theorem index5 : ∀ t : Fin cfg0.N, win0_5.index t = ![1, 0, 0, 0] :=
  (by decide +kernel : ∀ t : Fin grid0.N, win0_5.index t = ![1, 0, 0, 0])
theorem index6 : ∀ t : Fin cfg0.N, win0_6.index t = ![1, 0, 0, 0] :=
  (by decide +kernel : ∀ t : Fin grid0.N, win0_6.index t = ![1, 0, 0, 0])
theorem index7 : ∀ t : Fin cfg0.N, win0_7.index t = ![(grid0.coords t 0).val, 0] :=
  (by decide +kernel : ∀ t : Fin grid0.N, win0_7.index t = ![(grid0.coords t 0).val, 0])

theorem block0 (t : Fin cfg0.N) (r : Fin 512) (k : Fin 1024) :
    (iblk m c 0 t : FVec Ideal S512x1024 .f32) (ix2 r k)
      = (V m c main_v3 : FVec Ideal S16384x1024 .f32) (ix2 ⟨512 * (grid0.coords t 0).val + r.val, by have := point_lt t; omega⟩ k) := by
  blk_ext [iblk, index0 t]
theorem block1 (t : Fin cfg0.N) (a : Fin 3) (k : Fin 1024) :
    (iblk m c 1 t : FVec Ideal S3x1024 .f32) (ix2 a k) = (V m c main_v5 : FVec Ideal S3x1024 .f32) (ix2 a k) := by
  blk_ext [iblk, index1 t]
theorem block2 (t : Fin cfg0.N) (k : Fin 1024) :
    (iblk m c 2 t : FVec Ideal S1x1024 .f32) (ix2 0 k) = (V m c main_v10 : FVec Ideal S1x1024 .f32) (ix2 0 k) := by
  blk_ext [iblk, index2 t]
theorem block3 (t : Fin cfg0.N) (k : Fin 1024) :
    (iblk m c 3 t : FVec Ideal S1x1024 .f32) (ix2 0 k) = (V m c main_v11 : FVec Ideal S1x1024 .f32) (ix2 0 k) := by
  blk_ext [iblk, index3 t]
theorem block4 (t : Fin cfg0.N) (k : Fin 1024) (n : Fin 2816) :
    (iblk m c 4 t : FVec Ideal S1x1x1024x2816 .bf16) (ix4 0 0 k n)
      = (V m c main_v0 : FVec Ideal S2x2x1024x2816 .bf16) (ix4 1 0 k n) := by
  blk_ext [iblk, index4 t]
theorem block5 (t : Fin cfg0.N) (k : Fin 1024) (n : Fin 2816) :
    (iblk m c 5 t : FVec Ideal S1x1x1024x2816 .bf16) (ix4 0 0 k n)
      = (V m c main_v1 : FVec Ideal S2x2x1024x2816 .bf16) (ix4 1 0 k n) := by
  blk_ext [iblk, index5 t]
theorem block6 (t : Fin cfg0.N) (n : Fin 2816) (k : Fin 1024) :
    (iblk m c 6 t : FVec Ideal S1x1x2816x1024 .bf16) (ix4 0 0 n k)
      = (V m c main_v2 : FVec Ideal S2x2x2816x1024 .bf16) (ix4 1 0 n k) := by
  blk_ext [iblk, index6 t]

/-- A block's element is the array's. -/
theorem block_eq (t : Fin cfg0.N) (r : Fin 512) (j : Fin 1024) :
    (out0_7 (F := Ideal) (iblk m c 0 t) (iblk m c 1 t) (iblk m c 2 t) (iblk m c 3 t) (iblk m c 4 t) (iblk m c 5 t) (iblk m c 6 t)
        (ix2 r j) : EReal)
      = resultV m c (ix2 ⟨512 * (grid0.coords t 0).val + r.val, by have := point_lt t; omega⟩ j) := by
  refine (FfnBlock.out_at (iblk m c 0 t) (iblk m c 1 t) (iblk m c 2 t) (iblk m c 3 t) (iblk m c 4 t) (iblk m c 5 t) (iblk m c 6 t)
    r j).trans ?_
  exact FfnMath.half_congr (fun k => (block0 m c t r k).trans (x_at m c _ k)) (fun k => (block1 m c t 0 k).trans (mod_at m c 0 k))
    (fun k => (block1 m c t 1 k).trans (mod_at m c 1 k)) (fun k => (block1 m c t 2 k).trans (mod_at m c 2 k))
    (fun k => (block2 m c t k).trans (pre_at m c k)) (fun k => (block3 m c t k).trans (post_at m c k))
    (fun k n => (block4 m c t k n).trans (gate_at m c _ _ k n)) (fun k n => (block5 m c t k n).trans (up_at m c _ _ k n))
    (fun n k => (block6 m c t n k).trans (down_at m c _ _ n k)) j

/-- The launch leaves the half of the layer. -/
theorem array_eq : (dats m 0 c).arrAt 7 cfg0.N = resultV m c := by
  refine (dats m 0 c).arrAt_eq_of_covers 7 _ (by decide +kernel) fun t hf y => ?_
  blk_simp
  rw [after0_7]
  have hy : y = ix2 (y 0) (y 1) := by funext a; fin_cases a <;> rfl
  have hz : (win0_7.blk t).view.emb y
      = (ix2 ⟨512 * (grid0.coords t 0).val + (y 0).val, by have := point_lt t; have : (y 0).val < 512 := (y 0).isLt; omega⟩ (y 1) : S16384x1024.Idx) := by
    blk_ext [index7 t]
  refine (congrArg _ hy).trans ((block_eq m c t (y 0) (y 1)).trans (congrArg (resultV m c) hz.symm))

end Launch

/-! ## The reference -/

section Reference

open Cert.Ffn10ReferenceIdeal Cert.Ffn10ReferenceIdeal.Gen

variable (m : (ℓ : Loc nD τ sig) → Buf (Elt Ideal) ℓ) (c : Dev nD)

def modR (a : FVec Ideal S2x3x3x1024 .f32) : FVec Ideal S3x1024 .f32 :=
  shapeCast _ (extractStridedSlice S1x1x3x1024 ![1, 0, 0, 0] a slices_S2x3x3x1024_S1x1x3x1024_1_0_0_0) shapeCasts_S1x1x3x1024_S3x1024
def normR (a : FVec Ideal S2x3x1024 .f32) : FVec Ideal S1024 .f32 :=
  shapeCast _ (extractStridedSlice S1x1x1024 ![1, 0, 0] a slices_S2x3x1024_S1x1x1024_1_0_0) shapeCasts_S1x1x1024_S1024
def inR (a : FVec Ideal S2x2x1024x2816 .f32) : FVec Ideal S1024x2816 .f32 :=
  shapeCast _ (extractStridedSlice S1x1x1024x2816 ![1, 0, 0, 0] a slices_S2x2x1024x2816_S1x1x1024x2816_1_0_0_0) shapeCasts_S1x1x1024x2816_S1024x2816
def outR (a : FVec Ideal S2x2x2816x1024 .f32) : FVec Ideal S2816x1024 .f32 :=
  shapeCast _ (extractStridedSlice S1x1x2816x1024 ![1, 0, 0, 0] a slices_S2x2x2816x1024_S1x1x2816x1024_1_0_0_0) shapeCasts_S1x1x2816x1024_S2816x1024
def rowsR (x : FVec Ideal S1x16384x1024 .f32) : FVec Ideal S16384x1024 .f32 := shapeCast _ x shapeCasts_S1x16384x1024_S16384x1024

theorem modR_at (x : FVec Ideal S2x3x3x1024 .f32) (a : Fin 3) (k : Fin 1024) : (modR x (ix2 a k) : EReal) = x (ix4 1 0 a k) := by
  unfold modR
  pointwise
theorem normR_at (x : FVec Ideal S2x3x1024 .f32) (k : Fin 1024) : (normR x (ix1 k) : EReal) = x (ix3 1 0 k) := by
  unfold normR
  pointwise
theorem inR_at (x : FVec Ideal S2x2x1024x2816 .f32) (k : Fin 1024) (n : Fin 2816) : (inR x (ix2 k n) : EReal) = x (ix4 1 0 k n) := by
  unfold inR
  pointwise
theorem outR_at (x : FVec Ideal S2x2x2816x1024 .f32) (n : Fin 2816) (k : Fin 1024) : (outR x (ix2 n k) : EReal) = x (ix4 1 0 n k) := by
  unfold outR
  pointwise
theorem rowsR_at (x : FVec Ideal S1x16384x1024 .f32) (r : Fin 16384) (k : Fin 1024) : (rowsR x (ix2 r k) : EReal) = x (ix3 0 r k) := by
  unfold rowsR
  pointwise

theorem res_eq : Cert.Ffn10ReferenceIdeal.Value.res_out0 m c
    = FfnRef.halfR (rowsR (m ((c.tc : Thread nD τ).loc main_arg0)))
        (FfnRef.modRow0 (modR (m ((c.tc : Thread nD τ).loc main_arg1)))) (FfnRef.modRow1 (modR (m ((c.tc : Thread nD τ).loc main_arg1))))
        (FfnRef.modRow2 (modR (m ((c.tc : Thread nD τ).loc main_arg1)))) (normR (m ((c.tc : Thread nD τ).loc main_arg2)))
        (normR (m ((c.tc : Thread nD τ).loc main_arg3))) (inR (m ((c.tc : Thread nD τ).loc main_arg4)))
        (inR (m ((c.tc : Thread nD τ).loc main_arg5))) (outR (m ((c.tc : Thread nD τ).loc main_arg6))) := rfl

/-- The reference's result is the half of the layer, of its arguments. -/
theorem reference_eq : Cert.Ffn10ReferenceIdeal.Value.res_out0 m c
    = FfnMath.halfArr 1 0 0 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [res_eq]
  funext y
  rw [show y = ix2 (y 0) (y 1) by funext a; fin_cases a <;> rfl]
  refine (FfnRef.half_at _ _ _ _ _ _ _ _ _ _ _).trans ?_
  exact FfnMath.half_congr (fun k => rowsR_at _ _ k) (fun k => (FfnRef.modRow0_at _ k).trans (modR_at _ 0 k))
    (fun k => (FfnRef.modRow1_at _ k).trans (modR_at _ 1 k)) (fun k => (FfnRef.modRow2_at _ k).trans (modR_at _ 2 k))
    (fun k => normR_at _ k) (fun k => normR_at _ k) (fun k n => inR_at _ k n) (fun k n => inR_at _ k n) (fun n k => outR_at _ n k) _

end Reference

/-! ## The claims -/

theorem frame_launch : Cert.quiescent_Ffn10 (hFfn10 := Cert.Ffn10.Gen.facts) := fun m ρ _ => Cert.Ffn10.Gen.frame m ρ

theorem frame_ideal : Cert.quiescent_Ffn10Ideal (hFfn10Ideal := Cert.Ffn10Ideal.Gen.facts) :=
  fun m ρ _ => Cert.Ffn10Ideal.Gen.frame m ρ

theorem frame_reference : Cert.quiescent_Ffn10ReferenceIdeal (hFfn10ReferenceIdeal := Cert.Ffn10ReferenceIdeal.Gen.facts) :=
  fun m g _ =>
    -- its run, read at its arguments; it declares no counter
    (θ_run (Cert.Ffn10ReferenceIdeal.defs (F := Ideal)) _ _).mono (fun r h => ⟨fun c => (h c).2, sem_eq_zero_of_no_sems (by decide) r.2⟩)
      (Cert.Ffn10ReferenceIdeal.Value.run (F := Ideal) m g)

theorem algebraic : Cert.algebraic_Ffn10Ideal_Ffn10ReferenceIdeal (hFfn10Ideal := Cert.Ffn10Ideal.Gen.facts)
    (hFfn10ReferenceIdeal := Cert.Ffn10ReferenceIdeal.Gen.facts) := by
  intro m g m' g' _ hagree
  refine ⟨fun c => resultV m c, ?_, ?_⟩
  · refine (θ_run _ _ _).mono (fun r h c => ?_) (Cert.Ffn10Ideal.Value.run_blocks (F := Ideal) m g)
    obtain ⟨h0, h1⟩ := h c
    exact ⟨h0.trans (array_eq m c), h1⟩
  · refine (θ_run _ _ _).mono (fun r h c => ?_) (Cert.Ffn10ReferenceIdeal.Value.run (F := Ideal) m' g')
    obtain ⟨h0, h1⟩ := h c
    refine ⟨h0.trans ((reference_eq m' c).trans ?_), h1⟩
    obtain ⟨e0, e1, e2, e3, e4, e5, e6⟩ := hagree c
    rw [e0, e1, e2, e3, e4, e5, e6]
    rfl

end Cert.Ffn10Eq

end
-- ==== Proof.Ffn11Eq.lean ====
/- The feed-forward half 1 of layer 1: its launch's result and its reference's are the same array. -/
module

public import proofs.«01_k».proof.Defs
public import proofs.«01_k».proof.Proof.FfnBlock
public import proofs.«01_k».proof.Proof.FfnRef
public import proofs.«01_k».proof.Proof.Gen.Ffn11.Frame
public import proofs.«01_k».proof.Proof.Gen.Ffn11Ideal.Value
public import proofs.«01_k».proof.Proof.Gen.Ffn11ReferenceIdeal.Run
public import Idealize.ShloMosaic.Lib.Claim
public import Idealize.ShloMosaic.Lib.Pipeline.ValueKit
public import Idealize.ShloMosaic.Lib.StableHlo.ReadAt

@[expose] public section

set_option maxRecDepth 16384

noncomputable section

namespace Cert.Ffn11Eq

open Idealize.ShloMosaic Idealize.ShloMosaic.TcCoe Idealize.SL.Sem

section Launch

open Cert.Ffn11Ideal Cert.Ffn11Ideal.Gen

variable (m : (ℓ : Loc nD τ sig) → Buf (Elt Ideal) ℓ) (c : Dev nD)

/-- The arguments on a device. -/
abbrev xArg : FVec Ideal S1x16384x1024 .f32 := m ((c.tc : Thread nD τ).loc main_arg0)
abbrev modArg : FVec Ideal S2x3x3x1024 .f32 := m ((c.tc : Thread nD τ).loc main_arg1)
abbrev preArg : FVec Ideal S2x3x1024 .f32 := m ((c.tc : Thread nD τ).loc main_arg2)
abbrev postArg : FVec Ideal S2x3x1024 .f32 := m ((c.tc : Thread nD τ).loc main_arg3)
abbrev gateArg : FVec Ideal S2x2x1024x2816 .f32 := m ((c.tc : Thread nD τ).loc main_arg4)
abbrev upArg : FVec Ideal S2x2x1024x2816 .f32 := m ((c.tc : Thread nD τ).loc main_arg5)
abbrev downArg : FVec Ideal S2x2x2816x1024 .f32 := m ((c.tc : Thread nD τ).loc main_arg6)

/-- The half of the layer, of the launch's arguments. -/
def resultV : FVec Ideal S16384x1024 .f32 :=
  FfnMath.halfArr 1 1 2 (xArg m c) (modArg m c) (preArg m c) (postArg m c) (gateArg m c) (upArg m c) (downArg m c)

/-! ## What the host hands the launch -/

theorem x_at (r : Fin 16384) (k : Fin 1024) : (V m c main_v3 : FVec Ideal S16384x1024 .f32) (ix2 r k) = xArg m c (ix3 0 r k) := by
  unfold V
  after_reads_at
theorem mod_at (a : Fin 3) (k : Fin 1024) : (V m c main_v5 : FVec Ideal S3x1024 .f32) (ix2 a k) = modArg m c (ix4 1 2 a k) := by
  unfold V
  after_reads_at
theorem pre_at (k : Fin 1024) : (V m c main_v10 : FVec Ideal S1x1024 .f32) (ix2 0 k) = preArg m c (ix3 1 2 k) := by
  unfold V
  after_reads_at
theorem post_at (k : Fin 1024) : (V m c main_v11 : FVec Ideal S1x1024 .f32) (ix2 0 k) = postArg m c (ix3 1 2 k) := by
  unfold V
  after_reads_at
theorem gate_at (a b : Fin 2) (k : Fin 1024) (n : Fin 2816) :
    (V m c main_v0 : FVec Ideal S2x2x1024x2816 .bf16) (ix4 a b k n) = gateArg m c (ix4 a b k n) := by
  unfold V
  after_reads_at
theorem up_at (a b : Fin 2) (k : Fin 1024) (n : Fin 2816) :
    (V m c main_v1 : FVec Ideal S2x2x1024x2816 .bf16) (ix4 a b k n) = upArg m c (ix4 a b k n) := by
  unfold V
  after_reads_at
theorem down_at (a b : Fin 2) (n : Fin 2816) (k : Fin 1024) :
    (V m c main_v2 : FVec Ideal S2x2x2816x1024 .bf16) (ix4 a b n k) = downArg m c (ix4 a b n k) := by
  unfold V
  after_reads_at

/-! ## The blocks a grid point reads -/

theorem point_lt (t : Fin cfg0.N) : (grid0.coords t 0).val < 32 := (grid0.coords t 0).isLt

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![1, 1, 0, 0] :=
  (by decide +kernel : ∀ t : Fin grid0.N, win0_4.index t = ![1, 1, 0, 0])
theorem index5 : ∀ t : Fin cfg0.N, win0_5.index t = ![1, 1, 0, 0] :=
  (by decide +kernel : ∀ t : Fin grid0.N, win0_5.index t = ![1, 1, 0, 0])
theorem index6 : ∀ t : Fin cfg0.N, win0_6.index t = ![1, 1, 0, 0] :=
  (by decide +kernel : ∀ t : Fin grid0.N, win0_6.index t = ![1, 1, 0, 0])
theorem index7 : ∀ t : Fin cfg0.N, win0_7.index t = ![(grid0.coords t 0).val, 0] :=
  (by decide +kernel : ∀ t : Fin grid0.N, win0_7.index t = ![(grid0.coords t 0).val, 0])

theorem block0 (t : Fin cfg0.N) (r : Fin 512) (k : Fin 1024) :
    (iblk m c 0 t : FVec Ideal S512x1024 .f32) (ix2 r k)
      = (V m c main_v3 : FVec Ideal S16384x1024 .f32) (ix2 ⟨512 * (grid0.coords t 0).val + r.val, by have := point_lt t; omega⟩ k) := by
  blk_ext [iblk, index0 t]
theorem block1 (t : Fin cfg0.N) (a : Fin 3) (k : Fin 1024) :
    (iblk m c 1 t : FVec Ideal S3x1024 .f32) (ix2 a k) = (V m c main_v5 : FVec Ideal S3x1024 .f32) (ix2 a k) := by
  blk_ext [iblk, index1 t]
theorem block2 (t : Fin cfg0.N) (k : Fin 1024) :
    (iblk m c 2 t : FVec Ideal S1x1024 .f32) (ix2 0 k) = (V m c main_v10 : FVec Ideal S1x1024 .f32) (ix2 0 k) := by
  blk_ext [iblk, index2 t]
theorem block3 (t : Fin cfg0.N) (k : Fin 1024) :
    (iblk m c 3 t : FVec Ideal S1x1024 .f32) (ix2 0 k) = (V m c main_v11 : FVec Ideal S1x1024 .f32) (ix2 0 k) := by
  blk_ext [iblk, index3 t]
theorem block4 (t : Fin cfg0.N) (k : Fin 1024) (n : Fin 2816) :
    (iblk m c 4 t : FVec Ideal S1x1x1024x2816 .bf16) (ix4 0 0 k n)
      = (V m c main_v0 : FVec Ideal S2x2x1024x2816 .bf16) (ix4 1 1 k n) := by
  blk_ext [iblk, index4 t]
theorem block5 (t : Fin cfg0.N) (k : Fin 1024) (n : Fin 2816) :
    (iblk m c 5 t : FVec Ideal S1x1x1024x2816 .bf16) (ix4 0 0 k n)
      = (V m c main_v1 : FVec Ideal S2x2x1024x2816 .bf16) (ix4 1 1 k n) := by
  blk_ext [iblk, index5 t]
theorem block6 (t : Fin cfg0.N) (n : Fin 2816) (k : Fin 1024) :
    (iblk m c 6 t : FVec Ideal S1x1x2816x1024 .bf16) (ix4 0 0 n k)
      = (V m c main_v2 : FVec Ideal S2x2x2816x1024 .bf16) (ix4 1 1 n k) := by
  blk_ext [iblk, index6 t]

/-- A block's element is the array's. -/
theorem block_eq (t : Fin cfg0.N) (r : Fin 512) (j : Fin 1024) :
    (out0_7 (F := Ideal) (iblk m c 0 t) (iblk m c 1 t) (iblk m c 2 t) (iblk m c 3 t) (iblk m c 4 t) (iblk m c 5 t) (iblk m c 6 t)
        (ix2 r j) : EReal)
      = resultV m c (ix2 ⟨512 * (grid0.coords t 0).val + r.val, by have := point_lt t; omega⟩ j) := by
  refine (FfnBlock.out_at (iblk m c 0 t) (iblk m c 1 t) (iblk m c 2 t) (iblk m c 3 t) (iblk m c 4 t) (iblk m c 5 t) (iblk m c 6 t)
    r j).trans ?_
  exact FfnMath.half_congr (fun k => (block0 m c t r k).trans (x_at m c _ k)) (fun k => (block1 m c t 0 k).trans (mod_at m c 0 k))
    (fun k => (block1 m c t 1 k).trans (mod_at m c 1 k)) (fun k => (block1 m c t 2 k).trans (mod_at m c 2 k))
    (fun k => (block2 m c t k).trans (pre_at m c k)) (fun k => (block3 m c t k).trans (post_at m c k))
    (fun k n => (block4 m c t k n).trans (gate_at m c _ _ k n)) (fun k n => (block5 m c t k n).trans (up_at m c _ _ k n))
    (fun n k => (block6 m c t n k).trans (down_at m c _ _ n k)) j

/-- The launch leaves the half of the layer. -/
theorem array_eq : (dats m 0 c).arrAt 7 cfg0.N = resultV m c := by
  refine (dats m 0 c).arrAt_eq_of_covers 7 _ (by decide +kernel) fun t hf y => ?_
  blk_simp
  rw [after0_7]
  have hy : y = ix2 (y 0) (y 1) := by funext a; fin_cases a <;> rfl
  have hz : (win0_7.blk t).view.emb y
      = (ix2 ⟨512 * (grid0.coords t 0).val + (y 0).val, by have := point_lt t; have : (y 0).val < 512 := (y 0).isLt; omega⟩ (y 1) : S16384x1024.Idx) := by
    blk_ext [index7 t]
  refine (congrArg _ hy).trans ((block_eq m c t (y 0) (y 1)).trans (congrArg (resultV m c) hz.symm))

end Launch

/-! ## The reference -/

section Reference

open Cert.Ffn11ReferenceIdeal Cert.Ffn11ReferenceIdeal.Gen

variable (m : (ℓ : Loc nD τ sig) → Buf (Elt Ideal) ℓ) (c : Dev nD)

def modR (a : FVec Ideal S2x3x3x1024 .f32) : FVec Ideal S3x1024 .f32 :=
  shapeCast _ (extractStridedSlice S1x1x3x1024 ![1, 2, 0, 0] a slices_S2x3x3x1024_S1x1x3x1024_1_2_0_0) shapeCasts_S1x1x3x1024_S3x1024
def normR (a : FVec Ideal S2x3x1024 .f32) : FVec Ideal S1024 .f32 :=
  shapeCast _ (extractStridedSlice S1x1x1024 ![1, 2, 0] a slices_S2x3x1024_S1x1x1024_1_2_0) shapeCasts_S1x1x1024_S1024
def inR (a : FVec Ideal S2x2x1024x2816 .f32) : FVec Ideal S1024x2816 .f32 :=
  shapeCast _ (extractStridedSlice S1x1x1024x2816 ![1, 1, 0, 0] a slices_S2x2x1024x2816_S1x1x1024x2816_1_1_0_0) shapeCasts_S1x1x1024x2816_S1024x2816
def outR (a : FVec Ideal S2x2x2816x1024 .f32) : FVec Ideal S2816x1024 .f32 :=
  shapeCast _ (extractStridedSlice S1x1x2816x1024 ![1, 1, 0, 0] a slices_S2x2x2816x1024_S1x1x2816x1024_1_1_0_0) shapeCasts_S1x1x2816x1024_S2816x1024
def rowsR (x : FVec Ideal S1x16384x1024 .f32) : FVec Ideal S16384x1024 .f32 := shapeCast _ x shapeCasts_S1x16384x1024_S16384x1024

theorem modR_at (x : FVec Ideal S2x3x3x1024 .f32) (a : Fin 3) (k : Fin 1024) : (modR x (ix2 a k) : EReal) = x (ix4 1 2 a k) := by
  unfold modR
  pointwise
theorem normR_at (x : FVec Ideal S2x3x1024 .f32) (k : Fin 1024) : (normR x (ix1 k) : EReal) = x (ix3 1 2 k) := by
  unfold normR
  pointwise
theorem inR_at (x : FVec Ideal S2x2x1024x2816 .f32) (k : Fin 1024) (n : Fin 2816) : (inR x (ix2 k n) : EReal) = x (ix4 1 1 k n) := by
  unfold inR
  pointwise
theorem outR_at (x : FVec Ideal S2x2x2816x1024 .f32) (n : Fin 2816) (k : Fin 1024) : (outR x (ix2 n k) : EReal) = x (ix4 1 1 n k) := by
  unfold outR
  pointwise
theorem rowsR_at (x : FVec Ideal S1x16384x1024 .f32) (r : Fin 16384) (k : Fin 1024) : (rowsR x (ix2 r k) : EReal) = x (ix3 0 r k) := by
  unfold rowsR
  pointwise

theorem res_eq : Cert.Ffn11ReferenceIdeal.Value.res_out0 m c
    = FfnRef.halfR (rowsR (m ((c.tc : Thread nD τ).loc main_arg0)))
        (FfnRef.modRow0 (modR (m ((c.tc : Thread nD τ).loc main_arg1)))) (FfnRef.modRow1 (modR (m ((c.tc : Thread nD τ).loc main_arg1))))
        (FfnRef.modRow2 (modR (m ((c.tc : Thread nD τ).loc main_arg1)))) (normR (m ((c.tc : Thread nD τ).loc main_arg2)))
        (normR (m ((c.tc : Thread nD τ).loc main_arg3))) (inR (m ((c.tc : Thread nD τ).loc main_arg4)))
        (inR (m ((c.tc : Thread nD τ).loc main_arg5))) (outR (m ((c.tc : Thread nD τ).loc main_arg6))) := rfl

/-- The reference's result is the half of the layer, of its arguments. -/
theorem reference_eq : Cert.Ffn11ReferenceIdeal.Value.res_out0 m c
    = FfnMath.halfArr 1 1 2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [res_eq]
  funext y
  rw [show y = ix2 (y 0) (y 1) by funext a; fin_cases a <;> rfl]
  refine (FfnRef.half_at _ _ _ _ _ _ _ _ _ _ _).trans ?_
  exact FfnMath.half_congr (fun k => rowsR_at _ _ k) (fun k => (FfnRef.modRow0_at _ k).trans (modR_at _ 0 k))
    (fun k => (FfnRef.modRow1_at _ k).trans (modR_at _ 1 k)) (fun k => (FfnRef.modRow2_at _ k).trans (modR_at _ 2 k))
    (fun k => normR_at _ k) (fun k => normR_at _ k) (fun k n => inR_at _ k n) (fun k n => inR_at _ k n) (fun n k => outR_at _ n k) _

end Reference

/-! ## The claims -/

theorem frame_launch : Cert.quiescent_Ffn11 (hFfn11 := Cert.Ffn11.Gen.facts) := fun m ρ _ => Cert.Ffn11.Gen.frame m ρ

theorem frame_ideal : Cert.quiescent_Ffn11Ideal (hFfn11Ideal := Cert.Ffn11Ideal.Gen.facts) :=
  fun m ρ _ => Cert.Ffn11Ideal.Gen.frame m ρ

theorem frame_reference : Cert.quiescent_Ffn11ReferenceIdeal (hFfn11ReferenceIdeal := Cert.Ffn11ReferenceIdeal.Gen.facts) :=
  fun m g _ =>
    -- its run, read at its arguments; it declares no counter
    (θ_run (Cert.Ffn11ReferenceIdeal.defs (F := Ideal)) _ _).mono (fun r h => ⟨fun c => (h c).2, sem_eq_zero_of_no_sems (by decide) r.2⟩)
      (Cert.Ffn11ReferenceIdeal.Value.run (F := Ideal) m g)

theorem algebraic : Cert.algebraic_Ffn11Ideal_Ffn11ReferenceIdeal (hFfn11Ideal := Cert.Ffn11Ideal.Gen.facts)
    (hFfn11ReferenceIdeal := Cert.Ffn11ReferenceIdeal.Gen.facts) := by
  intro m g m' g' _ hagree
  refine ⟨fun c => resultV m c, ?_, ?_⟩
  · refine (θ_run _ _ _).mono (fun r h c => ?_) (Cert.Ffn11Ideal.Value.run_blocks (F := Ideal) m g)
    obtain ⟨h0, h1⟩ := h c
    exact ⟨h0.trans (array_eq m c), h1⟩
  · refine (θ_run _ _ _).mono (fun r h c => ?_) (Cert.Ffn11ReferenceIdeal.Value.run (F := Ideal) m' g')
    obtain ⟨h0, h1⟩ := h c
    refine ⟨h0.trans ((reference_eq m' c).trans ?_), h1⟩
    obtain ⟨e0, e1, e2, e3, e4, e5, e6⟩ := hagree c
    rw [e0, e1, e2, e3, e4, e5, e6]
    rfl

end Cert.Ffn11Eq

end
-- ==== Proof.MergeMath.lean ====
/- The merge of a layer's three branches, one row of the activations over the extended reals: each branch's result is projected
   and weighted by a sigmoid gate of the normalized and modulated row, the sum of the three is projected out, normalized and added
   to the row. -/
module

public import proofs.«01_k».proof.Proof.FfnMath

@[expose] public section

noncomputable section

namespace Cert.MergeMath

open Idealize.ShloMosaic Cert.FfnMath

/-- The weighted sum of the projected branches. -/
def mixed {d w : ℕ} (h : Fin d → EReal) (ys : Fin 3 → Fin w → EReal) (wg : Fin d → Fin 3 → Fin d → EReal) (bg : Fin 3 → Fin d → EReal)
    (wb : Fin 3 → Fin w → Fin d → EReal) (j : Fin d) : EReal :=
  ∑ n, (∑ k, ys n k * wb n k j) * sigm (∑ k, h k * wg k n j + bg n j)

/-- The whole merge. -/
def merge {d w : ℕ} (x shift scale gate gpre gpost : Fin d → EReal) (ys : Fin 3 → Fin w → EReal) (wg : Fin d → Fin 3 → Fin d → EReal)
    (bg : Fin 3 → Fin d → EReal) (wb : Fin 3 → Fin w → Fin d → EReal) (wo : Fin d → Fin d → EReal) : Fin d → EReal :=
  resid 1 x gate gpost fun j => ∑ u, mixed (modul x gpre shift scale) ys wg bg wb u * wo u j

/-- Equal rows and weights, equal merges. -/
theorem merge_congr {d w : ℕ} {x x' sh sh' sc sc' ga ga' g g' p p' : Fin d → EReal} {ys ys' : Fin 3 → Fin w → EReal}
    {wg wg' : Fin d → Fin 3 → Fin d → EReal} {bg bg' : Fin 3 → Fin d → EReal} {wb wb' : Fin 3 → Fin w → Fin d → EReal}
    {wo wo' : Fin d → Fin d → EReal} (ex : ∀ k, x k = x' k) (e1 : ∀ k, sh k = sh' k) (e2 : ∀ k, sc k = sc' k)
    (e3 : ∀ k, ga k = ga' k) (eg : ∀ k, g k = g' k) (ep : ∀ k, p k = p' k) (ey : ∀ n k, ys n k = ys' n k)
    (e4 : ∀ k n j, wg k n j = wg' k n j) (e5 : ∀ n j, bg n j = bg' n j) (e6 : ∀ n k j, wb n k j = wb' n k j)
    (e7 : ∀ u j, wo u j = wo' u j) (j : Fin d) :
    merge x sh sc ga g p ys wg bg wb wo j = merge x' sh' sc' ga' g' p' ys' wg' bg' wb' wo' j := by
  rw [funext ex, funext e1, funext e2, funext e3, funext eg, funext ep, funext fun n => funext (ey n),
    funext fun k => funext fun n => funext (e4 k n), funext fun n => funext (e5 n), funext fun n => funext fun k => funext (e6 n k),
    funext fun u => funext (e7 u)]

/-- The column of a branch's gate among the gates' columns, and among the input projection's. -/
def col (n : Fin 3) (j : Fin 1024) : Fin 3072 := ⟨1024 * n.val + j.val, by omega⟩
def inCol (n : Fin 3) (j : Fin 1024) : Fin 6560 := ⟨3488 + (1024 * n.val + j.val), by omega⟩

/-- The merge of layer `l`, on the whole arrays. -/
def mergeArr (l : Fin 2) (x : FVec Ideal ⟨3, ![1, 16384, 1024]⟩ .f32) (ya yb yc : FVec Ideal ⟨3, ![1, 16384, 512]⟩ .f32)
    (mod : FVec Ideal ⟨4, ![2, 3, 3, 1024]⟩ .f32) (gpre gpost : FVec Ideal ⟨3, ![2, 3, 1024]⟩ .f32)
    (wi : FVec Ideal ⟨3, ![2, 1024, 6560]⟩ .f32) (bg : FVec Ideal ⟨3, ![2, 3, 1024]⟩ .f32)
    (wb : FVec Ideal ⟨4, ![2, 3, 512, 1024]⟩ .f32) (wo : FVec Ideal ⟨3, ![2, 1024, 1024]⟩ .f32) :
    FVec Ideal ⟨2, ![16384, 1024]⟩ .f32 := fun y =>
  merge (fun k => x (ix3 0 (y 0) k)) (fun k => mod (ix4 l 1 0 k)) (fun k => mod (ix4 l 1 1 k)) (fun k => mod (ix4 l 1 2 k))
    (fun k => gpre (ix3 l 1 k)) (fun k => gpost (ix3 l 1 k))
    (fun n (k : Fin 512) => (![ya, yb, yc] n : FVec Ideal ⟨3, ![1, 16384, 512]⟩ .f32) (ix3 0 (y 0) k))
    (fun k n j => wi (ix3 l k (inCol n j))) (fun n j => bg (ix3 l n j)) (fun n k j => wb (ix4 l n k j)) (fun u j => wo (ix3 l u j)) (y 1)

end Cert.MergeMath

end
-- ==== Proof.MergeBlock.lean ====
/- The merge launch's body, element by element over the extended reals. -/
module

public import proofs.«01_k».proof.Proof.MergeMath
public import proofs.«01_k».proof.Proof.Gen.Merge0Ideal.Frame
public import Idealize.ShloMosaic.Lib.Pointwise
public import Idealize.ShloMosaic.Lib.Pipeline.ValueKit

@[expose] public section

set_option maxRecDepth 16384

noncomputable section

namespace Cert.MergeBlock

open Cert.Merge0Ideal Cert.Merge0Ideal.Gen Cert.FfnMath Cert.MergeMath
open Idealize.ShloMosaic Idealize.ShloMosaic.TcCoe

/-- The gates of a block's rows. -/
theorem gates_at (x : FVec Ideal S512x1024 .f32) (sh sc g : FVec Ideal S1x1024 .f32) (w : FVec Ideal S1024x3072 .bf16)
    (b : FVec Ideal S1x3072 .f32) (r : Fin 512) (j : Fin 3072) :
    (k0_pay4 (F := Ideal) x sh sc g w b (ix2 r j) : EReal)
      = sigm (∑ k : Fin 1024, modul (fun k => x (ix2 r k)) (fun k => g (ix2 0 k)) (fun k => sh (ix2 0 k)) (fun k => sc (ix2 0 k)) k
          * w (ix2 k j) + b (ix2 0 j)) := by
  unfold modul rowNorm sigm
  pointwise [k0_pay4, k0_pay2]
  rfl

/-- The branches' weighted sum, projected out. -/
theorem out_product_at (g : FVec Ideal S512x3072 .f32) (ya yb yc : FVec Ideal S512x512 .bf16) (wa wb wc : FVec Ideal S1x512x1024 .bf16)
    (wo : FVec Ideal S1024x1024 .bf16) (r : Fin 512) (j : Fin 1024) :
    (k0_pay5 (F := Ideal) g ya wa yb wb yc wc wo (ix2 r j) : EReal)
      = ∑ u : Fin 1024, ((∑ k : Fin 512, ya (ix2 r k) * wa (ix3 0 k u)) * g (ix2 r (col 0 u))
          + (∑ k : Fin 512, yb (ix2 r k) * wb (ix3 0 k u)) * g (ix2 r (col 1 u))
          + (∑ k : Fin 512, yc (ix2 r k) * wc (ix3 0 k u)) * g (ix2 r (col 2 u)) : EReal) * wo (ix2 u j) := by
  pointwise [k0_pay5]
  rfl

/-- The block's rows out. -/
theorem resid_at (x : FVec Ideal S512x1024 .f32) (ga gp : FVec Ideal S1x1024 .f32) (g : FVec Ideal S512x3072 .f32)
    (ya yb yc : FVec Ideal S512x512 .bf16) (wa wb wc : FVec Ideal S1x512x1024 .bf16) (wo : FVec Ideal S1024x1024 .bf16) (r : Fin 512)
    (j : Fin 1024) :
    (k0_pay1 (F := Ideal) (k0_pay2 x) (k0_pay5 g ya wa yb wb yc wc wo) (k0_pay6 (k0_pay3 ga)) (k0_pay7 gp)
        (k0_pay8 g ya wa yb wb yc wc wo) (Scalar.ofBits .f32 0x358637BD#32) (ix2 r j) : EReal)
      = resid 1 (fun k => x (ix2 r k)) (fun k => ga (ix2 0 k)) (fun k => gp (ix2 0 k))
          (fun k => k0_pay5 (F := Ideal) g ya wa yb wb yc wc wo (ix2 r k)) j := by
  unfold k0_pay8
  generalize k0_pay5 (F := Ideal) g ya wa yb wb yc wc wo = o
  unfold resid rowNorm
  rw [one_mul]
  pointwise [k0_pay1, k0_pay2, k0_pay3, k0_pay6, k0_pay7]

/-- The three rows of the modulation. -/
theorem shift_at (x : FVec Ideal S3x1024 .f32) (k : Fin 1024) : View.ld (Val := Elt Ideal) (e' := .f32) x r0_1 (ix2 0 k) = x (ix2 0 k) :=
  congrArg x (by funext a; fin_cases a <;> exact Fin.ext (by simp [ix2]))
theorem scale_at (x : FVec Ideal S3x1024 .f32) (k : Fin 1024) : View.ld (Val := Elt Ideal) (e' := .f32) x r0_2 (ix2 0 k) = x (ix2 1 k) :=
  congrArg x (by funext a; fin_cases a <;> exact Fin.ext (by simp [ix2]))
theorem gate_row_at (x : FVec Ideal S3x1024 .f32) (k : Fin 1024) : View.ld (Val := Elt Ideal) (e' := .f32) x r0_3 (ix2 0 k) = x (ix2 2 k) :=
  congrArg x (by funext a; fin_cases a <;> exact Fin.ext (by simp [ix2]))

/-- The three branches' projections. -/
theorem branch0_at (x : FVec Ideal S3x512x1024 .bf16) (k : Fin 512) (j : Fin 1024) :
    View.ld (Val := Elt Ideal) (e' := .bf16) x r0_8 (ix3 0 k j) = x (ix3 0 k j) :=
  congrArg x (by funext a; fin_cases a <;> exact Fin.ext (by simp [ix3]))
theorem branch1_at (x : FVec Ideal S3x512x1024 .bf16) (k : Fin 512) (j : Fin 1024) :
    View.ld (Val := Elt Ideal) (e' := .bf16) x r0_9 (ix3 0 k j) = x (ix3 1 k j) :=
  congrArg x (by funext a; fin_cases a <;> exact Fin.ext (by simp [ix3]))
theorem branch2_at (x : FVec Ideal S3x512x1024 .bf16) (k : Fin 512) (j : Fin 1024) :
    View.ld (Val := Elt Ideal) (e' := .bf16) x r0_10 (ix3 0 k j) = x (ix3 2 k j) :=
  congrArg x (by funext a; fin_cases a <;> exact Fin.ext (by simp [ix3]))

/-- The whole body: the merge on each row of a block, the modulation's rows and the projections given one by one. -/
theorem body_at (x : FVec Ideal S512x1024 .f32) (sh sc ga gpre gpost : FVec Ideal S1x1024 .f32)
    (ya yb yc : FVec Ideal S512x512 .bf16) (wg : FVec Ideal S1024x3072 .bf16) (bg : FVec Ideal S1x3072 .f32)
    (wa wb wc : FVec Ideal S1x512x1024 .bf16) (wo : FVec Ideal S1024x1024 .bf16) (r : Fin 512) (j : Fin 1024) :
    (k0_pay1 (F := Ideal) (k0_pay2 x) (k0_pay5 (k0_pay4 x sh sc gpre wg bg) ya wa yb wb yc wc wo) (k0_pay6 (k0_pay3 ga)) (k0_pay7 gpost)
        (k0_pay8 (k0_pay4 x sh sc gpre wg bg) ya wa yb wb yc wc wo) (Scalar.ofBits .f32 0x358637BD#32) (ix2 r j) : EReal)
      = merge (fun k => x (ix2 r k)) (fun k => sh (ix2 0 k)) (fun k => sc (ix2 0 k)) (fun k => ga (ix2 0 k))
          (fun k => gpre (ix2 0 k)) (fun k => gpost (ix2 0 k)) (fun n (k : Fin 512) => (![ya, yb, yc] n : FVec Ideal S512x512 .bf16) (ix2 r k))
          (fun k n j => wg (ix2 k (col n j))) (fun n j => bg (ix2 0 (col n j)))
          (fun n k j => (![wa, wb, wc] n : FVec Ideal S1x512x1024 .bf16) (ix3 0 k j)) (fun u j => wo (ix2 u j)) j := by
  rw [resid_at]
  simp only [out_product_at, gates_at]
  unfold merge mixed
  simp only [Fin.sum_univ_three]
  rfl

/-- The gates, of the blocks the body reads. -/
theorem gates_eq (x : FVec Ideal S512x1024 .f32) (ya yb yc : FVec Ideal S512x512 .bf16) (wg : FVec Ideal S1024x3072 .bf16)
    (bg : FVec Ideal S1x3072 .f32) (wb : FVec Ideal S3x512x1024 .bf16) (wo : FVec Ideal S1024x1024 .bf16)
    (mod : FVec Ideal S3x1024 .f32) (gpre gpost : FVec Ideal S1x1024 .f32) :
    k0_pay9 (F := Ideal) x ya yb yc wg bg wb wo mod gpre gpost
      = k0_pay4 (F := Ideal) x (View.ld (Val := Elt Ideal) (e' := .f32) mod r0_1) (View.ld (Val := Elt Ideal) (e' := .f32) mod r0_2)
          gpre wg bg := by
  unfold k0_pay9
  rw [View.ld_unit_zero (S := S512x1024) (by decide), View.ld_unit_zero (S := S1x1024) (by decide),
    View.ld_unit_zero (S := S1024x3072) (by decide), View.ld_unit_zero (S := S1x3072) (by decide)]

/-- The whole body, of the blocks it reads. -/
theorem out_at (x : FVec Ideal S512x1024 .f32) (ya yb yc : FVec Ideal S512x512 .bf16) (wg : FVec Ideal S1024x3072 .bf16)
    (bg : FVec Ideal S1x3072 .f32) (wb : FVec Ideal S3x512x1024 .bf16) (wo : FVec Ideal S1024x1024 .bf16)
    (mod : FVec Ideal S3x1024 .f32) (gpre gpost : FVec Ideal S1x1024 .f32) (r : Fin 512) (j : Fin 1024) :
    (out0_11 (F := Ideal) x ya yb yc wg bg wb wo mod gpre gpost (ix2 r j) : EReal)
      = merge (fun k => x (ix2 r k)) (fun k => mod (ix2 0 k)) (fun k => mod (ix2 1 k)) (fun k => mod (ix2 2 k))
          (fun k => gpre (ix2 0 k)) (fun k => gpost (ix2 0 k)) (fun n (k : Fin 512) => (![ya, yb, yc] n : FVec Ideal S512x512 .bf16) (ix2 r k))
          (fun k n j => wg (ix2 k (col n j))) (fun n j => bg (ix2 0 (col n j))) (fun n k j => wb (ix3 n k j)) (fun u j => wo (ix2 u j)) j := by
  frame_out
  rw [gates_eq]
  exact (body_at x (View.ld (Val := Elt Ideal) (e' := .f32) mod r0_1) (View.ld (Val := Elt Ideal) (e' := .f32) mod r0_2)
    (View.ld (Val := Elt Ideal) (e' := .f32) mod r0_3) gpre gpost ya yb yc wg bg (View.ld (Val := Elt Ideal) (e' := .bf16) wb r0_8)
    (View.ld (Val := Elt Ideal) (e' := .bf16) wb r0_9) (View.ld (Val := Elt Ideal) (e' := .bf16) wb r0_10) wo r j).trans
    (merge_congr (fun _ => rfl) (shift_at mod) (scale_at mod) (gate_row_at mod) (fun _ => rfl) (fun _ => rfl) (fun _ _ => rfl)
      (fun _ _ _ => rfl) (fun _ _ => rfl)
      (fun n k j => by
        fin_cases n
        · exact branch0_at wb k j
        · exact branch1_at wb k j
        · exact branch2_at wb k j)
      (fun _ _ => rfl) j)

end Cert.MergeBlock

end
-- ==== Proof.MergeRef.lean ====
/- The merge's reference, element by element over the extended reals. -/
module

public import proofs.«01_k».proof.Proof.MergeMath
public import proofs.«01_k».proof.Proof.FfnRef
public import proofs.«01_k».proof.Proof.Gen.Merge0ReferenceIdeal.Run
public import Idealize.ShloMosaic.Lib.Pointwise

@[expose] public section

set_option maxRecDepth 16384

noncomputable section

namespace Cert.MergeRef

open Cert.Merge0ReferenceIdeal Cert.Merge0ReferenceIdeal.Gen Cert.FfnMath Cert.MergeMath
open Idealize.ShloMosaic Idealize.ShloMosaic.TcCoe

/-- The product with the input projection, and the gates' columns of it as three rows. -/
def productR (h : FVec Ideal S16384x1024 .f32) (wi : FVec Ideal S1024x6560 .f32) : FVec Ideal S16384x6560 .f32 :=
  Host.dotGeneral dot_S16384x1024_S1024x6560_S16384x6560_1_0_0_1_n_n none h wi
def splitR (p : FVec Ideal S16384x6560 .f32) : FVec Ideal S16384x3x1024 .f32 :=
  shapeCast _ (extractStridedSlice S16384x3072 ![0, 3488] p slices_S16384x6560_S16384x3072_0_3488) shapeCasts_S16384x3072_S16384x3x1024

/-- The gates. -/
def gatesR (p : FVec Ideal S16384x3x1024 .f32) (b : FVec Ideal S3x1024 .f32) : FVec Ideal S16384x3x1024 .f32 :=
  Host.divf (broadcastInDim S16384x3x1024 ![] bcast_S_S16384x3x1024 (constant S_ .f32 0x3F800000#32))
    (addf (broadcastInDim S16384x3x1024 ![] bcast_S_S16384x3x1024 (constant S_ .f32 0x3F800000#32)) (Host.exp (Host.negf
      (addf p (broadcastInDim S16384x3x1024 ![0, 1, 2] bcast_S1x3x1024_S16384x3x1024_0_1_2
        (broadcastInDim S1x3x1024 ![1, 2] bcast_S3x1024_S1x3x1024_1_2 b))))))

/-- The three branches' results side by side. -/
def stackR (ya yb yc : FVec Ideal S16384x512 .f32) : FVec Ideal S16384x3x512 .f32 :=
  concatenate S16384x3x512 1 [⟨S16384x1x512, broadcastInDim S16384x1x512 ![0, 2] bcast_S16384x512_S16384x1x512_0_2 ya⟩,
    ⟨S16384x1x512, broadcastInDim S16384x1x512 ![0, 2] bcast_S16384x512_S16384x1x512_0_2 yb⟩,
    ⟨S16384x1x512, broadcastInDim S16384x1x512 ![0, 2] bcast_S16384x512_S16384x1x512_0_2 yc⟩]
    concatenates_S16384x1x512_S16384x1x512_S16384x1x512_S16384x3x512_d1

/-- The projected branches, their weighted sum, and the product out. -/
def projR (ys : FVec Ideal S16384x3x512 .f32) (wb : FVec Ideal S3x512x1024 .f32) : FVec Ideal S3x1024x16384 .f32 :=
  Host.dotGeneral dot_S3x512x1024_S16384x3x512_S3x1024x16384_1_2_2_0_0_1 none wb ys
def mixedR (g : FVec Ideal S16384x3x1024 .f32) (p : FVec Ideal S3x1024x16384 .f32) : FVec Ideal S16384x1024 .f32 :=
  Host.dotGeneral dot_S16384x3x1024_S3x1024x16384_S16384x1024_1_0_n_n_02_21 none g p
def outR (a : FVec Ideal S16384x1024 .f32) (wo : FVec Ideal S1024x1024 .f32) : FVec Ideal S16384x1024 .f32 :=
  Host.dotGeneral dot_S16384x1024_S1024x1024_S16384x1024_1_0_0_1_n_n none a wo

def residR (x y : FVec Ideal S16384x1024 .f32) (ga g : FVec Ideal S1024 .f32) : FVec Ideal S16384x1024 .f32 :=
  addf x (mulf (FfnRef.rows (mulf (broadcastInDim S1024 ![] bcast_S_S1024 (constant S_ .f32 0x3F800000#32)) (FfnRef.onePlus ga)))
    (FfnRef.rms y g))

/-- The merge of one layer, from its own rows and weights. -/
def mergeR (x : FVec Ideal S16384x1024 .f32) (sh sc ga gpre gpost : FVec Ideal S1024 .f32) (ya yb yc : FVec Ideal S16384x512 .f32)
    (wi : FVec Ideal S1024x6560 .f32) (b : FVec Ideal S3x1024 .f32) (wb : FVec Ideal S3x512x1024 .f32) (wo : FVec Ideal S1024x1024 .f32) :
    FVec Ideal S16384x1024 .f32 :=
  residR x (outR (mixedR (gatesR (splitR (productR (FfnRef.modulR x gpre sh sc) wi)) b) (projR (stackR ya yb yc) wb)) wo) ga gpost

theorem product_at (h : FVec Ideal S16384x1024 .f32) (wi : FVec Ideal S1024x6560 .f32) (r : Fin 16384) (j : Fin 6560) :
    (productR h wi (ix2 r j) : EReal) = ∑ k : Fin 1024, (h (ix2 r k) : EReal) * wi (ix2 k j) := by
  unfold productR
  pointwise

theorem split_at (p : FVec Ideal S16384x6560 .f32) (r : Fin 16384) (n : Fin 3) (j : Fin 1024) :
    (splitR p (ix3 r n j) : EReal) = p (ix2 r (inCol n j)) := by
  unfold splitR
  pointwise
  exact congrArg (fun c => p (ix2 r c)) (Fin.ext (by simp only [inCol]; omega))

theorem gates_at (p : FVec Ideal S16384x3x1024 .f32) (b : FVec Ideal S3x1024 .f32) (r : Fin 16384) (n : Fin 3) (j : Fin 1024) :
    (gatesR p b (ix3 r n j) : EReal) = sigm (p (ix3 r n j) + b (ix2 n j)) := by
  unfold gatesR sigm
  pointwise

theorem stack_at (ya yb yc : FVec Ideal S16384x512 .f32) (r : Fin 16384) (n : Fin 3) (k : Fin 512) :
    (stackR ya yb yc (ix3 r n k) : EReal) = (![ya, yb, yc] n : FVec Ideal S16384x512 .f32) (ix2 r k) := by
  unfold stackR
  fin_cases n
  · pointwise
  · pointwise
  · pointwise

theorem proj_at (ys : FVec Ideal S16384x3x512 .f32) (wb : FVec Ideal S3x512x1024 .f32) (n : Fin 3) (j : Fin 1024) (r : Fin 16384) :
    (projR ys wb (ix3 n j r) : EReal) = ∑ k : Fin 512, (ys (ix3 r n k) : EReal) * wb (ix3 n k j) := by
  unfold projR
  pointwise
  exact Finset.sum_congr rfl fun _ _ => mul_comm _ _

theorem mixed_at (g : FVec Ideal S16384x3x1024 .f32) (p : FVec Ideal S3x1024x16384 .f32) (r : Fin 16384) (j : Fin 1024) :
    (mixedR g p (ix2 r j) : EReal) = ∑ n : Fin 3, (p (ix3 n j r) : EReal) * g (ix3 r n j) := by
  unfold mixedR
  pointwise
  exact Finset.sum_congr rfl fun _ _ => mul_comm _ _

theorem out_at (a : FVec Ideal S16384x1024 .f32) (wo : FVec Ideal S1024x1024 .f32) (r : Fin 16384) (j : Fin 1024) :
    (outR a wo (ix2 r j) : EReal) = ∑ u : Fin 1024, (a (ix2 r u) : EReal) * wo (ix2 u j) := by
  unfold outR
  pointwise

theorem resid_at (x y : FVec Ideal S16384x1024 .f32) (ga g : FVec Ideal S1024 .f32) (r : Fin 16384) (j : Fin 1024) :
    (residR x y ga g (ix2 r j) : EReal)
      = resid 1 (fun k => x (ix2 r k)) (fun k => ga (ix1 k)) (fun k => g (ix1 k)) (fun k => y (ix2 r k)) j := by
  unfold resid
  rw [← FfnRef.rms_at]
  unfold residR FfnRef.rows FfnRef.onePlus
  generalize FfnRef.rms y g = X
  pointwise

theorem merge_at (x : FVec Ideal S16384x1024 .f32) (sh sc ga gpre gpost : FVec Ideal S1024 .f32) (ya yb yc : FVec Ideal S16384x512 .f32)
    (wi : FVec Ideal S1024x6560 .f32) (b : FVec Ideal S3x1024 .f32) (wb : FVec Ideal S3x512x1024 .f32) (wo : FVec Ideal S1024x1024 .f32)
    (r : Fin 16384) (j : Fin 1024) :
    (mergeR x sh sc ga gpre gpost ya yb yc wi b wb wo (ix2 r j) : EReal)
      = merge (fun k => x (ix2 r k)) (fun k => sh (ix1 k)) (fun k => sc (ix1 k)) (fun k => ga (ix1 k)) (fun k => gpre (ix1 k))
          (fun k => gpost (ix1 k)) (fun n (k : Fin 512) => (![ya, yb, yc] n : FVec Ideal S16384x512 .f32) (ix2 r k))
          (fun k n j => wi (ix2 k (inCol n j))) (fun n j => b (ix2 n j)) (fun n k j => wb (ix3 n k j)) (fun u j => wo (ix2 u j)) j := by
  unfold mergeR merge mixed
  rw [resid_at]
  simp only [out_at, mixed_at, gates_at, split_at, product_at, proj_at, stack_at, FfnRef.modul_at]

end Cert.MergeRef

end
-- ==== Proof.Merge0Eq.lean ====
/- The merge of layer 0's branches: its launch's result and its reference's are the same array. -/
module

public import proofs.«01_k».proof.Defs
public import proofs.«01_k».proof.Proof.MergeBlock
public import proofs.«01_k».proof.Proof.MergeRef
public import proofs.«01_k».proof.Proof.Gen.Merge0.Frame
public import proofs.«01_k».proof.Proof.Gen.Merge0Ideal.Value
public import proofs.«01_k».proof.Proof.Gen.Merge0ReferenceIdeal.Run
public import Idealize.ShloMosaic.Lib.Claim
public import Idealize.ShloMosaic.Lib.Pipeline.ValueKit
public import Idealize.ShloMosaic.Lib.StableHlo.ReadAt

@[expose] public section

set_option maxRecDepth 16384

noncomputable section

namespace Cert.Merge0Eq

open Idealize.ShloMosaic Idealize.ShloMosaic.TcCoe Idealize.SL.Sem

section Launch

open Cert.Merge0Ideal Cert.Merge0Ideal.Gen

variable (m : (ℓ : Loc nD τ sig) → Buf (Elt Ideal) ℓ) (c : Dev nD)

/-- The arguments on a device. -/
abbrev xArg : FVec Ideal S1x16384x1024 .f32 := m ((c.tc : Thread nD τ).loc main_arg0)
abbrev yaArg : FVec Ideal S1x16384x512 .f32 := m ((c.tc : Thread nD τ).loc main_arg1)
abbrev ybArg : FVec Ideal S1x16384x512 .f32 := m ((c.tc : Thread nD τ).loc main_arg2)
abbrev ycArg : FVec Ideal S1x16384x512 .f32 := m ((c.tc : Thread nD τ).loc main_arg3)
abbrev modArg : FVec Ideal S2x3x3x1024 .f32 := m ((c.tc : Thread nD τ).loc main_arg4)
abbrev preArg : FVec Ideal S2x3x1024 .f32 := m ((c.tc : Thread nD τ).loc main_arg5)
abbrev postArg : FVec Ideal S2x3x1024 .f32 := m ((c.tc : Thread nD τ).loc main_arg6)
abbrev inArg : FVec Ideal S2x1024x6560 .f32 := m ((c.tc : Thread nD τ).loc main_arg7)
abbrev biasArg : FVec Ideal S2x3x1024 .f32 := m ((c.tc : Thread nD τ).loc main_arg8)
abbrev branchArg : FVec Ideal S2x3x512x1024 .f32 := m ((c.tc : Thread nD τ).loc main_arg9)
abbrev outArg : FVec Ideal S2x1024x1024 .f32 := m ((c.tc : Thread nD τ).loc main_arg10)

/-- The merge of the layer, of the launch's arguments. -/
def resultV : FVec Ideal S16384x1024 .f32 :=
  MergeMath.mergeArr 0 (xArg m c) (yaArg m c) (ybArg m c) (ycArg m c) (modArg m c) (preArg m c) (postArg m c) (inArg m c)
    (biasArg m c) (branchArg m c) (outArg m c)

/-! ## What the host hands the launch -/

theorem x_at (r : Fin 16384) (k : Fin 1024) : (V m c main_v19 : FVec Ideal S16384x1024 .f32) (ix2 r k) = xArg m c (ix3 0 r k) := by
  unfold V
  after_reads_at
theorem ya_at (r : Fin 16384) (k : Fin 512) : (V m c main_v14 : FVec Ideal S16384x512 .bf16) (ix2 r k) = yaArg m c (ix3 0 r k) := by
  unfold V
  after_reads_at
theorem yb_at (r : Fin 16384) (k : Fin 512) : (V m c main_v16 : FVec Ideal S16384x512 .bf16) (ix2 r k) = ybArg m c (ix3 0 r k) := by
  unfold V
  after_reads_at
theorem yc_at (r : Fin 16384) (k : Fin 512) : (V m c main_v18 : FVec Ideal S16384x512 .bf16) (ix2 r k) = ycArg m c (ix3 0 r k) := by
  unfold V
  after_reads_at
theorem mod_at (a : Fin 3) (k : Fin 1024) : (V m c main_v21 : FVec Ideal S3x1024 .f32) (ix2 a k) = modArg m c (ix4 0 1 a k) := by
  unfold V
  after_reads_at
theorem pre_at (k : Fin 1024) : (V m c main_v26 : FVec Ideal S1x1024 .f32) (ix2 0 k) = preArg m c (ix3 0 1 k) := by
  unfold V
  after_reads_at
theorem post_at (k : Fin 1024) : (V m c main_v27 : FVec Ideal S1x1024 .f32) (ix2 0 k) = postArg m c (ix3 0 1 k) := by
  unfold V
  after_reads_at
theorem in_at (k : Fin 1024) (n : Fin 3) (j : Fin 1024) :
    (V m c main_v5 : FVec Ideal S1024x3072 .bf16) (ix2 k (MergeMath.col n j)) = inArg m c (ix3 0 k (MergeMath.inCol n j)) := by
  unfold V
  after_reads_at
  rfl
theorem bias_at (n : Fin 3) (j : Fin 1024) :
    (V m c main_v8 : FVec Ideal S1x3072 .f32) (ix2 0 (MergeMath.col n j)) = biasArg m c (ix3 0 n j) := by
  unfold V
  after_reads_at
  refine congrArg (biasArg m c) (congrArg₂ (ix3 0) (Fin.ext ?_) (Fin.ext ?_))
  · show (1024 * n.val + j.val) / 1024 = n.val
    omega
  · show (1024 * n.val + j.val) % 1024 = j.val
    omega
theorem branch_at (n : Fin 3) (k : Fin 512) (j : Fin 1024) :
    (V m c main_v10 : FVec Ideal S3x512x1024 .bf16) (ix3 n k j) = branchArg m c (ix4 0 n k j) := by
  unfold V
  after_reads_at
theorem out_at (k j : Fin 1024) : (V m c main_v12 : FVec Ideal S1024x1024 .bf16) (ix2 k j) = outArg m c (ix3 0 k j) := by
  unfold V
  after_reads_at

/-! ## The blocks a grid point reads -/

theorem point_lt (t : Fin cfg0.N) : (grid0.coords t 0).val < 32 := (grid0.coords t 0).isLt

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 0] :=
  (by decide +kernel : ∀ t : Fin grid0.N, win0_2.index t = ![(grid0.coords t 0).val, 0])
theorem index3 : ∀ t : Fin cfg0.N, win0_3.index t = ![(grid0.coords t 0).val, 0] :=
  (by decide +kernel : ∀ t : Fin grid0.N, win0_3.index t = ![(grid0.coords t 0).val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0, 0] :=
  (by decide +kernel : ∀ t : Fin grid0.N, win0_6.index t = ![0, 0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![(grid0.coords t 0).val, 0] :=
  (by decide +kernel : ∀ t : Fin grid0.N, win0_11.index t = ![(grid0.coords t 0).val, 0])

theorem block0 (t : Fin cfg0.N) (r : Fin 512) (k : Fin 1024) :
    (iblk m c 0 t : FVec Ideal S512x1024 .f32) (ix2 r k)
      = (V m c main_v19 : FVec Ideal S16384x1024 .f32) (ix2 ⟨512 * (grid0.coords t 0).val + r.val, by have := point_lt t; omega⟩ k) := by
  blk_ext [iblk, index0 t]
theorem block1 (t : Fin cfg0.N) (r : Fin 512) (k : Fin 512) :
    (iblk m c 1 t : FVec Ideal S512x512 .bf16) (ix2 r k)
      = (V m c main_v14 : FVec Ideal S16384x512 .bf16) (ix2 ⟨512 * (grid0.coords t 0).val + r.val, by have := point_lt t; omega⟩ k) := by
  blk_ext [iblk, index1 t]
theorem block2 (t : Fin cfg0.N) (r : Fin 512) (k : Fin 512) :
    (iblk m c 2 t : FVec Ideal S512x512 .bf16) (ix2 r k)
      = (V m c main_v16 : FVec Ideal S16384x512 .bf16) (ix2 ⟨512 * (grid0.coords t 0).val + r.val, by have := point_lt t; omega⟩ k) := by
  blk_ext [iblk, index2 t]
theorem block3 (t : Fin cfg0.N) (r : Fin 512) (k : Fin 512) :
    (iblk m c 3 t : FVec Ideal S512x512 .bf16) (ix2 r k)
      = (V m c main_v18 : FVec Ideal S16384x512 .bf16) (ix2 ⟨512 * (grid0.coords t 0).val + r.val, by have := point_lt t; omega⟩ k) := by
  blk_ext [iblk, index3 t]
theorem block4 (t : Fin cfg0.N) (i : Fin 1024) (k : Fin 3072) :
    (iblk m c 4 t : FVec Ideal S1024x3072 .bf16) (ix2 i k) = (V m c main_v5 : FVec Ideal S1024x3072 .bf16) (ix2 i k) := by
  blk_ext [iblk, index4 t]
theorem block5 (t : Fin cfg0.N) (i : Fin 1) (k : Fin 3072) :
    (iblk m c 5 t : FVec Ideal S1x3072 .f32) (ix2 i k) = (V m c main_v8 : FVec Ideal S1x3072 .f32) (ix2 i k) := by
  blk_ext [iblk, index5 t]
theorem block7 (t : Fin cfg0.N) (i : Fin 1024) (k : Fin 1024) :
    (iblk m c 7 t : FVec Ideal S1024x1024 .bf16) (ix2 i k) = (V m c main_v12 : FVec Ideal S1024x1024 .bf16) (ix2 i k) := by
  blk_ext [iblk, index7 t]
theorem block8 (t : Fin cfg0.N) (i : Fin 3) (k : Fin 1024) :
    (iblk m c 8 t : FVec Ideal S3x1024 .f32) (ix2 i k) = (V m c main_v21 : FVec Ideal S3x1024 .f32) (ix2 i k) := by
  blk_ext [iblk, index8 t]
theorem block9 (t : Fin cfg0.N) (i : Fin 1) (k : Fin 1024) :
    (iblk m c 9 t : FVec Ideal S1x1024 .f32) (ix2 i k) = (V m c main_v26 : FVec Ideal S1x1024 .f32) (ix2 i k) := by
  blk_ext [iblk, index9 t]
theorem block10 (t : Fin cfg0.N) (i : Fin 1) (k : Fin 1024) :
    (iblk m c 10 t : FVec Ideal S1x1024 .f32) (ix2 i k) = (V m c main_v27 : FVec Ideal S1x1024 .f32) (ix2 i k) := by
  blk_ext [iblk, index10 t]
theorem block6 (t : Fin cfg0.N) (n : Fin 3) (k : Fin 512) (j : Fin 1024) :
    (iblk m c 6 t : FVec Ideal S3x512x1024 .bf16) (ix3 n k j) = (V m c main_v10 : FVec Ideal S3x512x1024 .bf16) (ix3 n k j) := by
  blk_ext [iblk, index6 t]

/-- A block's element is the array's. -/
theorem block_eq (t : Fin cfg0.N) (r : Fin 512) (j : Fin 1024) :
    (out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r j) : EReal)
      = resultV m c (ix2 ⟨512 * (grid0.coords t 0).val + r.val, by have := point_lt t; omega⟩ j) := by
  refine (MergeBlock.out_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) r j).trans ?_
  exact MergeMath.merge_congr (fun k => (block0 m c t r k).trans (x_at m c _ k)) (fun k => (block8 m c t 0 k).trans (mod_at m c 0 k))
    (fun k => (block8 m c t 1 k).trans (mod_at m c 1 k)) (fun k => (block8 m c t 2 k).trans (mod_at m c 2 k))
    (fun k => (block9 m c t 0 k).trans (pre_at m c k)) (fun k => (block10 m c t 0 k).trans (post_at m c k))
    (fun n k => by
      fin_cases n
      · exact (block1 m c t r k).trans (ya_at m c _ k)
      · exact (block2 m c t r k).trans (yb_at m c _ k)
      · exact (block3 m c t r k).trans (yc_at m c _ k))
    (fun k n j => (block4 m c t k _).trans (in_at m c k n j)) (fun n j => (block5 m c t 0 _).trans (bias_at m c n j))
    (fun n k j => (block6 m c t n k j).trans (branch_at m c n k j)) (fun u j => (block7 m c t u j).trans (out_at m c u j)) j

/-- The launch leaves the merge of the layer. -/
theorem array_eq : (dats m 0 c).arrAt 11 cfg0.N = resultV m c := by
  refine (dats m 0 c).arrAt_eq_of_covers 11 _ (by decide +kernel) fun t hf y => ?_
  blk_simp
  rw [after0_11]
  have hy : y = ix2 (y 0) (y 1) := by funext a; fin_cases a <;> rfl
  have hz : (win0_11.blk t).view.emb y
      = (ix2 ⟨512 * (grid0.coords t 0).val + (y 0).val, by have := point_lt t; have : (y 0).val < 512 := (y 0).isLt; omega⟩ (y 1) : S16384x1024.Idx) := by
    blk_ext [index11 t]
  refine (congrArg _ hy).trans ((block_eq m c t (y 0) (y 1)).trans (congrArg (resultV m c) hz.symm))

end Launch

/-! ## The reference -/

section Reference

open Cert.Merge0ReferenceIdeal Cert.Merge0ReferenceIdeal.Gen

variable (m : (ℓ : Loc nD τ sig) → Buf (Elt Ideal) ℓ) (c : Dev nD)

def modR (a : FVec Ideal S2x3x3x1024 .f32) : FVec Ideal S3x1024 .f32 :=
  shapeCast _ (extractStridedSlice S1x1x3x1024 ![0, 1, 0, 0] a slices_S2x3x3x1024_S1x1x3x1024_0_1_0_0) shapeCasts_S1x1x3x1024_S3x1024
def normR (a : FVec Ideal S2x3x1024 .f32) : FVec Ideal S1024 .f32 :=
  shapeCast _ (extractStridedSlice S1x1x1024 ![0, 1, 0] a slices_S2x3x1024_S1x1x1024_0_1_0) shapeCasts_S1x1x1024_S1024
def inR (a : FVec Ideal S2x1024x6560 .f32) : FVec Ideal S1024x6560 .f32 :=
  shapeCast _ (extractStridedSlice S1x1024x6560 ![0, 0, 0] a slices_S2x1024x6560_S1x1024x6560_0_0_0) shapeCasts_S1x1024x6560_S1024x6560
def biasR (a : FVec Ideal S2x3x1024 .f32) : FVec Ideal S3x1024 .f32 :=
  shapeCast _ (extractStridedSlice S1x3x1024 ![0, 0, 0] a slices_S2x3x1024_S1x3x1024_0_0_0) shapeCasts_S1x3x1024_S3x1024
def branchR (a : FVec Ideal S2x3x512x1024 .f32) : FVec Ideal S3x512x1024 .f32 :=
  shapeCast _ (extractStridedSlice S1x3x512x1024 ![0, 0, 0, 0] a slices_S2x3x512x1024_S1x3x512x1024_0_0_0_0)
    shapeCasts_S1x3x512x1024_S3x512x1024
def outR (a : FVec Ideal S2x1024x1024 .f32) : FVec Ideal S1024x1024 .f32 :=
  shapeCast _ (extractStridedSlice S1x1024x1024 ![0, 0, 0] a slices_S2x1024x1024_S1x1024x1024_0_0_0) shapeCasts_S1x1024x1024_S1024x1024
def rowsR (x : FVec Ideal S1x16384x1024 .f32) : FVec Ideal S16384x1024 .f32 := shapeCast _ x shapeCasts_S1x16384x1024_S16384x1024
def headsR (x : FVec Ideal S1x16384x512 .f32) : FVec Ideal S16384x512 .f32 := shapeCast _ x shapeCasts_S1x16384x512_S16384x512

theorem modR_at (x : FVec Ideal S2x3x3x1024 .f32) (a : Fin 3) (k : Fin 1024) : (modR x (ix2 a k) : EReal) = x (ix4 0 1 a k) := by
  unfold modR
  pointwise
theorem normR_at (x : FVec Ideal S2x3x1024 .f32) (k : Fin 1024) : (normR x (ix1 k) : EReal) = x (ix3 0 1 k) := by
  unfold normR
  pointwise
theorem inR_at (x : FVec Ideal S2x1024x6560 .f32) (k : Fin 1024) (n : Fin 6560) : (inR x (ix2 k n) : EReal) = x (ix3 0 k n) := by
  unfold inR
  pointwise
theorem biasR_at (x : FVec Ideal S2x3x1024 .f32) (n : Fin 3) (k : Fin 1024) : (biasR x (ix2 n k) : EReal) = x (ix3 0 n k) := by
  unfold biasR
  pointwise
theorem branchR_at (x : FVec Ideal S2x3x512x1024 .f32) (n : Fin 3) (k : Fin 512) (j : Fin 1024) :
    (branchR x (ix3 n k j) : EReal) = x (ix4 0 n k j) := by
  unfold branchR
  pointwise
theorem outR_at (x : FVec Ideal S2x1024x1024 .f32) (k j : Fin 1024) : (outR x (ix2 k j) : EReal) = x (ix3 0 k j) := by
  unfold outR
  pointwise
theorem rowsR_at (x : FVec Ideal S1x16384x1024 .f32) (r : Fin 16384) (k : Fin 1024) : (rowsR x (ix2 r k) : EReal) = x (ix3 0 r k) := by
  unfold rowsR
  pointwise
theorem headsR_at (x : FVec Ideal S1x16384x512 .f32) (r : Fin 16384) (k : Fin 512) : (headsR x (ix2 r k) : EReal) = x (ix3 0 r k) := by
  unfold headsR
  pointwise

theorem res_eq : Cert.Merge0ReferenceIdeal.Value.res_out0 m c
    = MergeRef.mergeR (rowsR (m ((c.tc : Thread nD τ).loc main_arg0)))
        (FfnRef.modRow0 (modR (m ((c.tc : Thread nD τ).loc main_arg4)))) (FfnRef.modRow1 (modR (m ((c.tc : Thread nD τ).loc main_arg4))))
        (FfnRef.modRow2 (modR (m ((c.tc : Thread nD τ).loc main_arg4)))) (normR (m ((c.tc : Thread nD τ).loc main_arg5)))
        (normR (m ((c.tc : Thread nD τ).loc main_arg6))) (headsR (m ((c.tc : Thread nD τ).loc main_arg1)))
        (headsR (m ((c.tc : Thread nD τ).loc main_arg2))) (headsR (m ((c.tc : Thread nD τ).loc main_arg3)))
        (inR (m ((c.tc : Thread nD τ).loc main_arg7))) (biasR (m ((c.tc : Thread nD τ).loc main_arg8)))
        (branchR (m ((c.tc : Thread nD τ).loc main_arg9))) (outR (m ((c.tc : Thread nD τ).loc main_arg10))) := rfl

/-- The reference's result is the merge of the layer, of its arguments. -/
theorem reference_eq : Cert.Merge0ReferenceIdeal.Value.res_out0 m c
    = MergeMath.mergeArr 0 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := by
  rw [res_eq]
  funext y
  rw [show y = ix2 (y 0) (y 1) by funext a; fin_cases a <;> rfl]
  refine (MergeRef.merge_at _ _ _ _ _ _ _ _ _ _ _ _ _ _ _).trans ?_
  exact MergeMath.merge_congr (fun k => rowsR_at _ _ k) (fun k => (FfnRef.modRow0_at _ k).trans (modR_at _ 0 k))
    (fun k => (FfnRef.modRow1_at _ k).trans (modR_at _ 1 k)) (fun k => (FfnRef.modRow2_at _ k).trans (modR_at _ 2 k))
    (fun k => normR_at _ k) (fun k => normR_at _ k)
    (fun n k => by
      fin_cases n
      · exact headsR_at _ _ k
      · exact headsR_at _ _ k
      · exact headsR_at _ _ k)
    (fun k n j => inR_at _ k _) (fun n j => biasR_at _ n j) (fun n k j => branchR_at _ n k j) (fun u j => outR_at _ u j) _

end Reference

/-! ## The claims -/

theorem frame_launch : Cert.quiescent_Merge0 (hMerge0 := Cert.Merge0.Gen.facts) := fun m ρ _ => Cert.Merge0.Gen.frame m ρ

theorem frame_ideal : Cert.quiescent_Merge0Ideal (hMerge0Ideal := Cert.Merge0Ideal.Gen.facts) :=
  fun m ρ _ => Cert.Merge0Ideal.Gen.frame m ρ

theorem frame_reference : Cert.quiescent_Merge0ReferenceIdeal (hMerge0ReferenceIdeal := Cert.Merge0ReferenceIdeal.Gen.facts) :=
  fun m g _ =>
    -- its run, read at its arguments; it declares no counter
    (θ_run (Cert.Merge0ReferenceIdeal.defs (F := Ideal)) _ _).mono (fun r h => ⟨fun c => (h c).2, sem_eq_zero_of_no_sems (by decide) r.2⟩)
      (Cert.Merge0ReferenceIdeal.Value.run (F := Ideal) m g)

theorem algebraic : Cert.algebraic_Merge0Ideal_Merge0ReferenceIdeal (hMerge0Ideal := Cert.Merge0Ideal.Gen.facts)
    (hMerge0ReferenceIdeal := Cert.Merge0ReferenceIdeal.Gen.facts) := by
  intro m g m' g' _ hagree
  refine ⟨fun c => resultV m c, ?_, ?_⟩
  · refine (θ_run _ _ _).mono (fun r h c => ?_) (Cert.Merge0Ideal.Value.run_blocks (F := Ideal) m g)
    obtain ⟨h0, h1⟩ := h c
    exact ⟨h0.trans (array_eq m c), h1⟩
  · refine (θ_run _ _ _).mono (fun r h c => ?_) (Cert.Merge0ReferenceIdeal.Value.run (F := Ideal) m' g')
    obtain ⟨h0, h1⟩ := h c
    refine ⟨h0.trans ((reference_eq m' c).trans ?_), h1⟩
    obtain ⟨e0, e1, e2, e3, e4, e5, e6, e7, e8, e9, e10⟩ := hagree c
    rw [e0, e1, e2, e3, e4, e5, e6, e7, e8, e9, e10]
    rfl

end Cert.Merge0Eq

end
-- ==== Proof.Merge1Eq.lean ====
/- The merge of layer 1's branches: its launch's result and its reference's are the same array. -/
module

public import proofs.«01_k».proof.Defs
public import proofs.«01_k».proof.Proof.MergeBlock
public import proofs.«01_k».proof.Proof.MergeRef
public import proofs.«01_k».proof.Proof.Gen.Merge1.Frame
public import proofs.«01_k».proof.Proof.Gen.Merge1Ideal.Value
public import proofs.«01_k».proof.Proof.Gen.Merge1ReferenceIdeal.Run
public import Idealize.ShloMosaic.Lib.Claim
public import Idealize.ShloMosaic.Lib.Pipeline.ValueKit
public import Idealize.ShloMosaic.Lib.StableHlo.ReadAt

@[expose] public section

set_option maxRecDepth 16384

noncomputable section

namespace Cert.Merge1Eq

open Idealize.ShloMosaic Idealize.ShloMosaic.TcCoe Idealize.SL.Sem

section Launch

open Cert.Merge1Ideal Cert.Merge1Ideal.Gen

variable (m : (ℓ : Loc nD τ sig) → Buf (Elt Ideal) ℓ) (c : Dev nD)

/-- The arguments on a device. -/
abbrev xArg : FVec Ideal S1x16384x1024 .f32 := m ((c.tc : Thread nD τ).loc main_arg0)
abbrev yaArg : FVec Ideal S1x16384x512 .f32 := m ((c.tc : Thread nD τ).loc main_arg1)
abbrev ybArg : FVec Ideal S1x16384x512 .f32 := m ((c.tc : Thread nD τ).loc main_arg2)
abbrev ycArg : FVec Ideal S1x16384x512 .f32 := m ((c.tc : Thread nD τ).loc main_arg3)
abbrev modArg : FVec Ideal S2x3x3x1024 .f32 := m ((c.tc : Thread nD τ).loc main_arg4)
abbrev preArg : FVec Ideal S2x3x1024 .f32 := m ((c.tc : Thread nD τ).loc main_arg5)
abbrev postArg : FVec Ideal S2x3x1024 .f32 := m ((c.tc : Thread nD τ).loc main_arg6)
abbrev inArg : FVec Ideal S2x1024x6560 .f32 := m ((c.tc : Thread nD τ).loc main_arg7)
abbrev biasArg : FVec Ideal S2x3x1024 .f32 := m ((c.tc : Thread nD τ).loc main_arg8)
abbrev branchArg : FVec Ideal S2x3x512x1024 .f32 := m ((c.tc : Thread nD τ).loc main_arg9)
abbrev outArg : FVec Ideal S2x1024x1024 .f32 := m ((c.tc : Thread nD τ).loc main_arg10)

/-- The merge of the layer, of the launch's arguments. -/
def resultV : FVec Ideal S16384x1024 .f32 :=
  MergeMath.mergeArr 1 (xArg m c) (yaArg m c) (ybArg m c) (ycArg m c) (modArg m c) (preArg m c) (postArg m c) (inArg m c)
    (biasArg m c) (branchArg m c) (outArg m c)

/-! ## What the host hands the launch -/

theorem x_at (r : Fin 16384) (k : Fin 1024) : (V m c main_v19 : FVec Ideal S16384x1024 .f32) (ix2 r k) = xArg m c (ix3 0 r k) := by
  unfold V
  after_reads_at
theorem ya_at (r : Fin 16384) (k : Fin 512) : (V m c main_v14 : FVec Ideal S16384x512 .bf16) (ix2 r k) = yaArg m c (ix3 0 r k) := by
  unfold V
  after_reads_at
theorem yb_at (r : Fin 16384) (k : Fin 512) : (V m c main_v16 : FVec Ideal S16384x512 .bf16) (ix2 r k) = ybArg m c (ix3 0 r k) := by
  unfold V
  after_reads_at
theorem yc_at (r : Fin 16384) (k : Fin 512) : (V m c main_v18 : FVec Ideal S16384x512 .bf16) (ix2 r k) = ycArg m c (ix3 0 r k) := by
  unfold V
  after_reads_at
theorem mod_at (a : Fin 3) (k : Fin 1024) : (V m c main_v21 : FVec Ideal S3x1024 .f32) (ix2 a k) = modArg m c (ix4 1 1 a k) := by
  unfold V
  after_reads_at
theorem pre_at (k : Fin 1024) : (V m c main_v26 : FVec Ideal S1x1024 .f32) (ix2 0 k) = preArg m c (ix3 1 1 k) := by
  unfold V
  after_reads_at
theorem post_at (k : Fin 1024) : (V m c main_v27 : FVec Ideal S1x1024 .f32) (ix2 0 k) = postArg m c (ix3 1 1 k) := by
  unfold V
  after_reads_at
theorem in_at (k : Fin 1024) (n : Fin 3) (j : Fin 1024) :
    (V m c main_v5 : FVec Ideal S1024x3072 .bf16) (ix2 k (MergeMath.col n j)) = inArg m c (ix3 1 k (MergeMath.inCol n j)) := by
  unfold V
  after_reads_at
  rfl
theorem bias_at (n : Fin 3) (j : Fin 1024) :
    (V m c main_v8 : FVec Ideal S1x3072 .f32) (ix2 0 (MergeMath.col n j)) = biasArg m c (ix3 1 n j) := by
  unfold V
  after_reads_at
  refine congrArg (biasArg m c) (congrArg₂ (ix3 1) (Fin.ext ?_) (Fin.ext ?_))
  · show (1024 * n.val + j.val) / 1024 = n.val
    omega
  · show (1024 * n.val + j.val) % 1024 = j.val
    omega
theorem branch_at (n : Fin 3) (k : Fin 512) (j : Fin 1024) :
    (V m c main_v10 : FVec Ideal S3x512x1024 .bf16) (ix3 n k j) = branchArg m c (ix4 1 n k j) := by
  unfold V
  after_reads_at
theorem out_at (k j : Fin 1024) : (V m c main_v12 : FVec Ideal S1024x1024 .bf16) (ix2 k j) = outArg m c (ix3 1 k j) := by
  unfold V
  after_reads_at

/-! ## The blocks a grid point reads -/

theorem point_lt (t : Fin cfg0.N) : (grid0.coords t 0).val < 32 := (grid0.coords t 0).isLt

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 0] :=
  (by decide +kernel : ∀ t : Fin grid0.N, win0_2.index t = ![(grid0.coords t 0).val, 0])
theorem index3 : ∀ t : Fin cfg0.N, win0_3.index t = ![(grid0.coords t 0).val, 0] :=
  (by decide +kernel : ∀ t : Fin grid0.N, win0_3.index t = ![(grid0.coords t 0).val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0, 0] :=
  (by decide +kernel : ∀ t : Fin grid0.N, win0_6.index t = ![0, 0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![(grid0.coords t 0).val, 0] :=
  (by decide +kernel : ∀ t : Fin grid0.N, win0_11.index t = ![(grid0.coords t 0).val, 0])

theorem block0 (t : Fin cfg0.N) (r : Fin 512) (k : Fin 1024) :
    (iblk m c 0 t : FVec Ideal S512x1024 .f32) (ix2 r k)
      = (V m c main_v19 : FVec Ideal S16384x1024 .f32) (ix2 ⟨512 * (grid0.coords t 0).val + r.val, by have := point_lt t; omega⟩ k) := by
  blk_ext [iblk, index0 t]
theorem block1 (t : Fin cfg0.N) (r : Fin 512) (k : Fin 512) :
    (iblk m c 1 t : FVec Ideal S512x512 .bf16) (ix2 r k)
      = (V m c main_v14 : FVec Ideal S16384x512 .bf16) (ix2 ⟨512 * (grid0.coords t 0).val + r.val, by have := point_lt t; omega⟩ k) := by
  blk_ext [iblk, index1 t]
theorem block2 (t : Fin cfg0.N) (r : Fin 512) (k : Fin 512) :
    (iblk m c 2 t : FVec Ideal S512x512 .bf16) (ix2 r k)
      = (V m c main_v16 : FVec Ideal S16384x512 .bf16) (ix2 ⟨512 * (grid0.coords t 0).val + r.val, by have := point_lt t; omega⟩ k) := by
  blk_ext [iblk, index2 t]
theorem block3 (t : Fin cfg0.N) (r : Fin 512) (k : Fin 512) :
    (iblk m c 3 t : FVec Ideal S512x512 .bf16) (ix2 r k)
      = (V m c main_v18 : FVec Ideal S16384x512 .bf16) (ix2 ⟨512 * (grid0.coords t 0).val + r.val, by have := point_lt t; omega⟩ k) := by
  blk_ext [iblk, index3 t]
theorem block4 (t : Fin cfg0.N) (i : Fin 1024) (k : Fin 3072) :
    (iblk m c 4 t : FVec Ideal S1024x3072 .bf16) (ix2 i k) = (V m c main_v5 : FVec Ideal S1024x3072 .bf16) (ix2 i k) := by
  blk_ext [iblk, index4 t]
theorem block5 (t : Fin cfg0.N) (i : Fin 1) (k : Fin 3072) :
    (iblk m c 5 t : FVec Ideal S1x3072 .f32) (ix2 i k) = (V m c main_v8 : FVec Ideal S1x3072 .f32) (ix2 i k) := by
  blk_ext [iblk, index5 t]
theorem block7 (t : Fin cfg0.N) (i : Fin 1024) (k : Fin 1024) :
    (iblk m c 7 t : FVec Ideal S1024x1024 .bf16) (ix2 i k) = (V m c main_v12 : FVec Ideal S1024x1024 .bf16) (ix2 i k) := by
  blk_ext [iblk, index7 t]
theorem block8 (t : Fin cfg0.N) (i : Fin 3) (k : Fin 1024) :
    (iblk m c 8 t : FVec Ideal S3x1024 .f32) (ix2 i k) = (V m c main_v21 : FVec Ideal S3x1024 .f32) (ix2 i k) := by
  blk_ext [iblk, index8 t]
theorem block9 (t : Fin cfg0.N) (i : Fin 1) (k : Fin 1024) :
    (iblk m c 9 t : FVec Ideal S1x1024 .f32) (ix2 i k) = (V m c main_v26 : FVec Ideal S1x1024 .f32) (ix2 i k) := by
  blk_ext [iblk, index9 t]
theorem block10 (t : Fin cfg0.N) (i : Fin 1) (k : Fin 1024) :
    (iblk m c 10 t : FVec Ideal S1x1024 .f32) (ix2 i k) = (V m c main_v27 : FVec Ideal S1x1024 .f32) (ix2 i k) := by
  blk_ext [iblk, index10 t]
theorem block6 (t : Fin cfg0.N) (n : Fin 3) (k : Fin 512) (j : Fin 1024) :
    (iblk m c 6 t : FVec Ideal S3x512x1024 .bf16) (ix3 n k j) = (V m c main_v10 : FVec Ideal S3x512x1024 .bf16) (ix3 n k j) := by
  blk_ext [iblk, index6 t]

/-- A block's element is the array's. -/
theorem block_eq (t : Fin cfg0.N) (r : Fin 512) (j : Fin 1024) :
    (out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r j) : EReal)
      = resultV m c (ix2 ⟨512 * (grid0.coords t 0).val + r.val, by have := point_lt t; omega⟩ j) := by
  refine (MergeBlock.out_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) r j).trans ?_
  exact MergeMath.merge_congr (fun k => (block0 m c t r k).trans (x_at m c _ k)) (fun k => (block8 m c t 0 k).trans (mod_at m c 0 k))
    (fun k => (block8 m c t 1 k).trans (mod_at m c 1 k)) (fun k => (block8 m c t 2 k).trans (mod_at m c 2 k))
    (fun k => (block9 m c t 0 k).trans (pre_at m c k)) (fun k => (block10 m c t 0 k).trans (post_at m c k))
    (fun n k => by
      fin_cases n
      · exact (block1 m c t r k).trans (ya_at m c _ k)
      · exact (block2 m c t r k).trans (yb_at m c _ k)
      · exact (block3 m c t r k).trans (yc_at m c _ k))
    (fun k n j => (block4 m c t k _).trans (in_at m c k n j)) (fun n j => (block5 m c t 0 _).trans (bias_at m c n j))
    (fun n k j => (block6 m c t n k j).trans (branch_at m c n k j)) (fun u j => (block7 m c t u j).trans (out_at m c u j)) j

/-- The launch leaves the merge of the layer. -/
theorem array_eq : (dats m 0 c).arrAt 11 cfg0.N = resultV m c := by
  refine (dats m 0 c).arrAt_eq_of_covers 11 _ (by decide +kernel) fun t hf y => ?_
  blk_simp
  rw [after0_11]
  have hy : y = ix2 (y 0) (y 1) := by funext a; fin_cases a <;> rfl
  have hz : (win0_11.blk t).view.emb y
      = (ix2 ⟨512 * (grid0.coords t 0).val + (y 0).val, by have := point_lt t; have : (y 0).val < 512 := (y 0).isLt; omega⟩ (y 1) : S16384x1024.Idx) := by
    blk_ext [index11 t]
  refine (congrArg _ hy).trans ((block_eq m c t (y 0) (y 1)).trans (congrArg (resultV m c) hz.symm))

end Launch

/-! ## The reference -/

section Reference

open Cert.Merge1ReferenceIdeal Cert.Merge1ReferenceIdeal.Gen

variable (m : (ℓ : Loc nD τ sig) → Buf (Elt Ideal) ℓ) (c : Dev nD)

def modR (a : FVec Ideal S2x3x3x1024 .f32) : FVec Ideal S3x1024 .f32 :=
  shapeCast _ (extractStridedSlice S1x1x3x1024 ![1, 1, 0, 0] a slices_S2x3x3x1024_S1x1x3x1024_1_1_0_0) shapeCasts_S1x1x3x1024_S3x1024
def normR (a : FVec Ideal S2x3x1024 .f32) : FVec Ideal S1024 .f32 :=
  shapeCast _ (extractStridedSlice S1x1x1024 ![1, 1, 0] a slices_S2x3x1024_S1x1x1024_1_1_0) shapeCasts_S1x1x1024_S1024
def inR (a : FVec Ideal S2x1024x6560 .f32) : FVec Ideal S1024x6560 .f32 :=
  shapeCast _ (extractStridedSlice S1x1024x6560 ![1, 0, 0] a slices_S2x1024x6560_S1x1024x6560_1_0_0) shapeCasts_S1x1024x6560_S1024x6560
def biasR (a : FVec Ideal S2x3x1024 .f32) : FVec Ideal S3x1024 .f32 :=
  shapeCast _ (extractStridedSlice S1x3x1024 ![1, 0, 0] a slices_S2x3x1024_S1x3x1024_1_0_0) shapeCasts_S1x3x1024_S3x1024
def branchR (a : FVec Ideal S2x3x512x1024 .f32) : FVec Ideal S3x512x1024 .f32 :=
  shapeCast _ (extractStridedSlice S1x3x512x1024 ![1, 0, 0, 0] a slices_S2x3x512x1024_S1x3x512x1024_1_0_0_0)
    shapeCasts_S1x3x512x1024_S3x512x1024
def outR (a : FVec Ideal S2x1024x1024 .f32) : FVec Ideal S1024x1024 .f32 :=
  shapeCast _ (extractStridedSlice S1x1024x1024 ![1, 0, 0] a slices_S2x1024x1024_S1x1024x1024_1_0_0) shapeCasts_S1x1024x1024_S1024x1024
def rowsR (x : FVec Ideal S1x16384x1024 .f32) : FVec Ideal S16384x1024 .f32 := shapeCast _ x shapeCasts_S1x16384x1024_S16384x1024
def headsR (x : FVec Ideal S1x16384x512 .f32) : FVec Ideal S16384x512 .f32 := shapeCast _ x shapeCasts_S1x16384x512_S16384x512

theorem modR_at (x : FVec Ideal S2x3x3x1024 .f32) (a : Fin 3) (k : Fin 1024) : (modR x (ix2 a k) : EReal) = x (ix4 1 1 a k) := by
  unfold modR
  pointwise
theorem normR_at (x : FVec Ideal S2x3x1024 .f32) (k : Fin 1024) : (normR x (ix1 k) : EReal) = x (ix3 1 1 k) := by
  unfold normR
  pointwise
theorem inR_at (x : FVec Ideal S2x1024x6560 .f32) (k : Fin 1024) (n : Fin 6560) : (inR x (ix2 k n) : EReal) = x (ix3 1 k n) := by
  unfold inR
  pointwise
theorem biasR_at (x : FVec Ideal S2x3x1024 .f32) (n : Fin 3) (k : Fin 1024) : (biasR x (ix2 n k) : EReal) = x (ix3 1 n k) := by
  unfold biasR
  pointwise
theorem branchR_at (x : FVec Ideal S2x3x512x1024 .f32) (n : Fin 3) (k : Fin 512) (j : Fin 1024) :
    (branchR x (ix3 n k j) : EReal) = x (ix4 1 n k j) := by
  unfold branchR
  pointwise
theorem outR_at (x : FVec Ideal S2x1024x1024 .f32) (k j : Fin 1024) : (outR x (ix2 k j) : EReal) = x (ix3 1 k j) := by
  unfold outR
  pointwise
theorem rowsR_at (x : FVec Ideal S1x16384x1024 .f32) (r : Fin 16384) (k : Fin 1024) : (rowsR x (ix2 r k) : EReal) = x (ix3 0 r k) := by
  unfold rowsR
  pointwise
theorem headsR_at (x : FVec Ideal S1x16384x512 .f32) (r : Fin 16384) (k : Fin 512) : (headsR x (ix2 r k) : EReal) = x (ix3 0 r k) := by
  unfold headsR
  pointwise

theorem res_eq : Cert.Merge1ReferenceIdeal.Value.res_out0 m c
    = MergeRef.mergeR (rowsR (m ((c.tc : Thread nD τ).loc main_arg0)))
        (FfnRef.modRow0 (modR (m ((c.tc : Thread nD τ).loc main_arg4)))) (FfnRef.modRow1 (modR (m ((c.tc : Thread nD τ).loc main_arg4))))
        (FfnRef.modRow2 (modR (m ((c.tc : Thread nD τ).loc main_arg4)))) (normR (m ((c.tc : Thread nD τ).loc main_arg5)))
        (normR (m ((c.tc : Thread nD τ).loc main_arg6))) (headsR (m ((c.tc : Thread nD τ).loc main_arg1)))
        (headsR (m ((c.tc : Thread nD τ).loc main_arg2))) (headsR (m ((c.tc : Thread nD τ).loc main_arg3)))
        (inR (m ((c.tc : Thread nD τ).loc main_arg7))) (biasR (m ((c.tc : Thread nD τ).loc main_arg8)))
        (branchR (m ((c.tc : Thread nD τ).loc main_arg9))) (outR (m ((c.tc : Thread nD τ).loc main_arg10))) := rfl

/-- The reference's result is the merge of the layer, of its arguments. -/
theorem reference_eq : Cert.Merge1ReferenceIdeal.Value.res_out0 m c
    = MergeMath.mergeArr 1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := by
  rw [res_eq]
  funext y
  rw [show y = ix2 (y 0) (y 1) by funext a; fin_cases a <;> rfl]
  refine (MergeRef.merge_at _ _ _ _ _ _ _ _ _ _ _ _ _ _ _).trans ?_
  exact MergeMath.merge_congr (fun k => rowsR_at _ _ k) (fun k => (FfnRef.modRow0_at _ k).trans (modR_at _ 0 k))
    (fun k => (FfnRef.modRow1_at _ k).trans (modR_at _ 1 k)) (fun k => (FfnRef.modRow2_at _ k).trans (modR_at _ 2 k))
    (fun k => normR_at _ k) (fun k => normR_at _ k)
    (fun n k => by
      fin_cases n
      · exact headsR_at _ _ k
      · exact headsR_at _ _ k
      · exact headsR_at _ _ k)
    (fun k n j => inR_at _ k _) (fun n j => biasR_at _ n j) (fun n k j => branchR_at _ n k j) (fun u j => outR_at _ u j) _

end Reference

/-! ## The claims -/

theorem frame_launch : Cert.quiescent_Merge1 (hMerge1 := Cert.Merge1.Gen.facts) := fun m ρ _ => Cert.Merge1.Gen.frame m ρ

theorem frame_ideal : Cert.quiescent_Merge1Ideal (hMerge1Ideal := Cert.Merge1Ideal.Gen.facts) :=
  fun m ρ _ => Cert.Merge1Ideal.Gen.frame m ρ

theorem frame_reference : Cert.quiescent_Merge1ReferenceIdeal (hMerge1ReferenceIdeal := Cert.Merge1ReferenceIdeal.Gen.facts) :=
  fun m g _ =>
    -- its run, read at its arguments; it declares no counter
    (θ_run (Cert.Merge1ReferenceIdeal.defs (F := Ideal)) _ _).mono (fun r h => ⟨fun c => (h c).2, sem_eq_zero_of_no_sems (by decide) r.2⟩)
      (Cert.Merge1ReferenceIdeal.Value.run (F := Ideal) m g)

theorem algebraic : Cert.algebraic_Merge1Ideal_Merge1ReferenceIdeal (hMerge1Ideal := Cert.Merge1Ideal.Gen.facts)
    (hMerge1ReferenceIdeal := Cert.Merge1ReferenceIdeal.Gen.facts) := by
  intro m g m' g' _ hagree
  refine ⟨fun c => resultV m c, ?_, ?_⟩
  · refine (θ_run _ _ _).mono (fun r h c => ?_) (Cert.Merge1Ideal.Value.run_blocks (F := Ideal) m g)
    obtain ⟨h0, h1⟩ := h c
    exact ⟨h0.trans (array_eq m c), h1⟩
  · refine (θ_run _ _ _).mono (fun r h c => ?_) (Cert.Merge1ReferenceIdeal.Value.run (F := Ideal) m' g')
    obtain ⟨h0, h1⟩ := h c
    refine ⟨h0.trans ((reference_eq m' c).trans ?_), h1⟩
    obtain ⟨e0, e1, e2, e3, e4, e5, e6, e7, e8, e9, e10⟩ := hagree c
    rw [e0, e1, e2, e3, e4, e5, e6, e7, e8, e9, e10]
    rfl

end Cert.Merge1Eq

end
-- ==== Proof.SbRing.lean ====
/-
  Stick-breaking attention: one chunk of 256 keys against a head's 256 queries, as programs of a few words. `scoreM` writes a
  head's exponents before the suffix sum, and the logarithms of what is left of the stick in two halves, to the head's slab of the
  three scratch buffers, and answers the logarithms' sum over the chunk; `weighM` reads the slab back and folds the chunk's
  weights into the head's accumulator. `chunkM` is a chunk's pass over the eight heads, a head scored before the one before it is
  weighed. What is applied to the logarithms and to the weights is a parameter: a mask on the diagonal, nothing elsewhere.
-/
module

public import proofs.«01_k».proof.Proof.Gen.StickIdeal.Skeleton
public import Idealize.ShloMosaic.Lib.VecWindow

@[expose] public section

set_option maxRecDepth 65536

noncomputable section

namespace Cert.Sb

open Cert.StickIdeal Cert.StickIdeal.Gen
open Idealize.ShloMosaic Idealize.ShloMosaic.TcCoe
open Idealize.SL Idealize.SL.Sem

variable {F : FTy → Type} [FloatOps F] [Named F]

/-! ## The vector operations -/

abbrev zeroAt : F .f32 := Named.named κ "zero_at" 0xC3160000#32
abbrev log2e : F .f32 := Named.named κ "log2e" 0x3FB8AA3B#32

/-- The logits of a chunk of 256 keys against a head's 256 queries: keys down, queries across. -/
def logitV (q : FVec F S256x128 .bf16) (kb : Vec F S256x128 .bf16) : FVec F S256x256 .f32 :=
  matmul dot_S256x128_S256x128_S256x256_1_1_0_0_n_n none (shapeCast S256x128 kb shapeCasts_S256x128_S256x128) q
    (constant S256x256 .f32 0x00000000#32)

def zero2 : FVec F S256x256 .f32 := broadcast S256x256 (Scalar.ofBits .f32 0x00000000#32 : F .f32)

/-- The logarithm, to the base 2, of one minus the break of a logit. -/
def restV (z : FVec F S256x256 .f32) : FVec F S256x256 .f32 :=
  subf zero2 (addf (maximumf z zero2)
    (mulf (log (addf (broadcast S256x256 (Scalar.ofBits .f32 0x3F800000#32 : F .f32)) (exp2 (subf zero2 (absf z)))))
      (broadcast S256x256 (log2e : F .f32))))

/-- On the diagonal a query sees the keys before it. -/
def keepV : IVec S256x256 1 := cmpi .slt (iota .tc S256x256 32 [0] iota_S256x256_d0_w32) (iota .tc S256x256 32 [1] iota_S256x256_d1_w32)
def maskV (x : FVec F S256x256 .f32) : FVec F S256x256 .f32 := select keepV x zero2
def restD (z : FVec F S256x256 .f32) : FVec F S256x256 .f32 := maskV (restV z)
def allV (x : FVec F S256x256 .f32) : FVec F S256x256 .f32 := x

/-- What scoring writes to a head's slab, of the logits `z` and the logarithms `l`. -/
def expV (z l : FVec F S256x256 .f32) : FVec F S1x256x256 .f32 := shapeCast S1x256x256 (addf z l) shapeCasts_S256x256_S1x256x256
def hiV (l : FVec F S256x256 .f32) : FVec F S1x256x256 .bf16 := shapeCast S1x256x256 (truncf .bf16 l bitsLt_bf16_f32) shapeCasts_S256x256_S1x256x256
def loV (l : FVec F S256x256 .f32) : FVec F S1x256x256 .bf16 :=
  shapeCast S1x256x256 (truncf .bf16 (subf l (extf .f32 (truncf .bf16 l bitsLt_bf16_f32) bitsLt_bf16_f32)) bitsLt_bf16_f32) shapeCasts_S256x256_S1x256x256

/-- The logarithms' sum over the chunk. -/
def sumV (l : FVec F S256x256 .f32) : FVec F S1x256 .f32 :=
  shapeCast S1x256 (multiReduction .add [0] S256 l 0x00000000#32 reduces_S256x256_S256 (.inl rfl) rfl) shapeCasts_S256_S1x256

/-- The chunk's weights, before the mask: two to the exponents plus the sum of the logarithms of the later keys. -/
def weightV (up : FVec F S256x256 .bf16) (cs : FVec F S1x256 .f32) (a : Vec F S1x256x256 .f32) (hi lo : Vec F S1x256x256 .bf16) : FVec F S256x256 .f32 :=
  exp2 (addf (shapeCast S256x256 a shapeCasts_S1x256x256_S256x256)
    (addf (addf (matmul dot_S256x256_S256x256_S256x256_1_0_0_1_n_n none up (shapeCast S256x256 hi shapeCasts_S1x256x256_S256x256) (constant S256x256 .f32 0x00000000#32))
      (matmul dot_S256x256_S256x256_S256x256_1_0_0_1_n_n none up (shapeCast S256x256 lo shapeCasts_S1x256x256_S256x256) (constant S256x256 .f32 0x00000000#32)))
      (broadcastTo S256x256 cs broadcasts_S1x256_S256x256)))

/-- The accumulator after a chunk whose weights are `w`. -/
def foldV (acc : FVec F S64x256 .f32) (w : FVec F S256x256 .f32) (v : Vec F S1x64x256 .bf16) : FVec F S64x256 .f32 :=
  addf acc (matmul dot_S64x256_S256x256_S64x256_1_0_0_1_n_n none (shapeCast S64x256 v shapeCasts_S1x64x256_S64x256)
    (truncf .bf16 w bitsLt_bf16_f32) (constant S64x256 .f32 0x00000000#32))

/-- A pair of heads' queries with the other head's lanes set to zero. -/
def evenV (q : Vec F S256x128 .bf16) : FVec F S256x128 .bf16 :=
  select (broadcastTo S256x128 (shapeCast S1x128 (cmpi .slt (iota .tc S1x128 32 [1] iota_S1x128_d1_w32) (broadcast S1x128 64#32)) shapeCasts_S1x128_S1x128) broadcasts_S1x128_S256x128)
    (shapeCast S256x128 q shapeCasts_S256x128_S256x128) (broadcast S256x128 (Scalar.ofBits .bf16 0x0000#16 : F .bf16))
def oddV (q : Vec F S256x128 .bf16) : FVec F S256x128 .bf16 :=
  select (broadcastTo S256x128 (shapeCast S1x128 (cmpi .sge (iota .tc S1x128 32 [1] iota_S1x128_d1_w32) (broadcast S1x128 64#32)) shapeCasts_S1x128_S1x128) broadcasts_S1x128_S256x128)
    (shapeCast S256x128 q shapeCasts_S256x128_S256x128) (broadcast S256x128 (Scalar.ofBits .bf16 0x0000#16 : F .bf16))

/-! ## The programs -/

abbrev Pr (F : FTy → Type) [FloatOps F] [Named F] (α : Type) := Prog (TpuEff nD τ sig (Elt F) (Λ₀ F) .tc) α
abbrev ARef := Memref sig .tc .vmem S8x256x256 .f32
abbrev LRef := Memref sig .tc .vmem S8x256x256 .bf16
abbrev KRef := Memref sig .tc .vmem S16384x512 .bf16
abbrev VRef := Memref sig .tc .vmem S64x512x256 .bf16

/-- A block of the keys that lies inside them; a tile of the values. -/
abbrev KOff := { o : Fin 2 → ℕ // ∀ a, o a + S256x128.size a ≤ S16384x512.size a }
abbrev VOff := { o : Fin 3 → ℕ // ∀ a, o a + S1x64x256.size a ≤ S64x512x256.size a }

theorem slab_inb : ∀ h : Fin 8, ∀ a, (![h.val, 0, 0] : Fin 3 → ℕ) a + S1x256x256.size a ≤ S8x256x256.size a := by decide +kernel
/-- A head's slab of a scratch buffer. -/
abbrev slabR (h : Fin 8) : Rect S8x256x256 := Rect.unit (s := S8x256x256) ![h.val, 0, 0] S1x256x256.size (slab_inb h)
theorem slab_packed (h : Fin 8) : (slabR h).PackedRows (EltTy.packing .bf16) := by
  fin_cases h
  exacts [packedbf16_S8x256x256_S1x256x256_0_0_0, packedbf16_S8x256x256_S1x256x256_1_0_0, packedbf16_S8x256x256_S1x256x256_2_0_0, packedbf16_S8x256x256_S1x256x256_3_0_0,
    packedbf16_S8x256x256_S1x256x256_4_0_0, packedbf16_S8x256x256_S1x256x256_5_0_0, packedbf16_S8x256x256_S1x256x256_6_0_0, packedbf16_S8x256x256_S1x256x256_7_0_0]

def loadK (kr : KRef) (o : KOff) : Pr F (Vec F S256x128 .bf16) :=
  Prog.lift (.load kr (Rect.unit (s := S16384x512) o.1 S256x128.size o.2).toLoadRect (View.loadsAt_vmem h_S256x128))

/-- Score a chunk for a head, `f` the logarithms of the logits. -/
def scoreM (f : FVec F S256x256 .f32 → FVec F S256x256 .f32) (kr : KRef) (s6 : ARef) (s7 : LRef) (w7 : s7.IsWhole) (s8 : LRef) (w8 : s8.IsWhole) (h : Fin 8)
    (o : KOff) (q : FVec F S256x128 .bf16) : Pr F (FVec F S1x256 .f32) := do
  let kb ← loadK kr o
  let _ ← Prog.lift (.load s6 (slabR h).toLoadRect (View.loadsAt_vmem h_S1x256x256))
  Prog.lift (.store s6 (slabR h) (expV (logitV q kb) (f (logitV q kb))) Finset.univ (View.stores_vmem_bits_univ h_S1x256x256 rfl) (.inl rfl))
  let _ ← Prog.lift (.load s7 (slabR h).toLoadRect (View.loadsAt_vmem h_S1x256x256))
  Prog.lift (.store s7 (slabR h) (hiV (f (logitV q kb))) Finset.univ (View.stores_vmem h_S1x256x256 (w7.storeExact_slice rfl _ (slab_packed h)) (fun _ => rfl)) (.inl rfl))
  let _ ← Prog.lift (.load s8 (slabR h).toLoadRect (View.loadsAt_vmem h_S1x256x256))
  Prog.lift (.store s8 (slabR h) (loV (f (logitV q kb))) Finset.univ (View.stores_vmem h_S1x256x256 (w8.storeExact_slice rfl _ (slab_packed h)) (fun _ => rfl)) (.inl rfl))
  pure (sumV (f (logitV q kb)))

/-- Fold a scored chunk into a head's accumulator, `g` what is done to the weights. -/
def weighM (g : FVec F S256x256 .f32 → FVec F S256x256 .f32) (vr : VRef) (s6 : ARef) (s7 s8 : LRef) (h : Fin 8)
    (o : VOff) (up : FVec F S256x256 .bf16) (cs : FVec F S1x256 .f32) (acc : FVec F S64x256 .f32) : Pr F (FVec F S64x256 .f32) := do
  let hi ← Prog.lift (.load s7 (slabR h).toLoadRect (View.loadsAt_vmem h_S1x256x256))
  let lo ← Prog.lift (.load s8 (slabR h).toLoadRect (View.loadsAt_vmem h_S1x256x256))
  let a ← Prog.lift (.load s6 (slabR h).toLoadRect (View.loadsAt_vmem h_S1x256x256))
  let v ← Prog.lift (.load vr (Rect.unit (s := S64x512x256) o.1 S1x64x256.size o.2).toLoadRect (View.loadsAt_vmem h_S1x64x256))
  pure (foldV acc (g (weightV up cs a hi lo)) v)

/-- The eight heads' sums of logarithms so far, and accumulators. -/
abbrev Heads (F : FTy → Type) := Fin 8 → FVec F S1x256 .f32 × FVec F S64x256 .f32

/-- A chunk's pass over the heads. -/
def chunkM (f g : FVec F S256x256 .f32 → FVec F S256x256 .f32) (kr : KRef) (vr : VRef) (s6 : ARef) (s7 : LRef) (w7 : s7.IsWhole) (s8 : LRef) (w8 : s8.IsWhole)
    (q : Fin 8 → FVec F S256x128 .bf16) (up : FVec F S256x256 .bf16) (ko : Fin 4 → KOff) (vo : Fin 8 → VOff) (p : Heads F) : Pr F (Heads F) := do
  let c0 ← scoreM f kr s6 s7 w7 s8 w8 0 (ko 0) (q 0)
  let c1 ← scoreM f kr s6 s7 w7 s8 w8 1 (ko 0) (q 1)
  let a0 ← weighM g vr s6 s7 s8 0 (vo 0) up (p 0).1 (p 0).2
  let c2 ← scoreM f kr s6 s7 w7 s8 w8 2 (ko 1) (q 2)
  let a1 ← weighM g vr s6 s7 s8 1 (vo 1) up (p 1).1 (p 1).2
  let c3 ← scoreM f kr s6 s7 w7 s8 w8 3 (ko 1) (q 3)
  let a2 ← weighM g vr s6 s7 s8 2 (vo 2) up (p 2).1 (p 2).2
  let c4 ← scoreM f kr s6 s7 w7 s8 w8 4 (ko 2) (q 4)
  let a3 ← weighM g vr s6 s7 s8 3 (vo 3) up (p 3).1 (p 3).2
  let c5 ← scoreM f kr s6 s7 w7 s8 w8 5 (ko 2) (q 5)
  let a4 ← weighM g vr s6 s7 s8 4 (vo 4) up (p 4).1 (p 4).2
  let c6 ← scoreM f kr s6 s7 w7 s8 w8 6 (ko 3) (q 6)
  let a5 ← weighM g vr s6 s7 s8 5 (vo 5) up (p 5).1 (p 5).2
  let c7 ← scoreM f kr s6 s7 w7 s8 w8 7 (ko 3) (q 7)
  let a6 ← weighM g vr s6 s7 s8 6 (vo 6) up (p 6).1 (p 6).2
  let a7 ← weighM g vr s6 s7 s8 7 (vo 7) up (p 7).1 (p 7).2
  pure ![(addf (p 0).1 c0, a0), (addf (p 1).1 c1, a1), (addf (p 2).1 c2, a2), (addf (p 3).1 c3, a3),
    (addf (p 4).1 c4, a4), (addf (p 5).1 c5, a5), (addf (p 6).1 c6, a6), (addf (p 7).1 c7, a7)]

/-- What the loop returns: its counter and the heads' states in a row. -/
abbrev Out (F : FTy → Type) := BitVec 32 × FVec F S1x256 .f32 × FVec F S64x256 .f32 × FVec F S1x256 .f32 × FVec F S64x256 .f32 × FVec F S1x256 .f32 × FVec F S64x256 .f32 × FVec F S1x256 .f32 × FVec F S64x256 .f32 × FVec F S1x256 .f32 × FVec F S64x256 .f32 × FVec F S1x256 .f32 × FVec F S64x256 .f32 × FVec F S1x256 .f32 × FVec F S64x256 .f32 × FVec F S1x256 .f32 × FVec F S64x256 .f32
def pack (n : BitVec 32) (p : Heads F) : Out F :=
  (n, (p 0).1, (p 0).2, (p 1).1, (p 1).2, (p 2).1, (p 2).2, (p 3).1, (p 3).2, (p 4).1, (p 4).2, (p 5).1, (p 5).2, (p 6).1, (p 6).2, (p 7).1, (p 7).2)

/-- Whether the loop takes another chunk: there is one, and some query's stick is not yet spent. -/
def goOn (i : grid0.Coords) (n : BitVec 32) (p : Heads F) : BitVec 1 :=
  Scalar.andi (Scalar.cmpi .slt n (BitVec.ofNat 32 (i 0).val))
    (Scalar.cmpf .ogt (k0_pay2 (p 0).1 (p 1).1 (p 2).1 (p 3).1 (p 4).1 (p 5).1 (p 6).1 (p 7).1) (zeroAt : F .f32))

/-- The chunk the loop takes at its counter, and the chunk on the diagonal: where they lie. -/
def koL (i : grid0.Coords) (n : BitVec 32) (w : k0_chk1 i n) : Fin 4 → KOff :=
  ![⟨_, k0_off13_inb i n w⟩, ⟨_, k0_off15_inb i n w⟩, ⟨_, k0_off18_inb i n w⟩, ⟨_, k0_off21_inb i n w⟩]
def voL (i : grid0.Coords) (n : BitVec 32) (w : k0_chk1 i n) : Fin 8 → VOff :=
  ![⟨_, k0_off14_inb i n w⟩, ⟨_, k0_off16_inb i n w⟩, ⟨_, k0_off17_inb i n w⟩, ⟨_, k0_off19_inb i n w⟩, ⟨_, k0_off20_inb i n w⟩, ⟨_, k0_off22_inb i n w⟩, ⟨_, k0_off23_inb i n w⟩, ⟨_, k0_off24_inb i n w⟩]
def koD (i : grid0.Coords) : Fin 4 → KOff := ![⟨_, k0_off1_inb i⟩, ⟨_, k0_off3_inb i⟩, ⟨_, k0_off6_inb i⟩, ⟨_, k0_off9_inb i⟩]
def voD (i : grid0.Coords) : Fin 8 → VOff :=
  ![⟨_, k0_off2_inb i⟩, ⟨_, k0_off4_inb i⟩, ⟨_, k0_off5_inb i⟩, ⟨_, k0_off7_inb i⟩, ⟨_, k0_off8_inb i⟩, ⟨_, k0_off10_inb i⟩, ⟨_, k0_off11_inb i⟩, ⟨_, k0_off12_inb i⟩]

/-- The loop's label on the queries `q` at a counter and the heads' states. -/
abbrev rec1 (i : grid0.Coords) (kr : KRef) (wk : kr.IsWhole) (vr : VRef) (wv : vr.IsWhole) (s6 : ARef) (w6 : s6.IsWhole) (s7 : LRef) (w7 : s7.IsWhole) (s8 : LRef) (w8 : s8.IsWhole)
    (q : Fin 8 → FVec F S256x128 .bf16) (up : FVec F S256x256 .bf16) (n : BitVec 32) (p : Heads F) : Cc0While1 F :=
  ⟨i, kr, wk, q 0, s6, w6, s7, w7, s8, w8, q 1, up, vr, wv, q 2, q 3, q 4, q 5, q 6, q 7, n, (p 0).1, (p 0).2, (p 1).1, (p 1).2, (p 2).1, (p 2).2, (p 3).1, (p 3).2, (p 4).1, (p 4).2, (p 5).1, (p 5).2, (p 6).1, (p 6).2, (p 7).1, (p 7).2⟩

/-- The loop at a counter: another chunk and the loop again, or the states as they are. -/
def loopM (i : grid0.Coords) (kr : KRef) (wk : kr.IsWhole) (vr : VRef) (wv : vr.IsWhole) (s6 : ARef) (w6 : s6.IsWhole) (s7 : LRef) (w7 : s7.IsWhole) (s8 : LRef) (w8 : s8.IsWhole)
    (q : Fin 8 → FVec F S256x128 .bf16) (up : FVec F S256x256 .bf16) (n : BitVec 32) (p : Heads F) : Pr F (Out F) :=
  if goOn i n p = 1#1 then do
    let w ← Prog.lift (TpuEff.assume (k0_chk1 i n) (k0_chk1.dec i n))
    let p' ← chunkM restV allV kr vr s6 s7 w7 s8 w8 q up (koL i n w.down) (voL i n w.down) p
    Prog.lift (.call (1 : (Λ₀ F).Label) (rec1 i kr wk vr wv s6 w6 s7 w7 s8 w8 q up (Scalar.addi n 1#32) p'))
  else pure (pack n p)

def zeroP : Heads F := fun _ => (broadcast S1x256 (Scalar.ofBits .f32 0x00000000#32 : F .f32), broadcast S64x256 (Scalar.ofBits .f32 0x00000000#32 : F .f32))

def loadQ (qr : Memref sig .tc .vmem S256x512 .bf16) (o : Fin 2 → ℕ) (h : ∀ a, o a + S256x128.size a ≤ S256x512.size a) : Pr F (Vec F S256x128 .bf16) :=
  Prog.lift (.load qr (Rect.unit (s := S256x512) o S256x128.size h).toLoadRect (View.loadsAt_vmem h_S256x128))

/-- The whole body: the queries, the chunk on the diagonal, the loop, the result. -/
def stickM (i : grid0.Coords) (arg1 : Memref sig .tc .vmem S256x512 .bf16) (kr : KRef) (wk : kr.IsWhole) (vr : VRef) (wv : vr.IsWhole) (arg4 : Memref sig .tc .vmem S256x256 .bf16)
    (arg5 : Memref sig .tc .vmem S256x512 .bf16) (harg5 : arg5.IsWhole) (s6 : ARef) (w6 : s6.IsWhole) (s7 : LRef) (w7 : s7.IsWhole) (s8 : LRef) (w8 : s8.IsWhole) : Pr F PUnit := do
  let v0 ← Prog.lift (.load arg4 (Rect.unit (s := S256x256) ![0, 0] S256x256.size inb_S256x256_S256x256_0_0).toLoadRect (View.loadsAt_vmem h_S256x256))
  let q0 ← loadQ arg1 ![0, 0] inb_S256x512_S256x128_0_0
  let q1 ← loadQ arg1 ![0, 0] inb_S256x512_S256x128_0_0
  let q2 ← loadQ arg1 ![0, 128] inb_S256x512_S256x128_0_128
  let q3 ← loadQ arg1 ![0, 128] inb_S256x512_S256x128_0_128
  let q4 ← loadQ arg1 ![0, 256] inb_S256x512_S256x128_0_256
  let q5 ← loadQ arg1 ![0, 256] inb_S256x512_S256x128_0_256
  let q6 ← loadQ arg1 ![0, 384] inb_S256x512_S256x128_0_384
  let q7 ← loadQ arg1 ![0, 384] inb_S256x512_S256x128_0_384
  let p ← chunkM restD maskV kr vr s6 s7 w7 s8 w8 ![evenV q0, oddV q1, evenV q2, oddV q3, evenV q4, oddV q5, evenV q6, oddV q7]
    (shapeCast S256x256 v0 shapeCasts_S256x256_S256x256) (koD i) (voD i) zeroP
  let r ← Prog.lift (.call (1 : (Λ₀ F).Label) (rec1 i kr wk vr wv s6 w6 s7 w7 s8 w8 ![evenV q0, oddV q1, evenV q2, oddV q3, evenV q4, oddV q5, evenV q6, oddV q7]
    (shapeCast S256x256 v0 shapeCasts_S256x256_S256x256) 0#32 p))
  match r with
  | (_, _, a0, _, a1, _, a2, _, a3, _, a4, _, a5, _, a6, _, a7) => do
    let _ ← Prog.lift (.load arg5 (Rect.unit (s := S256x512) ![0, 0] S256x512.size inb_S256x512_S256x512_0_0).toLoadRect (View.loadsAt_vmem h_S256x512))
    Prog.lift (.store arg5 (Rect.unit (s := S256x512) ![0, 0] S256x512.size inb_S256x512_S256x512_0_0) (k0_pay1 a0 a1 a2 a3 a4 a5 a6 a7) Finset.univ
      (View.stores_vmem h_S256x512 (harg5.storeExact_slice rfl _ packedbf16_S256x512_S256x512_0_0) (fun _ => rfl)) (.inl rfl))

end Cert.Sb
-- ==== Proof.SbTriple.lean ====
/-
  What the programs of `SbRing` do to memory. `Slabs` holds the three scratch buffers, the eight slabs of each at given contents.
  Scoring changes a head's slabs; weighing reads them. A chunk's pass takes the heads' states to `chunkV` of them.
-/
module

public import proofs.«01_k».proof.Proof.SbRing
public import Idealize.ShloMosaic.Lib.Exec
public import Idealize.ShloMosaic.Lib.Pipeline.Value
public import Idealize.ShloMosaic.Lib.Tactic
public import Idealize.ShloMosaic.Lib.Pipeline.FrameBody

@[expose] public section

set_option maxRecDepth 16384

noncomputable section

namespace Cert.Sb

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The block of keys, and the tile of values, at an offset. -/
def kAt (x : Vec F S16384x512 .bf16) (o : KOff) : Vec F S256x128 .bf16 := VecWindow.window x o.1 S256x128.size o.2
def vAt (x : Vec F S64x512x256 .bf16) (o : VOff) : Vec F S1x64x256 .bf16 := VecWindow.window x o.1 S1x64x256.size o.2

/-- A head's slabs: exponents, and logarithms in two halves. -/
structure Slab (F : FTy → Type) where
  a : Vec F S1x256x256 .f32
  hi : Vec F S1x256x256 .bf16
  lo : Vec F S1x256x256 .bf16

abbrev slabOf {e : EltTy} (d : S8x256x256.Idx → Elt F e) (h : Fin 8) : S1x256x256.Idx → Elt F e :=
  VecWindow.window (s := S8x256x256) d ![h.val, 0, 0] S1x256x256.size (slab_inb h)

def Held (c : Dev nD) {e : EltTy} (s : Memref sig .tc .vmem S8x256x256 e) (σ : Fin 8 → S1x256x256.Idx → Elt F e) : sProp 𝕄 :=
  iprop(∃ d : S8x256x256.Idx → Elt F e, ⌜∀ h, slabOf (F := F) d h = σ h⌝ ∗ owns (c : Thread nD τ) s fullShare d)

def Slabs (c : Dev nD) (s6 : ARef) (s7 s8 : LRef) (σ : Fin 8 → Slab F) : sProp 𝕄 :=
  iprop(Held c s6 (fun h => (σ h).a) ∗ Held c s7 (fun h => (σ h).hi) ∗ Held c s8 (fun h => (σ h).lo))

theorem Held.any (c : Dev nD) {e : EltTy} (s : Memref sig .tc .vmem S8x256x256 e) (σ : Fin 8 → S1x256x256.Idx → Elt F e) :
    Held c s σ ⊢ (iprop(∃ d, owns (c : Thread nD τ) s fullShare d) : sProp 𝕄) := by
  unfold Held
  iintro ⟨%d, -, H⟩
  iexists d; iexact H

/-- A write to a head's slab changes that slab alone. -/
theorem slab_write {e : EltTy} (s : Memref sig .tc .vmem S8x256x256 e) (f : s.view.ty.Contents (Elt F)) (σ : Fin 8 → Slab F) (pr : Slab F → S1x256x256.Idx → Elt F e)
    (hσ : ∀ h, slabOf (F := F) (s.view.read (Elt F) f) h = pr (σ h)) (h : Fin 8) (S : Slab F) :
    ∀ h', slabOf (F := F) (s.view.read (Elt F) (s.view.writes (Elt F) f [⟨slabR h, pr S⟩])) h' = pr (Function.update σ h S h') := by
  intro h'
  rw [View.read_writes_cons_put _ _ _ _ _ rfl]
  by_cases hh : h' = h
  · subst hh
    rw [Function.update_self]
    exact VecWindow.window_put_same _ _ _ _ _
  · rw [Function.update_of_ne hh, ← hσ h']
    refine VecWindow.window_put_of_disjoint (s := S8x256x256) _ ![h.val, 0, 0] S1x256x256.size ![h'.val, 0, 0] S1x256x256.size _ _ 0 ?_
    have : h'.val ≠ h.val := fun e => hh (Fin.ext e)
    show h'.val + 1 ≤ h.val ∨ h.val + 1 ≤ h'.val
    omega

variable (c : Dev nD) (E : Set ℕ) (bd : Option ℕ)

local notation "WP" => wp frame (wpE (defs₀ (F := F)) Variants.nat c bd) E

/-- A head's slabs after scoring. -/
def scored (f : FVec F S256x256 .f32 → FVec F S256x256 .f32) (z : FVec F S256x256 .f32) : Slab F := ⟨expV z (f z), hiV (f z), loV (f z)⟩

theorem scoreM_wp (f : FVec F S256x256 .f32 → FVec F S256x256 .f32) (kr : KRef) (wk : kr.IsWhole) (s6 : ARef) (w6 : s6.IsWhole) (s7 : LRef) (w7 : s7.IsWhole) (s8 : LRef) (w8 : s8.IsWhole) (h : Fin 8)
    (o : KOff) (q : FVec F S256x128 .bf16) (x : Vec F S16384x512 .bf16) (σ : Fin 8 → Slab F) (K : FVec F S1x256 .f32 → sProp 𝕄) :
    iprop(owns (c : Thread nD τ) kr fullShare x ∗ Slabs c s6 s7 s8 σ
        ∗ (iprop(owns (c : Thread nD τ) kr fullShare x ∗ Slabs c s6 s7 s8 (Function.update σ h (scored f (logitV q (kAt x o))))) -∗ K (sumV (f (logitV q (kAt x o))))))
      ⊢ WP (scoreM f kr s6 s7 w7 s8 w8 h o q) K := by
  simp only [scoreM, loadK]
  unfold Slabs Held owns
  iintro ⟨⟨%f0, %hf0, H0⟩, ⟨⟨%d1, %hd1, %f1, %hf1, H1⟩, ⟨%d2, %hd2, %f2, %hf2, H2⟩, ⟨%d3, %hd3, %f3, %hf3, H3⟩⟩, Hk⟩
  obtain rfl := wk.eq_unread hf0
  subst hf1 hf2 hf3
  sl_exec
  have hkb : scoreM_wp.sl.kb c kr wk o x = kAt x o := by
    unfold scoreM_wp.sl.kb
    rw [View.readAt_unit kr.view _ _ rfl o.2, hf0]; rfl
  rw [hkb]
  sl_step
  iapply Hk
  isplitl [H0]
  · iexists _; isplitr; · ipureintro; exact hf0
    iexact H0
  isplitl [H1]
  · iexists (s6.view.read (Elt F) (s6.view.writes (Elt F) f1 [⟨slabR h, expV (logitV q (kAt x o)) (f (logitV q (kAt x o)))⟩])); isplitr
    · ipureintro; exact slab_write s6 f1 σ Slab.a hd1 h (scored f (logitV q (kAt x o)))
    iexists _; isplitr; · ipureintro; rfl
    iexact H1
  isplitl [H2]
  · iexists (s7.view.read (Elt F) (s7.view.writes (Elt F) f2 [⟨slabR h, hiV (f (logitV q (kAt x o)))⟩])); isplitr
    · ipureintro; exact slab_write s7 f2 σ Slab.hi hd2 h (scored f (logitV q (kAt x o)))
    iexists _; isplitr; · ipureintro; rfl
    iexact H2
  · iexists (s8.view.read (Elt F) (s8.view.writes (Elt F) f3 [⟨slabR h, loV (f (logitV q (kAt x o)))⟩])); isplitr
    · ipureintro; exact slab_write s8 f3 σ Slab.lo hd3 h (scored f (logitV q (kAt x o)))
    iexists _; isplitr; · ipureintro; rfl
    iexact H3

theorem weighM_wp (g : FVec F S256x256 .f32 → FVec F S256x256 .f32) (vr : VRef) (wv : vr.IsWhole) (s6 : ARef) (s7 s8 : LRef) (h : Fin 8)
    (o : VOff) (up : FVec F S256x256 .bf16) (cs : FVec F S1x256 .f32) (acc : FVec F S64x256 .f32) (x : Vec F S64x512x256 .bf16) (σ : Fin 8 → Slab F) (S : Slab F) (hS : σ h = S)
    (K : FVec F S64x256 .f32 → sProp 𝕄) :
    iprop(owns (c : Thread nD τ) vr fullShare x ∗ Slabs c s6 s7 s8 σ
        ∗ (iprop(owns (c : Thread nD τ) vr fullShare x ∗ Slabs c s6 s7 s8 σ) -∗ K (foldV acc (g (weightV up cs S.a S.hi S.lo)) (vAt x o))))
      ⊢ WP (weighM g vr s6 s7 s8 h o up cs acc) K := by
  simp only [weighM]
  subst hS
  unfold Slabs Held owns
  iintro ⟨⟨%f0, %hf0, H0⟩, ⟨⟨%d1, %hd1, %f1, %hf1, H1⟩, ⟨%d2, %hd2, %f2, %hf2, H2⟩, ⟨%d3, %hd3, %f3, %hf3, H3⟩⟩, Hk⟩
  sl_exec
  have h6 : View.readAt (Elt F) s6.view (slabR h).toLoadRect f1 = (σ h).a := by
    rw [View.readAt_unit s6.view _ _ rfl (slab_inb h), hf1]; exact hd1 h
  have h7 : View.readAt (Elt F) s7.view (slabR h).toLoadRect f2 = (σ h).hi := by
    rw [View.readAt_unit s7.view _ _ rfl (slab_inb h), hf2]; exact hd2 h
  have h8 : View.readAt (Elt F) s8.view (slabR h).toLoadRect f3 = (σ h).lo := by
    rw [View.readAt_unit s8.view _ _ rfl (slab_inb h), hf3]; exact hd3 h
  have hv : weighM_wp.sl.v c vr o f0 = vAt x o := by
    unfold weighM_wp.sl.v
    rw [View.readAt_unit vr.view _ _ rfl o.2, hf0]; rfl
  rw [h6, h7, h8, hv]
  sl_step
  iapply Hk
  isplitl [H0]
  · iexists _; isplitr; · ipureintro; exact hf0
    iexact H0
  isplitl [H1]
  · iexists _; isplitr
    · ipureintro; exact hd1
    iexists _; isplitr; · ipureintro; exact hf1
    iexact H1
  isplitl [H2]
  · iexists _; isplitr
    · ipureintro; exact hd2
    iexists _; isplitr; · ipureintro; exact hf2
    iexact H2
  · iexists _; isplitr
    · ipureintro; exact hd3
    iexists _; isplitr; · ipureintro; exact hf3
    iexact H3

/-- A head's state after a chunk. -/
def stepV (f g : FVec F S256x256 .f32 → FVec F S256x256 .f32) (up : FVec F S256x256 .bf16) (z : FVec F S256x256 .f32) (v : Vec F S1x64x256 .bf16)
    (p : FVec F S1x256 .f32 × FVec F S64x256 .f32) : FVec F S1x256 .f32 × FVec F S64x256 .f32 :=
  (addf p.1 (sumV (f z)), foldV p.2 (g (weightV up p.1 (expV z (f z)) (hiV (f z)) (loV (f z)))) v)

/-- The pair a head is of. -/
def pairOf (h : Fin 8) : Fin 4 := ⟨h.val / 2, by omega⟩

/-- The heads' states after a chunk. -/
def chunkV (f g : FVec F S256x256 .f32 → FVec F S256x256 .f32) (q : Fin 8 → FVec F S256x128 .bf16) (up : FVec F S256x256 .bf16) (ko : Fin 4 → KOff) (vo : Fin 8 → VOff)
    (x : Vec F S16384x512 .bf16) (y : Vec F S64x512x256 .bf16) (p : Heads F) : Heads F :=
  fun h => stepV f g up (logitV (q h) (kAt x (ko (pairOf h)))) (vAt y (vo h)) (p h)

def Some3 (s6 : ARef) (s7 s8 : LRef) : sProp 𝕄 := iprop(∃ σ, Slabs (F := F) c s6 s7 s8 σ)

/-- The slabs after a head is scored. -/
def putS (f : FVec F S256x256 .f32 → FVec F S256x256 .f32) (q : Fin 8 → FVec F S256x128 .bf16) (x : Vec F S16384x512 .bf16) (ko : Fin 4 → KOff) (h : Fin 8) (σ : Fin 8 → Slab F) : Fin 8 → Slab F :=
  Function.update σ h (scored f (logitV (q h) (kAt x (ko (pairOf h)))))

theorem putS_self (f : FVec F S256x256 .f32 → FVec F S256x256 .f32) (q : Fin 8 → FVec F S256x128 .bf16) (x : Vec F S16384x512 .bf16) (ko : Fin 4 → KOff) (h : Fin 8) (σ : Fin 8 → Slab F) :
    putS f q x ko h σ h = scored f (logitV (q h) (kAt x (ko (pairOf h)))) := Function.update_self ..

theorem putS_other (f : FVec F S256x256 .f32 → FVec F S256x256 .f32) (q : Fin 8 → FVec F S256x128 .bf16) (x : Vec F S16384x512 .bf16) (ko : Fin 4 → KOff) (h h' : Fin 8) (e : h ≠ h') (σ : Fin 8 → Slab F) :
    putS f q x ko h' (putS f q x ko h σ) h = scored f (logitV (q h) (kAt x (ko (pairOf h)))) := (Function.update_of_ne e ..).trans (putS_self ..)

theorem chunkM_wp (f g : FVec F S256x256 .f32 → FVec F S256x256 .f32) (kr : KRef) (wk : kr.IsWhole) (vr : VRef) (wv : vr.IsWhole) (s6 : ARef) (w6 : s6.IsWhole) (s7 : LRef) (w7 : s7.IsWhole) (s8 : LRef) (w8 : s8.IsWhole)
    (q : Fin 8 → FVec F S256x128 .bf16) (up : FVec F S256x256 .bf16) (ko : Fin 4 → KOff) (vo : Fin 8 → VOff)
    (x : Vec F S16384x512 .bf16) (y : Vec F S64x512x256 .bf16) (p : Heads F) (K : Heads F → sProp 𝕄) :
    iprop(owns (c : Thread nD τ) kr fullShare x ∗ owns (c : Thread nD τ) vr fullShare y ∗ Some3 c s6 s7 s8
        ∗ (iprop(owns (c : Thread nD τ) kr fullShare x ∗ owns (c : Thread nD τ) vr fullShare y ∗ Some3 c s6 s7 s8) -∗ K (chunkV f g q up ko vo x y p)))
      ⊢ WP (chunkM f g kr vr s6 s7 w7 s8 w8 q up ko vo p) K := by
  unfold chunkM Some3
  iintro ⟨H1, H2, ⟨%σ, B⟩, Hk⟩
  rw [wp_bind]
  iapply (scoreM_wp c E bd f kr wk s6 w6 s7 w7 s8 w8 0 (ko (pairOf 0)) (q 0) x σ _)
  isplitl [H1]; · iexact H1
  isplitl [B]; · iexact B
  iintro ⟨H1, B⟩
  rw [wp_bind]
  iapply (scoreM_wp c E bd f kr wk s6 w6 s7 w7 s8 w8 1 (ko (pairOf 1)) (q 1) x (putS f q x ko 0 σ) _)
  isplitl [H1]; · iexact H1
  isplitl [B]; · iexact B
  iintro ⟨H1, B⟩
  rw [wp_bind]
  iapply (weighM_wp c E bd g vr wv s6 s7 s8 0 (vo 0) up (p 0).1 (p 0).2 y (putS f q x ko 1 (putS f q x ko 0 σ)) (scored f (logitV (q 0) (kAt x (ko (pairOf 0))))) (putS_other _ _ _ _ _ _ (by decide) _) _)
  isplitl [H2]; · iexact H2
  isplitl [B]; · iexact B
  iintro ⟨H2, B⟩
  rw [wp_bind]
  iapply (scoreM_wp c E bd f kr wk s6 w6 s7 w7 s8 w8 2 (ko (pairOf 2)) (q 2) x (putS f q x ko 1 (putS f q x ko 0 σ)) _)
  isplitl [H1]; · iexact H1
  isplitl [B]; · iexact B
  iintro ⟨H1, B⟩
  rw [wp_bind]
  iapply (weighM_wp c E bd g vr wv s6 s7 s8 1 (vo 1) up (p 1).1 (p 1).2 y (putS f q x ko 2 (putS f q x ko 1 (putS f q x ko 0 σ))) (scored f (logitV (q 1) (kAt x (ko (pairOf 1))))) (putS_other _ _ _ _ _ _ (by decide) _) _)
  isplitl [H2]; · iexact H2
  isplitl [B]; · iexact B
  iintro ⟨H2, B⟩
  rw [wp_bind]
  iapply (scoreM_wp c E bd f kr wk s6 w6 s7 w7 s8 w8 3 (ko (pairOf 3)) (q 3) x (putS f q x ko 2 (putS f q x ko 1 (putS f q x ko 0 σ))) _)
  isplitl [H1]; · iexact H1
  isplitl [B]; · iexact B
  iintro ⟨H1, B⟩
  rw [wp_bind]
  iapply (weighM_wp c E bd g vr wv s6 s7 s8 2 (vo 2) up (p 2).1 (p 2).2 y (putS f q x ko 3 (putS f q x ko 2 (putS f q x ko 1 (putS f q x ko 0 σ)))) (scored f (logitV (q 2) (kAt x (ko (pairOf 2))))) (putS_other _ _ _ _ _ _ (by decide) _) _)
  isplitl [H2]; · iexact H2
  isplitl [B]; · iexact B
  iintro ⟨H2, B⟩
  rw [wp_bind]
  iapply (scoreM_wp c E bd f kr wk s6 w6 s7 w7 s8 w8 4 (ko (pairOf 4)) (q 4) x (putS f q x ko 3 (putS f q x ko 2 (putS f q x ko 1 (putS f q x ko 0 σ)))) _)
  isplitl [H1]; · iexact H1
  isplitl [B]; · iexact B
  iintro ⟨H1, B⟩
  rw [wp_bind]
  iapply (weighM_wp c E bd g vr wv s6 s7 s8 3 (vo 3) up (p 3).1 (p 3).2 y (putS f q x ko 4 (putS f q x ko 3 (putS f q x ko 2 (putS f q x ko 1 (putS f q x ko 0 σ))))) (scored f (logitV (q 3) (kAt x (ko (pairOf 3))))) (putS_other _ _ _ _ _ _ (by decide) _) _)
  isplitl [H2]; · iexact H2
  isplitl [B]; · iexact B
  iintro ⟨H2, B⟩
  rw [wp_bind]
  iapply (scoreM_wp c E bd f kr wk s6 w6 s7 w7 s8 w8 5 (ko (pairOf 5)) (q 5) x (putS f q x ko 4 (putS f q x ko 3 (putS f q x ko 2 (putS f q x ko 1 (putS f q x ko 0 σ))))) _)
  isplitl [H1]; · iexact H1
  isplitl [B]; · iexact B
  iintro ⟨H1, B⟩
  rw [wp_bind]
  iapply (weighM_wp c E bd g vr wv s6 s7 s8 4 (vo 4) up (p 4).1 (p 4).2 y (putS f q x ko 5 (putS f q x ko 4 (putS f q x ko 3 (putS f q x ko 2 (putS f q x ko 1 (putS f q x ko 0 σ)))))) (scored f (logitV (q 4) (kAt x (ko (pairOf 4))))) (putS_other _ _ _ _ _ _ (by decide) _) _)
  isplitl [H2]; · iexact H2
  isplitl [B]; · iexact B
  iintro ⟨H2, B⟩
  rw [wp_bind]
  iapply (scoreM_wp c E bd f kr wk s6 w6 s7 w7 s8 w8 6 (ko (pairOf 6)) (q 6) x (putS f q x ko 5 (putS f q x ko 4 (putS f q x ko 3 (putS f q x ko 2 (putS f q x ko 1 (putS f q x ko 0 σ)))))) _)
  isplitl [H1]; · iexact H1
  isplitl [B]; · iexact B
  iintro ⟨H1, B⟩
  rw [wp_bind]
  iapply (weighM_wp c E bd g vr wv s6 s7 s8 5 (vo 5) up (p 5).1 (p 5).2 y (putS f q x ko 6 (putS f q x ko 5 (putS f q x ko 4 (putS f q x ko 3 (putS f q x ko 2 (putS f q x ko 1 (putS f q x ko 0 σ))))))) (scored f (logitV (q 5) (kAt x (ko (pairOf 5))))) (putS_other _ _ _ _ _ _ (by decide) _) _)
  isplitl [H2]; · iexact H2
  isplitl [B]; · iexact B
  iintro ⟨H2, B⟩
  rw [wp_bind]
  iapply (scoreM_wp c E bd f kr wk s6 w6 s7 w7 s8 w8 7 (ko (pairOf 7)) (q 7) x (putS f q x ko 6 (putS f q x ko 5 (putS f q x ko 4 (putS f q x ko 3 (putS f q x ko 2 (putS f q x ko 1 (putS f q x ko 0 σ))))))) _)
  isplitl [H1]; · iexact H1
  isplitl [B]; · iexact B
  iintro ⟨H1, B⟩
  rw [wp_bind]
  iapply (weighM_wp c E bd g vr wv s6 s7 s8 6 (vo 6) up (p 6).1 (p 6).2 y (putS f q x ko 7 (putS f q x ko 6 (putS f q x ko 5 (putS f q x ko 4 (putS f q x ko 3 (putS f q x ko 2 (putS f q x ko 1 (putS f q x ko 0 σ)))))))) (scored f (logitV (q 6) (kAt x (ko (pairOf 6))))) (putS_other _ _ _ _ _ _ (by decide) _) _)
  isplitl [H2]; · iexact H2
  isplitl [B]; · iexact B
  iintro ⟨H2, B⟩
  rw [wp_bind]
  iapply (weighM_wp c E bd g vr wv s6 s7 s8 7 (vo 7) up (p 7).1 (p 7).2 y (putS f q x ko 7 (putS f q x ko 6 (putS f q x ko 5 (putS f q x ko 4 (putS f q x ko 3 (putS f q x ko 2 (putS f q x ko 1 (putS f q x ko 0 σ)))))))) (scored f (logitV (q 7) (kAt x (ko (pairOf 7))))) (putS_self ..) _)
  isplitl [H2]; · iexact H2
  isplitl [B]; · iexact B
  iintro ⟨H2, B⟩
  iapply (le_wp_ret (M := 𝕄) _ _)
  rw [show ![_, _, _, _, _, _, _, _] = chunkV f g q up ko vo x y p from funext fun h => by fin_cases h <;> rfl]
  iapply Hk
  isplitl [H1]; · iexact H1
  isplitl [H2]; · iexact H2
  iexists _; iexact B

end Cert.Sb
-- ==== Proof.SbBody.lean ====
/- The printed loop of stick-breaking attention, and its printed body, are the programs of `SbRing`. -/
module

public import proofs.«01_k».proof.Proof.SbRing

@[expose] public section

set_option maxRecDepth 65536

noncomputable section

namespace Cert.Sb

open Cert.StickIdeal Cert.StickIdeal.Gen
open Idealize.ShloMosaic Idealize.ShloMosaic.TcCoe
open Idealize.SL Idealize.SL.Sem

variable {F : FTy → Type} [FloatOps F] [Named F]

set_option maxHeartbeats 4000000 in
theorem while_eq (i : grid0.Coords) (kr : KRef) (wk : kr.IsWhole) (vr : VRef) (wv : vr.IsWhole) (s6 : ARef) (w6 : s6.IsWhole) (s7 : LRef) (w7 : s7.IsWhole) (s8 : LRef) (w8 : s8.IsWhole)
    (q : Fin 8 → FVec F S256x128 .bf16) (up : FVec F S256x256 .bf16) (n : BitVec 32) (p : Heads F) :
    cc0_while1 i kr wk (q 0) s6 w6 s7 w7 s8 w8 (q 1) up vr wv (q 2) (q 3) (q 4) (q 5) (q 6) (q 7) n (p 0).1 (p 0).2 (p 1).1 (p 1).2 (p 2).1 (p 2).2 (p 3).1 (p 3).2
        (p 4).1 (p 4).2 (p 5).1 (p 5).2 (p 6).1 (p 6).2 (p 7).1 (p 7).2
      = loopM i kr wk vr wv s6 w6 s7 w7 s8 w8 q up n p := by
  simp (maxSteps := 10000000) only [cc0_while1_eq_skeleton, cc0_while1_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel,
    loopM, chunkM, scoreM, weighM, loadK, Prog.lift, Prog.pure_eq_ret, Prog.bind_ret, Prog.bind_op]
  rfl

set_option maxHeartbeats 4000000 in
theorem body_eq (i : grid0.Coords) (arg1 : Memref sig .tc .vmem S256x512 .bf16) (harg1 : arg1.IsWhole) (kr : KRef) (wk : kr.IsWhole) (vr : VRef) (wv : vr.IsWhole) (arg4 : Memref sig .tc .vmem S256x256 .bf16) (harg4 : arg4.IsWhole)
    (arg5 : Memref sig .tc .vmem S256x512 .bf16) (harg5 : arg5.IsWhole) (s6 : ARef) (w6 : s6.IsWhole) (s7 : LRef) (w7 : s7.IsWhole) (s8 : LRef) (w8 : s8.IsWhole) :
    cc0_stick_breaking_attention (F := F) i arg1 harg1 kr wk vr wv arg4 harg4 arg5 harg5 s6 w6 s7 w7 s8 w8
      = stickM i arg1 kr wk vr wv arg4 arg5 harg5 s6 w6 s7 w7 s8 w8 := by
  simp (maxSteps := 10000000) only [cc0_stick_breaking_attention_eq_skeleton, cc0_stick_breaking_attention_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel,
    stickM, loadQ, chunkM, scoreM, weighM, loadK, Prog.lift, Prog.pure_eq_ret, Prog.bind_ret, Prog.bind_op]
  rfl

end Cert.Sb
-- ==== Proof.SbOff.lean ====
/-
  The counter of the loop of stick-breaking attention, at every grid point and every count before the last chunk: the chunk it
  takes lies in the arrays, at the offsets `koC` and `voC` name.
-/
module

public import proofs.«01_k».proof.Proof.SbRing

@[expose] public section

set_option maxRecDepth 16384

noncomputable section

namespace Cert.Sb

open Cert.StickIdeal Cert.StickIdeal.Gen
open Idealize.ShloMosaic Idealize.ShloMosaic.TcCoe

/-! ## The counter -/

theorem ko_inb : ∀ (j : Fin 64) (b : Fin 4), ∀ a, (![256 * j.val, 128 * b.val] : Fin 2 → ℕ) a + S256x128.size a ≤ S16384x512.size a := by decide +kernel
theorem vo_inb : ∀ (j : Fin 64) (h : Fin 8), ∀ a, (![j.val, 64 * h.val, 0] : Fin 3 → ℕ) a + S1x64x256.size a ≤ S64x512x256.size a := by decide +kernel

/-- Where chunk `j` lies: the pairs' keys and the heads' values. -/
def koC (j : Fin 64) : Fin 4 → KOff := fun b => ⟨![256 * j.val, 128 * b.val], ko_inb j b⟩
def voC (j : Fin 64) : Fin 8 → VOff := fun h => ⟨![j.val, 64 * h.val, 0], vo_inb j h⟩

/-- The chunk the loop takes with its counter at `n`. -/
abbrev chunkAt (i : grid0.Coords) (n : Fin 64) : ℕ := (i 0).val - 1 - n.val

theorem chk_of_lt : ∀ (i : grid0.Coords) (n : Fin 64), n.val < (i 0).val → k0_chk1 i (BitVec.ofNat 32 n.val) := by decide +kernel

theorem off_k : ∀ (i : grid0.Coords) (n : Fin 64), n.val < (i 0).val →
    k0_off13 i (BitVec.ofNat 32 n.val) = ![256 * chunkAt i n, 0] ∧ k0_off15 i (BitVec.ofNat 32 n.val) = ![256 * chunkAt i n, 128]
    ∧ k0_off18 i (BitVec.ofNat 32 n.val) = ![256 * chunkAt i n, 256] ∧ k0_off21 i (BitVec.ofNat 32 n.val) = ![256 * chunkAt i n, 384] := by decide +kernel
theorem off_v : ∀ (i : grid0.Coords) (n : Fin 64), n.val < (i 0).val →
    k0_off14 i (BitVec.ofNat 32 n.val) = ![chunkAt i n, 0, 0] ∧ k0_off16 i (BitVec.ofNat 32 n.val) = ![chunkAt i n, 64, 0]
    ∧ k0_off17 i (BitVec.ofNat 32 n.val) = ![chunkAt i n, 128, 0] ∧ k0_off19 i (BitVec.ofNat 32 n.val) = ![chunkAt i n, 192, 0]
    ∧ k0_off20 i (BitVec.ofNat 32 n.val) = ![chunkAt i n, 256, 0] ∧ k0_off22 i (BitVec.ofNat 32 n.val) = ![chunkAt i n, 320, 0]
    ∧ k0_off23 i (BitVec.ofNat 32 n.val) = ![chunkAt i n, 384, 0] ∧ k0_off24 i (BitVec.ofNat 32 n.val) = ![chunkAt i n, 448, 0] := by decide +kernel
theorem off_d : ∀ (i : grid0.Coords),
    k0_off1 i = ![256 * (i 0).val, 0] ∧ k0_off3 i = ![256 * (i 0).val, 128] ∧ k0_off6 i = ![256 * (i 0).val, 256] ∧ k0_off9 i = ![256 * (i 0).val, 384]
    ∧ k0_off2 i = ![(i 0).val, 0, 0] ∧ k0_off4 i = ![(i 0).val, 64, 0] ∧ k0_off5 i = ![(i 0).val, 128, 0] ∧ k0_off7 i = ![(i 0).val, 192, 0]
    ∧ k0_off8 i = ![(i 0).val, 256, 0] ∧ k0_off10 i = ![(i 0).val, 320, 0] ∧ k0_off11 i = ![(i 0).val, 384, 0] ∧ k0_off12 i = ![(i 0).val, 448, 0] := by decide +kernel

theorem slt_self : ∀ i : grid0.Coords, ∀ b : BitVec 1, Scalar.andi (Scalar.cmpi .slt (BitVec.ofNat 32 (i 0).val) (BitVec.ofNat 32 (i 0).val)) b ≠ 1#1 := by decide +kernel
theorem slt_lt : ∀ (i : grid0.Coords) (n : Fin 64), n.val < (i 0).val → ∀ b : BitVec 1, Scalar.andi (Scalar.cmpi .slt (BitVec.ofNat 32 n.val) (BitVec.ofNat 32 (i 0).val)) b = b := by decide +kernel
theorem addi_one : ∀ n : Fin 64, Scalar.addi (BitVec.ofNat 32 n.val) 1#32 = BitVec.ofNat 32 (n.val + 1) := by decide +kernel
theorem coord_lt (i : grid0.Coords) : (i 0).val < 64 := (i 0).isLt

theorem koL_eq (i : grid0.Coords) (n : Fin 64) (hn : n.val < (i 0).val) (w : k0_chk1 i (BitVec.ofNat 32 n.val)) (j : Fin 64) (hj : j.val = chunkAt i n) :
    koL i (BitVec.ofNat 32 n.val) w = koC j := by
  obtain ⟨h0, h1, h2, h3⟩ := off_k i n hn
  funext b
  apply Subtype.ext
  show _ = (![256 * j.val, 128 * b.val] : Fin 2 → ℕ)
  rw [hj]
  fin_cases b
  exacts [h0, h1, h2, h3]
theorem voL_eq (i : grid0.Coords) (n : Fin 64) (hn : n.val < (i 0).val) (w : k0_chk1 i (BitVec.ofNat 32 n.val)) (j : Fin 64) (hj : j.val = chunkAt i n) :
    voL i (BitVec.ofNat 32 n.val) w = voC j := by
  obtain ⟨h0, h1, h2, h3, h4, h5, h6, h7⟩ := off_v i n hn
  funext b
  apply Subtype.ext
  show _ = (![j.val, 64 * b.val, 0] : Fin 3 → ℕ)
  rw [hj]
  fin_cases b
  exacts [h0, h1, h2, h3, h4, h5, h6, h7]
theorem koD_eq (i : grid0.Coords) : koD i = koC (i 0) := by
  obtain ⟨h0, h1, h2, h3, -⟩ := off_d i
  funext b
  apply Subtype.ext
  fin_cases b
  exacts [h0, h1, h2, h3]
theorem voD_eq (i : grid0.Coords) : voD i = voC (i 0) := by
  obtain ⟨-, -, -, -, h0, h1, h2, h3, h4, h5, h6, h7⟩ := off_d i
  funext b
  apply Subtype.ext
  fin_cases b
  exacts [h0, h1, h2, h3, h4, h5, h6, h7]

end Cert.Sb
-- ==== Proof.SbLoop.lean ====
/-
  The loop of stick-breaking attention. Its counter is in step with the chunks: with `k` chunks still to take it takes chunk
  `k - 1`, so the heads' states go through `loopV`, which stops early where the printed test says so. The body leaves `stickV`.
-/
module

public import proofs.«01_k».proof.Proof.SbTriple
public import proofs.«01_k».proof.Proof.SbBody
public import proofs.«01_k».proof.Proof.SbOff

@[expose] public section

set_option maxRecDepth 16384

noncomputable section

namespace Cert.Sb

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The values -/

/-- The heads' states once the chunks before chunk `k` are taken, or as many as the test lets. -/
def loopV (i : grid0.Coords) (q : Fin 8 → FVec F S256x128 .bf16) (up : FVec F S256x256 .bf16) (x : Vec F S16384x512 .bf16) (y : Vec F S64x512x256 .bf16) : ℕ → Heads F → Heads F
  | 0, p => p
  | k + 1, p => if goOn i (BitVec.ofNat 32 ((i 0).val - (k + 1))) p = 1#1 then
      loopV i q up x y k (chunkV restV allV q up (koC (Fin.ofNat 64 k)) (voC (Fin.ofNat 64 k)) x y p) else p

def qAt (x0 : Vec F S256x512 .bf16) (b : Fin 4) : Vec F S256x128 .bf16 :=
  VecWindow.window x0 ![0, 128 * b.val] S256x128.size ((by decide +kernel : ∀ b : Fin 4, ∀ a, (![0, 128 * b.val] : Fin 2 → ℕ) a + S256x128.size a ≤ S256x512.size a) b)

/-- The heads' queries. -/
def qsV (x0 : Vec F S256x512 .bf16) : Fin 8 → FVec F S256x128 .bf16 :=
  ![evenV (qAt x0 0), oddV (qAt x0 0), evenV (qAt x0 1), oddV (qAt x0 1), evenV (qAt x0 2), oddV (qAt x0 2), evenV (qAt x0 3), oddV (qAt x0 3)]

/-- The matrix that sums over the later keys of a chunk. -/
def upV (u : Vec F S256x256 .bf16) : FVec F S256x256 .bf16 :=
  shapeCast S256x256 (VecWindow.window (s := S256x256) u ![0, 0] S256x256.size inb_S256x256_S256x256_0_0) shapeCasts_S256x256_S256x256

/-- The heads' states at the end. -/
def endV (i : grid0.Coords) (x0 : Vec F S256x512 .bf16) (x : Vec F S16384x512 .bf16) (y : Vec F S64x512x256 .bf16) (u : Vec F S256x256 .bf16) : Heads F :=
  loopV i (qsV x0) (upV u) x y (i 0).val
    (chunkV restD maskV (qsV x0) (upV u) (koC (i 0)) (voC (i 0)) x y zeroP)

/-- The block of the result. -/
def stickV (i : grid0.Coords) (x0 : Vec F S256x512 .bf16) (x : Vec F S16384x512 .bf16) (y : Vec F S64x512x256 .bf16) (u : Vec F S256x256 .bf16) : Vec F S256x512 .bf16 :=
  let p := endV i x0 x y u
  k0_pay1 (p 0).2 (p 1).2 (p 2).2 (p 3).2 (p 4).2 (p 5).2 (p 6).2 (p 7).2

/-! ## The runs -/

variable (c : Dev nD) (E : Set ℕ)

theorem loop_wp (i : grid0.Coords) (kr : KRef) (wk : kr.IsWhole) (vr : VRef) (wv : vr.IsWhole) (s6 : ARef) (w6 : s6.IsWhole) (s7 : LRef) (w7 : s7.IsWhole) (s8 : LRef) (w8 : s8.IsWhole)
    (q : Fin 8 → FVec F S256x128 .bf16) (up : FVec F S256x256 .bf16) (x : Vec F S16384x512 .bf16) (y : Vec F S64x512x256 .bf16) :
    ∀ k, k ≤ (i 0).val → ∀ (p : Heads F) (K : Out F → sProp 𝕄),
    iprop(owns (c : Thread nD τ) kr fullShare x ∗ owns (c : Thread nD τ) vr fullShare y ∗ Some3 c s6 s7 s8
        ∗ (∀ n, iprop(owns (c : Thread nD τ) kr fullShare x ∗ owns (c : Thread nD τ) vr fullShare y ∗ Some3 c s6 s7 s8) -∗ K (pack n (loopV i q up x y k p))))
      ⊢ wp frame (wpE (defs₀ (F := F)) Variants.nat c (some k)) E
          (defs₀ (F := F) .tc 1 (rec1 i kr wk vr wv s6 w6 s7 w7 s8 w8 q up (BitVec.ofNat 32 ((i 0).val - k)) p)) K := by
  intro k
  induction k with
  | zero =>
    intro hk p K
    show _ ⊢ wp frame (wpE (defs₀ (F := F)) Variants.nat c (some 0)) E (cc0_while1 i kr wk (q 0) s6 w6 s7 w7 s8 w8 (q 1) up vr wv (q 2) (q 3) (q 4) (q 5) (q 6) (q 7) (BitVec.ofNat 32 ((i 0).val - 0)) (p 0).1 (p 0).2 (p 1).1 (p 1).2 (p 2).1 (p 2).2 (p 3).1 (p 3).2
        (p 4).1 (p 4).2 (p 5).1 (p 5).2 (p 6).1 (p 6).2 (p 7).1 (p 7).2) K
    rw [while_eq, Nat.sub_zero]
    unfold loopM
    rw [if_neg (by unfold goOn; exact slt_self i _)]
    simp only [loopV]
    iintro ⟨H1, H2, B, Hk⟩
    iapply (le_wp_ret (M := 𝕄) _ _)
    iapply Hk
    isplitl [H1]; · iexact H1
    isplitl [H2]; · iexact H2
    iexact B
  | succ k ih =>
    intro hk p K
    show _ ⊢ wp frame (wpE (defs₀ (F := F)) Variants.nat c (some (k + 1))) E (cc0_while1 i kr wk (q 0) s6 w6 s7 w7 s8 w8 (q 1) up vr wv (q 2) (q 3) (q 4) (q 5) (q 6) (q 7) (BitVec.ofNat 32 ((i 0).val - (k + 1))) (p 0).1 (p 0).2 (p 1).1 (p 1).2 (p 2).1 (p 2).2 (p 3).1 (p 3).2
        (p 4).1 (p 4).2 (p 5).1 (p 5).2 (p 6).1 (p 6).2 (p 7).1 (p 7).2) K
    rw [while_eq]
    have hi := coord_lt i
    unfold loopM loopV
    by_cases hg : goOn i (BitVec.ofNat 32 ((i 0).val - (k + 1))) p = 1#1
    · rw [if_pos hg, if_pos hg]
      have hn : ((⟨(i 0).val - (k + 1), by omega⟩ : Fin 64)).val < (i 0).val := by show (i 0).val - (k + 1) < _; omega
      have hw := chk_of_lt i ⟨(i 0).val - (k + 1), by omega⟩ hn
      have hj : (Fin.ofNat 64 k).val = chunkAt i ⟨(i 0).val - (k + 1), by omega⟩ := by
        show k % 64 = (i 0).val - 1 - ((i 0).val - (k + 1))
        rw [Nat.mod_eq_of_lt (by omega)]; omega
      iintro ⟨H1, H2, B, Hk⟩
      rw [wp_bind]
      iapply (wp_assume Variants.nat (c : Thread nD τ) (some (k + 1)) E hw)
      iapply (le_wp_ret (M := 𝕄) _ _)
      rw [wp_bind, koL_eq i ⟨(i 0).val - (k + 1), by omega⟩ hn hw _ hj, voL_eq i ⟨(i 0).val - (k + 1), by omega⟩ hn hw _ hj]
      iapply (chunkM_wp c E (some (k + 1)) restV allV kr wk vr wv s6 w6 s7 w7 s8 w8 q up _ _ x y p _)
      isplitl [H1]; · iexact H1
      isplitl [H2]; · iexact H2
      isplitl [B]; · iexact B
      iintro ⟨H1, H2, B⟩
      iapply (wp_call Variants.nat (c : Thread nD τ) (some (k + 1)) E k (fun u hu => by cases hu; exact Nat.lt_succ_self k))
      rw [show Scalar.addi (BitVec.ofNat 32 ((i 0).val - (k + 1))) 1#32 = BitVec.ofNat 32 ((i 0).val - k) from
        (addi_one ⟨(i 0).val - (k + 1), by omega⟩).trans (congrArg (BitVec.ofNat 32) (by show (i 0).val - (k + 1) + 1 = _; omega))]
      iapply (ih (by omega) _ _)
      isplitl [H1]; · iexact H1
      isplitl [H2]; · iexact H2
      isplitl [B]; · iexact B
      iintro %n ⟨H1, H2, B⟩
      iapply (le_wp_ret (M := 𝕄) _ _)
      iapply Hk
      isplitl [H1]; · iexact H1
      isplitl [H2]; · iexact H2
      iexact B
    · rw [if_neg hg, if_neg hg]
      iintro ⟨H1, H2, B, Hk⟩
      iapply (le_wp_ret (M := 𝕄) _ _)
      iapply Hk
      isplitl [H1]; · iexact H1
      isplitl [H2]; · iexact H2
      iexact B

theorem loadQ_wp (bd : Option ℕ) (qr : Memref sig .tc .vmem S256x512 .bf16) (o : Fin 2 → ℕ) (ho : ∀ a, o a + S256x128.size a ≤ S256x512.size a) (x : Vec F S256x512 .bf16)
    (K : Vec F S256x128 .bf16 → sProp 𝕄) :
    iprop(owns (c : Thread nD τ) qr fullShare x ∗ (owns (c : Thread nD τ) qr fullShare x -∗ K (VecWindow.window x o S256x128.size ho)))
      ⊢ wp frame (wpE (defs₀ (F := F)) Variants.nat c bd) E (loadQ qr o ho) K := by
  simp only [loadQ]
  unfold owns
  iintro ⟨⟨%f0, %hf0, H0⟩, Hk⟩
  sl_exec
  have ht : View.readAt (Elt F) qr.view (Rect.unit (s := S256x512) o S256x128.size ho).toLoadRect f0 = VecWindow.window x o S256x128.size ho := by
    rw [View.readAt_unit qr.view _ _ rfl ho, hf0]
  rw [ht]
  sl_step
  iapply Hk
  iexists _; isplitr; · ipureintro; exact hf0
  iexact H0

theorem loadU_wp (bd : Option ℕ) (qr : Memref sig .tc .vmem S256x256 .bf16) (x : Vec F S256x256 .bf16)
    (K : Vec F S256x256 .bf16 → sProp 𝕄) :
    iprop(owns (c : Thread nD τ) qr fullShare x ∗ (owns (c : Thread nD τ) qr fullShare x -∗ K (VecWindow.window (s := S256x256) x ![0, 0] S256x256.size inb_S256x256_S256x256_0_0)))
      ⊢ wp frame (wpE (defs₀ (F := F)) Variants.nat c bd) E (Prog.lift (.load qr (Rect.unit (s := S256x256) ![0, 0] S256x256.size inb_S256x256_S256x256_0_0).toLoadRect (View.loadsAt_vmem h_S256x256))) K := by
  unfold owns
  iintro ⟨⟨%f0, %hf0, H0⟩, Hk⟩
  sl_exec
  have ht : View.readAt (Elt F) qr.view (Rect.unit (s := S256x256) ![0, 0] S256x256.size inb_S256x256_S256x256_0_0).toLoadRect f0 = VecWindow.window (s := S256x256) x ![0, 0] S256x256.size inb_S256x256_S256x256_0_0 := by
    rw [View.readAt_unit qr.view _ _ rfl inb_S256x256_S256x256_0_0, hf0]
  rw [ht]
  sl_step
  iapply Hk
  iexists _; isplitr; · ipureintro; exact hf0
  iexact H0

theorem storeO_wp (bd : Option ℕ) (arg5 : Memref sig .tc .vmem S256x512 .bf16) (harg5 : arg5.IsWhole) (w : FVec F S256x512 .bf16) (K : PUnit → sProp 𝕄) :
    iprop((∃ d, owns (c : Thread nD τ) arg5 fullShare d) ∗ (owns (c : Thread nD τ) arg5 fullShare w -∗ K ⟨⟩)) ⊢ wp frame (wpE (defs₀ (F := F)) Variants.nat c bd) E (do
      let _ ← Prog.lift (.load arg5 (Rect.unit (s := S256x512) ![0, 0] S256x512.size inb_S256x512_S256x512_0_0).toLoadRect (View.loadsAt_vmem h_S256x512))
      Prog.lift (.store arg5 (Rect.unit (s := S256x512) ![0, 0] S256x512.size inb_S256x512_S256x512_0_0) w Finset.univ (View.stores_vmem h_S256x512 (harg5.storeExact_slice rfl _ packedbf16_S256x512_S256x512_0_0) (fun _ => rfl)) (.inl rfl))) K := by
  unfold owns
  iintro ⟨⟨%d, %f0, -, H0⟩, Hk⟩
  sl_exec
  sl_step
  iapply Hk
  iexists _; isplitr
  swap; · iexact H0
  ipureintro
  exact View.read_writes_full arg5.view f0 (off := ![0, 0]) inb_S256x512_S256x512_0_0 w []

/-- The body: its blocks stay, the result's buffer ends with `stickV`. -/
theorem body_wp (i : grid0.Coords) (arg1 : Memref sig .tc .vmem S256x512 .bf16) (harg1 : arg1.IsWhole) (kr : KRef) (wk : kr.IsWhole) (vr : VRef) (wv : vr.IsWhole) (arg4 : Memref sig .tc .vmem S256x256 .bf16) (harg4 : arg4.IsWhole)
    (arg5 : Memref sig .tc .vmem S256x512 .bf16) (harg5 : arg5.IsWhole) (s6 : ARef) (w6 : s6.IsWhole) (s7 : LRef) (w7 : s7.IsWhole) (s8 : LRef) (w8 : s8.IsWhole)
    (x0 : Vec F S256x512 .bf16) (x : Vec F S16384x512 .bf16) (y : Vec F S64x512x256 .bf16) (u : Vec F S256x256 .bf16) (K : PUnit → sProp 𝕄) :
    iprop(owns (c : Thread nD τ) arg1 fullShare x0 ∗ owns (c : Thread nD τ) kr fullShare x ∗ owns (c : Thread nD τ) vr fullShare y ∗ owns (c : Thread nD τ) arg4 fullShare u
        ∗ (∃ d, owns (c : Thread nD τ) arg5 fullShare d) ∗ (∃ d, owns (c : Thread nD τ) s6 fullShare d) ∗ (∃ d, owns (c : Thread nD τ) s7 fullShare d) ∗ (∃ d, owns (c : Thread nD τ) s8 fullShare d)
        ∗ (iprop(owns (c : Thread nD τ) arg1 fullShare x0 ∗ owns (c : Thread nD τ) kr fullShare x ∗ owns (c : Thread nD τ) vr fullShare y ∗ owns (c : Thread nD τ) arg4 fullShare u
            ∗ owns (c : Thread nD τ) arg5 fullShare (stickV i x0 x y u) ∗ (∃ d, owns (c : Thread nD τ) s6 fullShare d) ∗ (∃ d, owns (c : Thread nD τ) s7 fullShare d) ∗ (∃ d, owns (c : Thread nD τ) s8 fullShare d)) -∗ K ⟨⟩))
      ⊢ wp frame (wpE (defs₀ (F := F)) Variants.nat c none) E (cc0_stick_breaking_attention i arg1 harg1 kr wk vr wv arg4 harg4 arg5 harg5 s6 w6 s7 w7 s8 w8) K := by
  rw [body_eq]
  unfold stickM
  iintro ⟨H0, H1, H2, Hu, H5, ⟨%d6, B6⟩, ⟨%d7, B7⟩, ⟨%d8, B8⟩, Hk⟩
  rw [wp_bind]
  iapply (loadU_wp c E none arg4 u _)
  isplitl [Hu]; · iexact Hu
  iintro Hu
  rw [wp_bind]
  iapply (loadQ_wp c E none arg1 _ _ x0 _)
  isplitl [H0]; · iexact H0
  iintro H0
  rw [wp_bind]
  iapply (loadQ_wp c E none arg1 _ _ x0 _)
  isplitl [H0]; · iexact H0
  iintro H0
  rw [wp_bind]
  iapply (loadQ_wp c E none arg1 _ _ x0 _)
  isplitl [H0]; · iexact H0
  iintro H0
  rw [wp_bind]
  iapply (loadQ_wp c E none arg1 _ _ x0 _)
  isplitl [H0]; · iexact H0
  iintro H0
  rw [wp_bind]
  iapply (loadQ_wp c E none arg1 _ _ x0 _)
  isplitl [H0]; · iexact H0
  iintro H0
  rw [wp_bind]
  iapply (loadQ_wp c E none arg1 _ _ x0 _)
  isplitl [H0]; · iexact H0
  iintro H0
  rw [wp_bind]
  iapply (loadQ_wp c E none arg1 _ _ x0 _)
  isplitl [H0]; · iexact H0
  iintro H0
  rw [wp_bind]
  iapply (loadQ_wp c E none arg1 _ _ x0 _)
  isplitl [H0]; · iexact H0
  iintro H0
  rw [wp_bind, koD_eq, voD_eq]
  iapply (chunkM_wp c E none restD maskV kr wk vr wv s6 w6 s7 w7 s8 w8 (qsV x0) (upV u) (koC (i 0)) (voC (i 0)) x y zeroP _)
  isplitl [H1]; · iexact H1
  isplitl [H2]; · iexact H2
  isplitl [B6 B7 B8]
  · unfold Some3 Slabs Held
    iexists (fun h => ⟨slabOf (F := F) d6 h, slabOf (F := F) d7 h, slabOf (F := F) d8 h⟩)
    isplitl [B6]
    · iexists d6; isplitr; · ipureintro; exact fun _ => rfl
      iexact B6
    isplitl [B7]
    · iexists d7; isplitr; · ipureintro; exact fun _ => rfl
      iexact B7
    iexists d8; isplitr; · ipureintro; exact fun _ => rfl
    iexact B8
  iintro ⟨H1, H2, B⟩
  rw [wp_bind]
  iapply (wp_call Variants.nat (c : Thread nD τ) none E (i 0).val (fun u hu => nomatch hu))
  rw [show (0#32 : BitVec 32) = BitVec.ofNat 32 ((i 0).val - (i 0).val) by rw [Nat.sub_self]]
  iapply (loop_wp c E i kr wk vr wv s6 w6 s7 w7 s8 w8 (qsV x0) (upV u) x y (i 0).val le_rfl _ _)
  isplitl [H1]; · iexact H1
  isplitl [H2]; · iexact H2
  isplitl [B]; · iexact B
  iintro %n ⟨H1, H2, B⟩
  iapply (le_wp_ret (M := 𝕄) _ _)
  simp only [pack]
  iapply (storeO_wp c E none arg5 harg5 _ _)
  isplitl [H5]; · iexact H5
  iintro H5
  iapply Hk
  isplitl [H0]; · iexact H0
  isplitl [H1]; · iexact H1
  isplitl [H2]; · iexact H2
  isplitl [Hu]; · iexact Hu
  isplitl [H5]; · iexact H5
  unfold Some3 Slabs
  icases B with ⟨%σ, B6, B7, B8⟩
  isplitl [B6]; · iapply (Held.any c s6 _); iexact B6
  isplitl [B7]; · iapply (Held.any c s7 _); iexact B7
  iapply (Held.any c s8 _); iexact B8

end Cert.Sb
-- ==== Proof.SbRun.lean ====
/-
  The launch of stick-breaking attention: at every grid point the body finds the point's blocks in its buffers and leaves the block
  `stickV` of the result. So the array of results, block by block, is `stickV` of the blocks the host prepared, and the arguments
  stay as they were.
-/
module

public import proofs.«01_k».proof.Proof.SbLoop
public import proofs.«01_k».proof.Proof.Gen.StickIdeal.Launch
public import proofs.«01_k».proof.Proof.Gen.StickIdeal.Points
public import Idealize.ShloMosaic.Lib.Pipeline.FrameBody
public import Idealize.ShloMosaic.Lib.Pipeline.Value

@[expose] public section

set_option maxRecDepth 16384

noncomputable section

namespace Cert.Sb

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host's part -/

/-- The buffers when the grid starts. -/
abbrev V (c : Dev nD) (b : Ref sig .tc) : Buf (Elt F) ((c : Thread nD τ).loc b) :=
  StableHlo.after (List.flatten [hostOps0]) (fun b => m (c, b)) b

theorem host_fresh : (hostOps0 : List (HloOp τ sig (Elt F))).Forall fun op => op.fresh = ∅ := by
  simp only [List.Forall]; repeat' constructor

set_option maxHeartbeats 800000 in
theorem host_main (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact host_fresh) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The blocks -/

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin (cfg0 (F := F)).N) : Memref sig .tc .vmem S256x512 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S16384x512 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S64x512x256 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S256x256 .bf16 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S256x512 .bf16 := win0_4.stage ((cfg0 (F := F)).slots t 4)
abbrev hs4 (t : Fin (cfg0 (F := F)).N) : (ms4 t).IsWhole := hstage0_4 (((cfg0 (F := F)).slots t 4).cast nbuf0_4)
abbrev sc0 : ARef := Memref.whole cc0_scratch0
abbrev sc1 : LRef := Memref.whole cc0_scratch1
abbrev sc2 : LRef := Memref.whole cc0_scratch2

theorem inv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- What the body leaves at a grid point. -/
def blockV (c : Dev nD) (t : Fin (cfg0 (F := F)).N) : Vec F S256x512 .bf16 := stickV (grid0.coords t) (iblk m c 0 t) (iblk m c 1 t) (iblk m c 2 t) (iblk m c 3 t)

/-- The pipeline's data: each input's buffer keeps its block, the output's ends with `blockV`. -/
def dat (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockV m c t
  Φ _ := Pipeline.ΦA spec0 c
  q _ := fullShare
  owed _ := 0

theorem dat_A (c : Dev nD) (w : Fin (cfg0 (F := F)).W) : (dat m 0 c).A w = V m c (Pipeline.arrRef spec0 w) := by dsimp only [dat]
theorem dat_after0 (c : Dev nD) (t : Fin (cfg0 (F := F)).N) : (dat m 0 c).after 0 t = iblk m c 0 t := by dsimp only [dat]; rfl
theorem dat_after1 (c : Dev nD) (t : Fin (cfg0 (F := F)).N) : (dat m 0 c).after 1 t = iblk m c 1 t := by dsimp only [dat]; rfl
theorem dat_after2 (c : Dev nD) (t : Fin (cfg0 (F := F)).N) : (dat m 0 c).after 2 t = iblk m c 2 t := by dsimp only [dat]; rfl
theorem dat_after3 (c : Dev nD) (t : Fin (cfg0 (F := F)).N) : (dat m 0 c).after 3 t = iblk m c 3 t := by dsimp only [dat]; rfl
theorem dat_after4 (c : Dev nD) (t : Fin (cfg0 (F := F)).N) : (dat m 0 c).after 4 t = blockV m c t := by dsimp only [dat]; rfl
theorem dat_before0 (c : Dev nD) (t : Fin (cfg0 (F := F)).N) (d) : (dat m 0 c).before 0 t d = iblk m c 0 t := before0_of m (dat m 0 c) (dat_A m c 0) (dat_after0 m c) t d
theorem dat_before1 (c : Dev nD) (t : Fin (cfg0 (F := F)).N) (d) : (dat m 0 c).before 1 t d = iblk m c 1 t := before1_of m (dat m 0 c) (dat_A m c 1) (dat_after1 m c) t d
theorem dat_before2 (c : Dev nD) (t : Fin (cfg0 (F := F)).N) (d) : (dat m 0 c).before 2 t d = iblk m c 2 t := before2_of m (dat m 0 c) (dat_A m c 2) (dat_after2 m c) t d
theorem dat_before3 (c : Dev nD) (t : Fin (cfg0 (F := F)).N) (d) : (dat m 0 c).before 3 t d = iblk m c 3 t := before3_of m (dat m 0 c) (dat_A m c 3) (dat_after3 m c) t d

def pre (c : Dev nD) (t : Fin (cfg0 (F := F)).N) : sProp 𝕄 :=
  iprop((dat m 0 c).Φ t.castSucc ∗ (dat m 0 c).owesAt () t.castSucc
    ∗ (∃ d, owns (c : Thread nD τ) (ms0 t) fullShare ((dat m 0 c).before 0 t d))
    ∗ (∃ d, owns (c : Thread nD τ) (ms1 t) fullShare ((dat m 0 c).before 1 t d))
    ∗ (∃ d, owns (c : Thread nD τ) (ms2 t) fullShare ((dat m 0 c).before 2 t d))
    ∗ (∃ d, owns (c : Thread nD τ) (ms3 t) fullShare ((dat m 0 c).before 3 t d))
    ∗ (∃ d, owns (c : Thread nD τ) (ms4 t) fullShare ((dat m 0 c).before 4 t d)))

def post (c : Dev nD) (t : Fin (cfg0 (F := F)).N) : sProp 𝕄 :=
  iprop((dat m 0 c).Φ t.succ ∗ (dat m 0 c).owesAt () t.succ
    ∗ owns (c : Thread nD τ) (ms0 t) fullShare ((dat m 0 c).after 0 t)
    ∗ owns (c : Thread nD τ) (ms1 t) fullShare ((dat m 0 c).after 1 t)
    ∗ owns (c : Thread nD τ) (ms2 t) fullShare ((dat m 0 c).after 2 t)
    ∗ owns (c : Thread nD τ) (ms3 t) fullShare ((dat m 0 c).after 3 t)
    ∗ owns (c : Thread nD τ) (ms4 t) fullShare ((dat m 0 c).after 4 t))

/-- The body at a grid point. -/
theorem point_wp (c : Dev nD) (t : Fin (cfg0 (F := F)).N) :
    pre m c t ⊢ wp frame (wpE (defs₀ (F := F)) Variants.nat c none) Set.univ (bodyAt0 t) (fun _ => post m c t) := by
  unfold pre post bodyAt0
  simp only [dat_before0, dat_before1, dat_before2, dat_before3]
  rw [show (dat m 0 c).Φ t.succ = Pipeline.ΦA spec0 c from rfl, show (dat m 0 c).Φ t.castSucc = Pipeline.ΦA spec0 c from rfl,
    show (dat m 0 c).owesAt () t.succ = (dat m 0 c).owesAt () t.castSucc from rfl,
    dat_after0, dat_after1, dat_after2, dat_after3, dat_after4, inv_eq]
  iintro ⟨⟨⟨S0, S1, S2⟩, Hg⟩, Ho, ⟨%d0, H0⟩, ⟨%d1, H1⟩, ⟨%d2, H2⟩, ⟨%d3, H3⟩, ⟨%d4, H4⟩⟩
  iapply (body_wp c Set.univ (grid0.coords t) _ (hs0 t) _ (hs1 t) _ (hs2 t) _ (hs3 t) _ (hs4 t) _ (Memref.isWhole_whole _) _ (Memref.isWhole_whole _) _ (Memref.isWhole_whole _)
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  iintro ⟨H0, H1, H2, H3, H4, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  iexact H4

theorem sb_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem sb_body (c : Dev nD) : BodyObligation (dat (F := F) m 0 c) (defs₀ (F := F)) Variants.nat () Set.univ := fun t => by
  rw [bigSep_W0, bigSep_W0, sb_row]
  exact triple_restated (point_wp m c t) rfl .rfl fun _ => .rfl

set_option backward.isDefEq.respectTransparency.types false in
theorem sb_run : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.nat m ρ main
    (hbody := fun c => (sb_body m c).loose) (hshare := fun c => (dat m 0 c).share_full fun _ => rfl)
    (howed := fun _ _ => rfl) (V := V m) (hmain := host_main m Variants.nat) (hA := dat_A m) (hΦ := fun _ _ => rfl)

/-- The run leaves the arguments alone and every counter at zero. -/
theorem sb_frame : θ_run defs (onTc (τ := τ) (main (F := F))) ⟨m, fun _ => 0, ρ⟩ fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0 :=
  (θ_run defs _ _).mono (fun r h => ⟨fun c => ⟨
    ((h.1 c).2 main_arg0 (show main_arg0 ∈ Pipeline.restRefs sig spec0 from Pipeline.mem_restRefs_of main_arg0 (by decide) (by decide))).trans (V_arg0 m c),
    ((h.1 c).2 main_arg1 (show main_arg1 ∈ Pipeline.restRefs sig spec0 from Pipeline.mem_restRefs_of main_arg1 (by decide) (by decide))).trans (V_arg1 m c),
    ((h.1 c).2 main_arg2 (show main_arg2 ∈ Pipeline.restRefs sig spec0 from Pipeline.mem_restRefs_of main_arg2 (by decide) (by decide))).trans (V_arg2 m c)⟩, h.2⟩) (sb_run m ρ)

/-- The whole run: the array of results and the unchanged arguments. -/
theorem sb_array : θ_run defs (onTc (τ := τ) (main (F := F))) ⟨m, fun _ => 0, ρ⟩ fun r => ∀ c : Dev nD,
    r.2.mem ((c : Thread nD τ).loc main_v26) = (dat m 0 c).arrAt 4 (cfg0 (F := F)).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨(h.1 c).1 4,
    ((h.1 c).2 main_arg0 (show main_arg0 ∈ Pipeline.restRefs sig spec0 from Pipeline.mem_restRefs_of main_arg0 (by decide) (by decide))).trans (V_arg0 m c),
    ((h.1 c).2 main_arg1 (show main_arg1 ∈ Pipeline.restRefs sig spec0 from Pipeline.mem_restRefs_of main_arg1 (by decide) (by decide))).trans (V_arg1 m c),
    ((h.1 c).2 main_arg2 (show main_arg2 ∈ Pipeline.restRefs sig spec0 from Pipeline.mem_restRefs_of main_arg2 (by decide) (by decide))).trans (V_arg2 m c)⟩) (sb_run m ρ)

/-! ## Block by block -/

theorem out_inj : ∀ t t' : Fin (cfg0 (F := F)).N, win0_4.index t = win0_4.index t' → t = t' :=
  (by decide +kernel : ∀ t t' : Fin grid0.N, win0_4.index t = win0_4.index t' → t = t')

theorem out_disjoint : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => ((cfg0 (F := F)).win 4).disjoint_blk fun h => hne (out_inj t t' h)

theorem out_flush : ∀ t : Fin (cfg0 (F := F)).N, ((cfg0 (F := F)).win 4).flush t = true := (by decide +kernel : ∀ t : Fin grid0.N, win0_4.flush t = true)

/-- Block `t` of the results is what point `t` left. -/
theorem out_block (c : Dev nD) (t : Fin (cfg0 (F := F)).N) :
    (((cfg0 (F := F)).win 4).blk t).view.read (Elt F) ((dat m 0 c).arrAt 4 (cfg0 (F := F)).N) = ((cfg0 (F := F)).win 4).cut (grid0.coords t) (blockV m c t) := by
  rw [(dat m 0 c).read_blk_arrAt_eq_flushed 4 out_disjoint (cfg0 (F := F)).N t t.isLt (out_flush t)]
  show ((cfg0 (F := F)).win 4).cut (grid0.coords t) ((dat m 0 c).after 4 t) = _
  rw [dat_after4]

end Cert.Sb

end
-- ==== Proof.SbHost.lean ====
/-
  The arrays the host hands the launch of stick-breaking attention, element by element over the extended reals: the queries scaled
  and divided by the logarithm of two, the keys, the values transposed chunk by chunk, and the matrix of later keys.
-/
module

public import proofs.«01_k».proof.Proof.SbRun
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.Sb.Host

open Cert.StickIdeal Cert.StickIdeal.Gen Cert.Sb
open Idealize.ShloMosaic Idealize.ShloMosaic.TcCoe

variable (m : (ℓ : Loc nD τ sig) → Buf (Elt Ideal) ℓ) (c : Dev nD)

/-- The arguments on a device: the queries, the keys, the values. -/
abbrev qArg : FVec Ideal S1x8x16384x64 .f32 := m ((c.tc : Thread nD τ).loc main_arg0)
abbrev kArg : FVec Ideal S1x8x16384x64 .f32 := m ((c.tc : Thread nD τ).loc main_arg1)
abbrev vArg : FVec Ideal S1x8x16384x64 .f32 := m ((c.tc : Thread nD τ).loc main_arg2)

theorem keys_at (r : Fin 16384) (h : Fin 8) (d : Fin 64) :
    (V m c main_v12 : FVec Ideal S16384x512 .bf16) (ix2 r ⟨64 * h.val + d.val, by omega⟩) = kArg m c (ix4 0 h r d) := by
  unfold V
  after_reads_at
  refine congrArg (kArg m c) ?_
  funext a
  fin_cases a
  · rfl
  · exact Fin.ext (show (64 * h.val + d.val) / 64 = h.val by omega)
  · rfl
  · exact Fin.ext (show (64 * h.val + d.val) % 64 = d.val by omega)

theorem queries_at (r : Fin 16384) (h : Fin 8) (d : Fin 64) :
    (V m c main_v8 : FVec Ideal S16384x512 .bf16) (ix2 r ⟨64 * h.val + d.val, by omega⟩)
      = Ideal.div ((qArg m c (ix4 0 h r d) : EReal) * Ideal.ofBits .f32 0x3E000000#32) (Ideal.log (Ideal.ofBits .f32 0x40000000#32)) := by
  unfold V
  after_reads_at
  refine congrArg (fun z : EReal => Ideal.div (z * Ideal.ofBits .f32 0x3E000000#32) (Ideal.log (Ideal.ofBits .f32 0x40000000#32))) ?_
  refine congrArg (qArg m c) ?_
  funext a
  fin_cases a
  · rfl
  · exact Fin.ext (show (64 * h.val + d.val) / 64 = h.val by omega)
  · rfl
  · exact Fin.ext (show (64 * h.val + d.val) % 64 = d.val by omega)

theorem values_at (b : Fin 64) (h : Fin 8) (d : Fin 64) (x : Fin 256) :
    (V m c main_v17 : FVec Ideal S64x512x256 .bf16) (ix3 b ⟨64 * h.val + d.val, by omega⟩ x)
      = vArg m c (ix4 0 h ⟨256 * b.val + x.val, by omega⟩ d) := by
  unfold V
  after_reads_at
  refine congrArg (vArg m c) ?_
  funext a
  fin_cases a
  · rfl
  · exact Fin.ext (show (64 * h.val + d.val) / 64 = h.val by omega)
  · exact Fin.ext (show b.val * 256 + x.val = 256 * b.val + x.val by omega)
  · exact Fin.ext (show (64 * h.val + d.val) % 64 = d.val by omega)

theorem later_at (r x : Fin 256) :
    (V m c main_v25 : FVec Ideal S256x256 .bf16) (ix2 r x)
      = FloatOps.uitofp (F := Ideal) FTy.bf16 (IntOp.cmpi .sgt (BitVec.ofNat 32 x.val) (BitVec.ofNat 32 r.val)) := by
  unfold V
  after_reads_at

/-- Which block each window brings at a grid point. -/
theorem index_query : ∀ t : Fin (cfg0 (F := Ideal)).N, win0_0.index t = ![(grid0.coords t 0).val, 0] :=
  (by decide +kernel : ∀ t : Fin grid0.N, win0_0.index t = ![(grid0.coords t 0).val, 0])
theorem index_key : ∀ t : Fin (cfg0 (F := Ideal)).N, win0_1.index t = ![0, 0] :=
  (by decide +kernel : ∀ t : Fin grid0.N, win0_1.index t = ![0, 0])
theorem index_value : ∀ t : Fin (cfg0 (F := Ideal)).N, win0_2.index t = ![0, 0, 0] :=
  (by decide +kernel : ∀ t : Fin grid0.N, win0_2.index t = ![0, 0, 0])
theorem index_later : ∀ t : Fin (cfg0 (F := Ideal)).N, win0_3.index t = ![0, 0] :=
  (by decide +kernel : ∀ t : Fin grid0.N, win0_3.index t = ![0, 0])
theorem index_out : ∀ t : Fin (cfg0 (F := Ideal)).N, win0_4.index t = ![(grid0.coords t 0).val, 0] :=
  (by decide +kernel : ∀ t : Fin grid0.N, win0_4.index t = ![(grid0.coords t 0).val, 0])

theorem query_block (t : Fin (cfg0 (F := Ideal)).N) (x : Fin 256) (e : Fin 512) :
    (iblk m c 0 t : FVec Ideal S256x512 .bf16) (ix2 x e)
      = (V m c main_v8 : FVec Ideal S16384x512 .bf16) (ix2 ⟨256 * (grid0.coords t 0).val + x.val, by have := coord_lt (grid0.coords t); omega⟩ e) := by
  blk_ext [iblk, index_query t]

theorem key_block (t : Fin (cfg0 (F := Ideal)).N) (x : Fin 16384) (e : Fin 512) :
    (iblk m c 1 t : FVec Ideal S16384x512 .bf16) (ix2 x e) = (V m c main_v12 : FVec Ideal S16384x512 .bf16) (ix2 x e) := by
  blk_ext [iblk, index_key t]

theorem value_block (t : Fin (cfg0 (F := Ideal)).N) (b : Fin 64) (e : Fin 512) (x : Fin 256) :
    (iblk m c 2 t : FVec Ideal S64x512x256 .bf16) (ix3 b e x) = (V m c main_v17 : FVec Ideal S64x512x256 .bf16) (ix3 b e x) := by
  blk_ext [iblk, index_value t]

theorem later_block (t : Fin (cfg0 (F := Ideal)).N) (r x : Fin 256) :
    (iblk m c 3 t : FVec Ideal S256x256 .bf16) (ix2 r x) = (V m c main_v25 : FVec Ideal S256x256 .bf16) (ix2 r x) := by
  blk_ext [iblk, index_later t]

end Cert.Sb.Host

end
-- ==== Proof.SbMath.lean ====
/-
  The arithmetic of stick-breaking attention over the extended reals. A key's logit breaks off a part of the stick; `rest`, for a real
  logit, and `restE` are the logarithm of what is left, `later` what all later keys have left of the stick before it, `wt` the key's weight. To the base two all
  logarithms are divided by the logarithm of two.
-/
module

public import proofs.«01_k».proof.Proof.Soft

@[expose] public section

noncomputable section

namespace Cert.Sb

open Idealize.ShloMosaic

theorem coe_max (x y : ℝ) : max (x : EReal) (y : EReal) = ((max x y : ℝ) : EReal) := (EReal.coe_strictMono.monotone.map_max).symm

theorem log_two_pos : 0 < Real.log 2 := Real.log_pos (by norm_num)
theorem log_two_ne : Real.log 2 ≠ 0 := log_two_pos.ne'

theorem exp2_div (x : ℝ) : Ideal.exp2 ((x / Real.log 2 : ℝ) : EReal) = ((Real.exp x : ℝ) : EReal) := by
  show (((2 : ℝ) ^ (x / Real.log 2) : ℝ) : EReal) = _
  rw [Cert.Mla.two_rpow_div_log]

theorem log_real (x : ℝ) (hx : 0 < x) : Ideal.log (x : EReal) = ((Real.log x : ℝ) : EReal) := if_neg (by linarith)

/-- The logarithm of what a key of logit `x` leaves of the stick. -/
def rest (x : ℝ) : ℝ := -(max x 0 + Real.log (1 + Real.exp (-|x|)))

theorem rest_neg (x : ℝ) : rest (-x) = x + rest x := by
  unfold rest
  rw [abs_neg]
  have : max (-x) 0 = max x 0 - x := by
    rcases le_total x 0 with h | h
    · rw [max_eq_left (by linarith), max_eq_right h]; ring
    · rw [max_eq_right (by linarith), max_eq_left h]; ring
  rw [this]; ring

theorem one_add_pos (x : ℝ) : 0 < 1 + Real.exp x := by positivity

/-- The kernel's form of it, to the base two. -/
theorem rest_two (x : ℝ) :
    (0 : EReal) - (max ((x / Real.log 2 : ℝ) : EReal) 0
        + Ideal.log (1 + Ideal.exp2 (0 - max ((x / Real.log 2 : ℝ) : EReal) (-((x / Real.log 2 : ℝ) : EReal)))) * (((Real.log 2)⁻¹ : ℝ) : EReal))
      = ((rest x / Real.log 2 : ℝ) : EReal) := by
  have h2 := log_two_pos
  have habs : max (x / Real.log 2) (-(x / Real.log 2)) = |x| / Real.log 2 := by
    rw [show max (x / Real.log 2) (-(x / Real.log 2)) = |x / Real.log 2| from rfl, abs_div, abs_of_pos h2]
  have hmax : max (x / Real.log 2) 0 = max x 0 / Real.log 2 := by
    rcases le_total x 0 with h | h
    · rw [max_eq_right h, max_eq_right (div_nonpos_of_nonpos_of_nonneg h h2.le), zero_div]
    · rw [max_eq_left h, max_eq_left (div_nonneg h h2.le)]
  rw [← EReal.coe_neg, coe_max, habs, ← EReal.coe_zero, coe_max, hmax, ← EReal.coe_sub,
    show (0 : ℝ) - |x| / Real.log 2 = (-|x|) / Real.log 2 by ring, exp2_div, ← EReal.coe_one, ← EReal.coe_add,
    log_real _ (one_add_pos _), ← EReal.coe_mul, ← EReal.coe_add, ← EReal.coe_sub]
  congr 1
  unfold rest
  field_simp
  ring

/-- The reference's form of it. -/
theorem rest_soft (x : ℝ) :
    -(max (x : EReal) 0 + Ideal.log1p (Ideal.exp (-(max (x : EReal) (-(x : EReal)))))) = ((rest x : ℝ) : EReal) := by
  rw [← EReal.coe_neg, coe_max, show max x (-x) = |x| from rfl, ← EReal.coe_neg]
  show -(max (x : EReal) 0 + Ideal.log (1 + ((Real.exp (-|x|) : ℝ) : EReal))) = _
  rw [← EReal.coe_zero, coe_max, ← EReal.coe_one, ← EReal.coe_add, log_real _ (one_add_pos _), ← EReal.coe_add, ← EReal.coe_neg]
  rfl

/-! ## To the base two -/

/-- An exponent's form to the base two. -/
def two (x : EReal) : EReal := x * (((Real.log 2)⁻¹ : ℝ) : EReal)

theorem inv_pos : 0 < (Real.log 2)⁻¹ := inv_pos_of_pos log_two_pos

theorem two_add (x y : EReal) : two (x + y) = two x + two y :=
  EReal.right_distrib_of_nonneg_of_ne_top (by exact_mod_cast inv_pos.le) (EReal.coe_ne_top _) x y

theorem two_zero : two 0 = 0 := zero_mul _
theorem two_bot : two ⊥ = ⊥ := EReal.bot_mul_coe_of_pos inv_pos
theorem two_top : two ⊤ = ⊤ := EReal.top_mul_coe_of_pos inv_pos
theorem two_coe (x : ℝ) : two (x : EReal) = ((x / Real.log 2 : ℝ) : EReal) := by
  unfold two
  rw [← EReal.coe_mul, div_eq_mul_inv]

theorem two_sum {ι : Type} (T : Finset ι) (f : ι → EReal) : two (∑ t ∈ T, f t) = ∑ t ∈ T, two (f t) := by
  classical
  induction T using Finset.induction_on with
  | empty => simp [two_zero]
  | insert a T ha ih => rw [Finset.sum_insert ha, Finset.sum_insert ha, two_add, ih]

theorem two_eq_bot (x : EReal) (h : two x = ⊥) : x = ⊥ := by
  induction x using EReal.rec with
  | bot => rfl
  | coe r => rw [two_coe] at h; exact absurd h (EReal.coe_ne_bot _)
  | top => rw [two_top] at h; exact absurd h (by simp)

theorem exp2_two (x : EReal) : Ideal.exp2 (two x) = Ideal.exp x := by
  induction x using EReal.rec with
  | bot => rw [two_bot]; rfl
  | coe r => rw [two_coe, exp2_div]; rfl
  | top => rw [two_top]; rfl

/-! ## What a key leaves of the stick, of any logit -/

def restE (x : EReal) : EReal := -(max x 0 + Ideal.log1p (Ideal.exp (-(max x (-x)))))

theorem restE_coe (x : ℝ) : restE (x : EReal) = ((rest x : ℝ) : EReal) := rest_soft x

theorem log_one : Ideal.log (1 + 0) = 0 := by
  rw [add_zero, ← EReal.coe_one, log_real 1 one_pos, Real.log_one, EReal.coe_zero]

theorem restE_top : restE ⊤ = ⊥ := by
  show -(max (⊤ : EReal) 0 + Ideal.log (1 + Ideal.exp (-(max (⊤ : EReal) (-⊤))))) = ⊥
  rw [max_eq_left le_top, max_eq_left le_top, EReal.neg_top, show Ideal.exp ⊥ = 0 from rfl, log_one, add_zero, EReal.neg_top]

theorem restE_bot : restE ⊥ = 0 := by
  show -(max (⊥ : EReal) 0 + Ideal.log (1 + Ideal.exp (-(max (⊥ : EReal) (-⊥))))) = 0
  rw [EReal.neg_bot, max_eq_right bot_le, max_eq_right bot_le, EReal.neg_top, show Ideal.exp ⊥ = 0 from rfl, log_one, add_zero, neg_zero]

theorem restE_ne_top (x : EReal) : restE x ≠ ⊤ := by
  induction x using EReal.rec with
  | bot => rw [restE_bot]; exact EReal.zero_ne_top
  | coe r => rw [restE_coe]; exact EReal.coe_ne_top _
  | top => rw [restE_top]; exact bot_ne_top

/-- The logarithm of a break and of what it leaves differ by the logit. -/
theorem restE_neg (x : EReal) (hx : x ≠ ⊤) : restE (-x) = x + restE x := by
  induction x using EReal.rec with
  | bot => rw [EReal.neg_bot, restE_top, EReal.bot_add]
  | coe r => rw [← EReal.coe_neg, restE_coe, restE_coe, rest_neg, EReal.coe_add]
  | top => exact absurd rfl hx

/-- The kernel's form of it. -/
theorem restE_two (x : EReal) :
    (0 : EReal) - (max (two x) 0 + Ideal.log (1 + Ideal.exp2 (0 - max (two x) (-two x))) * (((Real.log 2)⁻¹ : ℝ) : EReal)) = two (restE x) := by
  induction x using EReal.rec with
  | bot =>
    rw [two_bot, restE_bot, two_zero, EReal.neg_bot, max_eq_right bot_le, max_eq_right bot_le, zero_sub, zero_sub, EReal.neg_top,
      show Ideal.exp2 ⊥ = 0 from rfl, log_one, zero_mul, add_zero, neg_zero]
  | coe r => rw [restE_coe, two_coe, two_coe, rest_two]
  | top =>
    rw [two_top, restE_top, two_bot, EReal.neg_top, max_eq_left le_top, max_eq_left le_top, zero_sub, zero_sub, EReal.neg_top,
      show Ideal.exp2 ⊥ = 0 from rfl, log_one, zero_mul, add_zero, EReal.neg_top]

/-! ## The stick, broken from the last key on -/

variable (ρ : ℕ → EReal) (n : ℕ)

/-- The logarithm of what key `j` leaves, for a query that sees the keys before `n`. -/
def left (j : ℕ) : EReal := if j < n then restE (ρ j) else 0
/-- What is left of the stick by the keys from `a` on. -/
def later (a : ℕ) : EReal := ∑ j ∈ Finset.Ico a 16384, left ρ n j
/-- A key's weight. -/
def wt (j : ℕ) : EReal := if j < n then Ideal.exp ((ρ j + restE (ρ j)) + later ρ n (j + 1)) else 0

theorem left_ne_top (j : ℕ) : left ρ n j ≠ ⊤ := by
  unfold left
  split_ifs
  · exact restE_ne_top _
  · exact EReal.zero_ne_top

theorem later_succ (a : ℕ) (ha : a < 16384) : later ρ n a = left ρ n a + later ρ n (a + 1) := by
  unfold later
  rw [Finset.sum_eq_sum_Ico_succ_bot ha]

theorem later_none (a : ℕ) (ha : n ≤ a) : later ρ n a = 0 :=
  Finset.sum_eq_zero fun j hj => if_neg (by rw [Finset.mem_Ico] at hj; omega)

theorem wt_none (j : ℕ) (hj : n ≤ j) : wt ρ n j = 0 := if_neg (by omega)

/-- A spent stick stays spent. -/
theorem later_spent (a b : ℕ) (hab : b ≤ a) (ha : a ≤ 16384) (h : later ρ n a = ⊥) : later ρ n b = ⊥ := by
  unfold later at h ⊢
  rw [← Finset.sum_Ico_consecutive _ hab ha, h, EReal.add_bot]

theorem wt_spent (a j : ℕ) (hj : j < a) (ha : a ≤ 16384) (h : later ρ n a = ⊥) : wt ρ n j = 0 := by
  unfold wt
  split_ifs
  · rw [later_spent ρ n a (j + 1) hj ha h, EReal.add_bot]; rfl
  · rfl

/-- The reference's form of a weight: the cumulative sum less its own term. -/
theorem wt_less (j : ℕ) (hj : j < 16384) (hn : j < n) : Ideal.exp (restE (-ρ j) + (later ρ n j - left ρ n j)) = wt ρ n j := by
  unfold wt
  rw [if_pos hn, later_succ ρ n j hj]
  by_cases hx : ρ j = ⊤
  · have hl : left ρ n j = ⊥ := by unfold left; rw [if_pos hn, hx, restE_top]
    rw [hl, hx, restE_top, EReal.bot_add, EReal.bot_sub, EReal.add_bot, EReal.add_bot, EReal.bot_add]
  · rw [restE_neg _ hx]
    obtain ⟨y, hy⟩ : ∃ y : ℝ, left ρ n j = (y : EReal) := by
      unfold left
      rw [if_pos hn]
      revert hx
      generalize ρ j = x
      induction x using EReal.rec with
      | bot => intro _; exact ⟨0, by rw [restE_bot, EReal.coe_zero]⟩
      | coe r => intro _; exact ⟨rest r, restE_coe r⟩
      | top => intro hx; exact absurd rfl hx
    rw [hy, EReal.add_sub_cancel_left]

/-- A rounded part and its remainder make up a number that is not `⊤`. -/
theorem parts (x : EReal) (hx : x ≠ ⊤) : x + (x - x) = x := by
  induction x using EReal.rec with
  | bot => rw [EReal.bot_add]
  | coe r => rw [← EReal.coe_sub, sub_self, EReal.coe_zero, add_zero]
  | top => exact absurd rfl hx

theorem two_ne_top (x : EReal) (hx : x ≠ ⊤) : two x ≠ ⊤ := by
  induction x using EReal.rec with
  | bot => rw [two_bot]; exact bot_ne_top
  | coe r => rw [two_coe]; exact EReal.coe_ne_top _
  | top => exact absurd rfl hx

/-- A sum over a chunk of 256 and what comes after it. -/
theorem sum_chunk {M : Type} [AddCommMonoid M] (f : ℕ → M) (k : ℕ) (hk : k < 64) :
    ∑ j ∈ Finset.Ico (256 * k) 16384, f j = (∑ r : Fin 256, f (256 * k + r.val)) + ∑ j ∈ Finset.Ico (256 * k + 256) 16384, f j := by
  rw [← Finset.sum_Ico_consecutive f (show 256 * k ≤ 256 * k + 256 by omega) (by omega)]
  congr 1
  rw [Finset.sum_Ico_eq_sum_range, Nat.add_sub_cancel_left, Fin.sum_univ_eq_sum_range (fun r => f (256 * k + r))]

/-- The later keys, those of the chunk first. -/
theorem later_in (k : ℕ) (hk : k < 64) (r : Fin 256) :
    later ρ n (256 * k + r.val + 1) = (∑ c : Fin 256, if r.val < c.val then left ρ n (256 * k + c.val) else 0) + later ρ n (256 * k + 256) := by
  have hr := r.isLt
  unfold later
  rw [← Finset.sum_Ico_consecutive _ (show 256 * k + r.val + 1 ≤ 256 * k + 256 by omega) (by omega)]
  congr 1
  rw [Fin.sum_univ_eq_sum_range (fun c => if r.val < c then left ρ n (256 * k + c) else 0), ← Finset.sum_filter,
    show (Finset.range 256).filter (fun c => r.val < c) = Finset.Ico (r.val + 1) 256 by
      ext c; simp only [Finset.mem_filter, Finset.mem_range, Finset.mem_Ico]; omega,
    Finset.sum_Ico_eq_sum_range, Finset.sum_Ico_eq_sum_range,
    show 256 * k + 256 - (256 * k + r.val + 1) = 256 - (r.val + 1) by omega]
  refine Finset.sum_congr rfl fun i _ => ?_
  congr 1
  omega

/-- A key's weight as the kernel takes it, to the base two. -/
theorem wt_two (k : ℕ) (hk : k < 64) (r : Fin 256) (h : 256 * k + r.val < n) :
    Ideal.exp2 ((two (ρ (256 * k + r.val)) + two (left ρ n (256 * k + r.val)))
        + (two (∑ c : Fin 256, if r.val < c.val then left ρ n (256 * k + c.val) else 0) + two (later ρ n (256 * k + 256))))
      = wt ρ n (256 * k + r.val) := by
  rw [← two_add, ← two_add, ← two_add, exp2_two, ← later_in ρ n k hk]
  unfold wt left
  rw [if_pos h, if_pos h]

end Cert.Sb

end
-- ==== Proof.SbRead.lean ====
/-
  One chunk of stick-breaking attention, element by element over the extended reals.
-/
module

public import proofs.«01_k».proof.Proof.SbLoop
public import proofs.«01_k».proof.Proof.SbMath
public import Idealize.ShloMosaic.Lib.Pointwise

@[expose] public section

set_option maxRecDepth 16384

noncomputable section

namespace Cert.Sb

open Cert.StickIdeal Cert.StickIdeal.Gen
open Idealize.ShloMosaic

theorem named_zero : (zeroAt : Ideal .f32) = (⊥ : EReal) := rfl
theorem named_log2e : (log2e : Ideal .f32) = (((Real.log 2)⁻¹ : ℝ) : EReal) := rfl

theorem logit_at (q : FVec Ideal S256x128 .bf16) (kb : FVec Ideal S256x128 .bf16) (r c : Fin 256) :
    (logitV (F := Ideal) q kb (ix2 r c) : EReal) = ∑ e : Fin 128, (kb (ix2 r e) : EReal) * q (ix2 c e) := by
  unfold logitV
  pointwise

theorem rest_at (z : FVec Ideal S256x256 .f32) (r c : Fin 256) (x : EReal) (hz : (z (ix2 r c) : EReal) = two x) :
    (restV (F := Ideal) z (ix2 r c) : EReal) = two (restE x) := by
  rw [← restE_two, ← hz, ← named_log2e]
  unfold restV zero2
  pointwise
  rfl

theorem sign_lt (x c : Fin 256) : IntOp.cmpi .slt (BitVec.ofNat 32 x.val) (BitVec.ofNat 32 c.val) = BitVec.ofBool (decide (x.val < c.val)) := by
  have hx := x.isLt
  have hc := c.isLt
  unfold IntOp.cmpi
  congr 1
  rw [Bool.eq_iff_iff]
  simp only [BitVec.slt, decide_eq_true_eq]
  have h1 : (BitVec.ofNat 32 x.val).toInt = (x.val : ℕ) := by
    rw [BitVec.toInt_eq_toNat_of_lt] <;> simp [BitVec.toNat_ofNat] <;> omega
  have h2 : (BitVec.ofNat 32 c.val).toInt = (c.val : ℕ) := by
    rw [BitVec.toInt_eq_toNat_of_lt] <;> simp [BitVec.toNat_ofNat] <;> omega
  rw [h1, h2]; omega

theorem mask_at (X : FVec Ideal S256x256 .f32) (r c : Fin 256) :
    (maskV (F := Ideal) X (ix2 r c) : EReal) = if r.val < c.val then (X (ix2 r c) : EReal) else 0 := by
  unfold maskV keepV zero2
  pointwise
  rw [sign_lt]
  by_cases h : r.val < c.val <;> simp [h, Scalar.select]

theorem sum_at (l : FVec Ideal S256x256 .f32) (c : Fin 256) :
    (sumV (F := Ideal) l (ix2 0 c) : EReal) = ∑ r : Fin 256, (l (ix2 r c) : EReal) := by
  unfold sumV
  pointwise

theorem weight_at (up : FVec Ideal S256x256 .bf16) (cs : FVec Ideal S1x256 .f32) (z l : FVec Ideal S256x256 .f32) (r c : Fin 256) :
    (weightV (F := Ideal) up cs (expV z l) (hiV l) (loV l) (ix2 r c) : EReal)
      = Ideal.exp2 (((z (ix2 r c) : EReal) + l (ix2 r c)) + (((∑ x : Fin 256, (up (ix2 r x) : EReal) * l (ix2 x c))
          + ∑ x : Fin 256, (up (ix2 r x) : EReal) * ((l (ix2 x c) : EReal) - l (ix2 x c))) + cs (ix2 0 c))) := by
  unfold weightV expV hiV loV
  pointwise
  rfl

theorem fold_at (acc : FVec Ideal S64x256 .f32) (w : FVec Ideal S256x256 .f32) (v : FVec Ideal S1x64x256 .bf16) (d : Fin 64) (c : Fin 256) :
    (foldV (F := Ideal) acc w v (ix2 d c) : EReal) = (acc (ix2 d c) : EReal) + ∑ r : Fin 256, (v (ix3 0 d r) : EReal) * w (ix2 r c) := by
  unfold foldV
  pointwise

theorem lane_lt (e : Fin 128) : IntOp.cmpi .slt (BitVec.ofNat 32 e.val) 64#32 = BitVec.ofBool (decide (e.val < 64)) :=
  (by decide +kernel : ∀ e : Fin 128, IntOp.cmpi .slt (BitVec.ofNat 32 e.val) 64#32 = BitVec.ofBool (decide (e.val < 64))) e
theorem lane_ge (e : Fin 128) : IntOp.cmpi .sge (BitVec.ofNat 32 e.val) 64#32 = BitVec.ofBool (decide (64 ≤ e.val)) :=
  (by decide +kernel : ∀ e : Fin 128, IntOp.cmpi .sge (BitVec.ofNat 32 e.val) 64#32 = BitVec.ofBool (decide (64 ≤ e.val))) e

theorem even_at (q : FVec Ideal S256x128 .bf16) (c : Fin 256) (e : Fin 128) :
    (evenV (F := Ideal) q (ix2 c e) : EReal) = if e.val < 64 then (q (ix2 c e) : EReal) else 0 := by
  unfold evenV
  pointwise
  rw [lane_lt]
  by_cases h : e.val < 64 <;> simp [h, Scalar.select]

theorem odd_at (q : FVec Ideal S256x128 .bf16) (c : Fin 256) (e : Fin 128) :
    (oddV (F := Ideal) q (ix2 c e) : EReal) = if 64 ≤ e.val then (q (ix2 c e) : EReal) else 0 := by
  unfold oddV
  pointwise
  rw [lane_ge]
  by_cases h : 64 ≤ e.val <;> simp [h, Scalar.select]

theorem up_at (u : FVec Ideal S256x256 .bf16) (r c : Fin 256) : (upV (F := Ideal) u (ix2 r c) : EReal) = u (ix2 r c) := by
  unfold upV
  pointwise
  exact congrArg u (by funext a; fin_cases a <;> exact Fin.ext (by simp [ix2]))

theorem key_at (x : FVec Ideal S16384x512 .bf16) (j : Fin 64) (b : Fin 4) (r : Fin 256) (e : Fin 128) :
    (kAt (F := Ideal) x (koC j b) (ix2 r e) : EReal) = x (ix2 ⟨256 * j.val + r.val, by omega⟩ ⟨128 * b.val + e.val, by omega⟩) :=
  congrArg x (by
    funext a
    fin_cases a
    · exact Fin.ext (show 256 * j.val + 1 * r.val = 256 * j.val + r.val by omega)
    · exact Fin.ext (show 128 * b.val + 1 * e.val = 128 * b.val + e.val by omega))

theorem value_at (y : FVec Ideal S64x512x256 .bf16) (j : Fin 64) (h : Fin 8) (d : Fin 64) (r : Fin 256) :
    (vAt (F := Ideal) y (voC j h) (ix3 0 d r) : EReal) = y (ix3 j ⟨64 * h.val + d.val, by omega⟩ r) :=
  congrArg y (by
    funext a
    fin_cases a
    · exact Fin.ext (show j.val + 1 * 0 = j.val by omega)
    · exact Fin.ext (show 64 * h.val + 1 * d.val = 64 * h.val + d.val by omega)
    · exact Fin.ext (show 0 + 1 * r.val = r.val by omega))

theorem query_at (x0 : FVec Ideal S256x512 .bf16) (b : Fin 4) (c : Fin 256) (e : Fin 128) :
    (qAt (F := Ideal) x0 b (ix2 c e) : EReal) = x0 (ix2 c ⟨128 * b.val + e.val, by omega⟩) :=
  congrArg x0 (by funext a; fin_cases a <;> exact Fin.ext (by simp [ix2]))

/-- A dot product over a pair's 128 lanes, the other head's set to zero, is the head's own. -/
theorem even_dot (f g : Fin 128 → EReal) : (∑ e : Fin 128, f e * (if e.val < 64 then g e else 0)) = ∑ d : Fin 64, f ⟨d.val, by omega⟩ * g ⟨d.val, by omega⟩ := by
  show (∑ e : Fin (64 + 64), f e * (if e.val < 64 then g e else 0)) = _
  rw [Fin.sum_univ_add]
  have hz : ∀ e : Fin 64, ¬ (Fin.natAdd 64 e).val < 64 := fun e => by simp
  have hp : ∀ e : Fin 64, (Fin.castAdd 64 e).val < 64 := fun e => e.isLt
  simp only [hz, hp, if_false, if_true, mul_zero, Finset.sum_const_zero, add_zero]
  rfl

theorem odd_dot (f g : Fin 128 → EReal) : (∑ e : Fin 128, f e * (if 64 ≤ e.val then g e else 0)) = ∑ d : Fin 64, f ⟨64 + d.val, by omega⟩ * g ⟨64 + d.val, by omega⟩ := by
  show (∑ e : Fin (64 + 64), f e * (if 64 ≤ e.val then g e else 0)) = _
  rw [Fin.sum_univ_add]
  have hz : ∀ e : Fin 64, 64 ≤ (Fin.natAdd 64 e).val := fun e => by simp
  have hp : ∀ e : Fin 64, ¬ 64 ≤ (Fin.castAdd 64 e).val := fun e => by have := e.isLt; simp
  simp only [hz, hp, if_false, if_true, mul_zero, Finset.sum_const_zero, zero_add]
  rfl

/-- A head's logits against a chunk: its own 64 lanes. -/
theorem head_dot (x0 : FVec Ideal S256x512 .bf16) (x : FVec Ideal S16384x512 .bf16) (j : Fin 64) (h : Fin 8) (r c : Fin 256) :
    (logitV (F := Ideal) (qsV (F := Ideal) x0 h) (kAt (F := Ideal) x (koC j (pairOf h))) (ix2 r c) : EReal)
      = ∑ d : Fin 64, (x (ix2 ⟨256 * j.val + r.val, by omega⟩ ⟨64 * h.val + d.val, by omega⟩) : EReal) * x0 (ix2 c ⟨64 * h.val + d.val, by omega⟩) := by
  rw [logit_at]
  have ev : ∀ b : Fin 4, (∑ e : Fin 128, (kAt (F := Ideal) x (koC j b) (ix2 r e) : EReal) * evenV (F := Ideal) (qAt (F := Ideal) x0 b) (ix2 c e))
      = ∑ d : Fin 64, (x (ix2 ⟨256 * j.val + r.val, by omega⟩ ⟨128 * b.val + d.val, by omega⟩) : EReal) * x0 (ix2 c ⟨128 * b.val + d.val, by omega⟩) := fun b => by
    simp only [even_at, key_at, query_at]
    exact even_dot (fun e => x (ix2 ⟨256 * j.val + r.val, by omega⟩ ⟨128 * b.val + e.val, by omega⟩)) (fun e => x0 (ix2 c ⟨128 * b.val + e.val, by omega⟩))
  have od : ∀ b : Fin 4, (∑ e : Fin 128, (kAt (F := Ideal) x (koC j b) (ix2 r e) : EReal) * oddV (F := Ideal) (qAt (F := Ideal) x0 b) (ix2 c e))
      = ∑ d : Fin 64, (x (ix2 ⟨256 * j.val + r.val, by omega⟩ ⟨128 * b.val + (64 + d.val), by omega⟩) : EReal) * x0 (ix2 c ⟨128 * b.val + (64 + d.val), by omega⟩) := fun b => by
    simp only [odd_at, key_at, query_at]
    exact odd_dot (fun e => x (ix2 ⟨256 * j.val + r.val, by omega⟩ ⟨128 * b.val + e.val, by omega⟩)) (fun e => x0 (ix2 c ⟨128 * b.val + e.val, by omega⟩))
  have lane : ∀ (a b : ℕ) (ha : a < 512) (hb : b < 512), a = b →
      (x (ix2 ⟨256 * j.val + r.val, by omega⟩ ⟨a, ha⟩) : EReal) * x0 (ix2 c ⟨a, ha⟩) = (x (ix2 ⟨256 * j.val + r.val, by omega⟩ ⟨b, hb⟩) : EReal) * x0 (ix2 c ⟨b, hb⟩) := by
    rintro a b ha hb rfl; rfl
  fin_cases h
  · exact (ev 0).trans (Finset.sum_congr rfl fun d _ => lane _ _ _ _ (by simp))
  · exact (od 0).trans (Finset.sum_congr rfl fun d _ => lane _ _ _ _ (by simp))
  · exact (ev 1).trans (Finset.sum_congr rfl fun d _ => lane _ _ _ _ (by simp))
  · exact (od 1).trans (Finset.sum_congr rfl fun d _ => lane _ _ _ _ (by simp; omega))
  · exact (ev 2).trans (Finset.sum_congr rfl fun d _ => lane _ _ _ _ (by simp))
  · exact (od 2).trans (Finset.sum_congr rfl fun d _ => lane _ _ _ _ (by simp; omega))
  · exact (ev 3).trans (Finset.sum_congr rfl fun d _ => lane _ _ _ _ (by simp))
  · exact (od 3).trans (Finset.sum_congr rfl fun d _ => lane _ _ _ _ (by simp; omega))

end Cert.Sb

end
-- ==== Proof.SbState.lean ====
/-
  The heads' states through the chunks: with the keys from `a` on taken, a query's state is the logarithm of what they leave of its
  stick and the values they weigh, over the extended reals; the loop stops early only where every stick is spent, and no earlier key then has a weight.
-/
module

public import proofs.«01_k».proof.Proof.SbRead

@[expose] public section

set_option maxRecDepth 16384

noncomputable section

namespace Cert.Sb

open Cert.StickIdeal Cert.StickIdeal.Gen
open Idealize.ShloMosaic

/-- A head's state, at a query, once the keys from `a` on are taken. -/
def At (ρ : ℕ → EReal) (n : ℕ) (v : Fin 64 → ℕ → EReal) (a : ℕ) (p : FVec Ideal S1x256 .f32 × FVec Ideal S64x256 .f32) (c : Fin 256) : Prop :=
  (p.1 (ix2 0 c) : EReal) = two (later ρ n a) ∧ ∀ d, (p.2 (ix2 d c) : EReal) = ∑ j ∈ Finset.Ico a 16384, v d j * wt ρ n j

/-- A state whose stick is spent is the one after all the keys. -/
theorem spent_at (ρ : ℕ → EReal) (n : ℕ) (v : Fin 64 → ℕ → EReal) (a : ℕ) (ha : a ≤ 16384) (p : FVec Ideal S1x256 .f32 × FVec Ideal S64x256 .f32) (c : Fin 256)
    (hp : At ρ n v a p c) (h : (p.1 (ix2 0 c) : EReal) = ⊥) : At ρ n v 0 p c := by
  have hs : later ρ n a = ⊥ := two_eq_bot _ (hp.1.symm.trans h)
  refine ⟨by rw [h, later_spent ρ n a 0 (Nat.zero_le a) ha hs, two_bot], fun d => ?_⟩
  have hw : ∑ j ∈ Finset.Ico 0 a, v d j * wt ρ n j = 0 := Finset.sum_eq_zero fun j hj => by
    rw [wt_spent ρ n a j (Finset.mem_Ico.1 hj).2 ha hs, mul_zero]
  rw [hp.2 d, ← Finset.sum_Ico_consecutive (fun j => v d j * wt ρ n j) (Nat.zero_le a) ha, hw, zero_add]

theorem step_at (f g : FVec Ideal S256x256 .f32 → FVec Ideal S256x256 .f32) (up : FVec Ideal S256x256 .bf16) (z : FVec Ideal S256x256 .f32) (V : FVec Ideal S1x64x256 .bf16)
    (p : FVec Ideal S1x256 .f32 × FVec Ideal S64x256 .f32) (c : Fin 256) (ρ : ℕ → EReal) (n : ℕ) (v : Fin 64 → ℕ → EReal) (k : ℕ) (hk : k < 64)
    (hp : At ρ n v (256 * k + 256) p c)
    (hz : ∀ r : Fin 256, (z (ix2 r c) : EReal) = two (ρ (256 * k + r.val)))
    (hV : ∀ (d : Fin 64) (r : Fin 256), (V (ix3 0 d r) : EReal) = v d (256 * k + r.val))
    (hu : ∀ r x : Fin 256, (up (ix2 r x) : EReal) = if r.val < x.val then 1 else 0)
    (hf : ∀ r : Fin 256, (f z (ix2 r c) : EReal) = two (left ρ n (256 * k + r.val)))
    (hg : ∀ (X : FVec Ideal S256x256 .f32) (r : Fin 256), (g X (ix2 r c) : EReal) = if 256 * k + r.val < n then (X (ix2 r c) : EReal) else 0) :
    At ρ n v (256 * k) (stepV (F := Ideal) f g up z V p) c := by
  constructor
  · show (p.1 (ix2 0 c) : EReal) + sumV (F := Ideal) (f z) (ix2 0 c) = _
    rw [sum_at, hp.1, Finset.sum_congr rfl fun r _ => hf r, ← two_sum, ← two_add, add_comm]
    exact congrArg two (sum_chunk (left ρ n) k hk).symm
  · intro d
    show (foldV (F := Ideal) p.2 (g (weightV up p.1 (expV z (f z)) (hiV (f z)) (loV (f z)))) V (ix2 d c) : EReal) = _
    rw [fold_at, hp.2 d, sum_chunk _ k hk, add_comm]
    congr 1
    refine Finset.sum_congr rfl fun r _ => ?_
    rw [hV, hg]
    congr 1
    by_cases h : 256 * k + r.val < n
    · rw [if_pos h, weight_at, hz, hf, hp.1]
      have e : (∑ x : Fin 256, (up (ix2 r x) : EReal) * f z (ix2 x c)) + (∑ x : Fin 256, (up (ix2 r x) : EReal) * ((f z (ix2 x c) : EReal) - f z (ix2 x c)))
          = two (∑ x : Fin 256, if r.val < x.val then left ρ n (256 * k + x.val) else 0) := by
        rw [two_sum, ← Finset.sum_add_distrib]
        refine Finset.sum_congr rfl fun x _ => ?_
        rw [hu, hf]
        by_cases hx : r.val < x.val
        · rw [if_pos hx, if_pos hx, one_mul, one_mul, parts _ (two_ne_top _ (left_ne_top ρ n _))]
        · rw [if_neg hx, if_neg hx, zero_mul, zero_mul, add_zero, two_zero]
      rw [e]
      exact wt_two ρ n k hk r h
    · rw [if_neg h, wt_none ρ n _ (by omega)]

/-- The largest of what is left of the sticks is at least any one. -/
theorem most_ge (a : Fin 8 → FVec Ideal S1x256 .f32) (h : Fin 8) (c : Fin 256) :
    (a h (ix2 0 c) : EReal) ≤ k0_pay2 (F := Ideal) (a 0) (a 1) (a 2) (a 3) (a 4) (a 5) (a 6) (a 7) := by
  unfold k0_pay2
  pointwise
  refine (Finset.le_fold_max _).mpr (Or.inr ⟨(0, c), Finset.mem_univ _, ?_⟩)
  fin_cases h <;> simp only [le_max_iff] <;> simp

/-- Where the loop stops before the last chunk, every stick is spent. -/
theorem goOn_spent (i : grid0.Coords) (n : Fin 64) (hn : n.val < (i 0).val) (p : Heads Ideal) (hg : goOn (F := Ideal) i (BitVec.ofNat 32 n.val) p ≠ 1#1)
    (h : Fin 8) (c : Fin 256) : ((p h).1 (ix2 0 c) : EReal) = ⊥ := by
  unfold goOn at hg
  rw [slt_lt i n hn] at hg
  refine le_bot_iff.1 ((most_ge (fun h => (p h).1) h c).trans ?_)
  refine le_of_not_gt fun hl => hg ?_
  show Ideal.cmp .ogt (k0_pay2 (F := Ideal) (p 0).1 (p 1).1 (p 2).1 (p 3).1 (p 4).1 (p 5).1 (p 6).1 (p 7).1) (⊥ : EReal) = 1#1
  have hl' : (⊥ : EReal) < k0_pay2 (F := Ideal) (p 0).1 (p 1).1 (p 2).1 (p 3).1 (p 4).1 (p 5).1 (p 6).1 (p 7).1 := hl
  simp [Ideal.cmp, hl']

theorem zero_at (ρ : ℕ → EReal) (n : ℕ) (v : Fin 64 → ℕ → EReal) (a : ℕ) (ha : n ≤ a) (h : Fin 8) (c : Fin 256) : At ρ n v a (zeroP (F := Ideal) h) c := by
  constructor
  · rw [later_none ρ n a ha, two_zero]
    exact Ideal.ofBits_zero .f32
  · intro d
    rw [Finset.sum_eq_zero fun j hj => by rw [wt_none ρ n j (by rw [Finset.mem_Ico] at hj; omega), mul_zero]]
    exact Ideal.ofBits_zero .f32

section
variable (i : grid0.Coords) (q : Fin 8 → FVec Ideal S256x128 .bf16) (up : FVec Ideal S256x256 .bf16) (x : FVec Ideal S16384x512 .bf16) (y : FVec Ideal S64x512x256 .bf16)
    (ρ : Fin 8 → Fin 256 → ℕ → EReal) (v : Fin 8 → Fin 64 → ℕ → EReal)
    (hz : ∀ (k : Fin 64) (h : Fin 8) (r c : Fin 256), (logitV (F := Ideal) (q h) (kAt (F := Ideal) x (koC k (pairOf h))) (ix2 r c) : EReal) = two (ρ h c (256 * k.val + r.val)))
    (hV : ∀ (k : Fin 64) (h : Fin 8) (d : Fin 64) (r : Fin 256), (vAt (F := Ideal) y (voC k h) (ix3 0 d r) : EReal) = v h d (256 * k.val + r.val))
    (hu : ∀ r x : Fin 256, (up (ix2 r x) : EReal) = if r.val < x.val then 1 else 0)

include hz hV hu

/-- The chunk on the diagonal. -/
theorem diag_at (h : Fin 8) (c : Fin 256) :
    At (ρ h c) (256 * (i 0).val + c.val) (v h) (256 * (i 0).val)
      (chunkV (F := Ideal) restD maskV q up (koC (i 0)) (voC (i 0)) x y zeroP h) c := by
  have hi := coord_lt i
  have hc := c.isLt
  refine step_at _ _ _ _ _ _ c (ρ h c) _ (v h) (i 0).val hi (zero_at _ _ _ _ (by omega) h c) (fun r => hz (i 0) h r c) (fun d r => hV (i 0) h d r) hu ?_ ?_
  · intro r
    unfold restD
    rw [mask_at]
    unfold left
    by_cases hr : r.val < c.val
    · rw [if_pos hr, if_pos (by omega)]
      exact rest_at _ r c _ (hz (i 0) h r c)
    · rw [if_neg hr, if_neg (by omega), two_zero]
  · intro X r
    rw [mask_at]
    by_cases hr : r.val < c.val
    · rw [if_pos hr, if_pos (by omega)]
    · rw [if_neg hr, if_neg (by omega)]

/-- A chunk before it. -/
theorem below_at (k : Fin 64) (hk : k.val < (i 0).val) (p : Heads Ideal) (h : Fin 8) (c : Fin 256)
    (hp : At (ρ h c) (256 * (i 0).val + c.val) (v h) (256 * k.val + 256) (p h) c) :
    At (ρ h c) (256 * (i 0).val + c.val) (v h) (256 * k.val) (chunkV (F := Ideal) restV allV q up (koC k) (voC k) x y p h) c := by
  refine step_at _ _ _ _ _ _ c (ρ h c) _ (v h) k.val k.isLt hp (fun r => hz k h r c) (fun d r => hV k h d r) hu ?_ ?_
  · intro r
    unfold left
    have := r.isLt
    rw [if_pos (by omega)]
    exact rest_at _ r c _ (hz k h r c)
  · intro X r
    have := r.isLt
    rw [if_pos (by omega)]
    rfl

/-- The loop takes the chunks down to the first, or until every stick is spent. -/
theorem loop_at : ∀ k, k ≤ (i 0).val → ∀ p : Heads Ideal, (∀ h c, At (ρ h c) (256 * (i 0).val + c.val) (v h) (256 * k) (p h) c) →
    ∀ h c, At (ρ h c) (256 * (i 0).val + c.val) (v h) 0 (loopV (F := Ideal) i q up x y k p h) c := by
  intro k
  induction k with
  | zero => intro _ p hp h c; exact hp h c
  | succ k ih =>
    intro hk p hp h c
    have hi := coord_lt i
    have hn : (⟨(i 0).val - (k + 1), by omega⟩ : Fin 64).val < (i 0).val := by show (i 0).val - (k + 1) < _; omega
    unfold loopV
    by_cases hg : goOn (F := Ideal) i (BitVec.ofNat 32 ((i 0).val - (k + 1))) p = 1#1
    · rw [if_pos hg]
      have hkv : (Fin.ofNat 64 k).val = k := Nat.mod_eq_of_lt (by omega)
      refine ih (by omega) _ (fun h c => ?_) h c
      have := below_at i q up x y ρ v hz hV hu (Fin.ofNat 64 k) (by rw [hkv]; omega) p h c (by rw [hkv]; exact hp h c)
      rw [hkv] at this
      exact this
    · rw [if_neg hg]
      exact spent_at _ _ _ (256 * (k + 1)) (by omega) _ c (hp h c) (goOn_spent i ⟨(i 0).val - (k + 1), by omega⟩ hn p hg h c)

theorem end_at (h : Fin 8) (c : Fin 256) :
    At (ρ h c) (256 * (i 0).val + c.val) (v h) 0 (loopV (F := Ideal) i q up x y (i 0).val (chunkV (F := Ideal) restD maskV q up (koC (i 0)) (voC (i 0)) x y zeroP) h) c :=
  loop_at i q up x y ρ v hz hV hu (i 0).val le_rfl _ (diag_at i q up x y ρ v hz hV hu) h c

end

/-- The block of the result holds the heads' states side by side. -/
theorem heads_at (a : Fin 8 → FVec Ideal S64x256 .f32) (c : Fin 256) (h : Fin 8) (d : Fin 64) :
    (k0_pay1 (F := Ideal) (a 0) (a 1) (a 2) (a 3) (a 4) (a 5) (a 6) (a 7) (ix2 c ⟨64 * h.val + d.val, by omega⟩) : EReal) = a h (ix2 d c) := by
  have hd := d.isLt
  unfold k0_pay1
  pointwise
  have hh := h.isLt
  rcases (by omega : h.val = 0 ∨ h.val = 1 ∨ h.val = 2 ∨ h.val = 3 ∨ h.val = 4 ∨ h.val = 5 ∨ h.val = 6 ∨ h.val = 7) with hv | hv | hv | hv | hv | hv | hv | hv
  · rw [dif_pos (by omega)]
    exact (congrArg (fun z : Fin 64 => (a 0 (ix2 z c) : EReal)) (Fin.ext (show 64 * h.val + d.val = d.val by omega))).trans
      (congrArg (fun g : Fin 8 => (a g (ix2 d c) : EReal)) (Fin.ext hv.symm))
  · rw [dif_neg (by omega), dif_pos (by omega)]
    exact (congrArg (fun z : Fin 64 => (a 1 (ix2 z c) : EReal)) (Fin.ext (show 64 * h.val + d.val - 64 = d.val by omega))).trans
      (congrArg (fun g : Fin 8 => (a g (ix2 d c) : EReal)) (Fin.ext hv.symm))
  · rw [dif_neg (by omega), dif_neg (by omega), dif_pos (by omega)]
    exact (congrArg (fun z : Fin 64 => (a 2 (ix2 z c) : EReal)) (Fin.ext (show 64 * h.val + d.val - 64 - 64 = d.val by omega))).trans
      (congrArg (fun g : Fin 8 => (a g (ix2 d c) : EReal)) (Fin.ext hv.symm))
  · rw [dif_neg (by omega), dif_neg (by omega), dif_neg (by omega), dif_pos (by omega)]
    exact (congrArg (fun z : Fin 64 => (a 3 (ix2 z c) : EReal)) (Fin.ext (show 64 * h.val + d.val - 64 - 64 - 64 = d.val by omega))).trans
      (congrArg (fun g : Fin 8 => (a g (ix2 d c) : EReal)) (Fin.ext hv.symm))
  · rw [dif_neg (by omega), dif_neg (by omega), dif_neg (by omega), dif_neg (by omega), dif_pos (by omega)]
    exact (congrArg (fun z : Fin 64 => (a 4 (ix2 z c) : EReal)) (Fin.ext (show 64 * h.val + d.val - 64 - 64 - 64 - 64 = d.val by omega))).trans
      (congrArg (fun g : Fin 8 => (a g (ix2 d c) : EReal)) (Fin.ext hv.symm))
  · rw [dif_neg (by omega), dif_neg (by omega), dif_neg (by omega), dif_neg (by omega), dif_neg (by omega), dif_pos (by omega)]
    exact (congrArg (fun z : Fin 64 => (a 5 (ix2 z c) : EReal)) (Fin.ext (show 64 * h.val + d.val - 64 - 64 - 64 - 64 - 64 = d.val by omega))).trans
      (congrArg (fun g : Fin 8 => (a g (ix2 d c) : EReal)) (Fin.ext hv.symm))
  · rw [dif_neg (by omega), dif_neg (by omega), dif_neg (by omega), dif_neg (by omega), dif_neg (by omega), dif_neg (by omega), dif_pos (by omega)]
    exact (congrArg (fun z : Fin 64 => (a 6 (ix2 z c) : EReal)) (Fin.ext (show 64 * h.val + d.val - 64 - 64 - 64 - 64 - 64 - 64 = d.val by omega))).trans
      (congrArg (fun g : Fin 8 => (a g (ix2 d c) : EReal)) (Fin.ext hv.symm))
  · rw [dif_neg (by omega), dif_neg (by omega), dif_neg (by omega), dif_neg (by omega), dif_neg (by omega), dif_neg (by omega), dif_neg (by omega)]
    exact (congrArg (fun z : Fin 64 => (a 7 (ix2 z c) : EReal)) (Fin.ext (show 64 * h.val + d.val - 64 - 64 - 64 - 64 - 64 - 64 - 64 = d.val by omega))).trans
      (congrArg (fun g : Fin 8 => (a g (ix2 d c) : EReal)) (Fin.ext hv.symm))

end Cert.Sb

end
-- ==== Proof.SbRef.lean ====
/- The reference of stick-breaking attention, element by element over the extended reals. -/
module

public import proofs.«01_k».proof.Proof.Gen.StickReferenceIdeal.Run
public import proofs.«01_k».proof.Proof.SbMath
public import Idealize.ShloMosaic.Lib.Pointwise

@[expose] public section

set_option maxRecDepth 16384

noncomputable section

namespace Cert.Sb.Ref

open Cert.StickReferenceIdeal Cert.StickReferenceIdeal.Gen
open Idealize.ShloMosaic Idealize.ShloMosaic.TcCoe

abbrev Wide := FVec Ideal S1x8x16384x16384 .f32

/-- The logits, the mask, zeros. -/
def logitR (q k : FVec Ideal S1x8x16384x64 .f32) : Wide :=
  mulf (Host.dotGeneral dot_S1x8x16384x64_S1x8x16384x64_S1x8x16384x16384_3_3_2_2_01_01 none q k)
    (broadcastInDim S1x8x16384x16384 ![] bcast_S_S1x8x16384x16384 (constant S_ .f32 0x3E000000#32))
def zeroR : Wide := broadcastInDim S1x8x16384x16384 ![] bcast_S_S1x8x16384x16384 (constant S_ .f32 0x00000000#32)
def maskR (x : Wide) : Wide :=
  select (broadcastInDim S1x8x16384x16384 ![2, 3] bcast_S16384x16384_S1x8x16384x16384_2_3
      (cmpi .slt
        (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    x (broadcastInDim S1x8x16384x16384 ![] bcast_S_S1x8x16384x16384 (id (constant S_ .f32 0x00000000#32)))

/-- The logarithm of the logistic function of `-x`. -/
def softR (x : Wide) : Wide :=
  Host.negf (select (cmpf .une (subf x zeroR) (subf x zeroR)) (addf x zeroR)
    (addf (maximumf x zeroR) (Host.log1p (Host.exp (Host.negf (Host.absf (subf x zeroR)))))))

/-- Sums over a row's later elements and its own. -/
def sufR (x : Wide) : Wide :=
  Host.reduceWindowAdd ![1, 1, 1, 16384] ![1, 1, 1, 1] ![0, 0, 0, 0] ![0, 0, 0, 16383] x
    (broadcastInDim S_ ![] bcast_S_S_ (constant S_ .f32 0x00000000#32)) reduceWindows_S1x8x16384x16384_S1x8x16384x16384_w1s1p0_0_w1s1p0_0_w1s1p0_0_w16384s1p0_16383 h_S_

def outR (p : Wide) (v : FVec Ideal S1x8x16384x64 .f32) : FVec Ideal S16384x512 .bf16 :=
  truncf .bf16 (shapeCast S16384x512 (transpose S1x16384x8x64 [0, 2, 1, 3]
    (Host.dotGeneral dot_S1x8x16384x16384_S1x8x16384x64_S1x8x16384x64_3_2_2_3_01_01 none p v)
    transposes_S1x8x16384x64_S1x16384x8x64_0_2_1_3) shapeCasts_S1x16384x8x64_S16384x512) bitsLt_bf16_f32

/-- The whole reference. -/
def stickR (q k v : FVec Ideal S1x8x16384x64 .f32) : FVec Ideal S16384x512 .bf16 :=
  outR (maskR (Host.exp (addf (softR (Host.negf (logitR q k)))
    (subf (sufR (maskR (softR (Host.negf (Host.negf (logitR q k)))))) (maskR (softR (Host.negf (Host.negf (logitR q k))))))))) v

theorem res_eq (m : (ℓ : Loc nD τ sig) → Buf (Elt Ideal) ℓ) (c : Dev nD) :
    Cert.StickReferenceIdeal.Value.res_main_v21 m c
      = stickR (m ((c.tc : Thread nD τ).loc main_arg0)) (m ((c.tc : Thread nD τ).loc main_arg1)) (m ((c.tc : Thread nD τ).loc main_arg2)) := rfl

theorem logit_at (q k : FVec Ideal S1x8x16384x64 .f32) (h : Fin 8) (r t : Fin 16384) :
    (logitR q k (ix4 0 h r t) : EReal) = (∑ d : Fin 64, (q (ix4 0 h r d) : EReal) * k (ix4 0 h t d)) * Ideal.ofBits .f32 0x3E000000#32 := by
  unfold logitR
  pointwise

theorem sign_lt (t r : Fin 16384) : IntOp.cmpi .slt (BitVec.ofNat 32 t.val) (BitVec.ofNat 32 r.val) = BitVec.ofBool (decide (t.val < r.val)) := by
  have ht := t.isLt
  have hr := r.isLt
  unfold IntOp.cmpi
  congr 1
  rw [Bool.eq_iff_iff]
  simp only [BitVec.slt, decide_eq_true_eq]
  have h1 : (BitVec.ofNat 32 t.val).toInt = (t.val : ℕ) := by
    rw [BitVec.toInt_eq_toNat_of_lt] <;> simp [BitVec.toNat_ofNat] <;> omega
  have h2 : (BitVec.ofNat 32 r.val).toInt = (r.val : ℕ) := by
    rw [BitVec.toInt_eq_toNat_of_lt] <;> simp [BitVec.toNat_ofNat] <;> omega
  rw [h1, h2]; omega

theorem mask_at (x : Wide) (h : Fin 8) (r t : Fin 16384) :
    (maskR x (ix4 0 h r t) : EReal) = if t.val < r.val then (x (ix4 0 h r t) : EReal) else 0 := by
  unfold maskR
  pointwise
  rw [sign_lt]
  by_cases h : t.val < r.val <;> simp [h, Scalar.select, constant, Ideal.ofBits_zero]

theorem soft_at (x : Wide) (h : Fin 8) (r t : Fin 16384) (y : EReal) (hx : (x (ix4 0 h r t) : EReal) = y) :
    (softR x (ix4 0 h r t) : EReal) = restE y := by
  rw [← hx]
  unfold softR zeroR
  pointwise
  rw [if_neg (fun h => h rfl)]
  rfl

/-- A window's sum: from an element on to the end of its row. -/
theorem window_sum {n0 n1 n2 N Nm1 : ℕ} (hN : Nm1 + 1 = N) (x : FVec Ideal ⟨4, ![n0, n1, n2, N]⟩ .f32) (init : FVec Ideal S_ .f32)
    (hinit : (init (Shape.Idx.first h_S_) : EReal) = 0)
    (H : (⟨4, ![n0, n1, n2, N]⟩ : Shape).ReduceWindows (![1, 1, 1, N] : Fin 4 → ℕ) ![1, 1, 1, 1] ![0, 0, 0, 0] ![0, 0, 0, Nm1] ⟨4, ![n0, n1, n2, N]⟩)
    (a : Fin n0) (b : Fin n1) (c : Fin n2) (t : Fin N) (f : ℕ → EReal) (hf : ∀ u : Fin N, (x (ix4 a b c u) : EReal) = f u.val) :
    (Host.reduceWindowAdd ![1, 1, 1, N] ![1, 1, 1, 1] ![0, 0, 0, 0] ![0, 0, 0, Nm1] x init H h_S_ (ix4 a b c t) : EReal)
      = ∑ j ∈ Finset.Ico t.val N, f j := by
  have ht := t.isLt
  have ha := a.isLt
  have hb := b.isLt
  have hc := c.isLt
  have fold : ∀ {n : ℕ} (l : List (Fin n)) (g : Fin n → EReal) (s : EReal), l.foldl (fun r i => r + g i) s = s + (l.map g).sum := by
    intro n l g
    induction l with
    | nil => intro s; simp
    | cons i l ih => intro s; rw [List.foldl_cons, ih, List.map_cons, List.sum_cons, add_assoc]
  unfold Host.reduceWindowAdd
  rw [Ideal.hostReduceWindowAdd_def, hinit]
  unfold Ideal.hostReduceWindowAdd Host.reduceWindow
  refine (fold _ _ _).trans ?_
  rw [zero_add, ← Fin.sum_univ_def]
  let W : Shape := ⟨4, ![1, 1, 1, N]⟩
  let g : W.Idx → EReal := fun w => if t.val + (w 3).val < N then f (t.val + (w 3).val) else 0
  refine (Finset.sum_congr rfl fun n _ => (?_ : _ = g (W.rowMajor.symm n))).trans ((Equiv.sum_comp W.rowMajor.symm g).trans ?_)
  · have h0 : ((W.rowMajor.symm n) 0).val = 0 := Nat.lt_one_iff.1 ((W.rowMajor.symm n) 0).isLt
    have h1 : ((W.rowMajor.symm n) 1).val = 0 := Nat.lt_one_iff.1 ((W.rowMajor.symm n) 1).isLt
    have h2 : ((W.rowMajor.symm n) 2).val = 0 := Nat.lt_one_iff.1 ((W.rowMajor.symm n) 2).isLt
    by_cases hlt : t.val + ((W.rowMajor.symm n) 3).val < N
    · refine (dif_pos ?_).trans ?_
      · intro e
        fin_cases e
        · show 0 ≤ a.val * 1 + ((W.rowMajor.symm n) 0).val ∧ a.val * 1 + ((W.rowMajor.symm n) 0).val - 0 < n0; omega
        · show 0 ≤ b.val * 1 + ((W.rowMajor.symm n) 1).val ∧ b.val * 1 + ((W.rowMajor.symm n) 1).val - 0 < n1; omega
        · show 0 ≤ c.val * 1 + ((W.rowMajor.symm n) 2).val ∧ c.val * 1 + ((W.rowMajor.symm n) 2).val - 0 < n2; omega
        · show 0 ≤ t.val * 1 + ((W.rowMajor.symm n) 3).val ∧ t.val * 1 + ((W.rowMajor.symm n) 3).val - 0 < N; omega
      · show _ = if t.val + ((W.rowMajor.symm n) 3).val < N then f (t.val + ((W.rowMajor.symm n) 3).val) else 0
        rw [if_pos hlt]
        refine Eq.trans (congrArg x (funext fun e => ?_)) (hf ⟨_, hlt⟩)
        fin_cases e
        · exact Fin.ext (show a.val * 1 + ((W.rowMajor.symm n) 0).val - 0 = a.val by omega)
        · exact Fin.ext (show b.val * 1 + ((W.rowMajor.symm n) 1).val - 0 = b.val by omega)
        · exact Fin.ext (show c.val * 1 + ((W.rowMajor.symm n) 2).val - 0 = c.val by omega)
        · exact Fin.ext (show t.val * 1 + ((W.rowMajor.symm n) 3).val - 0 = t.val + ((W.rowMajor.symm n) 3).val by omega)
    · refine (dif_neg fun hin => hlt ?_).trans (if_neg hlt).symm
      have h3 : t.val * 1 + ((W.rowMajor.symm n) 3).val - 0 < N := (hin 3).2
      omega
  · rw [sum_idx4]
    simp only [Finset.univ_unique, Finset.sum_singleton]
    show (∑ u : Fin N, if t.val + u.val < N then f (t.val + u.val) else 0) = _
    rw [Fin.sum_univ_eq_sum_range (fun u => if t.val + u < N then f (t.val + u) else 0), Finset.sum_Ico_eq_sum_range, ← Finset.sum_filter]
    refine Finset.sum_congr ?_ fun _ _ => rfl
    ext u; simp only [Finset.mem_filter, Finset.mem_range]; omega

theorem out_at (p : Wide) (v : FVec Ideal S1x8x16384x64 .f32) (h : Fin 8) (r : Fin 16384) (y : Fin 64) :
    (outR p v (ix2 r ⟨64 * h.val + y.val, by omega⟩) : EReal) = ∑ t : Fin 16384, (p (ix4 0 h r t) : EReal) * v (ix4 0 h t y) := by
  unfold outR
  pointwise

/-- The reference at an element: its query's weights, the stick broken from the last key on, times the values. -/
theorem stick_at (q k v : FVec Ideal S1x8x16384x64 .f32) (h : Fin 8) (r : Fin 16384) (y : Fin 64) (ρ : ℕ → EReal)
    (hz : ∀ t : Fin 16384, (∑ d : Fin 64, (q (ix4 0 h r d) : EReal) * k (ix4 0 h t d)) * Ideal.ofBits .f32 0x3E000000#32 = ρ t.val) :
    (stickR q k v (ix2 r ⟨64 * h.val + y.val, by omega⟩) : EReal) = ∑ t : Fin 16384, wt ρ r.val t.val * v (ix4 0 h t y) := by
  have hz' : ∀ t, (logitR q k (ix4 0 h r t) : EReal) = ρ t.val := fun t => (logit_at q k h r t).trans (hz t)
  have hn : ∀ t, (Host.negf (logitR q k) (ix4 0 h r t) : EReal) = -ρ t.val := fun t => by
    show -(logitR q k (ix4 0 h r t) : EReal) = _
    rw [hz']
  have hnn : ∀ t, (Host.negf (Host.negf (logitR q k)) (ix4 0 h r t) : EReal) = ρ t.val := fun t => by
    show -(Host.negf (logitR q k) (ix4 0 h r t) : EReal) = _
    rw [hn, neg_neg]
  have hl : ∀ t : Fin 16384, (maskR (softR (Host.negf (Host.negf (logitR q k)))) (ix4 0 h r t) : EReal) = left ρ r.val t.val := fun t => by
    rw [mask_at]
    unfold left
    by_cases ht : t.val < r.val
    · rw [if_pos ht, if_pos ht, soft_at _ h r t _ (hnn t)]
    · rw [if_neg ht, if_neg ht]
  have hs : ∀ t : Fin 16384, (sufR (maskR (softR (Host.negf (Host.negf (logitR q k))))) (ix4 0 h r t) : EReal) = later ρ r.val t.val := fun t =>
    window_sum (by norm_num) _ _ (Ideal.ofBits_zero .f32) _ 0 h r t (left ρ r.val) hl
  unfold stickR
  rw [out_at]
  refine Finset.sum_congr rfl fun t _ => ?_
  congr 1
  rw [mask_at]
  by_cases ht : t.val < r.val
  · rw [if_pos ht]
    show Ideal.exp ((softR (Host.negf (logitR q k)) (ix4 0 h r t) : EReal)
      + ((sufR (maskR (softR (Host.negf (Host.negf (logitR q k))))) (ix4 0 h r t) : EReal) - maskR (softR (Host.negf (Host.negf (logitR q k)))) (ix4 0 h r t))) = _
    rw [soft_at _ h r t _ (hn t), hs, hl]
    exact wt_less ρ r.val t.val t.isLt ht
  · rw [if_neg ht, wt_none ρ r.val t.val (by omega)]

end Cert.Sb.Ref

end
-- ==== Proof.SbFinal.lean ====
/- The two programs of stick-breaking attention leave the same array: each block of the launch's result, element by element, is the
   reference's weighted sum of the values. -/
module

public import proofs.«01_k».proof.Defs
public import proofs.«01_k».proof.Proof.SbHost
public import proofs.«01_k».proof.Proof.SbState
public import proofs.«01_k».proof.Proof.SbRef

@[expose] public section

set_option maxRecDepth 16384

noncomputable section

namespace Cert.Sb

open Cert.StickIdeal Cert.StickIdeal.Gen
open Idealize.ShloMosaic Idealize.ShloMosaic.TcCoe

/-- The scale of the logits. -/
theorem ofBits_eighth : Ideal.ofBits .f32 0x3E000000#32 = ((1 / 8 : ℝ) : EReal) := by
  simp [Ideal.ofBits, Ideal.ieee, -EReal.coe_mul]
  norm_num

theorem log_of_two : Ideal.log (Ideal.ofBits .f32 0x40000000#32) = ((Real.log 2 : ℝ) : EReal) := by
  rw [Cert.Mla.ofBits_two]
  exact log_real 2 (by norm_num)

/-- A positive real factor of a sum of extended reals. -/
theorem sum_scaled {ι : Type} (T : Finset ι) (f : ι → EReal) : (∑ t ∈ T, f t) * ((1 / 8 : ℝ) : EReal) = ∑ t ∈ T, f t * ((1 / 8 : ℝ) : EReal) := by
  rw [mul_comm, Cert.Mla.mul_sum_of_real _ (by norm_num)]
  exact Finset.sum_congr rfl fun t _ => mul_comm _ _

/-- One feature's part of a logit, to the base two. -/
theorem one_term (a b : EReal) :
    a * Ideal.div (b * ((1 / 8 : ℝ) : EReal)) ((Real.log 2 : ℝ) : EReal) = two (b * a * ((1 / 8 : ℝ) : EReal)) := by
  unfold Ideal.div two
  rw [if_neg (by exact_mod_cast log_two_ne), ← EReal.coe_inv, ← mul_assoc, ← mul_assoc, mul_comm a b]

variable (m : (ℓ : Loc nD τ sig) → Buf (Elt Ideal) ℓ) (c : Dev nD)

/-- The logit of key `t` for query `r` of head `h`. -/
def scoreVal (h : Fin 8) (r : Fin 16384) (t : ℕ) : EReal :=
  if ht : t < 16384 then (∑ e : Fin 64, (Host.qArg m c (ix4 0 h r e) : EReal) * Host.kArg m c (ix4 0 h ⟨t, ht⟩ e)) * ((1 / 8 : ℝ) : EReal) else 0

/-- The values, by key. -/
def valueOf (h : Fin 8) (d : Fin 64) (j : ℕ) : EReal := if hj : j < 16384 then Host.vArg m c (ix4 0 h ⟨j, hj⟩ d) else 0

/-- The query a column of a block is of. -/
def rowOf (t : Fin (cfg0 (F := Ideal)).N) (x : Fin 256) : Fin 16384 := ⟨256 * (grid0.coords t 0).val + x.val, by have := coord_lt (grid0.coords t); omega⟩

theorem block_score (t : Fin (cfg0 (F := Ideal)).N) (j : Fin 64) (h : Fin 8) (r x : Fin 256) :
    (logitV (F := Ideal) (qsV (F := Ideal) (iblk m c 0 t) h) (kAt (F := Ideal) (iblk m c 1 t) (koC j (pairOf h))) (ix2 r x) : EReal)
      = two (scoreVal m c h (rowOf t x) (256 * j.val + r.val)) := by
  have hj := j.isLt
  have hr := r.isLt
  rw [head_dot]
  unfold scoreVal
  rw [dif_pos (by omega), sum_scaled, two_sum]
  refine Finset.sum_congr rfl fun d _ => ?_
  rw [Host.key_block, Host.query_block, Host.keys_at, Host.queries_at, log_of_two, ofBits_eighth]
  exact one_term _ _

theorem block_value (t : Fin (cfg0 (F := Ideal)).N) (j : Fin 64) (h : Fin 8) (d : Fin 64) (r : Fin 256) :
    (vAt (F := Ideal) (iblk m c 2 t) (voC j h) (ix3 0 d r) : EReal) = valueOf m c h d (256 * j.val + r.val) := by
  have hj := j.isLt
  have hr := r.isLt
  rw [value_at, Host.value_block, Host.values_at]
  unfold valueOf
  rw [dif_pos (by omega)]

theorem block_later (t : Fin (cfg0 (F := Ideal)).N) (r x : Fin 256) :
    (upV (F := Ideal) (iblk m c 3 t) (ix2 r x) : EReal) = if r.val < x.val then 1 else 0 := by
  rw [up_at, Host.later_block, Host.later_at, show IntOp.cmpi .sgt (BitVec.ofNat 32 x.val) (BitVec.ofNat 32 r.val) = IntOp.cmpi .slt (BitVec.ofNat 32 r.val) (BitVec.ofNat 32 x.val) from rfl, sign_lt]
  by_cases h : r.val < x.val
  · rw [if_pos h, decide_eq_true h]
    show (((1 : ℕ) : ℝ) : EReal) = 1
    simp
  · rw [if_neg h, decide_eq_false h]
    show (((0 : ℕ) : ℝ) : EReal) = 0
    simp

/-- The reference's result on the kernel's arguments. -/
abbrev resultV : FVec Ideal S16384x512 .bf16 := Ref.stickR (Host.qArg m c) (Host.kArg m c) (Host.vArg m c)

/-- What a grid point leaves, at an element, is the reference's result there. -/
theorem block_result (t : Fin (cfg0 (F := Ideal)).N) (x : Fin 256) (h : Fin 8) (d : Fin 64) :
    (blockV (F := Ideal) m c t (ix2 x ⟨64 * h.val + d.val, by omega⟩) : EReal) = resultV m c (ix2 (rowOf t x) ⟨64 * h.val + d.val, by omega⟩) := by
  unfold resultV
  rw [Ref.stick_at (Host.qArg m c) (Host.kArg m c) (Host.vArg m c) h (rowOf t x) d (scoreVal m c h (rowOf t x)) ?_]
  · refine (heads_at (fun h => (endV (F := Ideal) (grid0.coords t) (iblk m c 0 t) (iblk m c 1 t) (iblk m c 2 t) (iblk m c 3 t) h).2) x h d).trans ?_
    refine ((end_at (grid0.coords t) (qsV (F := Ideal) (iblk m c 0 t)) (upV (F := Ideal) (iblk m c 3 t)) (iblk m c 1 t) (iblk m c 2 t)
      (fun h x => scoreVal m c h (rowOf t x)) (valueOf m c) (block_score m c t) (block_value m c t) (block_later m c t) h x).2 d).trans ?_
    rw [← Finset.range_eq_Ico, Finset.sum_range]
    refine Finset.sum_congr rfl fun u _ => ?_
    rw [mul_comm]
    unfold valueOf
    rw [dif_pos u.isLt]
    rfl
  · intro u
    unfold scoreVal
    rw [dif_pos u.isLt, ofBits_eighth]

/-- The whole array the launch leaves. -/
theorem array_result :
    (dat (F := Ideal) m 0 c).arrAt 4 (cfg0 (F := Ideal)).N = resultV m c := by
  refine (dat (F := Ideal) m 0 c).arrAt_eq_of_covers 4 _ (by decide +kernel) fun t hf y => ?_
  blk_simp
  rw [dat_after4]
  have hb := coord_lt (grid0.coords t)
  have key : ∀ y : S256x512.Idx, (blockV (F := Ideal) m c t y : EReal) = resultV m c ((win0_4.blk t).view.emb y) := fun y => by
    have h0 : (y 0).val < 256 := (y 0).isLt
    have h1 : (y 1).val < 512 := (y 1).isLt
    have hy : y = ix2 (⟨(y 0).val, h0⟩ : Fin 256) (⟨64 * ((y 1).val / 64) + (y 1).val % 64, by omega⟩ : Fin 512) := by
      funext a
      fin_cases a
      · rfl
      · exact Fin.ext (show (y 1).val = 64 * ((y 1).val / 64) + (y 1).val % 64 by omega)
    have he : (win0_4.blk t).view.emb y = ix2 (rowOf t ⟨(y 0).val, h0⟩)
        (⟨64 * ((y 1).val / 64) + (y 1).val % 64, by omega⟩ : Fin 512) := by
      unfold rowOf
      blk_ext [Host.index_out t]
    rw [he]
    exact (congrArg (blockV (F := Ideal) m c t) hy).trans
      (block_result m c t ⟨(y 0).val, h0⟩ ⟨(y 1).val / 64, by omega⟩ ⟨(y 1).val % 64, by omega⟩)
  exact key y

end Cert.Sb

end
-- ==== Proof.StBody.lean ====
/- The printed loop of stick-breaking attention, and its printed body, are the programs of `SbRing`. -/
module

public import proofs.«01_k».proof.Proof.StRing

@[expose] public section

set_option maxRecDepth 65536

noncomputable section

namespace Cert.St

open Cert.Stick Cert.Stick.Gen
open Idealize.ShloMosaic Idealize.ShloMosaic.TcCoe
open Idealize.SL Idealize.SL.Sem

variable {F : FTy → Type} [FloatOps F]

set_option maxHeartbeats 4000000 in
theorem while_eq (i : grid0.Coords) (kr : KRef) (wk : kr.IsWhole) (vr : VRef) (wv : vr.IsWhole) (s6 : ARef) (w6 : s6.IsWhole) (s7 : LRef) (w7 : s7.IsWhole) (s8 : LRef) (w8 : s8.IsWhole)
    (q : Fin 8 → FVec F S256x128 .bf16) (up : FVec F S256x256 .bf16) (n : BitVec 32) (p : Heads F) :
    cc0_while1 i kr wk (q 0) s6 w6 s7 w7 s8 w8 (q 1) up vr wv (q 2) (q 3) (q 4) (q 5) (q 6) (q 7) n (p 0).1 (p 0).2 (p 1).1 (p 1).2 (p 2).1 (p 2).2 (p 3).1 (p 3).2
        (p 4).1 (p 4).2 (p 5).1 (p 5).2 (p 6).1 (p 6).2 (p 7).1 (p 7).2
      = loopM i kr wk vr wv s6 w6 s7 w7 s8 w8 q up n p := by
  simp (maxSteps := 10000000) only [cc0_while1_eq_skeleton, cc0_while1_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel,
    loopM, chunkM, scoreM, weighM, loadK, Prog.lift, Prog.pure_eq_ret, Prog.bind_ret, Prog.bind_op]
  rfl

set_option maxHeartbeats 4000000 in
theorem body_eq (i : grid0.Coords) (arg1 : Memref sig .tc .vmem S256x512 .bf16) (harg1 : arg1.IsWhole) (kr : KRef) (wk : kr.IsWhole) (vr : VRef) (wv : vr.IsWhole) (arg4 : Memref sig .tc .vmem S256x256 .bf16) (harg4 : arg4.IsWhole)
    (arg5 : Memref sig .tc .vmem S256x512 .bf16) (harg5 : arg5.IsWhole) (s6 : ARef) (w6 : s6.IsWhole) (s7 : LRef) (w7 : s7.IsWhole) (s8 : LRef) (w8 : s8.IsWhole) :
    cc0_stick_breaking_attention (F := F) i arg1 harg1 kr wk vr wv arg4 harg4 arg5 harg5 s6 w6 s7 w7 s8 w8
      = stickM i arg1 kr wk vr wv arg4 arg5 harg5 s6 w6 s7 w7 s8 w8 := by
  simp (maxSteps := 10000000) only [cc0_stick_breaking_attention_eq_skeleton, cc0_stick_breaking_attention_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel,
    stickM, loadQ, chunkM, scoreM, weighM, loadK, Prog.lift, Prog.pure_eq_ret, Prog.bind_ret, Prog.bind_op]
  rfl

end Cert.St
-- ==== Proof.StickEq.lean ====
/- The claims about stick-breaking attention: the launch and its reference run to the end, leave their arguments alone and every
   counter at zero; the idealized launch is the launch with its two constants named; and over the extended reals,
   whatever the arguments, the two results are the same array. -/
module

public import proofs.«01_k».proof.Defs
public import proofs.«01_k».proof.Proof.SbFinal
public import proofs.«01_k».proof.Proof.StRun
public import Idealize.ShloMosaic.Adequacy
public import Idealize.ShloMosaic.Init

@[expose] public section

noncomputable section

namespace Cert.StickEq

open Idealize.ShloMosaic Idealize.SL.Sem Idealize.ShloMosaic.TcCoe

theorem frame_launch : Cert.quiescent_Stick (hStick := Cert.Stick.Gen.facts) := fun m ρ _ => Cert.St.sb_frame m ρ

theorem frame_ideal : Cert.quiescent_StickIdeal (hStickIdeal := Cert.StickIdeal.Gen.facts) := fun m ρ _ => Cert.Sb.sb_frame m ρ

theorem frame_reference : Cert.quiescent_StickReferenceIdeal (hStickReferenceIdeal := Cert.StickReferenceIdeal.Gen.facts) :=
  fun m g _ =>
    -- its run, read at its arguments; it declares no counter
    (θ_run (Cert.StickReferenceIdeal.defs (F := Ideal)) _ _).mono (fun r h => ⟨fun c => (h c).2, sem_eq_zero_of_no_sems (by decide) r.2⟩)
      (Cert.StickReferenceIdeal.Value.run (F := Ideal) m g)

theorem preserves : Cert.preserves_Stick_StickIdeal :=
  ⟨IdealRules.named_const.statement Cert.StickIdeal.κ "log2e" .f32 0x3FB8AA3B#32 (((Real.log 2)⁻¹ : ℝ) : EReal) rfl,
    IdealRules.named_const.statement Cert.StickIdeal.κ "zero_at" .f32 0xC3160000#32 ⊥ rfl⟩

theorem algebraic : Cert.algebraic_StickIdeal_StickReferenceIdeal (hStickIdeal := Cert.StickIdeal.Gen.facts)
    (hStickReferenceIdeal := Cert.StickReferenceIdeal.Gen.facts) := by
  intro m g m' g' _ hagree
  refine ⟨fun c => Cert.Sb.resultV m c, ?_, ?_⟩
  · refine (θ_run _ _ _).mono (fun r h c => ?_) (Cert.Sb.sb_array m g)
    obtain ⟨h0, h1⟩ := h c
    exact ⟨h0.trans (Cert.Sb.array_result m c), h1⟩
  · refine (θ_run _ _ _).mono (fun r h c => ?_) (Cert.StickReferenceIdeal.Value.run (F := Ideal) m' g')
    obtain ⟨h0, h1⟩ := h c
    refine ⟨h0.trans ?_, h1⟩
    rw [Cert.Sb.Ref.res_eq]
    obtain ⟨e0, e1, e2⟩ := hagree c
    rw [e0, e1, e2]

end Cert.StickEq

end
-- ==== Proof.ModEq.lean ====
/- The modulation of both layers, over the extended reals: the conditioning vector times its sigmoid, times a layer's matrix, plus
   the layer's bias. The launch sums a block of columns at a time, the reference multiplies by the matrix: the same array. -/
module

public import proofs.«01_k».proof.Defs
public import proofs.«01_k».proof.Proof.FfnMath
public import proofs.«01_k».proof.Proof.Gen.Mod.Frame
public import proofs.«01_k».proof.Proof.Gen.ModIdeal.Value
public import proofs.«01_k».proof.Proof.Gen.ModReferenceIdeal.Run
public import Idealize.ShloMosaic.Lib.Claim
public import Idealize.ShloMosaic.Lib.Pipeline.ValueKit
public import Idealize.ShloMosaic.Lib.StableHlo.ReadAt

@[expose] public section

set_option maxRecDepth 16384

noncomputable section

namespace Cert.ModEq

open Idealize.ShloMosaic Idealize.ShloMosaic.TcCoe Idealize.SL.Sem Cert.FfnMath

/-- One number of the modulation. -/
def modVal (c : Fin 1024 → EReal) (w : Fin 1024 → EReal) (b : EReal) : EReal := (∑ k, c k * sigm (c k) * w k) + b

/-- The modulation of both layers. -/
def modArr (c : FVec Ideal ⟨2, ![1, 1024]⟩ .f32) (w : FVec Ideal ⟨3, ![2, 1024, 9216]⟩ .f32) (b : FVec Ideal ⟨2, ![2, 9216]⟩ .f32) :
    FVec Ideal ⟨3, ![2, 1, 9216]⟩ .f32 := fun y =>
  modVal (fun k => c (ix2 0 k)) (fun k => w (ix3 (y 0) k (y 2))) (b (ix2 (y 0) (y 2)))

section Launch

open Cert.ModIdeal Cert.ModIdeal.Gen

variable (m : (ℓ : Loc nD τ sig) → Buf (Elt Ideal) ℓ) (c : Dev nD)

/-- The arguments on a device. -/
abbrev cArg : FVec Ideal S1x1024 .f32 := m ((c.tc : Thread nD τ).loc main_arg0)
abbrev wArg : FVec Ideal S2x1024x9216 .f32 := m ((c.tc : Thread nD τ).loc main_arg1)
abbrev bArg : FVec Ideal S2x9216 .f32 := m ((c.tc : Thread nD τ).loc main_arg2)

/-- The modulation, of the launch's arguments. -/
def resultV : FVec Ideal S2x1x9216 .f32 := modArr (cArg m c) (wArg m c) (bArg m c)

/-- The body on a block of columns. -/
theorem body_at (x : FVec Ideal S1024x1 .f32) (w : FVec Ideal S1x1024x1152 .f32) (b : FVec Ideal S1x1x1152 .f32) (j : Fin 1152) :
    (out0_3 (F := Ideal) x w b (ix3 0 0 j) : EReal)
      = modVal (fun k => x (ix2 k 0)) (fun k => w (ix3 0 k j)) (b (ix3 0 0 j)) := by
  frame_out
  unfold modVal sigm
  pointwise [k0_pay1]
  rfl

/-! ## What the host hands the launch -/

theorem c_at (k : Fin 1024) : (V m c main_v0 : FVec Ideal S1024x1 .f32) (ix2 k 0) = cArg m c (ix2 0 k) := by
  unfold V
  after_reads_at
theorem w_at (l : Fin 2) (k : Fin 1024) (j : Fin 9216) :
    (V m c main_arg1 : FVec Ideal S2x1024x9216 .f32) (ix3 l k j) = wArg m c (ix3 l k j) := congrFun (V_main_arg1 m c) _
theorem b_at (l : Fin 2) (j : Fin 9216) : (V m c main_v1 : FVec Ideal S2x1x9216 .f32) (ix3 l 0 j) = bArg m c (ix2 l j) := by
  unfold V
  after_reads_at

/-! ## The blocks a grid point reads -/

theorem layer_lt (t : Fin cfg0.N) : (grid0.coords t 0).val < 2 := (grid0.coords t 0).isLt
theorem column_lt (t : Fin cfg0.N) : (grid0.coords t 1).val < 8 := (grid0.coords t 1).isLt

/-- The layer of a grid point, and the column of its block's `j`-th. -/
def layerOf (t : Fin cfg0.N) : Fin 2 := ⟨(grid0.coords t 0).val, layer_lt t⟩
def columnOf (t : Fin cfg0.N) (j : Fin 1152) : Fin 9216 := ⟨1152 * (grid0.coords t 1).val + j.val, by have := column_lt t; omega⟩

theorem index0 : ∀ t : Fin cfg0.N, win0_0.index t = ![0, 0] :=
  (by decide +kernel : ∀ t : Fin grid0.N, win0_0.index t = ![0, 0])
theorem index1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem index2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem index3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])

theorem block0 (t : Fin cfg0.N) (k : Fin 1024) :
    (iblk m c 0 t : FVec Ideal S1024x1 .f32) (ix2 k 0) = (V m c main_v0 : FVec Ideal S1024x1 .f32) (ix2 k 0) := by
  blk_ext [iblk, index0 t]
theorem block1 (t : Fin cfg0.N) (k : Fin 1024) (j : Fin 1152) :
    (iblk m c 1 t : FVec Ideal S1x1024x1152 .f32) (ix3 0 k j)
      = (V m c main_arg1 : FVec Ideal S2x1024x9216 .f32) (ix3 (layerOf t) k (columnOf t j)) := by
  unfold layerOf columnOf
  blk_ext [iblk, index1 t]
theorem block2 (t : Fin cfg0.N) (j : Fin 1152) :
    (iblk m c 2 t : FVec Ideal S1x1x1152 .f32) (ix3 0 0 j)
      = (V m c main_v1 : FVec Ideal S2x1x9216 .f32) (ix3 (layerOf t) 0 (columnOf t j)) := by
  unfold layerOf columnOf
  blk_ext [iblk, index2 t]

/-- A block's element is the array's. -/
theorem block_eq (t : Fin cfg0.N) (j : Fin 1152) :
    (out0_3 (F := Ideal) (iblk m c 0 t) (iblk m c 1 t) (iblk m c 2 t) (ix3 0 0 j) : EReal)
      = resultV m c (ix3 (layerOf t) 0 (columnOf t j)) := by
  refine (body_at (iblk m c 0 t) (iblk m c 1 t) (iblk m c 2 t) j).trans ?_
  show _ = modVal (fun k => cArg m c (ix2 0 k)) (fun k => wArg m c (ix3 (layerOf t) k (columnOf t j))) (bArg m c (ix2 (layerOf t) (columnOf t j)))
  rw [show (fun k => (iblk m c 0 t : FVec Ideal S1024x1 .f32) (ix2 k 0)) = fun k => cArg m c (ix2 0 k) from
      funext fun k => (block0 m c t k).trans (c_at m c k),
    show (fun k => (iblk m c 1 t : FVec Ideal S1x1024x1152 .f32) (ix3 0 k j)) = fun k => wArg m c (ix3 (layerOf t) k (columnOf t j)) from
      funext fun k => (block1 m c t k j).trans (w_at m c _ k _),
    (block2 m c t j).trans (b_at m c _ _)]

/-- The launch leaves the modulation of both layers. -/
theorem array_eq : (dats m 0 c).arrAt 3 cfg0.N = resultV m c := by
  refine (dats m 0 c).arrAt_eq_of_covers 3 _ (by decide +kernel) fun t hf y => ?_
  blk_simp
  rw [after0_3]
  have hy : y = ix3 0 0 (y 2) := by funext a; fin_cases a <;> first | rfl | exact Subsingleton.elim (α := Fin 1) _ _
  have hz : (win0_3.blk t).view.emb y = (ix3 (layerOf t) 0 (columnOf t (y 2)) : S2x1x9216.Idx) := by
    rw [hy]
    unfold layerOf columnOf
    blk_ext [index3 t]
  refine (congrArg _ hy).trans ((block_eq m c t (y 2)).trans (congrArg (resultV m c) hz.symm))

end Launch

/-! ## The reference -/

section Reference

open Cert.ModReferenceIdeal Cert.ModReferenceIdeal.Gen

variable (m : (ℓ : Loc nD τ sig) → Buf (Elt Ideal) ℓ) (c : Dev nD)

/-- The conditioning vector times its sigmoid. -/
def siluR (x : FVec Ideal S1x1024 .f32) : FVec Ideal S1x1024 .f32 :=
  mulf x (Host.divf (broadcastInDim S1x1024 ![] bcast_S_S1x1024 (constant S_ .f32 0x3F800000#32))
    (addf (broadcastInDim S1x1024 ![] bcast_S_S1x1024 (constant S_ .f32 0x3F800000#32)) (Host.exp (Host.negf x))))

/-- One layer's matrix and bias. -/
def matR0 (w : FVec Ideal S2x1024x9216 .f32) : FVec Ideal S1024x9216 .f32 :=
  shapeCast _ (extractStridedSlice S1x1024x9216 ![0, 0, 0] w slices_S2x1024x9216_S1x1024x9216_0_0_0) shapeCasts_S1x1024x9216_S1024x9216
def matR1 (w : FVec Ideal S2x1024x9216 .f32) : FVec Ideal S1024x9216 .f32 :=
  shapeCast _ (extractStridedSlice S1x1024x9216 ![1, 0, 0] w slices_S2x1024x9216_S1x1024x9216_1_0_0) shapeCasts_S1x1024x9216_S1024x9216
def biasR0 (b : FVec Ideal S2x9216 .f32) : FVec Ideal S9216 .f32 :=
  shapeCast _ (extractStridedSlice S1x9216 ![0, 0] b slices_S2x9216_S1x9216_0_0) shapeCasts_S1x9216_S9216
def biasR1 (b : FVec Ideal S2x9216 .f32) : FVec Ideal S9216 .f32 :=
  shapeCast _ (extractStridedSlice S1x9216 ![1, 0] b slices_S2x9216_S1x9216_1_0) shapeCasts_S1x9216_S9216

/-- One layer's modulation, from its own matrix and bias. -/
def layerR (s : FVec Ideal S1x1024 .f32) (w : FVec Ideal S1024x9216 .f32) (b : FVec Ideal S9216 .f32) : FVec Ideal S1x9216 .f32 :=
  addf (Host.dotGeneral dot_S1x1024_S1024x9216_S1x9216_1_0_0_1_n_n none s w) (broadcastInDim S1x9216 ![1] bcast_S9216_S1x9216_1 b)

/-- Two layers one behind the other. -/
def stackR (x y : FVec Ideal S1x9216 .f32) : FVec Ideal S2x1x9216 .f32 :=
  concatenate S2x1x9216 0 [⟨S1x1x9216, broadcastInDim S1x1x9216 ![1, 2] bcast_S1x9216_S1x1x9216_1_2 x⟩,
    ⟨S1x1x9216, broadcastInDim S1x1x9216 ![1, 2] bcast_S1x9216_S1x1x9216_1_2 y⟩] concatenates_S1x1x9216_S1x1x9216_S2x1x9216_d0

/-- The whole reference. -/
def modR (x : FVec Ideal S1x1024 .f32) (w : FVec Ideal S2x1024x9216 .f32) (b : FVec Ideal S2x9216 .f32) : FVec Ideal S2x1x9216 .f32 :=
  stackR (layerR (siluR x) (matR0 w) (biasR0 b)) (layerR (siluR x) (matR1 w) (biasR1 b))

theorem silu_at (x : FVec Ideal S1x1024 .f32) (k : Fin 1024) : (siluR x (ix2 0 k) : EReal) = x (ix2 0 k) * sigm (x (ix2 0 k)) := by
  unfold siluR sigm
  pointwise
theorem mat0_at (w : FVec Ideal S2x1024x9216 .f32) (k : Fin 1024) (j : Fin 9216) : (matR0 w (ix2 k j) : EReal) = w (ix3 0 k j) := by
  unfold matR0
  pointwise
theorem mat1_at (w : FVec Ideal S2x1024x9216 .f32) (k : Fin 1024) (j : Fin 9216) : (matR1 w (ix2 k j) : EReal) = w (ix3 1 k j) := by
  unfold matR1
  pointwise
theorem bias0_at (b : FVec Ideal S2x9216 .f32) (j : Fin 9216) : (biasR0 b (ix1 j) : EReal) = b (ix2 0 j) := by
  unfold biasR0
  pointwise
theorem bias1_at (b : FVec Ideal S2x9216 .f32) (j : Fin 9216) : (biasR1 b (ix1 j) : EReal) = b (ix2 1 j) := by
  unfold biasR1
  pointwise
theorem layer_at (s : FVec Ideal S1x1024 .f32) (w : FVec Ideal S1024x9216 .f32) (b : FVec Ideal S9216 .f32) (j : Fin 9216) :
    (layerR s w b (ix2 0 j) : EReal) = (∑ k : Fin 1024, (s (ix2 0 k) : EReal) * w (ix2 k j)) + b (ix1 j) := by
  unfold layerR
  pointwise
theorem stack0_at (x y : FVec Ideal S1x9216 .f32) (j : Fin 9216) : (stackR x y (ix3 0 0 j) : EReal) = x (ix2 0 j) := by
  unfold stackR
  pointwise
theorem stack1_at (x y : FVec Ideal S1x9216 .f32) (j : Fin 9216) : (stackR x y (ix3 1 0 j) : EReal) = y (ix2 0 j) := by
  unfold stackR
  pointwise

theorem reference_at (x : FVec Ideal S1x1024 .f32) (w : FVec Ideal S2x1024x9216 .f32) (b : FVec Ideal S2x9216 .f32) (l : Fin 2) (j : Fin 9216) :
    (modR x w b (ix3 l 0 j) : EReal) = modVal (fun k => x (ix2 0 k)) (fun k => w (ix3 l k j)) (b (ix2 l j)) := by
  unfold modR modVal
  fin_cases l
  · refine (stack0_at _ _ j).trans ((layer_at _ _ _ j).trans ?_)
    simp only [silu_at, mat0_at, bias0_at]
    rfl
  · refine (stack1_at _ _ j).trans ((layer_at _ _ _ j).trans ?_)
    simp only [silu_at, mat1_at, bias1_at]
    rfl

/-- The reference's result is the modulation of both layers. -/
theorem reference_eq (x : FVec Ideal S1x1024 .f32) (w : FVec Ideal S2x1024x9216 .f32) (b : FVec Ideal S2x9216 .f32) :
    modR x w b = modArr x w b := by
  funext y
  have hy : y = ix3 (y 0) 0 (y 2) := by funext a; fin_cases a <;> first | rfl | exact Subsingleton.elim (α := Fin 1) _ _
  exact (congrArg (modR x w b) hy).trans (reference_at x w b (y 0) (y 2))

end Reference

/-! ## The claims -/

theorem frame_launch : Cert.quiescent_Mod (hMod := Cert.Mod.Gen.facts) := fun m ρ _ => Cert.Mod.Gen.frame m ρ

theorem frame_ideal : Cert.quiescent_ModIdeal (hModIdeal := Cert.ModIdeal.Gen.facts) := fun m ρ _ => Cert.ModIdeal.Gen.frame m ρ

theorem frame_reference : Cert.quiescent_ModReferenceIdeal (hModReferenceIdeal := Cert.ModReferenceIdeal.Gen.facts) :=
  fun m g _ =>
    -- its run, read at its arguments; it declares no counter
    (θ_run (Cert.ModReferenceIdeal.defs (F := Ideal)) _ _).mono (fun r h => ⟨fun c => (h c).2, sem_eq_zero_of_no_sems (by decide) r.2⟩)
      (Cert.ModReferenceIdeal.Value.run (F := Ideal) m g)

theorem algebraic : Cert.algebraic_ModIdeal_ModReferenceIdeal (hModIdeal := Cert.ModIdeal.Gen.facts)
    (hModReferenceIdeal := Cert.ModReferenceIdeal.Gen.facts) := by
  intro m g m' g' _ hagree
  refine ⟨fun c => resultV m c, ?_, ?_⟩
  · refine (θ_run _ _ _).mono (fun r h c => ?_) (Cert.ModIdeal.Value.run_blocks (F := Ideal) m g)
    obtain ⟨h0, h1⟩ := h c
    exact ⟨h0.trans (array_eq m c), h1⟩
  · refine (θ_run _ _ _).mono (fun r h c => ?_) (Cert.ModReferenceIdeal.Value.run (F := Ideal) m' g')
    obtain ⟨h0, h1⟩ := h c
    refine ⟨h0.trans ((reference_eq _ _ _).trans ?_), h1⟩
    obtain ⟨e0, e1, e2⟩ := hagree c
    rw [e0, e1, e2]
    rfl

end Cert.ModEq

end
-- ==== Proof.ProjMath.lean ====
/- The projections of one layer, as arithmetic over the extended reals: a row normalized and modulated, times the columns of the
   input projection. -/
module

public import proofs.«01_k».proof.Proof.FfnMath
public import proofs.«01_k».proof.Proof.SbMath

@[expose] public section

noncomputable section

namespace Cert.ProjMath

open Idealize.ShloMosaic Cert.FfnMath

/-- One number of a projection: the modulated row times one column. -/
def proj {d : ℕ} (x g shift scale w : Fin d → EReal) : EReal := ∑ k, modul x g shift scale k * w k

theorem proj_congr {d : ℕ} {x x' g g' sh sh' sc sc' w w' : Fin d → EReal} (ex : ∀ k, x k = x' k) (eg : ∀ k, g k = g' k)
    (e1 : ∀ k, sh k = sh' k) (e2 : ∀ k, sc k = sc' k) (ew : ∀ k, w k = w' k) : proj x g sh sc w = proj x' g' sh' sc' w' := by
  rw [funext ex, funext eg, funext e1, funext e2, funext ew]

/-- The projection of row `r` on column `j` of the whole weights. -/
def projArr (x : FVec Ideal ⟨3, ![1, 16384, 1024]⟩ .f32) (mod : FVec Ideal ⟨2, ![3, 1024]⟩ .f32) (g : FVec Ideal ⟨1, ![1024]⟩ .f32)
    (w : FVec Ideal ⟨2, ![1024, 6560]⟩ .f32) (r : Fin 16384) (j : Fin 6560) : EReal :=
  proj (fun k => x (ix3 0 r k)) (fun k => g (ix1 k)) (fun k => mod (ix2 0 k)) (fun k => mod (ix2 1 k)) (fun k => w (ix2 k j))

/-- The column `j` of the 512 that begin at `o`. -/
abbrev col (o : ℕ) (ho : o ≤ 6048) (j : Fin 512) : Fin 6560 := ⟨o + j.val, by omega⟩

/-- The row `r` of block `t`. -/
abbrev row (t : Fin 64) (r : Fin 256) : Fin 16384 := ⟨256 * t.val + r.val, by omega⟩

/-- A scale of an eighth, then a division by the logarithm of two, is the multiplication with the reciprocal of both. -/
theorem scaled (a : EReal) :
    Ideal.div (a * ((1 / 8 : ℝ) : EReal)) ((Real.log 2 : ℝ) : EReal) = a * (((8 * Real.log 2)⁻¹ : ℝ) : EReal) := by
  unfold Ideal.div
  rw [if_neg (by exact_mod_cast Cert.Sb.log_two_ne), ← EReal.coe_inv, mul_assoc, ← EReal.coe_mul]
  congr 2
  rw [mul_inv]
  norm_num

theorem eighth : Ideal.ofBits .f32 0x3E000000#32 = ((1 / 8 : ℝ) : EReal) := by
  simp [Ideal.ofBits, Ideal.ieee, -EReal.coe_mul]
  norm_num

theorem log_of_two : Ideal.log (Ideal.ofBits .f32 0x40000000#32) = ((Real.log 2 : ℝ) : EReal) := by
  rw [Cert.Mla.ofBits_two]
  exact Cert.Sb.log_real 2 (by norm_num)

end Cert.ProjMath

end
-- ==== Proof.ProjBlock.lean ====
/- The projections' launch, element by element over the extended reals: the product of a block of modulated rows with the weights, and
   the columns of it that become keys, queries and values. -/
module

public import proofs.«01_k».proof.Proof.ProjMath
public import proofs.«01_k».proof.Proof.Gen.ProjIdeal.Skeleton
public import Idealize.ShloMosaic.Lib.Pointwise

@[expose] public section

set_option maxRecDepth 16384

noncomputable section

namespace Cert.ProjBlock

open Cert.ProjIdeal Cert.ProjIdeal.Gen Cert.ProjMath
open Idealize.ShloMosaic Idealize.ShloMosaic.TcCoe

/-- The column `j` of the 512 that begin at `o`, among the launch's weights. -/
abbrev wcol (o : ℕ) (ho : o ≤ 3072) (j : Fin 512) : Fin 3584 := ⟨o + j.val, by omega⟩

/-- A row of a block times a column of the weights. -/
abbrev cell (x : FVec Ideal S256x1024 .f32) (sh sc g : FVec Ideal S1x1024 .f32) (w : FVec Ideal S1024x3584 .bf16) (r : Fin 256)
    (j : Fin 3584) : EReal :=
  proj (fun k => x (ix2 r k)) (fun k => g (ix2 0 k)) (fun k => sh (ix2 0 k)) (fun k => sc (ix2 0 k)) (fun k => w (ix2 k j))

theorem product_at (x : FVec Ideal S256x1024 .f32) (sh sc g : FVec Ideal S1x1024 .f32) (w : FVec Ideal S1024x3584 .bf16) (r : Fin 256)
    (j : Fin 3584) : (k0_pay2 (F := Ideal) x sh sc g w (ix2 r j) : EReal) = cell x sh sc g w r j := by
  unfold cell proj FfnMath.modul FfnMath.rowNorm
  pointwise [k0_pay2]

theorem turned_at (x : FVec Ideal S256x1024 .f32) (sh sc g : FVec Ideal S1x1024 .f32) (w : FVec Ideal S1024x3584 .bf16) (r : Fin 256)
    (j : Fin 1024) : (k0_pay3 (F := Ideal) x sh sc g w (ix2 j r) : EReal) = cell x sh sc g w r ⟨2560 + j.val, by omega⟩ := by
  rw [← product_at]
  unfold k0_pay3
  generalize k0_pay2 (F := Ideal) x sh sc g w = p
  pointwise

theorem queries_at (p : FVec Ideal S256x3584 .f32) (r : Fin 256) (j : Fin 512) :
    (k0_pay81 (F := Ideal) p (ix2 r j) : EReal) = p (ix2 r (wcol 1024 (by omega) j)) * (((8 * Real.log 2)⁻¹ : ℝ) : EReal) := by
  pointwise [k0_pay81]
  rfl

theorem keys_at (p : FVec Ideal S256x3584 .f32) (r : Fin 256) (j : Fin 512) :
    (k0_pay82 (F := Ideal) p (ix2 r j) : EReal) = p (ix2 r (wcol 1536 (by omega) j)) := by
  pointwise [k0_pay82]

theorem first_at (p : FVec Ideal S1024x256 .f32) (j : Fin 512) (r : Fin 256) :
    (k0_pay18 (F := Ideal) p (ix3 0 j r) : EReal) = p (ix2 (⟨j.val, by omega⟩ : Fin 1024) r) := by
  pointwise [k0_pay18]

theorem second_at (p : FVec Ideal S1024x256 .f32) (j : Fin 512) (r : Fin 256) :
    (k0_pay84 (F := Ideal) (k0_pay83 (F := Ideal) p) (ix3 0 j r) : EReal) = p (ix2 (⟨512 + j.val, by omega⟩ : Fin 1024) r) := by
  pointwise [k0_pay83, k0_pay84]

end Cert.ProjBlock

end
-- ==== Proof.ProjHost.lean ====
/- What the host code hands the launch of the projections, and the blocks a grid point reads of it. -/
module

public import proofs.«01_k».proof.Proof.ProjBlock
public import proofs.«01_k».proof.Proof.Gen.ProjIdeal.Frame.Runs
public import Idealize.ShloMosaic.Lib.Pipeline.ValueKit
public import Idealize.ShloMosaic.Lib.StableHlo.ReadAt

@[expose] public section

set_option maxRecDepth 16384

noncomputable section

namespace Cert.ProjHost

open Cert.ProjIdeal Cert.ProjIdeal.Gen Cert.ProjMath Cert.ProjBlock
open Idealize.ShloMosaic Idealize.ShloMosaic.TcCoe Idealize.SL.Sem

variable (m : (ℓ : Loc nD τ sig) → Buf (Elt Ideal) ℓ) (c : Dev nD)

/-- The arguments on a device. -/
abbrev xArg : FVec Ideal S1x16384x1024 .f32 := m ((c.tc : Thread nD τ).loc main_arg0)
abbrev modArg : FVec Ideal S3x1024 .f32 := m ((c.tc : Thread nD τ).loc main_arg1)
abbrev preArg : FVec Ideal S1024 .f32 := m ((c.tc : Thread nD τ).loc main_arg2)
abbrev inArg : FVec Ideal S1024x6560 .f32 := m ((c.tc : Thread nD τ).loc main_arg3)

theorem x_at (r : Fin 16384) (k : Fin 1024) : (V m c main_v119 : FVec Ideal S16384x1024 .f32) (ix2 r k) = xArg m c (ix3 0 r k) := by
  unfold V
  after_reads_at
theorem mod_at (a : Fin 3) (k : Fin 1024) : (V m c main_arg1 : FVec Ideal S3x1024 .f32) (ix2 a k) = modArg m c (ix2 a k) := by
  unfold V
  after_reads_at
theorem pre_at (k : Fin 1024) : (V m c main_v120 : FVec Ideal S1x1024 .f32) (ix2 0 k) = preArg m c (ix1 k) := by
  unfold V
  after_reads_at

/-- The columns of the second branch's queries and keys, and of the two branches' values. -/
theorem queries_in (k : Fin 1024) (j : Fin 512) :
    (V m c main_v102 : FVec Ideal S1024x3584 .bf16) (ix2 k (wcol 1024 (by omega) j)) = inArg m c (ix2 k (col 1536 (by omega) j)) := by
  unfold V
  after_reads_at
  rw [dif_neg (by omega), dif_neg (by omega), dif_pos (by omega)]
  after_reads_at
  exact congrArg (fun b => inArg m c (ix2 k b)) (Fin.ext (by
    show 1536 + (1024 + j.val - 512 - 512) = 1536 + j.val
    omega))
theorem keys_in (k : Fin 1024) (j : Fin 512) :
    (V m c main_v102 : FVec Ideal S1024x3584 .bf16) (ix2 k (wcol 1536 (by omega) j)) = inArg m c (ix2 k (col 2048 (by omega) j)) := by
  unfold V
  after_reads_at
  rw [dif_neg (by omega), dif_neg (by omega), dif_neg (by omega), dif_pos (by omega)]
  after_reads_at
  exact congrArg (fun b => inArg m c (ix2 k b)) (Fin.ext (by
    show 2048 + (1536 + j.val - 512 - 512 - 512) = 2048 + j.val
    omega))
theorem first_in (k : Fin 1024) (j : Fin 512) :
    (V m c main_v102 : FVec Ideal S1024x3584 .bf16) (ix2 k (wcol 2560 (by omega) j)) = inArg m c (ix2 k (col 1024 (by omega) j)) := by
  unfold V
  after_reads_at
  rw [dif_neg (by omega), dif_neg (by omega), dif_neg (by omega), dif_neg (by omega), dif_neg (by omega), dif_neg (by omega), dif_neg (by omega), dif_pos (by omega)]
  after_reads_at
  exact congrArg (fun b => inArg m c (ix2 k b)) (Fin.ext (by
    show 1024 + (2560 + j.val - 512 - 512 - 512 - 512 - 256 - 128 - 128) = 1024 + j.val
    omega))
theorem second_in (k : Fin 1024) (j : Fin 512) :
    (V m c main_v102 : FVec Ideal S1024x3584 .bf16) (ix2 k (wcol 3072 (by omega) j)) = inArg m c (ix2 k (col 2560 (by omega) j)) := by
  unfold V
  after_reads_at
  rw [dif_neg (by omega), dif_neg (by omega), dif_neg (by omega), dif_neg (by omega), dif_neg (by omega), dif_neg (by omega), dif_neg (by omega), dif_neg (by omega)]
  after_reads_at
  exact congrArg (fun b => inArg m c (ix2 k b)) (Fin.ext (by
    show 2560 + (3072 + j.val - 512 - 512 - 512 - 512 - 256 - 128 - 128 - 512) = 2560 + j.val
    omega))

/-! ## The blocks a grid point reads -/

theorem point_lt (t : Fin cfg0.N) : (grid0.coords t 0).val < 64 := (grid0.coords t 0).isLt

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index17 : ∀ t : Fin cfg0.N, win0_17.index t = ![(grid0.coords t 0).val, 0, 0] :=
  (by decide +kernel : ∀ t : Fin grid0.N, win0_17.index t = ![(grid0.coords t 0).val, 0, 0])
theorem index19 : ∀ t : Fin cfg0.N, win0_19.index t = ![(grid0.coords t 0).val, 0] :=
  (by decide +kernel : ∀ t : Fin grid0.N, win0_19.index t = ![(grid0.coords t 0).val, 0])
theorem index20 : ∀ t : Fin cfg0.N, win0_20.index t = ![(grid0.coords t 0).val, 0] :=
  (by decide +kernel : ∀ t : Fin grid0.N, win0_20.index t = ![(grid0.coords t 0).val, 0])
theorem index21 : ∀ t : Fin cfg0.N, win0_21.index t = ![(grid0.coords t 0).val, 0, 0] :=
  (by decide +kernel : ∀ t : Fin grid0.N, win0_21.index t = ![(grid0.coords t 0).val, 0, 0])

theorem block0 (t : Fin cfg0.N) (r : Fin 256) (k : Fin 1024) :
    (iblk m c 0 t : FVec Ideal S256x1024 .f32) (ix2 r k)
      = (V m c main_v119 : FVec Ideal S16384x1024 .f32) (ix2 (row (grid0.coords t 0) r) k) := by
  blk_ext [iblk, index0 t]
theorem block1 (t : Fin cfg0.N) (a : Fin 3) (k : Fin 1024) :
    (iblk m c 1 t : FVec Ideal S3x1024 .f32) (ix2 a k) = (V m c main_arg1 : FVec Ideal S3x1024 .f32) (ix2 a k) := by
  blk_ext [iblk, index1 t]
theorem block2 (t : Fin cfg0.N) (k : Fin 1024) :
    (iblk m c 2 t : FVec Ideal S1x1024 .f32) (ix2 0 k) = (V m c main_v120 : FVec Ideal S1x1024 .f32) (ix2 0 k) := by
  blk_ext [iblk, index2 t]
theorem block3 (t : Fin cfg0.N) (k : Fin 1024) (j : Fin 3584) :
    (iblk m c 3 t : FVec Ideal S1024x3584 .bf16) (ix2 k j) = (V m c main_v102 : FVec Ideal S1024x3584 .bf16) (ix2 k j) := by
  blk_ext [iblk, index3 t]

/-- The rows of a block, times columns of the launch's weights that are columns of the projection, are the projection. -/
theorem cell_eq (t : Fin cfg0.N) (sh sc : FVec Ideal S1x1024 .f32) (r : Fin 256) (u : Fin 3584) (j : Fin 6560)
    (h0 : ∀ k : Fin 1024, (sh (ix2 0 k) : EReal) = (iblk m c 1 t : FVec Ideal S3x1024 .f32) (ix2 0 k))
    (h1 : ∀ k : Fin 1024, (sc (ix2 0 k) : EReal) = (iblk m c 1 t : FVec Ideal S3x1024 .f32) (ix2 1 k))
    (hw : ∀ k : Fin 1024, (V m c main_v102 : FVec Ideal S1024x3584 .bf16) (ix2 k u) = inArg m c (ix2 k j)) :
    cell (iblk m c 0 t) sh sc (iblk m c 2 t) (iblk m c 3 t) r u
      = projArr (xArg m c) (modArg m c) (preArg m c) (inArg m c) (row (grid0.coords t 0) r) j :=
  proj_congr (fun k => (block0 m c t r k).trans (x_at m c _ k)) (fun k => (block2 m c t k).trans (pre_at m c k))
    (fun k => (h0 k).trans ((block1 m c t 0 k).trans (mod_at m c 0 k))) (fun k => (h1 k).trans ((block1 m c t 1 k).trans (mod_at m c 1 k)))
    (fun k => (block3 m c t k u).trans (hw k))

end Cert.ProjHost

end
-- ==== Proof.ProjCells.lean ====
/- The projections of one layer: what the launch leaves of a block of 256 rows in four of its results. -/
module

public import proofs.«01_k».proof.Defs
public import proofs.«01_k».proof.Proof.ProjHost
public import proofs.«01_k».proof.Proof.Gen.ProjIdeal.Value

@[expose] public section

set_option maxRecDepth 16384

noncomputable section

namespace Cert.ProjCells

open Idealize.ShloMosaic Idealize.ShloMosaic.TcCoe Idealize.SL.Sem Cert.ProjMath

section Launch

open Cert.ProjIdeal Cert.ProjIdeal.Gen Cert.ProjHost

variable (m : (ℓ : Loc nD τ sig) → Buf (Elt Ideal) ℓ) (c : Dev nD)

/-- The projection of the launch's arguments. -/
abbrev projV (r : Fin 16384) (j : Fin 6560) : EReal := projArr (xArg m c) (modArg m c) (preArg m c) (inArg m c) r j

/-- The four results: the first branch's values, the second branch's queries, keys and values. -/
def firstV : FVec Ideal S64x512x256 .bf16 := fun y => projV m c (row (y 0) (y 2)) (col 1024 (by omega) (y 1))
def queriesV : FVec Ideal S16384x512 .bf16 := fun y => projV m c (y 0) (col 1536 (by omega) (y 1)) * (((8 * Real.log 2)⁻¹ : ℝ) : EReal)
def keysV : FVec Ideal S16384x512 .bf16 := fun y => projV m c (y 0) (col 2048 (by omega) (y 1))
def secondV : FVec Ideal S64x512x256 .bf16 := fun y => projV m c (row (y 0) (y 2)) (col 2560 (by omega) (y 1))

theorem first_block (t : Fin cfg0.N) (j : Fin 512) (r : Fin 256) :
    ((dats m 0 c).after 17 t : FVec Ideal S1x512x256 .bf16) (ix3 0 j r) = projV m c (row (grid0.coords t 0) r) (col 1024 (by omega) j) := by
  rw [after0_17]
  by_cases h0 : t.val % 64 = 0
  · rw [outsAt0_A m c t h0]
    frame_out
    refine (ProjBlock.first_at _ j r).trans ((ProjBlock.turned_at _ _ _ _ _ r _).trans
      (cell_eq m c t _ _ r _ _ ?_ ?_ (first_in m c · j)))
    · exact fun k => congrArg (iblk m c 1 t) (by funext a; fin_cases a <;> exact Fin.ext (by simp [ix2]))
    · exact fun k => congrArg (iblk m c 1 t) (by funext a; fin_cases a <;> exact Fin.ext (by simp [ix2]))
  · rw [outsAt0_B m c t h0]
    frame_out
    refine (ProjBlock.first_at _ j r).trans ((ProjBlock.turned_at _ _ _ _ _ r _).trans
      (cell_eq m c t _ _ r _ _ ?_ ?_ (first_in m c · j)))
    · exact fun k => congrArg (iblk m c 1 t) (by funext a; fin_cases a <;> exact Fin.ext (by simp [ix2]))
    · exact fun k => congrArg (iblk m c 1 t) (by funext a; fin_cases a <;> exact Fin.ext (by simp [ix2]))

theorem second_block (t : Fin cfg0.N) (j : Fin 512) (r : Fin 256) :
    ((dats m 0 c).after 21 t : FVec Ideal S1x512x256 .bf16) (ix3 0 j r) = projV m c (row (grid0.coords t 0) r) (col 2560 (by omega) j) := by
  have hw : ∀ k : Fin 1024, (V m c main_v102 : FVec Ideal S1024x3584 .bf16) (ix2 k ⟨2560 + (512 + j.val), by omega⟩)
      = inArg m c (ix2 k (col 2560 (by omega) j)) := fun k =>
    (congrArg (fun u => (V m c main_v102 : FVec Ideal S1024x3584 .bf16) (ix2 k u)) (Fin.ext (by
      show 2560 + (512 + j.val) = 3072 + j.val
      omega))).trans (second_in m c k j)
  rw [after0_21]
  by_cases h0 : t.val % 64 = 0
  · rw [outsAt0_A m c t h0]
    frame_out
    refine (ProjBlock.second_at _ j r).trans ((ProjBlock.turned_at _ _ _ _ _ r _).trans
      (cell_eq m c t _ _ r _ _ ?_ ?_ hw))
    · exact fun k => congrArg (iblk m c 1 t) (by funext a; fin_cases a <;> exact Fin.ext (by simp [ix2]))
    · exact fun k => congrArg (iblk m c 1 t) (by funext a; fin_cases a <;> exact Fin.ext (by simp [ix2]))
  · rw [outsAt0_B m c t h0]
    frame_out
    refine (ProjBlock.second_at _ j r).trans ((ProjBlock.turned_at _ _ _ _ _ r _).trans
      (cell_eq m c t _ _ r _ _ ?_ ?_ hw))
    · exact fun k => congrArg (iblk m c 1 t) (by funext a; fin_cases a <;> exact Fin.ext (by simp [ix2]))
    · exact fun k => congrArg (iblk m c 1 t) (by funext a; fin_cases a <;> exact Fin.ext (by simp [ix2]))

theorem queries_block (t : Fin cfg0.N) (r : Fin 256) (j : Fin 512) :
    ((dats m 0 c).after 19 t : FVec Ideal S256x512 .bf16) (ix2 r j)
      = projV m c (row (grid0.coords t 0) r) (col 1536 (by omega) j) * (((8 * Real.log 2)⁻¹ : ℝ) : EReal) := by
  rw [after0_19]
  by_cases h0 : t.val % 64 = 0
  · rw [outsAt0_A m c t h0]
    frame_out
    refine (ProjBlock.queries_at _ r j).trans (congrArg (· * (((8 * Real.log 2)⁻¹ : ℝ) : EReal)) ((ProjBlock.product_at _ _ _ _ _ r _).trans
      (cell_eq m c t _ _ r _ _ ?_ ?_ (queries_in m c · j))))
    · exact fun k => congrArg (iblk m c 1 t) (by funext a; fin_cases a <;> exact Fin.ext (by simp [ix2]))
    · exact fun k => congrArg (iblk m c 1 t) (by funext a; fin_cases a <;> exact Fin.ext (by simp [ix2]))
  · rw [outsAt0_B m c t h0]
    frame_out
    refine (ProjBlock.queries_at _ r j).trans (congrArg (· * (((8 * Real.log 2)⁻¹ : ℝ) : EReal)) ((ProjBlock.product_at _ _ _ _ _ r _).trans
      (cell_eq m c t _ _ r _ _ ?_ ?_ (queries_in m c · j))))
    · exact fun k => congrArg (iblk m c 1 t) (by funext a; fin_cases a <;> exact Fin.ext (by simp [ix2]))
    · exact fun k => congrArg (iblk m c 1 t) (by funext a; fin_cases a <;> exact Fin.ext (by simp [ix2]))

theorem keys_block (t : Fin cfg0.N) (r : Fin 256) (j : Fin 512) :
    ((dats m 0 c).after 20 t : FVec Ideal S256x512 .bf16) (ix2 r j) = projV m c (row (grid0.coords t 0) r) (col 2048 (by omega) j) := by
  rw [after0_20]
  by_cases h0 : t.val % 64 = 0
  · rw [outsAt0_A m c t h0]
    frame_out
    refine (ProjBlock.keys_at _ r j).trans ((ProjBlock.product_at _ _ _ _ _ r _).trans
      (cell_eq m c t _ _ r _ _ ?_ ?_ (keys_in m c · j)))
    · exact fun k => congrArg (iblk m c 1 t) (by funext a; fin_cases a <;> exact Fin.ext (by simp [ix2]))
    · exact fun k => congrArg (iblk m c 1 t) (by funext a; fin_cases a <;> exact Fin.ext (by simp [ix2]))
  · rw [outsAt0_B m c t h0]
    frame_out
    refine (ProjBlock.keys_at _ r j).trans ((ProjBlock.product_at _ _ _ _ _ r _).trans
      (cell_eq m c t _ _ r _ _ ?_ ?_ (keys_in m c · j)))
    · exact fun k => congrArg (iblk m c 1 t) (by funext a; fin_cases a <;> exact Fin.ext (by simp [ix2]))
    · exact fun k => congrArg (iblk m c 1 t) (by funext a; fin_cases a <;> exact Fin.ext (by simp [ix2]))

end Launch

end Cert.ProjCells

end
-- ==== Proof.ProjRef.lean ====
/- The projections' reference, element by element over the extended reals. -/
module

public import proofs.«01_k».proof.Proof.ProjMath
public import proofs.«01_k».proof.Proof.FfnRef
public import proofs.«01_k».proof.Proof.Gen.ProjReferenceIdeal.Run
public import Idealize.ShloMosaic.Lib.Pointwise

@[expose] public section

set_option maxRecDepth 16384

noncomputable section

namespace Cert.ProjRef

open Cert.ProjReferenceIdeal Cert.ProjReferenceIdeal.Gen Cert.ProjMath
open Idealize.ShloMosaic Idealize.ShloMosaic.TcCoe

/-- The whole product with the modulated rows. -/
def productR (x : FVec Ideal S1x16384x1024 .f32) (mod : FVec Ideal S3x1024 .f32) (g : FVec Ideal S1024 .f32)
    (w : FVec Ideal S1024x6560 .f32) : FVec Ideal S16384x6560 .f32 :=
  Host.dotGeneral dot_S16384x1024_S1024x6560_S16384x6560_1_0_0_1_n_n none
    (FfnRef.modulR (shapeCast _ x shapeCasts_S1x16384x1024_S16384x1024) g (FfnRef.modRow0 mod) (FfnRef.modRow1 mod)) w

/-- The columns of the first and of the second branch. -/
def firstR (p : FVec Ideal S16384x6560 .f32) : FVec Ideal S16384x1536 .f32 :=
  extractStridedSlice S16384x1536 ![0, 0] (extractStridedSlice S16384x3072 ![0, 0] p slices_S16384x6560_S16384x3072_0_0)
    slices_S16384x3072_S16384x1536_0_0
def secondR (p : FVec Ideal S16384x6560 .f32) : FVec Ideal S16384x1536 .f32 :=
  extractStridedSlice S16384x1536 ![0, 1536] (extractStridedSlice S16384x3072 ![0, 0] p slices_S16384x6560_S16384x3072_0_0)
    slices_S16384x3072_S16384x1536_0_1536

/-- A branch's values, in transposed blocks. -/
def valuesR (p : FVec Ideal S16384x1536 .f32) : FVec Ideal S64x512x256 .bf16 :=
  truncf .bf16 (transpose S64x512x256 [0, 2, 1] (shapeCast _ (extractStridedSlice S16384x512 ![0, 1024] p
    slices_S16384x1536_S16384x512_0_1024) shapeCasts_S16384x512_S64x256x512) transposes_S64x256x512_S64x512x256_0_2_1) bitsLt_bf16_f32
def keysR (p : FVec Ideal S16384x1536 .f32) : FVec Ideal S16384x512 .bf16 :=
  truncf .bf16 (extractStridedSlice S16384x512 ![0, 512] p slices_S16384x1536_S16384x512_0_512) bitsLt_bf16_f32
def queriesR (p : FVec Ideal S16384x1536 .f32) : FVec Ideal S16384x512 .bf16 :=
  truncf .bf16 (Host.divf (mulf (extractStridedSlice S16384x512 ![0, 0] p slices_S16384x1536_S16384x512_0_0)
      (broadcastInDim S16384x512 ![] bcast_S_S16384x512 (constant S_ .f32 0x3E000000#32)))
    (broadcastInDim S16384x512 ![] bcast_S_S16384x512 (Host.log (constant S_ .f32 0x40000000#32)))) bitsLt_bf16_f32

theorem rows_at (x : FVec Ideal S1x16384x1024 .f32) (r : Fin 16384) (k : Fin 1024) :
    (shapeCast S16384x1024 x shapeCasts_S1x16384x1024_S16384x1024 (ix2 r k) : EReal) = x (ix3 0 r k) := by
  pointwise

theorem product_at (x : FVec Ideal S1x16384x1024 .f32) (mod : FVec Ideal S3x1024 .f32) (g : FVec Ideal S1024 .f32)
    (w : FVec Ideal S1024x6560 .f32) (r : Fin 16384) (j : Fin 6560) :
    (productR x mod g w (ix2 r j) : EReal) = projArr x mod g w r j := by
  have h : (productR x mod g w (ix2 r j) : EReal) = ∑ k : Fin 1024, (FfnRef.modulR (shapeCast _ x shapeCasts_S1x16384x1024_S16384x1024) g
      (FfnRef.modRow0 mod) (FfnRef.modRow1 mod) (ix2 r k) : EReal) * w (ix2 k j) := by
    unfold productR
    generalize FfnRef.modulR (shapeCast _ x shapeCasts_S1x16384x1024_S16384x1024) g (FfnRef.modRow0 mod) (FfnRef.modRow1 mod) = X
    pointwise
  refine h.trans ?_
  unfold projArr proj
  refine Finset.sum_congr rfl fun k _ => congrArg (· * (w (ix2 k j) : EReal)) ?_
  refine (FfnRef.modul_at _ _ _ _ _ _).trans ?_
  simp only [FfnRef.modRow0_at, FfnRef.modRow1_at]
  exact congrArg (fun f => FfnMath.modul f (fun k => (g (ix1 k) : EReal)) (fun k => mod (ix2 0 k)) (fun k => mod (ix2 1 k)) k)
    (funext fun k => rows_at x r k)

theorem values_first (p : FVec Ideal S16384x6560 .f32) (t : Fin 64) (j : Fin 512) (r : Fin 256) :
    (valuesR (firstR p) (ix3 t j r) : EReal) = p (ix2 (row t r) (col 1024 (by omega) j)) := by
  unfold valuesR firstR
  pointwise
  exact congrArg (fun a => (p (ix2 a (col 1024 (by omega) j)) : EReal)) (Fin.ext (by show t.val * 256 + r.val = 256 * t.val + r.val; omega))
theorem values_second (p : FVec Ideal S16384x6560 .f32) (t : Fin 64) (j : Fin 512) (r : Fin 256) :
    (valuesR (secondR p) (ix3 t j r) : EReal) = p (ix2 (row t r) (col 2560 (by omega) j)) := by
  unfold valuesR secondR
  pointwise
  exact congrArg₂ (fun a b => (p (ix2 a b) : EReal)) (Fin.ext (by show t.val * 256 + r.val = 256 * t.val + r.val; omega))
    (Fin.ext (by show 1536 + (1024 + j.val) = 2560 + j.val; omega))
theorem keys_at (p : FVec Ideal S16384x6560 .f32) (r : Fin 16384) (j : Fin 512) :
    (keysR (secondR p) (ix2 r j) : EReal) = p (ix2 r (col 2048 (by omega) j)) := by
  unfold keysR secondR
  pointwise
  exact congrArg (fun b => (p (ix2 r b) : EReal)) (Fin.ext (by show 1536 + (512 + j.val) = 2048 + j.val; omega))
theorem queries_at (p : FVec Ideal S16384x6560 .f32) (r : Fin 16384) (j : Fin 512) :
    (queriesR (secondR p) (ix2 r j) : EReal) = p (ix2 r (col 1536 (by omega) j)) * (((8 * Real.log 2)⁻¹ : ℝ) : EReal) := by
  rw [← scaled, ← eighth, ← log_of_two]
  unfold queriesR secondR
  pointwise

end Cert.ProjRef

end
-- ==== Proof.ProjEq.lean ====
/- The projections of one layer: the launch's results and the reference's are the same arrays. -/
module

public import proofs.«01_k».proof.Defs
public import proofs.«01_k».proof.Proof.ProjCells
public import proofs.«01_k».proof.Proof.ProjRef
public import proofs.«01_k».proof.Proof.Gen.Proj.Frame
public import Idealize.ShloMosaic.Lib.Claim

@[expose] public section

set_option maxRecDepth 16384

noncomputable section

namespace Cert.ProjEq

open Idealize.ShloMosaic Idealize.ShloMosaic.TcCoe Idealize.SL.Sem Cert.ProjMath Cert.ProjCells

section Launch

open Cert.ProjIdeal Cert.ProjIdeal.Gen Cert.ProjHost

variable (m : (ℓ : Loc nD τ sig) → Buf (Elt Ideal) ℓ) (c : Dev nD)

/-! ## The arrays the launch leaves -/

theorem first_place (t : Fin cfg0.N) (j : Fin 512) (r : Fin 256) :
    (win0_17.blk t).view.emb (ix3 0 j r : S1x512x256.Idx) = (ix3 (grid0.coords t 0) j r : S64x512x256.Idx) := by
  blk_ext [index17 t]
theorem first_read (t : Fin cfg0.N) (j : Fin 512) (r : Fin 256) :
    ((dats m 0 c).after 17 t : FVec Ideal S1x512x256 .bf16) (ix3 0 j r) = firstV m c ((win0_17.blk t).view.emb (ix3 0 j r : S1x512x256.Idx)) := by
  rw [first_place t j r]
  exact first_block m c t j r
theorem first_array : (dats m 0 c).arrAt 17 cfg0.N = firstV m c := by
  refine (dats m 0 c).arrAt_eq_of_covers 17 _ (by decide +kernel) fun t hf y => ?_
  blk_simp
  obtain ⟨j, r, rfl⟩ : ∃ (j : Fin 512) (r : Fin 256), y = (ix3 0 j r : S1x512x256.Idx) := ⟨y 1, y 2, by
    funext a
    fin_cases a
    · exact Subsingleton.elim (α := Fin 1) _ _
    · rfl
    · rfl⟩
  exact first_read m c t j r

theorem second_place (t : Fin cfg0.N) (j : Fin 512) (r : Fin 256) :
    (win0_21.blk t).view.emb (ix3 0 j r : S1x512x256.Idx) = (ix3 (grid0.coords t 0) j r : S64x512x256.Idx) := by
  blk_ext [index21 t]
theorem second_read (t : Fin cfg0.N) (j : Fin 512) (r : Fin 256) :
    ((dats m 0 c).after 21 t : FVec Ideal S1x512x256 .bf16) (ix3 0 j r) = secondV m c ((win0_21.blk t).view.emb (ix3 0 j r : S1x512x256.Idx)) := by
  rw [second_place t j r]
  exact second_block m c t j r
theorem second_array : (dats m 0 c).arrAt 21 cfg0.N = secondV m c := by
  refine (dats m 0 c).arrAt_eq_of_covers 21 _ (by decide +kernel) fun t hf y => ?_
  blk_simp
  obtain ⟨j, r, rfl⟩ : ∃ (j : Fin 512) (r : Fin 256), y = (ix3 0 j r : S1x512x256.Idx) := ⟨y 1, y 2, by
    funext a
    fin_cases a
    · exact Subsingleton.elim (α := Fin 1) _ _
    · rfl
    · rfl⟩
  exact second_read m c t j r

theorem queries_place (t : Fin cfg0.N) (r : Fin 256) (j : Fin 512) :
    (win0_19.blk t).view.emb (ix2 r j : S256x512.Idx) = (ix2 (row (grid0.coords t 0) r) j : S16384x512.Idx) := by
  blk_ext [index19 t]
theorem queries_read (t : Fin cfg0.N) (r : Fin 256) (j : Fin 512) :
    ((dats m 0 c).after 19 t : FVec Ideal S256x512 .bf16) (ix2 r j) = queriesV m c ((win0_19.blk t).view.emb (ix2 r j : S256x512.Idx)) := by
  rw [queries_place t r j]
  exact queries_block m c t r j
theorem queries_array : (dats m 0 c).arrAt 19 cfg0.N = queriesV m c := by
  refine (dats m 0 c).arrAt_eq_of_covers 19 _ (by decide +kernel) fun t hf y => ?_
  blk_simp
  obtain ⟨r, j, rfl⟩ : ∃ (r : Fin 256) (j : Fin 512), y = (ix2 r j : S256x512.Idx) := ⟨y 0, y 1, by funext a; fin_cases a <;> rfl⟩
  exact queries_read m c t r j

theorem keys_place (t : Fin cfg0.N) (r : Fin 256) (j : Fin 512) :
    (win0_20.blk t).view.emb (ix2 r j : S256x512.Idx) = (ix2 (row (grid0.coords t 0) r) j : S16384x512.Idx) := by
  blk_ext [index20 t]
theorem keys_read (t : Fin cfg0.N) (r : Fin 256) (j : Fin 512) :
    ((dats m 0 c).after 20 t : FVec Ideal S256x512 .bf16) (ix2 r j) = keysV m c ((win0_20.blk t).view.emb (ix2 r j : S256x512.Idx)) := by
  rw [keys_place t r j]
  exact keys_block m c t r j
theorem keys_array : (dats m 0 c).arrAt 20 cfg0.N = keysV m c := by
  refine (dats m 0 c).arrAt_eq_of_covers 20 _ (by decide +kernel) fun t hf y => ?_
  blk_simp
  obtain ⟨r, j, rfl⟩ : ∃ (r : Fin 256) (j : Fin 512), y = (ix2 r j : S256x512.Idx) := ⟨y 0, y 1, by funext a; fin_cases a <;> rfl⟩
  exact keys_read m c t r j

end Launch

/-! ## The reference's arrays, of its arguments -/

section Reference

open Cert.ProjReferenceIdeal Cert.ProjReferenceIdeal.Gen Cert.ProjRef

variable (x : FVec Ideal S1x16384x1024 .f32) (mod : FVec Ideal S3x1024 .f32) (g : FVec Ideal S1024 .f32) (w : FVec Ideal S1024x6560 .f32)

theorem first_reference : valuesR (firstR (productR x mod g w)) = fun y => projArr x mod g w (row (y 0) (y 2)) (col 1024 (by omega) (y 1)) := by
  funext y
  rw [show y = ix3 (y 0) (y 1) (y 2) by funext a; fin_cases a <;> rfl]
  exact (values_first _ (y 0) (y 1) (y 2)).trans (product_at x mod g w _ _)
theorem second_reference : valuesR (secondR (productR x mod g w)) = fun y => projArr x mod g w (row (y 0) (y 2)) (col 2560 (by omega) (y 1)) := by
  funext y
  rw [show y = ix3 (y 0) (y 1) (y 2) by funext a; fin_cases a <;> rfl]
  exact (values_second _ (y 0) (y 1) (y 2)).trans (product_at x mod g w _ _)
theorem keys_reference : keysR (secondR (productR x mod g w)) = fun y => projArr x mod g w (y 0) (col 2048 (by omega) (y 1)) := by
  funext y
  rw [show y = ix2 (y 0) (y 1) by funext a; fin_cases a <;> rfl]
  exact (keys_at _ (y 0) (y 1)).trans (product_at x mod g w _ _)
theorem queries_reference : queriesR (secondR (productR x mod g w))
    = fun y => projArr x mod g w (y 0) (col 1536 (by omega) (y 1)) * (((8 * Real.log 2)⁻¹ : ℝ) : EReal) := by
  funext y
  rw [show y = ix2 (y 0) (y 1) by funext a; fin_cases a <;> rfl]
  exact (queries_at _ (y 0) (y 1)).trans (congrArg (· * (((8 * Real.log 2)⁻¹ : ℝ) : EReal)) (product_at x mod g w _ _))

end Reference

/-! ## The claims -/

theorem frame_launch : Cert.quiescent_Proj (hProj := Cert.Proj.Gen.facts) := fun m ρ _ => Cert.Proj.Gen.frame m ρ

theorem frame_ideal : Cert.quiescent_ProjIdeal (hProjIdeal := Cert.ProjIdeal.Gen.facts) :=
  fun m ρ _ => Cert.ProjIdeal.Gen.frame m ρ

theorem frame_reference : Cert.quiescent_ProjReferenceIdeal (hProjReferenceIdeal := Cert.ProjReferenceIdeal.Gen.facts) :=
  fun m g _ =>
    -- its run, read at its arguments; it declares no counter
    (θ_run (Cert.ProjReferenceIdeal.defs (F := Ideal)) _ _).mono
      (fun r h => ⟨fun c => (h c).2.2.2.2, sem_eq_zero_of_no_sems (by decide) r.2⟩)
      (Cert.ProjReferenceIdeal.Value.run (F := Ideal) m g)

theorem preserves : Cert.preserves_Proj_ProjIdeal :=
  IdealRules.named_const.statement Cert.ProjIdeal.κ "scale" .f32 0x3E38AA3B#32 (((8 * Real.log 2)⁻¹ : ℝ) : EReal) rfl

theorem algebraic : Cert.algebraic_ProjIdeal_ProjReferenceIdeal (hProjIdeal := Cert.ProjIdeal.Gen.facts)
    (hProjReferenceIdeal := Cert.ProjReferenceIdeal.Gen.facts) := by
  intro m g m' g' _ hagree
  refine ⟨fun c => firstV m c, fun c => queriesV m c, fun c => keysV m c, fun c => secondV m c, ?_, ?_⟩
  · refine (θ_run _ _ _).mono (fun r h c => ?_) (Cert.ProjIdeal.Value.run_blocks (F := Ideal) m g)
    obtain ⟨_, _, h2, _, h4, h5, h6, _, _, _, h⟩ := h c
    exact ⟨h2.trans (first_array m c), h4.trans (queries_array m c), h5.trans (keys_array m c), h6.trans (second_array m c), h⟩
  · refine (θ_run _ _ _).mono (fun r h c => ?_) (Cert.ProjReferenceIdeal.Value.run (F := Ideal) m' g')
    obtain ⟨h0, h1, h2, h3, h⟩ := h c
    obtain ⟨e0, e1, e2, e3, _⟩ := hagree c
    refine ⟨h0.trans ((first_reference _ _ _ _).trans ?_), h1.trans ((queries_reference _ _ _ _).trans ?_),
      h2.trans ((keys_reference _ _ _ _).trans ?_), h3.trans ((second_reference _ _ _ _).trans ?_), h⟩ <;>
    · rw [e0, e1, e2, e3]
      rfl

end Cert.ProjEq

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Final
public import proofs.«01_k».proof.Proof.Ffn00Eq
public import proofs.«01_k».proof.Proof.Ffn01Eq
public import proofs.«01_k».proof.Proof.Ffn10Eq
public import proofs.«01_k».proof.Proof.Ffn11Eq
public import proofs.«01_k».proof.Proof.Merge0Eq
public import proofs.«01_k».proof.Proof.Merge1Eq
public import proofs.«01_k».proof.Proof.StickEq
public import proofs.«01_k».proof.Proof.ModEq
public import proofs.«01_k».proof.Proof.ProjEq
public import Idealize.ShloMosaic.Adequacy
public import Idealize.ShloMosaic.Init

@[expose] public section

noncomputable section

namespace Cert.Proof

open Idealize.ShloMosaic Idealize.SL.Sem Idealize.ShloMosaic.TcCoe

theorem pre_facts : Cert.Pre_finite.Facts := ⟨by decide⟩

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_ideal_finite :
    Cert.quiescent_KernelIdeal_pre_finite (hKernelIdeal := Cert.KernelIdeal.Gen.facts) (hPre_finite := pre_facts) :=
  fun m ρ _ => Cert.KernelIdeal.Gen.frame m ρ

theorem frame_reference : Cert.quiescent_ReferenceIdeal (hReferenceIdeal := Cert.ReferenceIdeal.Gen.facts) :=
  fun m g _ =>
    -- its run, read at its arguments; it declares no counter
    (θ_run (Cert.ReferenceIdeal.defs (F := Ideal)) _ _).mono (fun r h => ⟨fun c => (h c).2, sem_eq_zero_of_no_sems (by decide) r.2⟩)
      (Cert.ReferenceIdeal.Value.run (F := Ideal) m g)

theorem frame_reference_finite :
    Cert.quiescent_ReferenceIdeal_pre_finite (hReferenceIdeal := Cert.ReferenceIdeal.Gen.facts) (hPre_finite := pre_facts) :=
  fun m g _ =>
    -- its run, read at its arguments; it declares no counter
    (θ_run (Cert.ReferenceIdeal.defs (F := Ideal)) _ _).mono (fun r h => ⟨fun c => (h c).2, sem_eq_zero_of_no_sems (by decide) r.2⟩)
      (Cert.ReferenceIdeal.Value.run (F := Ideal) m g)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  haveI := pre_facts
  have hq := fun c i => Cert.Mla.real_of_finite (Cert.Mla.Host.qArg m c) (hpre c).1 i
  have hk := fun c i => Cert.Mla.real_of_finite (Cert.Mla.Host.kArg m c) (hpre c).2 i
  refine ⟨fun c => Cert.Mla.resultV m c, ?_, ?_⟩
  · refine (θ_run _ _ _).mono (fun r h c => ?_) (Cert.Mla.mla_array m g)
    obtain ⟨h0, h1⟩ := h c
    exact ⟨h0.trans (Cert.Mla.array_result m c (hq c) (hk c)), h1⟩
  · refine (θ_run _ _ _).mono (fun r h c => ?_) (Cert.ReferenceIdeal.Value.run (F := Ideal) m' g')
    obtain ⟨h0, h1⟩ := h c
    refine ⟨h0.trans ?_, h1⟩
    rw [Cert.Mla.Ref.res_eq]
    obtain ⟨e0, e1, e2⟩ := hagree c
    rw [e0, e1, e2]

theorem claim : Cert.Claim :=
  ⟨Cert.Kernel.Gen.facts, Cert.KernelIdeal.Gen.facts, Cert.ReferenceIdeal.Gen.facts,
    Cert.Ffn00.Gen.facts, Cert.Ffn00Ideal.Gen.facts, Cert.Ffn00ReferenceIdeal.Gen.facts,
    Cert.Ffn01.Gen.facts, Cert.Ffn01Ideal.Gen.facts, Cert.Ffn01ReferenceIdeal.Gen.facts,
    Cert.Ffn10.Gen.facts, Cert.Ffn10Ideal.Gen.facts, Cert.Ffn10ReferenceIdeal.Gen.facts,
    Cert.Ffn11.Gen.facts, Cert.Ffn11Ideal.Gen.facts, Cert.Ffn11ReferenceIdeal.Gen.facts,
    Cert.Merge0.Gen.facts, Cert.Merge0Ideal.Gen.facts, Cert.Merge0ReferenceIdeal.Gen.facts,
    Cert.Merge1.Gen.facts, Cert.Merge1Ideal.Gen.facts, Cert.Merge1ReferenceIdeal.Gen.facts,
    Cert.Stick.Gen.facts, Cert.StickIdeal.Gen.facts, Cert.StickReferenceIdeal.Gen.facts,
    Cert.Mod.Gen.facts, Cert.ModIdeal.Gen.facts, Cert.ModReferenceIdeal.Gen.facts,
    Cert.Proj.Gen.facts, Cert.ProjIdeal.Gen.facts, Cert.ProjReferenceIdeal.Gen.facts,
    pre_facts,
    frame_kernel, frame_ideal, frame_ideal_finite, frame_reference, frame_reference_finite,
    Cert.Ffn00Eq.frame_launch, Cert.Ffn00Eq.frame_ideal, Cert.Ffn00Eq.frame_reference,
    Cert.Ffn01Eq.frame_launch, Cert.Ffn01Eq.frame_ideal, Cert.Ffn01Eq.frame_reference,
    Cert.Ffn10Eq.frame_launch, Cert.Ffn10Eq.frame_ideal, Cert.Ffn10Eq.frame_reference,
    Cert.Ffn11Eq.frame_launch, Cert.Ffn11Eq.frame_ideal, Cert.Ffn11Eq.frame_reference,
    Cert.Merge0Eq.frame_launch, Cert.Merge0Eq.frame_ideal, Cert.Merge0Eq.frame_reference,
    Cert.Merge1Eq.frame_launch, Cert.Merge1Eq.frame_ideal, Cert.Merge1Eq.frame_reference,
    Cert.StickEq.frame_launch, Cert.StickEq.frame_ideal, Cert.StickEq.frame_reference,
    Cert.ModEq.frame_launch, Cert.ModEq.frame_ideal, Cert.ModEq.frame_reference,
    Cert.ProjEq.frame_launch, Cert.ProjEq.frame_ideal, Cert.ProjEq.frame_reference,
    preserves, algebraic,
    trivial, Cert.Ffn00Eq.algebraic,
    trivial, Cert.Ffn01Eq.algebraic,
    trivial, Cert.Ffn10Eq.algebraic,
    trivial, Cert.Ffn11Eq.algebraic,
    trivial, Cert.Merge0Eq.algebraic,
    trivial, Cert.Merge1Eq.algebraic,
    Cert.StickEq.preserves, Cert.StickEq.algebraic,
    trivial, Cert.ModEq.algebraic,
    Cert.ProjEq.preserves, Cert.ProjEq.algebraic⟩

end Cert.Proof

end
